-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_finite_ffn [hPre_finite_ffn : Cert.Pre_finite_ffn.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite_ffn [hPre_finite_ffn : Cert.Pre_finite_ffn.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))) = (fun _ => 1#1)

def Pre_SbfKernel (m : (ℓ : Loc Cert.SbfKernel.nD Cert.SbfKernel.τ Cert.SbfKernel.sig) → Buf (Elt Bits) ℓ) : Prop :=
  True

def Pre_SbfKernelIdeal (m : (ℓ : Loc Cert.SbfKernelIdeal.nD Cert.SbfKernelIdeal.τ Cert.SbfKernelIdeal.sig) → Buf (Elt Ideal) ℓ) : Prop :=
  True

def Pre_SbfKernelIdeal_finite_sbf [hPre_finite_sbf : Cert.Pre_finite_sbf.Facts] (m : (ℓ : Loc Cert.SbfKernelIdeal.nD Cert.SbfKernelIdeal.τ Cert.SbfKernelIdeal.sig) → Buf (Elt Ideal) ℓ) : Prop :=
  ∀ c : Dev Cert.SbfKernelIdeal.nD,
    (Cert.Pre_finite_sbf.fn (F := Ideal) (m ((c.tc : Thread Cert.SbfKernelIdeal.nD Cert.SbfKernelIdeal.τ).loc Cert.SbfKernelIdeal.main_arg0)) (m ((c.tc : Thread Cert.SbfKernelIdeal.nD Cert.SbfKernelIdeal.τ).loc Cert.SbfKernelIdeal.main_arg1)) (m ((c.tc : Thread Cert.SbfKernelIdeal.nD Cert.SbfKernelIdeal.τ).loc Cert.SbfKernelIdeal.main_arg2))) = (fun _ => 1#1)

def Pre_SbfReferenceIdeal (m : (ℓ : Loc Cert.SbfReferenceIdeal.nD Cert.SbfReferenceIdeal.τ Cert.SbfReferenceIdeal.sig) → Buf (Elt Ideal) ℓ) : Prop :=
  True

def Pre_SbfReferenceIdeal_finite_sbf [hPre_finite_sbf : Cert.Pre_finite_sbf.Facts] (m : (ℓ : Loc Cert.SbfReferenceIdeal.nD Cert.SbfReferenceIdeal.τ Cert.SbfReferenceIdeal.sig) → Buf (Elt Ideal) ℓ) : Prop :=
  ∀ c : Dev Cert.SbfReferenceIdeal.nD,
    (Cert.Pre_finite_sbf.fn (F := Ideal) (m ((c.tc : Thread Cert.SbfReferenceIdeal.nD Cert.SbfReferenceIdeal.τ).loc Cert.SbfReferenceIdeal.main_arg0)) (m ((c.tc : Thread Cert.SbfReferenceIdeal.nD Cert.SbfReferenceIdeal.τ).loc Cert.SbfReferenceIdeal.main_arg1)) (m ((c.tc : Thread Cert.SbfReferenceIdeal.nD Cert.SbfReferenceIdeal.τ).loc Cert.SbfReferenceIdeal.main_arg2))) = (fun _ => 1#1)

def Pre_SbKernel (m : (ℓ : Loc Cert.SbKernel.nD Cert.SbKernel.τ Cert.SbKernel.sig) → Buf (Elt Bits) ℓ) : Prop :=
  True

def Pre_SbKernelIdeal (m : (ℓ : Loc Cert.SbKernelIdeal.nD Cert.SbKernelIdeal.τ Cert.SbKernelIdeal.sig) → Buf (Elt Ideal) ℓ) : Prop :=
  True

def Pre_SbKernelIdeal_finite_sb [hPre_finite_sb : Cert.Pre_finite_sb.Facts] (m : (ℓ : Loc Cert.SbKernelIdeal.nD Cert.SbKernelIdeal.τ Cert.SbKernelIdeal.sig) → Buf (Elt Ideal) ℓ) : Prop :=
  ∀ c : Dev Cert.SbKernelIdeal.nD,
    (Cert.Pre_finite_sb.fn (F := Ideal) (m ((c.tc : Thread Cert.SbKernelIdeal.nD Cert.SbKernelIdeal.τ).loc Cert.SbKernelIdeal.main_arg0)) (m ((c.tc : Thread Cert.SbKernelIdeal.nD Cert.SbKernelIdeal.τ).loc Cert.SbKernelIdeal.main_arg1)) (m ((c.tc : Thread Cert.SbKernelIdeal.nD Cert.SbKernelIdeal.τ).loc Cert.SbKernelIdeal.main_arg2)) (m ((c.tc : Thread Cert.SbKernelIdeal.nD Cert.SbKernelIdeal.τ).loc Cert.SbKernelIdeal.main_arg3))) = (fun _ => 1#1)

def Pre_SbReferenceIdeal (m : (ℓ : Loc Cert.SbReferenceIdeal.nD Cert.SbReferenceIdeal.τ Cert.SbReferenceIdeal.sig) → Buf (Elt Ideal) ℓ) : Prop :=
  True

def Pre_SbReferenceIdeal_finite_sb [hPre_finite_sb : Cert.Pre_finite_sb.Facts] (m : (ℓ : Loc Cert.SbReferenceIdeal.nD Cert.SbReferenceIdeal.τ Cert.SbReferenceIdeal.sig) → Buf (Elt Ideal) ℓ) : Prop :=
  ∀ c : Dev Cert.SbReferenceIdeal.nD,
    (Cert.Pre_finite_sb.fn (F := Ideal) (m ((c.tc : Thread Cert.SbReferenceIdeal.nD Cert.SbReferenceIdeal.τ).loc Cert.SbReferenceIdeal.main_arg0)) (m ((c.tc : Thread Cert.SbReferenceIdeal.nD Cert.SbReferenceIdeal.τ).loc Cert.SbReferenceIdeal.main_arg1)) (m ((c.tc : Thread Cert.SbReferenceIdeal.nD Cert.SbReferenceIdeal.τ).loc Cert.SbReferenceIdeal.main_arg2)) (m ((c.tc : Thread Cert.SbReferenceIdeal.nD Cert.SbReferenceIdeal.τ).loc Cert.SbReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnKernelIdeal_pre_finite_ffn [hFfnKernelIdeal : Cert.FfnKernelIdeal.Facts] [hPre_finite_ffn : Cert.Pre_finite_ffn.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_finite_ffn m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnReferenceIdeal_pre_finite_ffn [hFfnReferenceIdeal : Cert.FfnReferenceIdeal.Facts] [hPre_finite_ffn : Cert.Pre_finite_ffn.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite_ffn m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_SbfKernel [hSbfKernel : Cert.SbfKernel.Facts] : Prop :=
  ∀ (m : (ℓ : Loc Cert.SbfKernel.nD Cert.SbfKernel.τ Cert.SbfKernel.sig) → Buf (Elt Bits) ℓ) (g : Dev Cert.SbfKernel.nD → PrngReg), Pre_SbfKernel m →
    θ_run (Cert.SbfKernel.defs (F := Bits)) (onTc (τ := Cert.SbfKernel.τ) (Cert.SbfKernel.main (F := Bits))) ⟨m, fun _ => 0, g⟩ (fun r => (∀ c : Dev Cert.SbfKernel.nD,
      r.2.mem ((c.tc : Thread Cert.SbfKernel.nD Cert.SbfKernel.τ).loc Cert.SbfKernel.main_arg0) = m ((c.tc : Thread Cert.SbfKernel.nD Cert.SbfKernel.τ).loc Cert.SbfKernel.main_arg0)
      ∧ r.2.mem ((c.tc : Thread Cert.SbfKernel.nD Cert.SbfKernel.τ).loc Cert.SbfKernel.main_arg1) = m ((c.tc : Thread Cert.SbfKernel.nD Cert.SbfKernel.τ).loc Cert.SbfKernel.main_arg1)
      ∧ r.2.mem ((c.tc : Thread Cert.SbfKernel.nD Cert.SbfKernel.τ).loc Cert.SbfKernel.main_arg2) = m ((c.tc : Thread Cert.SbfKernel.nD Cert.SbfKernel.τ).loc Cert.SbfKernel.main_arg2))
      ∧ r.2.sem = fun _ => 0)

def quiescent_SbfKernelIdeal [hSbfKernelIdeal : Cert.SbfKernelIdeal.Facts] : Prop :=
  ∀ (m : (ℓ : Loc Cert.SbfKernelIdeal.nD Cert.SbfKernelIdeal.τ Cert.SbfKernelIdeal.sig) → Buf (Elt Ideal) ℓ) (g : Dev Cert.SbfKernelIdeal.nD → PrngReg), Pre_SbfKernelIdeal m →
    θ_run (Cert.SbfKernelIdeal.defs (F := Ideal)) (onTc (τ := Cert.SbfKernelIdeal.τ) (Cert.SbfKernelIdeal.main (F := Ideal))) ⟨m, fun _ => 0, g⟩ (fun r => (∀ c : Dev Cert.SbfKernelIdeal.nD,
      r.2.mem ((c.tc : Thread Cert.SbfKernelIdeal.nD Cert.SbfKernelIdeal.τ).loc Cert.SbfKernelIdeal.main_arg0) = m ((c.tc : Thread Cert.SbfKernelIdeal.nD Cert.SbfKernelIdeal.τ).loc Cert.SbfKernelIdeal.main_arg0)
      ∧ r.2.mem ((c.tc : Thread Cert.SbfKernelIdeal.nD Cert.SbfKernelIdeal.τ).loc Cert.SbfKernelIdeal.main_arg1) = m ((c.tc : Thread Cert.SbfKernelIdeal.nD Cert.SbfKernelIdeal.τ).loc Cert.SbfKernelIdeal.main_arg1)
      ∧ r.2.mem ((c.tc : Thread Cert.SbfKernelIdeal.nD Cert.SbfKernelIdeal.τ).loc Cert.SbfKernelIdeal.main_arg2) = m ((c.tc : Thread Cert.SbfKernelIdeal.nD Cert.SbfKernelIdeal.τ).loc Cert.SbfKernelIdeal.main_arg2))
      ∧ r.2.sem = fun _ => 0)

def quiescent_SbfKernelIdeal_pre_finite_sbf [hSbfKernelIdeal : Cert.SbfKernelIdeal.Facts] [hPre_finite_sbf : Cert.Pre_finite_sbf.Facts] : Prop :=
  ∀ (m : (ℓ : Loc Cert.SbfKernelIdeal.nD Cert.SbfKernelIdeal.τ Cert.SbfKernelIdeal.sig) → Buf (Elt Ideal) ℓ) (g : Dev Cert.SbfKernelIdeal.nD → PrngReg), Pre_SbfKernelIdeal_finite_sbf m →
    θ_run (Cert.SbfKernelIdeal.defs (F := Ideal)) (onTc (τ := Cert.SbfKernelIdeal.τ) (Cert.SbfKernelIdeal.main (F := Ideal))) ⟨m, fun _ => 0, g⟩ (fun r => (∀ c : Dev Cert.SbfKernelIdeal.nD,
      r.2.mem ((c.tc : Thread Cert.SbfKernelIdeal.nD Cert.SbfKernelIdeal.τ).loc Cert.SbfKernelIdeal.main_arg0) = m ((c.tc : Thread Cert.SbfKernelIdeal.nD Cert.SbfKernelIdeal.τ).loc Cert.SbfKernelIdeal.main_arg0)
      ∧ r.2.mem ((c.tc : Thread Cert.SbfKernelIdeal.nD Cert.SbfKernelIdeal.τ).loc Cert.SbfKernelIdeal.main_arg1) = m ((c.tc : Thread Cert.SbfKernelIdeal.nD Cert.SbfKernelIdeal.τ).loc Cert.SbfKernelIdeal.main_arg1)
      ∧ r.2.mem ((c.tc : Thread Cert.SbfKernelIdeal.nD Cert.SbfKernelIdeal.τ).loc Cert.SbfKernelIdeal.main_arg2) = m ((c.tc : Thread Cert.SbfKernelIdeal.nD Cert.SbfKernelIdeal.τ).loc Cert.SbfKernelIdeal.main_arg2))
      ∧ r.2.sem = fun _ => 0)

def quiescent_SbfReferenceIdeal [hSbfReferenceIdeal : Cert.SbfReferenceIdeal.Facts] : Prop :=
  ∀ (m : (ℓ : Loc Cert.SbfReferenceIdeal.nD Cert.SbfReferenceIdeal.τ Cert.SbfReferenceIdeal.sig) → Buf (Elt Ideal) ℓ) (g : Dev Cert.SbfReferenceIdeal.nD → PrngReg), Pre_SbfReferenceIdeal m →
    θ_run (Cert.SbfReferenceIdeal.defs (F := Ideal)) (onTc (τ := Cert.SbfReferenceIdeal.τ) (Cert.SbfReferenceIdeal.main (F := Ideal))) ⟨m, fun _ => 0, g⟩ (fun r => (∀ c : Dev Cert.SbfReferenceIdeal.nD,
      r.2.mem ((c.tc : Thread Cert.SbfReferenceIdeal.nD Cert.SbfReferenceIdeal.τ).loc Cert.SbfReferenceIdeal.main_arg0) = m ((c.tc : Thread Cert.SbfReferenceIdeal.nD Cert.SbfReferenceIdeal.τ).loc Cert.SbfReferenceIdeal.main_arg0)
      ∧ r.2.mem ((c.tc : Thread Cert.SbfReferenceIdeal.nD Cert.SbfReferenceIdeal.τ).loc Cert.SbfReferenceIdeal.main_arg1) = m ((c.tc : Thread Cert.SbfReferenceIdeal.nD Cert.SbfReferenceIdeal.τ).loc Cert.SbfReferenceIdeal.main_arg1)
      ∧ r.2.mem ((c.tc : Thread Cert.SbfReferenceIdeal.nD Cert.SbfReferenceIdeal.τ).loc Cert.SbfReferenceIdeal.main_arg2) = m ((c.tc : Thread Cert.SbfReferenceIdeal.nD Cert.SbfReferenceIdeal.τ).loc Cert.SbfReferenceIdeal.main_arg2))
      ∧ r.2.sem = fun _ => 0)

def quiescent_SbfReferenceIdeal_pre_finite_sbf [hSbfReferenceIdeal : Cert.SbfReferenceIdeal.Facts] [hPre_finite_sbf : Cert.Pre_finite_sbf.Facts] : Prop :=
  ∀ (m : (ℓ : Loc Cert.SbfReferenceIdeal.nD Cert.SbfReferenceIdeal.τ Cert.SbfReferenceIdeal.sig) → Buf (Elt Ideal) ℓ) (g : Dev Cert.SbfReferenceIdeal.nD → PrngReg), Pre_SbfReferenceIdeal_finite_sbf m →
    θ_run (Cert.SbfReferenceIdeal.defs (F := Ideal)) (onTc (τ := Cert.SbfReferenceIdeal.τ) (Cert.SbfReferenceIdeal.main (F := Ideal))) ⟨m, fun _ => 0, g⟩ (fun r => (∀ c : Dev Cert.SbfReferenceIdeal.nD,
      r.2.mem ((c.tc : Thread Cert.SbfReferenceIdeal.nD Cert.SbfReferenceIdeal.τ).loc Cert.SbfReferenceIdeal.main_arg0) = m ((c.tc : Thread Cert.SbfReferenceIdeal.nD Cert.SbfReferenceIdeal.τ).loc Cert.SbfReferenceIdeal.main_arg0)
      ∧ r.2.mem ((c.tc : Thread Cert.SbfReferenceIdeal.nD Cert.SbfReferenceIdeal.τ).loc Cert.SbfReferenceIdeal.main_arg1) = m ((c.tc : Thread Cert.SbfReferenceIdeal.nD Cert.SbfReferenceIdeal.τ).loc Cert.SbfReferenceIdeal.main_arg1)
      ∧ r.2.mem ((c.tc : Thread Cert.SbfReferenceIdeal.nD Cert.SbfReferenceIdeal.τ).loc Cert.SbfReferenceIdeal.main_arg2) = m ((c.tc : Thread Cert.SbfReferenceIdeal.nD Cert.SbfReferenceIdeal.τ).loc Cert.SbfReferenceIdeal.main_arg2))
      ∧ r.2.sem = fun _ => 0)

def quiescent_SbKernel [hSbKernel : Cert.SbKernel.Facts] : Prop :=
  ∀ (m : (ℓ : Loc Cert.SbKernel.nD Cert.SbKernel.τ Cert.SbKernel.sig) → Buf (Elt Bits) ℓ) (g : Dev Cert.SbKernel.nD → PrngReg), Pre_SbKernel m →
    θ_run (Cert.SbKernel.defs (F := Bits)) (onTc (τ := Cert.SbKernel.τ) (Cert.SbKernel.main (F := Bits))) ⟨m, fun _ => 0, g⟩ (fun r => (∀ c : Dev Cert.SbKernel.nD,
      r.2.mem ((c.tc : Thread Cert.SbKernel.nD Cert.SbKernel.τ).loc Cert.SbKernel.main_arg0) = m ((c.tc : Thread Cert.SbKernel.nD Cert.SbKernel.τ).loc Cert.SbKernel.main_arg0)
      ∧ r.2.mem ((c.tc : Thread Cert.SbKernel.nD Cert.SbKernel.τ).loc Cert.SbKernel.main_arg1) = m ((c.tc : Thread Cert.SbKernel.nD Cert.SbKernel.τ).loc Cert.SbKernel.main_arg1)
      ∧ r.2.mem ((c.tc : Thread Cert.SbKernel.nD Cert.SbKernel.τ).loc Cert.SbKernel.main_arg2) = m ((c.tc : Thread Cert.SbKernel.nD Cert.SbKernel.τ).loc Cert.SbKernel.main_arg2)
      ∧ r.2.mem ((c.tc : Thread Cert.SbKernel.nD Cert.SbKernel.τ).loc Cert.SbKernel.main_arg3) = m ((c.tc : Thread Cert.SbKernel.nD Cert.SbKernel.τ).loc Cert.SbKernel.main_arg3))
      ∧ r.2.sem = fun _ => 0)

def quiescent_SbKernelIdeal [hSbKernelIdeal : Cert.SbKernelIdeal.Facts] : Prop :=
  ∀ (m : (ℓ : Loc Cert.SbKernelIdeal.nD Cert.SbKernelIdeal.τ Cert.SbKernelIdeal.sig) → Buf (Elt Ideal) ℓ) (g : Dev Cert.SbKernelIdeal.nD → PrngReg), Pre_SbKernelIdeal m →
    θ_run (Cert.SbKernelIdeal.defs (F := Ideal)) (onTc (τ := Cert.SbKernelIdeal.τ) (Cert.SbKernelIdeal.main (F := Ideal))) ⟨m, fun _ => 0, g⟩ (fun r => (∀ c : Dev Cert.SbKernelIdeal.nD,
      r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
      ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1)
      ∧ r.2.mem ((c.tc : Thread Cert.SbKernelIdeal.nD Cert.SbKernelIdeal.τ).loc Cert.SbKernelIdeal.main_arg2) = m ((c.tc : Thread Cert.SbKernelIdeal.nD Cert.SbKernelIdeal.τ).loc Cert.SbKernelIdeal.main_arg2)
      ∧ r.2.mem ((c.tc : Thread Cert.SbKernelIdeal.nD Cert.SbKernelIdeal.τ).loc Cert.SbKernelIdeal.main_arg3) = m ((c.tc : Thread Cert.SbKernelIdeal.nD Cert.SbKernelIdeal.τ).loc Cert.SbKernelIdeal.main_arg3))
      ∧ r.2.sem = fun _ => 0)

def quiescent_SbKernelIdeal_pre_finite_sb [hSbKernelIdeal : Cert.SbKernelIdeal.Facts] [hPre_finite_sb : Cert.Pre_finite_sb.Facts] : Prop :=
  ∀ (m : (ℓ : Loc Cert.SbKernelIdeal.nD Cert.SbKernelIdeal.τ Cert.SbKernelIdeal.sig) → Buf (Elt Ideal) ℓ) (g : Dev Cert.SbKernelIdeal.nD → PrngReg), Pre_SbKernelIdeal_finite_sb m →
    θ_run (Cert.SbKernelIdeal.defs (F := Ideal)) (onTc (τ := Cert.SbKernelIdeal.τ) (Cert.SbKernelIdeal.main (F := Ideal))) ⟨m, fun _ => 0, g⟩ (fun r => (∀ c : Dev Cert.SbKernelIdeal.nD,
      r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
      ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1)
      ∧ r.2.mem ((c.tc : Thread Cert.SbKernelIdeal.nD Cert.SbKernelIdeal.τ).loc Cert.SbKernelIdeal.main_arg2) = m ((c.tc : Thread Cert.SbKernelIdeal.nD Cert.SbKernelIdeal.τ).loc Cert.SbKernelIdeal.main_arg2)
      ∧ r.2.mem ((c.tc : Thread Cert.SbKernelIdeal.nD Cert.SbKernelIdeal.τ).loc Cert.SbKernelIdeal.main_arg3) = m ((c.tc : Thread Cert.SbKernelIdeal.nD Cert.SbKernelIdeal.τ).loc Cert.SbKernelIdeal.main_arg3))
      ∧ r.2.sem = fun _ => 0)

def quiescent_SbReferenceIdeal [hSbReferenceIdeal : Cert.SbReferenceIdeal.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0)
      ∧ r.2.mem ((c.tc : Thread Cert.SbReferenceIdeal.nD Cert.SbReferenceIdeal.τ).loc Cert.SbReferenceIdeal.main_arg1) = m ((c.tc : Thread Cert.SbReferenceIdeal.nD Cert.SbReferenceIdeal.τ).loc Cert.SbReferenceIdeal.main_arg1)
      ∧ r.2.mem ((c.tc : Thread Cert.SbReferenceIdeal.nD Cert.SbReferenceIdeal.τ).loc Cert.SbReferenceIdeal.main_arg2) = m ((c.tc : Thread Cert.SbReferenceIdeal.nD Cert.SbReferenceIdeal.τ).loc Cert.SbReferenceIdeal.main_arg2)
      ∧ r.2.mem ((c.tc : Thread Cert.SbReferenceIdeal.nD Cert.SbReferenceIdeal.τ).loc Cert.SbReferenceIdeal.main_arg3) = m ((c.tc : Thread Cert.SbReferenceIdeal.nD Cert.SbReferenceIdeal.τ).loc Cert.SbReferenceIdeal.main_arg3))
      ∧ r.2.sem = fun _ => 0)

def quiescent_SbReferenceIdeal_pre_finite_sb [hSbReferenceIdeal : Cert.SbReferenceIdeal.Facts] [hPre_finite_sb : Cert.Pre_finite_sb.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal_finite_sb m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0)
      ∧ r.2.mem ((c.tc : Thread Cert.SbReferenceIdeal.nD Cert.SbReferenceIdeal.τ).loc Cert.SbReferenceIdeal.main_arg1) = m ((c.tc : Thread Cert.SbReferenceIdeal.nD Cert.SbReferenceIdeal.τ).loc Cert.SbReferenceIdeal.main_arg1)
      ∧ r.2.mem ((c.tc : Thread Cert.SbReferenceIdeal.nD Cert.SbReferenceIdeal.τ).loc Cert.SbReferenceIdeal.main_arg2) = m ((c.tc : Thread Cert.SbReferenceIdeal.nD Cert.SbReferenceIdeal.τ).loc Cert.SbReferenceIdeal.main_arg2)
      ∧ r.2.mem ((c.tc : Thread Cert.SbReferenceIdeal.nD Cert.SbReferenceIdeal.τ).loc Cert.SbReferenceIdeal.main_arg3) = m ((c.tc : Thread Cert.SbReferenceIdeal.nD Cert.SbReferenceIdeal.τ).loc Cert.SbReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_FfnKernel_FfnKernelIdeal : Prop :=
  True

def algebraic_FfnKernelIdeal_FfnReferenceIdeal_pre_finite_ffn [hFfnKernelIdeal : Cert.FfnKernelIdeal.Facts] [hFfnReferenceIdeal : Cert.FfnReferenceIdeal.Facts] [hPre_finite_ffn : Cert.Pre_finite_ffn.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_finite_ffn m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)) →
    ∃ (v0 : (c : Dev Cert.FfnKernelIdeal.nD) → Buf (Elt Ideal) ((c.tc : Thread Cert.FfnKernelIdeal.nD Cert.FfnKernelIdeal.τ).loc Cert.FfnKernelIdeal.main_v23_0)) (v1 : (c : Dev Cert.FfnKernelIdeal.nD) → Buf (Elt Ideal) ((c.tc : Thread Cert.FfnKernelIdeal.nD Cert.FfnKernelIdeal.τ).loc Cert.FfnKernelIdeal.main_v23_1)) (v2 : (c : Dev Cert.FfnKernelIdeal.nD) → Buf (Elt Ideal) ((c.tc : Thread Cert.FfnKernelIdeal.nD Cert.FfnKernelIdeal.τ).loc Cert.FfnKernelIdeal.main_v23_2)) (v3 : (c : Dev Cert.FfnKernelIdeal.nD) → Buf (Elt Ideal) ((c.tc : Thread Cert.FfnKernelIdeal.nD Cert.FfnKernelIdeal.τ).loc Cert.FfnKernelIdeal.main_v23_3)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v23_0) = v0 c
          ∧ r.2.mem ((c.tc : Thread Cert.FfnKernelIdeal.nD Cert.FfnKernelIdeal.τ).loc Cert.FfnKernelIdeal.main_v23_1) = v1 c
          ∧ r.2.mem ((c.tc : Thread Cert.FfnKernelIdeal.nD Cert.FfnKernelIdeal.τ).loc Cert.FfnKernelIdeal.main_v23_2) = v2 c
          ∧ r.2.mem ((c.tc : Thread Cert.FfnKernelIdeal.nD Cert.FfnKernelIdeal.τ).loc Cert.FfnKernelIdeal.main_v23_3) = v3 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v56) = v0 c
          ∧ r.2.mem ((c.tc : Thread Cert.FfnReferenceIdeal.nD Cert.FfnReferenceIdeal.τ).loc Cert.FfnReferenceIdeal.main_v59) = v1 c
          ∧ r.2.mem ((c.tc : Thread Cert.FfnReferenceIdeal.nD Cert.FfnReferenceIdeal.τ).loc Cert.FfnReferenceIdeal.main_v53) = v2 c
          ∧ r.2.mem ((c.tc : Thread Cert.FfnReferenceIdeal.nD Cert.FfnReferenceIdeal.τ).loc Cert.FfnReferenceIdeal.main_v61) = v3 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_SbfKernel_SbfKernelIdeal : Prop :=
  IdealRules.named_const.Statement Cert.SbfKernelIdeal.κ "open" .f32 0xC2D00000#32 ⊥
  ∧ IdealRules.named_const.Statement Cert.SbfKernelIdeal.κ "mask" .f32 0xF149F2CA#32 ⊥

def algebraic_SbfKernelIdeal_SbfReferenceIdeal_pre_finite_sbf [hSbfKernelIdeal : Cert.SbfKernelIdeal.Facts] [hSbfReferenceIdeal : Cert.SbfReferenceIdeal.Facts] [hPre_finite_sbf : Cert.Pre_finite_sbf.Facts] : Prop :=
  ∀ (m : (ℓ : Loc Cert.SbfKernelIdeal.nD Cert.SbfKernelIdeal.τ Cert.SbfKernelIdeal.sig) → Buf (Elt Ideal) ℓ) (g : Dev Cert.SbfKernelIdeal.nD → PrngReg)
    (m' : (ℓ : Loc Cert.SbfReferenceIdeal.nD Cert.SbfReferenceIdeal.τ Cert.SbfReferenceIdeal.sig) → Buf (Elt Ideal) ℓ) (g' : Dev Cert.SbfReferenceIdeal.nD → PrngReg), Pre_SbfKernelIdeal_finite_sbf m →
    (∀ c : Dev Cert.SbfKernelIdeal.nD,
      m' ((c.tc : Thread Cert.SbfReferenceIdeal.nD Cert.SbfReferenceIdeal.τ).loc Cert.SbfReferenceIdeal.main_arg0) = m ((c.tc : Thread Cert.SbfKernelIdeal.nD Cert.SbfKernelIdeal.τ).loc Cert.SbfKernelIdeal.main_arg0)
      ∧ m' ((c.tc : Thread Cert.SbfReferenceIdeal.nD Cert.SbfReferenceIdeal.τ).loc Cert.SbfReferenceIdeal.main_arg1) = m ((c.tc : Thread Cert.SbfKernelIdeal.nD Cert.SbfKernelIdeal.τ).loc Cert.SbfKernelIdeal.main_arg1)
      ∧ m' ((c.tc : Thread Cert.SbfReferenceIdeal.nD Cert.SbfReferenceIdeal.τ).loc Cert.SbfReferenceIdeal.main_arg2) = m ((c.tc : Thread Cert.SbfKernelIdeal.nD Cert.SbfKernelIdeal.τ).loc Cert.SbfKernelIdeal.main_arg2)) →
    ∃ (v0 : (c : Dev Cert.SbfKernelIdeal.nD) → Buf (Elt Ideal) ((c.tc : Thread Cert.SbfKernelIdeal.nD Cert.SbfKernelIdeal.τ).loc Cert.SbfKernelIdeal.main_v35)),
      θ_run (Cert.SbfKernelIdeal.defs (F := Ideal)) (onTc (τ := Cert.SbfKernelIdeal.τ) (Cert.SbfKernelIdeal.main (F := Ideal))) ⟨m, fun _ => 0, g⟩ (fun r => ∀ c : Dev Cert.SbfKernelIdeal.nD,
          r.2.mem ((c.tc : Thread Cert.SbfKernelIdeal.nD Cert.SbfKernelIdeal.τ).loc Cert.SbfKernelIdeal.main_v35) = v0 c
          ∧ r.2.mem ((c.tc : Thread Cert.SbfKernelIdeal.nD Cert.SbfKernelIdeal.τ).loc Cert.SbfKernelIdeal.main_arg0) = m ((c.tc : Thread Cert.SbfKernelIdeal.nD Cert.SbfKernelIdeal.τ).loc Cert.SbfKernelIdeal.main_arg0)
          ∧ r.2.mem ((c.tc : Thread Cert.SbfKernelIdeal.nD Cert.SbfKernelIdeal.τ).loc Cert.SbfKernelIdeal.main_arg1) = m ((c.tc : Thread Cert.SbfKernelIdeal.nD Cert.SbfKernelIdeal.τ).loc Cert.SbfKernelIdeal.main_arg1)
          ∧ r.2.mem ((c.tc : Thread Cert.SbfKernelIdeal.nD Cert.SbfKernelIdeal.τ).loc Cert.SbfKernelIdeal.main_arg2) = m ((c.tc : Thread Cert.SbfKernelIdeal.nD Cert.SbfKernelIdeal.τ).loc Cert.SbfKernelIdeal.main_arg2))
      ∧ θ_run (Cert.SbfReferenceIdeal.defs (F := Ideal)) (onTc (τ := Cert.SbfReferenceIdeal.τ) (Cert.SbfReferenceIdeal.main (F := Ideal))) ⟨m', fun _ => 0, g'⟩ (fun r => ∀ c : Dev Cert.SbfReferenceIdeal.nD,
          r.2.mem ((c.tc : Thread Cert.SbfReferenceIdeal.nD Cert.SbfReferenceIdeal.τ).loc Cert.SbfReferenceIdeal.main_v24) = v0 c
          ∧ r.2.mem ((c.tc : Thread Cert.SbfReferenceIdeal.nD Cert.SbfReferenceIdeal.τ).loc Cert.SbfReferenceIdeal.main_arg0) = m' ((c.tc : Thread Cert.SbfReferenceIdeal.nD Cert.SbfReferenceIdeal.τ).loc Cert.SbfReferenceIdeal.main_arg0)
          ∧ r.2.mem ((c.tc : Thread Cert.SbfReferenceIdeal.nD Cert.SbfReferenceIdeal.τ).loc Cert.SbfReferenceIdeal.main_arg1) = m' ((c.tc : Thread Cert.SbfReferenceIdeal.nD Cert.SbfReferenceIdeal.τ).loc Cert.SbfReferenceIdeal.main_arg1)
          ∧ r.2.mem ((c.tc : Thread Cert.SbfReferenceIdeal.nD Cert.SbfReferenceIdeal.τ).loc Cert.SbfReferenceIdeal.main_arg2) = m' ((c.tc : Thread Cert.SbfReferenceIdeal.nD Cert.SbfReferenceIdeal.τ).loc Cert.SbfReferenceIdeal.main_arg2))

def preserves_SbKernel_SbKernelIdeal : Prop :=
  IdealRules.named_const.Statement Cert.SbKernelIdeal.κ "mask" .f32 0xF149F2CA#32 ⊥
  ∧ IdealRules.named_const.Statement Cert.SbKernelIdeal.κ "open" .f32 0xC2D00000#32 ⊥

def algebraic_SbKernelIdeal_SbReferenceIdeal_pre_finite_sb [hSbKernelIdeal : Cert.SbKernelIdeal.Facts] [hSbReferenceIdeal : Cert.SbReferenceIdeal.Facts] [hPre_finite_sb : Cert.Pre_finite_sb.Facts] : Prop :=
  ∀ (m : (ℓ : Loc Cert.SbKernelIdeal.nD Cert.SbKernelIdeal.τ Cert.SbKernelIdeal.sig) → Buf (Elt Ideal) ℓ) (g : Dev Cert.SbKernelIdeal.nD → PrngReg)
    (m' : (ℓ : Loc Cert.SbReferenceIdeal.nD Cert.SbReferenceIdeal.τ Cert.SbReferenceIdeal.sig) → Buf (Elt Ideal) ℓ) (g' : Dev Cert.SbReferenceIdeal.nD → PrngReg), Pre_SbKernelIdeal_finite_sb m →
    (∀ c : Dev Cert.SbKernelIdeal.nD,
      m' ((c.tc : Thread Cert.SbReferenceIdeal.nD Cert.SbReferenceIdeal.τ).loc Cert.SbReferenceIdeal.main_arg0) = m ((c.tc : Thread Cert.SbKernelIdeal.nD Cert.SbKernelIdeal.τ).loc Cert.SbKernelIdeal.main_arg0)
      ∧ m' ((c.tc : Thread Cert.SbReferenceIdeal.nD Cert.SbReferenceIdeal.τ).loc Cert.SbReferenceIdeal.main_arg1) = m ((c.tc : Thread Cert.SbKernelIdeal.nD Cert.SbKernelIdeal.τ).loc Cert.SbKernelIdeal.main_arg1)
      ∧ m' ((c.tc : Thread Cert.SbReferenceIdeal.nD Cert.SbReferenceIdeal.τ).loc Cert.SbReferenceIdeal.main_arg2) = m ((c.tc : Thread Cert.SbKernelIdeal.nD Cert.SbKernelIdeal.τ).loc Cert.SbKernelIdeal.main_arg2)
      ∧ m' ((c.tc : Thread Cert.SbReferenceIdeal.nD Cert.SbReferenceIdeal.τ).loc Cert.SbReferenceIdeal.main_arg3) = m ((c.tc : Thread Cert.SbKernelIdeal.nD Cert.SbKernelIdeal.τ).loc Cert.SbKernelIdeal.main_arg3)) →
    ∃ (v0 : (c : Dev Cert.SbKernelIdeal.nD) → Buf (Elt Ideal) ((c.tc : Thread Cert.SbKernelIdeal.nD Cert.SbKernelIdeal.τ).loc Cert.SbKernelIdeal.main_v35_0)) (v1 : (c : Dev Cert.SbKernelIdeal.nD) → Buf (Elt Ideal) ((c.tc : Thread Cert.SbKernelIdeal.nD Cert.SbKernelIdeal.τ).loc Cert.SbKernelIdeal.main_v35_1)) (v2 : (c : Dev Cert.SbKernelIdeal.nD) → Buf (Elt Ideal) ((c.tc : Thread Cert.SbKernelIdeal.nD Cert.SbKernelIdeal.τ).loc Cert.SbKernelIdeal.main_v35_2)),
      θ_run (Cert.SbKernelIdeal.defs (F := Ideal)) (onTc (τ := Cert.SbKernelIdeal.τ) (Cert.SbKernelIdeal.main (F := Ideal))) ⟨m, fun _ => 0, g⟩ (fun r => ∀ c : Dev Cert.SbKernelIdeal.nD,
          r.2.mem ((c.tc : Thread Cert.SbKernelIdeal.nD Cert.SbKernelIdeal.τ).loc Cert.SbKernelIdeal.main_v35_0) = v0 c
          ∧ r.2.mem ((c.tc : Thread Cert.SbKernelIdeal.nD Cert.SbKernelIdeal.τ).loc Cert.SbKernelIdeal.main_v35_1) = v1 c
          ∧ r.2.mem ((c.tc : Thread Cert.SbKernelIdeal.nD Cert.SbKernelIdeal.τ).loc Cert.SbKernelIdeal.main_v35_2) = v2 c
          ∧ r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
          ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1)
          ∧ r.2.mem ((c.tc : Thread Cert.SbKernelIdeal.nD Cert.SbKernelIdeal.τ).loc Cert.SbKernelIdeal.main_arg2) = m ((c.tc : Thread Cert.SbKernelIdeal.nD Cert.SbKernelIdeal.τ).loc Cert.SbKernelIdeal.main_arg2)
          ∧ r.2.mem ((c.tc : Thread Cert.SbKernelIdeal.nD Cert.SbKernelIdeal.τ).loc Cert.SbKernelIdeal.main_arg3) = m ((c.tc : Thread Cert.SbKernelIdeal.nD Cert.SbKernelIdeal.τ).loc Cert.SbKernelIdeal.main_arg3))
      ∧ θ_run (Cert.SbReferenceIdeal.defs (F := Ideal)) (onTc (τ := Cert.SbReferenceIdeal.τ) (Cert.SbReferenceIdeal.main (F := Ideal))) ⟨m', fun _ => 0, g'⟩ (fun r => ∀ c : Dev Cert.SbReferenceIdeal.nD,
          r.2.mem ((c.tc : Thread Cert.SbReferenceIdeal.nD Cert.SbReferenceIdeal.τ).loc Cert.SbReferenceIdeal.main_v47) = v0 c
          ∧ r.2.mem ((c.tc : Thread Cert.SbReferenceIdeal.nD Cert.SbReferenceIdeal.τ).loc Cert.SbReferenceIdeal.main_v43) = v1 c
          ∧ r.2.mem ((c.tc : Thread Cert.SbReferenceIdeal.nD Cert.SbReferenceIdeal.τ).loc Cert.SbReferenceIdeal.main_v41) = v2 c
          ∧ r.2.mem ((c.tc : Thread Cert.SbReferenceIdeal.nD Cert.SbReferenceIdeal.τ).loc Cert.SbReferenceIdeal.main_arg0) = m' ((c.tc : Thread Cert.SbReferenceIdeal.nD Cert.SbReferenceIdeal.τ).loc Cert.SbReferenceIdeal.main_arg0)
          ∧ r.2.mem ((c.tc : Thread Cert.SbReferenceIdeal.nD Cert.SbReferenceIdeal.τ).loc Cert.SbReferenceIdeal.main_arg1) = m' ((c.tc : Thread Cert.SbReferenceIdeal.nD Cert.SbReferenceIdeal.τ).loc Cert.SbReferenceIdeal.main_arg1)
          ∧ r.2.mem ((c.tc : Thread Cert.SbReferenceIdeal.nD Cert.SbReferenceIdeal.τ).loc Cert.SbReferenceIdeal.main_arg2) = m' ((c.tc : Thread Cert.SbReferenceIdeal.nD Cert.SbReferenceIdeal.τ).loc Cert.SbReferenceIdeal.main_arg2)
          ∧ r.2.mem ((c.tc : Thread Cert.SbReferenceIdeal.nD Cert.SbReferenceIdeal.τ).loc Cert.SbReferenceIdeal.main_arg3) = m' ((c.tc : Thread Cert.SbReferenceIdeal.nD Cert.SbReferenceIdeal.τ).loc Cert.SbReferenceIdeal.main_arg3))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hSbfKernel : Cert.SbfKernel.Facts) (hSbfKernelIdeal : Cert.SbfKernelIdeal.Facts) (hSbfReferenceIdeal : Cert.SbfReferenceIdeal.Facts) (hSbKernel : Cert.SbKernel.Facts) (hSbKernelIdeal : Cert.SbKernelIdeal.Facts) (hSbReferenceIdeal : Cert.SbReferenceIdeal.Facts) (hPre_finite_ffn : Cert.Pre_finite_ffn.Facts) (hPre_finite_sbf : Cert.Pre_finite_sbf.Facts) (hPre_finite_sb : Cert.Pre_finite_sb.Facts),
    quiescent_Kernel (hKernel := hKernel)
    ∧ quiescent_KernelIdeal (hKernelIdeal := hKernelIdeal)
    ∧ quiescent_ReferenceIdeal (hReferenceIdeal := hReferenceIdeal)
    ∧ quiescent_FfnKernel (hFfnKernel := hFfnKernel)
    ∧ quiescent_FfnKernelIdeal (hFfnKernelIdeal := hFfnKernelIdeal)
    ∧ quiescent_FfnKernelIdeal_pre_finite_ffn (hFfnKernelIdeal := hFfnKernelIdeal) (hPre_finite_ffn := hPre_finite_ffn)
    ∧ quiescent_FfnReferenceIdeal (hFfnReferenceIdeal := hFfnReferenceIdeal)
    ∧ quiescent_FfnReferenceIdeal_pre_finite_ffn (hFfnReferenceIdeal := hFfnReferenceIdeal) (hPre_finite_ffn := hPre_finite_ffn)
    ∧ quiescent_SbfKernel (hSbfKernel := hSbfKernel)
    ∧ quiescent_SbfKernelIdeal (hSbfKernelIdeal := hSbfKernelIdeal)
    ∧ quiescent_SbfKernelIdeal_pre_finite_sbf (hSbfKernelIdeal := hSbfKernelIdeal) (hPre_finite_sbf := hPre_finite_sbf)
    ∧ quiescent_SbfReferenceIdeal (hSbfReferenceIdeal := hSbfReferenceIdeal)
    ∧ quiescent_SbfReferenceIdeal_pre_finite_sbf (hSbfReferenceIdeal := hSbfReferenceIdeal) (hPre_finite_sbf := hPre_finite_sbf)
    ∧ quiescent_SbKernel (hSbKernel := hSbKernel)
    ∧ quiescent_SbKernelIdeal (hSbKernelIdeal := hSbKernelIdeal)
    ∧ quiescent_SbKernelIdeal_pre_finite_sb (hSbKernelIdeal := hSbKernelIdeal) (hPre_finite_sb := hPre_finite_sb)
    ∧ quiescent_SbReferenceIdeal (hSbReferenceIdeal := hSbReferenceIdeal)
    ∧ quiescent_SbReferenceIdeal_pre_finite_sb (hSbReferenceIdeal := hSbReferenceIdeal) (hPre_finite_sb := hPre_finite_sb)
    ∧ preserves_Kernel_KernelIdeal
    ∧ algebraic_KernelIdeal_ReferenceIdeal (hKernelIdeal := hKernelIdeal) (hReferenceIdeal := hReferenceIdeal)
    ∧ preserves_FfnKernel_FfnKernelIdeal
    ∧ algebraic_FfnKernelIdeal_FfnReferenceIdeal_pre_finite_ffn (hFfnKernelIdeal := hFfnKernelIdeal) (hFfnReferenceIdeal := hFfnReferenceIdeal) (hPre_finite_ffn := hPre_finite_ffn)
    ∧ preserves_SbfKernel_SbfKernelIdeal
    ∧ algebraic_SbfKernelIdeal_SbfReferenceIdeal_pre_finite_sbf (hSbfKernelIdeal := hSbfKernelIdeal) (hSbfReferenceIdeal := hSbfReferenceIdeal) (hPre_finite_sbf := hPre_finite_sbf)
    ∧ preserves_SbKernel_SbKernelIdeal
    ∧ algebraic_SbKernelIdeal_SbReferenceIdeal_pre_finite_sb (hSbKernelIdeal := hSbKernelIdeal) (hSbReferenceIdeal := hSbReferenceIdeal) (hPre_finite_sb := hPre_finite_sb)
-- ==== Pre_finite_ffn.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  main_v18

def fn {F : FTy → Type} [FloatOps F] (main_arg0 : FVec F S16384x1024 .f32) (main_arg1 : FVec F S16384x1024 .f32) (main_arg2 : FVec F S1024 .f32) (main_arg3 : FVec F S1024x2816 .f32) (main_arg4 : FVec F S1024x2816 .f32) (main_arg5 : FVec F S2816x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := Host.absf main_arg4
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S2816x1024 .f32 := Host.absf main_arg5
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_v13 main_v16
-- ==== Pre_finite_sb.lean ====
abbrev S16384x256 : Shape := ⟨2, ![16384, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel

variable [Facts]

def fn_part1 {F : FTy → Type} [FloatOps F] (main_v13 : IVec S_ 1) (main_v16 : IVec S16384x256 1) : IVec S_ 1 :=
  let main_c_5 : IVec S_ 1 := constantI S_ 1 1#1
  let main_v17 : IVec S_ 1 := (fun x v => Host.reduce IntOp.andi x v reducesTo_S16384x256_S_d0_1 h_S_) main_v16 main_c_5
  let main_v18 : IVec S_ 1 := andi main_v13 main_v17
  main_v18

def fn {F : FTy → Type} [FloatOps F] (main_arg0 : FVec F S16384x256 .f32) (main_arg1 : FVec F S16384x256 .f32) (main_arg2 : FVec F S16384x256 .f32) (main_arg3 : FVec F S16384x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S16384x256 .f32 := Host.absf main_arg2
  let main_cst_2 : FVec F S_ .f32 := constant S_ .f32 0x7F800000#32
  let main_v10 : FVec F S16384x256 .f32 := broadcastInDim S16384x256 ![] bcast_S_S16384x256 main_cst_2
  let main_v11 : IVec S16384x256 1 := cmpf .olt main_v9 main_v10
  let main_c_3 : IVec S_ 1 := constantI S_ 1 1#1
  let main_v12 : IVec S_ 1 := (fun x v => Host.reduce IntOp.andi x v reducesTo_S16384x256_S_d0_1 h_S_) main_v11 main_c_3
  let main_v13 : IVec S_ 1 := andi main_v8 main_v12
  let main_v14 : FVec F S16384x256 .f32 := Host.absf main_arg3
  let main_cst_4 : FVec F S_ .f32 := constant S_ .f32 0x7F800000#32
  let main_v15 : FVec F S16384x256 .f32 := broadcastInDim S16384x256 ![] bcast_S_S16384x256 main_cst_4
  let main_v16 : IVec S16384x256 1 := cmpf .olt main_v14 main_v15
  fn_part1 (F := F) main_v13 main_v16
-- ==== Pre_finite_sbf.lean ====
abbrev S16384x256 : Shape := ⟨2, ![16384, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel

variable [Facts]

def fn {F : FTy → Type} [FloatOps F] (main_arg0 : FVec F S16384x256 .f32) (main_arg1 : FVec F S16384x256 .f32) (main_arg2 : FVec F S16384x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  main_v8
-- ==== Kernel.lean ====
abbrev S16384x1024 : Shape := ⟨2, ![16384, 1024]⟩
abbrev S1024x1024 : Shape := ⟨2, ![1024, 1024]⟩
abbrev S16384x256 : Shape := ⟨2, ![16384, 256]⟩
abbrev S16384x512 : Shape := ⟨2, ![16384, 512]⟩
abbrev S1024 : Shape := ⟨1, ![1024]⟩
abbrev S1x1024 : Shape := ⟨2, ![1, 1024]⟩
abbrev S8x1024 : Shape := ⟨2, ![8, 1024]⟩
abbrev S512x1024 : Shape := ⟨2, ![512, 1024]⟩
abbrev S512x256 : Shape := ⟨2, ![512, 256]⟩
abbrev S512x512 : Shape := ⟨2, ![512, 512]⟩
abbrev S512x128 : Shape := ⟨2, ![512, 128]⟩
abbrev S1x128 : Shape := ⟨2, ![1, 128]⟩
abbrev S512 : Shape := ⟨1, ![512]⟩
abbrev S512x1 : Shape := ⟨2, ![512, 1]⟩
abbrev S128 : Shape := ⟨1, ![128]⟩

abbrev nBuf : Space → Nat
  | .hbm => 9
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x256, .f32⟩
  | .hbm, ⟨3, _⟩ => ⟨S16384x512, .f32⟩
  | .hbm, ⟨4, _⟩ => ⟨S16384x256, .f32⟩
  | .hbm, ⟨5, _⟩ => ⟨S1024, .f32⟩
  | .hbm, ⟨6, _⟩ => ⟨S1x1024, .f32⟩
  | .hbm, ⟨7, _⟩ => ⟨S16384x1024, .f32⟩
  | .hbm, ⟨8, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S512x256, .f32⟩
  | .local _ .vmem, ⟨4, _⟩ => ⟨S512x256, .f32⟩
  | .local _ .vmem, ⟨5, _⟩ => ⟨S512x512, .f32⟩
  | .local _ .vmem, ⟨6, _⟩ => ⟨S512x512, .f32⟩
  | .local _ .vmem, ⟨7, _⟩ => ⟨S512x256, .f32⟩
  | .local _ .vmem, ⟨8, _⟩ => ⟨S512x256, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S16384x1024 : Shape := ⟨2, ![16384, 1024]⟩
abbrev S1024x1024 : Shape := ⟨2, ![1024, 1024]⟩
abbrev S16384x256 : Shape := ⟨2, ![16384, 256]⟩
abbrev S16384x512 : Shape := ⟨2, ![16384, 512]⟩
abbrev S1024 : Shape := ⟨1, ![1024]⟩
abbrev S16384x16x64 : Shape := ⟨3, ![16384, 16, 64]⟩
abbrev S_ : Shape := ⟨0, ![]⟩
abbrev S16384x16 : Shape := ⟨2, ![16384, 16]⟩
abbrev S16384x16x1 : Shape := ⟨3, ![16384, 16, 1]⟩
abbrev S1x1024 : Shape := ⟨2, ![1, 1024]⟩
abbrev S8x1024 : Shape := ⟨2, ![8, 1024]⟩

abbrev nBuf : Space → Nat
  | .hbm => 68
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x256, .f32⟩
  | .hbm, ⟨3, _⟩ => ⟨S16384x512, .f32⟩
  | .hbm, ⟨4, _⟩ => ⟨S16384x256, .f32⟩
  | .hbm, ⟨5, _⟩ => ⟨S1024, .f32⟩
  | .hbm, ⟨6, _⟩ => ⟨S16384x1024, .f32⟩
  | .hbm, ⟨7, _⟩ => ⟨S16384x16x64, .f32⟩
  | .hbm, ⟨8, _⟩ => ⟨S16384x16x64, .f32⟩
  | .hbm, ⟨9, _⟩ => ⟨S_, .f32⟩
  | .hbm, ⟨10, _⟩ => ⟨S16384x16, .f32⟩
  | .hbm, ⟨11, _⟩ => ⟨S16384x16x1, .f32⟩
  | .hbm, ⟨12, _⟩ => ⟨S_, .f32⟩
  | .hbm, ⟨13, _⟩ => ⟨S16384x16x1, .f32⟩
  | .hbm, ⟨14, _⟩ => ⟨S16384x16x1, .f32⟩
  | .hbm, ⟨15, _⟩ => ⟨S_, .f32⟩
  | .hbm, ⟨16, _⟩ => ⟨S16384x16x1, .f32⟩
  | .hbm, ⟨17, _⟩ => ⟨S16384x16x1, .f32⟩
  | .hbm, ⟨18, _⟩ => ⟨S16384x16x1, .f32⟩
  | .hbm, ⟨19, _⟩ => ⟨S16384x16x1, .f32⟩
  | .hbm, ⟨20, _⟩ => ⟨S_, .f32⟩
  | .hbm, ⟨21, _⟩ => ⟨S16384x16x1, .f32⟩
  | .hbm, ⟨22, _⟩ => ⟨S16384x16x1, .f32⟩
  | .hbm, ⟨23, _⟩ => ⟨S16384x16x64, .f32⟩
  | .hbm, ⟨24, _⟩ => ⟨S16384x16x64, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S1024x1024, .f32⟩
  | .hbm, ⟨31, _⟩ => ⟨S1024x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S1024, .f32⟩
  | .hbm, ⟨41, _⟩ => ⟨S16384x16x64, .f32⟩
  | .hbm, ⟨42, _⟩ => ⟨S16384x16x64, .f32⟩
  | .hbm, ⟨43, _⟩ => ⟨S_, .f32⟩
  | .hbm, ⟨44, _⟩ => ⟨S16384x16, .f32⟩
  | .hbm, ⟨45, _⟩ => ⟨S16384x16x1, .f32⟩
  | .hbm, ⟨46, _⟩ => ⟨S16384x16x64, .f32⟩
  | .hbm, ⟨47, _⟩ => ⟨S16384x16x64, .f32⟩
  | .hbm, ⟨48, _⟩ => ⟨S16384x16x1, .f32⟩
  | .hbm, ⟨49, _⟩ => ⟨S_, .f32⟩
  | .hbm, ⟨50, _⟩ => ⟨S16384x16x1, .f32⟩
  | .hbm, ⟨51, _⟩ => ⟨S16384x16x1, .f32⟩
  | .hbm, ⟨52, _⟩ => ⟨S_, .f32⟩
  | .hbm, ⟨53, _⟩ => ⟨S16384x16, .f32⟩
  | .hbm, ⟨54, _⟩ => ⟨S16384x16x64, .f32⟩
  | .hbm, ⟨55, _⟩ => ⟨S16384x16x64, .f32⟩
  | .hbm, ⟨56, _⟩ => ⟨S16384x16x64, .f32⟩
  | .hbm, ⟨57, _⟩ => ⟨S16384x16x64, .f32⟩
  | .hbm, ⟨58, _⟩ => ⟨S16384x16x64, .f32⟩
  | .hbm, ⟨59, _⟩ => ⟨S16384x1024, .f32⟩
  | .hbm, ⟨60, _⟩ => ⟨S16384x256, .f32⟩
  | .hbm, ⟨61, _⟩ => ⟨S16384x512, .f32⟩
  | .hbm, ⟨62, _⟩ => ⟨S16384x256, .f32⟩
  | .hbm, ⟨63, _⟩ => ⟨S16384x1024, .f32⟩
  | .hbm, ⟨64, _⟩ => ⟨S1x1024, .f32⟩
  | .hbm, ⟨65, _⟩ => ⟨S_, .i32⟩
  | .hbm, ⟨66, _⟩ => ⟨S_, .f32⟩
  | .hbm, ⟨67, _⟩ => ⟨S8x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c : Ref sig .tc := ⟨.hbm, 65, rfl⟩
abbrev main_call0_v0 : Ref sig .tc := ⟨.hbm, 66, rfl⟩
abbrev main_v50 : Ref sig .tc := ⟨.hbm, 67, rfl⟩

abbrev nD : Nat := 1
abbrev τ : Topo := Topo.v7x

variable {F : FTy → Type} [FloatOps F]
-- ==== FfnKernel.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x4x704 : Shape := ⟨3, ![1024, 4, 704]⟩
abbrev S4x1024x704 : Shape := ⟨3, ![4, 1024, 704]⟩
abbrev S4x704x1024 : Shape := ⟨3, ![4, 704, 1024]⟩
abbrev S_ : Shape := ⟨0, ![]⟩
abbrev S16384 : Shape := ⟨1, ![16384]⟩
abbrev S16384x1 : Shape := ⟨2, ![16384, 1]⟩
abbrev S4x704x16384 : Shape := ⟨3, ![4, 704, 16384]⟩
abbrev S4x16384x704 : Shape := ⟨3, ![4, 16384, 704]⟩
abbrev S8x1024 : Shape := ⟨2, ![8, 1024]⟩
abbrev S1024x1024 : Shape := ⟨2, ![1024, 1024]⟩
abbrev S1x1024x704 : Shape := ⟨3, ![1, 1024, 704]⟩
abbrev S1x704x1024 : Shape := ⟨3, ![1, 704, 1024]⟩
abbrev S256x1024 : Shape := ⟨2, ![256, 1024]⟩
abbrev S704x1024 : Shape := ⟨2, ![704, 1024]⟩
abbrev S256x704 : Shape := ⟨2, ![256, 704]⟩
abbrev S1x256x704 : Shape := ⟨3, ![1, 256, 704]⟩
abbrev S1024x704 : Shape := ⟨2, ![1024, 704]⟩
abbrev S1024x1 : Shape := ⟨2, ![1024, 1]⟩

abbrev nBuf : Space → Nat
  | .hbm => 36
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1024, .f32⟩
  | .hbm, ⟨7, _⟩ => ⟨S1024x4x704, .f32⟩
  | .hbm, ⟨8, _⟩ => ⟨S4x1024x704, .f32⟩
  | .hbm, ⟨9, _⟩ => ⟨S1024x4x704, .f32⟩
  | .hbm, ⟨10, _⟩ => ⟨S4x1024x704, .f32⟩
  | .hbm, ⟨11, _⟩ => ⟨S4x704x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S4x704x16384, .f32⟩
  | .hbm, ⟨29, _⟩ => ⟨S4x16384x704, .f32⟩
  | .hbm, ⟨30, _⟩ => ⟨S4x704x16384, .f32⟩
  | .hbm, ⟨31, _⟩ => ⟨S4x16384x704, .f32⟩
  | .hbm, ⟨32, _⟩ => ⟨S4x16384x704, .bf16⟩
  | .hbm, ⟨33, _⟩ => ⟨S4x16384x704, .bf16⟩
  | .hbm, ⟨34, _⟩ => ⟨S16384x1024, .f32⟩
  | .hbm, ⟨35, _⟩ => ⟨S8x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024x704, .f32⟩
  | .local _ .vmem, ⟨6, _⟩ => ⟨S1x1024x704, .f32⟩
  | .local _ .vmem, ⟨7, _⟩ => ⟨S1x1024x704, .f32⟩
  | .local _ .vmem, ⟨8, _⟩ => ⟨S1x1024x704, .f32⟩
  | .local _ .vmem, ⟨9, _⟩ => ⟨S1x704x1024, .f32⟩
  | .local _ .vmem, ⟨10, _⟩ => ⟨S1x704x1024, .f32⟩
  | .local _ .vmem, ⟨11, _⟩ => ⟨S1x1024x704, .f32⟩
  | .local _ .vmem, ⟨12, _⟩ => ⟨S1x1024x704, .f32⟩
  | .local _ .vmem, ⟨13, _⟩ => ⟨S1x1024x704, .f32⟩
  | .local _ .vmem, ⟨14, _⟩ => ⟨S1x1024x704, .f32⟩
  | .local _ .vmem, ⟨15, _⟩ => ⟨S1x1024x704, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1024x1024, .f32⟩
  | .local _ .vmem, ⟨20, _⟩ => ⟨S1024x1024, .f32⟩
  | .local _ .vmem, ⟨21, _⟩ => ⟨S8x1024, .f32⟩
  | .local _ .vmem, ⟨22, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v204 : BitVec 1 := Scalar.cmpi .eq arg1 c3_i32
  let v205 : BitVec 32 := Scalar.extui v204
  let c0_i32_139 : BitVec 32 := 0#32
  let v206 : BitVec 1 := Scalar.cmpi .ne v205 c0_i32_139
  v206

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x704x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== FfnReferenceIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384x2816 : Shape := ⟨2, ![16384, 2816]⟩
abbrev S16384 : Shape := ⟨1, ![16384]⟩
abbrev S16384x1 : Shape := ⟨2, ![16384, 1]⟩
abbrev S1x1024 : Shape := ⟨2, ![1, 1024]⟩
abbrev S16384x4x704 : Shape := ⟨3, ![16384, 4, 704]⟩
abbrev S4x16384x704 : Shape := ⟨3, ![4, 16384, 704]⟩
abbrev S8x1024 : Shape := ⟨2, ![8, 1024]⟩

abbrev nBuf : Space → Nat
  | .hbm => 95
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S_, .f32⟩
  | .hbm, ⟨7, _⟩ => ⟨S16384x2816, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S_, .f32⟩
  | .hbm, ⟨36, _⟩ => ⟨S16384x2816, .f32⟩
  | .hbm, ⟨37, _⟩ => ⟨S16384x2816, .f32⟩
  | .hbm, ⟨38, _⟩ => ⟨S_, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S16384x2816, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x2816, .f32⟩
  | .hbm, ⟨50, _⟩ => ⟨S16384x2816, .f32⟩
  | .hbm, ⟨51, _⟩ => ⟨S16384x2816, .f32⟩
  | .hbm, ⟨52, _⟩ => ⟨S16384x1024, .f32⟩
  | .hbm, ⟨53, _⟩ => ⟨S16384x2816, .f32⟩
  | .hbm, ⟨54, _⟩ => ⟨S16384x2816, .f32⟩
  | .hbm, ⟨55, _⟩ => ⟨S16384x2816, .f32⟩
  | .hbm, ⟨56, _⟩ => ⟨S16384x2816, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S1024, .f32⟩
  | .hbm, ⟨67, _⟩ => ⟨S16384x1024, .f32⟩
  | .hbm, ⟨68, _⟩ => ⟨S_, .f32⟩
  | .hbm, ⟨69, _⟩ => ⟨S16384, .f32⟩
  | .hbm, ⟨70, _⟩ => ⟨S16384x1, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S_, .f32⟩
  | .hbm, ⟨79, _⟩ => ⟨S16384, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S16384x1024, .f32⟩
  | .hbm, ⟨84, _⟩ => ⟨S16384x1024, .f32⟩
  | .hbm, ⟨85, _⟩ => ⟨S16384x4x704, .f32⟩
  | .hbm, ⟨86, _⟩ => ⟨S4x16384x704, .f32⟩
  | .hbm, ⟨87, _⟩ => ⟨S4x16384x704, .bf16⟩
  | .hbm, ⟨88, _⟩ => ⟨S16384x4x704, .f32⟩
  | .hbm, ⟨89, _⟩ => ⟨S4x16384x704, .f32⟩
  | .hbm, ⟨90, _⟩ => ⟨S4x16384x704, .bf16⟩
  | .hbm, ⟨91, _⟩ => ⟨S1x1024, .f32⟩
  | .hbm, ⟨92, _⟩ => ⟨S_, .i32⟩
  | .hbm, ⟨93, _⟩ => ⟨S_, .f32⟩
  | .hbm, ⟨94, _⟩ => ⟨S8x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v19_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v19_1 : Ref sig .tc := ⟨.hbm, 41, rfl⟩
abbrev main_v19_0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_4 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_5 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_7 : Ref sig .tc := ⟨.hbm, 75, rfl⟩
abbrev main_v46 : Ref sig .tc := ⟨.hbm, 76, rfl⟩
abbrev main_v47 : Ref sig .tc := ⟨.hbm, 77, rfl⟩
abbrev main_cst_8 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c : Ref sig .tc := ⟨.hbm, 92, rfl⟩
abbrev main_call2_v0 : Ref sig .tc := ⟨.hbm, 93, rfl⟩
abbrev main_v61 : Ref sig .tc := ⟨.hbm, 94, rfl⟩

abbrev nD : Nat := 1
abbrev τ : Topo := Topo.v7x

variable {F : FTy → Type} [FloatOps F]
-- ==== SbfKernel.lean ====
abbrev S16384x256 : Shape := ⟨2, ![16384, 256]⟩
abbrev S16384x768 : Shape := ⟨2, ![16384, 768]⟩
abbrev S384x256 : Shape := ⟨2, ![384, 256]⟩
abbrev S_ : Shape := ⟨0, ![]⟩
abbrev S256x256 : Shape := ⟨2, ![256, 256]⟩
abbrev S512x128 : Shape := ⟨2, ![512, 128]⟩
abbrev S16384x128 : Shape := ⟨2, ![16384, 128]⟩
abbrev S128x128 : Shape := ⟨2, ![128, 128]⟩
abbrev S128x256 : Shape := ⟨2, ![128, 256]⟩
abbrev S128x1 : Shape := ⟨2, ![128, 1]⟩
abbrev S384x128 : Shape := ⟨2, ![384, 128]⟩
abbrev S256x128 : Shape := ⟨2, ![256, 128]⟩
abbrev S128 : Shape := ⟨1, ![128]⟩
abbrev S1x128x1 : Shape := ⟨3, ![1, 128, 1]⟩
abbrev S1 : Shape := ⟨1, ![1]⟩
abbrev S1x1x1 : Shape := ⟨3, ![1, 1, 1]⟩

abbrev nBuf : Space → Nat
  | .hbm => 48
  | .vmem => 12
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x256, .f32⟩
  | .hbm, ⟨3, _⟩ => ⟨S16384x768, .f32⟩
  | .hbm, ⟨4, _⟩ => ⟨S384x256, .i32⟩
  | .hbm, ⟨5, _⟩ => ⟨S384x256, .i32⟩
  | .hbm, ⟨6, _⟩ => ⟨S_, .i32⟩
  | .hbm, ⟨7, _⟩ => ⟨S384x256, .i32⟩
  | .hbm, ⟨8, _⟩ => ⟨S384x256, .i32⟩
  | .hbm, ⟨9, _⟩ => ⟨S384x256, .i32⟩
  | .hbm, ⟨10, _⟩ => ⟨S_, .i32⟩
  | .hbm, ⟨11, _⟩ => ⟨S384x256, .i32⟩
  | .hbm, ⟨12, _⟩ => ⟨S384x256, .i32⟩
  | .hbm, ⟨13, _⟩ => ⟨S384x256, .i32⟩
  | .hbm, ⟨14, _⟩ => ⟨S256x256, .i32⟩
  | .hbm, ⟨15, _⟩ => ⟨S256x256, .i32⟩
  | .hbm, ⟨16, _⟩ => ⟨S_, .i32⟩
  | .hbm, ⟨17, _⟩ => ⟨S256x256, .i32⟩
  | .hbm, ⟨18, _⟩ => ⟨S256x256, .i1⟩
  | .hbm, ⟨19, _⟩ => ⟨S_, .i32⟩
  | .hbm, ⟨20, _⟩ => ⟨S256x256, .i32⟩
  | .hbm, ⟨21, _⟩ => ⟨S256x256, .i1⟩
  | .hbm, ⟨22, _⟩ => ⟨S256x256, .i1⟩
  | .hbm, ⟨23, _⟩ => ⟨S_, .i32⟩
  | .hbm, ⟨24, _⟩ => ⟨S256x256, .i32⟩
  | .hbm, ⟨25, _⟩ => ⟨S256x256, .i32⟩
  | .hbm, ⟨26, _⟩ => ⟨S_, .i32⟩
  | .hbm, ⟨27, _⟩ => ⟨S256x256, .i32⟩
  | .hbm, ⟨28, _⟩ => ⟨S256x256, .i32⟩
  | .hbm, ⟨29, _⟩ => ⟨S256x256, .i1⟩
  | .hbm, ⟨30, _⟩ => ⟨S256x256, .i1⟩
  | .hbm, ⟨31, _⟩ => ⟨S_, .i32⟩
  | .hbm, ⟨32, _⟩ => ⟨S256x256, .i32⟩
  | .hbm, ⟨33, _⟩ => ⟨S256x256, .i32⟩
  | .hbm, ⟨34, _⟩ => ⟨S_, .i32⟩
  | .hbm, ⟨35, _⟩ => ⟨S256x256, .i32⟩
  | .hbm, ⟨36, _⟩ => ⟨S256x256, .i32⟩
  | .hbm, ⟨37, _⟩ => ⟨S256x256, .i1⟩
  | .hbm, ⟨38, _⟩ => ⟨S256x256, .i1⟩
  | .hbm, ⟨39, _⟩ => ⟨S_, .i32⟩
  | .hbm, ⟨40, _⟩ => ⟨S384x256, .i32⟩
  | .hbm, ⟨41, _⟩ => ⟨S384x256, .i32⟩
  | .hbm, ⟨42, _⟩ => ⟨S384x256, .i32⟩
  | .hbm, ⟨43, _⟩ => ⟨S256x256, .f32⟩
  | .hbm, ⟨44, _⟩ => ⟨S256x256, .bf16⟩
  | .hbm, ⟨45, _⟩ => ⟨S256x256, .f32⟩
  | .hbm, ⟨46, _⟩ => ⟨S256x256, .bf16⟩
  | .hbm, ⟨47, _⟩ => ⟨S16384x256, .f32⟩
  | .local _ .vmem, ⟨0, _⟩ => ⟨S512x128, .f32⟩
  | .local _ .vmem, ⟨1, _⟩ => ⟨S512x128, .f32⟩
  | .local _ .vmem, ⟨2, _⟩ => ⟨S16384x128, .f32⟩
  | .local _ .vmem, ⟨3, _⟩ => ⟨S16384x128, .f32⟩
  | .local _ .vmem, ⟨4, _⟩ => ⟨S16384x128, .f32⟩
  | .local _ .vmem, ⟨5, _⟩ => ⟨S16384x128, .f32⟩
  | .local _ .vmem, ⟨6, _⟩ => ⟨S384x256, .i32⟩
  | .local _ .vmem, ⟨7, _⟩ => ⟨S384x256, .i32⟩
  | .local _ .vmem, ⟨8, _⟩ => ⟨S256x256, .bf16⟩
  | .local _ .vmem, ⟨9, _⟩ => ⟨S256x256, .bf16⟩
  | .local _ .vmem, ⟨10, _⟩ => ⟨S512x128, .f32⟩
  | .local _ .vmem, ⟨11, _⟩ => ⟨S512x128, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_c_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_5 : Ref sig .tc := ⟨.hbm, 31, rfl⟩
abbrev main_v22 : Ref sig .tc := ⟨.hbm, 32, rfl⟩
abbrev main_v23 : Ref sig .tc := ⟨.hbm, 33, rfl⟩
abbrev main_c_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 32], ![false, false]⟩

def k0_mult1 (arg10 : BitVec 32) : BitVec 32 :=
  let c2_i32_27 : BitVec 32 := 2#32
  let v40 : BitVec 32 := Scalar.subi arg10 c2_i32_27
  let c0_i32_28 : BitVec 32 := 0#32
  let v41 : BitVec 32 := Scalar.maxsi v40 c0_i32_28
  let c128_i32_29 : BitVec 32 := 128#32
  let v42 : BitVec 32 := Scalar.muli v41 c128_i32_29
  v42

def k0_off1 (arg10 : BitVec 32) : Fin 2 → Nat :=
  let c2_i32_27 : BitVec 32 := 2#32
  let v40 : BitVec 32 := Scalar.subi arg10 c2_i32_27
  let c0_i32_28 : BitVec 32 := 0#32
  let v41 : BitVec 32 := Scalar.maxsi v40 c0_i32_28
  let c128_i32_29 : BitVec 32 := 128#32
  let v42 : BitVec 32 := Scalar.muli v41 c128_i32_29
  let v43 : BitVec 32 := v42
  let v44 : Index := Scalar.indexCast v43
  let c0_30 : Index := 0#32
  ![v44.toNat, 0]

def k0_chk1 (arg10 : BitVec 32) : Prop :=
  (128 ∣ (k0_mult1 arg10).toNat) ∧
  (∀ a, (k0_off1 arg10) a + S384x128.size a ≤ S16384x128.size a)
theorem k0_mult1_dvd : ∀ (arg10 : BitVec 32) (k0_hw1 : k0_chk1 arg10), 128 ∣ (k0_mult1 arg10).toNat := fun arg10 k0_hw1 => k0_hw1.1
theorem k0_off1_inb : ∀ (arg10 : BitVec 32) (k0_hw1 : k0_chk1 arg10), ∀ a, (k0_off1 arg10) a + S384x128.size a ≤ S16384x128.size a := fun arg10 k0_hw1 => k0_hw1.2

def k0_mult2 (arg15 : BitVec 32) : BitVec 32 :=
  let c2_i32_73 : BitVec 32 := 2#32
  let v208 : BitVec 32 := Scalar.subi arg15 c2_i32_73
  let c0_i32_74 : BitVec 32 := 0#32
  let v209 : BitVec 32 := Scalar.maxsi v208 c0_i32_74
  let c128_i32_75 : BitVec 32 := 128#32
  let v210 : BitVec 32 := Scalar.muli v209 c128_i32_75
  v210

def k0_off2 (arg15 : BitVec 32) : Fin 2 → Nat :=
  let c2_i32_73 : BitVec 32 := 2#32
  let v208 : BitVec 32 := Scalar.subi arg15 c2_i32_73
  let c0_i32_74 : BitVec 32 := 0#32
  let v209 : BitVec 32 := Scalar.maxsi v208 c0_i32_74
  let c128_i32_75 : BitVec 32 := 128#32
  let v210 : BitVec 32 := Scalar.muli v209 c128_i32_75
  let v211 : BitVec 32 := v210
  let v212 : Index := Scalar.indexCast v211
  let c0_76 : Index := 0#32
  ![v212.toNat, 0]

def k0_chk2 (arg15 : BitVec 32) : Prop :=
  (128 ∣ (k0_mult2 arg15).toNat) ∧
  (∀ a, (k0_off2 arg15) a + S384x128.size a ≤ S16384x128.size a)
theorem k0_mult2_dvd : ∀ (arg15 : BitVec 32) (k0_hw2 : k0_chk2 arg15), 128 ∣ (k0_mult2 arg15).toNat := fun arg15 k0_hw2 => k0_hw2.1
theorem k0_off2_inb : ∀ (arg15 : BitVec 32) (k0_hw2 : k0_chk2 arg15), ∀ a, (k0_off2 arg15) a + S384x128.size a ≤ S16384x128.size a := fun arg15 k0_hw2 => k0_hw2.2

def k0_mult3 (arg20 : BitVec 32) : BitVec 32 :=
  let c2_i32_119 : BitVec 32 := 2#32
  let v376 : BitVec 32 := Scalar.subi arg20 c2_i32_119
  let c0_i32_120 : BitVec 32 := 0#32
  let v377 : BitVec 32 := Scalar.maxsi v376 c0_i32_120
  let c128_i32_121 : BitVec 32 := 128#32
  let v378 : BitVec 32 := Scalar.muli v377 c128_i32_121
  v378

def k0_off3 (arg20 : BitVec 32) : Fin 2 → Nat :=
  let c2_i32_119 : BitVec 32 := 2#32
  let v376 : BitVec 32 := Scalar.subi arg20 c2_i32_119
  let c0_i32_120 : BitVec 32 := 0#32
  let v377 : BitVec 32 := Scalar.maxsi v376 c0_i32_120
  let c128_i32_121 : BitVec 32 := 128#32
  let v378 : BitVec 32 := Scalar.muli v377 c128_i32_121
  let v379 : BitVec 32 := v378
  let v380 : Index := Scalar.indexCast v379
  let c0_122 : Index := 0#32
  ![v380.toNat, 0]

def k0_chk3 (arg20 : BitVec 32) : Prop :=
  (128 ∣ (k0_mult3 arg20).toNat) ∧
  (∀ a, (k0_off3 arg20) a + S384x128.size a ≤ S16384x128.size a)
theorem k0_mult3_dvd : ∀ (arg20 : BitVec 32) (k0_hw3 : k0_chk3 arg20), 128 ∣ (k0_mult3 arg20).toNat := fun arg20 k0_hw3 => k0_hw3.1
theorem k0_off3_inb : ∀ (arg20 : BitVec 32) (k0_hw3 : k0_chk3 arg20), ∀ a, (k0_off3 arg20) a + S384x128.size a ≤ S16384x128.size a := fun arg20 k0_hw3 => k0_hw3.2

def k0_mult4 (arg25 : BitVec 32) : BitVec 32 :=
  let c2_i32_165 : BitVec 32 := 2#32
  let v544 : BitVec 32 := Scalar.subi arg25 c2_i32_165
  let c0_i32_166 : BitVec 32 := 0#32
  let v545 : BitVec 32 := Scalar.maxsi v544 c0_i32_166
  let c128_i32_167 : BitVec 32 := 128#32
  let v546 : BitVec 32 := Scalar.muli v545 c128_i32_167
  v546

def k0_off4 (arg25 : BitVec 32) : Fin 2 → Nat :=
  let c2_i32_165 : BitVec 32 := 2#32
  let v544 : BitVec 32 := Scalar.subi arg25 c2_i32_165
  let c0_i32_166 : BitVec 32 := 0#32
  let v545 : BitVec 32 := Scalar.maxsi v544 c0_i32_166
  let c128_i32_167 : BitVec 32 := 128#32
  let v546 : BitVec 32 := Scalar.muli v545 c128_i32_167
  let v547 : BitVec 32 := v546
  let v548 : Index := Scalar.indexCast v547
  let c0_168 : Index := 0#32
  ![v548.toNat, 0]

def k0_chk4 (arg25 : BitVec 32) : Prop :=
  (128 ∣ (k0_mult4 arg25).toNat) ∧
  (∀ a, (k0_off4 arg25) a + S384x128.size a ≤ S16384x128.size a)
theorem k0_mult4_dvd : ∀ (arg25 : BitVec 32) (k0_hw4 : k0_chk4 arg25), 128 ∣ (k0_mult4 arg25).toNat := fun arg25 k0_hw4 => k0_hw4.1
theorem k0_off4_inb : ∀ (arg25 : BitVec 32) (k0_hw4 : k0_chk4 arg25), ∀ a, (k0_off4 arg25) a + S384x128.size a ≤ S16384x128.size a := fun arg25 k0_hw4 => k0_hw4.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S384x256 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S384x256 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SbfKernelIdeal.lean ====
variable {F : FTy → Type} [FloatOps F] [Named F]
def κ : String → Option EReal := fun
  | "mask" => some ⊥
  | "open" => some ⊥
  | _ => none
-- ==== SbfReferenceIdeal.lean ====
abbrev S16384x256 : Shape := ⟨2, ![16384, 256]⟩
abbrev S16384x4x64 : Shape := ⟨3, ![16384, 4, 64]⟩
abbrev S4x16384x64 : Shape := ⟨3, ![4, 16384, 64]⟩
abbrev S_ : Shape := ⟨0, ![]⟩
abbrev S16384x16384 : Shape := ⟨2, ![16384, 16384]⟩
abbrev S4x16384x16384 : Shape := ⟨3, ![4, 16384, 16384]⟩

abbrev nBuf : Space → Nat
  | .hbm => 67
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x256, .f32⟩
  | .hbm, ⟨3, _⟩ => ⟨S16384x4x64, .f32⟩
  | .hbm, ⟨4, _⟩ => ⟨S4x16384x64, .f32⟩
  | .hbm, ⟨5, _⟩ => ⟨S_, .f32⟩
  | .hbm, ⟨6, _⟩ => ⟨S4x16384x64, .f32⟩
  | .hbm, ⟨7, _⟩ => ⟨S4x16384x64, .f32⟩
  | .hbm, ⟨8, _⟩ => ⟨S16384x4x64, .f32⟩
  | .hbm, ⟨9, _⟩ => ⟨S4x16384x64, .f32⟩
  | .hbm, ⟨10, _⟩ => ⟨S16384x4x64, .f32⟩
  | .hbm, ⟨11, _⟩ => ⟨S4x16384x64, .f32⟩
  | .hbm, ⟨12, _⟩ => ⟨S16384x16384, .i32⟩
  | .hbm, ⟨13, _⟩ => ⟨S16384x16384, .i32⟩
  | .hbm, ⟨14, _⟩ => ⟨S16384x16384, .i1⟩
  | .hbm, ⟨15, _⟩ => ⟨S16384x16384, .f32⟩
  | .hbm, ⟨16, _⟩ => ⟨S16384x16384, .i1⟩
  | .hbm, ⟨17, _⟩ => ⟨S4x16384x16384, .f32⟩
  | .hbm, ⟨18, _⟩ => ⟨S4x16384x16384, .f32⟩
  | .hbm, ⟨19, _⟩ => ⟨S4x16384x16384, .f32⟩
  | .hbm, ⟨20, _⟩ => ⟨S_, .f32⟩
  | .hbm, ⟨21, _⟩ => ⟨S4x16384x16384, .f32⟩
  | .hbm, ⟨22, _⟩ => ⟨S4x16384x16384, .f32⟩
  | .hbm, ⟨23, _⟩ => ⟨S4x16384x16384, .f32⟩
  | .hbm, ⟨24, _⟩ => ⟨S4x16384x16384, .f32⟩
  | .hbm, ⟨25, _⟩ => ⟨S4x16384x16384, .i1⟩
  | .hbm, ⟨26, _⟩ => ⟨S4x16384x16384, .f32⟩
  | .hbm, ⟨27, _⟩ => ⟨S4x16384x16384, .f32⟩
  | .hbm, ⟨28, _⟩ => ⟨S4x16384x16384, .f32⟩
  | .hbm, ⟨29, _⟩ => ⟨S4x16384x16384, .f32⟩
  | .hbm, ⟨30, _⟩ => ⟨S4x16384x16384, .f32⟩
  | .hbm, ⟨31, _⟩ => ⟨S4x16384x16384, .f32⟩
  | .hbm, ⟨32, _⟩ => ⟨S4x16384x16384, .f32⟩
  | .hbm, ⟨33, _⟩ => ⟨S4x16384x16384, .f32⟩
  | .hbm, ⟨34, _⟩ => ⟨S4x16384x16384, .f32⟩
  | .hbm, ⟨35, _⟩ => ⟨S_, .f32⟩
  | .hbm, ⟨36, _⟩ => ⟨S_, .f32⟩
  | .hbm, ⟨37, _⟩ => ⟨S4x16384x16384, .i1⟩
  | .hbm, ⟨38, _⟩ => ⟨S4x16384x16384, .f32⟩
  | .hbm, ⟨39, _⟩ => ⟨S4x16384x16384, .f32⟩
  | .hbm, ⟨40, _⟩ => ⟨S4x16384x16384, .f32⟩
  | .hbm, ⟨41, _⟩ => ⟨S4x16384x16384, .f32⟩
  | .hbm, ⟨42, _⟩ => ⟨S_, .f32⟩
  | .hbm, ⟨43, _⟩ => ⟨S4x16384x16384, .f32⟩
  | .hbm, ⟨44, _⟩ => ⟨S4x16384x16384, .f32⟩
  | .hbm, ⟨45, _⟩ => ⟨S4x16384x16384, .f32⟩
  | .hbm, ⟨46, _⟩ => ⟨S4x16384x16384, .f32⟩
  | .hbm, ⟨47, _⟩ => ⟨S4x16384x16384, .i1⟩
  | .hbm, ⟨48, _⟩ => ⟨S4x16384x16384, .f32⟩
  | .hbm, ⟨49, _⟩ => ⟨S4x16384x16384, .f32⟩
  | .hbm, ⟨50, _⟩ => ⟨S4x16384x16384, .f32⟩
  | .hbm, ⟨51, _⟩ => ⟨S4x16384x16384, .f32⟩
  | .hbm, ⟨52, _⟩ => ⟨S4x16384x16384, .f32⟩
  | .hbm, ⟨53, _⟩ => ⟨S4x16384x16384, .f32⟩
  | .hbm, ⟨54, _⟩ => ⟨S4x16384x16384, .f32⟩
  | .hbm, ⟨55, _⟩ => ⟨S4x16384x16384, .f32⟩
  | .hbm, ⟨56, _⟩ => ⟨S4x16384x16384, .f32⟩
  | .hbm, ⟨57, _⟩ => ⟨S4x16384x16384, .f32⟩
  | .hbm, ⟨58, _⟩ => ⟨S4x16384x16384, .f32⟩
  | .hbm, ⟨59, _⟩ => ⟨S_, .f32⟩
  | .hbm, ⟨60, _⟩ => ⟨S_, .f32⟩
  | .hbm, ⟨61, _⟩ => ⟨S4x16384x16384, .i1⟩
  | .hbm, ⟨62, _⟩ => ⟨S4x16384x16384, .f32⟩
  | .hbm, ⟨63, _⟩ => ⟨S4x16384x16384, .f32⟩
  | .hbm, ⟨64, _⟩ => ⟨S4x16384x64, .f32⟩
  | .hbm, ⟨65, _⟩ => ⟨S16384x4x64, .f32⟩
  | .hbm, ⟨66, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v15 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v16 : Ref sig .tc := ⟨.hbm, 39, rfl⟩
abbrev main_v17 : Ref sig .tc := ⟨.hbm, 40, rfl⟩
abbrev main_call2_v0 : Ref sig .tc := ⟨.hbm, 41, rfl⟩
abbrev main_call2_call0_cst : Ref sig .tc := ⟨.hbm, 42, rfl⟩
abbrev main_call2_call0_v0 : Ref sig .tc := ⟨.hbm, 43, rfl⟩
abbrev main_call2_call0_v1 : Ref sig .tc := ⟨.hbm, 44, rfl⟩
abbrev main_call2_call0_v2 : Ref sig .tc := ⟨.hbm, 45, rfl⟩
abbrev main_call2_call0_v3 : Ref sig .tc := ⟨.hbm, 46, rfl⟩
abbrev main_call2_call0_v4 : Ref sig .tc := ⟨.hbm, 47, rfl⟩
abbrev main_call2_call0_v5 : Ref sig .tc := ⟨.hbm, 48, rfl⟩
abbrev main_call2_call0_v6 : Ref sig .tc := ⟨.hbm, 49, rfl⟩
abbrev main_call2_call0_v7 : Ref sig .tc := ⟨.hbm, 50, rfl⟩
abbrev main_call2_call0_v8 : Ref sig .tc := ⟨.hbm, 51, rfl⟩
abbrev main_call2_call0_v9 : Ref sig .tc := ⟨.hbm, 52, rfl⟩
abbrev main_call2_call0_v10 : Ref sig .tc := ⟨.hbm, 53, rfl⟩
abbrev main_call2_call0_v11 : Ref sig .tc := ⟨.hbm, 54, rfl⟩
abbrev main_call2_v1 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_cst_1 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩

abbrev nD : Nat := 1
abbrev τ : Topo := Topo.v7x

variable {F : FTy → Type} [FloatOps F]
-- ==== SbKernel.lean ====
abbrev S16384x256 : Shape := ⟨2, ![16384, 256]⟩
abbrev S16384x768 : Shape := ⟨2, ![16384, 768]⟩
abbrev S384x256 : Shape := ⟨2, ![384, 256]⟩
abbrev S_ : Shape := ⟨0, ![]⟩
abbrev S256x256 : Shape := ⟨2, ![256, 256]⟩
abbrev S512x128 : Shape := ⟨2, ![512, 128]⟩
abbrev S16384x128 : Shape := ⟨2, ![16384, 128]⟩
abbrev S2 : Shape := ⟨1, ![2]⟩
abbrev S128x128 : Shape := ⟨2, ![128, 128]⟩
abbrev S128x256 : Shape := ⟨2, ![128, 256]⟩
abbrev S128x1 : Shape := ⟨2, ![128, 1]⟩
abbrev S384x128 : Shape := ⟨2, ![384, 128]⟩
abbrev S256x128 : Shape := ⟨2, ![256, 128]⟩
abbrev S128 : Shape := ⟨1, ![128]⟩
abbrev S1x128x1 : Shape := ⟨3, ![1, 128, 1]⟩
abbrev S1 : Shape := ⟨1, ![1]⟩
abbrev S1x1x1 : Shape := ⟨3, ![1, 1, 1]⟩

abbrev nBuf : Space → Nat
  | .hbm => 51
  | .vmem => 16
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x768, .f32⟩
  | .hbm, ⟨5, _⟩ => ⟨S384x256, .i32⟩
  | .hbm, ⟨6, _⟩ => ⟨S384x256, .i32⟩
  | .hbm, ⟨7, _⟩ => ⟨S_, .i32⟩
  | .hbm, ⟨8, _⟩ => ⟨S384x256, .i32⟩
  | .hbm, ⟨9, _⟩ => ⟨S384x256, .i32⟩
  | .hbm, ⟨10, _⟩ => ⟨S384x256, .i32⟩
  | .hbm, ⟨11, _⟩ => ⟨S_, .i32⟩
  | .hbm, ⟨12, _⟩ => ⟨S384x256, .i32⟩
  | .hbm, ⟨13, _⟩ => ⟨S384x256, .i32⟩
  | .hbm, ⟨14, _⟩ => ⟨S384x256, .i32⟩
  | .hbm, ⟨15, _⟩ => ⟨S256x256, .i32⟩
  | .hbm, ⟨16, _⟩ => ⟨S256x256, .i32⟩
  | .hbm, ⟨17, _⟩ => ⟨S_, .i32⟩
  | .hbm, ⟨18, _⟩ => ⟨S256x256, .i32⟩
  | .hbm, ⟨19, _⟩ => ⟨S256x256, .i1⟩
  | .hbm, ⟨20, _⟩ => ⟨S_, .i32⟩
  | .hbm, ⟨21, _⟩ => ⟨S256x256, .i32⟩
  | .hbm, ⟨22, _⟩ => ⟨S256x256, .i1⟩
  | .hbm, ⟨23, _⟩ => ⟨S256x256, .i1⟩
  | .hbm, ⟨24, _⟩ => ⟨S_, .i32⟩
  | .hbm, ⟨25, _⟩ => ⟨S256x256, .i32⟩
  | .hbm, ⟨26, _⟩ => ⟨S256x256, .i32⟩
  | .hbm, ⟨27, _⟩ => ⟨S_, .i32⟩
  | .hbm, ⟨28, _⟩ => ⟨S256x256, .i32⟩
  | .hbm, ⟨29, _⟩ => ⟨S256x256, .i32⟩
  | .hbm, ⟨30, _⟩ => ⟨S256x256, .i1⟩
  | .hbm, ⟨31, _⟩ => ⟨S256x256, .i1⟩
  | .hbm, ⟨32, _⟩ => ⟨S_, .i32⟩
  | .hbm, ⟨33, _⟩ => ⟨S256x256, .i32⟩
  | .hbm, ⟨34, _⟩ => ⟨S256x256, .i32⟩
  | .hbm, ⟨35, _⟩ => ⟨S_, .i32⟩
  | .hbm, ⟨36, _⟩ => ⟨S256x256, .i32⟩
  | .hbm, ⟨37, _⟩ => ⟨S256x256, .i32⟩
  | .hbm, ⟨38, _⟩ => ⟨S256x256, .i1⟩
  | .hbm, ⟨39, _⟩ => ⟨S256x256, .i1⟩
  | .hbm, ⟨40, _⟩ => ⟨S_, .i32⟩
  | .hbm, ⟨41, _⟩ => ⟨S384x256, .i32⟩
  | .hbm, ⟨42, _⟩ => ⟨S384x256, .i32⟩
  | .hbm, ⟨43, _⟩ => ⟨S384x256, .i32⟩
  | .hbm, ⟨44, _⟩ => ⟨S256x256, .f32⟩
  | .hbm, ⟨45, _⟩ => ⟨S256x256, .bf16⟩
  | .hbm, ⟨46, _⟩ => ⟨S256x256, .f32⟩
  | .hbm, ⟨47, _⟩ => ⟨S256x256, .bf16⟩
  | .hbm, ⟨48, _⟩ => ⟨S16384x256, .f32⟩
  | .hbm, ⟨49, _⟩ => ⟨S16384x256, .f32⟩
  | .hbm, ⟨50, _⟩ => ⟨S16384x256, .f32⟩
  | .local _ .vmem, ⟨0, _⟩ => ⟨S512x128, .f32⟩
  | .local _ .vmem, ⟨1, _⟩ => ⟨S512x128, .f32⟩
  | .local _ .vmem, ⟨2, _⟩ => ⟨S16384x128, .f32⟩
  | .local _ .vmem, ⟨3, _⟩ => ⟨S16384x128, .f32⟩
  | .local _ .vmem, ⟨4, _⟩ => ⟨S16384x128, .f32⟩
  | .local _ .vmem, ⟨5, _⟩ => ⟨S16384x128, .f32⟩
  | .local _ .vmem, ⟨6, _⟩ => ⟨S512x128, .f32⟩
  | .local _ .vmem, ⟨7, _⟩ => ⟨S512x128, .f32⟩
  | .local _ .vmem, ⟨8, _⟩ => ⟨S384x256, .i32⟩
  | .local _ .vmem, ⟨9, _⟩ => ⟨S384x256, .i32⟩
  | .local _ .vmem, ⟨10, _⟩ => ⟨S256x256, .bf16⟩
  | .local _ .vmem, ⟨11, _⟩ => ⟨S256x256, .bf16⟩
  | .local _ .vmem, ⟨12, _⟩ => ⟨S512x128, .f32⟩
  | .local _ .vmem, ⟨13, _⟩ => ⟨S512x128, .f32⟩
  | .local _ .vmem, ⟨14, _⟩ => ⟨S16384x128, .f32⟩
  | .local _ .vmem, ⟨15, _⟩ => ⟨S16384x128, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_5 : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35_0 : Ref sig .tc := ⟨.hbm, 48, rfl⟩
abbrev main_v35_1 : Ref sig .tc := ⟨.hbm, 49, rfl⟩
abbrev main_v35_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 32], ![false, false]⟩

def k0_mult1 (i : grid0.Coords) : BitVec 32 :=
  let arg1 : BitVec 32 := BitVec.ofNat 32 (i 1).val
  let c4_i32 : BitVec 32 := 4#32
  let v9 : BitVec 32 := Scalar.muli arg1 c4_i32
  let c0_i32_1 : BitVec 32 := 0#32
  let v10 : BitVec 32 := Scalar.addi v9 c0_i32_1
  let c2_i32_21 : BitVec 32 := 2#32
  let v42 : BitVec 32 := Scalar.subi v10 c2_i32_21
  let c0_i32_22 : BitVec 32 := 0#32
  let v43 : BitVec 32 := Scalar.maxsi v42 c0_i32_22
  let c128_i32_23 : BitVec 32 := 128#32
  let v44 : BitVec 32 := Scalar.muli v43 c128_i32_23
  v44
def k0_off1 (i : grid0.Coords) (c0_i32_1 : BitVec 32) : Fin 2 → Nat :=
  let arg1 : BitVec 32 := BitVec.ofNat 32 (i 1).val
  let c4_i32 : BitVec 32 := 4#32
  let v9 : BitVec 32 := Scalar.muli arg1 c4_i32
  let v10 : BitVec 32 := Scalar.addi v9 c0_i32_1
  let c2_i32_21 : BitVec 32 := 2#32
  let v42 : BitVec 32 := Scalar.subi v10 c2_i32_21
  let c0_i32_22 : BitVec 32 := 0#32
  let v43 : BitVec 32 := Scalar.maxsi v42 c0_i32_22
  let c128_i32_23 : BitVec 32 := 128#32
  let v44 : BitVec 32 := Scalar.muli v43 c128_i32_23
  let v45 : BitVec 32 := v44
  let v46 : Index := Scalar.indexCast v45
  let c0_24 : Index := 0#32
  ![v46.toNat, 0]
def k0_mult2 (i : grid0.Coords) : BitVec 32 :=
  let arg1 : BitVec 32 := BitVec.ofNat 32 (i 1).val
  let c4_i32_2 : BitVec 32 := 4#32
  let v11 : BitVec 32 := Scalar.muli arg1 c4_i32_2
  let c1_i32 : BitVec 32 := 1#32
  let v12 : BitVec 32 := Scalar.addi v11 c1_i32
  let c2_i32_74 : BitVec 32 := 2#32
  let v231 : BitVec 32 := Scalar.subi v12 c2_i32_74
  let c0_i32_75 : BitVec 32 := 0#32
  let v232 : BitVec 32 := Scalar.maxsi v231 c0_i32_75
  let c128_i32_76 : BitVec 32 := 128#32
  let v233 : BitVec 32 := Scalar.muli v232 c128_i32_76
  v233
def k0_mult3 (i : grid0.Coords) : BitVec 32 :=
  let arg1 : BitVec 32 := BitVec.ofNat 32 (i 1).val
  let c4_i32_3 : BitVec 32 := 4#32
  let v13 : BitVec 32 := Scalar.muli arg1 c4_i32_3
  let c2_i32 : BitVec 32 := 2#32
  let v14 : BitVec 32 := Scalar.addi v13 c2_i32
  let c2_i32_127 : BitVec 32 := 2#32
  let v420 : BitVec 32 := Scalar.subi v14 c2_i32_127
  let c0_i32_128 : BitVec 32 := 0#32
  let v421 : BitVec 32 := Scalar.maxsi v420 c0_i32_128
  let c128_i32_129 : BitVec 32 := 128#32
  let v422 : BitVec 32 := Scalar.muli v421 c128_i32_129
  v422
def k0_mult4 (i : grid0.Coords) : BitVec 32 :=
  let arg1 : BitVec 32 := BitVec.ofNat 32 (i 1).val
  let c4_i32_4 : BitVec 32 := 4#32
  let v15 : BitVec 32 := Scalar.muli arg1 c4_i32_4
  let c3_i32 : BitVec 32 := 3#32
  let v16 : BitVec 32 := Scalar.addi v15 c3_i32
  let c2_i32_180 : BitVec 32 := 2#32
  let v609 : BitVec 32 := Scalar.subi v16 c2_i32_180
  let c0_i32_181 : BitVec 32 := 0#32
  let v610 : BitVec 32 := Scalar.maxsi v609 c0_i32_181
  let c128_i32_182 : BitVec 32 := 128#32
  let v611 : BitVec 32 := Scalar.muli v610 c128_i32_182
  v611
def k0_mult5 (arg16 : BitVec 32) : BitVec 32 :=
  let c2_i32_326 : BitVec 32 := 2#32
  let v1275 : BitVec 32 := Scalar.subi arg16 c2_i32_326
  let c0_i32_327 : BitVec 32 := 0#32
  let v1276 : BitVec 32 := Scalar.maxsi v1275 c0_i32_327
  let c128_i32_328 : BitVec 32 := 128#32
  let v1277 : BitVec 32 := Scalar.muli v1276 c128_i32_328
  v1277

def k0_off2 (arg16 : BitVec 32) : Fin 2 → Nat :=
  let c2_i32_326 : BitVec 32 := 2#32
  let v1275 : BitVec 32 := Scalar.subi arg16 c2_i32_326
  let c0_i32_327 : BitVec 32 := 0#32
  let v1276 : BitVec 32 := Scalar.maxsi v1275 c0_i32_327
  let c128_i32_328 : BitVec 32 := 128#32
  let v1277 : BitVec 32 := Scalar.muli v1276 c128_i32_328
  let v1278 : BitVec 32 := v1277
  let v1279 : Index := Scalar.indexCast v1278
  let c0_329 : Index := 0#32
  ![v1279.toNat, 0]

def k0_chk1 (arg16 : BitVec 32) : Prop :=
  (128 ∣ (k0_mult5 arg16).toNat) ∧
  (∀ a, (k0_off2 arg16) a + S384x128.size a ≤ S16384x128.size a)
theorem k0_mult5_dvd : ∀ (arg16 : BitVec 32) (k0_hw1 : k0_chk1 arg16), 128 ∣ (k0_mult5 arg16).toNat := fun arg16 k0_hw1 => k0_hw1.1
theorem k0_off2_inb : ∀ (arg16 : BitVec 32) (k0_hw1 : k0_chk1 arg16), ∀ a, (k0_off2 arg16) a + S384x128.size a ≤ S16384x128.size a := fun arg16 k0_hw1 => k0_hw1.2

def k0_mult6 (arg22 : BitVec 32) : BitVec 32 :=
  let c2_i32_380 : BitVec 32 := 2#32
  let v1467 : BitVec 32 := Scalar.subi arg22 c2_i32_380
  let c0_i32_381 : BitVec 32 := 0#32
  let v1468 : BitVec 32 := Scalar.maxsi v1467 c0_i32_381
  let c128_i32_382 : BitVec 32 := 128#32
  let v1469 : BitVec 32 := Scalar.muli v1468 c128_i32_382
  v1469

def k0_off3 (arg22 : BitVec 32) : Fin 2 → Nat :=
  let c2_i32_380 : BitVec 32 := 2#32
  let v1467 : BitVec 32 := Scalar.subi arg22 c2_i32_380
  let c0_i32_381 : BitVec 32 := 0#32
  let v1468 : BitVec 32 := Scalar.maxsi v1467 c0_i32_381
  let c128_i32_382 : BitVec 32 := 128#32
  let v1469 : BitVec 32 := Scalar.muli v1468 c128_i32_382
  let v1470 : BitVec 32 := v1469
  let v1471 : Index := Scalar.indexCast v1470
  let c0_383 : Index := 0#32
  ![v1471.toNat, 0]

def k0_chk2 (arg22 : BitVec 32) : Prop :=
  (128 ∣ (k0_mult6 arg22).toNat) ∧
  (∀ a, (k0_off3 arg22) a + S384x128.size a ≤ S16384x128.size a)
theorem k0_mult6_dvd : ∀ (arg22 : BitVec 32) (k0_hw2 : k0_chk2 arg22), 128 ∣ (k0_mult6 arg22).toNat := fun arg22 k0_hw2 => k0_hw2.1
theorem k0_off3_inb : ∀ (arg22 : BitVec 32) (k0_hw2 : k0_chk2 arg22), ∀ a, (k0_off3 arg22) a + S384x128.size a ≤ S16384x128.size a := fun arg22 k0_hw2 => k0_hw2.2

def k0_mult7 (arg28 : BitVec 32) : BitVec 32 :=
  let c2_i32_434 : BitVec 32 := 2#32
  let v1659 : BitVec 32 := Scalar.subi arg28 c2_i32_434
  let c0_i32_435 : BitVec 32 := 0#32
  let v1660 : BitVec 32 := Scalar.maxsi v1659 c0_i32_435
  let c128_i32_436 : BitVec 32 := 128#32
  let v1661 : BitVec 32 := Scalar.muli v1660 c128_i32_436
  v1661

def k0_off4 (arg28 : BitVec 32) : Fin 2 → Nat :=
  let c2_i32_434 : BitVec 32 := 2#32
  let v1659 : BitVec 32 := Scalar.subi arg28 c2_i32_434
  let c0_i32_435 : BitVec 32 := 0#32
  let v1660 : BitVec 32 := Scalar.maxsi v1659 c0_i32_435
  let c128_i32_436 : BitVec 32 := 128#32
  let v1661 : BitVec 32 := Scalar.muli v1660 c128_i32_436
  let v1662 : BitVec 32 := v1661
  let v1663 : Index := Scalar.indexCast v1662
  let c0_437 : Index := 0#32
  ![v1663.toNat, 0]

def k0_chk3 (arg28 : BitVec 32) : Prop :=
  (128 ∣ (k0_mult7 arg28).toNat) ∧
  (∀ a, (k0_off4 arg28) a + S384x128.size a ≤ S16384x128.size a)
theorem k0_mult7_dvd : ∀ (arg28 : BitVec 32) (k0_hw3 : k0_chk3 arg28), 128 ∣ (k0_mult7 arg28).toNat := fun arg28 k0_hw3 => k0_hw3.1
theorem k0_off4_inb : ∀ (arg28 : BitVec 32) (k0_hw3 : k0_chk3 arg28), ∀ a, (k0_off4 arg28) a + S384x128.size a ≤ S16384x128.size a := fun arg28 k0_hw3 => k0_hw3.2

def k0_mult8 (arg34 : BitVec 32) : BitVec 32 :=
  let c2_i32_488 : BitVec 32 := 2#32
  let v1851 : BitVec 32 := Scalar.subi arg34 c2_i32_488
  let c0_i32_489 : BitVec 32 := 0#32
  let v1852 : BitVec 32 := Scalar.maxsi v1851 c0_i32_489
  let c128_i32_490 : BitVec 32 := 128#32
  let v1853 : BitVec 32 := Scalar.muli v1852 c128_i32_490
  v1853

def k0_off5 (arg34 : BitVec 32) : Fin 2 → Nat :=
  let c2_i32_488 : BitVec 32 := 2#32
  let v1851 : BitVec 32 := Scalar.subi arg34 c2_i32_488
  let c0_i32_489 : BitVec 32 := 0#32
  let v1852 : BitVec 32 := Scalar.maxsi v1851 c0_i32_489
  let c128_i32_490 : BitVec 32 := 128#32
  let v1853 : BitVec 32 := Scalar.muli v1852 c128_i32_490
  let v1854 : BitVec 32 := v1853
  let v1855 : Index := Scalar.indexCast v1854
  let c0_491 : Index := 0#32
  ![v1855.toNat, 0]

def k0_chk4 (arg34 : BitVec 32) : Prop :=
  (128 ∣ (k0_mult8 arg34).toNat) ∧
  (∀ a, (k0_off5 arg34) a + S384x128.size a ≤ S16384x128.size a)
theorem k0_mult8_dvd : ∀ (arg34 : BitVec 32) (k0_hw4 : k0_chk4 arg34), 128 ∣ (k0_mult8 arg34).toNat := fun arg34 k0_hw4 => k0_hw4.1
theorem k0_off5_inb : ∀ (arg34 : BitVec 32) (k0_hw4 : k0_chk4 arg34), ∀ a, (k0_off5 arg34) a + S384x128.size a ≤ S16384x128.size a := fun arg34 k0_hw4 => k0_hw4.2

def k0_mult9 (arg16 : BitVec 32) : BitVec 32 :=
  let c2_i32_326 : BitVec 32 := 2#32
  let v1275 : BitVec 32 := Scalar.subi arg16 c2_i32_326
  let c0_i32_327 : BitVec 32 := 0#32
  let v1276 : BitVec 32 := Scalar.maxsi v1275 c0_i32_327
  let c128_i32_328 : BitVec 32 := 128#32
  let v1277 : BitVec 32 := Scalar.muli v1276 c128_i32_328
  v1277

def k0_off6 (arg16 : BitVec 32) : Fin 2 → Nat :=
  let c2_i32_326 : BitVec 32 := 2#32
  let v1275 : BitVec 32 := Scalar.subi arg16 c2_i32_326
  let c0_i32_327 : BitVec 32 := 0#32
  let v1276 : BitVec 32 := Scalar.maxsi v1275 c0_i32_327
  let c128_i32_328 : BitVec 32 := 128#32
  let v1277 : BitVec 32 := Scalar.muli v1276 c128_i32_328
  let v1278 : BitVec 32 := v1277
  let v1279 : Index := Scalar.indexCast v1278
  let c0_329 : Index := 0#32
  ![v1279.toNat, 0]

def k0_chk5 (arg16 : BitVec 32) : Prop :=
  (128 ∣ (k0_mult9 arg16).toNat) ∧
  (∀ a, (k0_off6 arg16) a + S384x128.size a ≤ S16384x128.size a)
theorem k0_mult9_dvd : ∀ (arg16 : BitVec 32) (k0_hw5 : k0_chk5 arg16), 128 ∣ (k0_mult9 arg16).toNat := fun arg16 k0_hw5 => k0_hw5.1
theorem k0_off6_inb : ∀ (arg16 : BitVec 32) (k0_hw5 : k0_chk5 arg16), ∀ a, (k0_off6 arg16) a + S384x128.size a ≤ S16384x128.size a := fun arg16 k0_hw5 => k0_hw5.2

def k0_mult10 (arg23 : BitVec 32) : BitVec 32 :=
  let c2_i32_399 : BitVec 32 := 2#32
  let v1585 : BitVec 32 := Scalar.subi arg23 c2_i32_399
  let c0_i32_400 : BitVec 32 := 0#32
  let v1586 : BitVec 32 := Scalar.maxsi v1585 c0_i32_400
  let c128_i32_401 : BitVec 32 := 128#32
  let v1587 : BitVec 32 := Scalar.muli v1586 c128_i32_401
  v1587

def k0_off7 (arg23 : BitVec 32) : Fin 2 → Nat :=
  let c2_i32_399 : BitVec 32 := 2#32
  let v1585 : BitVec 32 := Scalar.subi arg23 c2_i32_399
  let c0_i32_400 : BitVec 32 := 0#32
  let v1586 : BitVec 32 := Scalar.maxsi v1585 c0_i32_400
  let c128_i32_401 : BitVec 32 := 128#32
  let v1587 : BitVec 32 := Scalar.muli v1586 c128_i32_401
  let v1588 : BitVec 32 := v1587
  let v1589 : Index := Scalar.indexCast v1588
  let c0_402 : Index := 0#32
  ![v1589.toNat, 0]

def k0_chk6 (arg23 : BitVec 32) : Prop :=
  (128 ∣ (k0_mult10 arg23).toNat) ∧
  (∀ a, (k0_off7 arg23) a + S384x128.size a ≤ S16384x128.size a)
theorem k0_mult10_dvd : ∀ (arg23 : BitVec 32) (k0_hw6 : k0_chk6 arg23), 128 ∣ (k0_mult10 arg23).toNat := fun arg23 k0_hw6 => k0_hw6.1
theorem k0_off7_inb : ∀ (arg23 : BitVec 32) (k0_hw6 : k0_chk6 arg23), ∀ a, (k0_off7 arg23) a + S384x128.size a ≤ S16384x128.size a := fun arg23 k0_hw6 => k0_hw6.2

def k0_mult11 (arg30 : BitVec 32) : BitVec 32 :=
  let c2_i32_472 : BitVec 32 := 2#32
  let v1895 : BitVec 32 := Scalar.subi arg30 c2_i32_472
  let c0_i32_473 : BitVec 32 := 0#32
  let v1896 : BitVec 32 := Scalar.maxsi v1895 c0_i32_473
  let c128_i32_474 : BitVec 32 := 128#32
  let v1897 : BitVec 32 := Scalar.muli v1896 c128_i32_474
  v1897

def k0_off8 (arg30 : BitVec 32) : Fin 2 → Nat :=
  let c2_i32_472 : BitVec 32 := 2#32
  let v1895 : BitVec 32 := Scalar.subi arg30 c2_i32_472
  let c0_i32_473 : BitVec 32 := 0#32
  let v1896 : BitVec 32 := Scalar.maxsi v1895 c0_i32_473
  let c128_i32_474 : BitVec 32 := 128#32
  let v1897 : BitVec 32 := Scalar.muli v1896 c128_i32_474
  let v1898 : BitVec 32 := v1897
  let v1899 : Index := Scalar.indexCast v1898
  let c0_475 : Index := 0#32
  ![v1899.toNat, 0]

def k0_chk7 (arg30 : BitVec 32) : Prop :=
  (128 ∣ (k0_mult11 arg30).toNat) ∧
  (∀ a, (k0_off8 arg30) a + S384x128.size a ≤ S16384x128.size a)
theorem k0_mult11_dvd : ∀ (arg30 : BitVec 32) (k0_hw7 : k0_chk7 arg30), 128 ∣ (k0_mult11 arg30).toNat := fun arg30 k0_hw7 => k0_hw7.1
theorem k0_off8_inb : ∀ (arg30 : BitVec 32) (k0_hw7 : k0_chk7 arg30), ∀ a, (k0_off8 arg30) a + S384x128.size a ≤ S16384x128.size a := fun arg30 k0_hw7 => k0_hw7.2

def k0_mult12 (arg37 : BitVec 32) : BitVec 32 :=
  let c2_i32_545 : BitVec 32 := 2#32
  let v2205 : BitVec 32 := Scalar.subi arg37 c2_i32_545
  let c0_i32_546 : BitVec 32 := 0#32
  let v2206 : BitVec 32 := Scalar.maxsi v2205 c0_i32_546
  let c128_i32_547 : BitVec 32 := 128#32
  let v2207 : BitVec 32 := Scalar.muli v2206 c128_i32_547
  v2207

def k0_off9 (arg37 : BitVec 32) : Fin 2 → Nat :=
  let c2_i32_545 : BitVec 32 := 2#32
  let v2205 : BitVec 32 := Scalar.subi arg37 c2_i32_545
  let c0_i32_546 : BitVec 32 := 0#32
  let v2206 : BitVec 32 := Scalar.maxsi v2205 c0_i32_546
  let c128_i32_547 : BitVec 32 := 128#32
  let v2207 : BitVec 32 := Scalar.muli v2206 c128_i32_547
  let v2208 : BitVec 32 := v2207
  let v2209 : Index := Scalar.indexCast v2208
  let c0_548 : Index := 0#32
  ![v2209.toNat, 0]

def k0_chk8 (arg37 : BitVec 32) : Prop :=
  (128 ∣ (k0_mult12 arg37).toNat) ∧
  (∀ a, (k0_off9 arg37) a + S384x128.size a ≤ S16384x128.size a)
theorem k0_mult12_dvd : ∀ (arg37 : BitVec 32) (k0_hw8 : k0_chk8 arg37), 128 ∣ (k0_mult12 arg37).toNat := fun arg37 k0_hw8 => k0_hw8.1
theorem k0_off9_inb : ∀ (arg37 : BitVec 32) (k0_hw8 : k0_chk8 arg37), ∀ a, (k0_off9 arg37) a + S384x128.size a ≤ S16384x128.size a := fun arg37 k0_hw8 => k0_hw8.2

def k0_cond2 (i : grid0.Coords) : BitVec 1 :=
  let arg1 : BitVec 32 := BitVec.ofNat 32 (i 1).val
  let c31_i32 : BitVec 32 := 31#32
  let v1272 : BitVec 1 := Scalar.cmpi .eq arg1 c31_i32
  let v1273 : BitVec 32 := Scalar.extui v1272
  let c0_i32_325 : BitVec 32 := 0#32
  let v1274 : BitVec 1 := Scalar.cmpi .ne v1273 c0_i32_325
  v1274

def k0_mult13 (i : grid0.Coords) : BitVec 32 :=
  let arg0 : BitVec 32 := BitVec.ofNat 32 (i 0).val
  let c128_i32_326 : BitVec 32 := 128#32
  let v1275 : BitVec 32 := Scalar.muli arg0 c128_i32_326
  v1275
def k0_off10 (i : grid0.Coords) : Fin 2 → Nat :=
  let c0_i32_328 : BitVec 32 := 0#32
  let arg0 : BitVec 32 := BitVec.ofNat 32 (i 0).val
  let c128_i32_326 : BitVec 32 := 128#32
  let v1275 : BitVec 32 := Scalar.muli arg0 c128_i32_326
  let v1276 : BitVec 32 := v1275
  ![0, v1276.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S384x256 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S384x256 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== SbKernelIdeal.lean ====
variable {F : FTy → Type} [FloatOps F] [Named F]
def κ : String → Option EReal := fun
  | "mask" => some ⊥
  | "open" => some ⊥
  | _ => none
-- ==== SbReferenceIdeal.lean ====
abbrev S16384x256 : Shape := ⟨2, ![16384, 256]⟩
abbrev S16384x4x64 : Shape := ⟨3, ![16384, 4, 64]⟩
abbrev S4x16384x64 : Shape := ⟨3, ![4, 16384, 64]⟩
abbrev S_ : Shape := ⟨0, ![]⟩
abbrev S16384x16384 : Shape := ⟨2, ![16384, 16384]⟩
abbrev S4x16384x16384 : Shape := ⟨3, ![4, 16384, 16384]⟩
abbrev S4x64x16384 : Shape := ⟨3, ![4, 64, 16384]⟩

abbrev nBuf : Space → Nat
  | .hbm => 168
  | .vmem => 0
  | .smem => 0
  | _ => 0

abbrev hbmTy0_0 (i : Nat) : BufTy := match i % 128 with
  | 0 => ⟨S16384x256, .f32⟩
  | 1 => ⟨S16384x256, .f32⟩
  | 2 => ⟨S16384x256, .f32⟩
  | 3 => ⟨S16384x256, .f32⟩
  | 4 => ⟨S16384x4x64, .f32⟩
  | 5 => ⟨S4x16384x64, .f32⟩
  | 6 => ⟨S_, .f32⟩
  | 7 => ⟨S4x16384x64, .f32⟩
  | 8 => ⟨S4x16384x64, .f32⟩
  | 9 => ⟨S16384x4x64, .f32⟩
  | 10 => ⟨S4x16384x64, .f32⟩
  | 11 => ⟨S16384x4x64, .f32⟩
  | 12 => ⟨S4x16384x64, .f32⟩
  | 13 => ⟨S16384x16384, .i32⟩
  | 14 => ⟨S16384x16384, .i32⟩
  | 15 => ⟨S16384x16384, .i1⟩
  | 16 => ⟨S16384x16384, .f32⟩
  | 17 => ⟨S16384x16384, .i1⟩
  | 18 => ⟨S4x16384x16384, .f32⟩
  | 19 => ⟨S4x16384x16384, .f32⟩
  | 20 => ⟨S4x16384x16384, .f32⟩
  | 21 => ⟨S_, .f32⟩
  | 22 => ⟨S4x16384x16384, .f32⟩
  | 23 => ⟨S4x16384x16384, .f32⟩
  | 24 => ⟨S4x16384x16384, .f32⟩
  | 25 => ⟨S4x16384x16384, .f32⟩
  | 26 => ⟨S4x16384x16384, .i1⟩
  | 27 => ⟨S4x16384x16384, .f32⟩
  | 28 => ⟨S4x16384x16384, .f32⟩
  | 29 => ⟨S4x16384x16384, .f32⟩
  | 30 => ⟨S4x16384x16384, .f32⟩
  | 31 => ⟨S4x16384x16384, .f32⟩
  | 32 => ⟨S4x16384x16384, .f32⟩
  | 33 => ⟨S4x16384x16384, .f32⟩
  | 34 => ⟨S4x16384x16384, .f32⟩
  | 35 => ⟨S_, .f32⟩
  | 36 => ⟨S4x16384x16384, .f32⟩
  | 37 => ⟨S4x16384x16384, .i1⟩
  | 38 => ⟨S_, .f32⟩
  | 39 => ⟨S4x16384x16384, .f32⟩
  | 40 => ⟨S4x16384x16384, .f32⟩
  | 41 => ⟨S_, .f32⟩
  | 42 => ⟨S4x16384x16384, .f32⟩
  | 43 => ⟨S4x16384x16384, .i1⟩
  | 44 => ⟨S_, .f32⟩
  | 45 => ⟨S4x16384x16384, .f32⟩
  | 46 => ⟨S4x16384x16384, .f32⟩
  | 47 => ⟨S4x16384x16384, .f32⟩
  | 48 => ⟨S4x16384x16384, .f32⟩
  | 49 => ⟨S_, .f32⟩
  | 50 => ⟨S_, .f32⟩
  | 51 => ⟨S_, .i1⟩
  | 52 => ⟨S_, .f32⟩
  | 53 => ⟨S_, .f32⟩
  | 54 => ⟨S_, .f32⟩
  | 55 => ⟨S_, .f32⟩
  | 56 => ⟨S4x16384x16384, .f32⟩
  | 57 => ⟨S4x16384x16384, .i1⟩
  | 58 => ⟨S_, .f32⟩
  | 59 => ⟨S4x16384x16384, .f32⟩
  | 60 => ⟨S4x16384x16384, .f32⟩
  | 61 => ⟨S4x16384x16384, .f32⟩
  | 62 => ⟨S4x16384x16384, .f32⟩
  | 63 => ⟨S4x16384x16384, .f32⟩
  | 64 => ⟨S_, .f32⟩
  | 65 => ⟨S4x16384x16384, .f32⟩
  | 66 => ⟨S4x16384x16384, .f32⟩
  | 67 => ⟨S4x16384x16384, .f32⟩
  | 68 => ⟨S_, .f32⟩
  | 69 => ⟨S_, .f32⟩
  | 70 => ⟨S4x16384x16384, .i1⟩
  | 71 => ⟨S4x16384x16384, .f32⟩
  | 72 => ⟨S4x16384x16384, .f32⟩
  | 73 => ⟨S_, .f32⟩
  | 74 => ⟨S4x16384x16384, .f32⟩
  | 75 => ⟨S4x16384x16384, .f32⟩
  | 76 => ⟨S4x16384x16384, .f32⟩
  | 77 => ⟨S_, .f32⟩
  | 78 => ⟨S4x16384x16384, .f32⟩
  | 79 => ⟨S4x16384x16384, .f32⟩
  | 80 => ⟨S4x16384x16384, .f32⟩
  | 81 => ⟨S4x16384x16384, .f32⟩
  | 82 => ⟨S4x16384x16384, .i1⟩
  | 83 => ⟨S4x16384x16384, .f32⟩
  | 84 => ⟨S4x16384x16384, .f32⟩
  | 85 => ⟨S4x16384x16384, .f32⟩
  | 86 => ⟨S4x16384x16384, .f32⟩
  | 87 => ⟨S4x16384x16384, .f32⟩
  | 88 => ⟨S4x16384x16384, .f32⟩
  | 89 => ⟨S4x16384x16384, .f32⟩
  | 90 => ⟨S4x16384x16384, .f32⟩
  | 91 => ⟨S_, .f32⟩
  | 92 => ⟨S4x16384x16384, .f32⟩
  | 93 => ⟨S4x16384x16384, .i1⟩
  | 94 => ⟨S_, .f32⟩
  | 95 => ⟨S4x16384x16384, .f32⟩
  | 96 => ⟨S4x16384x16384, .f32⟩
  | 97 => ⟨S_, .f32⟩
  | 98 => ⟨S4x16384x16384, .f32⟩
  | 99 => ⟨S4x16384x16384, .i1⟩
  | 100 => ⟨S_, .f32⟩
  | 101 => ⟨S4x16384x16384, .f32⟩
  | 102 => ⟨S4x16384x16384, .f32⟩
  | 103 => ⟨S4x16384x16384, .f32⟩
  | 104 => ⟨S4x16384x16384, .f32⟩
  | 105 => ⟨S_, .f32⟩
  | 106 => ⟨S_, .f32⟩
  | 107 => ⟨S_, .i1⟩
  | 108 => ⟨S_, .f32⟩
  | 109 => ⟨S_, .f32⟩
  | 110 => ⟨S_, .f32⟩
  | 111 => ⟨S_, .f32⟩
  | 112 => ⟨S4x16384x16384, .f32⟩
  | 113 => ⟨S4x16384x16384, .i1⟩
  | 114 => ⟨S_, .f32⟩
  | 115 => ⟨S4x16384x16384, .f32⟩
  | 116 => ⟨S4x16384x16384, .f32⟩
  | 117 => ⟨S4x16384x16384, .f32⟩
  | 118 => ⟨S4x16384x16384, .f32⟩
  | 119 => ⟨S4x16384x16384, .f32⟩
  | 120 => ⟨S_, .f32⟩
  | 121 => ⟨S4x16384x16384, .f32⟩
  | 122 => ⟨S4x16384x16384, .f32⟩
  | 123 => ⟨S4x16384x16384, .f32⟩
  | 124 => ⟨S4x16384x16384, .f32⟩
  | 125 => ⟨S4x16384x16384, .f32⟩
  | 126 => ⟨S_, .f32⟩
  | 127 => ⟨S_, .f32⟩
  | _ => ⟨S16384x256, .f32⟩

abbrev hbmTy0_1 (i : Nat) : BufTy := match i % 128 with
  | 0 => ⟨S4x16384x16384, .i1⟩
  | 1 => ⟨S4x16384x16384, .f32⟩
  | 2 => ⟨S4x16384x16384, .f32⟩
  | 3 => ⟨S_, .f32⟩
  | 4 => ⟨S4x16384x16384, .f32⟩
  | 5 => ⟨S4x16384x64, .f32⟩
  | 6 => ⟨S16384x4x64, .f32⟩
  | 7 => ⟨S16384x256, .f32⟩
  | 8 => ⟨S16384x4x64, .f32⟩
  | 9 => ⟨S4x16384x64, .f32⟩
  | 10 => ⟨S4x64x16384, .f32⟩
  | 11 => ⟨S4x16384x64, .f32⟩
  | 12 => ⟨S4x16384x16384, .f32⟩
  | 13 => ⟨S_, .f32⟩
  | 14 => ⟨S4x16384x16384, .f32⟩
  | 15 => ⟨S4x16384x16384, .f32⟩
  | 16 => ⟨S4x16384x16384, .f32⟩
  | 17 => ⟨S4x16384x16384, .f32⟩
  | 18 => ⟨S4x16384x16384, .f32⟩
  | 19 => ⟨S4x16384x16384, .f32⟩
  | 20 => ⟨S4x16384x16384, .f32⟩
  | 21 => ⟨S_, .f32⟩
  | 22 => ⟨S4x16384x16384, .f32⟩
  | 23 => ⟨S4x16384x16384, .f32⟩
  | 24 => ⟨S4x16384x16384, .f32⟩
  | 25 => ⟨S4x16384x16384, .f32⟩
  | 26 => ⟨S4x16384x16384, .f32⟩
  | 27 => ⟨S4x16384x16384, .f32⟩
  | 28 => ⟨S4x16384x16384, .f32⟩
  | 29 => ⟨S4x16384x64, .f32⟩
  | 30 => ⟨S4x16384x64, .f32⟩
  | 31 => ⟨S16384x4x64, .f32⟩
  | 32 => ⟨S16384x256, .f32⟩
  | 33 => ⟨S16384x4x64, .f32⟩
  | 34 => ⟨S16384x256, .f32⟩
  | 35 => ⟨S_, .f32⟩
  | 36 => ⟨S4x16384x64, .f32⟩
  | 37 => ⟨S4x16384x64, .f32⟩
  | 38 => ⟨S16384x4x64, .f32⟩
  | 39 => ⟨S16384x256, .f32⟩
  | _ => ⟨S16384x256, .f32⟩

abbrev hbmTy (i : Nat) : BufTy := match i / 128 with
  | 0 => hbmTy0_0 i
  | 1 => hbmTy0_1 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1_0 : Ref sig .tc := ⟨.hbm, 34, rfl⟩
abbrev main_call0_call0_cst_0 : Ref sig .tc := ⟨.hbm, 35, rfl⟩
abbrev main_call0_call0_v13 : Ref sig .tc := ⟨.hbm, 36, rfl⟩
abbrev main_call0_call0_v14 : Ref sig .tc := ⟨.hbm, 37, rfl⟩
abbrev main_call0_call0_cst_1 : Ref sig .tc := ⟨.hbm, 38, rfl⟩
abbrev main_call0_call0_v15 : Ref sig .tc := ⟨.hbm, 39, rfl⟩
abbrev main_call0_call0_v16 : Ref sig .tc := ⟨.hbm, 40, rfl⟩
abbrev main_call0_call0_cst_2 : Ref sig .tc := ⟨.hbm, 41, rfl⟩
abbrev main_call0_call0_v17 : Ref sig .tc := ⟨.hbm, 42, rfl⟩
abbrev main_call0_call0_v18 : Ref sig .tc := ⟨.hbm, 43, rfl⟩
abbrev main_call0_call0_cst_3 : Ref sig .tc := ⟨.hbm, 44, rfl⟩
abbrev main_call0_call0_v19 : Ref sig .tc := ⟨.hbm, 45, rfl⟩
abbrev main_call0_call0_v20 : Ref sig .tc := ⟨.hbm, 46, rfl⟩
abbrev main_call0_call0_v21 : Ref sig .tc := ⟨.hbm, 47, rfl⟩
abbrev main_v15_1 : Ref sig .tc := ⟨.hbm, 48, rfl⟩
abbrev main_call0_call0_cst_4 : Ref sig .tc := ⟨.hbm, 49, rfl⟩
abbrev main_call0_call0_cst_5 : Ref sig .tc := ⟨.hbm, 50, rfl⟩
abbrev main_call0_call0_v23 : Ref sig .tc := ⟨.hbm, 51, rfl⟩
abbrev main_call0_call0_cst_6 : Ref sig .tc := ⟨.hbm, 52, rfl⟩
abbrev main_call0_call0_cst_7 : Ref sig .tc := ⟨.hbm, 53, rfl⟩
abbrev main_call0_call0_v24 : Ref sig .tc := ⟨.hbm, 54, rfl⟩
abbrev main_call0_call0_cst_8 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_cst_9 : Ref sig .tc := ⟨.hbm, 58, rfl⟩
abbrev main_call0_call0_v27 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_v30 : Ref sig .tc := ⟨.hbm, 62, rfl⟩
abbrev main_call0_call0_v31 : Ref sig .tc := ⟨.hbm, 63, rfl⟩
abbrev main_call0_call0_cst_10 : Ref sig .tc := ⟨.hbm, 64, rfl⟩
abbrev main_call0_call0_v32 : Ref sig .tc := ⟨.hbm, 65, rfl⟩
abbrev main_v15_2 : Ref sig .tc := ⟨.hbm, 66, rfl⟩
abbrev main_v15_0 : Ref sig .tc := ⟨.hbm, 67, rfl⟩
abbrev main_cst_0 : Ref sig .tc := ⟨.hbm, 68, rfl⟩
abbrev main_call1_v0 : Ref sig .tc := ⟨.hbm, 69, rfl⟩
abbrev main_v16_1 : Ref sig .tc := ⟨.hbm, 70, rfl⟩
abbrev main_call1_v2 : Ref sig .tc := ⟨.hbm, 71, rfl⟩
abbrev main_v16_0 : Ref sig .tc := ⟨.hbm, 72, rfl⟩
abbrev main_call1_cst : Ref sig .tc := ⟨.hbm, 73, rfl⟩
abbrev main_v16_2 : Ref sig .tc := ⟨.hbm, 74, rfl⟩
abbrev main_v17 : Ref sig .tc := ⟨.hbm, 75, rfl⟩
abbrev main_call2_v0 : Ref sig .tc := ⟨.hbm, 76, rfl⟩
abbrev main_call2_call0_cst : Ref sig .tc := ⟨.hbm, 77, rfl⟩
abbrev main_call2_call0_v0 : Ref sig .tc := ⟨.hbm, 78, rfl⟩
abbrev main_call2_call0_v1 : Ref sig .tc := ⟨.hbm, 79, rfl⟩
abbrev main_call2_call0_v2 : Ref sig .tc := ⟨.hbm, 80, rfl⟩
abbrev main_call2_call0_v3 : Ref sig .tc := ⟨.hbm, 81, rfl⟩
abbrev main_call2_call0_v4 : Ref sig .tc := ⟨.hbm, 82, rfl⟩
abbrev main_call2_call0_v5 : Ref sig .tc := ⟨.hbm, 83, rfl⟩
abbrev main_call2_call0_v6 : Ref sig .tc := ⟨.hbm, 84, rfl⟩
abbrev main_call2_call0_v7 : Ref sig .tc := ⟨.hbm, 85, rfl⟩
abbrev main_call2_call0_v8 : Ref sig .tc := ⟨.hbm, 86, rfl⟩
abbrev main_call2_call0_v9 : Ref sig .tc := ⟨.hbm, 87, rfl⟩
abbrev main_call2_call0_v10 : Ref sig .tc := ⟨.hbm, 88, rfl⟩
abbrev main_call2_call0_v11 : Ref sig .tc := ⟨.hbm, 89, rfl⟩
abbrev main_call2_v1_0 : Ref sig .tc := ⟨.hbm, 90, rfl⟩
abbrev main_call2_call0_cst_0 : Ref sig .tc := ⟨.hbm, 91, rfl⟩
abbrev main_call2_call0_v13 : Ref sig .tc := ⟨.hbm, 92, rfl⟩
abbrev main_call2_call0_v14 : Ref sig .tc := ⟨.hbm, 93, rfl⟩
abbrev main_call2_call0_cst_1 : Ref sig .tc := ⟨.hbm, 94, rfl⟩
abbrev main_call2_call0_v15 : Ref sig .tc := ⟨.hbm, 95, rfl⟩
abbrev main_call2_call0_v16 : Ref sig .tc := ⟨.hbm, 96, rfl⟩
abbrev main_call2_call0_cst_2 : Ref sig .tc := ⟨.hbm, 97, rfl⟩
abbrev main_call2_call0_v17 : Ref sig .tc := ⟨.hbm, 98, rfl⟩
abbrev main_call2_call0_v18 : Ref sig .tc := ⟨.hbm, 99, rfl⟩
abbrev main_call2_call0_cst_3 : Ref sig .tc := ⟨.hbm, 100, rfl⟩
abbrev main_call2_call0_v19 : Ref sig .tc := ⟨.hbm, 101, rfl⟩
abbrev main_call2_call0_v20 : Ref sig .tc := ⟨.hbm, 102, rfl⟩
abbrev main_call2_call0_v21 : Ref sig .tc := ⟨.hbm, 103, rfl⟩
abbrev main_v18_1 : Ref sig .tc := ⟨.hbm, 104, rfl⟩
abbrev main_call2_call0_cst_4 : Ref sig .tc := ⟨.hbm, 105, rfl⟩
abbrev main_call2_call0_cst_5 : Ref sig .tc := ⟨.hbm, 106, rfl⟩
abbrev main_call2_call0_v23 : Ref sig .tc := ⟨.hbm, 107, rfl⟩
abbrev main_call2_call0_cst_6 : Ref sig .tc := ⟨.hbm, 108, rfl⟩
abbrev main_call2_call0_cst_7 : Ref sig .tc := ⟨.hbm, 109, rfl⟩
abbrev main_call2_call0_v24 : Ref sig .tc := ⟨.hbm, 110, rfl⟩
abbrev main_call2_call0_cst_8 : Ref sig .tc := ⟨.hbm, 111, rfl⟩
abbrev main_call2_call0_v25 : Ref sig .tc := ⟨.hbm, 112, rfl⟩
abbrev main_call2_call0_v26 : Ref sig .tc := ⟨.hbm, 113, rfl⟩
abbrev main_call2_call0_cst_9 : Ref sig .tc := ⟨.hbm, 114, rfl⟩
abbrev main_call2_call0_v27 : Ref sig .tc := ⟨.hbm, 115, rfl⟩
abbrev main_call2_call0_v28 : Ref sig .tc := ⟨.hbm, 116, rfl⟩
abbrev main_call2_call0_v29 : Ref sig .tc := ⟨.hbm, 117, rfl⟩
abbrev main_call2_call0_v30 : Ref sig .tc := ⟨.hbm, 118, rfl⟩
abbrev main_call2_call0_v31 : Ref sig .tc := ⟨.hbm, 119, rfl⟩
abbrev main_call2_call0_cst_10 : Ref sig .tc := ⟨.hbm, 120, rfl⟩
abbrev main_call2_call0_v32 : Ref sig .tc := ⟨.hbm, 121, rfl⟩
abbrev main_v18_2 : Ref sig .tc := ⟨.hbm, 122, rfl⟩
abbrev main_v18_0 : Ref sig .tc := ⟨.hbm, 123, rfl⟩
abbrev main_v19 : Ref sig .tc := ⟨.hbm, 124, rfl⟩
abbrev main_v20 : Ref sig .tc := ⟨.hbm, 125, rfl⟩
abbrev main_cst_1 : Ref sig .tc := ⟨.hbm, 126, rfl⟩
abbrev main_call3_v0 : Ref sig .tc := ⟨.hbm, 127, rfl⟩
abbrev main_v21_1 : Ref sig .tc := ⟨.hbm, 128, rfl⟩
abbrev main_call3_v2 : Ref sig .tc := ⟨.hbm, 129, rfl⟩
abbrev main_v21_0 : Ref sig .tc := ⟨.hbm, 130, rfl⟩
abbrev main_call3_cst : Ref sig .tc := ⟨.hbm, 131, rfl⟩
abbrev main_v21_2 : Ref sig .tc := ⟨.hbm, 132, rfl⟩
abbrev main_v22 : Ref sig .tc := ⟨.hbm, 133, rfl⟩
abbrev main_v23 : Ref sig .tc := ⟨.hbm, 134, rfl⟩
abbrev main_v24 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_call4_cst : Ref sig .tc := ⟨.hbm, 141, rfl⟩
abbrev main_call4_v0 : Ref sig .tc := ⟨.hbm, 142, rfl⟩
abbrev main_v30 : Ref sig .tc := ⟨.hbm, 143, rfl⟩
abbrev main_v31 : Ref sig .tc := ⟨.hbm, 144, rfl⟩
abbrev main_call5_v0 : Ref sig .tc := ⟨.hbm, 145, rfl⟩
abbrev main_call5_v1 : Ref sig .tc := ⟨.hbm, 146, rfl⟩
abbrev main_v32 : Ref sig .tc := ⟨.hbm, 147, rfl⟩
abbrev main_v33 : Ref sig .tc := ⟨.hbm, 148, rfl⟩
abbrev main_call6_cst : Ref sig .tc := ⟨.hbm, 149, rfl⟩
abbrev main_call6_v0 : Ref sig .tc := ⟨.hbm, 150, rfl⟩
abbrev main_v34 : Ref sig .tc := ⟨.hbm, 151, rfl⟩
abbrev main_call7_v0 : Ref sig .tc := ⟨.hbm, 152, rfl⟩
abbrev main_call7_v1 : Ref sig .tc := ⟨.hbm, 153, rfl⟩
abbrev main_v35 : Ref sig .tc := ⟨.hbm, 154, rfl⟩
abbrev main_v36 : Ref sig .tc := ⟨.hbm, 155, rfl⟩
abbrev main_v37 : Ref sig .tc := ⟨.hbm, 156, rfl⟩
abbrev main_v38 : Ref sig .tc := ⟨.hbm, 157, rfl⟩
abbrev main_v39 : Ref sig .tc := ⟨.hbm, 158, rfl⟩
abbrev main_v40 : Ref sig .tc := ⟨.hbm, 159, rfl⟩
abbrev main_v41 : Ref sig .tc := ⟨.hbm, 160, rfl⟩
abbrev main_v42 : Ref sig .tc := ⟨.hbm, 161, rfl⟩
abbrev main_v43 : Ref sig .tc := ⟨.hbm, 162, rfl⟩
abbrev main_cst_2 : Ref sig .tc := ⟨.hbm, 163, rfl⟩
abbrev main_v44 : Ref sig .tc := ⟨.hbm, 164, rfl⟩
abbrev main_v45 : Ref sig .tc := ⟨.hbm, 165, rfl⟩
abbrev main_v46 : Ref sig .tc := ⟨.hbm, 166, rfl⟩
abbrev main_v47 : Ref sig .tc := ⟨.hbm, 167, rfl⟩

abbrev nD : Nat := 1
abbrev τ : Topo := Topo.v7x

variable {F : FTy → Type} [FloatOps F]
-- ==== Proof.HalfNorm.lean ====
module

public import Idealize.ShloMosaic.Lib.Pointwise
public import Idealize.ShloMosaic.Lib.IdealHost

/-! # The gradient of a root-mean-square norm over the extended reals -/

@[expose] public section

set_option maxRecDepth 16384

noncomputable section

namespace NormGrad

open Idealize.ShloMosaic

/-- A positive real factor goes into a sum of extended reals. -/
theorem coe_mul_sum {ι : Type*} (s : Finset ι) (f : ι → EReal) (r : ℝ) (hr : 0 ≤ r) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

/-- The same with the factor on the right. -/
theorem sum_mul_coe {ι : Type*} (s : Finset ι) (f : ι → EReal) (r : ℝ) (hr : 0 ≤ r) :
    (∑ i ∈ s, f i) * (r : EReal) = ∑ i ∈ s, f i * (r : EReal) := by
  rw [mul_comm, coe_mul_sum s f r hr]
  exact Finset.sum_congr rfl fun i _ => mul_comm _ _

/-- No square of an extended real is negative. -/
theorem mul_self_nonneg (x : EReal) : 0 ≤ x * x := by
  induction x using EReal.rec with
  | bot => simp
  | top => simp
  | coe r => exact_mod_cast _root_.mul_self_nonneg r

/-- Twice a half of a negative multiple. -/
theorem half_add_half (z : EReal) (n : ℝ) (hn : 0 < n) :
    z * ((-(n / 2) : ℝ) : EReal) + z * ((-(n / 2) : ℝ) : EReal) = -(z * (n : EReal)) := by
  have h2 : (-(n / 2) : ℝ) < 0 := by linarith
  induction z using EReal.rec with
  | bot => rw [EReal.bot_mul_coe_of_neg h2, EReal.bot_mul_coe_of_pos hn]; simp
  | top => rw [EReal.top_mul_coe_of_neg h2, EReal.top_mul_coe_of_pos hn]; simp
  | coe r => norm_cast; ring

/-- The mean square plus a positive number: a positive real or +∞. -/
theorem mean_cases {ι : Type*} [Fintype ι] (x : ι → EReal) (c e : ℝ) (hc : 0 < c) (he : 0 < e) :
    ((∑ i, x i * x i) * (c : EReal) + (e : EReal) = ⊤) ∨
      ∃ w : ℝ, 0 < w ∧ (∑ i, x i * x i) * (c : EReal) + (e : EReal) = (w : EReal) := by
  have h0 : 0 ≤ ∑ i, x i * x i := Finset.sum_nonneg fun i _ => mul_self_nonneg (x i)
  generalize (∑ i, x i * x i) = S at h0
  induction S using EReal.rec with
  | bot => simp at h0
  | top => left; rw [EReal.top_mul_coe_of_pos hc]; rfl
  | coe r =>
    right
    have hr : 0 ≤ r := by exact_mod_cast h0
    exact ⟨r * c + e, by positivity, by norm_cast⟩

/-- The reciprocal root of the mean square. -/
def rinv {ι : Type*} [Fintype ι] (c e : EReal) (x : ι → EReal) : EReal :=
  Ideal.rsqrt ((∑ i, x i * x i) * c + e)

/-- It is zero or a positive real whose square times the mean square is one. -/
theorem rinv_cases {ι : Type*} [Fintype ι] (x : ι → EReal) (c e : ℝ) (hc : 0 < c) (he : 0 < e) :
    (rinv (c : EReal) (e : EReal) x = 0 ∧ (∑ i, x i * x i) * (c : EReal) + (e : EReal) = ⊤) ∨
      ∃ w p : ℝ, 0 < w ∧ 0 < p ∧ p / w = p * p * p ∧ rinv (c : EReal) (e : EReal) x = (p : EReal) ∧
        (∑ i, x i * x i) * (c : EReal) + (e : EReal) = (w : EReal) := by
  rcases mean_cases x c e hc he with h | ⟨w, hw, h⟩
  · left; exact ⟨by rw [rinv, h]; rfl, h⟩
  · right
    refine ⟨w, (√w)⁻¹, hw, by positivity, ?_, ?_, h⟩
    · have := Real.sq_sqrt hw.le
      have h3 : √w ≠ 0 := by positivity
      field_simp
      nlinarith
    · rw [rinv, h]
      show (if w < 0 then (⊥ : EReal) else if w = 0 then ⊤ else ((√w)⁻¹ : ℝ)) = _
      rw [if_neg (not_lt.2 hw.le), if_neg hw.ne']

/-- The hand-written gradient of the norm at one entry: `xq` is the entry's value, `a` its weighted cotangent,
`g` the weighted cotangents and `x` the values of its group. -/
def handGrad {ι : Type*} [Fintype ι] (c e : EReal) (x g : ι → EReal) (xq a : EReal) : EReal :=
  rinv c e x * (a - xq * rinv c e x * ((∑ i, g i * (x i * rinv c e x)) * c))

/-- Differentiating the mean, the root and the product gives the hand-written gradient. -/
theorem handGrad_eq {ι : Type*} [Fintype ι] (K c e : ℝ) (hK : 0 < K) (hc : c = 1 / K) (he : 0 < e)
    (x g : ι → EReal) (xq a : EReal) :
    a * Ideal.rsqrt (Ideal.div (∑ i, x i * x i) (K : EReal) + (e : EReal))
        + xq * Ideal.div ((∑ i, x i * g i) * (((-(1 / 2) : ℝ) : EReal) *
            Ideal.div (Ideal.rsqrt (Ideal.div (∑ i, x i * x i) (K : EReal) + (e : EReal)))
              (Ideal.div (∑ i, x i * x i) (K : EReal) + (e : EReal)))) (K : EReal)
        + Ideal.div ((∑ i, x i * g i) * (((-(1 / 2) : ℝ) : EReal) *
            Ideal.div (Ideal.rsqrt (Ideal.div (∑ i, x i * x i) (K : EReal) + (e : EReal)))
              (Ideal.div (∑ i, x i * x i) (K : EReal) + (e : EReal)))) (K : EReal) * xq
      = handGrad (c : EReal) (e : EReal) x g xq a := by
  have hc0 : 0 < c := by rw [hc]; positivity
  have hd : ∀ y : EReal, Ideal.div y (K : EReal) = y * (c : EReal) := fun y => by
    rw [Ideal.div_coe hK.ne', hc]
  simp only [hd]
  rw [show Ideal.rsqrt ((∑ i, x i * x i) * (c : EReal) + (e : EReal)) = rinv (c : EReal) (e : EReal) x from rfl]
  unfold handGrad
  rcases rinv_cases x c e hc0 he with ⟨h, hv⟩ | ⟨w, p, hw, hp, hpw, h, hv⟩
  · rw [h, hv]
    have : Ideal.div (0 : EReal) ⊤ = 0 := by simp [Ideal.div]
    rw [this]; simp
  · rw [h, hv, Ideal.div_coe hw.ne', ← EReal.coe_mul, ← EReal.coe_mul,
      show p * (1 / w) = p * p * p by rw [← hpw]; ring]
    have hs : (∑ i, g i * (x i * (p : EReal))) = (∑ i, x i * g i) * (p : EReal) := by
      rw [sum_mul_coe _ _ _ hp.le]
      exact Finset.sum_congr rfl fun i _ => by rw [← mul_assoc, mul_comm (g i)]
    rw [hs]
    generalize (∑ i, x i * g i) = T
    rw [sub_eq_add_neg, EReal.left_distrib_of_nonneg_of_ne_top (by exact_mod_cast hp.le) (EReal.coe_ne_top p),
      add_assoc, mul_comm a]
    congr 1
    have hz : xq * (T * ((-(1 / 2) * (p * p * p) : ℝ) : EReal) * (c : EReal))
        = (xq * T) * ((-((p * p * p * c) / 2) : ℝ) : EReal) := by
      rw [mul_assoc T, ← EReal.coe_mul, ← mul_assoc, show -(1 / 2) * (p * p * p) * c = -((p * p * p * c) / 2) by ring]
    rw [mul_comm _ xq, hz, half_add_half _ _ (by positivity), mul_neg]
    congr 1
    rw [show p * p * p * c = p * (p * (p * c)) by ring]
    simp only [EReal.coe_mul]
    ac_rfl

/-! ## Groups of 64 columns, two in a 128-column part -/

/-- The `k`-th column of the 64-column group of column `l`. -/
def grp {n : ℕ} (hn : 64 ∣ n) (l : Fin n) (k : Fin 64) : Fin n :=
  ⟨l.val / 64 * 64 + k.val, by have := l.2; have := k.2; omega⟩

/-- A group's members have the same group. -/
theorem grp_grp {n : ℕ} (hn : 64 ∣ n) (l : Fin n) (j k : Fin 64) : grp hn (grp hn l j) k = grp hn l k := by
  apply Fin.ext; have := j.2; have := k.2; simp only [grp]; omega

/-- The kernel's lane test. -/
theorem lane_lt (l : Fin 128) :
    IntOp.cmpi CmpIPredicate.slt (BitVec.ofNat 32 l.val) 64#32 = if l.val < 64 then 1#1 else 0#1 := by
  revert l; decide

/-- The kernel's choice by lane. -/
theorem sel_lane {α : Type} (l : Fin 128) (a b : α) :
    Scalar.select (IntOp.cmpi CmpIPredicate.slt (BitVec.ofNat 32 l.val) 64#32) a b = if l.val < 64 then a else b := by
  rw [lane_lt]; split_ifs <;> rfl

/-- The two half sums, chosen by lane, are the sum over the lane's own group. -/
theorem half_sum (l : Fin 128) (f : Fin 128 → EReal) :
    (if l.val < 64 then ∑ x : Fin 128, (if x.val < 64 then f x else 0)
      else ∑ x : Fin 128, (if x.val < 64 then 0 else f x)) = ∑ k, f (grp (by decide) l k) := by
  have hlo : (∑ x : Fin 128, (if x.val < 64 then f x else 0)) = ∑ k : Fin 64, f ⟨k.val, by omega⟩ := by
    refine (Fin.sum_univ_add (a := 64) (b := 64) _).trans ?_
    simp
    rfl
  have hhi : (∑ x : Fin 128, (if x.val < 64 then 0 else f x)) = ∑ k : Fin 64, f ⟨64 + k.val, by omega⟩ := by
    refine (Fin.sum_univ_add (a := 64) (b := 64) _).trans ?_
    simp
    rfl
  have := l.2
  split_ifs with h
  · rw [hlo]; refine Finset.sum_congr rfl fun k _ => congrArg f (Fin.ext ?_); simp only [grp]; omega
  · rw [hhi]; refine Finset.sum_congr rfl fun k _ => congrArg f (Fin.ext ?_); simp only [grp]; omega

/-- The kernel's reciprocal root, chosen by lane. -/
theorem half_rinv (l : Fin 128) (f : Fin 128 → EReal) (c e : EReal) :
    (if l.val < 64 then Ideal.rsqrt ((∑ x : Fin 128, (if x.val < 64 then f x * f x else 0)) * c + e)
      else Ideal.rsqrt ((∑ x : Fin 128, (if x.val < 64 then 0 else f x * f x)) * c + e))
      = rinv c e fun k => f (grp (by decide) l k) := by
  rw [rinv, ← half_sum l fun x => f x * f x]
  split_ifs <;> rfl

/-- The constants. -/
theorem ofBits_inv64 : Ideal.ofBits .f32 1015021568#32 = ((1 / 64 : ℝ) : EReal) := by
  simp [Ideal.ofBits, Ideal.ieee, -EReal.coe_mul]; norm_num
theorem ofBits_64 : Ideal.ofBits .f32 1115684864#32 = ((64 : ℝ) : EReal) := by
  simp [Ideal.ofBits, Ideal.ieee, -EReal.coe_mul]; norm_num
theorem ofBits_neg_half : Ideal.ofBits .f32 3204448256#32 = ((-(1 / 2) : ℝ) : EReal) := by
  simp [Ideal.ofBits, Ideal.ieee, -EReal.coe_mul]; norm_num
theorem ofBits_eps : ∃ e : ℝ, 0 < e ∧ Ideal.ofBits .f32 897988541#32 = (e : EReal) := by
  refine ⟨8796093 * 2 ^ (-43 : ℤ), by positivity, ?_⟩
  simp [Ideal.ofBits, Ideal.ieee, -EReal.coe_mul]

end NormGrad
end
-- ==== Proof.OutBody.lean ====
module

public import proofs.«01_k».proof.Proof.Gen.KernelIdeal.Value
public import proofs.«01_k».proof.Proof.HalfNorm
public import Idealize.ShloMosaic.Lib.Pipeline.ValueKit
public import Idealize.ShloMosaic.Lib.Pipeline.ReadBack
public import Idealize.ShloMosaic.Lib.Pointwise
public import Idealize.ShloMosaic.Lib.Pointwise.Tactic

/-! # What one block of the output projection's backward pass computes -/

@[expose] public section

set_option maxRecDepth 16384

noncomputable section

namespace Cert.KernelIdeal.Value

open Cert.KernelIdeal Cert.KernelIdeal.Gen Idealize.ShloMosaic Idealize.ShloMosaic.TcCoe Idealize.SL.Sem NormGrad

/-- One row of the three attention outputs side by side. -/
def yCol (a : Fin 256 → EReal) (b : Fin 512 → EReal) (d : Fin 256 → EReal) (q : Fin 1024) : EReal :=
  if h : q.val < 256 then a ⟨q.val, h⟩
  else if h' : q.val < 768 then b ⟨q.val - 256, by omega⟩ else d ⟨q.val - 768, by omega⟩

/-- The two constants of the norm. -/
abbrev inv64 : EReal := Ideal.ofBits .f32 1015021568#32
abbrev eps : EReal := Ideal.ofBits .f32 897988541#32

/-- The gradient at column `q` of a row: `y` its values, `d` the cotangents, `w` the weights. -/
def dyAt (y d w : Fin 1024 → EReal) (q : Fin 1024) : EReal :=
  handGrad inv64 eps (fun k => y (grp (by decide) q k)) (fun k => d (grp (by decide) q k) * w (grp (by decide) q k)) (y q) (d q * w q)

/-- What one row adds to the weights' gradient. -/
def dwAt (y d : Fin 1024 → EReal) (q : Fin 1024) : EReal :=
  d q * (y q * rinv inv64 eps fun k => y (grp (by decide) q k))

/-- The gradient one 128-column part of the rows receives through the half norm. -/
def dyPart (x g : FVec Ideal S512x128 .f32) (w : Vec Ideal S1x128 .f32) : FVec Ideal S512x128 .f32 :=
  k0_pay14 k0_pay4 x (k0_pay6 w) g (k0_pay9 x) (k0_pay10 x)

/-- What the weights of the same part receive from one block of rows. -/
def dwPart (x g : FVec Ideal S512x128 .f32) : FVec Ideal S1x128 .f32 :=
  k0_pay13 k0_pay4 x g (k0_pay9 x) (k0_pay10 x)

/-- A column of a part, as a column of the row. -/
abbrev col (o : ℕ) (ho : o + 128 ≤ 1024) (l : Fin 128) : Fin 1024 := ⟨o + l.val, by omega⟩

theorem grp_col (o : ℕ) (ho : o + 128 ≤ 1024) (h64 : 64 ∣ o) (l : Fin 128) (k : Fin 64) :
    grp (by decide) (col o ho l) k = col o ho (grp (by decide) l k) := by
  apply Fin.ext; simp only [grp, col]; omega

/-- A part of the block's gradient, read off the whole row. -/
theorem dyPart_at (x g : FVec Ideal S512x128 .f32) (w : Vec Ideal S1x128 .f32) (y d : Fin 512 → Fin 1024 → EReal)
    (W : Fin 1024 → EReal) (o : ℕ) (ho : o + 128 ≤ 1024) (h64 : 64 ∣ o)
    (hx : ∀ r l, x (ix2 r l) = y r (col o ho l)) (hg : ∀ r l, g (ix2 r l) = d r (col o ho l))
    (hw : ∀ l, w (ix2 0 l) = W (col o ho l)) (r : Fin 512) (l : Fin 128) :
    dyPart x g w (ix2 r l) = dyAt (y r) (d r) W (col o ho l) := by
  unfold dyPart
  unfold_payloads
  pointwise
  simp only [sel_lane, half_sum]
  simp only [half_rinv (f := fun l' => x (ix2 r l'))]
  simp only [grp_grp, dyAt, handGrad, grp_col o ho h64, ← hx, ← hg, ← hw]

/-- The weights' part, read off the rows. -/
theorem dwPart_at (x g : FVec Ideal S512x128 .f32) (y d : Fin 512 → Fin 1024 → EReal)
    (o : ℕ) (ho : o + 128 ≤ 1024) (h64 : 64 ∣ o)
    (hx : ∀ r l, x (ix2 r l) = y r (col o ho l)) (hg : ∀ r l, g (ix2 r l) = d r (col o ho l)) (l : Fin 128) :
    dwPart x g (ix2 0 l) = ∑ r, dwAt (y r) (d r) (col o ho l) := by
  unfold dwPart
  unfold_payloads
  pointwise
  refine Finset.sum_congr rfl fun r _ => ?_
  simp only [sel_lane]
  simp only [half_rinv (f := fun l' => x (ix2 r l'))]
  simp only [dwAt, grp_col o ho h64, ← hx, ← hg]

/-- A load of 128 columns, entry by entry. -/
theorem ld_at {n m : ℕ} (x : Vec Ideal ⟨2, ![n, m]⟩ .f32) (o : ℕ) (h) (r : Fin n) (l : Fin 128) (hl : o + l.val < m) :
    View.ld x (Rect.unit ![0, o] ![n, 128] h) (ix2 r l) = x (ix2 r ⟨o + l.val, hl⟩) := by
  unfold View.ld
  congr 1
  funext k
  fin_cases k <;> apply Fin.ext <;> simp [Rect.unit, Rect.emb]

/-- Where a part of an array sits. -/
theorem emb_at {n m k o : ℕ} (h) (r : Fin k) (l : Fin 128) (hk : r.val < n) (hl : o + l.val < m) :
    (Rect.unit (s := (⟨2, ![n, m]⟩ : Shape)) ![0, o] ![k, 128] h).emb (ix2 r l) = ix2 ⟨r.val, hk⟩ ⟨o + l.val, hl⟩ := by
  funext k
  fin_cases k <;> apply Fin.ext <;> simp [Rect.unit, Rect.emb]

/-- The rows of a block: the three outputs side by side. -/
def yB (x2 : Vec Ideal S512x256 .f32) (x3 : Vec Ideal S512x512 .f32) (x4 : Vec Ideal S512x256 .f32) (r : Fin 512) : Fin 1024 → EReal :=
  yCol (fun q => x2 (ix2 r q)) (fun q => x3 (ix2 r q)) (fun q => x4 (ix2 r q))

/-- The cotangents of a block: its rows times the transposed weights. -/
def dB (x0 : Vec Ideal S512x1024 .f32) (x1 : Vec Ideal S1024x1024 .f32) (r : Fin 512) (q : Fin 1024) : EReal :=
  ∑ k : Fin 1024, x0 (ix2 r k) * x1 (ix2 q k)

/-- The block of the gradient. -/
def gB (x0 : Vec Ideal S512x1024 .f32) (x1 : Vec Ideal S1024x1024 .f32) (x2 : Vec Ideal S512x256 .f32) (x3 : Vec Ideal S512x512 .f32) (x4 : Vec Ideal S512x256 .f32) (x5 : Vec Ideal S1x1024 .f32) : Vec Ideal S512x1024 .f32 :=
  fun i => dyAt (yB x2 x3 x4 (i 0)) (dB x0 x1 (i 0)) (fun q => x5 (ix2 0 q)) (i 1)

/-- What a block adds to row 0 of the weights' gradient. -/
def accB (x0 : Vec Ideal S512x1024 .f32) (x1 : Vec Ideal S1024x1024 .f32) (x2 : Vec Ideal S512x256 .f32) (x3 : Vec Ideal S512x512 .f32) (x4 : Vec Ideal S512x256 .f32) (o : Vec Ideal S8x1024 .f32) : Vec Ideal S8x1024 .f32 :=
  fun i => if (i 0).val = 0 then o i + ∑ r, dwAt (yB x2 x3 x4 r) (dB x0 x1 r) (i 1) else o i

/-- The cotangents as the kernel computes them. -/
def dv (x0 : Vec Ideal S512x1024 .f32) (x1 : Vec Ideal S1024x1024 .f32) : FVec Ideal S512x1024 .f32 :=
  k0_pay5 (View.ld x0 (Rect.unit ![0, 0] ![512, 1024] inb_S512x1024_S512x1024_0_0)) (View.ld x1 (Rect.unit ![0, 0] ![1024, 1024] inb_S1024x1024_S1024x1024_0_0))

theorem hz : (![0, 0] : Fin 2 → ℕ) = fun _ => 0 := by funext k; fin_cases k <;> rfl

theorem dv_at (x0 x1) (r : Fin 512) (q : Fin 1024) : dv x0 x1 (ix2 r q) = dB x0 x1 r q := by
  unfold dv
  rw [View.ld_unit_zero (S := S512x1024) (off := ![0, 0]) hz, View.ld_unit_zero (S := S1024x1024) (off := ![0, 0]) hz]
  unfold_payloads
  pointwise
  rfl

theorem slice_at (D : FVec Ideal S512x1024 .f32) (o : ℕ) (h) (r : Fin 512) (l : Fin 128) (ho : o + 128 ≤ 1024) :
    extractStridedSlice S512x128 ![0, o] D h (ix2 r l) = D (ix2 r (col o ho l)) := by
  pointwise

/-- One part of the block, from the pieces of the arrays it reads. -/
theorem dy_piece (x0 x1 x2 x3 x4 x5) (X : FVec Ideal S512x128 .f32) (o : ℕ) (ho : o + 128 ≤ 1024) (h64 : 64 ∣ o) (h h' h'')
    (hx : ∀ r l, X (ix2 r l) = yB x2 x3 x4 r (col o ho l)) (x : S512x128.Idx) :
    dyPart X (extractStridedSlice S512x128 ![0, o] (dv x0 x1) h) (View.ld x5 (Rect.unit ![0, o] ![1, 128] h')) x
      = gB x0 x1 x2 x3 x4 x5 ((Rect.unit (s := S512x1024) ![0, o] ![512, 128] h'').emb x) := by
  obtain ⟨r, l, rfl⟩ : ∃ (r : Fin 512) (l : Fin 128), x = ix2 r l := ⟨x 0, x 1, eq_ix2 x⟩
  rw [emb_at _ _ _ r.2 (by omega)]
  refine (dyPart_at X _ _ (yB x2 x3 x4) (dB x0 x1) (fun q => x5 (ix2 0 q)) o ho h64 hx (fun r l => ?_) (fun l => ?_) r l).trans rfl
  · rw [slice_at _ _ _ _ _ ho, dv_at]
  · exact ld_at x5 o h' 0 l (by omega)

/-- One part of the weights' row. -/
theorem dw_piece (x0 x1 x2 x3 x4) (O : Vec Ideal S8x1024 .f32) (X : FVec Ideal S512x128 .f32) (o : ℕ) (ho : o + 128 ≤ 1024) (h64 : 64 ∣ o) (h h' h'')
    (hx : ∀ r l, X (ix2 r l) = yB x2 x3 x4 r (col o ho l)) (x : S1x128.Idx) :
    k0_pay15 (dwPart X (extractStridedSlice S512x128 ![0, o] (dv x0 x1) h)) (View.ld O (Rect.unit ![0, o] ![1, 128] h')) x
      = accB x0 x1 x2 x3 x4 O ((Rect.unit (s := S8x1024) ![0, o] ![1, 128] h'').emb x) := by
  obtain ⟨r, l, rfl⟩ : ∃ (r : Fin 1) (l : Fin 128), x = ix2 r l := ⟨x 0, x 1, eq_ix2 x⟩
  obtain rfl : r = 0 := Subsingleton.elim _ _
  rw [emb_at _ _ _ (by decide) (by omega)]
  unfold k0_pay15
  pointwise
  rw [dwPart_at X _ (yB x2 x3 x4) (dB x0 x1) o ho h64 hx (fun r l => by rw [slice_at _ _ _ _ _ ho, dv_at])]
  rfl

/-- The parts of the rows that come from the first array. -/
theorem yB_lo (x2 x3 x4) (o : ℕ) (ho : o + 128 ≤ 256) (h) (r : Fin 512) (l : Fin 128) :
    View.ld x2 (Rect.unit ![0, o] ![512, 128] h) (ix2 r l) = yB x2 x3 x4 r (col o (by omega) l) := by
  rw [ld_at x2 o h r l (by omega)]
  simp only [yB, yCol, col]
  rw [dif_pos (by omega)]

/-- The parts of the rows that come from the second array. -/
theorem yB_mid (x2 x3 x4) (o : ℕ) (ho : o + 128 ≤ 512) (h) (r : Fin 512) (l : Fin 128) :
    View.ld x3 (Rect.unit ![0, o] ![512, 128] h) (ix2 r l) = yB x2 x3 x4 r (col (256 + o) (by omega) l) := by
  rw [ld_at x3 o h r l (by omega)]
  simp only [yB, yCol, col]
  rw [dif_neg (by omega), dif_pos (by omega)]
  exact congrArg x3 (congrArg (ix2 r) (Fin.ext (by simp only; omega)))

/-- The parts of the rows that come from the third array. -/
theorem yB_hi (x2 x3 x4) (o : ℕ) (ho : o + 128 ≤ 256) (h) (r : Fin 512) (l : Fin 128) :
    View.ld x4 (Rect.unit ![0, o] ![512, 128] h) (ix2 r l) = yB x2 x3 x4 r (col (768 + o) (by omega) l) := by
  rw [ld_at x4 o h r l (by omega)]
  simp only [yB, yCol, col]
  rw [dif_neg (by omega), dif_neg (by omega)]
  exact congrArg x4 (congrArg (ix2 r) (Fin.ext (by simp only; omega)))

theorem out_A_6 (c : Dev nD) (i : grid0.Coords) (a1) (h1 : a1.IsWhole) (a2) (h2 : a2.IsWhole) (a3) (h3 : a3.IsWhole) (a4) (h4 : a4.IsWhole) (a5) (h5 : a5.IsWhole) (a6) (h6 : a6.IsWhole) (a7) (h7 : a7.IsWhole) (a8) (h8 : a8.IsWhole) (hc0)
    (x0 : Vec Ideal S512x1024 .f32) (x1 : Vec Ideal S1024x1024 .f32) (x2 : Vec Ideal S512x256 .f32) (x3 : Vec Ideal S512x512 .f32) (x4 : Vec Ideal S512x256 .f32) (x5 : Vec Ideal S1x1024 .f32) :
    out0_A_6 c i a1 h1 a2 h2 a3 h3 a4 h4 a5 h5 a6 h6 a7 h7 a8 h8 hc0 x0 x1 x2 x3 x4 x5 = gB x0 x1 x2 x3 x4 x5 := by
  funext y
  unfold out0_A_6
  refine View.read_writes_apply_of_pieces _ _ _ _ ?_ y (cover0_A_6 c i a1 h1 a2 h2 a3 h3 a4 h4 a5 h5 a6 h6 a7 h7 a8 h8 hc0 x0 x1 x2 x3 x4 x5 y)
  unfold kernelRun0_A
  dsimp only
  sl_unfold_words
  simp only [View.readAt_eq_ld, h1.read_unread, h2.read_unread, h3.read_unread, h4.read_unread, h5.read_unread, h6.read_unread]
  refine View.PiecesOf.mem ⟨?_, ?_, ?_, ?_, ?_, ?_, ?_, ?_, trivial⟩
  · exact dy_piece x0 x1 x2 x3 x4 x5 _ 896 (by decide) (by decide) slices_S512x1024_o0_896_S512x128 _ inb_S512x1024_S512x128_0_896 (yB_hi x2 x3 x4 128 (by decide) _)
  · exact dy_piece x0 x1 x2 x3 x4 x5 _ 768 (by decide) (by decide) slices_S512x1024_o0_768_S512x128 _ inb_S512x1024_S512x128_0_768 (yB_hi x2 x3 x4 0 (by decide) _)
  · exact dy_piece x0 x1 x2 x3 x4 x5 _ 640 (by decide) (by decide) slices_S512x1024_o0_640_S512x128 _ inb_S512x1024_S512x128_0_640 (yB_mid x2 x3 x4 384 (by decide) _)
  · exact dy_piece x0 x1 x2 x3 x4 x5 _ 512 (by decide) (by decide) slices_S512x1024_o0_512_S512x128 _ inb_S512x1024_S512x128_0_512 (yB_mid x2 x3 x4 256 (by decide) _)
  · exact dy_piece x0 x1 x2 x3 x4 x5 _ 384 (by decide) (by decide) slices_S512x1024_o0_384_S512x128 _ inb_S512x1024_S512x128_0_384 (yB_mid x2 x3 x4 128 (by decide) _)
  · exact dy_piece x0 x1 x2 x3 x4 x5 _ 256 (by decide) (by decide) slices_S512x1024_o0_256_S512x128 _ inb_S512x1024_S512x128_0_256 (yB_mid x2 x3 x4 0 (by decide) _)
  · exact dy_piece x0 x1 x2 x3 x4 x5 _ 128 (by decide) (by decide) slices_S512x1024_o0_128_S512x128 _ inb_S512x1024_S512x128_0_128 (yB_lo x2 x3 x4 128 (by decide) _)
  · exact dy_piece x0 x1 x2 x3 x4 x5 _ 0 (by decide) (by decide) slices_S512x1024_o0_0_S512x128 _ inb_S512x1024_S512x128_0_0 (yB_lo x2 x3 x4 0 (by decide) _)

theorem out_B_6 (c : Dev nD) (i : grid0.Coords) (a1) (h1 : a1.IsWhole) (a2) (h2 : a2.IsWhole) (a3) (h3 : a3.IsWhole) (a4) (h4 : a4.IsWhole) (a5) (h5 : a5.IsWhole) (a6) (h6 : a6.IsWhole) (a7) (h7 : a7.IsWhole) (a8) (h8 : a8.IsWhole) (hc0)
    (x0 : Vec Ideal S512x1024 .f32) (x1 : Vec Ideal S1024x1024 .f32) (x2 : Vec Ideal S512x256 .f32) (x3 : Vec Ideal S512x512 .f32) (x4 : Vec Ideal S512x256 .f32) (x5 : Vec Ideal S1x1024 .f32) (xo7 : Vec Ideal S8x1024 .f32) :
    out0_B_6 c i a1 h1 a2 h2 a3 h3 a4 h4 a5 h5 a6 h6 a7 h7 a8 h8 hc0 x0 x1 x2 x3 x4 x5 xo7 = gB x0 x1 x2 x3 x4 x5 := by
  funext y
  unfold out0_B_6
  refine View.read_writes_apply_of_pieces _ _ _ _ ?_ y (cover0_B_6 c i a1 h1 a2 h2 a3 h3 a4 h4 a5 h5 a6 h6 a7 h7 a8 h8 hc0 x0 x1 x2 x3 x4 x5 xo7 y)
  unfold kernelRun0_B
  dsimp only
  sl_unfold_words
  simp only [View.readAt_eq_ld, h1.read_unread, h2.read_unread, h3.read_unread, h4.read_unread, h5.read_unread, h6.read_unread]
  refine View.PiecesOf.mem ⟨?_, ?_, ?_, ?_, ?_, ?_, ?_, ?_, trivial⟩
  · exact dy_piece x0 x1 x2 x3 x4 x5 _ 896 (by decide) (by decide) slices_S512x1024_o0_896_S512x128 _ inb_S512x1024_S512x128_0_896 (yB_hi x2 x3 x4 128 (by decide) _)
  · exact dy_piece x0 x1 x2 x3 x4 x5 _ 768 (by decide) (by decide) slices_S512x1024_o0_768_S512x128 _ inb_S512x1024_S512x128_0_768 (yB_hi x2 x3 x4 0 (by decide) _)
  · exact dy_piece x0 x1 x2 x3 x4 x5 _ 640 (by decide) (by decide) slices_S512x1024_o0_640_S512x128 _ inb_S512x1024_S512x128_0_640 (yB_mid x2 x3 x4 384 (by decide) _)
  · exact dy_piece x0 x1 x2 x3 x4 x5 _ 512 (by decide) (by decide) slices_S512x1024_o0_512_S512x128 _ inb_S512x1024_S512x128_0_512 (yB_mid x2 x3 x4 256 (by decide) _)
  · exact dy_piece x0 x1 x2 x3 x4 x5 _ 384 (by decide) (by decide) slices_S512x1024_o0_384_S512x128 _ inb_S512x1024_S512x128_0_384 (yB_mid x2 x3 x4 128 (by decide) _)
  · exact dy_piece x0 x1 x2 x3 x4 x5 _ 256 (by decide) (by decide) slices_S512x1024_o0_256_S512x128 _ inb_S512x1024_S512x128_0_256 (yB_mid x2 x3 x4 0 (by decide) _)
  · exact dy_piece x0 x1 x2 x3 x4 x5 _ 128 (by decide) (by decide) slices_S512x1024_o0_128_S512x128 _ inb_S512x1024_S512x128_0_128 (yB_lo x2 x3 x4 128 (by decide) _)
  · exact dy_piece x0 x1 x2 x3 x4 x5 _ 0 (by decide) (by decide) slices_S512x1024_o0_0_S512x128 _ inb_S512x1024_S512x128_0_0 (yB_lo x2 x3 x4 0 (by decide) _)

/-- The eight parts of row 0. -/
def rowRects : List (Rect S8x1024) :=
  [Rect.unit ![0, 896] ![1, 128] inb_S8x1024_S1x128_0_896, Rect.unit ![0, 768] ![1, 128] inb_S8x1024_S1x128_0_768,
    Rect.unit ![0, 640] ![1, 128] inb_S8x1024_S1x128_0_640, Rect.unit ![0, 512] ![1, 128] inb_S8x1024_S1x128_0_512,
    Rect.unit ![0, 384] ![1, 128] inb_S8x1024_S1x128_0_384, Rect.unit ![0, 256] ![1, 128] inb_S8x1024_S1x128_0_256,
    Rect.unit ![0, 128] ![1, 128] inb_S8x1024_S1x128_0_128, Rect.unit ![0, 0] ![1, 128] inb_S8x1024_S1x128_0_0]

/-- A place of row 0 is in one of them, any other place in none. -/
theorem rowRects_cover (y : S8x1024.Idx) :
    ((y 0).val = 0 → ∃ r ∈ rowRects, y ∈ r.set) ∧ ((y 0).val ≠ 0 → ∀ r ∈ rowRects, y ∉ r.set) := by
  have h1 : (y 1).val < 1024 := (y 1).2
  constructor
  · intro h0
    have : ∀ (o : ℕ) (h), o ≤ (y 1).val → (y 1).val < o + 128 → y ∈ (Rect.unit (s := S8x1024) ![0, o] ![1, 128] h).set := by
      intro o h ha hb
      rw [Rect.mem_set_unit]
      intro a; fin_cases a <;> simp <;> omega
    rcases (by omega : (y 1).val / 128 = 0 ∨ (y 1).val / 128 = 1 ∨ (y 1).val / 128 = 2 ∨ (y 1).val / 128 = 3 ∨ (y 1).val / 128 = 4
      ∨ (y 1).val / 128 = 5 ∨ (y 1).val / 128 = 6 ∨ (y 1).val / 128 = 7) with h | h | h | h | h | h | h | h
    all_goals
      first
      | exact ⟨_, by simp only [rowRects, List.mem_cons, true_or, or_true], this 0 inb_S8x1024_S1x128_0_0 (by omega) (by omega)⟩
      | exact ⟨_, by simp only [rowRects, List.mem_cons, true_or, or_true], this 128 inb_S8x1024_S1x128_0_128 (by omega) (by omega)⟩
      | exact ⟨_, by simp only [rowRects, List.mem_cons, true_or, or_true], this 256 inb_S8x1024_S1x128_0_256 (by omega) (by omega)⟩
      | exact ⟨_, by simp only [rowRects, List.mem_cons, true_or, or_true], this 384 inb_S8x1024_S1x128_0_384 (by omega) (by omega)⟩
      | exact ⟨_, by simp only [rowRects, List.mem_cons, true_or, or_true], this 512 inb_S8x1024_S1x128_0_512 (by omega) (by omega)⟩
      | exact ⟨_, by simp only [rowRects, List.mem_cons, true_or, or_true], this 640 inb_S8x1024_S1x128_0_640 (by omega) (by omega)⟩
      | exact ⟨_, by simp only [rowRects, List.mem_cons, true_or, or_true], this 768 inb_S8x1024_S1x128_0_768 (by omega) (by omega)⟩
      | exact ⟨_, by simp only [rowRects, List.mem_cons, true_or, or_true], this 896 inb_S8x1024_S1x128_0_896 (by omega) (by omega)⟩
  · intro h0
    have : ∀ (o : ℕ) (h), y ∉ (Rect.unit (s := S8x1024) ![0, o] ![1, 128] h).set := by
      intro o h hm
      rw [Rect.mem_set_unit] at hm
      have := hm 0
      simp at this
      omega
    intro r hr
    simp only [rowRects, List.mem_cons, List.not_mem_nil, or_false] at hr
    rcases hr with rfl | rfl | rfl | rfl | rfl | rfl | rfl | rfl <;> exact this _ _

/-- Row 0 written in eight parts over what the buffer held. -/
theorem acc_read {sig : RefSig} {κ : Kind} {sp : Space} (v : View sig κ sp S8x1024 .f32) (f : v.ty.Contents (Elt Ideal))
    (O : Vec Ideal S8x1024 .f32) (hf : v.read (Elt Ideal) f = O) (x0 x1 x2 x3 x4)
    (L : List (View.Piece (Elt Ideal) S8x1024 .f32)) (hL : L.map (·.1) = rowRects)
    (hp : View.PiecesOf (accB x0 x1 x2 x3 x4 O) L) : v.read (Elt Ideal) (v.writes (Elt Ideal) f L) = accB x0 x1 x2 x3 x4 O := by
  funext y
  by_cases h0 : (y 0).val = 0
  · obtain ⟨r, hr, hy⟩ := (rowRects_cover y).1 h0
    rw [← hL] at hr
    obtain ⟨p, hpL, rfl⟩ := List.mem_map.mp hr
    exact View.read_writes_apply_of_pieces _ _ _ _ hp.mem y ⟨p, hpL, hy⟩
  · rw [View.read_writes_apply_of_forall_not_mem, hf]
    · simp only [accB, if_neg h0]
    · intro p hpL
      exact (rowRects_cover y).2 h0 _ (hL ▸ List.mem_map.mpr ⟨p, hpL, rfl⟩)

theorem out_B_7 (c : Dev nD) (i : grid0.Coords) (a1) (h1 : a1.IsWhole) (a2) (h2 : a2.IsWhole) (a3) (h3 : a3.IsWhole) (a4) (h4 : a4.IsWhole) (a5) (h5 : a5.IsWhole) (a6) (h6 : a6.IsWhole) (a7) (h7 : a7.IsWhole) (a8) (h8 : a8.IsWhole) (hc0)
    (x0 : Vec Ideal S512x1024 .f32) (x1 : Vec Ideal S1024x1024 .f32) (x2 : Vec Ideal S512x256 .f32) (x3 : Vec Ideal S512x512 .f32) (x4 : Vec Ideal S512x256 .f32) (x5 : Vec Ideal S1x1024 .f32) (xo7 : Vec Ideal S8x1024 .f32) :
    out0_B_7 c i a1 h1 a2 h2 a3 h3 a4 h4 a5 h5 a6 h6 a7 h7 a8 h8 hc0 x0 x1 x2 x3 x4 x5 xo7 = accB x0 x1 x2 x3 x4 xo7 := by
  unfold out0_B_7
  unfold kernelRun0_B
  dsimp only
  sl_unfold_words
  simp only [View.readAt_eq_ld, h1.read_unread, h2.read_unread, h3.read_unread, h4.read_unread, h5.read_unread, h6.read_unread, h8.read_unread]
  refine acc_read _ _ _ (h8.read_unread _) x0 x1 x2 x3 x4 _ rfl ⟨?_, ?_, ?_, ?_, ?_, ?_, ?_, ?_, trivial⟩
  · exact dw_piece x0 x1 x2 x3 x4 _ _ 896 (by decide) (by decide) slices_S512x1024_o0_896_S512x128 _ inb_S8x1024_S1x128_0_896 (yB_hi x2 x3 x4 128 (by decide) _)
  · exact dw_piece x0 x1 x2 x3 x4 _ _ 768 (by decide) (by decide) slices_S512x1024_o0_768_S512x128 _ inb_S8x1024_S1x128_0_768 (yB_hi x2 x3 x4 0 (by decide) _)
  · exact dw_piece x0 x1 x2 x3 x4 _ _ 640 (by decide) (by decide) slices_S512x1024_o0_640_S512x128 _ inb_S8x1024_S1x128_0_640 (yB_mid x2 x3 x4 384 (by decide) _)
  · exact dw_piece x0 x1 x2 x3 x4 _ _ 512 (by decide) (by decide) slices_S512x1024_o0_512_S512x128 _ inb_S8x1024_S1x128_0_512 (yB_mid x2 x3 x4 256 (by decide) _)
  · exact dw_piece x0 x1 x2 x3 x4 _ _ 384 (by decide) (by decide) slices_S512x1024_o0_384_S512x128 _ inb_S8x1024_S1x128_0_384 (yB_mid x2 x3 x4 128 (by decide) _)
  · exact dw_piece x0 x1 x2 x3 x4 _ _ 256 (by decide) (by decide) slices_S512x1024_o0_256_S512x128 _ inb_S8x1024_S1x128_0_256 (yB_mid x2 x3 x4 0 (by decide) _)
  · exact dw_piece x0 x1 x2 x3 x4 _ _ 128 (by decide) (by decide) slices_S512x1024_o0_128_S512x128 _ inb_S8x1024_S1x128_0_128 (yB_lo x2 x3 x4 128 (by decide) _)
  · exact dw_piece x0 x1 x2 x3 x4 _ _ 0 (by decide) (by decide) slices_S512x1024_o0_0_S512x128 _ inb_S8x1024_S1x128_0_0 (yB_lo x2 x3 x4 0 (by decide) _)

theorem off_zero : ∀ a : Fin S8x1024.rank, (![0, 0] : Fin S8x1024.rank → ℕ) a = 0 := by decide

theorem out_A_7 (c : Dev nD) (i : grid0.Coords) (a1) (h1 : a1.IsWhole) (a2) (h2 : a2.IsWhole) (a3) (h3 : a3.IsWhole) (a4) (h4 : a4.IsWhole) (a5) (h5 : a5.IsWhole) (a6) (h6 : a6.IsWhole) (a7) (h7 : a7.IsWhole) (a8) (h8 : a8.IsWhole) (hc0)
    (x0 : Vec Ideal S512x1024 .f32) (x1 : Vec Ideal S1024x1024 .f32) (x2 : Vec Ideal S512x256 .f32) (x3 : Vec Ideal S512x512 .f32) (x4 : Vec Ideal S512x256 .f32) (x5 : Vec Ideal S1x1024 .f32) :
    out0_A_7 c i a1 h1 a2 h2 a3 h3 a4 h4 a5 h5 a6 h6 a7 h7 a8 h8 hc0 x0 x1 x2 x3 x4 x5 = accB x0 x1 x2 x3 x4 (k0_pay3 (F := Ideal)) := by
  unfold out0_A_7
  unfold kernelRun0_A
  dsimp only
  sl_unfold_words
  simp (disch := decide) only [↓View.readCov_skip]
  simp (disch := exact off_zero) only [View.readCov_fill]
  simp only [View.readAt_eq_ld, h1.read_unread, h2.read_unread, h3.read_unread, h4.read_unread, h5.read_unread, h6.read_unread, h8.read_unread]
  refine (congrArg _ (View.writes_append _ _ [_, _, _, _, _, _, _, _] [_])).trans ?_
  refine acc_read _ _ (k0_pay3 (F := Ideal)) ?_ x0 x1 x2 x3 x4 _ rfl ⟨?_, ?_, ?_, ?_, ?_, ?_, ?_, ?_, trivial⟩
  · funext y
    refine (View.read_writes_cons_hit_of_coords _ _ _ _ _ y y (fun a => ?_)).trans ?_
    · fin_cases a <;> simp [Rect.unit]
    · rfl
  · exact dw_piece x0 x1 x2 x3 x4 (k0_pay3 (F := Ideal)) _ 896 (by decide) (by decide) slices_S512x1024_o0_896_S512x128 _ inb_S8x1024_S1x128_0_896 (yB_hi x2 x3 x4 128 (by decide) _)
  · exact dw_piece x0 x1 x2 x3 x4 (k0_pay3 (F := Ideal)) _ 768 (by decide) (by decide) slices_S512x1024_o0_768_S512x128 _ inb_S8x1024_S1x128_0_768 (yB_hi x2 x3 x4 0 (by decide) _)
  · exact dw_piece x0 x1 x2 x3 x4 (k0_pay3 (F := Ideal)) _ 640 (by decide) (by decide) slices_S512x1024_o0_640_S512x128 _ inb_S8x1024_S1x128_0_640 (yB_mid x2 x3 x4 384 (by decide) _)
  · exact dw_piece x0 x1 x2 x3 x4 (k0_pay3 (F := Ideal)) _ 512 (by decide) (by decide) slices_S512x1024_o0_512_S512x128 _ inb_S8x1024_S1x128_0_512 (yB_mid x2 x3 x4 256 (by decide) _)
  · exact dw_piece x0 x1 x2 x3 x4 (k0_pay3 (F := Ideal)) _ 384 (by decide) (by decide) slices_S512x1024_o0_384_S512x128 _ inb_S8x1024_S1x128_0_384 (yB_mid x2 x3 x4 128 (by decide) _)
  · exact dw_piece x0 x1 x2 x3 x4 (k0_pay3 (F := Ideal)) _ 256 (by decide) (by decide) slices_S512x1024_o0_256_S512x128 _ inb_S8x1024_S1x128_0_256 (yB_mid x2 x3 x4 0 (by decide) _)
  · exact dw_piece x0 x1 x2 x3 x4 (k0_pay3 (F := Ideal)) _ 128 (by decide) (by decide) slices_S512x1024_o0_128_S512x128 _ inb_S8x1024_S1x128_0_128 (yB_lo x2 x3 x4 128 (by decide) _)
  · exact dw_piece x0 x1 x2 x3 x4 (k0_pay3 (F := Ideal)) _ 0 (by decide) (by decide) slices_S512x1024_o0_0_S512x128 _ inb_S8x1024_S1x128_0_0 (yB_lo x2 x3 x4 0 (by decide) _)

end Cert.KernelIdeal.Value
end
-- ==== Proof.OutValue.lean ====
module

public import proofs.«01_k».proof.Proof.OutBody

/-! # What the output projection's backward kernel leaves -/

@[expose] public section

set_option maxRecDepth 16384

noncomputable section

namespace Cert.KernelIdeal.Value

open Cert.KernelIdeal Cert.KernelIdeal.Gen Idealize.ShloMosaic Idealize.ShloMosaic.TcCoe Idealize.SL.Sem NormGrad

variable (m : (ℓ : Loc nD τ sig) → Buf (Elt Ideal) ℓ)

/-- Row `r` of block `t`. -/
abbrev rowOf (t : Fin cfg0.N) (r : Fin 512) : Fin 16384 :=
  ⟨512 * t.val + r.val, by have h : cfg0.N = 32 := N_0; have := t.2; omega⟩

/-- The index maps: the blocks of rows follow the grid, the other arrays stand still. -/
theorem idx : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = 0 ∧ win0_5.index t 1 = 0)
    ∧ (win0_6.index t 0 = t.val ∧ win0_6.index t 1 = 0) ∧ (win0_7.index t 0 = 0 ∧ win0_7.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = 0 ∧ win0_5.index t 1 = 0)
    ∧ (win0_6.index t 0 = t.val ∧ win0_6.index t 1 = 0) ∧ (win0_7.index t 0 = 0 ∧ win0_7.index t 1 = 0))

/-- The arguments. -/
abbrev A0 (c : Dev nD) : FVec Ideal S16384x1024 .f32 := m ((c.tc : Thread nD τ).loc main_arg0)
abbrev A1 (c : Dev nD) : FVec Ideal S1024x1024 .f32 := m ((c.tc : Thread nD τ).loc main_arg1)
abbrev A2 (c : Dev nD) : FVec Ideal S16384x256 .f32 := m ((c.tc : Thread nD τ).loc main_arg2)
abbrev A3 (c : Dev nD) : FVec Ideal S16384x512 .f32 := m ((c.tc : Thread nD τ).loc main_arg3)
abbrev A4 (c : Dev nD) : FVec Ideal S16384x256 .f32 := m ((c.tc : Thread nD τ).loc main_arg4)
abbrev A5 (c : Dev nD) : FVec Ideal S1024 .f32 := m ((c.tc : Thread nD τ).loc main_arg5)

/-- A block of the incoming gradient. -/
theorem iblk0_at (c : Dev nD) (t : Fin cfg0.N) (r : Fin 512) (q : Fin 1024) : (iblk m c 0 t : Vec Ideal S512x1024 .f32) (ix2 r q) = A0 m c (ix2 (rowOf t r) q) := by
  have hi := (idx t).1
  unfold iblk
  rw [View.read_apply]
  show V m c main_arg0 _ = _
  rw [V_main_arg0]
  refine congrArg (A0 m c) (funext fun a => Fin.ext ?_)
  match a with
  | ⟨0, _⟩ => show win0_0.index t 0 * 512 + 1 * r.val = 512 * t.val + r.val; rw [hi.1]; omega
  | ⟨1, _⟩ => show win0_0.index t 1 * 1024 + 1 * q.val = q.val; rw [hi.2]; omega

/-- The projection's weights. -/
theorem iblk1_at (c : Dev nD) (t : Fin cfg0.N) (r : Fin 1024) (q : Fin 1024) : (iblk m c 1 t : Vec Ideal S1024x1024 .f32) (ix2 r q) = A1 m c (ix2 r q) := by
  have hi := (idx t).2.1
  unfold iblk
  rw [View.read_apply]
  show V m c main_arg1 _ = _
  rw [V_main_arg1]
  refine congrArg (A1 m c) (funext fun a => Fin.ext ?_)
  match a with
  | ⟨0, _⟩ => show win0_1.index t 0 * 1024 + 1 * r.val = r.val; rw [hi.1]; omega
  | ⟨1, _⟩ => show win0_1.index t 1 * 1024 + 1 * q.val = q.val; rw [hi.2]; omega

/-- A block of the first output. -/
theorem iblk2_at (c : Dev nD) (t : Fin cfg0.N) (r : Fin 512) (q : Fin 256) : (iblk m c 2 t : Vec Ideal S512x256 .f32) (ix2 r q) = A2 m c (ix2 (rowOf t r) q) := by
  have hi := (idx t).2.2.1
  unfold iblk
  rw [View.read_apply]
  show V m c main_arg2 _ = _
  rw [V_main_arg2]
  refine congrArg (A2 m c) (funext fun a => Fin.ext ?_)
  match a with
  | ⟨0, _⟩ => show win0_2.index t 0 * 512 + 1 * r.val = 512 * t.val + r.val; rw [hi.1]; omega
  | ⟨1, _⟩ => show win0_2.index t 1 * 256 + 1 * q.val = q.val; rw [hi.2]; omega

/-- A block of the second output. -/
theorem iblk3_at (c : Dev nD) (t : Fin cfg0.N) (r : Fin 512) (q : Fin 512) : (iblk m c 3 t : Vec Ideal S512x512 .f32) (ix2 r q) = A3 m c (ix2 (rowOf t r) q) := by
  have hi := (idx t).2.2.2.1
  unfold iblk
  rw [View.read_apply]
  show V m c main_arg3 _ = _
  rw [V_main_arg3]
  refine congrArg (A3 m c) (funext fun a => Fin.ext ?_)
  match a with
  | ⟨0, _⟩ => show win0_3.index t 0 * 512 + 1 * r.val = 512 * t.val + r.val; rw [hi.1]; omega
  | ⟨1, _⟩ => show win0_3.index t 1 * 512 + 1 * q.val = q.val; rw [hi.2]; omega

/-- A block of the third output. -/
theorem iblk4_at (c : Dev nD) (t : Fin cfg0.N) (r : Fin 512) (q : Fin 256) : (iblk m c 4 t : Vec Ideal S512x256 .f32) (ix2 r q) = A4 m c (ix2 (rowOf t r) q) := by
  have hi := (idx t).2.2.2.2.1
  unfold iblk
  rw [View.read_apply]
  show V m c main_arg4 _ = _
  rw [V_main_arg4]
  refine congrArg (A4 m c) (funext fun a => Fin.ext ?_)
  match a with
  | ⟨0, _⟩ => show win0_4.index t 0 * 512 + 1 * r.val = 512 * t.val + r.val; rw [hi.1]; omega
  | ⟨1, _⟩ => show win0_4.index t 1 * 256 + 1 * q.val = q.val; rw [hi.2]; omega

/-- The norm's weights, one row. -/
theorem V_v0 (c : Dev nD) : V m c main_v0 = broadcastInDim S1x1024 ![1] Facts₀.bcast_S1024_S1x1024_1 (A5 m c) := by
  show StableHlo.after hostOps0 (fun b => m (c, b)) (Proc.devRef .tc main_v0) = _
  after_results

theorem iblk5_at (c : Dev nD) (t : Fin cfg0.N) (q : Fin 1024) : (iblk m c 5 t : Vec Ideal S1x1024 .f32) (ix2 0 q) = A5 m c (ix1 q) := by
  have hi := (idx t).2.2.2.2.2.1
  unfold iblk
  rw [View.read_apply]
  show V m c main_v0 _ = _
  rw [V_v0]
  refine (congrArg (broadcastInDim S1x1024 ![1] Facts₀.bcast_S1024_S1x1024_1 (A5 m c)) (funext fun a => Fin.ext ?_ : _ = ix2 0 q)).trans ?_
  · match a with
    | ⟨0, _⟩ => show win0_5.index t 0 * 1 + 1 * 0 = 0; rw [hi.1]
    | ⟨1, _⟩ => show win0_5.index t 1 * 1024 + 1 * q.val = q.val; rw [hi.2]; omega
  · pointwise

/-- A row of the attention outputs, of the cotangents, and the weights. -/
def Y (c : Dev nD) (R : Fin 16384) : Fin 1024 → EReal :=
  yCol (fun q => A2 m c (ix2 R q)) (fun q => A3 m c (ix2 R q)) (fun q => A4 m c (ix2 R q))
def D (c : Dev nD) (R : Fin 16384) (q : Fin 1024) : EReal := ∑ k : Fin 1024, A0 m c (ix2 R k) * A1 m c (ix2 q k)
def W (c : Dev nD) (q : Fin 1024) : EReal := A5 m c (ix1 q)

/-- The two results. -/
def G6 (c : Dev nD) : FVec Ideal S16384x1024 .f32 := fun i => dyAt (Y m c (i 0)) (D m c (i 0)) (W m c) (i 1)
def G7 (c : Dev nD) : FVec Ideal S8x1024 .f32 := fun i => if (i 0).val = 0 then ∑ R, dwAt (Y m c R) (D m c R) (i 1) else 0

theorem yB_eq (c : Dev nD) (t : Fin cfg0.N) (r : Fin 512) : yB (iblk m c 2 t) (iblk m c 3 t) (iblk m c 4 t) r = Y m c (rowOf t r) := by
  unfold yB Y
  simp only [iblk2_at, iblk3_at, iblk4_at]

theorem dB_eq (c : Dev nD) (t : Fin cfg0.N) (r : Fin 512) : dB (iblk m c 0 t) (iblk m c 1 t) r = D m c (rowOf t r) := by
  funext q
  unfold dB D
  simp only [iblk0_at, iblk1_at]

theorem outs6 (c : Dev nD) (t : Fin cfg0.N) (i : S512x1024.Idx) : (outsAt0 m c t.val t.isLt).1 i = G6 m c (ix2 (rowOf t (i 0)) (i 1)) := by
  have h : (outsAt0 m c t.val t.isLt).1 = gB (iblk m c 0 t) (iblk m c 1 t) (iblk m c 2 t) (iblk m c 3 t) (iblk m c 4 t) (iblk m c 5 t) := by
    by_cases h0 : t.val % 32 = 0
    · rw [outsAt0_A m c t h0]; dsimp only; rw [out_A_6]
    · rw [outsAt0_B m c t h0]; dsimp only; rw [out_B_6]
  rw [h]
  have hw : (fun q => (iblk m c 5 t : Vec Ideal S1x1024 .f32) (ix2 0 q)) = W m c := funext fun q => iblk5_at m c t q
  show dyAt (yB (iblk m c 2 t) (iblk m c 3 t) (iblk m c 4 t) (i 0)) (dB (iblk m c 0 t) (iblk m c 1 t) (i 0)) (fun q => (iblk m c 5 t : Vec Ideal S1x1024 .f32) (ix2 0 q)) (i 1) = _
  rw [hw]
  exact congrArg₂ (fun y d => dyAt y d (W m c) (i 1)) (yB_eq m c t (i 0)) (dB_eq m c t (i 0))

/-- The gradient's array. -/
theorem final6 (c : Dev nD) : (dats m 0 c).arrAt 6 cfg0.N = G6 m c := by
  refine (dats m 0 c).arrAt_eq_of_cover 6 (G6 m c) (fun t _ => ?_) fun i => ?_
  · rw [flushed6]
    have hi := (idx t).2.2.2.2.2.2.1
    funext j
    rw [View.read_apply]
    refine (outs6 m c t _).trans (congrArg (G6 m c) (funext fun a => Fin.ext ?_))
    match a with
    | ⟨0, _⟩ => show 512 * t.val + (j 0).val = win0_6.index t 0 * 512 + 1 * (j 0).val; rw [hi.1]; omega
    | ⟨1, _⟩ => show (j 1).val = win0_6.index t 1 * 1024 + 1 * (j 1).val; rw [hi.2]; omega
  · have h0 : (i 0 : Nat) < 16384 := (i 0).isLt
    have h1 : (i 1 : Nat) < 1024 := (i 1).isLt
    have hN : cfg0.N = 32 := N_0
    obtain ⟨t, ht⟩ : ∃ t : Fin cfg0.N, t.val = (i 0).val / 512 := ⟨⟨(i 0).val / 512, by omega⟩, rfl⟩
    have hi := (idx t).2.2.2.2.2.2.1
    refine ⟨t, flush0_6 t, ?_⟩
    show i ∈ ((View.whole main_v1_0).slice (win0_6.rect t)).set
    rw [View.set_slice_whole, Rect.mem_set_unit]
    intro a
    match a with
    | ⟨0, _⟩ =>
      show win0_6.index t 0 * 512 ≤ (i 0 : Nat) ∧ (i 0 : Nat) < win0_6.index t 0 * 512 + 512
      rw [hi.1]; omega
    | ⟨1, _⟩ =>
      show win0_6.index t 1 * 1024 ≤ (i 1 : Nat) ∧ (i 1 : Nat) < win0_6.index t 1 * 1024 + 1024
      rw [hi.2]; omega

/-- The weights' row after point `n`: the sum over the blocks up to it. -/
theorem outs7 (c : Dev nD) : ∀ (n : ℕ) (hn : n < cfg0.N) (i : S8x1024.Idx), (outsAt0 m c n hn).2 i
    = if (i 0).val = 0 then ∑ t : Fin (n + 1), ∑ r : Fin 512, dwAt (Y m c (rowOf ⟨t.val, by omega⟩ r)) (D m c (rowOf ⟨t.val, by omega⟩ r)) (i 1) else 0
  | 0, hn, i => by
    rw [outsAt0_A m c ⟨0, hn⟩ rfl]
    dsimp only; rw [out_A_7]
    simp only [accB, yB_eq, dB_eq]
    have hz : k0_pay3 (F := Ideal) i = 0 := by
      obtain ⟨r, q, rfl⟩ : ∃ (r : Fin 8) (q : Fin 1024), i = ix2 r q := ⟨i 0, i 1, eq_ix2 i⟩
      unfold k0_pay3; pointwise
    rw [hz, zero_add]
    split_ifs
    · simp
    · rfl
  | n + 1, hn, i => by
    have hN : cfg0.N = 32 := N_0
    have hB : ¬(⟨n + 1, hn⟩ : Fin cfg0.N).val % 32 = 0 := by dsimp only; omega
    rw [outsAt0_B m c ⟨n + 1, hn⟩ hB]
    dsimp only; rw [out_B_7]
    simp only [accB, yB_eq, dB_eq]
    have := outs7 c n (by omega) i
    simp only [Nat.add_sub_cancel] at this ⊢
    rw [this]
    split_ifs
    · rw [Fin.sum_univ_castSucc (n := n + 1)]; rfl
    · rfl

/-- All rows, block by block. -/
theorem sum_rows (f : Fin 16384 → EReal) : (∑ t : Fin 32, ∑ r : Fin 512, f ⟨512 * t.val + r.val, by omega⟩) = ∑ R, f R := by
  rw [← Fintype.sum_prod_type']
  refine Fintype.sum_equiv (finProdFinEquiv (m := 32) (n := 512)) _ _ fun p => congrArg f (Fin.ext ?_)
  simp only [finProdFinEquiv_apply_val]; omega

/-- The weights' array. -/
theorem final7 (c : Dev nD) : (dats m 0 c).arrAt 7 cfg0.N = G7 m c := by
  have hN : cfg0.N = 32 := N_0
  refine (dats m 0 c).arrAt_eq_of_cover 7 (G7 m c) (fun t hf => ?_) fun i => ?_
  · rw [flushed7]
    have hi := (idx t).2.2.2.2.2.2.2
    have ht : t.val = 31 := by have := (flush0_7 t).mp hf; have := t.2; omega
    funext j
    rw [View.read_apply]
    refine (outs7 m c t.val t.isLt _).trans ?_
    refine Eq.trans ?_ (congrArg (G7 m c) (funext fun a => Fin.ext ?_ : ix2 (n0 := 8) (n1 := 1024) ⟨(j 0).val, (j 0).2⟩ ⟨(j 1).val, (j 1).2⟩ = _))
    · show _ = if (j 0).val = 0 then ∑ R, dwAt (Y m c R) (D m c R) ⟨(j 1).val, (j 1).2⟩ else 0
      rw [← sum_rows]
      obtain ⟨n, hn⟩ := t
      obtain rfl : n = 31 := ht
      rfl
    · match a with
      | ⟨0, _⟩ => show (j 0).val = win0_7.index t 0 * 8 + 1 * (j 0).val; rw [hi.1]; omega
      | ⟨1, _⟩ => show (j 1).val = win0_7.index t 1 * 1024 + 1 * (j 1).val; rw [hi.2]; omega
  · have h0 : (i 0 : Nat) < 8 := (i 0).isLt
    have h1 : (i 1 : Nat) < 1024 := (i 1).isLt
    obtain ⟨t, ht⟩ : ∃ t : Fin cfg0.N, t.val = 31 := ⟨⟨31, by omega⟩, rfl⟩
    have hi := (idx t).2.2.2.2.2.2.2
    refine ⟨t, (flush0_7 t).mpr (by rw [ht]), ?_⟩
    show i ∈ ((View.whole main_v1_1).slice (win0_7.rect t)).set
    rw [View.set_slice_whole, Rect.mem_set_unit]
    intro a
    match a with
    | ⟨0, _⟩ =>
      show win0_7.index t 0 * 8 ≤ (i 0 : Nat) ∧ (i 0 : Nat) < win0_7.index t 0 * 8 + 8
      rw [hi.1]; omega
    | ⟨1, _⟩ =>
      show win0_7.index t 1 * 1024 ≤ (i 1 : Nat) ∧ (i 1 : Nat) < win0_7.index t 1 * 1024 + 1024
      rw [hi.2]; omega

end Cert.KernelIdeal.Value
end
-- ==== Proof.OutRef.lean ====
module

public import proofs.«01_k».proof.Proof.Gen.ReferenceIdeal.Run
public import proofs.«01_k».proof.Proof.OutValue
public import Idealize.ShloMosaic.Lib.Pointwise
public import Idealize.ShloMosaic.Lib.Pointwise.Tactic

/-! # What the output projection's reference leaves -/

@[expose] public section

set_option maxRecDepth 16384

noncomputable section

namespace Cert.ReferenceIdeal.Value

open Cert.ReferenceIdeal Idealize.ShloMosaic Idealize.ShloMosaic.TcCoe Idealize.SL.Sem NormGrad Facts₀

/-- Three neighbouring slices of an array, put side by side again, are the array. -/
theorem cat_slices (D : (⟨S16384x1024, .f32⟩ : BufTy).Contents (Elt Ideal)) :
    (concatenate S16384x1024 1 [⟨S16384x256, (extractStridedSlice S16384x256 ![0, 0] D slices_S16384x1024_S16384x256_0_0 : (⟨S16384x256, .f32⟩ : BufTy).Contents (Elt Ideal))⟩,
      ⟨S16384x512, (extractStridedSlice S16384x512 ![0, 256] D slices_S16384x1024_S16384x512_0_256 : (⟨S16384x512, .f32⟩ : BufTy).Contents (Elt Ideal))⟩,
      ⟨S16384x256, (extractStridedSlice S16384x256 ![0, 768] D slices_S16384x1024_S16384x256_0_768 : (⟨S16384x256, .f32⟩ : BufTy).Contents (Elt Ideal))⟩] concatenates_S16384x256_S16384x512_S16384x256_S16384x1024_d1 : (⟨S16384x1024, .f32⟩ : BufTy).Contents (Elt Ideal)) = D := by
  funext j
  obtain ⟨R, q, rfl⟩ : ∃ (R : Fin 16384) (q : Fin 1024), j = ix2 R q := ⟨j 0, j 1, eq_ix2 j⟩
  pointwise
  split_ifs <;> refine congrArg D (congrArg (ix2 R) (Fin.ext ?_)) <;> simp only [] <;> omega

/-- The three attention outputs side by side. -/
abbrev cat (a2 : (⟨S16384x256, .f32⟩ : BufTy).Contents (Elt Ideal)) (a3 : (⟨S16384x512, .f32⟩ : BufTy).Contents (Elt Ideal)) (a4 : (⟨S16384x256, .f32⟩ : BufTy).Contents (Elt Ideal)) : (⟨S16384x1024, .f32⟩ : BufTy).Contents (Elt Ideal) :=
  concatenate S16384x1024 1 [⟨S16384x256, (a2 : (⟨S16384x256, .f32⟩ : BufTy).Contents (Elt Ideal))⟩, ⟨S16384x512, (a3 : (⟨S16384x512, .f32⟩ : BufTy).Contents (Elt Ideal))⟩, ⟨S16384x256, (a4 : (⟨S16384x256, .f32⟩ : BufTy).Contents (Elt Ideal))⟩] concatenates_S16384x256_S16384x512_S16384x256_S16384x1024_d1

theorem cat_at (a2 a3 a4) (R : Fin 16384) (q : Fin 1024) :
    cat a2 a3 a4 (ix2 R q) = Cert.KernelIdeal.Value.yCol (fun q => a2 (ix2 R q)) (fun q => a3 (ix2 R q)) (fun q => a4 (ix2 R q)) q := by
  unfold cat Cert.KernelIdeal.Value.yCol
  pointwise
  by_cases h : q.val < 256
  · rw [dif_pos h, dif_pos h]
  · rw [dif_neg h, dif_neg h]
    by_cases h' : q.val < 768
    · rw [dif_pos (by omega), dif_pos h']
    · rw [dif_neg (by omega), dif_neg h']
      exact congrArg a4 (congrArg (ix2 R) (Fin.ext (by simp only; omega)))

/-- The rows' gradient from the arguments. -/
def dyOf (a0 : FVec Ideal S16384x1024 .f32) (a1 : FVec Ideal S1024x1024 .f32) (a2 : FVec Ideal S16384x256 .f32) (a3 : FVec Ideal S16384x512 .f32)
    (a4 : FVec Ideal S16384x256 .f32) (a5 : FVec Ideal S1024 .f32) (R : Fin 16384) (q : Fin 1024) : EReal :=
  Cert.KernelIdeal.Value.dyAt (Cert.KernelIdeal.Value.yCol (fun q => a2 (ix2 R q)) (fun q => a3 (ix2 R q)) (fun q => a4 (ix2 R q)))
    (fun q => ∑ k : Fin 1024, a0 (ix2 R k) * a1 (ix2 q k)) (fun q => a5 (ix1 q)) q

/-- The gradient of the rows, entry by entry. -/
theorem ref6 (m : (ℓ : Loc nD τ sig) → Buf (Elt Ideal) ℓ) (c : Dev nD) (R : Fin 16384) (q : Fin 1024) :
    res_main_v48 (F := Ideal) m c (ix2 R q) = dyOf (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (m ((c.tc : Thread nD τ).loc main_arg5)) R q := by
  unfold res_main_v48
  generalize m ((c.tc : Thread nD τ).loc main_arg0) = a0
  generalize m ((c.tc : Thread nD τ).loc main_arg1) = a1
  generalize m ((c.tc : Thread nD τ).loc main_arg2) = a2
  generalize m ((c.tc : Thread nD τ).loc main_arg3) = a3
  generalize m ((c.tc : Thread nD τ).loc main_arg4) = a4
  generalize m ((c.tc : Thread nD τ).loc main_arg5) = a5
  refine (congrFun (cat_slices _) _).trans ?_
  have hy := cat_at a2 a3 a4
  unfold cat at hy
  generalize (concatenate S16384x1024 1 [⟨S16384x256, (a2 : (⟨S16384x256, .f32⟩ : BufTy).Contents (Elt Ideal))⟩, ⟨S16384x512, (a3 : (⟨S16384x512, .f32⟩ : BufTy).Contents (Elt Ideal))⟩, ⟨S16384x256, (a4 : (⟨S16384x256, .f32⟩ : BufTy).Contents (Elt Ideal))⟩] concatenates_S16384x256_S16384x512_S16384x256_S16384x1024_d1 : (⟨S16384x1024, .f32⟩ : BufTy).Contents (Elt Ideal)) = y at hy ⊢
  pointwise
  obtain ⟨e, he, hE⟩ := ofBits_eps
  let b0 : FVec Ideal S16384x1024 .f32 := a0
  let b1 : FVec Ideal S1024x1024 .f32 := a1
  let b5 : FVec Ideal S1024 .f32 := a5
  have := handGrad_eq 64 (1 / 64) e (by norm_num) rfl he (fun k => y (ix2 R (grp (by decide) q k)))
    (fun k => (∑ x : Fin 1024, b0 (ix2 R x) * b1 (ix2 (grp (by decide) q k) x)) * b5 (ix1 (grp (by decide) q k))) (y (ix2 R q)) ((∑ x : Fin 1024, b0 (ix2 R x) * b1 (ix2 q x)) * b5 (ix1 q))
  rw [← ofBits_64, ← ofBits_inv64, ← ofBits_neg_half, ← hE] at this
  unfold dyOf Cert.KernelIdeal.Value.dyAt
  simp only [← hy]
  refine Eq.trans ?_ this
  simp only [Finset.univ_unique, Finset.sum_singleton]
  rfl

/-- Division by sixty-four is multiplication by its inverse. -/
theorem div_64 (s : EReal) : Ideal.div s (Ideal.ofBits .f32 1115684864#32) = s * Ideal.ofBits .f32 1015021568#32 := by
  rw [ofBits_64, ofBits_inv64]
  exact Ideal.div_coe (by norm_num) s

/-- The weights' gradient from the arguments, its row padded to eight rows. -/
def dwOf (a0 : FVec Ideal S16384x1024 .f32) (a1 : FVec Ideal S1024x1024 .f32) (a2 : FVec Ideal S16384x256 .f32) (a3 : FVec Ideal S16384x512 .f32)
    (a4 : FVec Ideal S16384x256 .f32) (k : Fin 8) (q : Fin 1024) : EReal :=
  if k.val = 0 then ∑ R, Cert.KernelIdeal.Value.dwAt (Cert.KernelIdeal.Value.yCol (fun q => a2 (ix2 R q)) (fun q => a3 (ix2 R q)) (fun q => a4 (ix2 R q)))
    (fun q => ∑ x : Fin 1024, a0 (ix2 R x) * a1 (ix2 q x)) q else 0

/-- The reference's run, its results by their entries. -/
theorem run_at (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v48) = (fun i => dyOf (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5)) (i 0) (i 1) : FVec Ideal S16384x1024 .f32)
      ∧ r.2.mem ((c.tc : Thread nD τ).loc main_v50) = (fun i => dwOf (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (i 0) (i 1) : FVec Ideal S8x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans ?_, (h c).2.1.trans ?_, (h c).2.2⟩) (run m ρ)
  · funext i
    obtain ⟨R, q, rfl⟩ : ∃ (R : Fin 16384) (q : Fin 1024), i = ix2 R q := ⟨i 0, i 1, eq_ix2 i⟩
    exact ref6 m c R q
  · funext i
    clear h
    obtain ⟨k, q, rfl⟩ : ∃ (k : Fin 8) (q : Fin 1024), i = ix2 k q := ⟨i 0, i 1, eq_ix2 i⟩
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    generalize m ((c.tc : Thread nD τ).loc main_arg4) = a4
    show _ = dwOf a0 a1 a2 a3 a4 k q
    have hy := cat_at a2 a3 a4
    unfold cat at hy
    unfold dwOf Cert.KernelIdeal.Value.dwAt
    simp only [← hy]
    generalize (concatenate S16384x1024 1 [⟨S16384x256, (a2 : (⟨S16384x256, .f32⟩ : BufTy).Contents (Elt Ideal))⟩, ⟨S16384x512, (a3 : (⟨S16384x512, .f32⟩ : BufTy).Contents (Elt Ideal))⟩, ⟨S16384x256, (a4 : (⟨S16384x256, .f32⟩ : BufTy).Contents (Elt Ideal))⟩] concatenates_S16384x256_S16384x512_S16384x256_S16384x1024_d1 : (⟨S16384x1024, .f32⟩ : BufTy).Contents (Elt Ideal)) = y
    clear hy
    pointwise
    by_cases hk : k.val = 0
    · rw [dif_pos (by omega), if_pos hk]
      refine (Fin.sum_univ_one _).trans (Finset.sum_congr rfl fun R _ => ?_)
      rw [mul_comm]
      refine congrArg (_ * ·) (congrArg (_ * ·) ?_)
      unfold rinv
      exact congrArg (fun s => Ideal.rsqrt (s + Ideal.ofBits FTy.f32 897988541#32)) (div_64 _)
    · rw [dif_neg (by omega), if_neg hk]
      simp [FloatOps.sitofp]

end Cert.ReferenceIdeal.Value
end
-- ==== Proof.OutClaim.lean ====
/- The output projection's backward call: the kernel and its reference leave the same values. -/
module

public import proofs.«01_k».proof.Defs
public import proofs.«01_k».proof.Proof.OutValue
public import proofs.«01_k».proof.Proof.OutRef

/-! # The output projection's claim -/

@[expose] public section

noncomputable section

namespace Cert.Proof

open Idealize.ShloMosaic Idealize.SL.Sem

/-- Both programs end with the same two gradients, their arguments kept. -/
theorem out_algebraic : Cert.algebraic_KernelIdeal_ReferenceIdeal := fun m g m' g' _ he =>
  ⟨fun c => Cert.KernelIdeal.Value.G6 m c, fun c => Cert.KernelIdeal.Value.G7 m c,
    (θ_run Cert.KernelIdeal.defs _ _).mono (fun _ h c => ⟨(h c).1.trans (Cert.KernelIdeal.Value.final6 m c),
      (h c).2.1.trans (Cert.KernelIdeal.Value.final7 m c), (h c).2.2⟩) (Cert.KernelIdeal.Value.run_blocks m g),
    (θ_run Cert.ReferenceIdeal.defs _ _).mono (fun _ h c => by
      obtain ⟨e0, e1, e2, e3, e4, e5⟩ := he c
      refine ⟨(h c).1.trans ?_, (h c).2.1.trans ?_, (h c).2.2⟩
      · rw [e0, e1, e2, e3, e4, e5]; rfl
      · rw [e0, e1, e2, e3, e4]; rfl) (Cert.ReferenceIdeal.Value.run_at m' g')⟩

end Cert.Proof

end
-- ==== Proof.FfnBody.lean ====
module

public import proofs.«01_k».proof.Proof.Gen.FfnKernelIdeal.Value
public import proofs.«01_k».proof.Proof.HalfNorm
public import Idealize.ShloMosaic.Lib.Pipeline.ValueKit
public import Idealize.ShloMosaic.Lib.Pipeline.ReadBack
public import Idealize.ShloMosaic.Lib.Pointwise
public import Idealize.ShloMosaic.Lib.Pointwise.Tactic

/-! # What one point of the gate's backward pass computes -/

@[expose] public section

set_option maxRecDepth 16384

noncomputable section

namespace Cert.FfnKernelIdeal.Value

open Cert.FfnKernelIdeal Cert.FfnKernelIdeal.Gen Idealize.ShloMosaic Idealize.ShloMosaic.TcCoe Idealize.SL.Sem NormGrad

/-- The sigmoid as the kernel writes it. -/
def sgm (u : EReal) : EReal := Ideal.div 1 (1 + Ideal.exp (0 - u))

/-- The gradient of the gate's argument, of the other factor. -/
def duOf (da u t : EReal) : EReal := da * t * (sgm u * (1 + u * (1 - sgm u)))
def dtOf (da u : EReal) : EReal := da * (u * sgm u)

/-- 256 rows of the two gradients and of the product they feed, each as the first sub-block's text has it. -/
def duS (v8 : Vec Ideal S256x1024 .f32) (v9 : Vec Ideal S1x704x1024 .f32) (v14 v16 : Vec Ideal S1x256x704 .f32) : FVec Ideal S1x256x704 .bf16 :=
  k0_pay13 (k0_pay11 v8 v9 v14 v16)
def dtS (v8 : Vec Ideal S256x1024 .f32) (v9 : Vec Ideal S1x704x1024 .f32) (v14 : Vec Ideal S1x256x704 .f32) : FVec Ideal S1x256x704 .bf16 :=
  k0_pay14 (k0_pay8 v8 v9) (k0_pay9 v14) (k0_pay10 v14)
def accS (v8 : Vec Ideal S256x1024 .f32) (v9 : Vec Ideal S1x704x1024 .f32) (v14 v16 : Vec Ideal S1x256x704 .f32) (v43 : Vec Ideal S256x1024 .f32)
    (v44 v48 : Vec Ideal S1x1024x704 .f32) : FVec Ideal S256x1024 .f32 :=
  k0_pay15 (k0_pay8 v8 v9) (k0_pay9 v14) (k0_pay10 v14) (k0_pay11 v8 v9 v14 v16) v43 v44 v48

theorem duS_at (v8 v9 v14 v16) (r : Fin 256) (f : Fin 704) :
    duS v8 v9 v14 v16 (ix3 0 r f) = duOf (∑ k : Fin 1024, v8 (ix2 r k) * v9 (ix3 0 f k)) (v14 (ix3 0 r f)) (v16 (ix3 0 r f)) := by
  unfold duS duOf sgm
  unfold_payloads
  pointwise

theorem dtS_at (v8 v9 v14) (r : Fin 256) (f : Fin 704) :
    dtS v8 v9 v14 (ix3 0 r f) = dtOf (∑ k : Fin 1024, v8 (ix2 r k) * v9 (ix3 0 f k)) (v14 (ix3 0 r f)) := by
  unfold dtS dtOf sgm
  unfold_payloads
  pointwise

theorem accS_at (v8 v9 v14 v16 v43 v44 v48) (r : Fin 256) (q : Fin 1024) :
    accS v8 v9 v14 v16 v43 v44 v48 (ix2 r q)
      = v43 (ix2 r q) + ((∑ f : Fin 704, duOf (∑ k : Fin 1024, v8 (ix2 r k) * v9 (ix3 0 f k)) (v14 (ix3 0 r f)) (v16 (ix3 0 r f)) * v44 (ix3 0 q f))
        + ∑ f : Fin 704, dtOf (∑ k : Fin 1024, v8 (ix2 r k) * v9 (ix3 0 f k)) (v14 (ix3 0 r f)) * v48 (ix3 0 q f)) := by
  unfold accS duOf dtOf sgm
  unfold_payloads
  pointwise

/-- The other sub-blocks' texts are the first's. -/
theorem du2 (v8 v9 v14 v16) : k0_pay21 (F := Ideal) (k0_pay16 v8 v9) v14 v16 = duS v8 v9 v14 v16 := rfl
theorem du3 (v8 v9 v14 v16) : k0_pay31 (F := Ideal) (k0_pay29 v8 v9 v14 v16) = duS v8 v9 v14 v16 := rfl
theorem du4 (v8 v9 v14 v16) : k0_pay40 (F := Ideal) (k0_pay34 v8 v9) (k0_pay35 v14) (k0_pay36 v16) = duS v8 v9 v14 v16 := rfl
theorem dt2 (v8 v9 v14) : k0_pay22 (F := Ideal) (k0_pay16 v8 v9) v14 = dtS v8 v9 v14 := rfl
theorem dt3 (v8 v9 v14) : k0_pay32 (F := Ideal) (k0_pay30 v8 v9 v14) = dtS v8 v9 v14 := rfl
theorem dt4 (v8 v9 v14) : k0_pay41 (F := Ideal) (k0_pay34 v8 v9) (k0_pay35 v14) = dtS v8 v9 v14 := rfl
theorem acc2 (v8 v9 v14 v16 v43 v44 v48) : k0_pay25 (F := Ideal) (k0_pay20 (k0_pay16 v8 v9) v14) v43 (k0_pay23 (k0_pay16 v8 v9) v14 v16 v44) (k0_pay24 v48)
    = accS v8 v9 v14 v16 v43 v44 v48 := rfl
theorem acc3 (v8 v9 v14 v16 v43 v44 v48) : k0_pay33 (F := Ideal) (k0_pay29 v8 v9 v14 v16) (k0_pay30 v8 v9 v14) v43 v44 v48
    = accS v8 v9 v14 v16 v43 v44 v48 := rfl
theorem acc4 (v8 v9 v14 v16 v43 v44 v48) : k0_pay1 (F := Ideal) (k0_pay42 (k0_pay34 v8 v9) (k0_pay35 v14) (k0_pay36 v16) v43 v44 v48)
    = accS v8 v9 v14 v16 v43 v44 v48 := rfl

/-- The norm's constants, its gradient at column `q` of a row and what the row adds to the weights' gradient. -/
abbrev k1024 : EReal := Ideal.ofBits .f32 1149239296#32
abbrev eps : EReal := Ideal.ofBits .f32 897988541#32
def rn (x : Fin 1024 → EReal) : EReal := Ideal.rsqrt (Ideal.div (∑ k, x k * x k) k1024 + eps)
def rowGrad (x w d : Fin 1024 → EReal) (q : Fin 1024) : EReal :=
  rn x * (d q * w q - x q * rn x * Ideal.div (∑ k, d k * w k * (x k * rn x)) k1024)

theorem pay4_at (v207 v208 v210 v236) (r q : Fin 1024) :
    k0_pay4 (F := Ideal) v207 v208 v210 v236 (ix2 r q)
      = v236 (ix2 r q) + rowGrad (fun k => v207 (ix2 r k)) (fun k => v208 (ix2 0 k)) (fun k => v210 (ix2 r k)) q := by
  unfold rowGrad rn
  unfold_payloads
  pointwise

theorem pay5_at (v207 v210 v239) (q : Fin 1024) :
    k0_pay5 (F := Ideal) v207 v210 v239 (ix2 0 q)
      = v239 (ix2 0 q) + ∑ r : Fin 1024, v210 (ix2 r q) * (v207 (ix2 r q) * rn (fun k => v207 (ix2 r k))) := by
  unfold rn
  unfold_payloads
  pointwise

theorem hz3 : (![0, 0, 0] : Fin 3 → ℕ) = fun _ => 0 := by funext k; fin_cases k <;> rfl
theorem hz2 : (![0, 0] : Fin 2 → ℕ) = fun _ => 0 := by funext k; fin_cases k <;> rfl

/-- A load of 256 rows, entry by entry. -/
theorem ld2_at (x : Vec Ideal S1024x1024 .f32) (o : ℕ) (h) (r : Fin 256) (q : Fin 1024) (ho : o + r.val < 1024) :
    View.ld x (Rect.unit ![o, 0] ![256, 1024] h) (ix2 r q) = x (ix2 ⟨o + r.val, ho⟩ q) := by
  unfold View.ld
  congr 1
  funext k
  fin_cases k <;> apply Fin.ext <;> simp [Rect.unit, Rect.emb]

theorem ld3_at (x : Vec Ideal S1x1024x704 .f32) (o : ℕ) (h) (r : Fin 256) (f : Fin 704) (ho : o + r.val < 1024) :
    View.ld x (Rect.unit ![0, o, 0] ![1, 256, 704] h) (ix3 0 r f) = x (ix3 0 ⟨o + r.val, ho⟩ f) := by
  unfold View.ld
  congr 1
  funext k
  fin_cases k <;> apply Fin.ext <;> simp [Rect.unit, Rect.emb]

/-- Where 256 rows of an array sit. -/
theorem emb2_at (o : ℕ) (h) (r : Fin 256) (q : Fin 1024) (ho : o + r.val < 1024) :
    (Rect.unit (s := S1024x1024) ![o, 0] ![256, 1024] h).emb (ix2 r q) = ix2 ⟨o + r.val, ho⟩ q := by
  funext k
  fin_cases k <;> apply Fin.ext <;> simp [Rect.unit, Rect.emb]

theorem emb3_at (o : ℕ) (h) (r : Fin 256) (f : Fin 704) (ho : o + r.val < 1024) :
    (Rect.unit (s := S1x1024x704) ![0, o, 0] ![1, 256, 704] h).emb (ix3 0 r f) = ix3 0 ⟨o + r.val, ho⟩ f := by
  funext k
  fin_cases k <;> apply Fin.ext <;> simp [Rect.unit, Rect.emb]

/-- The cotangent of the gated product, on a point's rows and shard. -/
def daB (x0 : Vec Ideal S1024x1024 .f32) (x5 : Vec Ideal S1x704x1024 .f32) (r : Fin 1024) (f : Fin 704) : EReal :=
  ∑ k : Fin 1024, x0 (ix2 r k) * x5 (ix3 0 f k)

/-- The two gradients on a point's block. -/
def duB (x0 : Vec Ideal S1024x1024 .f32) (x5 : Vec Ideal S1x704x1024 .f32) (x6 x7 : Vec Ideal S1x1024x704 .f32) : Vec Ideal S1x1024x704 .bf16 :=
  fun i => duOf (daB x0 x5 (i 1) (i 2)) (x6 (ix3 0 (i 1) (i 2))) (x7 (ix3 0 (i 1) (i 2)))
def dtB (x0 : Vec Ideal S1024x1024 .f32) (x5 : Vec Ideal S1x704x1024 .f32) (x6 : Vec Ideal S1x1024x704 .f32) : Vec Ideal S1x1024x704 .bf16 :=
  fun i => dtOf (daB x0 x5 (i 1) (i 2)) (x6 (ix3 0 (i 1) (i 2)))

/-- What a point adds to the rows' accumulator. -/
def addB (x0 : Vec Ideal S1024x1024 .f32) (x3 x4 : Vec Ideal S1x1024x704 .f32) (x5 : Vec Ideal S1x704x1024 .f32) (x6 x7 : Vec Ideal S1x1024x704 .f32)
    (r q : Fin 1024) : EReal :=
  (∑ f : Fin 704, duOf (daB x0 x5 r f) (x6 (ix3 0 r f)) (x7 (ix3 0 r f)) * x3 (ix3 0 q f))
    + ∑ f : Fin 704, dtOf (daB x0 x5 r f) (x6 (ix3 0 r f)) * x4 (ix3 0 q f)
def accB (x0 : Vec Ideal S1024x1024 .f32) (x3 x4 : Vec Ideal S1x1024x704 .f32) (x5 : Vec Ideal S1x704x1024 .f32) (x6 x7 : Vec Ideal S1x1024x704 .f32)
    (a : Vec Ideal S1024x1024 .f32) : Vec Ideal S1024x1024 .f32 :=
  fun i => a i + addB x0 x3 x4 x5 x6 x7 (i 0) (i 1)

/-- The sub-block of 256 rows from `o`, as a part of the point's block. -/
theorem du_piece (x0 x5 x6 x7) (o : ℕ) (ho : o + 256 ≤ 1024) (h0 h5 h6 h7 h8) (x : S1x256x704.Idx) :
    duS (View.ld x0 (Rect.unit ![o, 0] ![256, 1024] h0)) (View.ld x5 (Rect.unit ![0, 0, 0] ![1, 704, 1024] h5))
        (View.ld x6 (Rect.unit ![0, o, 0] ![1, 256, 704] h6)) (View.ld x7 (Rect.unit ![0, o, 0] ![1, 256, 704] h7)) x
      = duB x0 x5 x6 x7 ((Rect.unit (s := S1x1024x704) ![0, o, 0] ![1, 256, 704] h8).emb x) := by
  obtain ⟨z, r, f, rfl⟩ : ∃ (z : Fin 1) (r : Fin 256) (f : Fin 704), x = ix3 z r f := ⟨x 0, x 1, x 2, eq_ix3 x⟩
  obtain rfl : z = 0 := Subsingleton.elim _ _
  rw [emb3_at _ _ _ _ (by omega), duS_at, ld3_at _ _ _ _ _ (by omega), ld3_at _ _ _ _ _ (by omega), View.ld_unit_zero (S := S1x704x1024) (off := ![0, 0, 0]) hz3]
  simp only [ld2_at x0 o h0 r _ (by omega)]
  rfl

theorem dt_piece (x0 x5 x6) (o : ℕ) (ho : o + 256 ≤ 1024) (h0 h5 h6 h8) (x : S1x256x704.Idx) :
    dtS (View.ld x0 (Rect.unit ![o, 0] ![256, 1024] h0)) (View.ld x5 (Rect.unit ![0, 0, 0] ![1, 704, 1024] h5))
        (View.ld x6 (Rect.unit ![0, o, 0] ![1, 256, 704] h6)) x
      = dtB x0 x5 x6 ((Rect.unit (s := S1x1024x704) ![0, o, 0] ![1, 256, 704] h8).emb x) := by
  obtain ⟨z, r, f, rfl⟩ : ∃ (z : Fin 1) (r : Fin 256) (f : Fin 704), x = ix3 z r f := ⟨x 0, x 1, x 2, eq_ix3 x⟩
  obtain rfl : z = 0 := Subsingleton.elim _ _
  rw [emb3_at _ _ _ _ (by omega), dtS_at, ld3_at _ _ _ _ _ (by omega), View.ld_unit_zero (S := S1x704x1024) (off := ![0, 0, 0]) hz3]
  simp only [ld2_at x0 o h0 r _ (by omega)]
  rfl

theorem acc_piece (x0 x3 x4 x5 x6 x7 a) (o : ℕ) (ho : o + 256 ≤ 1024) (h0 h3 h4 h5 h6 h7 ha h8) (x : S256x1024.Idx) :
    accS (View.ld x0 (Rect.unit ![o, 0] ![256, 1024] h0)) (View.ld x5 (Rect.unit ![0, 0, 0] ![1, 704, 1024] h5))
        (View.ld x6 (Rect.unit ![0, o, 0] ![1, 256, 704] h6)) (View.ld x7 (Rect.unit ![0, o, 0] ![1, 256, 704] h7))
        (View.ld a (Rect.unit ![o, 0] ![256, 1024] ha)) (View.ld x3 (Rect.unit ![0, 0, 0] ![1, 1024, 704] h3)) (View.ld x4 (Rect.unit ![0, 0, 0] ![1, 1024, 704] h4)) x
      = accB x0 x3 x4 x5 x6 x7 a ((Rect.unit (s := S1024x1024) ![o, 0] ![256, 1024] h8).emb x) := by
  obtain ⟨r, q, rfl⟩ : ∃ (r : Fin 256) (q : Fin 1024), x = ix2 r q := ⟨x 0, x 1, eq_ix2 x⟩
  rw [emb2_at _ _ _ _ (by omega), accS_at, ld2_at a _ _ _ _ (by omega), View.ld_unit_zero (S := S1x704x1024) (off := ![0, 0, 0]) hz3,
    View.ld_unit_zero (S := S1x1024x704) (off := ![0, 0, 0]) hz3, View.ld_unit_zero (S := S1x1024x704) (off := ![0, 0, 0]) hz3]
  simp only [ld2_at x0 o h0 r _ (by omega), ld3_at x6 o h6 r _ (by omega), ld3_at x7 o h7 r _ (by omega)]
  rfl

/-- The four sub-blocks of rows. -/
def rowRects : List (Rect S1024x1024) :=
  [Rect.unit ![768, 0] ![256, 1024] inb_S1024x1024_S256x1024_768_0, Rect.unit ![512, 0] ![256, 1024] inb_S1024x1024_S256x1024_512_0,
    Rect.unit ![256, 0] ![256, 1024] inb_S1024x1024_S256x1024_256_0, Rect.unit ![0, 0] ![256, 1024] inb_S1024x1024_S256x1024_0_0]

/-- Stores into all four cover the array. -/
theorem rows_cover (L : List (View.Piece (Elt Ideal) S1024x1024 .f32)) (hL : L.map (·.1) = rowRects) (y : S1024x1024.Idx) : ∃ p ∈ L, y ∈ p.1.set := by
  have h0 : (y 0).val < 1024 := (y 0).2
  have h1 : (y 1).val < 1024 := (y 1).2
  have : ∀ (o : ℕ) (h), o ≤ (y 0).val → (y 0).val < o + 256 → y ∈ (Rect.unit (s := S1024x1024) ![o, 0] ![256, 1024] h).set := by
    intro o h ha hb
    rw [Rect.mem_set_unit]
    intro a; fin_cases a <;> simp <;> omega
  have hr : ∃ r ∈ rowRects, y ∈ r.set := by
    rcases (by omega : 768 ≤ (y 0).val ∨ (512 ≤ (y 0).val ∧ (y 0).val < 768) ∨ (256 ≤ (y 0).val ∧ (y 0).val < 512) ∨ (y 0).val < 256) with h | h | h | h
    · exact ⟨_, by simp only [rowRects, List.mem_cons, true_or, or_true], this 768 inb_S1024x1024_S256x1024_768_0 (by omega) (by omega)⟩
    · exact ⟨_, by simp only [rowRects, List.mem_cons, true_or, or_true], this 512 inb_S1024x1024_S256x1024_512_0 (by omega) (by omega)⟩
    · exact ⟨_, by simp only [rowRects, List.mem_cons, true_or, or_true], this 256 inb_S1024x1024_S256x1024_256_0 (by omega) (by omega)⟩
    · exact ⟨_, by simp only [rowRects, List.mem_cons, true_or, or_true], this 0 inb_S1024x1024_S256x1024_0_0 (by omega) (by omega)⟩
  obtain ⟨r, hr, hy⟩ := hr
  rw [← hL] at hr
  obtain ⟨p, hpL, rfl⟩ := List.mem_map.mp hr
  exact ⟨p, hpL, hy⟩

/-- A load of the accumulator after its four sub-blocks were stored. -/
theorem acc_load {κ : Kind} {sp : Space} (v : View sig κ sp S1024x1024 .f32) (G : Vec Ideal S1024x1024 .f32)
    (L : List (View.Piece (Elt Ideal) S1024x1024 .f32)) (hL : L.map (·.1) = rowRects) (hp : View.PiecesOf G L) (h) :
    v.readCov L (Rect.unit ![0, 0] ![1024, 1024] h).toLoadRect = G := by
  rw [View.readCov_eq_canon_ld v L _ (rows_cover L hL), View.ld_unit_zero (S := S1024x1024) (off := ![0, 0]) hz2]
  funext y
  have := View.canon_append_of_piecesOf G [] L hp y (rows_cover L hL y)
  rwa [List.append_nil] at this

section cases

variable (c : Dev nD) (i : grid0.Coords) (a2 : Memref sig .tc .vmem S1024x1024 .f32) (h2 : a2.IsWhole) (a3 : Memref sig .tc .vmem S1024x1024 .f32) (h3 : a3.IsWhole)
  (a4 : Memref sig .tc .vmem S1x1024 .f32) (h4 : a4.IsWhole) (a5 : Memref sig .tc .vmem S1x1024x704 .f32) (h5 : a5.IsWhole)
  (a6 : Memref sig .tc .vmem S1x1024x704 .f32) (h6 : a6.IsWhole) (a7 : Memref sig .tc .vmem S1x704x1024 .f32) (h7 : a7.IsWhole)
  (a8 : Memref sig .tc .vmem S1x1024x704 .f32) (h8 : a8.IsWhole) (a9 : Memref sig .tc .vmem S1x1024x704 .f32) (h9 : a9.IsWhole)
  (a10 : Memref sig .tc .vmem S1x1024x704 .bf16) (h10 : a10.IsWhole) (a11 : Memref sig .tc .vmem S1x1024x704 .bf16) (h11 : a11.IsWhole)
  (a12 : Memref sig .tc .vmem S1024x1024 .f32) (h12 : a12.IsWhole) (a13 : Memref sig .tc .vmem S8x1024 .f32) (h13 : a13.IsWhole)
  (a14 : Memref sig .tc .vmem S1024x1024 .f32) (h14 : a14.IsWhole)
  (x0 x1 : Vec Ideal S1024x1024 .f32) (x2 : Vec Ideal S1x1024 .f32) (x3 x4 : Vec Ideal S1x1024x704 .f32) (x5 : Vec Ideal S1x704x1024 .f32)
  (x6 x7 : Vec Ideal S1x1024x704 .f32) (xo : Vec Ideal S8x1024 .f32) (xs : Vec Ideal S1024x1024 .f32)

theorem out_A_8 (hc0 hc1 hc2) : out0_A_8 c i a2 h2 a3 h3 a4 h4 a5 h5 a6 h6 a7 h7 a8 h8 a9 h9 a10 h10 a11 h11 a12 h12 a13 h13 a14 h14 hc0 hc1 hc2 x0 x1 x2 x3 x4 x5 x6 x7
    = duB x0 x5 x6 x7 := by
  funext y
  unfold out0_A_8
  refine View.read_writes_apply_of_pieces _ _ _ _ ?_ y (cover0_A_8 c i a2 h2 a3 h3 a4 h4 a5 h5 a6 h6 a7 h7 a8 h8 a9 h9 a10 h10 a11 h11 a12 h12 a13 h13 a14 h14 hc0 hc1 hc2 x0 x1 x2 x3 x4 x5 x6 x7 y)
  unfold kernelRun0_A
  dsimp only
  sl_unfold_words
  simp only [View.readAt_eq_ld, h2.read_unread, h7.read_unread, h8.read_unread, h9.read_unread]
  refine View.PiecesOf.mem ⟨?_, ?_, ?_, ?_, trivial⟩
  · exact du_piece x0 x5 x6 x7 768 (by decide) _ _ _ _ inb_S1x1024x704_S1x256x704_0_768_0
  · exact du_piece x0 x5 x6 x7 512 (by decide) _ _ _ _ inb_S1x1024x704_S1x256x704_0_512_0
  · exact du_piece x0 x5 x6 x7 256 (by decide) _ _ _ _ inb_S1x1024x704_S1x256x704_0_256_0
  · exact du_piece x0 x5 x6 x7 0 (by decide) _ _ _ _ inb_S1x1024x704_S1x256x704_0_0_0

theorem out_A_9 (hc0 hc1 hc2) : out0_A_9 c i a2 h2 a3 h3 a4 h4 a5 h5 a6 h6 a7 h7 a8 h8 a9 h9 a10 h10 a11 h11 a12 h12 a13 h13 a14 h14 hc0 hc1 hc2 x0 x1 x2 x3 x4 x5 x6 x7
    = dtB x0 x5 x6 := by
  funext y
  unfold out0_A_9
  refine View.read_writes_apply_of_pieces _ _ _ _ ?_ y (cover0_A_9 c i a2 h2 a3 h3 a4 h4 a5 h5 a6 h6 a7 h7 a8 h8 a9 h9 a10 h10 a11 h11 a12 h12 a13 h13 a14 h14 hc0 hc1 hc2 x0 x1 x2 x3 x4 x5 x6 x7 y)
  unfold kernelRun0_A
  dsimp only
  sl_unfold_words
  simp only [View.readAt_eq_ld, h2.read_unread, h7.read_unread, h8.read_unread]
  refine View.PiecesOf.mem ⟨?_, ?_, ?_, ?_, trivial⟩
  · exact dt_piece x0 x5 x6 768 (by decide) _ _ _ inb_S1x1024x704_S1x256x704_0_768_0
  · exact dt_piece x0 x5 x6 512 (by decide) _ _ _ inb_S1x1024x704_S1x256x704_0_512_0
  · exact dt_piece x0 x5 x6 256 (by decide) _ _ _ inb_S1x1024x704_S1x256x704_0_256_0
  · exact dt_piece x0 x5 x6 0 (by decide) _ _ _ inb_S1x1024x704_S1x256x704_0_0_0

theorem out_B_8 (hc0 hc1 hc2) : out0_B_8 c i a2 h2 a3 h3 a4 h4 a5 h5 a6 h6 a7 h7 a8 h8 a9 h9 a10 h10 a11 h11 a12 h12 a13 h13 a14 h14 hc0 hc1 hc2 x0 x1 x2 x3 x4 x5 x6 x7 xs
    = duB x0 x5 x6 x7 := by
  funext y
  unfold out0_B_8
  refine View.read_writes_apply_of_pieces _ _ _ _ ?_ y (cover0_B_8 c i a2 h2 a3 h3 a4 h4 a5 h5 a6 h6 a7 h7 a8 h8 a9 h9 a10 h10 a11 h11 a12 h12 a13 h13 a14 h14 hc0 hc1 hc2 x0 x1 x2 x3 x4 x5 x6 x7 xs y)
  unfold kernelRun0_B
  dsimp only
  sl_unfold_words
  simp only [View.readAt_eq_ld, h2.read_unread, h7.read_unread, h8.read_unread, h9.read_unread]
  refine View.PiecesOf.mem ⟨?_, ?_, ?_, ?_, trivial⟩
  · exact du_piece x0 x5 x6 x7 768 (by decide) _ _ _ _ inb_S1x1024x704_S1x256x704_0_768_0
  · exact du_piece x0 x5 x6 x7 512 (by decide) _ _ _ _ inb_S1x1024x704_S1x256x704_0_512_0
  · exact du_piece x0 x5 x6 x7 256 (by decide) _ _ _ _ inb_S1x1024x704_S1x256x704_0_256_0
  · exact du_piece x0 x5 x6 x7 0 (by decide) _ _ _ _ inb_S1x1024x704_S1x256x704_0_0_0

theorem out_B_9 (hc0 hc1 hc2) : out0_B_9 c i a2 h2 a3 h3 a4 h4 a5 h5 a6 h6 a7 h7 a8 h8 a9 h9 a10 h10 a11 h11 a12 h12 a13 h13 a14 h14 hc0 hc1 hc2 x0 x1 x2 x3 x4 x5 x6 x7 xs
    = dtB x0 x5 x6 := by
  funext y
  unfold out0_B_9
  refine View.read_writes_apply_of_pieces _ _ _ _ ?_ y (cover0_B_9 c i a2 h2 a3 h3 a4 h4 a5 h5 a6 h6 a7 h7 a8 h8 a9 h9 a10 h10 a11 h11 a12 h12 a13 h13 a14 h14 hc0 hc1 hc2 x0 x1 x2 x3 x4 x5 x6 x7 xs y)
  unfold kernelRun0_B
  dsimp only
  sl_unfold_words
  simp only [View.readAt_eq_ld, h2.read_unread, h7.read_unread, h8.read_unread]
  refine View.PiecesOf.mem ⟨?_, ?_, ?_, ?_, trivial⟩
  · exact dt_piece x0 x5 x6 768 (by decide) _ _ _ inb_S1x1024x704_S1x256x704_0_768_0
  · exact dt_piece x0 x5 x6 512 (by decide) _ _ _ inb_S1x1024x704_S1x256x704_0_512_0
  · exact dt_piece x0 x5 x6 256 (by decide) _ _ _ inb_S1x1024x704_S1x256x704_0_256_0
  · exact dt_piece x0 x5 x6 0 (by decide) _ _ _ inb_S1x1024x704_S1x256x704_0_0_0

theorem out_C_8 (hc0 hc1 hc2) : out0_C_8 c i a2 h2 a3 h3 a4 h4 a5 h5 a6 h6 a7 h7 a8 h8 a9 h9 a10 h10 a11 h11 a12 h12 a13 h13 a14 h14 hc0 hc1 hc2 x0 x1 x2 x3 x4 x5 x6 x7 xo xs
    = duB x0 x5 x6 x7 := by
  funext y
  unfold out0_C_8
  refine View.read_writes_apply_of_pieces _ _ _ _ ?_ y (cover0_C_8 c i a2 h2 a3 h3 a4 h4 a5 h5 a6 h6 a7 h7 a8 h8 a9 h9 a10 h10 a11 h11 a12 h12 a13 h13 a14 h14 hc0 hc1 hc2 x0 x1 x2 x3 x4 x5 x6 x7 xo xs y)
  unfold kernelRun0_C
  dsimp only
  sl_unfold_words
  simp only [View.readAt_eq_ld, h2.read_unread, h7.read_unread, h8.read_unread, h9.read_unread]
  refine View.PiecesOf.mem ⟨?_, ?_, ?_, ?_, trivial⟩
  · exact du_piece x0 x5 x6 x7 768 (by decide) _ _ _ _ inb_S1x1024x704_S1x256x704_0_768_0
  · exact du_piece x0 x5 x6 x7 512 (by decide) _ _ _ _ inb_S1x1024x704_S1x256x704_0_512_0
  · exact du_piece x0 x5 x6 x7 256 (by decide) _ _ _ _ inb_S1x1024x704_S1x256x704_0_256_0
  · exact du_piece x0 x5 x6 x7 0 (by decide) _ _ _ _ inb_S1x1024x704_S1x256x704_0_0_0

theorem out_C_9 (hc0 hc1 hc2) : out0_C_9 c i a2 h2 a3 h3 a4 h4 a5 h5 a6 h6 a7 h7 a8 h8 a9 h9 a10 h10 a11 h11 a12 h12 a13 h13 a14 h14 hc0 hc1 hc2 x0 x1 x2 x3 x4 x5 x6 x7 xo xs
    = dtB x0 x5 x6 := by
  funext y
  unfold out0_C_9
  refine View.read_writes_apply_of_pieces _ _ _ _ ?_ y (cover0_C_9 c i a2 h2 a3 h3 a4 h4 a5 h5 a6 h6 a7 h7 a8 h8 a9 h9 a10 h10 a11 h11 a12 h12 a13 h13 a14 h14 hc0 hc1 hc2 x0 x1 x2 x3 x4 x5 x6 x7 xo xs y)
  unfold kernelRun0_C
  dsimp only
  sl_unfold_words
  simp only [View.readAt_eq_ld, h2.read_unread, h7.read_unread, h8.read_unread]
  refine View.PiecesOf.mem ⟨?_, ?_, ?_, ?_, trivial⟩
  · exact dt_piece x0 x5 x6 768 (by decide) _ _ _ inb_S1x1024x704_S1x256x704_0_768_0
  · exact dt_piece x0 x5 x6 512 (by decide) _ _ _ inb_S1x1024x704_S1x256x704_0_512_0
  · exact dt_piece x0 x5 x6 256 (by decide) _ _ _ inb_S1x1024x704_S1x256x704_0_256_0
  · exact dt_piece x0 x5 x6 0 (by decide) _ _ _ inb_S1x1024x704_S1x256x704_0_0_0

theorem out_D_8 (hc0 hc1 hc2) : out0_D_8 c i a2 h2 a3 h3 a4 h4 a5 h5 a6 h6 a7 h7 a8 h8 a9 h9 a10 h10 a11 h11 a12 h12 a13 h13 a14 h14 hc0 hc1 hc2 x0 x1 x2 x3 x4 x5 x6 x7
    = duB x0 x5 x6 x7 := by
  funext y
  unfold out0_D_8
  refine View.read_writes_apply_of_pieces _ _ _ _ ?_ y (cover0_D_8 c i a2 h2 a3 h3 a4 h4 a5 h5 a6 h6 a7 h7 a8 h8 a9 h9 a10 h10 a11 h11 a12 h12 a13 h13 a14 h14 hc0 hc1 hc2 x0 x1 x2 x3 x4 x5 x6 x7 y)
  unfold kernelRun0_D
  dsimp only
  sl_unfold_words
  simp only [View.readAt_eq_ld, h2.read_unread, h7.read_unread, h8.read_unread, h9.read_unread]
  refine View.PiecesOf.mem ⟨?_, ?_, ?_, ?_, trivial⟩
  · exact du_piece x0 x5 x6 x7 768 (by decide) _ _ _ _ inb_S1x1024x704_S1x256x704_0_768_0
  · exact du_piece x0 x5 x6 x7 512 (by decide) _ _ _ _ inb_S1x1024x704_S1x256x704_0_512_0
  · exact du_piece x0 x5 x6 x7 256 (by decide) _ _ _ _ inb_S1x1024x704_S1x256x704_0_256_0
  · exact du_piece x0 x5 x6 x7 0 (by decide) _ _ _ _ inb_S1x1024x704_S1x256x704_0_0_0

theorem out_D_9 (hc0 hc1 hc2) : out0_D_9 c i a2 h2 a3 h3 a4 h4 a5 h5 a6 h6 a7 h7 a8 h8 a9 h9 a10 h10 a11 h11 a12 h12 a13 h13 a14 h14 hc0 hc1 hc2 x0 x1 x2 x3 x4 x5 x6 x7
    = dtB x0 x5 x6 := by
  funext y
  unfold out0_D_9
  refine View.read_writes_apply_of_pieces _ _ _ _ ?_ y (cover0_D_9 c i a2 h2 a3 h3 a4 h4 a5 h5 a6 h6 a7 h7 a8 h8 a9 h9 a10 h10 a11 h11 a12 h12 a13 h13 a14 h14 hc0 hc1 hc2 x0 x1 x2 x3 x4 x5 x6 x7 y)
  unfold kernelRun0_D
  dsimp only
  sl_unfold_words
  simp only [View.readAt_eq_ld, h2.read_unread, h7.read_unread, h8.read_unread]
  refine View.PiecesOf.mem ⟨?_, ?_, ?_, ?_, trivial⟩
  · exact dt_piece x0 x5 x6 768 (by decide) _ _ _ inb_S1x1024x704_S1x256x704_0_768_0
  · exact dt_piece x0 x5 x6 512 (by decide) _ _ _ inb_S1x1024x704_S1x256x704_0_512_0
  · exact dt_piece x0 x5 x6 256 (by decide) _ _ _ inb_S1x1024x704_S1x256x704_0_256_0
  · exact dt_piece x0 x5 x6 0 (by decide) _ _ _ inb_S1x1024x704_S1x256x704_0_0_0

theorem sout_B (hc0 hc1 hc2) : sout0_B_0 c i a2 h2 a3 h3 a4 h4 a5 h5 a6 h6 a7 h7 a8 h8 a9 h9 a10 h10 a11 h11 a12 h12 a13 h13 a14 h14 hc0 hc1 hc2 x0 x1 x2 x3 x4 x5 x6 x7 xs
    = accB x0 x3 x4 x5 x6 x7 xs := by
  funext y
  unfold sout0_B_0
  refine View.read_writes_apply_of_pieces _ _ _ _ ?_ y (scover0_B_0 c i a2 h2 a3 h3 a4 h4 a5 h5 a6 h6 a7 h7 a8 h8 a9 h9 a10 h10 a11 h11 a12 h12 a13 h13 a14 h14 hc0 hc1 hc2 x0 x1 x2 x3 x4 x5 x6 x7 xs y)
  unfold kernelRun0_B
  dsimp only
  sl_unfold_words
  simp only [View.readAt_eq_ld, h2.read_unread, h5.read_unread, h6.read_unread, h7.read_unread, h8.read_unread, h9.read_unread, h14.read_unread]
  refine View.PiecesOf.mem ⟨?_, ?_, ?_, ?_, trivial⟩
  · exact acc_piece x0 x3 x4 x5 x6 x7 xs 768 (by decide) _ _ _ _ _ _ _ inb_S1024x1024_S256x1024_768_0
  · exact acc_piece x0 x3 x4 x5 x6 x7 xs 512 (by decide) _ _ _ _ _ _ _ inb_S1024x1024_S256x1024_512_0
  · exact acc_piece x0 x3 x4 x5 x6 x7 xs 256 (by decide) _ _ _ _ _ _ _ inb_S1024x1024_S256x1024_256_0
  · exact acc_piece x0 x3 x4 x5 x6 x7 xs 0 (by decide) _ _ _ _ _ _ _ inb_S1024x1024_S256x1024_0_0

/-- A load of rows after the whole accumulator was filled. -/
theorem fill_load {κ : Kind} {sp : Space} (v : View sig κ sp S1024x1024 .f32) (inb) (Z : Vec Ideal S1024x1024 .f32)
    (L : List (View.Piece (Elt Ideal) S1024x1024 .f32)) (r : Rect S1024x1024) :
    v.readCov (⟨Rect.unit ![0, 0] ![1024, 1024] inb, Z⟩ :: L) r.toLoadRect = View.ld Z r :=
  View.readCov_fill v inb Z L r (by decide)

theorem pay6_eq : k0_pay6 (F := Ideal) = fun _ => 0 := by
  funext y
  obtain ⟨r, q, rfl⟩ : ∃ (r q : Fin 1024), y = ix2 r q := ⟨y 0, y 1, eq_ix2 y⟩
  unfold_payloads
  pointwise

theorem sout_A (hc0 hc1 hc2) : sout0_A_0 c i a2 h2 a3 h3 a4 h4 a5 h5 a6 h6 a7 h7 a8 h8 a9 h9 a10 h10 a11 h11 a12 h12 a13 h13 a14 h14 hc0 hc1 hc2 x0 x1 x2 x3 x4 x5 x6 x7
    = accB x0 x3 x4 x5 x6 x7 (fun _ => 0) := by
  unfold sout0_A_0
  unfold kernelRun0_A
  dsimp only
  sl_unfold_words
  simp only [View.readAt_eq_ld, h2.read_unread, h5.read_unread, h6.read_unread, h7.read_unread, h8.read_unread, h9.read_unread, h14.read_unread]
  simp only [fill_load]
  repeat rw [View.readCov_skip a14.view _ _ [_] _ (by decide), fill_load]
  repeat rw [View.readCov_skip a14.view _ _ [_, _] _ (by decide), View.readCov_skip a14.view _ _ [_] _ (by decide), fill_load]
  repeat rw [View.readCov_skip a14.view _ _ [_, _, _] _ (by decide), View.readCov_skip a14.view _ _ [_, _] _ (by decide), View.readCov_skip a14.view _ _ [_] _ (by decide), fill_load]
  rw [pay6_eq]
  funext y
  refine (View.read_writes_junk_apply_eq_canon _ y _).trans ?_
  refine View.canon_append_of_piecesOf _ [_] [_, _, _, _] ⟨?_, ?_, ?_, ?_, trivial⟩ y (rows_cover [_, _, _, _] rfl y)
  · exact acc_piece x0 x3 x4 x5 x6 x7 (fun _ => 0) 768 (by decide) _ _ _ _ _ _ _ inb_S1024x1024_S256x1024_768_0
  · exact acc_piece x0 x3 x4 x5 x6 x7 (fun _ => 0) 512 (by decide) _ _ _ _ _ _ _ inb_S1024x1024_S256x1024_512_0
  · exact acc_piece x0 x3 x4 x5 x6 x7 (fun _ => 0) 256 (by decide) _ _ _ _ _ _ _ inb_S1024x1024_S256x1024_256_0
  · exact acc_piece x0 x3 x4 x5 x6 x7 (fun _ => 0) 0 (by decide) _ _ _ _ _ _ _ inb_S1024x1024_S256x1024_0_0

theorem sout_D (hc0 hc1 hc2) : sout0_D_0 c i a2 h2 a3 h3 a4 h4 a5 h5 a6 h6 a7 h7 a8 h8 a9 h9 a10 h10 a11 h11 a12 h12 a13 h13 a14 h14 hc0 hc1 hc2 x0 x1 x2 x3 x4 x5 x6 x7
    = accB x0 x3 x4 x5 x6 x7 (fun _ => 0) := by
  unfold sout0_D_0
  unfold kernelRun0_D
  dsimp only
  sl_unfold_words
  simp only [View.readAt_eq_ld, h2.read_unread, h5.read_unread, h6.read_unread, h7.read_unread, h8.read_unread, h9.read_unread, h14.read_unread]
  simp only [fill_load]
  repeat rw [View.readCov_skip a14.view _ _ [_] _ (by decide), fill_load]
  repeat rw [View.readCov_skip a14.view _ _ [_, _] _ (by decide), View.readCov_skip a14.view _ _ [_] _ (by decide), fill_load]
  repeat rw [View.readCov_skip a14.view _ _ [_, _, _] _ (by decide), View.readCov_skip a14.view _ _ [_, _] _ (by decide), View.readCov_skip a14.view _ _ [_] _ (by decide), fill_load]
  rw [pay6_eq]
  funext y
  refine (View.read_writes_junk_apply_eq_canon _ y _).trans ?_
  refine View.canon_append_of_piecesOf _ [_] [_, _, _, _] ⟨?_, ?_, ?_, ?_, trivial⟩ y (rows_cover [_, _, _, _] rfl y)
  · exact acc_piece x0 x3 x4 x5 x6 x7 (fun _ => 0) 768 (by decide) _ _ _ _ _ _ _ inb_S1024x1024_S256x1024_768_0
  · exact acc_piece x0 x3 x4 x5 x6 x7 (fun _ => 0) 512 (by decide) _ _ _ _ _ _ _ inb_S1024x1024_S256x1024_512_0
  · exact acc_piece x0 x3 x4 x5 x6 x7 (fun _ => 0) 256 (by decide) _ _ _ _ _ _ _ inb_S1024x1024_S256x1024_256_0
  · exact acc_piece x0 x3 x4 x5 x6 x7 (fun _ => 0) 0 (by decide) _ _ _ _ _ _ _ inb_S1024x1024_S256x1024_0_0

theorem out_A_11 (hc0 hc1 hc2) : out0_A_11 c i a2 h2 a3 h3 a4 h4 a5 h5 a6 h6 a7 h7 a8 h8 a9 h9 a10 h10 a11 h11 a12 h12 a13 h13 a14 h14 hc0 hc1 hc2 x0 x1 x2 x3 x4 x5 x6 x7 = fun _ => 0 := by
  unfold out0_A_11
  unfold kernelRun0_A
  dsimp only
  sl_unfold_words
  funext y
  refine (View.read_writes_cons_hit_of_coords _ _ _ _ _ y y (fun a => ?_)).trans ?_
  · fin_cases a <;> simp [Rect.unit]
  · obtain ⟨r, q, rfl⟩ : ∃ (r : Fin 8) (q : Fin 1024), y = ix2 r q := ⟨y 0, y 1, eq_ix2 y⟩
    unfold_payloads
    pointwise

theorem out_C_10 (hc0 hc1 hc2) : out0_C_10 c i a2 h2 a3 h3 a4 h4 a5 h5 a6 h6 a7 h7 a8 h8 a9 h9 a10 h10 a11 h11 a12 h12 a13 h13 a14 h14 hc0 hc1 hc2 x0 x1 x2 x3 x4 x5 x6 x7 xo xs
    = fun i => x0 i + rowGrad (fun k => x1 (ix2 (i 0) k)) (fun k => x2 (ix2 0 k)) (fun k => accB x0 x3 x4 x5 x6 x7 xs (ix2 (i 0) k)) (i 1) := by
  unfold out0_C_10
  unfold kernelRun0_C
  dsimp only
  sl_unfold_words
  simp only [View.readAt_eq_ld, h2.read_unread, h3.read_unread, h4.read_unread, h5.read_unread, h6.read_unread, h7.read_unread, h8.read_unread, h9.read_unread, h14.read_unread]
  rw [acc_load a14.view (accB x0 x3 x4 x5 x6 x7 xs) [_, _, _, _] rfl ⟨
    acc_piece x0 x3 x4 x5 x6 x7 xs 768 (by decide) _ _ _ _ _ _ _ inb_S1024x1024_S256x1024_768_0,
    acc_piece x0 x3 x4 x5 x6 x7 xs 512 (by decide) _ _ _ _ _ _ _ inb_S1024x1024_S256x1024_512_0,
    acc_piece x0 x3 x4 x5 x6 x7 xs 256 (by decide) _ _ _ _ _ _ _ inb_S1024x1024_S256x1024_256_0,
    acc_piece x0 x3 x4 x5 x6 x7 xs 0 (by decide) _ _ _ _ _ _ _ inb_S1024x1024_S256x1024_0_0, trivial⟩]
  rw [View.ld_unit_zero (S := S1024x1024) (off := ![0, 0]) hz2, View.ld_unit_zero (S := S1024x1024) (off := ![0, 0]) hz2, View.ld_unit_zero (S := S1x1024) (off := ![0, 0]) hz2]
  funext y
  refine (View.read_writes_cons_hit_of_coords _ _ _ _ _ y y (fun a => ?_)).trans ?_
  · fin_cases a <;> simp [Rect.unit]
  · obtain ⟨r, q, rfl⟩ : ∃ (r q : Fin 1024), y = ix2 r q := ⟨y 0, y 1, eq_ix2 y⟩
    exact pay4_at x1 x2 (accB x0 x3 x4 x5 x6 x7 xs) x0 r q

theorem out_C_11 (hc0 hc1 hc2) : out0_C_11 c i a2 h2 a3 h3 a4 h4 a5 h5 a6 h6 a7 h7 a8 h8 a9 h9 a10 h10 a11 h11 a12 h12 a13 h13 a14 h14 hc0 hc1 hc2 x0 x1 x2 x3 x4 x5 x6 x7 xo xs
    = fun i => if (i 0).val = 0 then xo i + ∑ r : Fin 1024, accB x0 x3 x4 x5 x6 x7 xs (ix2 r (i 1)) * (x1 (ix2 r (i 1)) * rn (fun k => x1 (ix2 r k))) else xo i := by
  unfold out0_C_11
  unfold kernelRun0_C
  dsimp only
  sl_unfold_words
  simp only [View.readAt_eq_ld, h2.read_unread, h3.read_unread, h4.read_unread, h5.read_unread, h6.read_unread, h7.read_unread, h8.read_unread, h9.read_unread, h13.read_unread, h14.read_unread]
  rw [acc_load a14.view (accB x0 x3 x4 x5 x6 x7 xs) [_, _, _, _] rfl ⟨
    acc_piece x0 x3 x4 x5 x6 x7 xs 768 (by decide) _ _ _ _ _ _ _ inb_S1024x1024_S256x1024_768_0,
    acc_piece x0 x3 x4 x5 x6 x7 xs 512 (by decide) _ _ _ _ _ _ _ inb_S1024x1024_S256x1024_512_0,
    acc_piece x0 x3 x4 x5 x6 x7 xs 256 (by decide) _ _ _ _ _ _ _ inb_S1024x1024_S256x1024_256_0,
    acc_piece x0 x3 x4 x5 x6 x7 xs 0 (by decide) _ _ _ _ _ _ _ inb_S1024x1024_S256x1024_0_0, trivial⟩]
  rw [View.ld_unit_zero (S := S1024x1024) (off := ![0, 0]) hz2]
  funext y
  by_cases h0 : (y 0).val = 0
  · obtain ⟨r, q, rfl⟩ : ∃ (r : Fin 8) (q : Fin 1024), y = ix2 r q := ⟨y 0, y 1, eq_ix2 y⟩
    obtain rfl : r = 0 := Fin.ext h0
    rw [if_pos h0]
    refine (View.read_writes_cons_hit_of_coords _ _ _ _ _ (ix2 0 q) (ix2 0 q) (fun a => ?_)).trans ?_
    · fin_cases a <;> simp [Rect.unit]
    · refine (pay5_at x1 (accB x0 x3 x4 x5 x6 x7 xs) _ q).trans (congrArg (· + _) ?_)
      unfold View.ld
      congr 1
      funext k
      fin_cases k <;> apply Fin.ext <;> simp [Rect.unit, Rect.emb]
  · rw [View.read_writes_apply_of_forall_not_mem, if_neg h0]
    · exact congrFun (h13.read_unread xo) y
    · intro p hpL hm
      obtain rfl := List.mem_singleton.mp hpL
      rw [Rect.mem_set_unit] at hm
      have := hm 0
      simp at this
      omega

end cases

end Cert.FfnKernelIdeal.Value
end
-- ==== Proof.FfnValue.lean ====
module

public import proofs.«01_k».proof.Proof.FfnBody

/-! # What the gate's backward kernel leaves -/

@[expose] public section

set_option maxRecDepth 16384

noncomputable section

namespace Cert.FfnKernelIdeal.Value

open Cert.FfnKernelIdeal Cert.FfnKernelIdeal.Gen Idealize.ShloMosaic Idealize.ShloMosaic.TcCoe Idealize.SL.Sem NormGrad

section maths

variable (X DX : Fin 16384 → Fin 1024 → EReal) (w : Fin 1024 → EReal) (WG WU : Fin 1024 → Fin 2816 → EReal) (WD : Fin 2816 → Fin 1024 → EReal)

/-- Column `f` of shard `j`. -/
abbrev col (j : Fin 4) (f : Fin 704) : Fin 2816 := ⟨j.val * 704 + f.val, by omega⟩

/-- The normed row times a weight matrix, and the gated product's cotangent. -/
def hnAt (R : Fin 16384) (k : Fin 1024) : EReal := X R k * rn (X R) * w k
def upAt (R : Fin 16384) (F : Fin 2816) : EReal := ∑ k : Fin 1024, WG k F * hnAt X w R k
def daAt (R : Fin 16384) (F : Fin 2816) : EReal := ∑ k : Fin 1024, DX R k * WD F k

/-- The gradients at the two products, and at the normed row. -/
def duAt (R : Fin 16384) (F : Fin 2816) : EReal := duOf (daAt DX WD R F) (upAt X w WG R F) (upAt X w WU R F)
def dtAt (R : Fin 16384) (F : Fin 2816) : EReal := dtOf (daAt DX WD R F) (upAt X w WG R F)
def shAt (R : Fin 16384) (q : Fin 1024) (j : Fin 4) : EReal :=
  (∑ f : Fin 704, duAt X DX w WG WU WD R (col j f) * WG q (col j f)) + ∑ f : Fin 704, dtAt X DX w WG WD R (col j f) * WU q (col j f)
def dhAt (R : Fin 16384) (q : Fin 1024) : EReal := ∑ j, shAt X DX w WG WU WD R q j

/-- What a row adds to the norm weights' gradient. -/
def dwAt (R : Fin 16384) (q : Fin 1024) : EReal := dhAt X DX w WG WU WD R q * (X R q * rn (X R))

end maths

variable (m : (ℓ : Loc nD τ sig) → Buf (Elt Ideal) ℓ)

/-- Row `r` of point `t`'s block of rows, and the point's shard. -/
abbrev rowOf (t : Fin cfg0.N) (r : Fin 1024) : Fin 16384 :=
  ⟨1024 * (t.val / 4) + r.val, by have h : cfg0.N = 64 := N_0; have := t.2; omega⟩
abbrev shOf (t : Fin cfg0.N) : Fin 4 := ⟨t.val % 4, by omega⟩

/-- The index maps: rows follow the first grid axis, shards the second. -/
theorem idx : ∀ t : Fin cfg0.N, (win0_0.index t 0 = t.val / 4 ∧ win0_0.index t 1 = 0) ∧ (win0_1.index t 0 = t.val / 4 ∧ win0_1.index t 1 = 0)
    ∧ (win0_2.index t 0 = 0 ∧ win0_2.index t 1 = 0) ∧ (win0_3.index t 0 = t.val % 4 ∧ win0_3.index t 1 = 0 ∧ win0_3.index t 2 = 0)
    ∧ (win0_4.index t 0 = t.val % 4 ∧ win0_4.index t 1 = 0 ∧ win0_4.index t 2 = 0) ∧ (win0_5.index t 0 = t.val % 4 ∧ win0_5.index t 1 = 0 ∧ win0_5.index t 2 = 0)
    ∧ (win0_6.index t 0 = t.val % 4 ∧ win0_6.index t 1 = t.val / 4 ∧ win0_6.index t 2 = 0)
    ∧ (win0_7.index t 0 = t.val % 4 ∧ win0_7.index t 1 = t.val / 4 ∧ win0_7.index t 2 = 0) :=
  (by decide +kernel : ∀ t : Fin grid0.N, (win0_0.index t 0 = t.val / 4 ∧ win0_0.index t 1 = 0) ∧ (win0_1.index t 0 = t.val / 4 ∧ win0_1.index t 1 = 0)
    ∧ (win0_2.index t 0 = 0 ∧ win0_2.index t 1 = 0) ∧ (win0_3.index t 0 = t.val % 4 ∧ win0_3.index t 1 = 0 ∧ win0_3.index t 2 = 0)
    ∧ (win0_4.index t 0 = t.val % 4 ∧ win0_4.index t 1 = 0 ∧ win0_4.index t 2 = 0) ∧ (win0_5.index t 0 = t.val % 4 ∧ win0_5.index t 1 = 0 ∧ win0_5.index t 2 = 0)
    ∧ (win0_6.index t 0 = t.val % 4 ∧ win0_6.index t 1 = t.val / 4 ∧ win0_6.index t 2 = 0)
    ∧ (win0_7.index t 0 = t.val % 4 ∧ win0_7.index t 1 = t.val / 4 ∧ win0_7.index t 2 = 0))

/-- The arguments. -/
abbrev A0 (c : Dev nD) : FVec Ideal S16384x1024 .f32 := m ((c.tc : Thread nD τ).loc main_arg0)
abbrev A1 (c : Dev nD) : FVec Ideal S16384x1024 .f32 := m ((c.tc : Thread nD τ).loc main_arg1)
abbrev A2 (c : Dev nD) : FVec Ideal S1024 .f32 := m ((c.tc : Thread nD τ).loc main_arg2)
abbrev A3 (c : Dev nD) : FVec Ideal S1024x2816 .f32 := m ((c.tc : Thread nD τ).loc main_arg3)
abbrev A4 (c : Dev nD) : FVec Ideal S1024x2816 .f32 := m ((c.tc : Thread nD τ).loc main_arg4)
abbrev A5 (c : Dev nD) : FVec Ideal S2816x1024 .f32 := m ((c.tc : Thread nD τ).loc main_arg5)

/-- The arguments, entry by entry. -/
def DX (c : Dev nD) (R : Fin 16384) (k : Fin 1024) : EReal := A0 m c (ix2 R k)
def X (c : Dev nD) (R : Fin 16384) (k : Fin 1024) : EReal := A1 m c (ix2 R k)
def W (c : Dev nD) (k : Fin 1024) : EReal := A2 m c (ix1 k)
def WG (c : Dev nD) (k : Fin 1024) (F : Fin 2816) : EReal := A3 m c (ix2 k F)
def WU (c : Dev nD) (k : Fin 1024) (F : Fin 2816) : EReal := A4 m c (ix2 k F)
def WD (c : Dev nD) (F : Fin 2816) (k : Fin 1024) : EReal := A5 m c (ix2 F k)

/-- A block of the incoming gradient, and of the rows. -/
theorem iblk0_at (c : Dev nD) (t : Fin cfg0.N) (r : Fin 1024) (q : Fin 1024) : (iblk m c 0 t : Vec Ideal S1024x1024 .f32) (ix2 r q) = DX m c (rowOf t r) q := by
  have hi := (idx t).1
  unfold iblk
  rw [View.read_apply]
  show V m c main_arg0 _ = _
  rw [V_main_arg0]
  refine congrArg (A0 m c) (funext fun a => Fin.ext ?_)
  match a with
  | ⟨0, _⟩ => show win0_0.index t 0 * 1024 + 1 * r.val = 1024 * (t.val / 4) + r.val; rw [hi.1]; omega
  | ⟨1, _⟩ => show win0_0.index t 1 * 1024 + 1 * q.val = q.val; rw [hi.2]; omega

theorem iblk1_at (c : Dev nD) (t : Fin cfg0.N) (r : Fin 1024) (q : Fin 1024) : (iblk m c 1 t : Vec Ideal S1024x1024 .f32) (ix2 r q) = X m c (rowOf t r) q := by
  have hi := (idx t).2.1
  unfold iblk
  rw [View.read_apply]
  show V m c main_arg1 _ = _
  rw [V_main_arg1]
  refine congrArg (A1 m c) (funext fun a => Fin.ext ?_)
  match a with
  | ⟨0, _⟩ => show win0_1.index t 0 * 1024 + 1 * r.val = 1024 * (t.val / 4) + r.val; rw [hi.1]; omega
  | ⟨1, _⟩ => show win0_1.index t 1 * 1024 + 1 * q.val = q.val; rw [hi.2]; omega

/-- The norm's weights, one row. -/
theorem V_v0 (c : Dev nD) (q : Fin 1024) : (V m c main_v0 : FVec Ideal S1x1024 .f32) (ix2 0 q) = W m c q := by
  have h : V m c main_v0 = broadcastInDim S1x1024 ![1] Facts₀.bcast_S1024_S1x1024_1 (A2 m c) := by
    show StableHlo.after hostOps0 (fun b => m (c, b)) (Proc.devRef .tc main_v0) = _
    after_results
  rw [h]
  pointwise
  rfl

theorem iblk2_at (c : Dev nD) (t : Fin cfg0.N) (q : Fin 1024) : (iblk m c 2 t : Vec Ideal S1x1024 .f32) (ix2 0 q) = W m c q := by
  have hi := (idx t).2.2.1
  unfold iblk
  rw [View.read_apply]
  refine Eq.trans (congrArg (V m c main_v0) (funext fun a => Fin.ext ?_ : _ = ix2 0 q)) (V_v0 m c q)
  match a with
  | ⟨0, _⟩ => show win0_2.index t 0 * 1 + 1 * 0 = 0; rw [hi.1]
  | ⟨1, _⟩ => show win0_2.index t 1 * 1024 + 1 * q.val = q.val; rw [hi.2]; omega

/-- The weight matrices by shards. -/
def wT (a : FVec Ideal S1024x2816 .f32) : FVec Ideal S4x1024x704 .f32 :=
  transpose S4x1024x704 [1, 0, 2] (shapeCast S1024x4x704 a Facts₀.shapeCasts_S1024x2816_S1024x4x704) Facts₀.transposes_S1024x4x704_S4x1024x704_1_0_2

theorem wT_at (a : FVec Ideal S1024x2816 .f32) (j : Fin 4) (q : Fin 1024) (f : Fin 704) : wT a (ix3 j q f) = a (ix2 q (col j f)) := by
  unfold wT
  pointwise

theorem V_v2 (c : Dev nD) : V m c main_v2 = wT (A3 m c) := by
  show StableHlo.after hostOps0 (fun b => m (c, b)) (Proc.devRef .tc main_v2) = _
  after_results
  rfl

theorem V_v4 (c : Dev nD) : V m c main_v4 = wT (A4 m c) := by
  show StableHlo.after hostOps0 (fun b => m (c, b)) (Proc.devRef .tc main_v4) = _
  after_results
  rfl

theorem V_v5 (c : Dev nD) (j : Fin 4) (f : Fin 704) (q : Fin 1024) : (V m c main_v5 : FVec Ideal S4x704x1024 .f32) (ix3 j f q) = WD m c (col j f) q := by
  have h : V m c main_v5 = shapeCast S4x704x1024 (A5 m c) Facts₀.shapeCasts_S2816x1024_S4x704x1024 := by
    show StableHlo.after hostOps0 (fun b => m (c, b)) (Proc.devRef .tc main_v5) = _
    after_results
    rfl
  rw [h]
  pointwise
  rfl

/-- The normed rows and their products with the weights, as the host computes them. -/
def hnH (x : FVec Ideal S16384x1024 .f32) (w : FVec Ideal S1024 .f32) : FVec Ideal S16384x1024 .f32 :=
  mulf (mulf x (broadcastInDim S16384x1024 ![0, 1] Facts₀.bcast_S16384x1_S16384x1024_0_1 (Host.rsqrt (addf (Host.divf (broadcastInDim S16384x1 ![0] Facts₀.bcast_S16384_S16384x1_0
    (Host.reduceAdd (mulf x x) (constant S_ .f32 0x00000000#32) Facts₀.reducesTo_S16384x1024_S16384_d1 Facts₀.h_S_))
      (broadcastInDim S16384x1 ![] Facts₀.bcast_S_S16384x1 (constant S_ .f32 0x44800000#32))) (broadcastInDim S16384x1 ![] Facts₀.bcast_S_S16384x1 (constant S_ .f32 0x358637BD#32))))))
    (broadcastInDim S16384x1024 ![0, 1] Facts₀.bcast_S1x1024_S16384x1024_0_1 (broadcastInDim S1x1024 ![1] Facts₀.bcast_S1024_S1x1024_1 w))
def upH (x : FVec Ideal S16384x1024 .f32) (w : FVec Ideal S1024 .f32) (a : FVec Ideal S1024x2816 .f32) : FVec Ideal S4x16384x704 .f32 :=
  transpose S4x16384x704 [0, 2, 1] (Host.dotGeneral dot_S4x1024x704_S16384x1024_S4x704x16384_1_1_02_0_n_n none (wT a) (hnH x w)) Facts₀.transposes_S4x704x16384_S4x16384x704_0_2_1

theorem hnH_at (x : FVec Ideal S16384x1024 .f32) (w : FVec Ideal S1024 .f32) (R : Fin 16384) (k : Fin 1024) :
    hnH x w (ix2 R k) = hnAt (fun R k => x (ix2 R k)) (fun k => w (ix1 k)) R k := by
  unfold hnH hnAt rn k1024 eps
  pointwise

theorem upH_at (x : FVec Ideal S16384x1024 .f32) (w : FVec Ideal S1024 .f32) (a : FVec Ideal S1024x2816 .f32) (j : Fin 4) (R : Fin 16384) (f : Fin 704) :
    upH x w a (ix3 j R f) = upAt (fun R k => x (ix2 R k)) (fun k => w (ix1 k)) (fun k F => a (ix2 k F)) R (col j f) := by
  unfold upH upAt
  generalize hW : wT a = b
  generalize hH : hnH x w = h
  pointwise
  subst hW hH
  simp only [wT_at, hnH_at]

theorem V_v20 (c : Dev nD) : V m c main_v20 = upH (A1 m c) (A2 m c) (A3 m c) := by
  show StableHlo.after hostOps0 (fun b => m (c, b)) (Proc.devRef .tc main_v20) = _
  after_results
  rfl

theorem V_v22 (c : Dev nD) : V m c main_v22 = upH (A1 m c) (A2 m c) (A4 m c) := by
  show StableHlo.after hostOps0 (fun b => m (c, b)) (Proc.devRef .tc main_v22) = _
  after_results
  rfl

/-- A shard of each weight matrix. -/
theorem iblk3_at (c : Dev nD) (t : Fin cfg0.N) (q : Fin 1024) (f : Fin 704) : (iblk m c 3 t : Vec Ideal S1x1024x704 .f32) (ix3 0 q f) = WG m c q (col (shOf t) f) := by
  have hi := (idx t).2.2.2.1
  unfold iblk
  rw [View.read_apply]
  refine Eq.trans (congrArg (V m c main_v2) (funext fun a => Fin.ext ?_ : _ = ix3 (shOf t) q f)) ((congrFun (V_v2 m c) _).trans (wT_at _ _ _ _))
  match a with
  | ⟨0, _⟩ => show win0_3.index t 0 * 1 + 1 * 0 = t.val % 4; rw [hi.1]; omega
  | ⟨1, _⟩ => show win0_3.index t 1 * 1024 + 1 * q.val = q.val; rw [hi.2.1]; omega
  | ⟨2, _⟩ => show win0_3.index t 2 * 704 + 1 * f.val = f.val; rw [hi.2.2]; omega

theorem iblk4_at (c : Dev nD) (t : Fin cfg0.N) (q : Fin 1024) (f : Fin 704) : (iblk m c 4 t : Vec Ideal S1x1024x704 .f32) (ix3 0 q f) = WU m c q (col (shOf t) f) := by
  have hi := (idx t).2.2.2.2.1
  unfold iblk
  rw [View.read_apply]
  refine Eq.trans (congrArg (V m c main_v4) (funext fun a => Fin.ext ?_ : _ = ix3 (shOf t) q f)) ((congrFun (V_v4 m c) _).trans (wT_at _ _ _ _))
  match a with
  | ⟨0, _⟩ => show win0_4.index t 0 * 1 + 1 * 0 = t.val % 4; rw [hi.1]; omega
  | ⟨1, _⟩ => show win0_4.index t 1 * 1024 + 1 * q.val = q.val; rw [hi.2.1]; omega
  | ⟨2, _⟩ => show win0_4.index t 2 * 704 + 1 * f.val = f.val; rw [hi.2.2]; omega

theorem iblk5_at (c : Dev nD) (t : Fin cfg0.N) (f : Fin 704) (q : Fin 1024) : (iblk m c 5 t : Vec Ideal S1x704x1024 .f32) (ix3 0 f q) = WD m c (col (shOf t) f) q := by
  have hi := (idx t).2.2.2.2.2.1
  unfold iblk
  rw [View.read_apply]
  refine Eq.trans (congrArg (V m c main_v5) (funext fun a => Fin.ext ?_ : _ = ix3 (shOf t) f q)) (V_v5 m c _ _ _)
  match a with
  | ⟨0, _⟩ => show win0_5.index t 0 * 1 + 1 * 0 = t.val % 4; rw [hi.1]; omega
  | ⟨1, _⟩ => show win0_5.index t 1 * 704 + 1 * f.val = f.val; rw [hi.2.1]; omega
  | ⟨2, _⟩ => show win0_5.index t 2 * 1024 + 1 * q.val = q.val; rw [hi.2.2]; omega

/-- The two saved products. -/
def U (c : Dev nD) : Fin 16384 → Fin 2816 → EReal := upAt (X m c) (W m c) (WG m c)
def T (c : Dev nD) : Fin 16384 → Fin 2816 → EReal := upAt (X m c) (W m c) (WU m c)

theorem iblk6_at (c : Dev nD) (t : Fin cfg0.N) (r : Fin 1024) (f : Fin 704) : (iblk m c 6 t : Vec Ideal S1x1024x704 .f32) (ix3 0 r f) = U m c (rowOf t r) (col (shOf t) f) := by
  have hi := (idx t).2.2.2.2.2.2.1
  unfold iblk
  rw [View.read_apply]
  refine Eq.trans (congrArg (V m c main_v20) (funext fun a => Fin.ext ?_ : _ = ix3 (shOf t) (rowOf t r) f)) ((congrFun (V_v20 m c) _).trans (upH_at _ _ _ _ _ _))
  match a with
  | ⟨0, _⟩ => show win0_6.index t 0 * 1 + 1 * 0 = t.val % 4; rw [hi.1]; omega
  | ⟨1, _⟩ => show win0_6.index t 1 * 1024 + 1 * r.val = 1024 * (t.val / 4) + r.val; rw [hi.2.1]; omega
  | ⟨2, _⟩ => show win0_6.index t 2 * 704 + 1 * f.val = f.val; rw [hi.2.2]; omega

theorem iblk7_at (c : Dev nD) (t : Fin cfg0.N) (r : Fin 1024) (f : Fin 704) : (iblk m c 7 t : Vec Ideal S1x1024x704 .f32) (ix3 0 r f) = T m c (rowOf t r) (col (shOf t) f) := by
  have hi := (idx t).2.2.2.2.2.2.2
  unfold iblk
  rw [View.read_apply]
  refine Eq.trans (congrArg (V m c main_v22) (funext fun a => Fin.ext ?_ : _ = ix3 (shOf t) (rowOf t r) f)) ((congrFun (V_v22 m c) _).trans (upH_at _ _ _ _ _ _))
  match a with
  | ⟨0, _⟩ => show win0_7.index t 0 * 1 + 1 * 0 = t.val % 4; rw [hi.1]; omega
  | ⟨1, _⟩ => show win0_7.index t 1 * 1024 + 1 * r.val = 1024 * (t.val / 4) + r.val; rw [hi.2.1]; omega
  | ⟨2, _⟩ => show win0_7.index t 2 * 704 + 1 * f.val = f.val; rw [hi.2.2]; omega

/-- What the arguments make of each row. -/
abbrev DU (c : Dev nD) := duAt (X m c) (DX m c) (W m c) (WG m c) (WU m c) (WD m c)
abbrev DT (c : Dev nD) := dtAt (X m c) (DX m c) (W m c) (WG m c) (WD m c)
abbrev SH (c : Dev nD) := shAt (X m c) (DX m c) (W m c) (WG m c) (WU m c) (WD m c)
abbrev DH (c : Dev nD) := dhAt (X m c) (DX m c) (W m c) (WG m c) (WU m c) (WD m c)

theorem daB_eq (c : Dev nD) (t : Fin cfg0.N) (r : Fin 1024) (f : Fin 704) :
    daB (iblk m c 0 t) (iblk m c 5 t) r f = daAt (DX m c) (WD m c) (rowOf t r) (col (shOf t) f) := by
  unfold daB daAt
  simp only [iblk0_at, iblk5_at]

theorem duB_eq (c : Dev nD) (t : Fin cfg0.N) (r : Fin 1024) (f : Fin 704) :
    duB (iblk m c 0 t) (iblk m c 5 t) (iblk m c 6 t) (iblk m c 7 t) (ix3 0 r f) = DU m c (rowOf t r) (col (shOf t) f) := by
  show duOf (daB (iblk m c 0 t) (iblk m c 5 t) r f) ((iblk m c 6 t : Vec Ideal S1x1024x704 .f32) (ix3 0 r f)) ((iblk m c 7 t : Vec Ideal S1x1024x704 .f32) (ix3 0 r f)) = _
  rw [daB_eq, iblk6_at, iblk7_at]
  rfl

theorem dtB_eq (c : Dev nD) (t : Fin cfg0.N) (r : Fin 1024) (f : Fin 704) :
    dtB (iblk m c 0 t) (iblk m c 5 t) (iblk m c 6 t) (ix3 0 r f) = DT m c (rowOf t r) (col (shOf t) f) := by
  show dtOf (daB (iblk m c 0 t) (iblk m c 5 t) r f) ((iblk m c 6 t : Vec Ideal S1x1024x704 .f32) (ix3 0 r f)) = _
  rw [daB_eq, iblk6_at]
  rfl

theorem addB_eq (c : Dev nD) (t : Fin cfg0.N) (r q : Fin 1024) :
    addB (iblk m c 0 t) (iblk m c 3 t) (iblk m c 4 t) (iblk m c 5 t) (iblk m c 6 t) (iblk m c 7 t) r q = SH m c (rowOf t r) q (shOf t) := by
  unfold addB SH shAt
  simp only [daB_eq, iblk6_at, iblk7_at, iblk3_at, iblk4_at]
  rfl

/-- One case for each point; the gradients' blocks are the same in all. -/
theorem outs8 (c : Dev nD) (t : Fin cfg0.N) (r : Fin 1024) (f : Fin 704) : (outsAt0 m c t.val t.isLt).1 (ix3 0 r f) = DU m c (rowOf t r) (col (shOf t) f) := by
  rw [← duB_eq]
  refine congrFun (?_ : _ = duB (iblk m c 0 t) (iblk m c 5 t) (iblk m c 6 t) (iblk m c 7 t)) _
  by_cases h0 : t.val % 4 = 0
  · have h2 : ¬t.val % 4 = 3 := by omega
    by_cases h1 : t.val % 64 = 0
    · rw [outsAt0_A m c t h0 h1 h2]; dsimp only; rw [out_A_8]
    · rw [outsAt0_D m c t h0 h1 h2]; dsimp only; rw [out_D_8]
  · have h1 : ¬t.val % 64 = 0 := by omega
    by_cases h2 : t.val % 4 = 3
    · rw [outsAt0_C m c t h0 h1 h2]; dsimp only; rw [out_C_8]
    · rw [outsAt0_B m c t h0 h1 h2]; dsimp only; rw [out_B_8]

theorem outs9 (c : Dev nD) (t : Fin cfg0.N) (r : Fin 1024) (f : Fin 704) : (outsAt0 m c t.val t.isLt).2.1 (ix3 0 r f) = DT m c (rowOf t r) (col (shOf t) f) := by
  rw [← dtB_eq]
  refine congrFun (?_ : _ = dtB (iblk m c 0 t) (iblk m c 5 t) (iblk m c 6 t)) _
  by_cases h0 : t.val % 4 = 0
  · have h2 : ¬t.val % 4 = 3 := by omega
    by_cases h1 : t.val % 64 = 0
    · rw [outsAt0_A m c t h0 h1 h2]; dsimp only; rw [out_A_9]
    · rw [outsAt0_D m c t h0 h1 h2]; dsimp only; rw [out_D_9]
  · have h1 : ¬t.val % 64 = 0 := by omega
    by_cases h2 : t.val % 4 = 3
    · rw [outsAt0_C m c t h0 h1 h2]; dsimp only; rw [out_C_9]
    · rw [outsAt0_B m c t h0 h1 h2]; dsimp only; rw [out_B_9]

/-- A block of rows, its four points. -/
abbrev pt (b : Fin 16) (k : Fin 4) : Fin cfg0.N := ⟨4 * b.val + k.val, by have h : cfg0.N = 64 := N_0; omega⟩

theorem rowOf_pt (b : Fin 16) (k : Fin 4) (r : Fin 1024) : rowOf (pt b k) r = ⟨1024 * b.val + r.val, by omega⟩ := Fin.ext (by
  show 1024 * ((4 * b.val + k.val) / 4) + r.val = 1024 * b.val + r.val
  omega)
theorem shOf_pt (b : Fin 16) (k : Fin 4) : shOf (pt b k) = k := Fin.ext (by
  show (4 * b.val + k.val) % 4 = k.val
  omega)

/-- Row `r` of block `b`. -/
abbrev row (b : Fin 16) (r : Fin 1024) : Fin 16384 := ⟨1024 * b.val + r.val, by omega⟩

theorem accB_eq (c : Dev nD) (b : Fin 16) (k : Fin 4) (a : Vec Ideal S1024x1024 .f32) (i : S1024x1024.Idx) :
    accB (iblk m c 0 (pt b k)) (iblk m c 3 (pt b k)) (iblk m c 4 (pt b k)) (iblk m c 5 (pt b k)) (iblk m c 6 (pt b k)) (iblk m c 7 (pt b k)) a i
      = a i + SH m c (row b (i 0)) (i 1) k := by
  show a i + addB (iblk m c 0 (pt b k)) (iblk m c 3 (pt b k)) (iblk m c 4 (pt b k)) (iblk m c 5 (pt b k)) (iblk m c 6 (pt b k)) (iblk m c 7 (pt b k)) (i 0) (i 1) = _
  exact congrArg (a i + ·) ((addB_eq m c (pt b k) (i 0) (i 1)).trans (congrArg₂ (fun R j => SH m c R (i 1) j) (rowOf_pt b k (i 0)) (shOf_pt b k)))

theorem lt_N (b : Fin 16) (k : ℕ) (hk : k < 4) : 4 * b.val + k < cfg0.N := by have h : cfg0.N = 64 := N_0; omega

/-- The accumulator after the first three shards. -/
theorem scr0 (c : Dev nD) (b : Fin 16) (i : S1024x1024.Idx) :
    (outsAt0 m c (4 * b.val + 0) (lt_N b 0 (by decide))).2.2.2.2 i = 0 + SH m c (row b (i 0)) (i 1) 0 := by
  rw [← accB_eq m c b 0 (fun _ => 0) i]
  refine congrFun ?_ i
  have h0 : (pt b 0).val % 4 = 0 := by show (4 * b.val + 0) % 4 = 0; omega
  have h2 : ¬(pt b 0).val % 4 = 3 := by omega
  by_cases h1 : (pt b 0).val % 64 = 0
  · refine (congrArg (·.2.2.2.2) (outsAt0_A m c (pt b 0) h0 h1 h2)).trans ?_; dsimp only; rw [sout_A]
  · refine (congrArg (·.2.2.2.2) (outsAt0_D m c (pt b 0) h0 h1 h2)).trans ?_; dsimp only; rw [sout_D]

theorem scr_succ (c : Dev nD) (b : Fin 16) (k : ℕ) (hk : k + 1 < 3) (i : S1024x1024.Idx) :
    (outsAt0 m c (4 * b.val + (k + 1)) (lt_N b (k + 1) (by omega))).2.2.2.2 i
      = (outsAt0 m c (4 * b.val + k) (lt_N b k (by omega))).2.2.2.2 i + SH m c (row b (i 0)) (i 1) ⟨k + 1, by omega⟩ := by
  rw [← accB_eq m c b ⟨k + 1, by omega⟩ _ i]
  refine congrFun ?_ i
  have hv : (pt b ⟨k + 1, by omega⟩).val = 4 * b.val + (k + 1) := rfl
  refine (congrArg (·.2.2.2.2) ((outsAt0_succ m c (4 * b.val + k) (lt_N b (k + 1) (by omega))).trans (stAt0_B m c (pt b ⟨k + 1, by omega⟩) _ (by omega) (by omega) (by omega)))).trans ?_
  dsimp only
  rw [sout_B]

/-- The finished accumulator of a block of rows. -/
theorem acc_done (c : Dev nD) (b : Fin 16) (i : S1024x1024.Idx) :
    (outsAt0 m c (4 * b.val + 2) (lt_N b 2 (by decide))).2.2.2.2 i + SH m c (row b (i 0)) (i 1) 3 = DH m c (row b (i 0)) (i 1) := by
  rw [scr_succ m c b 1 (by decide), scr_succ m c b 0 (by decide), scr0, zero_add]
  unfold DH dhAt
  rw [Fin.sum_univ_four]
  rfl

/-- The rows' own gradient. -/
theorem outs10 (c : Dev nD) (b : Fin 16) (r q : Fin 1024) : (outsAt0 m c (4 * b.val + 3) (lt_N b 3 (by decide))).2.2.1 (ix2 r q)
    = DX m c (row b r) q + rowGrad (X m c (row b r)) (W m c) (DH m c (row b r)) q := by
  have hv : (pt b 3).val = 4 * b.val + 3 := rfl
  refine (congrFun (congrArg (·.2.2.1) ((outsAt0_succ m c (4 * b.val + 2) (lt_N b 3 (by decide))).trans (stAt0_C m c (pt b 3) _ (by omega) (by omega) (by omega)))) _).trans ?_
  dsimp only
  rw [out_C_10]
  have h0 : (iblk m c 0 (pt b 3) : Vec Ideal S1024x1024 .f32) (ix2 r q) = DX m c (row b r) q := by rw [iblk0_at, rowOf_pt]
  have h1 : (fun k => (iblk m c 1 (pt b 3) : Vec Ideal S1024x1024 .f32) (ix2 r k)) = X m c (row b r) := funext fun k => by rw [iblk1_at, rowOf_pt]
  have h2 : (fun k => (iblk m c 2 (pt b 3) : Vec Ideal S1x1024 .f32) (ix2 0 k)) = W m c := funext fun k => iblk2_at m c _ k
  refine congrArg₂ (· + ·) h0 ?_
  refine (congrArg₂ (fun x w => rowGrad x w _ q) h1 h2).trans (congrArg (fun d => rowGrad (X m c (row b r)) (W m c) d q) (funext fun k => ?_))
  exact (accB_eq m c b 3 _ (ix2 r k)).trans (acc_done m c b (ix2 r k))

/-- What a block of rows adds to the norm weights' row. -/
def blockDw (c : Dev nD) (b : Fin 16) (q : Fin 1024) : EReal := ∑ r : Fin 1024, dwAt (X m c) (DX m c) (W m c) (WG m c) (WU m c) (WD m c) (row b r) q

theorem outs11_C (c : Dev nD) (b : Fin 16) (i : S8x1024.Idx) : (outsAt0 m c (4 * b.val + 3) (lt_N b 3 (by decide))).2.2.2.1 i
    = if (i 0).val = 0 then (outsAt0 m c (4 * b.val + 2) (lt_N b 2 (by decide))).2.2.2.1 i + blockDw m c b (i 1) else (outsAt0 m c (4 * b.val + 2) (lt_N b 2 (by decide))).2.2.2.1 i := by
  have hv : (pt b 3).val = 4 * b.val + 3 := rfl
  refine (congrFun (congrArg (·.2.2.2.1) ((outsAt0_succ m c (4 * b.val + 2) (lt_N b 3 (by decide))).trans (stAt0_C m c (pt b 3) _ (by omega) (by omega) (by omega)))) _).trans ?_
  dsimp only
  rw [out_C_11]
  dsimp only
  refine congrArg (fun z => if (i 0).val = 0 then _ + z else _) (Finset.sum_congr rfl fun r _ => ?_)
  have h1 : (fun k => (iblk m c 1 (pt b 3) : Vec Ideal S1024x1024 .f32) (ix2 r k)) = X m c (row b r) := funext fun k => by rw [iblk1_at, rowOf_pt]
  exact congrArg₂ (· * ·) ((accB_eq m c b 3 _ (ix2 r (i 1))).trans (acc_done m c b (ix2 r (i 1)))) (congrArg₂ (· * ·) (congrFun h1 (i 1)) (congrArg rn h1))

theorem outs11_B (c : Dev nD) (b : Fin 16) (k : ℕ) (hk : k + 1 < 3) :
    (outsAt0 m c (4 * b.val + (k + 1)) (lt_N b (k + 1) (by omega))).2.2.2.1 = (outsAt0 m c (4 * b.val + k) (lt_N b k (by omega))).2.2.2.1 := by
  have hv : (pt b ⟨k + 1, by omega⟩).val = 4 * b.val + (k + 1) := rfl
  exact congrArg (·.2.2.2.1) ((outsAt0_succ m c (4 * b.val + k) (lt_N b (k + 1) (by omega))).trans (stAt0_B m c (pt b ⟨k + 1, by omega⟩) _ (by omega) (by omega) (by omega)))

theorem outs11_D (c : Dev nD) (n : ℕ) (hn : n + 1 < cfg0.N) (h0 : (n + 1) % 4 = 0) (h1 : ¬(n + 1) % 64 = 0) :
    (outsAt0 m c (n + 1) hn).2.2.2.1 = (outsAt0 m c n (Nat.lt_of_succ_lt hn)).2.2.2.1 := by
  have h2 : ¬(n + 1) % 4 = 3 := by omega
  exact congrArg (·.2.2.2.1) ((outsAt0_succ m c n hn).trans (stAt0_D m c ⟨n + 1, hn⟩ _ h0 h1 h2))

theorem outs_congr (c : Dev nD) {n n' : ℕ} (h : n = n') (hn : n < cfg0.N) (hn' : n' < cfg0.N) : outsAt0 m c n hn = outsAt0 m c n' hn' := by subst h; rfl

/-- The norm weights' row after a block of rows: the sum over the blocks up to it. -/
theorem outs11 (c : Dev nD) : ∀ (b : ℕ) (hb : b < 16) (i : S8x1024.Idx), (outsAt0 m c (4 * b + 3) (lt_N ⟨b, hb⟩ 3 (by decide))).2.2.2.1 i
    = if (i 0).val = 0 then ∑ b' : Fin (b + 1), blockDw m c ⟨b'.val, by omega⟩ (i 1) else 0
  | 0, hb, i => by
    rw [outs11_C m c ⟨0, hb⟩ i]
    have h := (outs11_B m c ⟨0, hb⟩ 1 (by decide)).trans (outs11_B m c ⟨0, hb⟩ 0 (by decide))
    have hA : (outsAt0 m c 0 (lt_N ⟨0, hb⟩ 0 (by decide))).2.2.2.1 = fun _ => 0 := by
      refine (congrArg (·.2.2.2.1) (outsAt0_A m c ⟨0, lt_N ⟨0, hb⟩ 0 (by decide)⟩ rfl rfl (by simp))).trans ?_
      dsimp only
      rw [out_A_11]
    have hz := congrFun (h.trans hA) i
    rw [hz, zero_add]
    split_ifs
    · simp
    · rfl
  | b + 1, hb, i => by
    rw [outs11_C m c ⟨b + 1, hb⟩ i]
    have h := (outs11_B m c ⟨b + 1, hb⟩ 1 (by decide)).trans (outs11_B m c ⟨b + 1, hb⟩ 0 (by decide))
    have hD : (outsAt0 m c (4 * (b + 1) + 0) (lt_N ⟨b + 1, hb⟩ 0 (by decide))).2.2.2.1 = (outsAt0 m c (4 * b + 3) (lt_N ⟨b, by omega⟩ 3 (by decide))).2.2.2.1 :=
      (congrArg (·.2.2.2.1) (outs_congr m c (show 4 * (b + 1) + 0 = 4 * b + 3 + 1 by omega) _ (lt_N ⟨b + 1, hb⟩ 0 (by decide)))).trans (outs11_D m c (4 * b + 3) (lt_N ⟨b + 1, hb⟩ 0 (by decide)) (by omega) (by omega))
    have hz := (congrFun (h.trans hD) i).trans (outs11 c b (by omega) i)
    rw [hz]
    split_ifs
    · rw [Fin.sum_univ_castSucc (n := b + 1)]; rfl
    · rfl

/-- All rows, block by block. -/
theorem sum_rows (f : Fin 16384 → EReal) : (∑ b : Fin 16, ∑ r : Fin 1024, f (row b r)) = ∑ R, f R := by
  rw [← Fintype.sum_prod_type']
  refine Fintype.sum_equiv (finProdFinEquiv (m := 16) (n := 1024)) _ _ fun p => congrArg f (Fin.ext ?_)
  simp only [finProdFinEquiv_apply_val]; omega

/-- The four results. -/
def R0 (c : Dev nD) : FVec Ideal S4x16384x704 .bf16 := fun i => DU m c (i 1) (col (i 0) (i 2))
def R1 (c : Dev nD) : FVec Ideal S4x16384x704 .bf16 := fun i => DT m c (i 1) (col (i 0) (i 2))
def R2 (c : Dev nD) : FVec Ideal S16384x1024 .f32 := fun i => DX m c (i 0) (i 1) + rowGrad (X m c (i 0)) (W m c) (DH m c (i 0)) (i 1)
def R3 (c : Dev nD) : FVec Ideal S8x1024 .f32 :=
  fun i => if (i 0).val = 0 then ∑ R, dwAt (X m c) (DX m c) (W m c) (WG m c) (WU m c) (WD m c) R (i 1) else 0

/-- The point that writes row `R` of shard `j`. -/
theorem pt_lt (j : Fin 4) (R : Fin 16384) : 4 * (R.val / 1024) + j.val < cfg0.N := by have h : cfg0.N = 64 := N_0; omega
theorem pt_row (j : Fin 4) (R : Fin 16384) : rowOf ⟨4 * (R.val / 1024) + j.val, pt_lt j R⟩ ⟨R.val % 1024, by omega⟩ = R := Fin.ext (by
  show 1024 * ((4 * (R.val / 1024) + j.val) / 4) + R.val % 1024 = R.val
  omega)
theorem pt_shard (j : Fin 4) (R : Fin 16384) : shOf ⟨4 * (R.val / 1024) + j.val, pt_lt j R⟩ = j := Fin.ext (by
  show (4 * (R.val / 1024) + j.val) % 4 = j.val
  omega)
theorem loc_at (l : S1x1024x704.Idx) (j : Fin 4) (R : Fin 16384) (f : Fin 704) (h : ∀ a, (l a).val = ![j.val % 1, R.val % 1024, f.val % 704] a) :
    l = ix3 0 ⟨R.val % 1024, by omega⟩ f := by
  funext a; apply Fin.ext
  match a with
  | ⟨0, _⟩ => exact (h 0).trans (show j.val % 1 = 0 by omega)
  | ⟨1, _⟩ => exact h 1
  | ⟨2, _⟩ => exact (h 2).trans (show f.val % 704 = f.val by omega)

/-- The four arrays, from the points that write them back. -/
theorem final8' (c : Dev nD) : (dats m 0 c).arrAt 8 cfg0.N = R0 m c := by
  rw [final8]
  funext i
  obtain ⟨j, R, f, rfl⟩ : ∃ (j : Fin 4) (R : Fin 16384) (f : Fin 704), i = ix3 j R f := ⟨i 0, i 1, i 2, eq_ix3 i⟩
  have hp : pt8Of (ix3 j R f) = 4 * (R.val / 1024) + j.val := by
    show 1 * (j.val / 1 - 0) + 4 * (R.val / 1024 - 0) + 64 * (f.val / 704 - 0) = _
    omega
  have hl : loc8Of (ix3 j R f) = ix3 0 ⟨R.val % 1024, by omega⟩ f := loc_at _ j R f (fun a => by fin_cases a <;> rfl)
  unfold G8
  rw [dif_pos (by rw [hp]; exact pt_lt j R), hl, fold0_congr m c _ _ _ (by rw [zero_add]; exact pt_lt j R) hp, ← outsAt0_sweep m c _ (pt_lt j R)]
  exact (outs8 m c ⟨_, pt_lt j R⟩ ⟨R.val % 1024, by omega⟩ f).trans (congrArg₂ (fun R j => DU m c R (col j f)) (pt_row j R) (pt_shard j R))

theorem final9' (c : Dev nD) : (dats m 0 c).arrAt 9 cfg0.N = R1 m c := by
  rw [final9]
  funext i
  obtain ⟨j, R, f, rfl⟩ : ∃ (j : Fin 4) (R : Fin 16384) (f : Fin 704), i = ix3 j R f := ⟨i 0, i 1, i 2, eq_ix3 i⟩
  have hp : pt9Of (ix3 j R f) = 4 * (R.val / 1024) + j.val := by
    show 1 * (j.val / 1 - 0) + 4 * (R.val / 1024 - 0) + 64 * (f.val / 704 - 0) = _
    omega
  have hl : loc9Of (ix3 j R f) = ix3 0 ⟨R.val % 1024, by omega⟩ f := loc_at _ j R f (fun a => by fin_cases a <;> rfl)
  unfold G9
  rw [dif_pos (by rw [hp]; exact pt_lt j R), hl, fold0_congr m c _ _ _ (by rw [zero_add]; exact pt_lt j R) hp, ← outsAt0_sweep m c _ (pt_lt j R)]
  exact (outs9 m c ⟨_, pt_lt j R⟩ ⟨R.val % 1024, by omega⟩ f).trans (congrArg₂ (fun R j => DT m c R (col j f)) (pt_row j R) (pt_shard j R))

theorem final10' (c : Dev nD) : (dats m 0 c).arrAt 10 cfg0.N = R2 m c := by
  rw [final10]
  funext i
  obtain ⟨R, q, rfl⟩ : ∃ (R : Fin 16384) (q : Fin 1024), i = ix2 R q := ⟨i 0, i 1, eq_ix2 i⟩
  have hp : pt10Of (ix2 R q) = 4 * (R.val / 1024) + 3 := by
    show 4 * (1 * (R.val / 1024 - 0) + 1 * (q.val / 1024 - 0)) + 3 = _
    omega
  have hl : loc10Of (ix2 R q) = ix2 ⟨R.val % 1024, by omega⟩ q := by
    funext a; apply Fin.ext
    match a with
    | ⟨0, _⟩ => rfl
    | ⟨1, _⟩ => show q.val % 1024 = q.val; omega
  unfold G10
  rw [dif_pos (by rw [hp]; exact pt_lt 3 R), hl, fold0_congr m c _ _ _ (by rw [zero_add]; exact pt_lt 3 R) hp, ← outsAt0_sweep m c (4 * (R.val / 1024) + 3) (pt_lt 3 R)]
  have hR : row ⟨R.val / 1024, by omega⟩ ⟨R.val % 1024, by omega⟩ = R := Fin.ext (by show 1024 * (R.val / 1024) + R.val % 1024 = R.val; omega)
  exact (outs10 m c ⟨R.val / 1024, by omega⟩ ⟨R.val % 1024, by omega⟩ q).trans (congrArg (fun R => DX m c R q + rowGrad (X m c R) (W m c) (DH m c R) q) hR)

/-- All sixteen blocks together. -/
theorem sum_blocks (c : Dev nD) (b : ℕ) (hb : b < 16) (h : b + 1 = 16) (q : Fin 1024) :
    (∑ b' : Fin (b + 1), blockDw m c ⟨b'.val, by omega⟩ q) = ∑ R, dwAt (X m c) (DX m c) (W m c) (WG m c) (WU m c) (WD m c) R q := by
  rw [← sum_rows]
  exact Fintype.sum_equiv (finCongr h) _ _ fun b' => rfl

/-- The row after the last block, its blocks together. -/
theorem outs11_last (c : Dev nD) (b : ℕ) (hb : b < 16) (h : b + 1 = 16) (n : ℕ) (hn : n < cfg0.N) (hn' : n = 4 * b + 3) (i : S8x1024.Idx) :
    (outsAt0 m c n hn).2.2.2.1 i = R3 m c i := by
  have ho := outs11 m c b hb i
  rw [outs_congr m c hn' hn (lt_N ⟨b, hb⟩ 3 (by decide))]
  exact ho.trans (congrArg (fun s : EReal => if (i 0).val = 0 then s else 0) (sum_blocks m c b hb h (i 1)))

theorem final11' (c : Dev nD) : (dats m 0 c).arrAt 11 cfg0.N = R3 m c := by
  rw [final11, G11_last, ← outsAt0_sweep m c 63 (by have h : cfg0.N = 64 := N_0; omega)]
  exact funext fun i => outs11_last m c 15 (by decide) rfl 63 _ rfl i

end Cert.FfnKernelIdeal.Value
end
-- ==== Proof.FfnMath.lean ====
module

public import proofs.«01_k».proof.Proof.FfnValue

/-! # The gate's gradient by the chain rule

Differentiating the gate as a product of `u` and the logistic function gives two summands; the kernel has them in one
product. On real cotangents and real factors the two agree at every `u`, infinite ones included. -/

@[expose] public section

set_option maxRecDepth 16384

noncomputable section

namespace Cert.FfnKernelIdeal.Value

open Cert.FfnKernelIdeal Idealize.ShloMosaic NormGrad

theorem ofBits_1024 : k1024 = ((1024 : ℝ) : EReal) := by
  simp [k1024, Ideal.ofBits, Ideal.ieee, -EReal.coe_mul]; norm_num
theorem ofBits_one : Ideal.ofBits .f32 1065353216#32 = (1 : EReal) := by
  simp [Ideal.ofBits, Ideal.ieee, -EReal.coe_mul]; norm_num

/-- An extended real that is a real number. -/
def IsReal (x : EReal) : Prop := ∃ r : ℝ, x = r

theorem IsReal.mul {x y : EReal} : IsReal x → IsReal y → IsReal (x * y)
  | ⟨a, ha⟩, ⟨b, hb⟩ => ⟨a * b, by rw [ha, hb, EReal.coe_mul]⟩
theorem IsReal.sum {ι : Type*} (s : Finset ι) (f : ι → EReal) (h : ∀ i, IsReal (f i)) : IsReal (∑ i ∈ s, f i) := by
  classical
  induction s using Finset.induction_on with
  | empty => exact ⟨0, by simp⟩
  | insert a s ha ih =>
    obtain ⟨p, hp⟩ := ih; obtain ⟨q, hq⟩ := h a
    exact ⟨q + p, by rw [Finset.sum_insert ha, hp, hq, EReal.coe_add]⟩
theorem isReal_of_abs {x : EReal} (h : max x (-x) < ⊤) : IsReal x := by
  induction x using EReal.rec with
  | bot => simp at h
  | top => simp at h
  | coe r => exact ⟨r, rfl⟩

/-- The logistic function at the infinities and at a real number. -/
theorem sgm_top : sgm ⊤ = 1 := by
  have : (0 : EReal) - ⊤ = ⊥ := rfl
  rw [sgm, this, Ideal.exp_bot, add_zero, show (1 : EReal) = ((1 : ℝ) : EReal) from rfl, Ideal.div_coe one_ne_zero]
  norm_num
theorem sgm_bot : sgm ⊥ = 0 := by
  have : (0 : EReal) - ⊥ = ⊤ := rfl
  have h1 : (1 : EReal) + ⊤ = ⊤ := EReal.coe_add_top 1
  rw [sgm, this, Ideal.exp_top, h1]
  simp [Ideal.div]
theorem sgm_coe (u : ℝ) : IsReal (sgm u) := by
  have : (0 : EReal) - (u : EReal) = ((0 - u : ℝ) : EReal) := by rw [EReal.coe_sub]; rfl
  rw [sgm, this, Ideal.exp_coe, show (1 : EReal) = ((1 : ℝ) : EReal) from rfl, ← EReal.coe_add, Ideal.div_coe (by positivity), ← EReal.coe_mul]
  exact ⟨_, rfl⟩

/-- The chain rule's two summands are the kernel's product. -/
theorem gate_eq (da t u : EReal) (ha : IsReal da) (ht : IsReal t) :
    da * t * sgm u + u * (da * t) * (sgm u * (1 - sgm u)) = duOf da u t := by
  obtain ⟨g, hg⟩ := ha.mul ht
  unfold duOf
  rw [hg]
  induction u using EReal.rec with
  | top =>
    have h1 : (1 : EReal) - 1 = 0 := by rw [show (1 : EReal) = ((1 : ℝ) : EReal) from rfl, ← EReal.coe_sub]; simp
    rw [sgm_top, h1]; simp
  | bot => rw [sgm_bot]; simp
  | coe u =>
    obtain ⟨s, hs⟩ := sgm_coe u
    rw [hs, show (1 : EReal) = ((1 : ℝ) : EReal) from rfl]
    norm_cast
    ring

/-- The inverse root mean square by its two forms. -/
theorem rn_eq (x : Fin 1024 → EReal) : rn x = rinv ((1 / 1024 : ℝ) : EReal) eps x := by
  unfold rn rinv
  rw [ofBits_1024, Ideal.div_coe (by norm_num)]

/-- A normed entry is a real number: the row's inverse root mean square is zero, or all its squares are finite. -/
theorem norm_real (x : Fin 1024 → EReal) (q : Fin 1024) : IsReal (x q * rn x) := by
  obtain ⟨e, he, hE⟩ := ofBits_eps
  rw [rn_eq, eps, hE]
  rcases rinv_cases x (1 / 1024) e (by norm_num) he with ⟨h, _⟩ | ⟨w, p, hw, hp, -, h, hv⟩
  · rw [h, mul_zero]; exact ⟨0, rfl⟩
  · rw [h]
    refine IsReal.mul ?_ ⟨p, rfl⟩
    have hS : (∑ i, x i * x i) ≠ ⊤ := by
      intro hS
      rw [hS, EReal.top_mul_coe_of_pos (by norm_num)] at hv
      exact absurd hv (by rw [EReal.top_add_coe]; exact (EReal.coe_ne_top w).symm)
    have hq : x q * x q ≤ ∑ i, x i * x i :=
      Finset.single_le_sum (f := fun i => x i * x i) (fun i _ => NormGrad.mul_self_nonneg (x i)) (Finset.mem_univ q)
    generalize x q = y at hq
    induction y using EReal.rec with
    | bot => exact absurd (top_le_iff.1 (by simpa using hq)) hS
    | top => exact absurd (top_le_iff.1 (by simpa using hq)) hS
    | coe r => exact ⟨r, rfl⟩

/-- The norm's gradient by the chain rule is the kernel's. -/
theorem normGrad_eq (x w d : Fin 1024 → EReal) (q : Fin 1024) :
    d q * w q * rn x
        + x q * Ideal.div ((∑ k, x k * (d k * w k)) * (((-(1 / 2) : ℝ) : EReal) * Ideal.div (rn x) (Ideal.div (∑ k, x k * x k) k1024 + eps))) k1024
        + Ideal.div ((∑ k, x k * (d k * w k)) * (((-(1 / 2) : ℝ) : EReal) * Ideal.div (rn x) (Ideal.div (∑ k, x k * x k) k1024 + eps))) k1024 * x q
      = rowGrad x w d q := by
  obtain ⟨e, he, hE⟩ := ofBits_eps
  have := handGrad_eq 1024 (1 / 1024) e (by norm_num) rfl he x (fun k => d k * w k) (x q) (d q * w q)
  rw [← ofBits_1024, ← hE] at this
  refine this.trans ?_
  unfold handGrad rowGrad
  rw [← rn_eq, ofBits_1024, Ideal.div_coe (by norm_num)]

/-- The columns, shard by shard. -/
theorem sum_cols (f : Fin 2816 → EReal) : (∑ j : Fin 4, ∑ l : Fin 704, f (col j l)) = ∑ F, f F := by
  rw [← Fintype.sum_prod_type']
  refine Fintype.sum_equiv (finProdFinEquiv (m := 4) (n := 704)) _ _ fun p => congrArg f (Fin.ext ?_)
  simp only [finProdFinEquiv_apply_val]; omega

end Cert.FfnKernelIdeal.Value
end
-- ==== Proof.FfnRef.lean ====
module

public import proofs.«01_k».proof.Proof.Gen.FfnReferenceIdeal.Run
public import proofs.«01_k».proof.Proof.FfnMath
public import Idealize.ShloMosaic.Lib.Pointwise
public import Idealize.ShloMosaic.Lib.Pointwise.Tactic

/-! # What the gate's reference leaves -/

@[expose] public section

set_option maxRecDepth 16384

noncomputable section

namespace Cert.FfnReferenceIdeal.Value

open Cert.FfnReferenceIdeal Idealize.ShloMosaic Idealize.ShloMosaic.TcCoe Idealize.SL.Sem NormGrad Facts₀
open Cert.FfnKernelIdeal.Value (rn rowGrad k1024 eps sgm duOf dtOf hnAt upAt daAt duAt dtAt shAt dhAt dwAt col IsReal ofBits_one ofBits_1024 gate_eq normGrad_eq sum_cols norm_real)

/-! ## The reference's arrays, one definition each -/

abbrev Rows : Type := FVec Ideal S16384x1024 .f32
abbrev Wide : Type := FVec Ideal S16384x2816 .f32
abbrev Col1 : Type := FVec Ideal S16384x1 .f32

def ms (x : Rows) : Col1 := addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))
def rs (x : Rows) : Col1 := Host.rsqrt (ms x)
def xr (x : Rows) : Rows := mulf x (broadcastInDim S16384x1024 ![0, 1] bcast_S16384x1_S16384x1024_0_1 (rs x))
def wRow (w : FVec Ideal S1024 .f32) : Rows := broadcastInDim S16384x1024 ![0, 1] bcast_S1x1024_S16384x1024_0_1 (broadcastInDim S1x1024 ![1] bcast_S1024_S1x1024_1 w)
def hn (x : Rows) (w : FVec Ideal S1024 .f32) : Rows := mulf (xr x) (wRow w)
def up (h : Rows) (a : FVec Ideal S1024x2816 .f32) : Wide := addf (Host.dotGeneral dot_S16384x1024_S1024x2816_S16384x2816_1_0_0_1_n_n none h a) (broadcastInDim S16384x2816 ![] bcast_S_S16384x2816 (constant S_ .f32 0x00000000#32))
def one : Wide := broadcastInDim S16384x2816 ![] bcast_S_S16384x2816 (constant S_ .f32 0x3F800000#32)
def sg (u : Wide) : Wide := Host.divf one (addf one (Host.exp (Host.negf u)))
def da (d : Rows) (a : FVec Ideal S2816x1024 .f32) : Wide := Host.dotGeneral dot_S16384x1024_S2816x1024_S16384x2816_1_1_0_0_n_n none (shapeCast S16384x1024 d shapeCasts_S16384x1024_S16384x1024) a
def du (g u t : Wide) : Wide := addf (mulf (mulf g t) (sg u)) (mulf (mulf u (mulf g t)) (mulf (sg u) (subf one (sg u))))
def dt (g u : Wide) : Wide := mulf (mulf u (sg u)) g
def dh (p q : Wide) (a3 a4 : FVec Ideal S1024x2816 .f32) : Rows := addf (Host.dotGeneral dot_S16384x2816_S1024x2816_S16384x1024_1_1_0_0_n_n none q a4) (Host.dotGeneral dot_S16384x2816_S1024x2816_S16384x1024_1_1_0_0_n_n none p a3)
def dq (x v : Rows) : Rows := broadcastInDim S16384x1024 ![0] bcast_S16384_S16384x1024_0 (Host.reduceAdd (Host.divf (mulf (shapeCast S16384x1 (Host.reduceAdd (mulf x v) (constant S_ .f32 0x00000000#32) reducesTo_S16384x1024_S16384_d1 h_S_) shapeCasts_S16384_S16384x1) (mulf (broadcastInDim S16384x1 ![] bcast_S_S16384x1 (constant S_ .f32 0xBF000000#32)) (Host.divf (rs x) (ms x)))) (broadcastInDim S16384x1 ![] bcast_S_S16384x1 (constant S_ .f32 0x44800000#32))) (constant S_ .f32 0x00000000#32) reducesTo_S16384x1_S16384_d1 h_S_)
def dx (d x v : Rows) : Rows := addf (addf (addf d (mulf v (broadcastInDim S16384x1024 ![0, 1] bcast_S16384x1_S16384x1024_0_1 (rs x)))) (mulf x (dq x v))) (mulf (dq x v) x)
def shards (a : Wide) : FVec Ideal S4x16384x704 .bf16 := truncf .bf16 (transpose S4x16384x704 [1, 0, 2] (shapeCast S16384x4x704 a shapeCasts_S16384x2816_S16384x4x704) transposes_S16384x4x704_S4x16384x704_1_0_2) bitsLt_bf16_f32
def dnw (x v : Rows) : FVec Ideal S8x1024 .f32 := pad S8x1024 ![0, 0] ![7, 0] ![0, 0] (broadcastInDim S1x1024 ![1] bcast_S1024_S1x1024_1 (Host.reduceAdd (shapeCast S1x1024 (Host.reduceAdd (mulf (xr x) v) (constant S_ .f32 0x00000000#32) reducesTo_S16384x1024_S1024_d0 h_S_) shapeCasts_S1024_S1x1024) (constant S_ .f32 0x00000000#32) reducesTo_S1x1024_S1024_d0 h_S_)) (sitofp .f32 (constantI S_ 32 0#32)) pads_S1x1024_S8x1024_070_000 h_S_

section terms

variable (a0 a1 : Rows) (a2 : FVec Ideal S1024 .f32) (a3 a4 : FVec Ideal S1024x2816 .f32) (a5 : FVec Ideal S2816x1024 .f32)

def U : Wide := up (hn a1 a2) a3
def T : Wide := up (hn a1 a2) a4
def DA : Wide := da a0 a5
def DU : Wide := du (DA a0 a5) (U a1 a2 a3) (T a1 a2 a4)
def DT : Wide := dt (DA a0 a5) (U a1 a2 a3)
def DH : Rows := dh (DU a0 a1 a2 a3 a4 a5) (DT a0 a1 a2 a3 a5) a3 a4

end terms

/-! ## Their entries -/

section entries

variable (x d v : Rows) (w : FVec Ideal S1024 .f32) (a : FVec Ideal S1024x2816 .f32) (b : FVec Ideal S2816x1024 .f32) (u t g : Wide)
variable (R : Fin 16384) (k : Fin 1024) (F : Fin 2816)

theorem ms_at : ms x (ix2 R 0) = Ideal.div (∑ k, x (ix2 R k) * x (ix2 R k)) k1024 + eps := by
  unfold ms
  pointwise
theorem rs_at : rs x (ix2 R 0) = rn (fun k => x (ix2 R k)) := congrArg Ideal.rsqrt (ms_at x R)
theorem xr_at : xr x (ix2 R k) = x (ix2 R k) * rn (fun k => x (ix2 R k)) := by
  have h := rs_at x R
  unfold xr
  generalize rs x = y at h
  pointwise
  rw [h]
theorem hn_at : hn x w (ix2 R k) = x (ix2 R k) * rn (fun k => x (ix2 R k)) * w (ix1 k) := by
  have h := xr_at x R k
  unfold hn wRow
  generalize xr x = y at h
  pointwise
  rw [h]
theorem up_at : up v a (ix2 R F) = ∑ k : Fin 1024, v (ix2 R k) * a (ix2 k F) := by
  unfold up
  pointwise
theorem sg_at : sg u (ix2 R F) = sgm (u (ix2 R F)) := by
  unfold sg one sgm
  rw [zero_sub]
  pointwise
theorem da_at : da d b (ix2 R F) = ∑ k : Fin 1024, d (ix2 R k) * b (ix2 F k) := by
  unfold da
  pointwise
theorem du_at : du g u t (ix2 R F) = g (ix2 R F) * t (ix2 R F) * sgm (u (ix2 R F)) + u (ix2 R F) * (g (ix2 R F) * t (ix2 R F)) * (sgm (u (ix2 R F)) * (1 - sgm (u (ix2 R F)))) := by
  have h := sg_at u R F
  unfold du one
  generalize sg u = y at h
  pointwise
  rw [h]
theorem dt_at : dt g u (ix2 R F) = u (ix2 R F) * sgm (u (ix2 R F)) * g (ix2 R F) := by
  have h := sg_at u R F
  unfold dt
  generalize sg u = y at h
  pointwise
  rw [h]
theorem dh_at (a' : FVec Ideal S1024x2816 .f32) : dh u t a a' (ix2 R k) = (∑ F : Fin 2816, t (ix2 R F) * a' (ix2 k F)) + ∑ F : Fin 2816, u (ix2 R F) * a (ix2 k F) := by
  unfold dh
  pointwise
theorem dq_at : dq x v (ix2 R k) = Ideal.div ((∑ k, x (ix2 R k) * v (ix2 R k)) * (((-(1 / 2) : ℝ) : EReal) * Ideal.div (rn fun k => x (ix2 R k)) (Ideal.div (∑ k, x (ix2 R k) * x (ix2 R k)) k1024 + eps))) k1024 := by
  have h := rs_at x R
  have h' := ms_at x R
  unfold dq
  generalize rs x = y at h
  generalize ms x = z at h'
  pointwise
  rw [← h, ← h', ← ofBits_neg_half]
  simp only [Finset.univ_unique, Finset.sum_singleton]
  rfl
theorem dx_at : dx d x v (ix2 R k) = d (ix2 R k) + v (ix2 R k) * (rn fun k => x (ix2 R k)) + x (ix2 R k) * dq x v (ix2 R k) + dq x v (ix2 R k) * x (ix2 R k) := by
  have h := rs_at x R
  unfold dx
  generalize dq x v = q
  generalize rs x = y at h
  pointwise
  rw [h]
theorem shards_at (j : Fin 4) (f : Fin 704) : shards u (ix3 j R f) = u (ix2 R (col j f)) := by
  unfold shards
  pointwise
theorem dnw_at (r : Fin 8) : dnw x v (ix2 r k) = if r.val = 0 then ∑ R, x (ix2 R k) * rn (fun k => x (ix2 R k)) * v (ix2 R k) else 0 := by
  have h : ∀ R, xr x (ix2 R k) = _ := fun R => xr_at x R k
  unfold dnw
  generalize xr x = y at h
  pointwise
  by_cases hk : r.val = 0
  · rw [dif_pos (by omega), if_pos hk]
    exact (Fin.sum_univ_one _).trans (Finset.sum_congr rfl fun R _ => congrArg (· * _) (h R))
  · rw [dif_neg (by omega), if_neg hk]
    simp [FloatOps.sitofp]

theorem wMul_at : mulf v (wRow w) (ix2 R k) = v (ix2 R k) * w (ix1 k) := by
  unfold wRow
  pointwise

end entries

/-! ## The reference's results are the kernel's -/

section results

variable (a0 a1 : Rows) (a2 : FVec Ideal S1024 .f32) (a3 a4 : FVec Ideal S1024x2816 .f32) (a5 : FVec Ideal S2816x1024 .f32)

/-- The arguments, entry by entry. -/
abbrev rowsAt (a : Rows) (R : Fin 16384) (k : Fin 1024) : EReal := a (ix2 R k)
abbrev wAt (w : FVec Ideal S1024 .f32) (k : Fin 1024) : EReal := w (ix1 k)
abbrev wideAt (a : FVec Ideal S1024x2816 .f32) (k : Fin 1024) (F : Fin 2816) : EReal := a (ix2 k F)
abbrev downAt (a : FVec Ideal S2816x1024 .f32) (F : Fin 2816) (k : Fin 1024) : EReal := a (ix2 F k)

theorem U_at (R : Fin 16384) (F : Fin 2816) : U a1 a2 a3 (ix2 R F) = upAt (rowsAt a1) (wAt a2) (wideAt a3) R F := by
  unfold U
  rw [up_at]
  exact Finset.sum_congr rfl fun k _ => (congrArg (· * _) (hn_at a1 a2 R k)).trans (mul_comm _ _)
theorem T_at (R : Fin 16384) (F : Fin 2816) : T a1 a2 a4 (ix2 R F) = upAt (rowsAt a1) (wAt a2) (wideAt a4) R F := U_at a1 a2 a4 R F
theorem DA_at (R : Fin 16384) (F : Fin 2816) : DA a0 a5 (ix2 R F) = daAt (rowsAt a0) (downAt a5) R F := da_at a0 a5 R F
theorem DT_at (R : Fin 16384) (F : Fin 2816) : DT a0 a1 a2 a3 a5 (ix2 R F) = dtAt (rowsAt a1) (rowsAt a0) (wAt a2) (wideAt a3) (downAt a5) R F := by
  unfold DT
  rw [dt_at, U_at, DA_at]
  exact mul_comm _ _

variable (hd : ∀ R k, IsReal (a0 (ix2 R k))) (hw : ∀ k, IsReal (a2 (ix1 k))) (hu : ∀ k F, IsReal (a4 (ix2 k F))) (hD : ∀ F k, IsReal (a5 (ix2 F k)))
include hd hw hu hD

theorem DU_at (R : Fin 16384) (F : Fin 2816) :
    DU a0 a1 a2 a3 a4 a5 (ix2 R F) = duAt (rowsAt a1) (rowsAt a0) (wAt a2) (wideAt a3) (wideAt a4) (downAt a5) R F := by
  unfold DU
  rw [du_at, U_at, T_at, DA_at]
  exact gate_eq _ _ _ (IsReal.sum _ _ fun k => (hd R k).mul (hD F k)) (IsReal.sum _ _ fun k => (hu k F).mul ((norm_real _ k).mul (hw k)))
theorem DH_at (R : Fin 16384) (q : Fin 1024) :
    DH a0 a1 a2 a3 a4 a5 (ix2 R q) = dhAt (rowsAt a1) (rowsAt a0) (wAt a2) (wideAt a3) (wideAt a4) (downAt a5) R q := by
  unfold DH dhAt shAt
  rw [dh_at, add_comm, Finset.sum_add_distrib]
  refine congrArg₂ (· + ·) ?_ ?_
  · rw [sum_cols fun F => duAt (rowsAt a1) (rowsAt a0) (wAt a2) (wideAt a3) (wideAt a4) (downAt a5) R F * wideAt a3 q F]
    exact Finset.sum_congr rfl fun F _ => congrArg (· * _) (DU_at a0 a1 a2 a3 a4 a5 hd hw hu hD R F)
  · rw [sum_cols fun F => dtAt (rowsAt a1) (rowsAt a0) (wAt a2) (wideAt a3) (downAt a5) R F * wideAt a4 q F]
    exact Finset.sum_congr rfl fun F _ => congrArg (· * _) (DT_at a0 a1 a2 a3 a5 R F)
theorem DX_at (R : Fin 16384) (q : Fin 1024) :
    dx a0 a1 (mulf (DH a0 a1 a2 a3 a4 a5) (wRow a2)) (ix2 R q)
      = a0 (ix2 R q) + rowGrad (rowsAt a1 R) (wAt a2) (dhAt (rowsAt a1) (rowsAt a0) (wAt a2) (wideAt a3) (wideAt a4) (downAt a5) R) q := by
  have h : ∀ k, mulf (DH a0 a1 a2 a3 a4 a5) (wRow a2) (ix2 R k) = dhAt (rowsAt a1) (rowsAt a0) (wAt a2) (wideAt a3) (wideAt a4) (downAt a5) R k * wAt a2 k :=
    fun k => (wMul_at _ _ R k).trans (congrArg (· * _) (DH_at a0 a1 a2 a3 a4 a5 hd hw hu hD R k))
  generalize mulf (DH a0 a1 a2 a3 a4 a5) (wRow a2) = v at h
  rw [dx_at, dq_at]
  simp only [h]
  rw [add_assoc, add_assoc, ← normGrad_eq, add_assoc]
theorem DW_at (r : Fin 8) (q : Fin 1024) :
    dnw a1 (DH a0 a1 a2 a3 a4 a5) (ix2 r q)
      = if r.val = 0 then ∑ R, dwAt (rowsAt a1) (rowsAt a0) (wAt a2) (wideAt a3) (wideAt a4) (downAt a5) R q else 0 := by
  rw [dnw_at]
  refine if_congr Iff.rfl (Finset.sum_congr rfl fun R _ => ?_) rfl
  rw [DH_at a0 a1 a2 a3 a4 a5 hd hw hu hD]
  exact mul_comm _ _

end results

/-- The reference's arguments. -/
abbrev arg0 (m : (ℓ : Loc nD τ sig) → Buf (Elt Ideal) ℓ) (c : Dev nD) : Rows := m ((c.tc : Thread nD τ).loc main_arg0)
abbrev arg1 (m : (ℓ : Loc nD τ sig) → Buf (Elt Ideal) ℓ) (c : Dev nD) : Rows := m ((c.tc : Thread nD τ).loc main_arg1)
abbrev arg2 (m : (ℓ : Loc nD τ sig) → Buf (Elt Ideal) ℓ) (c : Dev nD) : FVec Ideal S1024 .f32 := m ((c.tc : Thread nD τ).loc main_arg2)
abbrev arg3 (m : (ℓ : Loc nD τ sig) → Buf (Elt Ideal) ℓ) (c : Dev nD) : FVec Ideal S1024x2816 .f32 := m ((c.tc : Thread nD τ).loc main_arg3)
abbrev arg4 (m : (ℓ : Loc nD τ sig) → Buf (Elt Ideal) ℓ) (c : Dev nD) : FVec Ideal S1024x2816 .f32 := m ((c.tc : Thread nD τ).loc main_arg4)
abbrev arg5 (m : (ℓ : Loc nD τ sig) → Buf (Elt Ideal) ℓ) (c : Dev nD) : FVec Ideal S2816x1024 .f32 := m ((c.tc : Thread nD τ).loc main_arg5)

/-- The reference's run, its results by the arrays' definitions. -/
theorem run_at (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v56) = shards (DU (arg0 m c) (arg1 m c) (arg2 m c) (arg3 m c) (arg4 m c) (arg5 m c))
      ∧ r.2.mem ((c.tc : Thread nD τ).loc main_v59) = shards (DT (arg0 m c) (arg1 m c) (arg2 m c) (arg3 m c) (arg5 m c))
      ∧ r.2.mem ((c.tc : Thread nD τ).loc main_v53) = dx (arg0 m c) (arg1 m c) (mulf (DH (arg0 m c) (arg1 m c) (arg2 m c) (arg3 m c) (arg4 m c) (arg5 m c)) (wRow (arg2 m c)))
      ∧ r.2.mem ((c.tc : Thread nD τ).loc main_v61) = dnw (arg1 m c) (DH (arg0 m c) (arg1 m c) (arg2 m c) (arg3 m c) (arg4 m c) (arg5 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans rfl, (h c).2.1.trans rfl, (h c).2.2.1.trans rfl, (h c).2.2.2.1.trans rfl, (h c).2.2.2.2⟩) (run m ρ)

end Cert.FfnReferenceIdeal.Value
end
-- ==== Proof.FfnClaim.lean ====
/- The gate's backward call: on finite cotangents, norm weights, up and down weights the kernel and its reference leave the same values. -/
module

public import proofs.«01_k».proof.Defs
public import proofs.«01_k».proof.Proof.FfnValue
public import proofs.«01_k».proof.Proof.FfnRef
public import Idealize.ShloMosaic.Lib.ReduceAll

/-! # The gate's claim -/

@[expose] public section

set_option maxRecDepth 16384

noncomputable section

namespace Cert.Proof

open Idealize.ShloMosaic Idealize.SL.Sem
open Cert.FfnKernelIdeal.Value (IsReal isReal_of_abs)

/-- The precondition's shape relations. -/
theorem pre_ffn_facts : Cert.Pre_finite_ffn.Facts where
  bcast_S_S16384x1024 := by decide
  reducesTo_S16384x1024_S_d0_1 := by decide
  h_S_ := by decide
  bcast_S_S1024 := by decide
  reducesTo_S1024_S_d0 := by decide
  bcast_S_S1024x2816 := by decide
  reducesTo_S1024x2816_S_d0_1 := by decide
  bcast_S_S2816x1024 := by decide
  reducesTo_S2816x1024_S_d0_1 := by decide

instance : Cert.Pre_finite_ffn.Facts := pre_ffn_facts

/-- The bound every entry is compared with. -/
theorem ofBits_inf : Ideal.ofBits .f32 2139095040#32 = (⊤ : EReal) := by
  simp [Ideal.ofBits, Ideal.ieee]

/-- An entry that passes the comparison is a real number. -/
theorem real_of_cmp {S : Shape} (x y : FVec Ideal S .f32) (i : S.Idx) (hy : y i = Ideal.ofBits .f32 2139095040#32)
    (h : cmpf .olt (Host.absf x) y i = 1#1) : IsReal (x i) := by
  have h' : Ideal.cmp .olt (max (x i) (-(x i))) (y i) = 1 := h
  rw [hy, ofBits_inf] at h'
  exact isReal_of_abs ((Ideal.cmp_olt_eq_one _ _).1 h')

/-- What the precondition says of the arrays. -/
theorem pre_ffn (a0 a1 : FVec Ideal ⟨2, ![16384, 1024]⟩ .f32) (a2 : FVec Ideal ⟨1, ![1024]⟩ .f32) (a3 a4 : FVec Ideal ⟨2, ![1024, 2816]⟩ .f32)
    (a5 : FVec Ideal ⟨2, ![2816, 1024]⟩ .f32) (h : Cert.Pre_finite_ffn.fn a0 a1 a2 a3 a4 a5 = fun _ => 1#1) :
    (∀ i, IsReal (a0 i)) ∧ (∀ i, IsReal (a2 i)) ∧ (∀ i, IsReal (a4 i)) ∧ ∀ i, IsReal (a5 i) := by
  have h := congrFun h ix0
  dsimp only [Cert.Pre_finite_ffn.fn, Cert.Pre_finite_ffn.fn_part1] at h
  obtain ⟨h, h5⟩ := IntOp.andi_eq_one.1 h
  obtain ⟨h, h4⟩ := IntOp.andi_eq_one.1 h
  obtain ⟨h0, h2⟩ := IntOp.andi_eq_one.1 h
  exact ⟨fun i => real_of_cmp _ _ i rfl (Host.reduce_andi_all _ _ _ _ _ h0 i), fun i => real_of_cmp _ _ i rfl (Host.reduce_andi_all _ _ _ _ _ h2 i),
    fun i => real_of_cmp _ _ i rfl (Host.reduce_andi_all _ _ _ _ _ h4 i), fun i => real_of_cmp _ _ i rfl (Host.reduce_andi_all _ _ _ _ _ h5 i)⟩

/-- Both programs end with the same four gradients, their arguments kept. -/
theorem ffn_algebraic : Cert.algebraic_FfnKernelIdeal_FfnReferenceIdeal_pre_finite_ffn := fun m g m' g' hp he =>
  ⟨fun c => Cert.FfnKernelIdeal.Value.R0 m c, fun c => Cert.FfnKernelIdeal.Value.R1 m c, fun c => Cert.FfnKernelIdeal.Value.R2 m c, fun c => Cert.FfnKernelIdeal.Value.R3 m c,
    (θ_run Cert.FfnKernelIdeal.defs _ _).mono (fun _ h c => ⟨(h c).1.trans (Cert.FfnKernelIdeal.Value.final8' m c),
      (h c).2.1.trans (Cert.FfnKernelIdeal.Value.final9' m c), (h c).2.2.1.trans (Cert.FfnKernelIdeal.Value.final10' m c),
      (h c).2.2.2.1.trans (Cert.FfnKernelIdeal.Value.final11' m c), (h c).2.2.2.2⟩) (Cert.FfnKernelIdeal.Value.run_blocks m g),
    (θ_run Cert.FfnReferenceIdeal.defs _ _).mono (fun _ h c => by
      obtain ⟨e0, e1, e2, e3, e4, e5⟩ := he c
      obtain ⟨p0, p2, p4, p5⟩ := pre_ffn _ _ _ _ _ _ (hp c)
      refine ⟨(h c).1.trans ?_, (h c).2.1.trans ?_, (h c).2.2.1.trans ?_, (h c).2.2.2.1.trans ?_, (h c).2.2.2.2⟩
      · dsimp only [Cert.FfnReferenceIdeal.Value.arg0, Cert.FfnReferenceIdeal.Value.arg1, Cert.FfnReferenceIdeal.Value.arg2, Cert.FfnReferenceIdeal.Value.arg3, Cert.FfnReferenceIdeal.Value.arg4, Cert.FfnReferenceIdeal.Value.arg5]
        rw [e0, e1, e2, e3, e4, e5]
        funext i
        obtain ⟨j, R, f, rfl⟩ : ∃ (j : Fin 4) (R : Fin 16384) (f : Fin 704), i = ix3 j R f := ⟨i 0, i 1, i 2, eq_ix3 i⟩
        exact (Cert.FfnReferenceIdeal.Value.shards_at _ R j f).trans (Cert.FfnReferenceIdeal.Value.DU_at _ _ _ _ _ _ (fun _ _ => p0 _) (fun _ => p2 _) (fun _ _ => p4 _) (fun _ _ => p5 _) R _)
      · dsimp only [Cert.FfnReferenceIdeal.Value.arg0, Cert.FfnReferenceIdeal.Value.arg1, Cert.FfnReferenceIdeal.Value.arg2, Cert.FfnReferenceIdeal.Value.arg3, Cert.FfnReferenceIdeal.Value.arg4, Cert.FfnReferenceIdeal.Value.arg5]
        rw [e0, e1, e2, e3, e5]
        funext i
        obtain ⟨j, R, f, rfl⟩ : ∃ (j : Fin 4) (R : Fin 16384) (f : Fin 704), i = ix3 j R f := ⟨i 0, i 1, i 2, eq_ix3 i⟩
        exact (Cert.FfnReferenceIdeal.Value.shards_at _ R j f).trans (Cert.FfnReferenceIdeal.Value.DT_at _ _ _ _ _ R _)
      · dsimp only [Cert.FfnReferenceIdeal.Value.arg0, Cert.FfnReferenceIdeal.Value.arg1, Cert.FfnReferenceIdeal.Value.arg2, Cert.FfnReferenceIdeal.Value.arg3, Cert.FfnReferenceIdeal.Value.arg4, Cert.FfnReferenceIdeal.Value.arg5]
        rw [e0, e1, e2, e3, e4, e5]
        funext i
        obtain ⟨R, q, rfl⟩ : ∃ (R : Fin 16384) (q : Fin 1024), i = ix2 R q := ⟨i 0, i 1, eq_ix2 i⟩
        exact Cert.FfnReferenceIdeal.Value.DX_at _ _ _ _ _ _ (fun _ _ => p0 _) (fun _ => p2 _) (fun _ _ => p4 _) (fun _ _ => p5 _) R q
      · dsimp only [Cert.FfnReferenceIdeal.Value.arg0, Cert.FfnReferenceIdeal.Value.arg1, Cert.FfnReferenceIdeal.Value.arg2, Cert.FfnReferenceIdeal.Value.arg3, Cert.FfnReferenceIdeal.Value.arg4, Cert.FfnReferenceIdeal.Value.arg5]
        rw [e0, e1, e2, e3, e4, e5]
        funext i
        obtain ⟨r, q, rfl⟩ : ∃ (r : Fin 8) (q : Fin 1024), i = ix2 r q := ⟨i 0, i 1, eq_ix2 i⟩
        exact Cert.FfnReferenceIdeal.Value.DW_at _ _ _ _ _ _ (fun _ _ => p0 _) (fun _ => p2 _) (fun _ _ => p4 _) (fun _ _ => p5 _) r q) (Cert.FfnReferenceIdeal.Value.run_at m' g')⟩

end Cert.Proof

end
-- ==== Proof.SbfStep.lean ====
module

public import proofs.«01_k».proof.Proof.Gen.SbfKernelIdeal.Launch
public import proofs.«01_k».proof.Proof.Gen.SbfKernelIdeal.Skeleton
public import proofs.«01_k».proof.Proof.Gen.SbfKernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.Proof.Sbf

open Cert.SbfKernelIdeal Cert.SbfKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The loop's test. -/
def cond (j1 : BitVec 32) (x1 : F .f32) (j2 : BitVec 32) (x2 : F .f32) (j3 : BitVec 32) (x3 : F .f32) (j4 : BitVec 32) (x4 : F .f32) : BitVec 1 :=
  Scalar.ori (Scalar.ori (Scalar.ori
    (Scalar.andi (Scalar.cmpi .sge j1 0#32) (Scalar.cmpf .ogt x1 (Named.named κ "open" 0xC2D00000#32)))
    (Scalar.andi (Scalar.cmpi .sge j2 0#32) (Scalar.cmpf .ogt x2 (Named.named κ "open" 0xC2D00000#32))))
    (Scalar.andi (Scalar.cmpi .sge j3 0#32) (Scalar.cmpf .ogt x3 (Named.named κ "open" 0xC2D00000#32))))
    (Scalar.andi (Scalar.cmpi .sge j4 0#32) (Scalar.cmpf .ogt x4 (Named.named κ "open" 0xC2D00000#32)))

/-- What one query block carries through the loop: the last key block not yet read, the largest carry, the weighted
    values so far, and each head's sum of the log remainders so far. -/
structure Carry (F : FTy → Type) where
  jt : BitVec 32
  mx : F .f32
  acc : FVec F S128x128 .f32
  c0 : FVec F S128x1 .f32
  c1 : FVec F S128x1 .f32

/-- The four query blocks of a grid point. -/
structure Four (F : FTy → Type) where
  s1 : Carry F
  s2 : Carry F
  s3 : Carry F
  s4 : Carry F

/-- The loop's values in its record's order. -/
abbrev Four.flat (s : Four F) : BitVec 32 × F .f32 × FVec F S128x128 .f32 × FVec F S128x1 .f32 × FVec F S128x1 .f32 × BitVec 32 × F .f32 × FVec F S128x128 .f32 × FVec F S128x1 .f32 × FVec F S128x1 .f32 × BitVec 32 × F .f32 × FVec F S128x128 .f32 × FVec F S128x1 .f32 × FVec F S128x1 .f32 × BitVec 32 × F .f32 × FVec F S128x128 .f32 × FVec F S128x1 .f32 × FVec F S128x1 .f32 :=
  (s.s1.jt, s.s1.mx, s.s1.acc, s.s1.c0, s.s1.c1, s.s2.jt, s.s2.mx, s.s2.acc, s.s2.c0, s.s2.c1,
   s.s3.jt, s.s3.mx, s.s3.acc, s.s3.c0, s.s3.c1, s.s4.jt, s.s4.mx, s.s4.acc, s.s4.c0, s.s4.c1)

/-- The first key row that a trip reads. -/
def firstKey (j : BitVec 32) : BitVec 32 := Scalar.muli (Scalar.maxsi (Scalar.subi j 2#32) 0#32) 128#32

section Tile
variable (v2 : IVec S128x128 1) (v5 : IVec S128x256 1) (x5 x6 : Vec F S384x256 .i32) (x7 : Vec F S256x256 .bf16)
  (q : FVec F S128x128 .f32) (b : BitVec 32) (kt vt : Vec F S384x128 .f32) (s : Carry F)

/-- The tile's scores, masked. -/
def scores : FVec F S384x256 .f32 :=
  k0_pay20 q (firstKey s.jt) (k0_pay15 v2 kt) (k0_pay16 v2 kt) (k0_pay17 v2 kt) (k0_pay18 s.jt b x6) (k0_pay19 x5) (Scalar.addi s.jt 1#32)
/-- The tile's log remainders. -/
def rest : FVec F S384x256 .f32 :=
  k0_pay21 q (firstKey s.jt) (k0_pay15 v2 kt) (k0_pay16 v2 kt) (k0_pay17 v2 kt) (k0_pay18 s.jt b x6) (k0_pay19 x5) (Scalar.addi s.jt 1#32)
/-- Head 0's carry after the tile's farthest-right block, -/
def c0a : FVec F S128x1 .f32 :=
  k0_pay23 q s.c0 (firstKey s.jt) (k0_pay15 v2 kt) (k0_pay16 v2 kt) (k0_pay17 v2 kt) (k0_pay18 s.jt b x6) (k0_pay19 x5) (Scalar.addi s.jt 1#32)
/-- head 1's, -/
def c1a : FVec F S128x1 .f32 :=
  k0_pay24 q s.c1 (firstKey s.jt) (k0_pay15 v2 kt) (k0_pay16 v2 kt) (k0_pay17 v2 kt) (k0_pay18 s.jt b x6) (k0_pay19 x5) (Scalar.addi s.jt 1#32)
/-- and the same after the middle block: head 0, -/
def c0b : FVec F S128x1 .f32 :=
  k0_pay26 q s.c0 (firstKey s.jt) (k0_pay15 v2 kt) (k0_pay16 v2 kt) (k0_pay17 v2 kt) (k0_pay18 s.jt b x6) (k0_pay19 x5) (Scalar.addi s.jt 1#32)
/-- head 1. -/
def c1b : FVec F S128x1 .f32 :=
  k0_pay27 q s.c1 (firstKey s.jt) (k0_pay15 v2 kt) (k0_pay16 v2 kt) (k0_pay17 v2 kt) (k0_pay18 s.jt b x6) (k0_pay19 x5) (Scalar.addi s.jt 1#32)
/-- The tile's weights. -/
def weights : FVec F S384x256 .f32 :=
  k0_pay31 v5 s.c0 s.c1 (scores v2 x5 x6 q b kt s) (rest v2 x5 x6 q b kt s) (c0a v2 x5 x6 q b kt s) (c1a v2 x5 x6 q b kt s)
    (c0b v2 x5 x6 q b kt s) (c1b v2 x5 x6 q b kt s) x7
/-- The weighted values after the tile. -/
def accNext : FVec F S128x128 .f32 :=
  k0_pay36 v2 (weights v2 v5 x5 x6 x7 q b kt s) (k0_pay32 vt)
    (k0_pay33 v2 v5 s.acc s.c0 s.c1 (scores v2 x5 x6 q b kt s) (rest v2 x5 x6 q b kt s) (c0a v2 x5 x6 q b kt s) (c1a v2 x5 x6 q b kt s)
      (c0b v2 x5 x6 q b kt s) (c1b v2 x5 x6 q b kt s) x7 vt)
    (k0_pay34 v5 s.c0 s.c1 (scores v2 x5 x6 q b kt s) (rest v2 x5 x6 q b kt s) (c0a v2 x5 x6 q b kt s) (c1a v2 x5 x6 q b kt s)
      (c0b v2 x5 x6 q b kt s) (c1b v2 x5 x6 q b kt s) x7)
    (k0_pay35 vt)
/-- One trip of one query block. -/
def stepOne : Carry F where
  jt := Scalar.subi s.jt 3#32
  mx := k0_pay37 (k0_pay29 (rest v2 x5 x6 q b kt s) (c0b v2 x5 x6 q b kt s)) (k0_pay30 (rest v2 x5 x6 q b kt s) (c1b v2 x5 x6 q b kt s))
  acc := accNext v2 v5 x5 x6 x7 q b kt vt s
  c0 := k0_pay29 (rest v2 x5 x6 q b kt s) (c0b v2 x5 x6 q b kt s)
  c1 := k0_pay30 (rest v2 x5 x6 q b kt s) (c1b v2 x5 x6 q b kt s)
end Tile

/-- The three key blocks that a trip reads off an array. -/
def tile (x : Vec F S16384x128 .f32) (j : BitVec 32) : Vec F S384x128 .f32 :=
  if h : k0_chk1 j then View.ld x (Rect.unit (s := S16384x128) (k0_off1 j) S384x128.size (k0_off1_inb j h)) else fun _ => x (Shape.Idx.first (by decide))

theorem tile_of (x : Vec F S16384x128 .f32) (j : BitVec 32) (h : k0_chk1 j) :
    tile x j = View.ld x (Rect.unit (s := S16384x128) (k0_off1 j) S384x128.size (k0_off1_inb j h)) := dif_pos h

/-- The query block's number at the grid point's place `k`. -/
def blk (i : grid0.Coords) (k : BitVec 32) : BitVec 32 := Scalar.addi (Scalar.muli (BitVec.ofNat 32 (i 1).val) 4#32) k

/-- The loop's test on the four blocks. -/
def goOn (s : Four F) : Prop := cond s.s1.jt s.s1.mx s.s2.jt s.s2.mx s.s3.jt s.s3.mx s.s4.jt s.s4.mx = 1#1

/-- What the loop reads. -/
structure Env (F : FTy → Type) where
  i : grid0.Coords
  v2 : IVec S128x128 1
  v5 : IVec S128x256 1
  q1 : FVec F S128x128 .f32
  q2 : FVec F S128x128 .f32
  q3 : FVec F S128x128 .f32
  q4 : FVec F S128x128 .f32
  x3 : Vec F S16384x128 .f32
  x4 : Vec F S16384x128 .f32
  x5 : Vec F S384x256 .i32
  x6 : Vec F S384x256 .i32
  x7 : Vec F S256x256 .bf16

/-- One trip of the four blocks. -/
def stepFour (e : Env F) (s : Four F) : Four F where
  s1 := stepOne e.v2 e.v5 e.x5 e.x6 e.x7 e.q1 (blk e.i 0#32) (tile e.x3 s.s1.jt) (tile e.x4 s.s1.jt) s.s1
  s2 := stepOne e.v2 e.v5 e.x5 e.x6 e.x7 e.q2 (blk e.i 1#32) (tile e.x3 s.s2.jt) (tile e.x4 s.s2.jt) s.s2
  s3 := stepOne e.v2 e.v5 e.x5 e.x6 e.x7 e.q3 (blk e.i 2#32) (tile e.x3 s.s3.jt) (tile e.x4 s.s3.jt) s.s3
  s4 := stepOne e.v2 e.v5 e.x5 e.x6 e.x7 e.q4 (blk e.i 3#32) (tile e.x3 s.s4.jt) (tile e.x4 s.s4.jt) s.s4

open Classical in
/-- At most `k` trips. -/
def runFour (e : Env F) : ℕ → Four F → Four F
  | 0, s => s
  | k + 1, s => if goOn s then runFour e k (stepFour e s) else s

/-- The label's record at given carries. -/
def record (arg3 : Memref sig .tc .vmem S16384x128 .f32) (harg3 : arg3.IsWhole) (arg4 : Memref sig .tc .vmem S16384x128 .f32) (harg4 : arg4.IsWhole) (arg5 : Memref sig .tc .vmem S384x256 .i32) (harg5 : arg5.IsWhole) (arg6 : Memref sig .tc .vmem S384x256 .i32) (harg6 : arg6.IsWhole) (arg7 : Memref sig .tc .vmem S256x256 .bf16) (harg7 : arg7.IsWhole) (e : Env F) (S : Four F) : Cc0While1 F :=
  ⟨e.i, arg3, harg3, e.v2, arg6, harg6, arg5, harg5, e.q1, arg7, harg7, e.v5, arg4, harg4, e.q2, e.q3, e.q4, S.s1.jt, S.s1.mx, S.s1.acc, S.s1.c0, S.s1.c1, S.s2.jt, S.s2.mx, S.s2.acc, S.s2.c0, S.s2.c1, S.s3.jt, S.s3.mx, S.s3.acc, S.s3.c0, S.s3.c1, S.s4.jt, S.s4.mx, S.s4.acc, S.s4.c0, S.s4.c1⟩

/-- The arrays that the loop reads, held at their contents. -/
def held (c : Dev nD) (arg3 : Memref sig .tc .vmem S16384x128 .f32) (arg4 : Memref sig .tc .vmem S16384x128 .f32) (arg5 : Memref sig .tc .vmem S384x256 .i32) (arg6 : Memref sig .tc .vmem S384x256 .i32) (arg7 : Memref sig .tc .vmem S256x256 .bf16) (e : Env F) : sProp 𝕄 :=
  iprop(owns (c : Thread nD τ) arg3 fullShare e.x3 ∗ owns (c : Thread nD τ) arg4 fullShare e.x4 ∗ owns (c : Thread nD τ) arg5 fullShare e.x5 ∗ owns (c : Thread nD τ) arg6 fullShare e.x6 ∗ owns (c : Thread nD τ) arg7 fullShare e.x7)

/-- A whole load of an array's own contents is the contents. -/
theorem whole_load {S : Shape} {et : EltTy} (a : Memref sig .tc .vmem S et) (ha : a.IsWhole) (x : Vec F S et)
    {off : Fin S.rank → ℕ} (h0 : off = fun _ => 0) (inb : ∀ k, off k + S.size k ≤ S.size k) :
    View.readAt (Elt F) a.view (Rect.unit off S.size inb).toLoadRect (ha.unread x) = x := by
  rw [View.readAt_eq_ld, ha.read_unread, View.ld_unit_zero h0]

set_option maxHeartbeats 4000000 in
/-- One trip: the body reads its tiles and calls the label again at the stepped carries. -/
theorem trip (c : Dev nD) (arg3 : Memref sig .tc .vmem S16384x128 .f32) (harg3 : arg3.IsWhole) (arg4 : Memref sig .tc .vmem S16384x128 .f32) (harg4 : arg4.IsWhole) (arg5 : Memref sig .tc .vmem S384x256 .i32) (harg5 : arg5.IsWhole) (arg6 : Memref sig .tc .vmem S384x256 .i32) (harg6 : arg6.IsWhole) (arg7 : Memref sig .tc .vmem S256x256 .bf16) (harg7 : arg7.IsWhole) (e : Env F) (s : Four F) (bd : Option Variants.nat.V)
    (h1 : k0_chk1 s.s1.jt) (h2 : k0_chk2 s.s2.jt) (h3 : k0_chk3 s.s3.jt) (h4 : k0_chk4 s.s4.jt)
    (hc : goOn s) (E : Set ℕ) (K : _ → sProp 𝕄) :
    iprop(held c arg3 arg4 arg5 arg6 arg7 e ∗ (∀ a : Cc0While1 F, ⌜a = record arg3 harg3 arg4 harg4 arg5 harg5 arg6 harg6 arg7 harg7 e (stepFour e s)⌝ -∗ held c arg3 arg4 arg5 arg6 arg7 e
        -∗ wp frame (wpE (defs₀ (F := F)) Variants.nat (c : Thread nD τ) bd) E (Prog.op (TpuEff.call (Λ := Λ₀ F) 1 a) Prog.ret) K))
    ⊢ wp frame (wpE (defs₀ (F := F)) Variants.nat (c : Thread nD τ) bd) E (cc0_while1 e.i arg3 harg3 e.v2 arg6 harg6 arg5 harg5 e.q1 arg7 harg7 e.v5 arg4 harg4 e.q2 e.q3 e.q4 s.s1.jt s.s1.mx s.s1.acc s.s1.c0 s.s1.c1 s.s2.jt s.s2.mx s.s2.acc s.s2.c0 s.s2.c1 s.s3.jt s.s3.mx s.s3.acc s.s3.c0 s.s3.c1 s.s4.jt s.s4.mx s.s4.acc s.s4.c0 s.s4.c1) K := by
  simp only [cc0_while1_eq_skeleton]; unfold cc0_while1_skel
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  obtain ⟨i, v2, v5, q1, q2, q3, q4, x3, x4, x5, x6, x7⟩ := e
  obtain ⟨⟨j1, m1, a1, p1, r1⟩, ⟨j2, m2, a2, p2, r2⟩, ⟨j3, m3, a3, p3, r3⟩, ⟨j4, m4, a4, p4, r4⟩⟩ := s
  dsimp only at h1 h2 h3 h4
  unfold goOn at hc
  dsimp only at hc
  unfold held stepFour
  dsimp only
  rw [tile_of x3 j1 h1, tile_of x4 j1 h1, tile_of x3 j2 h2, tile_of x4 j2 h2, tile_of x3 j3 h3, tile_of x4 j3 h3, tile_of x3 j4 h4, tile_of x4 j4 h4]
  unfold owns
  iintro ⟨⟨⟨%f3, %hf3, H3⟩, ⟨%f4, %hf4, H4⟩, ⟨%f5, %hf5, H5⟩, ⟨%f6, %hf6, H6⟩, ⟨%f7, %hf7, H7⟩⟩, Hk⟩
  obtain rfl := harg3.eq_unread hf3; obtain rfl := harg4.eq_unread hf4; obtain rfl := harg5.eq_unread hf5; obtain rfl := harg6.eq_unread hf6; obtain rfl := harg7.eq_unread hf7
  sl_exec (disch := first | sl_exact hc | sl_exact h1 | sl_exact h2 | sl_exact h3 | sl_exact h4)
  iapply Hk
  · ipureintro
    calc _ = record arg3 harg3 arg4 harg4 arg5 harg5 arg6 harg6 arg7 harg7 ⟨i, v2, v5, q1, q2, q3, q4, x3, x4, x5, x6, x7⟩ ⟨
        stepOne v2 v5 (View.readAt (Elt F) arg5.view (Rect.unit ![0, 0] S384x256.size inb_S384x256_S384x256_0_0).toLoadRect (harg5.unread x5)) (View.readAt (Elt F) arg6.view (Rect.unit ![0, 0] S384x256.size inb_S384x256_S384x256_0_0).toLoadRect (harg6.unread x6)) (View.readAt (Elt F) arg7.view (Rect.unit ![0, 0] S256x256.size inb_S256x256_S256x256_0_0).toLoadRect (harg7.unread x7)) q1 (blk i 0#32)
          (View.readAt (Elt F) arg3.view (Rect.unit (s := S16384x128) (k0_off1 j1) S384x128.size (k0_off1_inb j1 h1)).toLoadRect (harg3.unread x3))
          (View.readAt (Elt F) arg4.view (Rect.unit (s := S16384x128) (k0_off1 j1) S384x128.size (k0_off1_inb j1 h1)).toLoadRect (harg4.unread x4)) ⟨j1, m1, a1, p1, r1⟩,
        stepOne v2 v5 (View.readAt (Elt F) arg5.view (Rect.unit ![0, 0] S384x256.size inb_S384x256_S384x256_0_0).toLoadRect (harg5.unread x5)) (View.readAt (Elt F) arg6.view (Rect.unit ![0, 0] S384x256.size inb_S384x256_S384x256_0_0).toLoadRect (harg6.unread x6)) (View.readAt (Elt F) arg7.view (Rect.unit ![0, 0] S256x256.size inb_S256x256_S256x256_0_0).toLoadRect (harg7.unread x7)) q2 (blk i 1#32)
          (View.readAt (Elt F) arg3.view (Rect.unit (s := S16384x128) (k0_off1 j2) S384x128.size (k0_off1_inb j2 h2)).toLoadRect (harg3.unread x3))
          (View.readAt (Elt F) arg4.view (Rect.unit (s := S16384x128) (k0_off1 j2) S384x128.size (k0_off1_inb j2 h2)).toLoadRect (harg4.unread x4)) ⟨j2, m2, a2, p2, r2⟩,
        stepOne v2 v5 (View.readAt (Elt F) arg5.view (Rect.unit ![0, 0] S384x256.size inb_S384x256_S384x256_0_0).toLoadRect (harg5.unread x5)) (View.readAt (Elt F) arg6.view (Rect.unit ![0, 0] S384x256.size inb_S384x256_S384x256_0_0).toLoadRect (harg6.unread x6)) (View.readAt (Elt F) arg7.view (Rect.unit ![0, 0] S256x256.size inb_S256x256_S256x256_0_0).toLoadRect (harg7.unread x7)) q3 (blk i 2#32)
          (View.readAt (Elt F) arg3.view (Rect.unit (s := S16384x128) (k0_off1 j3) S384x128.size (k0_off1_inb j3 h3)).toLoadRect (harg3.unread x3))
          (View.readAt (Elt F) arg4.view (Rect.unit (s := S16384x128) (k0_off1 j3) S384x128.size (k0_off1_inb j3 h3)).toLoadRect (harg4.unread x4)) ⟨j3, m3, a3, p3, r3⟩,
        stepOne v2 v5 (View.readAt (Elt F) arg5.view (Rect.unit ![0, 0] S384x256.size inb_S384x256_S384x256_0_0).toLoadRect (harg5.unread x5)) (View.readAt (Elt F) arg6.view (Rect.unit ![0, 0] S384x256.size inb_S384x256_S384x256_0_0).toLoadRect (harg6.unread x6)) (View.readAt (Elt F) arg7.view (Rect.unit ![0, 0] S256x256.size inb_S256x256_S256x256_0_0).toLoadRect (harg7.unread x7)) q4 (blk i 3#32)
          (View.readAt (Elt F) arg3.view (Rect.unit (s := S16384x128) (k0_off1 j4) S384x128.size (k0_off1_inb j4 h4)).toLoadRect (harg3.unread x3))
          (View.readAt (Elt F) arg4.view (Rect.unit (s := S16384x128) (k0_off1 j4) S384x128.size (k0_off1_inb j4 h4)).toLoadRect (harg4.unread x4)) ⟨j4, m4, a4, p4, r4⟩⟩ := by sl_kernel_rfl
      _ = _ := by
        rw [whole_load arg5 harg5 x5 (by decide) _, whole_load arg6 harg6 x6 (by decide) _, whole_load arg7 harg7 x7 (by decide) _]
        simp only [View.readAt_eq_ld, harg3.read_unread, harg4.read_unread]
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr; · ipureintro; exact hf7
  iexact H7

end Cert.Proof.Sbf

end
-- ==== Proof.SbfLoop.lean ====
module

public import proofs.«01_k».proof.Proof.Gen.SbfKernelIdeal.Launch
public import proofs.«01_k».proof.Proof.Gen.SbfKernelIdeal.Skeleton
public import proofs.«01_k».proof.Proof.Gen.SbfKernelIdeal.Points
public import proofs.«01_k».proof.Proof.SbfStep
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Sbf

open Cert.SbfKernelIdeal Cert.SbfKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- `k` trips are enough for the four blocks, and no block's place leaves the range in which a trip's loads are in bounds. -/
def Fits (k : ℕ) (s : Four F) : Prop :=
  ∃ n : ℤ, -6 ≤ n ∧ n ≤ 124 ∧ n + 3 < 3 * k ∧ s.s1.jt = BitVec.ofInt 32 n ∧ s.s2.jt = BitVec.ofInt 32 (n + 1)
    ∧ s.s3.jt = BitVec.ofInt 32 (n + 2) ∧ s.s4.jt = BitVec.ofInt 32 (n + 3)

/-- Each place in range, as a small number less six. -/
theorem small_of (n : ℤ) (h0 : -6 ≤ n) (h1 : n ≤ 127) : ∃ m : Fin 134, n = (m.val : ℤ) - 6 :=
  ⟨⟨(n + 6).toNat, by omega⟩, by simp only; omega⟩

/-- A trip's loads are in bounds at every place in range. -/
theorem chk_of (n : ℤ) (h0 : -6 ≤ n) (h1 : n ≤ 127) : k0_chk1 (BitVec.ofInt 32 n) := by
  obtain ⟨m, rfl⟩ := small_of n h0 h1
  revert m; decide

/-- The word's sign test is the number's. -/
theorem sge_of (n : ℤ) (h0 : -6 ≤ n) (h1 : n ≤ 127) (h : Scalar.cmpi .sge (BitVec.ofInt 32 n) 0#32 = 1#1) : 0 ≤ n := by
  obtain ⟨m, rfl⟩ := small_of n h0 h1
  have : ∀ m : Fin 134, Scalar.cmpi .sge (BitVec.ofInt 32 ((m.val : ℤ) - 6)) 0#32 = 1#1 → 0 ≤ (m.val : ℤ) - 6 := by decide
  exact this m h

theorem ori_one : ∀ a b : BitVec 1, Scalar.ori a b = 1#1 → a = 1#1 ∨ b = 1#1 := by decide
theorem andi_left : ∀ a b : BitVec 1, Scalar.andi a b = 1#1 → a = 1#1 := by decide

/-- A place less three, in words. -/
theorem sub_three (n : ℤ) (h0 : -6 ≤ n) (h1 : n ≤ 127) : Scalar.subi (BitVec.ofInt 32 n) 3#32 = BitVec.ofInt 32 (n - 3) := by
  obtain ⟨m, rfl⟩ := small_of n h0 h1
  revert m; decide

/-- The loop goes on only while some block's place is not negative. -/
theorem nonneg_of_goOn (s : Four F) (n : ℤ) (h0 : -6 ≤ n) (h1 : n ≤ 124) (e1 : s.s1.jt = BitVec.ofInt 32 n)
    (e2 : s.s2.jt = BitVec.ofInt 32 (n + 1)) (e3 : s.s3.jt = BitVec.ofInt 32 (n + 2)) (e4 : s.s4.jt = BitVec.ofInt 32 (n + 3))
    (hg : goOn s) : 0 ≤ n + 3 := by
  unfold goOn cond at hg
  rw [e1, e2, e3, e4] at hg
  rcases ori_one _ _ hg with hg | hg
  · rcases ori_one _ _ hg with hg | hg
    · rcases ori_one _ _ hg with hg | hg
      · have := sge_of n (by omega) (by omega) (andi_left _ _ hg); omega
      · have := sge_of (n + 1) (by omega) (by omega) (andi_left _ _ hg); omega
    · have := sge_of (n + 2) (by omega) (by omega) (andi_left _ _ hg); omega
  · exact sge_of (n + 3) (by omega) (by omega) (andi_left _ _ hg)

/-- A trip leaves one trip fewer to go. -/
theorem fits_step (e : Env F) (k : ℕ) (s : Four F) (h : Fits (k + 1) s) (hg : goOn s) : Fits k (stepFour e s) := by
  obtain ⟨n, h0, h1, h2, e1, e2, e3, e4⟩ := h
  have hn := nonneg_of_goOn s n h0 h1 e1 e2 e3 e4 hg
  refine ⟨n - 3, by omega, by omega, by push_cast at h2; omega, ?_, ?_, ?_, ?_⟩
  · show Scalar.subi s.s1.jt 3#32 = _; rw [e1]; exact sub_three n (by omega) (by omega)
  · show Scalar.subi s.s2.jt 3#32 = _; rw [e2, sub_three _ (by omega) (by omega)]; congr 1; omega
  · show Scalar.subi s.s3.jt 3#32 = _; rw [e3, sub_three _ (by omega) (by omega)]; congr 1; omega
  · show Scalar.subi s.s4.jt 3#32 = _; rw [e4, sub_three _ (by omega) (by omega)]; congr 1; omega

/-- What the loop does: it reads its arrays and returns `k` trips' carries. -/
def spec (c : Dev nD) (arg3 : Memref sig .tc .vmem S16384x128 .f32) (arg4 : Memref sig .tc .vmem S16384x128 .f32) (arg5 : Memref sig .tc .vmem S384x256 .i32) (arg6 : Memref sig .tc .vmem S384x256 .i32) (arg7 : Memref sig .tc .vmem S256x256 .bf16) (e : Env F) (k : ℕ) (s : Four F) : sWPT 𝕄 ((Λ₀ F).Result 1) := do
  sWPT.consume (held c arg3 arg4 arg5 arg6 arg7 e)
  sWPT.produce (held c arg3 arg4 arg5 arg6 arg7 e)
  pure (runFour e k s).flat

theorem spec_apply (c : Dev nD) (arg3 : Memref sig .tc .vmem S16384x128 .f32) (arg4 : Memref sig .tc .vmem S16384x128 .f32) (arg5 : Memref sig .tc .vmem S384x256 .i32) (arg6 : Memref sig .tc .vmem S384x256 .i32) (arg7 : Memref sig .tc .vmem S256x256 .bf16) (e : Env F) (k : ℕ) (s : Four F) (K : (Λ₀ F).Result 1 → sProp 𝕄) :
    spec c arg3 arg4 arg5 arg6 arg7 e k s K = iprop(held c arg3 arg4 arg5 arg6 arg7 e ∗ (held c arg3 arg4 arg5 arg6 arg7 e -∗ K (runFour e k s).flat)) := rfl

/-- Where the test fails the loop ends at the carries it has. -/
theorem exit_loop (c : Dev nD) (arg3 : Memref sig .tc .vmem S16384x128 .f32) (harg3 : arg3.IsWhole) (arg4 : Memref sig .tc .vmem S16384x128 .f32) (harg4 : arg4.IsWhole) (arg5 : Memref sig .tc .vmem S384x256 .i32) (harg5 : arg5.IsWhole) (arg6 : Memref sig .tc .vmem S384x256 .i32) (harg6 : arg6.IsWhole) (arg7 : Memref sig .tc .vmem S256x256 .bf16) (harg7 : arg7.IsWhole) (e : Env F) (s : Four F) (bd : Option Variants.nat.V) (E : Set ℕ) (K : (Λ₀ F).Result 1 → sProp 𝕄) (hg : ¬ goOn s) :
    iprop(held c arg3 arg4 arg5 arg6 arg7 e ∗ (held c arg3 arg4 arg5 arg6 arg7 e -∗ K s.flat))
    ⊢ wp frame (wpE (defs₀ (F := F)) Variants.nat (c : Thread nD τ) bd) E (cc0_while1 e.i arg3 harg3 e.v2 arg6 harg6 arg5 harg5 e.q1 arg7 harg7 e.v5 arg4 harg4 e.q2 e.q3 e.q4 s.s1.jt s.s1.mx s.s1.acc s.s1.c0 s.s1.c1 s.s2.jt s.s2.mx s.s2.acc s.s2.c0 s.s2.c1 s.s3.jt s.s3.mx s.s3.acc s.s3.c0 s.s3.c1 s.s4.jt s.s4.mx s.s4.acc s.s4.c0 s.s4.c1) K := by
  unfold cc0_while1
  have hc : ¬ (Scalar.ori (Scalar.ori (Scalar.ori
    (Scalar.andi (Scalar.cmpi .sge s.s1.jt 0#32) (Scalar.cmpf .ogt s.s1.mx (Named.named κ "open" 0xC2D00000#32)))
    (Scalar.andi (Scalar.cmpi .sge s.s2.jt 0#32) (Scalar.cmpf .ogt s.s2.mx (Named.named κ "open" 0xC2D00000#32))))
    (Scalar.andi (Scalar.cmpi .sge s.s3.jt 0#32) (Scalar.cmpf .ogt s.s3.mx (Named.named κ "open" 0xC2D00000#32))))
    (Scalar.andi (Scalar.cmpi .sge s.s4.jt 0#32) (Scalar.cmpf .ogt s.s4.mx (Named.named κ "open" 0xC2D00000#32))) = 1#1) := hg
  simp only [hc, ↓reduceIte, Prog.pure_eq_ret]
  iintro ⟨Hh, Hk⟩
  rw [wp_ret]
  imodintro
  iapply Hk; iexact Hh

/-- The label meets its specification wherever `k` trips are enough: by induction on the trips left. -/
theorem spec_le (c : Dev nD) (arg3 : Memref sig .tc .vmem S16384x128 .f32) (harg3 : arg3.IsWhole) (arg4 : Memref sig .tc .vmem S16384x128 .f32) (harg4 : arg4.IsWhole) (arg5 : Memref sig .tc .vmem S384x256 .i32) (harg5 : arg5.IsWhole) (arg6 : Memref sig .tc .vmem S384x256 .i32) (harg6 : arg6.IsWhole) (arg7 : Memref sig .tc .vmem S256x256 .bf16) (harg7 : arg7.IsWhole) (e : Env F) (E : Set ℕ) (K : (Λ₀ F).Result 1 → sProp 𝕄) : ∀ (k : ℕ) (s : Four F), Fits k s →
    spec c arg3 arg4 arg5 arg6 arg7 e k s K ⊢ wp frame (wpE (defs₀ (F := F)) Variants.nat (c : Thread nD τ) (some k)) E (defs₀ (F := F) .tc 1 (record arg3 harg3 arg4 harg4 arg5 harg5 arg6 harg6 arg7 harg7 e s)) K := by
  intro k
  induction k generalizing K with
  | zero =>
    intro s hf
    rw [spec_apply]
    show _ ⊢ wp frame (wpE (defs₀ (F := F)) Variants.nat (c : Thread nD τ) (some 0)) E (cc0_while1 e.i arg3 harg3 e.v2 arg6 harg6 arg5 harg5 e.q1 arg7 harg7 e.v5 arg4 harg4 e.q2 e.q3 e.q4 s.s1.jt s.s1.mx s.s1.acc s.s1.c0 s.s1.c1 s.s2.jt s.s2.mx s.s2.acc s.s2.c0 s.s2.c1 s.s3.jt s.s3.mx s.s3.acc s.s3.c0 s.s3.c1 s.s4.jt s.s4.mx s.s4.acc s.s4.c0 s.s4.c1) K
    have hg : ¬ goOn s := fun hg => by
      obtain ⟨n, h0, h1, h2, e1, e2, e3, e4⟩ := hf
      have := nonneg_of_goOn s n h0 h1 e1 e2 e3 e4 hg
      push_cast at h2; omega
    exact exit_loop c arg3 harg3 arg4 harg4 arg5 harg5 arg6 harg6 arg7 harg7 e s _ E K hg
  | succ k ih =>
    intro s hf
    rw [spec_apply]
    show _ ⊢ wp frame (wpE (defs₀ (F := F)) Variants.nat (c : Thread nD τ) (some (k + 1))) E (cc0_while1 e.i arg3 harg3 e.v2 arg6 harg6 arg5 harg5 e.q1 arg7 harg7 e.v5 arg4 harg4 e.q2 e.q3 e.q4 s.s1.jt s.s1.mx s.s1.acc s.s1.c0 s.s1.c1 s.s2.jt s.s2.mx s.s2.acc s.s2.c0 s.s2.c1 s.s3.jt s.s3.mx s.s3.acc s.s3.c0 s.s3.c1 s.s4.jt s.s4.mx s.s4.acc s.s4.c0 s.s4.c1) K
    by_cases hg : goOn s
    · have hr : runFour e (k + 1) s = runFour e k (stepFour e s) := if_pos hg
      have hf' := fits_step e k s hf hg
      obtain ⟨n, h0, h1, h2, e1, e2, e3, e4⟩ := hf
      rw [hr]
      iintro ⟨Hh, Hk⟩
      iapply (trip c arg3 harg3 arg4 harg4 arg5 harg5 arg6 harg6 arg7 harg7 e s (some (k + 1)) (by rw [e1]; exact chk_of _ (by omega) (by omega)) (by rw [e2]; exact chk_of _ (by omega) (by omega))
        (by rw [e3]; exact chk_of _ (by omega) (by omega)) (by rw [e4]; exact chk_of _ (by omega) (by omega)) hg E K)
      isplitl [Hh]; · iexact Hh
      iintro %a %ha Hh
      subst ha
      iapply (wp_call_spec Variants.nat (c : Thread nD τ) (some (k + 1)) E (spec c arg3 arg4 arg5 arg6 arg7 e k (stepFour e s)) k
        (fun u hu => by cases hu; exact Nat.lt_succ_self k) (fun K' => ih K' (stepFour e s) hf'))
      rw [spec_apply]
      isplitl [Hh]; · iexact Hh
      iintro Hh
      rw [wp_ret]
      imodintro
      iapply Hk; iexact Hh
    · have hr : runFour e (k + 1) s = s := if_neg hg
      rw [hr]
      exact exit_loop c arg3 harg3 arg4 harg4 arg5 harg5 arg6 harg6 arg7 harg7 e s _ E K hg

end Cert.Proof.Sbf

end
-- ==== Proof.SbfBody.lean ====
module

public import proofs.«01_k».proof.Proof.Gen.SbfKernelIdeal.Launch
public import proofs.«01_k».proof.Proof.Gen.SbfKernelIdeal.Skeleton
public import proofs.«01_k».proof.Proof.Gen.SbfKernelIdeal.Points
public import proofs.«01_k».proof.Proof.SbfLoop
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Proof.Sbf

open Cert.SbfKernelIdeal Cert.SbfKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What a grid point's loop reads: the masks, the four scaled query blocks, and the arrays. -/
def env (i : grid0.Coords) (x2 : Vec F S512x128 .f32) (x3 x4 : Vec F S16384x128 .f32) (x5 x6 : Vec F S384x256 .i32) (x7 : Vec F S256x256 .bf16) : Env F :=
  ⟨i, k0_pay5, k0_pay6, k0_pay7 (View.ld x2 (Rect.unit (s := S512x128) ![0, 0] S128x128.size inb_S512x128_S128x128_0_0)), k0_pay8 (View.ld x2 (Rect.unit (s := S512x128) ![128, 0] S128x128.size inb_S512x128_S128x128_128_0)), k0_pay9 (View.ld x2 (Rect.unit (s := S512x128) ![256, 0] S128x128.size inb_S512x128_S128x128_256_0)), k0_pay10 (View.ld x2 (Rect.unit (s := S512x128) ![384, 0] S128x128.size inb_S512x128_S128x128_384_0)), x3, x4, x5, x6, x7⟩

/-- A block's carries before the first trip: its own place, nothing weighted, nothing summed. -/
def fresh (i : grid0.Coords) (k : BitVec 32) : Carry F := ⟨blk i k, Scalar.ofBits .f32 0x00000000#32, k0_pay12, k0_pay11, k0_pay11⟩

/-- The four blocks' carries before the first trip. -/
def start (i : grid0.Coords) : Four F := ⟨fresh i 0#32, fresh i 1#32, fresh i 2#32, fresh i 3#32⟩

/-- The carries at the loop's end. -/
@[irreducible] def final (i : grid0.Coords) (x2 : Vec F S512x128 .f32) (x3 x4 : Vec F S16384x128 .f32) (x5 x6 : Vec F S384x256 .i32) (x7 : Vec F S256x256 .bf16) : Four F := runFour (env i x2 x3 x4 x5 x6 x7) 43 (start i)

/-- 43 trips are enough at every grid point. -/
theorem fits_start (i : grid0.Coords) : Fits 43 (start (F := F) i) := by
  have hi : (i 1).val < 32 := (i 1).isLt
  have h : ∀ n : Fin 32, (Scalar.addi (Scalar.muli (BitVec.ofNat 32 n.val) 4#32) 0#32 = BitVec.ofInt 32 (4 * (n.val : ℤ)))
      ∧ (Scalar.addi (Scalar.muli (BitVec.ofNat 32 n.val) 4#32) 1#32 = BitVec.ofInt 32 (4 * (n.val : ℤ) + 1))
      ∧ (Scalar.addi (Scalar.muli (BitVec.ofNat 32 n.val) 4#32) 2#32 = BitVec.ofInt 32 (4 * (n.val : ℤ) + 2))
      ∧ (Scalar.addi (Scalar.muli (BitVec.ofNat 32 n.val) 4#32) 3#32 = BitVec.ofInt 32 (4 * (n.val : ℤ) + 3)) := by decide
  obtain ⟨h0, h1, h2, h3⟩ := h ⟨(i 1).val, hi⟩
  exact ⟨4 * ((i 1).val : ℤ), by omega, by omega, by push_cast; omega, h0, h1, h2, h3⟩

/-- The call of the loop's label, at any record that is the label's at these carries. -/
theorem call_at (c : Dev nD) (arg3 : Memref sig .tc .vmem S16384x128 .f32) (harg3 : arg3.IsWhole) (arg4 : Memref sig .tc .vmem S16384x128 .f32) (harg4 : arg4.IsWhole) (arg5 : Memref sig .tc .vmem S384x256 .i32) (harg5 : arg5.IsWhole) (arg6 : Memref sig .tc .vmem S384x256 .i32) (harg6 : arg6.IsWhole) (arg7 : Memref sig .tc .vmem S256x256 .bf16) (harg7 : arg7.IsWhole) (e : Env F) (s : Four F) (hf : Fits 43 s) (a : Cc0While1 F) (ha : a = record arg3 harg3 arg4 harg4 arg5 harg5 arg6 harg6 arg7 harg7 e s)
    (E : Set ℕ) (k : (Λ₀ F).Result 1 → Prog (TpuEff nD τ sig (Elt F) (Λ₀ F) .tc) PUnit) (K : PUnit → sProp 𝕄) :
    iprop(held c arg3 arg4 arg5 arg6 arg7 e ∗ (held c arg3 arg4 arg5 arg6 arg7 e -∗ wp frame (wpE (defs₀ (F := F)) Variants.nat (c : Thread nD τ) none) E (k (runFour e 43 s).flat) K))
    ⊢ wp frame (wpE (defs₀ (F := F)) Variants.nat (c : Thread nD τ) none) E (Prog.op (TpuEff.call (Λ := Λ₀ F) 1 a) k) K := by
  subst ha
  exact (wp_call_spec Variants.nat (c : Thread nD τ) none E (spec c arg3 arg4 arg5 arg6 arg7 e 43 s) 43
        (fun u hu => nomatch hu) (fun K' => spec_le c arg3 harg3 arg4 harg4 arg5 harg5 arg6 harg6 arg7 harg7 e E K' 43 s hf))

set_option maxHeartbeats 4000000 in
/-- One grid point's body: the inputs stay, and the output block takes the four blocks' weighted values. -/
def bodyRun (c : Dev nD) (i : grid0.Coords) (arg2 : Memref sig .tc .vmem S512x128 .f32) (harg2 : arg2.IsWhole) (arg3 : Memref sig .tc .vmem S16384x128 .f32) (harg3 : arg3.IsWhole) (arg4 : Memref sig .tc .vmem S16384x128 .f32) (harg4 : arg4.IsWhole) (arg5 : Memref sig .tc .vmem S384x256 .i32) (harg5 : arg5.IsWhole) (arg6 : Memref sig .tc .vmem S384x256 .i32) (harg6 : arg6.IsWhole) (arg7 : Memref sig .tc .vmem S256x256 .bf16) (harg7 : arg7.IsWhole) (arg8 : Memref sig .tc .vmem S256x256 .bf16) (harg8 : arg8.IsWhole) (arg9 : Memref sig .tc .vmem S512x128 .f32) (harg9 : arg9.IsWhole) (x2 : Vec F S512x128 .f32) (x3 x4 : Vec F S16384x128 .f32) (x5 x6 : Vec F S384x256 .i32) (x7 : Vec F S256x256 .bf16) :
    { L : List (View.Piece (Elt F) S512x128 .f32) // ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg9 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg9.view.loc (c : Thread nD τ) ↦[arg9.view.set]{fullShare} arg9.view.writes (Elt F) f L)) -∗ K ⟨⟩))
          ⊢ wp frame (wpE (defs₀ (F := F)) Variants.nat (c : Thread nD τ) none) E (cc0_sb_fwd i arg2 harg2 arg3 harg3 arg4 harg4 arg5 harg5 arg6 harg6 arg7 harg7 arg8 harg8 arg9 harg9) K } := by
  refine ⟨?_, fun E K => ?run⟩
  case run =>
    simp only [cc0_sb_fwd_eq_skeleton]; unfold cc0_sb_fwd_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, Hk⟩
    obtain rfl := harg2.eq_unread hf2
    sl_exec
    iapply (call_at c arg3 harg3 arg4 harg4 arg5 harg5 arg6 harg6 arg7 harg7 (env i x2 x3 x4 x5 x6 x7) (start i) (fits_start i) _ ?ha E)
    case ha =>
      calc _ = record arg3 harg3 arg4 harg4 arg5 harg5 arg6 harg6 arg7 harg7 ⟨i, k0_pay5, k0_pay6, k0_pay7 (View.readAt (Elt F) arg2.view (Rect.unit (s := S512x128) ![0, 0] S128x128.size inb_S512x128_S128x128_0_0).toLoadRect (harg2.unread x2)), k0_pay8 (View.readAt (Elt F) arg2.view (Rect.unit (s := S512x128) ![128, 0] S128x128.size inb_S512x128_S128x128_128_0).toLoadRect (harg2.unread x2)), k0_pay9 (View.readAt (Elt F) arg2.view (Rect.unit (s := S512x128) ![256, 0] S128x128.size inb_S512x128_S128x128_256_0).toLoadRect (harg2.unread x2)), k0_pay10 (View.readAt (Elt F) arg2.view (Rect.unit (s := S512x128) ![384, 0] S128x128.size inb_S512x128_S128x128_384_0).toLoadRect (harg2.unread x2)), x3, x4, x5, x6, x7⟩ (start i) := by sl_kernel_rfl
        _ = _ := by simp only [View.readAt_eq_ld, harg2.read_unread]; rfl
    unfold held owns
    isplitl [H3 H4 H5 H6 H7]
    · isplitl [H3]; · (iexists _; isplitr; · (ipureintro; exact hf3)); iexact H3
      isplitl [H4]; · (iexists _; isplitr; · (ipureintro; exact hf4)); iexact H4
      isplitl [H5]; · (iexists _; isplitr; · (ipureintro; exact hf5)); iexact H5
      isplitl [H6]; · (iexists _; isplitr; · (ipureintro; exact hf6)); iexact H6
      iexists _; isplitr; · (ipureintro; exact hf7)
      iexact H7
    rw [show runFour (env i x2 x3 x4 x5 x6 x7) 43 (start i) = final i x2 x3 x4 x5 x6 x7 from by unfold final; rfl]
    iintro ⟨⟨%g3, %hg3, H3⟩, ⟨%g4, %hg4, H4⟩, ⟨%g5, %hg5, H5⟩, ⟨%g6, %hg6, H6⟩, ⟨%g7, %hg7, H7⟩⟩
    dsimp only [Four.flat]
    sl_exec
    sl_step
    iapply Hk
    isplitl [H2]; · (iexists _; isplitr; · (ipureintro; exact harg2.read_unread _)); iexact H2
    isplitl [H3]; · (iexists _; isplitr; · (ipureintro; exact hg3)); iexact H3
    isplitl [H4]; · (iexists _; isplitr; · (ipureintro; exact hg4)); iexact H4
    isplitl [H5]; · (iexists _; isplitr; · (ipureintro; exact hg5)); iexact H5
    isplitl [H6]; · (iexists _; isplitr; · (ipureintro; exact hg6)); iexact H6
    isplitl [H7]; · (iexists _; isplitr; · (ipureintro; exact hg7)); iexact H7
    iexists _; iexact H9

end Cert.Proof.Sbf

end
-- ==== Proof.SbfRun.lean ====
module

public import proofs.«01_k».proof.Proof.Gen.SbfKernelIdeal.Launch
public import proofs.«01_k».proof.Proof.Gen.SbfKernelIdeal.Skeleton
public import proofs.«01_k».proof.Proof.Gen.SbfKernelIdeal.Points
public import proofs.«01_k».proof.Proof.SbfBody
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Proof.Sbf

open Cert.SbfKernelIdeal Cert.SbfKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers as the kernel finds them: after the host lines. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The host lines, then the kernel. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! No host line writes an argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- A window's block at a point, read off its array. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-! The staging memrefs at a point. -/
abbrev ms0 (t : Fin (cfg0 (F := F)).N) : Memref sig .tc .vmem S512x128 .f32 := win0_0.stage ((cfg0 (F := F)).slots t 0)
abbrev hs0 (t : Fin (cfg0 (F := F)).N) : (ms0 t).IsWhole := hstage0_0 (((cfg0 (F := F)).slots t 0).cast nbuf0_0)
abbrev ms1 (t : Fin (cfg0 (F := F)).N) : Memref sig .tc .vmem S16384x128 .f32 := win0_1.stage ((cfg0 (F := F)).slots t 1)
abbrev hs1 (t : Fin (cfg0 (F := F)).N) : (ms1 t).IsWhole := hstage0_1 (((cfg0 (F := F)).slots t 1).cast nbuf0_1)
abbrev ms2 (t : Fin (cfg0 (F := F)).N) : Memref sig .tc .vmem S16384x128 .f32 := win0_2.stage ((cfg0 (F := F)).slots t 2)
abbrev hs2 (t : Fin (cfg0 (F := F)).N) : (ms2 t).IsWhole := hstage0_2 (((cfg0 (F := F)).slots t 2).cast nbuf0_2)
abbrev ms3 (t : Fin (cfg0 (F := F)).N) : Memref sig .tc .vmem S384x256 .i32 := win0_3.stage ((cfg0 (F := F)).slots t 3)
abbrev hs3 (t : Fin (cfg0 (F := F)).N) : (ms3 t).IsWhole := hstage0_3 (((cfg0 (F := F)).slots t 3).cast nbuf0_3)
abbrev ms4 (t : Fin (cfg0 (F := F)).N) : Memref sig .tc .vmem S384x256 .i32 := win0_4.stage ((cfg0 (F := F)).slots t 4)
abbrev hs4 (t : Fin (cfg0 (F := F)).N) : (ms4 t).IsWhole := hstage0_4 (((cfg0 (F := F)).slots t 4).cast nbuf0_4)
abbrev ms5 (t : Fin (cfg0 (F := F)).N) : Memref sig .tc .vmem S256x256 .bf16 := win0_5.stage ((cfg0 (F := F)).slots t 5)
abbrev hs5 (t : Fin (cfg0 (F := F)).N) : (ms5 t).IsWhole := hstage0_5 (((cfg0 (F := F)).slots t 5).cast nbuf0_5)
abbrev ms6 (t : Fin (cfg0 (F := F)).N) : Memref sig .tc .vmem S256x256 .bf16 := win0_6.stage ((cfg0 (F := F)).slots t 6)
abbrev hs6 (t : Fin (cfg0 (F := F)).N) : (ms6 t).IsWhole := hstage0_6 (((cfg0 (F := F)).slots t 6).cast nbuf0_6)
abbrev ms7 (t : Fin (cfg0 (F := F)).N) : Memref sig .tc .vmem S512x128 .f32 := win0_7.stage ((cfg0 (F := F)).slots t 7)
abbrev hs7 (t : Fin (cfg0 (F := F)).N) : (ms7 t).IsWhole := hstage0_7 (((cfg0 (F := F)).slots t 7).cast nbuf0_7)

/-- A buffer through which the output block is stated. -/
abbrev VO : View sig .tc .vmem S512x128 .f32 := (Memref.whole cc0_stg7_0 : Memref sig .tc .vmem S512x128 .f32).view

/-- The stores of a point. -/
abbrev pieces (c : Dev nD) (t : Fin (cfg0 (F := F)).N) : List (View.Piece (Elt F) S512x128 .f32) :=
  (bodyRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (iblk m c 0 t) (iblk m c 1 t) (iblk m c 2 t) (iblk m c 3 t) (iblk m c 4 t) (iblk m c 5 t)).1

/-- They cover the block. -/
theorem cover (c : Dev nD) (t : Fin (cfg0 (F := F)).N) (y : S512x128.Idx) : ∃ pc ∈ pieces m c t, y ∈ pc.1.set :=
  View.cover_of_tiledL (pieces m c t) S128x128.size (by sl_kernel_rfl) y

/-- What a point leaves in the output block. -/
def outBlk (c : Dev nD) (t : Fin (cfg0 (F := F)).N) : Vec F S512x128 .f32 := VO.read (Elt F) (VO.writes (Elt F) VO.junk (pieces m c t))

/-- The proof data: inputs keep their blocks, the output takes the point's. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlk m c t
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after_0 (c : Dev nD) (t : Fin (cfg0 (F := F)).N) : (dats m 0 c).after 0 t = iblk m c 0 t := by dsimp only [dats]; rfl
theorem after_1 (c : Dev nD) (t : Fin (cfg0 (F := F)).N) : (dats m 0 c).after 1 t = iblk m c 1 t := by dsimp only [dats]; rfl
theorem after_2 (c : Dev nD) (t : Fin (cfg0 (F := F)).N) : (dats m 0 c).after 2 t = iblk m c 2 t := by dsimp only [dats]; rfl
theorem after_3 (c : Dev nD) (t : Fin (cfg0 (F := F)).N) : (dats m 0 c).after 3 t = iblk m c 3 t := by dsimp only [dats]; rfl
theorem after_4 (c : Dev nD) (t : Fin (cfg0 (F := F)).N) : (dats m 0 c).after 4 t = iblk m c 4 t := by dsimp only [dats]; rfl
theorem after_5 (c : Dev nD) (t : Fin (cfg0 (F := F)).N) : (dats m 0 c).after 5 t = iblk m c 5 t := by dsimp only [dats]; rfl
theorem after_6 (c : Dev nD) (t : Fin (cfg0 (F := F)).N) : (dats m 0 c).after 6 t = iblk m c 6 t := by dsimp only [dats]; rfl
theorem after_7 (c : Dev nD) (t : Fin (cfg0 (F := F)).N) : (dats m 0 c).after 7 t = outBlk m c t := by dsimp only [dats]; rfl

theorem before_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfg0 (F := F)).N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin (cfg0 (F := F)).N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin (cfg0 (F := F)).N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

/-- What the body is called with at a point, -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 1600000 in
/-- The body at a point, by its run. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  unfold outBlk
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((bodyRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (iblk m c 0 t) (iblk m c 1 t) (iblk m c 2 t) (iblk m c 3 t) (iblk m c 4 t) (iblk m c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H7]; · iexists _; iexact H7
  iintro ⟨H0, H1, H2, H3, H4, H5, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover m c t)

theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

/-- The body obligation at every point. -/
theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

set_option backward.isDefEq.respectTransparency.types false in
/-- The launch: every array at what the proof data say, every other buffer as the kernel found it, every counter at zero. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.nat m ρ main
    (hbody := fun c => (body_obligation m c).loose) (hq := fun _ _ _ => rfl)
    (howed := fun _ _ => rfl) (V := V m) (hmain := hmain m Variants.nat) (hA := A_eq m) (hΦ := fun _ _ => rfl)

/-- The frame: every run ends, the arguments stay, every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Pipeline.mem_restRefs_of main_arg0 (by decide) (show ∀ w : Fin 8, (spec0 w).arr.view.ref ≠ main_arg0 by decide))).trans (V_main_arg0 m c),
     ((h.1 c).2 main_arg1 (Pipeline.mem_restRefs_of main_arg1 (by decide) (show ∀ w : Fin 8, (spec0 w).arr.view.ref ≠ main_arg1 by decide))).trans (V_main_arg1 m c),
     ((h.1 c).2 main_arg2 (Pipeline.mem_restRefs_of main_arg2 (by decide) (show ∀ w : Fin 8, (spec0 w).arr.view.ref ≠ main_arg2 by decide))).trans (V_main_arg2 m c)⟩, h.2⟩) (run_main m ρ)

end Cert.Proof.Sbf

end
-- ==== Proof.SbfMath.lean ====
module

public import Idealize.ShloMosaic.Lib.Pointwise
public import Idealize.ShloMosaic.Lib.Pointwise.Tactic

/-! # Sums over the keys of a window

The kernel reads the keys of a query from the nearest to the farthest, three blocks at a time. `U f T B` is the sum of
`f` over the keys from `B` up to the query `T`, the query left out: what is summed when the keys from `B` on were read. -/

@[expose] public section

set_option maxRecDepth 16384

noncomputable section

namespace Cert.Proof.Sbf

open Idealize.ShloMosaic Finset

/-- The logarithm of one minus the logistic function, as the kernel writes it. -/
def L (z : EReal) : EReal := 0 - (max z 0 + Ideal.log (1 + Ideal.exp (0 - max z (-z))))

theorem L_bot : L ⊥ = 0 := by
  have h : (0 : EReal) - ⊤ = ⊥ := rfl
  rw [L, max_eq_right bot_le, EReal.neg_bot, max_eq_right bot_le, h, Ideal.exp_bot, add_zero, zero_add]
  rw [show (1 : EReal) = ((1 : ℝ) : EReal) from rfl, Ideal.log_coe, if_neg (by norm_num), Real.log_one]
  simp

theorem L_coe (z : ℝ) : L z = ((-(max z 0 + Real.log (1 + Real.exp (-|z|))) : ℝ) : EReal) := by
  have h1 : max (z : EReal) (-(z : EReal)) = ((|z| : ℝ) : EReal) := by
    rw [← EReal.coe_neg]; exact (EReal.coe_strictMono.monotone.map_max).symm
  have h2 : max (z : EReal) 0 = ((max z 0 : ℝ) : EReal) := (EReal.coe_strictMono.monotone.map_max (a := z) (b := 0)).symm
  have h3 : (0 : EReal) - ((|z| : ℝ) : EReal) = ((-|z| : ℝ) : EReal) := by rw [EReal.coe_neg]; exact zero_sub _
  have h4 : ¬ (1 + Real.exp (-|z|) ≤ 0) := not_le.mpr (by positivity)
  rw [L, h1, h2, h3, Ideal.exp_coe, show (1 : EReal) = ((1 : ℝ) : EReal) from rfl, ← EReal.coe_add,
    Ideal.log_coe, if_neg h4, ← EReal.coe_add, EReal.coe_neg]
  exact zero_sub _

/-- A summand, counted if its key is nearer than the query and not yet read. -/
def kept (f : ℕ → EReal) (T B j : ℕ) : EReal := if j < B ∧ j < T then f j else 0

/-- The sum over the keys from `B` up to the query. -/
def U (f : ℕ → EReal) (T B : ℕ) : EReal := ∑ j ∈ Ico B T, f j

theorem U_empty (f : ℕ → EReal) (T B : ℕ) (h : T ≤ B) : U f T B = 0 := by
  rw [U, Ico_eq_empty (by omega), sum_empty]

theorem kept_add (f : ℕ → EReal) (T B a : ℕ) : kept f T B a + U f T (min (a + 1) B) = U f T (min a B) := by
  unfold kept
  by_cases hB : a < B
  · rw [min_eq_left (by omega : a + 1 ≤ B), min_eq_left (by omega : a ≤ B)]
    by_cases hT : a < T
    · rw [if_pos ⟨hB, hT⟩, U, U, sum_eq_sum_Ico_succ_bot hT]
    · rw [if_neg (by omega), U_empty _ _ _ (by omega), U_empty _ _ _ (by omega), add_zero]
  · rw [if_neg (by omega), min_eq_right (by omega : B ≤ a + 1), min_eq_right (by omega : B ≤ a), zero_add]

/-- A window's sum joined to what was summed before. -/
theorem window (f : ℕ → EReal) (T B a n : ℕ) :
    U f T (min (a + n) B) + ∑ κ : Fin n, kept f T B (a + κ.val) = U f T (min a B) := by
  induction n with
  | zero => simp
  | succ n ih =>
    rw [Fin.sum_univ_castSucc, ← ih, ← kept_add f T B (a + n)]
    simp only [Fin.val_castSucc, Fin.val_last]
    rw [add_comm (∑ κ : Fin n, _), ← add_assoc, add_comm (U f T _), ← add_assoc]

/-- The same from a key of the window on. -/
theorem window_after (f : ℕ → EReal) (T B a k : ℕ) : ∀ n, k < n →
    (∑ κ : Fin n, if k < κ.val then kept f T B (a + κ.val) else 0) + U f T (min (a + n) B) = U f T (min (a + k + 1) B) := by
  intro n hn
  induction n, hn using Nat.le_induction with
  | base =>
    rw [sum_eq_zero (fun κ _ => if_neg (by have := κ.isLt; omega)), zero_add]; rfl
  | succ n hn ih =>
    rw [Fin.sum_univ_castSucc, ← ih, ← kept_add f T B (a + n)]
    simp only [Fin.val_castSucc, Fin.val_last]
    rw [if_pos (by omega), add_assoc]; rfl

/-- The sum over all keys with those not before the query left out. -/
theorem sum_before (f : ℕ → EReal) (N T : ℕ) (h : T ≤ N) : (∑ j : Fin N, if j.val < T then f j.val else 0) = U f T 0 := by
  rw [Fin.sum_univ_eq_sum_range (fun j => if j < T then f j else 0), ← sum_filter, U, ← range_eq_Ico]
  refine sum_congr ?_ fun _ _ => rfl
  ext j; simp only [mem_filter, mem_range]; omega

/-- The sum over the keys after `s` and before the query. -/
theorem sum_between (f : ℕ → EReal) (N T s : ℕ) (h : T ≤ N) :
    (∑ j : Fin N, if s < j.val ∧ j.val < T then f j.val else 0) = U f T (s + 1) := by
  rw [Fin.sum_univ_eq_sum_range (fun j => if s < j ∧ j < T then f j else 0), ← sum_filter, U]
  refine sum_congr ?_ fun _ _ => rfl
  ext j; simp only [mem_filter, mem_range, mem_Ico]; omega

end Cert.Proof.Sbf
end
-- ==== Proof.SbfTile.lean ====
module

public import proofs.«01_k».proof.Proof.SbfStep
public import proofs.«01_k».proof.Proof.SbfMath
public import Idealize.ShloMosaic.Lib.Pipeline.ValueKit
public import Idealize.ShloMosaic.Lib.Pipeline.ReadBack
public import Idealize.ShloMosaic.Lib.Pointwise
public import Idealize.ShloMosaic.Lib.Pointwise.Tactic

@[expose] public section

set_option maxRecDepth 16384

noncomputable section

namespace Cert.Proof.Sbf

open Cert.SbfKernelIdeal Cert.SbfKernelIdeal.Gen Idealize.ShloMosaic Idealize.ShloMosaic.TcCoe Idealize.SL.Sem

/-- Row `t` of a tile's block `β`, column `k` of head `h`, and entry `d` of head `h`. -/
def rw3 (β : Fin 3) (t : Fin 128) : Fin 384 := ⟨128 * β.val + t.val, by omega⟩
def cl (h : Fin 2) (k : Fin 128) : Fin 256 := ⟨128 * h.val + k.val, by omega⟩
def hc (h : Fin 2) (d : Fin 64) : Fin 128 := ⟨64 * h.val + d.val, by omega⟩
/-- The head of an entry. -/
def hd (d : Fin 128) : Fin 2 := ⟨d.val / 64, by omega⟩

theorem lo_at (r l : Fin 128) : k0_pay5 (ix2 r l) = 1 ↔ l.val < 64 := by
  unfold_payloads
  pointwise
  revert l; decide

theorem head0_at (r : Fin 128) (l : Fin 256) : k0_pay6 (ix2 r l) = 1 ↔ l.val < 128 := by
  unfold_payloads
  pointwise
  revert l; decide

/-- A block of keys or values, once for each head. -/
def two (kt : Vec Ideal S384x128 .f32) (β : Fin 3) : FVec Ideal S256x128 .f32 :=
  match β with
  | 0 => k0_pay15 k0_pay5 kt
  | 1 => k0_pay16 k0_pay5 kt
  | 2 => k0_pay17 k0_pay5 kt

theorem two_at (kt : Vec Ideal S384x128 .f32) (β : Fin 3) (h : Fin 2) (k x : Fin 128) :
    two kt β (ix2 (cl h k) x) = if hd x = h then kt (ix2 (rw3 β k) x) else 0 := by
  have hl := fun r => lo_at r x
  fin_cases β <;> fin_cases h <;> dsimp only [two]
  all_goals
    generalize k0_pay5 = v2 at hl ⊢
    unfold_payloads
    pointwise
    simp only [Scalar.select_def, hl, hd, cl, rw3]
    by_cases hx : x.val < 64
    · have : x.val / 64 = 0 := by omega
      simp [hx, this]
      try rfl
    · have : x.val / 64 = 1 := by omega
      simp [hx, this]
      try rfl

/-- Only the head's own entries count. -/
theorem sum_head (h : Fin 2) (f : Fin 128 → EReal) : (∑ x, if hd x = h then f x else 0) = ∑ d : Fin 64, f (hc h d) := by
  rw [Fin.sum_univ_two_halves 64 64 rfl]
  have h0 : ∀ x : Fin 64, x.val / 64 = 0 := fun x => by omega
  have h1 : ∀ x : Fin 64, (64 + x.val) / 64 = 1 := fun x => by omega
  fin_cases h <;> simp [hd, hc, Fin.ext_iff, h0, h1]

section Tile
variable (x5 x6 : Vec Ideal S384x256 .i32) (x7 : Vec Ideal S256x256 .bf16)
  (q : FVec Ideal S128x128 .f32) (b : BitVec 32) (kt vt : Vec Ideal S384x128 .f32) (s : Carry Ideal)

/-- The mask at an entry. -/
def keep (r : Fin 384) (l : Fin 256) : Prop :=
  IntOp.andi (IntOp.cmpi .slt (x6 (ix2 r l)) (Scalar.subi (Scalar.muli b 128#32) (firstKey s.jt)))
    (IntOp.cmpi .slt (x5 (ix2 r l)) (Scalar.subi (Scalar.muli (Scalar.addi s.jt 1#32) 128#32) (firstKey s.jt))) = 1

/-- A payload of the scores at an entry, over any three blocks of keys. -/
theorem pay20_at (q : FVec Ideal S128x128 .f32) (f j : BitVec 32) (k2 : Fin 3 → FVec Ideal S256x128 .f32) (m1 : IVec S384x256 1) (m2 : IVec S384x256 32)
    (β : Fin 3) (t : Fin 128) (l : Fin 256) :
    k0_pay20 q f (k2 0) (k2 1) (k2 2) m1 m2 j (ix2 (rw3 β t) l)
      = if IntOp.andi (m1 (ix2 (rw3 β t) l)) (IntOp.cmpi .slt (m2 (ix2 (rw3 β t) l)) (Scalar.subi (Scalar.muli j 128#32) f)) = 1
        then ∑ x, q (ix2 t x) * k2 β (ix2 l x) else (⊥ : EReal) := by
  have hm : (Named.named κ "mask" 0xF149F2CA#32 : Ideal .f32) = (⊥ : EReal) := rfl
  unfold_payloads
  pointwise
  rw [Scalar.select_def, hm]
  congr 1
  match β with
  | 0 => rw [dif_pos (show (rw3 0 t).val < 128 by simp [rw3])]; simp [rw3]
  | 1 => rw [dif_neg (show ¬ (rw3 1 t).val < 128 by simp [rw3]), dif_pos (show (rw3 1 t).val - 128 < 128 by simp [rw3])]; simp [rw3]
  | 2 => rw [dif_neg (show ¬ (rw3 2 t).val < 128 by simp [rw3]; omega), dif_neg (show ¬ (rw3 2 t).val - 128 < 128 by simp [rw3]; omega)]
         refine Finset.sum_congr rfl fun x _ => ?_
         congr 3; ext; simp [rw3]; omega

theorem pay18_at (j b : BitVec 32) (x : Vec Ideal S384x256 .i32) (r l) :
    k0_pay18 (F := Ideal) j b x (ix2 r l) = IntOp.cmpi .slt (x (ix2 r l)) (Scalar.subi (Scalar.muli b 128#32) (firstKey j)) := by
  unfold firstKey
  unfold_payloads
  pointwise

theorem pay19_at (x : Vec Ideal S384x256 .i32) (r l) : k0_pay19 (F := Ideal) x (ix2 r l) = x (ix2 r l) := by
  unfold_payloads
  pointwise

theorem scores_two : scores k0_pay5 x5 x6 q b kt s
    = k0_pay20 q (firstKey s.jt) (two kt 0) (two kt 1) (two kt 2) (k0_pay18 s.jt b x6) (k0_pay19 x5) (Scalar.addi s.jt 1#32) := rfl

theorem dot_two (β : Fin 3) (t : Fin 128) (h : Fin 2) (k : Fin 128) :
    (∑ x, q (ix2 t x) * two kt β (ix2 (cl h k) x)) = ∑ d : Fin 64, q (ix2 t (hc h d)) * kt (ix2 (rw3 β k) (hc h d)) := by
  rw [← sum_head h (fun x => q (ix2 t x) * kt (ix2 (rw3 β k) x))]
  refine Finset.sum_congr rfl fun x _ => ?_
  rw [two_at]; by_cases hx : hd x = h <;> simp [hx]

theorem scores_keep (β : Fin 3) (t : Fin 128) (h : Fin 2) (k : Fin 128) (hk : keep x5 x6 b s (rw3 β t) (cl h k)) :
    scores k0_pay5 x5 x6 q b kt s (ix2 (rw3 β t) (cl h k)) = ∑ d : Fin 64, q (ix2 t (hc h d)) * kt (ix2 (rw3 β k) (hc h d)) := by
  rw [scores_two, pay20_at, if_pos, dot_two]
  rw [pay18_at, pay19_at]; exact hk

theorem scores_mask (β : Fin 3) (t : Fin 128) (h : Fin 2) (k : Fin 128) (hk : ¬ keep x5 x6 b s (rw3 β t) (cl h k)) :
    scores k0_pay5 x5 x6 q b kt s (ix2 (rw3 β t) (cl h k)) = (⊥ : EReal) := by
  rw [scores_two, pay20_at, if_neg]
  rw [pay18_at, pay19_at]; exact hk

theorem rest_at (r : Fin 384) (l : Fin 256) : rest k0_pay5 x5 x6 q b kt s (ix2 r l) = L (scores k0_pay5 x5 x6 q b kt s (ix2 r l)) := by
  unfold rest scores L k0_pay21
  generalize k0_pay20 (F := Ideal) _ _ _ _ _ _ _ _ = sc
  pointwise
  rfl

/-- Each head's carry after a block is the carry before it and the block's log remainders. -/
theorem c0_at (R : FVec Ideal S384x256 .f32) (c : FVec Ideal S128x1 .f32) (t : Fin 128) :
    k0_pay29 R c (ix2 t 0) = c (ix2 t 0) + ∑ k : Fin 128, R (ix2 (rw3 0 t) (cl 0 k)) := by
  unfold_payloads
  pointwise
  simp [rw3, cl]
theorem c1_at (R : FVec Ideal S384x256 .f32) (c : FVec Ideal S128x1 .f32) (t : Fin 128) :
    k0_pay30 R c (ix2 t 0) = c (ix2 t 0) + ∑ k : Fin 128, R (ix2 (rw3 0 t) (cl 1 k)) := by
  unfold_payloads
  pointwise
  simp [rw3, cl]
theorem c0a_at (t : Fin 128) :
    c0a k0_pay5 x5 x6 q b kt s (ix2 t 0) = s.c0 (ix2 t 0) + ∑ k : Fin 128, rest k0_pay5 x5 x6 q b kt s (ix2 (rw3 2 t) (cl 0 k)) := by
  unfold c0a rest k0_pay23 k0_pay22
  generalize k0_pay21 (F := Ideal) _ _ _ _ _ _ _ _ = R
  pointwise
  simp [rw3, cl]
theorem c1a_at (t : Fin 128) :
    c1a k0_pay5 x5 x6 q b kt s (ix2 t 0) = s.c1 (ix2 t 0) + ∑ k : Fin 128, rest k0_pay5 x5 x6 q b kt s (ix2 (rw3 2 t) (cl 1 k)) := by
  unfold c1a rest k0_pay24 k0_pay22
  generalize k0_pay21 (F := Ideal) _ _ _ _ _ _ _ _ = R
  pointwise
  simp [rw3, cl]
theorem c0b_at (t : Fin 128) :
    c0b k0_pay5 x5 x6 q b kt s (ix2 t 0) = c0a k0_pay5 x5 x6 q b kt s (ix2 t 0) + ∑ k : Fin 128, rest k0_pay5 x5 x6 q b kt s (ix2 (rw3 1 t) (cl 0 k)) := by
  unfold c0b rest c0a k0_pay26 k0_pay25
  generalize k0_pay23 (F := Ideal) _ _ _ _ _ _ _ _ _ = A
  generalize k0_pay21 (F := Ideal) _ _ _ _ _ _ _ _ = R
  pointwise
  simp [rw3, cl]
theorem c1b_at (t : Fin 128) :
    c1b k0_pay5 x5 x6 q b kt s (ix2 t 0) = c1a k0_pay5 x5 x6 q b kt s (ix2 t 0) + ∑ k : Fin 128, rest k0_pay5 x5 x6 q b kt s (ix2 (rw3 1 t) (cl 1 k)) := by
  unfold c1b rest c1a k0_pay27 k0_pay25
  generalize k0_pay24 (F := Ideal) _ _ _ _ _ _ _ _ _ = A
  generalize k0_pay21 (F := Ideal) _ _ _ _ _ _ _ _ = R
  pointwise
  simp [rw3, cl]

/-- The carry that block `β` of a tile starts from, of head `h`. -/
def carryOf (c0 c1 a0 a1 b0 b1 : FVec Ideal S128x1 .f32) (β : Fin 3) (h : Fin 2) (t : Fin 128) : EReal :=
  match β, h with
  | 0, 0 => b0 (ix2 t 0) | 0, 1 => b1 (ix2 t 0)
  | 1, 0 => a0 (ix2 t 0) | 1, 1 => a1 (ix2 t 0)
  | 2, 0 => c0 (ix2 t 0) | 2, 1 => c1 (ix2 t 0)

/-- What the products with the triangular matrix need of it. -/
def Nearer (x7 : Vec Ideal S256x256 .bf16) : Prop :=
  ∀ (h' h : Fin 2) (k' k : Fin 128), x7 (ix2 (cl h' k') (cl h k)) = if h' = h ∧ k.val < k'.val then (1 : EReal) else 0

/-- A product with the triangular matrix sums the head's keys that are nearer. -/
theorem nearer_at (hx : Nearer x7) (R : FVec Ideal S384x256 .f32) (r : Fin 384) (h : Fin 2) (k : Fin 128) :
    (∑ x, R (ix2 r x) * x7 (ix2 x (cl h k))) = ∑ k' : Fin 128, if k.val < k'.val then R (ix2 r (cl h k')) else 0 := by
  rw [Fin.sum_univ_two_halves 128 128 rfl]
  have e0 : ∀ (x : Fin 128) (hh), (⟨x.val, hh⟩ : Fin 256) = cl 0 x := fun x _ => by ext; simp [cl]
  have e1 : ∀ (x : Fin 128) (hh), (⟨128 + x.val, hh⟩ : Fin 256) = cl 1 x := fun x _ => by ext; simp [cl]
  simp only [e0, e1, hx _ h _ k]
  match h with
  | 0 => simp
  | 1 => simp

theorem w_at (hx : Nearer x7) (c0 c1 : FVec Ideal S128x1 .f32) (Z R : FVec Ideal S384x256 .f32) (a0 a1 b0 b1 : FVec Ideal S128x1 .f32)
    (β : Fin 3) (t : Fin 128) (h : Fin 2) (k : Fin 128) :
    k0_pay31 k0_pay6 c0 c1 Z R a0 a1 b0 b1 x7 (ix2 (rw3 β t) (cl h k))
      = Ideal.exp (Z (ix2 (rw3 β t) (cl h k)) + R (ix2 (rw3 β t) (cl h k))
          + ((∑ k' : Fin 128, if k.val < k'.val then R (ix2 (rw3 β t) (cl h k')) else 0) + carryOf c0 c1 a0 a1 b0 b1 β h t)) := by
  rw [← nearer_at x7 hx]
  have hl := fun r => head0_at r (cl h k)
  generalize k0_pay6 = v5 at hl ⊢
  unfold_payloads
  pointwise
  simp only [Scalar.select_def, hl]
  congr 3
  have e : ((cl h k).val < 128) ↔ h = 0 := by
    match h with
    | 0 => simp [cl]
    | 1 => simp [cl]
  simp only [e]
  match β with
  | 0 => rw [dif_pos (show (rw3 0 t).val < 128 by simp [rw3])]; simp only [rw3]; match h with
    | 0 => simp [carryOf]
    | 1 => simp [carryOf]
  | 1 => rw [dif_neg (show ¬ (rw3 1 t).val < 128 by simp [rw3]), dif_pos (show (rw3 1 t).val - 128 < 128 by simp [rw3])]; simp only [rw3]; match h with
    | 0 => simp [carryOf]
    | 1 => simp [carryOf]
  | 2 =>
    have e2 : ∀ hh, (⟨(rw3 2 t).val - 128 - 128, hh⟩ : Fin 128) = t := fun _ => by ext; simp [rw3]; omega
    rw [dif_neg (show ¬ (rw3 2 t).val < 128 by simp [rw3]; omega), dif_neg (show ¬ (rw3 2 t).val - 128 < 128 by simp [rw3]; omega)]
    simp only [e2]
    match h with
    | 0 => simp [carryOf]
    | 1 => simp [carryOf]

theorem acc_at (t d : Fin 128) :
    accNext k0_pay5 k0_pay6 x5 x6 x7 q b kt vt s (ix2 t d)
      = s.acc (ix2 t d) + (∑ k : Fin 128, weights k0_pay5 k0_pay6 x5 x6 x7 q b kt s (ix2 (rw3 0 t) (cl (hd d) k)) * vt (ix2 (rw3 0 k) d))
        + (∑ k : Fin 128, weights k0_pay5 k0_pay6 x5 x6 x7 q b kt s (ix2 (rw3 1 t) (cl (hd d) k)) * vt (ix2 (rw3 1 k) d))
        + (∑ k : Fin 128, weights k0_pay5 k0_pay6 x5 x6 x7 q b kt s (ix2 (rw3 2 t) (cl (hd d) k)) * vt (ix2 (rw3 2 k) d)) := by
  have hl := fun r => lo_at r d
  unfold accNext weights k0_pay36 k0_pay33 k0_pay34
  generalize k0_pay31 (F := Ideal) _ _ _ _ _ _ _ _ _ _ = W
  generalize k0_pay5 = v2 at hl ⊢
  unfold_payloads
  pointwise
  simp only [Scalar.select_def, hl]
  by_cases hd0 : d.val < 64
  · have h0 : hd d = 0 := by ext; simp [hd]; omega
    rw [h0]
    simp [hd0, rw3, cl]
  · have h1 : hd d = 1 := by ext; simp [hd]; omega
    rw [h1]
    simp [hd0, rw3, cl]

/-- The largest carry is above −∞ if one of them is. -/
theorem mx_at (a b : FVec Ideal S128x1 .f32) (h : (⊥ : EReal) < a (ix2 0 0)) : (⊥ : EReal) < k0_pay37 a b := by
  unfold_payloads
  pointwise
  rw [Finset.lt_fold_max]
  refine Or.inr ⟨(0, 0), Finset.mem_univ _, lt_max_of_lt_left ?_⟩
  exact h

end Tile

end Cert.Proof.Sbf
end
-- ==== Proof.SbfWalk.lean ====
module

public import proofs.«01_k».proof.Proof.SbfTile
public import proofs.«01_k».proof.Proof.SbfBody

/-! # The keys read so far

What a query block carries after some trips: over the keys from `B` up to each query, the sum of the log remainders and
the weighted values. -/

@[expose] public section

set_option maxRecDepth 16384

noncomputable section

namespace Cert.Proof.Sbf

open Cert.SbfKernelIdeal Cert.SbfKernelIdeal.Gen Idealize.ShloMosaic Idealize.ShloMosaic.TcCoe Idealize.SL.Sem

/-- Row `j` of the keys or the values. -/
def row (X : Vec Ideal S16384x128 .f32) (j : ℕ) (c : Fin 128) : EReal := if h : j < 16384 then X (ix2 ⟨j, h⟩ c) else 0

section Row
variable (q : FVec Ideal S128x128 .f32) (X3 X4 : Vec Ideal S16384x128 .f32)

/-- The score of a query of the block with key `j`, its log remainder, its weight and the weighted value. -/
def zOf (t : Fin 128) (h : Fin 2) (j : ℕ) : EReal := ∑ d : Fin 64, q (ix2 t (hc h d)) * row X3 j (hc h d)
def lOf (t : Fin 128) (h : Fin 2) (j : ℕ) : EReal := L (zOf q X3 t h j)
def wOf (t : Fin 128) (h : Fin 2) (T j : ℕ) : EReal := Ideal.exp (zOf q X3 t h j + lOf q X3 t h j + U (lOf q X3 t h) T (j + 1))
def wvOf (t d : Fin 128) (T j : ℕ) : EReal := wOf q X3 t (hd d) T j * row X4 j d

/-- The carries of block `b` after the keys from `B` on. -/
structure Holds (b B : ℕ) (s : Carry Ideal) : Prop where
  c0 : ∀ t : Fin 128, s.c0 (ix2 t 0) = U (lOf q X3 t 0) (128 * b + t.val) B
  c1 : ∀ t : Fin 128, s.c1 (ix2 t 0) = U (lOf q X3 t 1) (128 * b + t.val) B
  acc : ∀ t d : Fin 128, s.acc (ix2 t d) = U (wvOf q X3 X4 t d (128 * b + t.val)) (128 * b + t.val) B

/-- What a trip reads: three blocks of keys and values from `s0` on, and a mask for the keys before both `B` and the query. -/
structure Reads (x5 x6 : Vec Ideal S384x256 .i32) (x7 : Vec Ideal S256x256 .bf16) (bw : BitVec 32) (kt vt : Vec Ideal S384x128 .f32)
    (b B s0 : ℕ) (s : Carry Ideal) : Prop where
  k : ∀ (β : Fin 3) (k c : Fin 128), kt (ix2 (rw3 β k) c) = row X3 (s0 + 128 * β.val + k.val) c
  v : ∀ (β : Fin 3) (k c : Fin 128), vt (ix2 (rw3 β k) c) = row X4 (s0 + 128 * β.val + k.val) c
  keep : ∀ (β : Fin 3) (t : Fin 128) (h : Fin 2) (k : Fin 128), keep x5 x6 bw s (rw3 β t) (cl h k)
    ↔ s0 + 128 * β.val + k.val < B ∧ s0 + 128 * β.val + k.val < 128 * b + t.val
  near : Nearer x7
  le : B ≤ s0 + 384
  ge : s0 ≤ B

variable {q X3 X4} {x5 x6 : Vec Ideal S384x256 .i32} {x7 : Vec Ideal S256x256 .bf16} {bw : BitVec 32} {kt vt : Vec Ideal S384x128 .f32}
  {b B s0 : ℕ} {s : Carry Ideal}

theorem rest_kept (hr : Reads X3 X4 x5 x6 x7 bw kt vt b B s0 s) (β : Fin 3) (t : Fin 128) (h : Fin 2) (k : Fin 128) :
    rest k0_pay5 x5 x6 q bw kt s (ix2 (rw3 β t) (cl h k)) = kept (lOf q X3 t h) (128 * b + t.val) B (s0 + 128 * β.val + k.val) := by
  rw [rest_at, kept]
  by_cases hk : keep x5 x6 bw s (rw3 β t) (cl h k)
  · rw [scores_keep _ _ _ _ _ _ _ _ _ _ hk, if_pos ((hr.keep ..).1 hk), lOf, zOf]
    simp only [hr.k]
  · rw [scores_mask _ _ _ _ _ _ _ _ _ _ hk, if_neg (fun h' => hk ((hr.keep ..).2 h')), L_bot]

/-- The carry that a block of the tile starts from. -/
theorem carry_kept (hr : Reads X3 X4 x5 x6 x7 bw kt vt b B s0 s) (hs : Holds q X3 X4 b B s) (β : Fin 3) (h : Fin 2) (t : Fin 128) :
    carryOf s.c0 s.c1 (c0a k0_pay5 x5 x6 q bw kt s) (c1a k0_pay5 x5 x6 q bw kt s) (c0b k0_pay5 x5 x6 q bw kt s) (c1b k0_pay5 x5 x6 q bw kt s) β h t
      = U (lOf q X3 t h) (128 * b + t.val) (min (s0 + 128 * β.val + 128) B) := by
  have hB : min (s0 + 256 + 128) B = B := min_eq_right (by have := hr.le; omega)
  match β, h with
  | 2, 0 => show s.c0 _ = _; rw [hs.c0]; exact congrArg _ hB.symm
  | 2, 1 => show s.c1 _ = _; rw [hs.c1]; exact congrArg _ hB.symm
  | 1, 0 =>
    show c0a k0_pay5 x5 x6 q bw kt s (ix2 t 0) = _
    rw [c0a_at, hs.c0]; simp only [rest_kept hr]
    have := window (lOf q X3 t 0) (128 * b + t.val) B (s0 + 256) 128
    rw [hB] at this; exact this
  | 1, 1 =>
    show c1a k0_pay5 x5 x6 q bw kt s (ix2 t 0) = _
    rw [c1a_at, hs.c1]; simp only [rest_kept hr]
    have := window (lOf q X3 t 1) (128 * b + t.val) B (s0 + 256) 128
    rw [hB] at this; exact this
  | 0, 0 =>
    show c0b k0_pay5 x5 x6 q bw kt s (ix2 t 0) = _
    rw [c0b_at, c0a_at, hs.c0]; simp only [rest_kept hr]
    have h1 := window (lOf q X3 t 0) (128 * b + t.val) B (s0 + 256) 128
    rw [hB] at h1
    have h2 := window (lOf q X3 t 0) (128 * b + t.val) B (s0 + 128) 128
    exact (congrArg (· + _) h1).trans h2
  | 0, 1 =>
    show c1b k0_pay5 x5 x6 q bw kt s (ix2 t 0) = _
    rw [c1b_at, c1a_at, hs.c1]; simp only [rest_kept hr]
    have h1 := window (lOf q X3 t 1) (128 * b + t.val) B (s0 + 256) 128
    rw [hB] at h1
    have h2 := window (lOf q X3 t 1) (128 * b + t.val) B (s0 + 128) 128
    exact (congrArg (· + _) h1).trans h2

theorem weights_kept (hr : Reads X3 X4 x5 x6 x7 bw kt vt b B s0 s) (hs : Holds q X3 X4 b B s) (β : Fin 3) (t : Fin 128) (h : Fin 2) (k : Fin 128) :
    weights k0_pay5 k0_pay6 x5 x6 x7 q bw kt s (ix2 (rw3 β t) (cl h k))
      = kept (wOf q X3 t h (128 * b + t.val)) (128 * b + t.val) B (s0 + 128 * β.val + k.val) := by
  unfold weights
  rw [w_at x7 hr.near, carry_kept hr hs, kept]
  simp only [rest_kept hr]
  rw [window_after _ _ _ (s0 + 128 * β.val) k.val 128 k.isLt]
  by_cases hk : keep x5 x6 bw s (rw3 β t) (cl h k)
  · have hk' := (hr.keep ..).1 hk
    rw [scores_keep _ _ _ _ _ _ _ _ _ _ hk, if_pos hk', min_eq_left (by omega), kept, if_pos hk', wOf, zOf]
    simp only [hr.k]
  · have hk' := fun h' => hk ((hr.keep ..).2 h')
    rw [scores_mask _ _ _ _ _ _ _ _ _ _ hk, if_neg hk', EReal.bot_add, EReal.bot_add, Ideal.exp_bot]

theorem kept_mul (f g : ℕ → EReal) (T B j : ℕ) : kept f T B j * g j = kept (fun j => f j * g j) T B j := by
  unfold kept; split_ifs <;> simp

/-- A trip takes the carries from `B` to `s0`. -/
theorem holds_step (hr : Reads X3 X4 x5 x6 x7 bw kt vt b B s0 s) (hs : Holds q X3 X4 b B s) :
    Holds q X3 X4 b s0 (stepOne k0_pay5 k0_pay6 x5 x6 x7 q bw kt vt s) := by
  have hm : min s0 B = s0 := min_eq_left hr.ge
  have hB : min (s0 + 256 + 128) B = B := min_eq_right (by have := hr.le; omega)
  refine ⟨fun t => ?_, fun t => ?_, fun t d => ?_⟩
  · show k0_pay29 _ _ (ix2 t 0) = _
    rw [c0_at]
    have h0 : c0b k0_pay5 x5 x6 q bw kt s (ix2 t 0) = _ := carry_kept hr hs 0 0 t
    rw [h0]; simp only [rest_kept hr]
    have := window (lOf q X3 t 0) (128 * b + t.val) B s0 128
    rw [hm] at this; exact this
  · show k0_pay30 _ _ (ix2 t 0) = _
    rw [c1_at]
    have h0 : c1b k0_pay5 x5 x6 q bw kt s (ix2 t 0) = _ := carry_kept hr hs 0 1 t
    rw [h0]; simp only [rest_kept hr]
    have := window (lOf q X3 t 1) (128 * b + t.val) B s0 128
    rw [hm] at this; exact this
  · show accNext _ _ _ _ _ _ _ _ _ _ (ix2 t d) = _
    rw [acc_at, hs.acc]
    simp only [weights_kept hr hs, hr.v, kept_mul (wOf q X3 t (hd d) (128 * b + t.val)) (fun j => row X4 j d)]
    have h2 := window (wvOf q X3 X4 t d (128 * b + t.val)) (128 * b + t.val) B (s0 + 256) 128
    have h1 := window (wvOf q X3 X4 t d (128 * b + t.val)) (128 * b + t.val) B (s0 + 128) 128
    have h0 := window (wvOf q X3 X4 t d (128 * b + t.val)) (128 * b + t.val) B s0 128
    rw [hB] at h2
    rw [hm] at h0
    rw [← h0, ← h1, ← h2]
    have e : ∀ a p r u : EReal, a + p + r + u = a + u + r + p := fun a p r u => by
      rw [add_right_comm (a + p) r u, add_right_comm a p u, add_right_comm (a + u) p r]
    exact e ..

/-- Its largest carry is above −∞ if no log remainder of the block's first query is −∞. -/
theorem mx_step (hr : Reads X3 X4 x5 x6 x7 bw kt vt b B s0 s) (hs : Holds q X3 X4 b B s) (hl : ∀ j, lOf q X3 0 0 j ≠ ⊥) :
    (⊥ : EReal) < (stepOne k0_pay5 k0_pay6 x5 x6 x7 q bw kt vt s).mx := by
  refine mx_at _ _ ?_
  have h := (holds_step hr hs).c0 0
  rw [show k0_pay29 (rest k0_pay5 x5 x6 q bw kt s) (c0b k0_pay5 x5 x6 q bw kt s) (ix2 0 0) = _ from h, bot_lt_iff_ne_bot, U]
  refine Finset.sum_induction _ (· ≠ (⊥ : EReal)) (fun a c ha hc => ?_) (by simp) fun j _ => hl j
  rw [Ne, EReal.add_eq_bot_iff]; tauto

end Row

end Cert.Proof.Sbf
end
-- ==== Proof.SbfEnd.lean ====
module

public import proofs.«01_k».proof.Proof.SbfWalk

/-! # What the loop ends with -/

@[expose] public section

set_option maxRecDepth 16384

noncomputable section

namespace Cert.Proof.Sbf

open Cert.SbfKernelIdeal Cert.SbfKernelIdeal.Gen Idealize.ShloMosaic Idealize.ShloMosaic.TcCoe Idealize.SL.Sem

/-- What the mask's arrays and the triangular matrix hold. -/
structure Consts (x5 x6 : Vec Ideal S384x256 .i32) (x7 : Vec Ideal S256x256 .bf16) : Prop where
  key : ∀ (β : Fin 3) (t : Fin 128) (h : Fin 2) (k : Fin 128), (x5 (ix2 (rw3 β t) (cl h k)) : BitVec 32).toInt = 128 * β.val + k.val
  rel : ∀ (β : Fin 3) (t : Fin 128) (h : Fin 2) (k : Fin 128), (x6 (ix2 (rw3 β t) (cl h k)) : BitVec 32).toInt = 128 * β.val + k.val - t.val
  near : Nearer x7

theorem off_of (n : ℤ) (h0 : -6 ≤ n) (h1 : n ≤ 127) : k0_off1 (BitVec.ofInt 32 n) 0 = 128 * (n - 2).toNat ∧ k0_off1 (BitVec.ofInt 32 n) 1 = 0 := by
  obtain ⟨m, rfl⟩ := small_of n h0 h1
  revert m; decide

theorem tile_at (X : Vec Ideal S16384x128 .f32) (n : ℤ) (h0 : -6 ≤ n) (h1 : n ≤ 127) (r : Fin 384) (c : Fin 128) :
    tile X (BitVec.ofInt 32 n) (ix2 r c) = row X (128 * (n - 2).toNat + r.val) c := by
  obtain ⟨e0, e1⟩ := off_of n h0 h1
  have hlt : 128 * (n - 2).toNat + r.val < 16384 := by have := r.isLt; omega
  rw [tile_of _ _ (chk_of n h0 h1), row, dif_pos hlt]
  refine View.ld_unit_apply_of X _ _ _ _ _ fun a => ?_
  match a with
  | ⟨0, _⟩ => exact congrArg (· + r.val) e0.symm
  | ⟨1, _⟩ => exact (Nat.zero_add _).symm.trans (congrArg (· + c.val) e1.symm)

theorem key_word (n : ℤ) (h0 : -6 ≤ n) (h1 : n ≤ 127) :
    (Scalar.subi (Scalar.muli (Scalar.addi (BitVec.ofInt 32 n) 1#32) 128#32) (firstKey (BitVec.ofInt 32 n))).toInt = 128 * (n + 1) - 128 * (n - 2).toNat
    ∧ firstKey (BitVec.ofInt 32 n) = BitVec.ofNat 32 (128 * (n - 2).toNat) := by
  obtain ⟨m, rfl⟩ := small_of n h0 h1
  revert m; decide

theorem query_word (b k : ℕ) (hb : b < 128) (hk : k < 20000) :
    (Scalar.subi (Scalar.muli (BitVec.ofNat 32 b) 128#32) (BitVec.ofNat 32 k)).toInt = 128 * b - k := by
  show (BitVec.ofNat 32 b * 128#32 - BitVec.ofNat 32 k).toInt = _
  rw [BitVec.toInt_sub, BitVec.toInt_mul, WordCmp.toInt_ofNat_of_lt (by norm_num; omega), WordCmp.toInt_ofNat_of_lt (by norm_num), WordCmp.toInt_ofNat_of_lt (by norm_num; omega)]
  rw [Int.bmod_eq_of_le (n := (b : ℤ) * (128 : ℕ)) (by push_cast; omega) (by push_cast; omega), Int.bmod_eq_of_le (by push_cast; omega) (by push_cast; omega)]
  push_cast; omega

theorem andi_one : ∀ a b : BitVec 1, IntOp.andi a b = 1 ↔ a = 1 ∧ b = 1 := by decide
theorem slt_one (x y : BitVec 32) : IntOp.cmpi .slt x y = 1 ↔ x.toInt < y.toInt := by
  rw [WordCmp.cmpi_slt_eq]; by_cases h : x.toInt < y.toInt <;> simp [h]

/-- A trip at place `n` of block `b` reads the three blocks of keys before key `128 (n + 1)`. -/
theorem reads_of {X3 X4 : Vec Ideal S16384x128 .f32} {x5 x6 : Vec Ideal S384x256 .i32} {x7 : Vec Ideal S256x256 .bf16} (hc : Consts x5 x6 x7)
    (s : Carry Ideal) (b : ℕ) (hb : b < 128) (n : ℤ) (h0 : -6 ≤ n) (h1 : n ≤ 127) (e : s.jt = BitVec.ofInt 32 n) :
    Reads X3 X4 x5 x6 x7 (BitVec.ofNat 32 b) (tile X3 s.jt) (tile X4 s.jt) b (128 * (n + 1).toNat) (128 * (n - 2).toNat) s := by
  obtain ⟨w1, w2⟩ := key_word n h0 h1
  refine ⟨fun β k c => ?_, fun β k c => ?_, fun β t h k => ?_, hc.near, by omega, by omega⟩
  · rw [e, tile_at _ n h0 h1]; congr 1; simp only [rw3]; omega
  · rw [e, tile_at _ n h0 h1]; congr 1; simp only [rw3]; omega
  · unfold keep
    rw [andi_one, slt_one, slt_one, hc.key, hc.rel, e, w1, w2, query_word b _ hb (by omega)]
    have := β.isLt; have := t.isLt; have := k.isLt
    omega

variable (e : Env Ideal)

/-- The loop's carries with the first block's place at `n`. -/
structure Inv (b : ℕ) (n : ℤ) (s : Four Ideal) : Prop where
  j1 : s.s1.jt = BitVec.ofInt 32 n
  j2 : s.s2.jt = BitVec.ofInt 32 (n + 1)
  j3 : s.s3.jt = BitVec.ofInt 32 (n + 2)
  j4 : s.s4.jt = BitVec.ofInt 32 (n + 3)
  m4 : (⊥ : EReal) < s.s4.mx
  h1 : Holds e.q1 e.x3 e.x4 b (128 * (n + 1).toNat) s.s1
  h2 : Holds e.q2 e.x3 e.x4 (b + 1) (128 * (n + 2).toNat) s.s2
  h3 : Holds e.q3 e.x3 e.x4 (b + 2) (128 * (n + 3).toNat) s.s3
  h4 : Holds e.q4 e.x3 e.x4 (b + 3) (128 * (n + 4).toNat) s.s4

/-- What the loop is given. -/
structure Given (b : ℕ) : Prop where
  v2 : e.v2 = k0_pay5
  v5 : e.v5 = k0_pay6
  consts : Consts e.x5 e.x6 e.x7
  lt : b + 3 < 128
  b1 : blk e.i 0#32 = BitVec.ofNat 32 b
  b2 : blk e.i 1#32 = BitVec.ofNat 32 (b + 1)
  b3 : blk e.i 2#32 = BitVec.ofNat 32 (b + 2)
  b4 : blk e.i 3#32 = BitVec.ofNat 32 (b + 3)
  l4 : ∀ j, lOf e.q4 e.x3 0 0 j ≠ ⊥

variable {e} {b : ℕ}

theorem inv_step (hg : Given e b) (s : Four Ideal) (n : ℤ) (h0 : -6 ≤ n) (h1 : n ≤ 124) (hs : Inv e b n s) : Inv e b (n - 3) (stepFour e s) := by
  have a1 := reads_of (X3 := e.x3) (X4 := e.x4) hg.consts s.s1 b (by have := hg.lt; omega) n h0 (by omega) hs.j1
  have a2 := reads_of (X3 := e.x3) (X4 := e.x4) hg.consts s.s2 (b + 1) (by have := hg.lt; omega) (n + 1) (by omega) (by omega) hs.j2
  have a3 := reads_of (X3 := e.x3) (X4 := e.x4) hg.consts s.s3 (b + 2) (by have := hg.lt; omega) (n + 2) (by omega) (by omega) hs.j3
  have a4 := reads_of (X3 := e.x3) (X4 := e.x4) hg.consts s.s4 (b + 3) (by have := hg.lt; omega) (n + 3) (by omega) (by omega) hs.j4
  have z2 : n + 1 + 1 = n + 2 := by omega
  have z3 : n + 2 + 1 = n + 3 := by omega
  have z4 : n + 3 + 1 = n + 4 := by omega
  have y1 : n - 3 + 1 = n - 2 := by omega
  have y2 : n - 3 + 2 = n + 1 - 2 := by omega
  have y3 : n - 3 + 3 = n + 2 - 2 := by omega
  have y4 : n - 3 + 4 = n + 3 - 2 := by omega
  rw [z2] at a2; rw [z3] at a3; rw [z4] at a4
  constructor
  · show Scalar.subi s.s1.jt 3#32 = _; rw [hs.j1]; exact sub_three n (by omega) (by omega)
  · show Scalar.subi s.s2.jt 3#32 = _; rw [hs.j2, sub_three _ (by omega) (by omega)]; congr 1; omega
  · show Scalar.subi s.s3.jt 3#32 = _; rw [hs.j3, sub_three _ (by omega) (by omega)]; congr 1; omega
  · show Scalar.subi s.s4.jt 3#32 = _; rw [hs.j4, sub_three _ (by omega) (by omega)]; congr 1; omega
  · show (⊥ : EReal) < (stepOne (F := Ideal) _ _ _ _ _ _ _ _ _ _).mx
    rw [hg.v2, hg.v5, hg.b4]; exact mx_step a4 hs.h4 hg.l4
  · show Holds _ _ _ _ _ (stepOne _ _ _ _ _ _ _ _ _ _)
    rw [hg.v2, hg.v5, hg.b1, y1]; exact holds_step a1 hs.h1
  · show Holds _ _ _ _ _ (stepOne _ _ _ _ _ _ _ _ _ _)
    rw [hg.v2, hg.v5, hg.b2, y2]; exact holds_step a2 hs.h2
  · show Holds _ _ _ _ _ (stepOne _ _ _ _ _ _ _ _ _ _)
    rw [hg.v2, hg.v5, hg.b3, y3]; exact holds_step a3 hs.h3
  · show Holds _ _ _ _ _ (stepOne _ _ _ _ _ _ _ _ _ _)
    rw [hg.v2, hg.v5, hg.b4, y4]; exact holds_step a4 hs.h4

theorem ori_right : ∀ a b : BitVec 1, b = 1#1 → Scalar.ori a b = 1#1 := by decide
theorem andi_both : ∀ a b : BitVec 1, a = 1#1 → b = 1#1 → Scalar.andi a b = 1#1 := by decide

/-- While the last block has keys left the loop goes on: no carry is below −∞. -/
theorem goOn_of (s : Four Ideal) (n : ℤ) (h0 : -6 ≤ n) (h1 : n ≤ 124) (hs : Inv e b n s) (hn : 0 ≤ n + 3) : goOn s := by
  unfold goOn cond
  refine ori_right _ _ (andi_both _ _ ?_ ?_)
  · rw [hs.j4]
    obtain ⟨m, hm⟩ := small_of (n + 3) (by omega) (by omega)
    rw [hm] at hn ⊢
    have : ∀ m : Fin 134, 0 ≤ (m.val : ℤ) - 6 → Scalar.cmpi .sge (BitVec.ofInt 32 ((m.val : ℤ) - 6)) 0#32 = 1#1 := by decide
    exact this m hn
  · exact (Ideal.cmp_ogt_eq_one _ _).2 hs.m4

/-- The loop ends with every key read. -/
theorem inv_run (hg : Given e b) : ∀ (k : ℕ) (s : Four Ideal) (n : ℤ), -6 ≤ n → n ≤ 124 → n + 3 < 3 * k → Inv e b n s →
    ∃ n', n' + 3 < 0 ∧ Inv e b n' (runFour e k s)
  | 0, s, n, h0, h1, h2, hs => ⟨n, by simpa using h2, hs⟩
  | k + 1, s, n, h0, h1, h2, hs => by
    unfold runFour
    by_cases hn : 0 ≤ n + 3
    · rw [if_pos (goOn_of s n h0 h1 hs hn)]
      exact inv_run hg k _ (n - 3) (by omega) (by omega) (by push_cast at h2; omega) (inv_step hg s n h0 h1 hs)
    · rw [if_neg (fun hgo => hn (nonneg_of_goOn s n h0 h1 hs.j1 hs.j2 hs.j3 hs.j4 hgo))]
      exact ⟨n, by omega, hs⟩

theorem pay11_at (t : Fin 128) : k0_pay11 (F := Ideal) (ix2 t 0) = 0 := by
  unfold_payloads
  pointwise
theorem pay12_at (t d : Fin 128) : k0_pay12 (F := Ideal) (ix2 t d) = 0 := by
  unfold_payloads
  pointwise

theorem holds_fresh (q : FVec Ideal S128x128 .f32) (X3 X4 : Vec Ideal S16384x128 .f32) (i : grid0.Coords) (k : BitVec 32) (b B : ℕ) (h : 128 * b + 128 ≤ B) :
    Holds q X3 X4 b B (fresh i k) := by
  refine ⟨fun t => ?_, fun t => ?_, fun t d => ?_⟩ <;> rw [U_empty _ _ _ (by have := t.isLt; omega)]
  · exact pay11_at t
  · exact pay11_at t
  · exact pay12_at t d

theorem blk_words : ∀ n : Fin 32, (Scalar.addi (Scalar.muli (BitVec.ofNat 32 n.val) 4#32) 0#32 = BitVec.ofNat 32 (4 * n.val))
      ∧ (Scalar.addi (Scalar.muli (BitVec.ofNat 32 n.val) 4#32) 1#32 = BitVec.ofNat 32 (4 * n.val + 1))
      ∧ (Scalar.addi (Scalar.muli (BitVec.ofNat 32 n.val) 4#32) 2#32 = BitVec.ofNat 32 (4 * n.val + 2))
      ∧ (Scalar.addi (Scalar.muli (BitVec.ofNat 32 n.val) 4#32) 3#32 = BitVec.ofNat 32 (4 * n.val + 3)) := by decide

/-- A grid point's loop ends with the weighted values over all keys before each query. -/
theorem final_holds (i : grid0.Coords) (x2 : Vec Ideal S512x128 .f32) (x3 x4 : Vec Ideal S16384x128 .f32) (x5 x6 : Vec Ideal S384x256 .i32) (x7 : Vec Ideal S256x256 .bf16)
    (hc : Consts x5 x6 x7) (hl : ∀ j, lOf (env i x2 x3 x4 x5 x6 x7).q4 x3 0 0 j ≠ ⊥) :
    Holds (env i x2 x3 x4 x5 x6 x7).q1 x3 x4 (4 * (i 1).val) 0 (final i x2 x3 x4 x5 x6 x7).s1
    ∧ Holds (env i x2 x3 x4 x5 x6 x7).q2 x3 x4 (4 * (i 1).val + 1) 0 (final i x2 x3 x4 x5 x6 x7).s2
    ∧ Holds (env i x2 x3 x4 x5 x6 x7).q3 x3 x4 (4 * (i 1).val + 2) 0 (final i x2 x3 x4 x5 x6 x7).s3
    ∧ Holds (env i x2 x3 x4 x5 x6 x7).q4 x3 x4 (4 * (i 1).val + 3) 0 (final i x2 x3 x4 x5 x6 x7).s4 := by
  have hi : (i 1).val < 32 := (i 1).isLt
  obtain ⟨b1, b2, b3, b4⟩ := blk_words ⟨(i 1).val, hi⟩
  have hg : Given (env i x2 x3 x4 x5 x6 x7) (4 * (i 1).val) := ⟨rfl, rfl, hc, by omega, b1, b2, b3, b4, hl⟩
  have w : ∀ a : ℕ, BitVec.ofInt 32 (a : ℤ) = BitVec.ofNat 32 a := fun a => BitVec.ofInt_natCast ..
  have hs : Inv (env i x2 x3 x4 x5 x6 x7) (4 * (i 1).val) (4 * (i 1).val : ℕ) (start i) := by
    constructor
    · exact b1.trans (w _).symm
    · exact b2.trans (w _).symm
    · exact b3.trans (w _).symm
    · exact b4.trans (w _).symm
    · show (⊥ : EReal) < Ideal.ofBits .f32 0#32
      rw [show Ideal.ofBits .f32 0#32 = (0 : EReal) from by simp [Ideal.ofBits, Ideal.ieee]]; exact EReal.bot_lt_zero
    all_goals exact holds_fresh _ _ _ i _ _ _ (by omega)
  obtain ⟨n, hn, h⟩ := inv_run hg 43 (start i) _ (by omega) (by push_cast; omega) (by push_cast; omega) hs
  have e : final i x2 x3 x4 x5 x6 x7 = runFour (env i x2 x3 x4 x5 x6 x7) 43 (start i) := by unfold final; rfl
  rw [e]
  have z : ∀ k : ℤ, k < 0 → 128 * k.toNat = 0 := fun k hk => by omega
  refine ⟨?_, ?_, ?_, ?_⟩
  · have := h.h1; rwa [Int.toNat_of_nonpos (by omega)] at this
  · have := h.h2; rwa [Int.toNat_of_nonpos (by omega)] at this
  · have := h.h3; rwa [Int.toNat_of_nonpos (by omega)] at this
  · have := h.h4; rwa [Int.toNat_of_nonpos (by omega)] at this

end Cert.Proof.Sbf
end
-- ==== Proof.SbfForm.lean ====
module

public import proofs.«01_k».proof.Proof.SbfMath

/-! # Stick-breaking attention, written once

The attention of a query with the keys before it: every key's score, the logarithm of what a key leaves to the farther
ones, the weight, and the weighted sum of the values. -/

@[expose] public section

set_option maxRecDepth 16384

noncomputable section

namespace Cert.Proof.Sbf

open Idealize.ShloMosaic

/-- Column `d` of head `h`. -/
def at4 (h : Fin 4) (d : Fin 64) : Fin 256 := ⟨64 * h.val + d.val, by omega⟩
/-- The head of a column. -/
def hd4 (c : Fin 256) : Fin 4 := ⟨c.val / 64, by omega⟩

/-- The scores' factor, 1/8. -/
def β : EReal := Ideal.ofBits .f32 0x3E000000#32

theorem β_real : ∃ r : ℝ, β = r := by
  refine ⟨1 / 8, ?_⟩
  simp [β, Ideal.ofBits, Ideal.ieee]
  exact (EReal.coe_mul _ _).symm.trans (congrArg _ (by norm_num))

/-- Row `j` of an array, none past the end. -/
def at_ (K : Fin 16384 → Fin 256 → EReal) (j : ℕ) (c : Fin 256) : EReal := if h : j < 16384 then K ⟨j, h⟩ c else 0

section
variable (Q K V : Fin 16384 → Fin 256 → EReal)

/-- The score of query `T` with key `j`, the logarithm of what the key leaves, the key's weight. -/
def sc (T : Fin 16384) (h : Fin 4) (j : ℕ) : EReal := ∑ d : Fin 64, Q T (at4 h d) * β * at_ K j (at4 h d)
def lg (T : Fin 16384) (h : Fin 4) (j : ℕ) : EReal := L (sc Q K T h j)
def wt (T : Fin 16384) (h : Fin 4) (j : ℕ) : EReal := Ideal.exp (sc Q K T h j + lg Q K T h j + U (lg Q K T h) T.val (j + 1))
/-- The attention's result. -/
def att (T : Fin 16384) (c : Fin 256) : EReal := U (fun j => wt Q K T (hd4 c) j * at_ V j c) T.val 0

/-- Finite queries and keys have finite scores. -/
theorem sc_real (hQ : ∀ T c, ∃ r : ℝ, Q T c = r) (hK : ∀ T c, ∃ r : ℝ, K T c = r) (T : Fin 16384) (h : Fin 4) (j : ℕ) : ∃ r : ℝ, sc Q K T h j = r := by
  choose q hq using hQ
  choose k hk using hK
  obtain ⟨b, hb⟩ := β_real
  by_cases hj : j < 16384
  · refine ⟨∑ d : Fin 64, q T (at4 h d) * b * k ⟨j, hj⟩ (at4 h d), ?_⟩
    simp only [sc, at_, dif_pos hj, hq, hk, hb, ← EReal.coe_mul]
    exact (map_sum (⟨⟨((↑) : ℝ → EReal), rfl⟩, EReal.coe_add⟩ : ℝ →+ EReal) _ _).symm
  · exact ⟨0, by simp [sc, at_, dif_neg hj]⟩

end

end Cert.Proof.Sbf
end
-- ==== Proof.SbfValue.lean ====
module

public import proofs.«01_k».proof.Proof.SbfRun
public import proofs.«01_k».proof.Proof.SbfEnd
public import proofs.«01_k».proof.Proof.SbfForm
public import Idealize.ShloMosaic.Lib.WritesUnit

/-! # What the forward kernel of the stick-breaking attention leaves

Every grid point's block of the output, and from the blocks the whole array: the attention as it is written once. -/

@[expose] public section

set_option maxRecDepth 16384

noncomputable section

namespace Cert.Proof.Sbf

open Cert.SbfKernelIdeal Cert.SbfKernelIdeal.Gen Idealize.ShloMosaic Idealize.ShloMosaic.TcCoe Idealize.SL.Sem

variable (m : (ℓ : Loc nD τ sig) → Buf (Elt Ideal) ℓ)

/-- The arguments by row and column. -/
def qA (c : Dev nD) (T : Fin 16384) (x : Fin 256) : EReal := (m ((c : Thread nD τ).loc main_arg0) : Vec Ideal S16384x256 .f32) (ix2 T x)
def kA (c : Dev nD) (T : Fin 16384) (x : Fin 256) : EReal := (m ((c : Thread nD τ).loc main_arg1) : Vec Ideal S16384x256 .f32) (ix2 T x)
def vA (c : Dev nD) (T : Fin 16384) (x : Fin 256) : EReal := (m ((c : Thread nD τ).loc main_arg2) : Vec Ideal S16384x256 .f32) (ix2 T x)

abbrev N0 : ℕ := (cfg0 (F := Ideal)).N
theorem N0_eq : N0 = 64 := rfl

/-- The index maps. -/
theorem idx : ∀ t : Fin N0, (win0_0.index t 0 = t.val % 32 ∧ win0_0.index t 1 = t.val / 32) ∧ (win0_1.index t 0 = 0 ∧ win0_1.index t 1 = 2 + t.val / 32)
    ∧ (win0_2.index t 0 = 0 ∧ win0_2.index t 1 = 4 + t.val / 32)
    ∧ (win0_3.index t 0 = 0 ∧ win0_3.index t 1 = 0) ∧ (win0_4.index t 0 = 0 ∧ win0_4.index t 1 = 0) ∧ (win0_5.index t 0 = 0 ∧ win0_5.index t 1 = 0)
    ∧ (win0_7.index t 0 = t.val % 32 ∧ win0_7.index t 1 = t.val / 32) ∧ ((grid0.coords t 1).val = t.val % 32) :=
  (by decide +kernel : ∀ t : Fin grid0.N, (win0_0.index t 0 = t.val % 32 ∧ win0_0.index t 1 = t.val / 32) ∧ (win0_1.index t 0 = 0 ∧ win0_1.index t 1 = 2 + t.val / 32)
    ∧ (win0_2.index t 0 = 0 ∧ win0_2.index t 1 = 4 + t.val / 32)
    ∧ (win0_3.index t 0 = 0 ∧ win0_3.index t 1 = 0) ∧ (win0_4.index t 0 = 0 ∧ win0_4.index t 1 = 0) ∧ (win0_5.index t 0 = 0 ∧ win0_5.index t 1 = 0)
    ∧ (win0_7.index t 0 = t.val % 32 ∧ win0_7.index t 1 = t.val / 32) ∧ ((grid0.coords t 1).val = t.val % 32))

/-- A row and a column of a point's output block, in the array. -/
abbrev rowOf (t : Fin N0) (r : Fin 512) : Fin 16384 := ⟨512 * (t.val % 32) + r.val, by omega⟩
abbrev colOf (t : Fin N0) (x : Fin 128) : Fin 256 := ⟨128 * (t.val / 32) + x.val, by have := t.2; have := N0_eq; omega⟩

/-! The arrays the host prepares. -/

/-- The three arguments side by side. -/
def cat (a b c : Vec Ideal S16384x256 .f32) : Vec Ideal S16384x768 .f32 :=
  concatenate S16384x768 1 [⟨S16384x256, a⟩, ⟨S16384x256, b⟩, ⟨S16384x256, c⟩] Facts₀.concatenates_S16384x256_S16384x256_S16384x256_S16384x768_d1

theorem cat_at (a b c : Vec Ideal S16384x256 .f32) (T : Fin 16384) (x : Fin 256) :
    cat a b c (ix2 T ⟨x.val, by omega⟩) = a (ix2 T x) ∧ cat a b c (ix2 T ⟨256 + x.val, by omega⟩) = b (ix2 T x) ∧ cat a b c (ix2 T ⟨512 + x.val, by omega⟩) = c (ix2 T x) := by
  unfold cat
  refine ⟨?_, ?_, ?_⟩ <;> pointwise
  · rw [dif_neg (by omega), dif_neg (by omega)]; exact congrArg c (congrArg (ix2 T) (Fin.ext (by show 512 + x.val - 256 - 256 = x.val; omega)))

theorem V_cat (c : Dev nD) : V m c main_v0 = cat (m ((c : Thread nD τ).loc main_arg0)) (m ((c : Thread nD τ).loc main_arg1)) (m ((c : Thread nD τ).loc main_arg2)) := by
  show StableHlo.after hostOps0 (fun b => m (c, b)) (Proc.devRef .tc main_v0) = _
  after_results
  rfl

/-- The keys' offsets in a tile of three blocks of two heads. -/
def keyW : IVec S384x256 32 :=
  addi (subi (iotaInDim S384x256 32 0) (andi (iotaInDim S384x256 32 0) (broadcastInDim S384x256 ![] Facts₀.bcast_S_S384x256 (constantI S_ 32 127#32))))
    (andi (iotaInDim S384x256 32 1) (broadcastInDim S384x256 ![] Facts₀.bcast_S_S384x256 (constantI S_ 32 127#32)))
/-- The offsets from the query's. -/
def relW : IVec S384x256 32 := subi keyW (andi (iotaInDim S384x256 32 0) (broadcastInDim S384x256 ![] Facts₀.bcast_S_S384x256 (constantI S_ 32 127#32)))
/-- Ones where the row's key is after the column's and both are of one head. -/
def nearW : FVec Ideal S256x256 .bf16 :=
  truncf .bf16 (uitofp .f32 (andi (cmpi .eq (cmpi .sge (iotaInDim S256x256 32 0) (broadcastInDim S256x256 ![] Facts₀.bcast_S_S256x256 (constantI S_ 32 128#32))) (cmpi .sge (iotaInDim S256x256 32 1) (broadcastInDim S256x256 ![] Facts₀.bcast_S_S256x256 (constantI S_ 32 128#32))))
    (cmpi .sgt (andi (iotaInDim S256x256 32 0) (broadcastInDim S256x256 ![] Facts₀.bcast_S_S256x256 (constantI S_ 32 127#32))) (andi (iotaInDim S256x256 32 1) (broadcastInDim S256x256 ![] Facts₀.bcast_S_S256x256 (constantI S_ 32 127#32)))))) Facts₀.bitsLt_bf16_f32

theorem V_key (c : Dev nD) : V m c main_v8 = keyW := by
  show StableHlo.after hostOps0 (fun b => m (c, b)) (Proc.devRef .tc main_v8) = _
  after_results
  rfl
theorem V_rel (c : Dev nD) : V m c main_v30 = relW := by
  show StableHlo.after hostOps0 (fun b => m (c, b)) (Proc.devRef .tc main_v30) = _
  after_results
  rfl
theorem V_near (c : Dev nD) : V m c main_v32 = nearW := by
  show StableHlo.after hostOps0 (fun b => m (c, b)) (Proc.devRef .tc main_v32) = _
  after_results
  rfl

theorem row_word : ∀ r : Fin 384, BitVec.ofNat 32 r.val - (BitVec.ofNat 32 r.val &&& 127#32) = BitVec.ofNat 32 (r.val / 128 * 128) ∧ BitVec.ofNat 32 r.val &&& 127#32 = BitVec.ofNat 32 (r.val % 128) := by decide +kernel
theorem col_word : ∀ x : Fin 256, BitVec.ofNat 32 x.val &&& 127#32 = BitVec.ofNat 32 (x.val % 128) := by decide +kernel

theorem keyW_at (r : Fin 384) (x : Fin 256) : keyW (ix2 r x) = BitVec.ofNat 32 (r.val / 128 * 128 + x.val % 128) := by
  unfold keyW
  pointwise
  show (_ - (_ &&& _)) + (_ &&& _) = _
  rw [(row_word r).1, col_word x, BitVec.ofNat_add]

theorem relW_at (r : Fin 384) (x : Fin 256) : relW (ix2 r x) = BitVec.ofNat 32 (r.val / 128 * 128 + x.val % 128) - BitVec.ofNat 32 (r.val % 128) := by
  unfold relW
  generalize keyW_at r x = hk
  revert hk
  generalize keyW = w
  intro hk
  pointwise
  show _ - (_ &&& _) = _
  rw [hk, (row_word r).2]

theorem nearW_at (r x : Fin 256) : nearW (ix2 r x) = if r.val / 128 = x.val / 128 ∧ x.val % 128 < r.val % 128 then 1 else 0 := by
  unfold nearW
  pointwise
  have h1 : ∀ r : Fin 256, IntOp.cmpi .sge (BitVec.ofNat 32 r.val) 128#32 = BitVec.ofNat 1 (r.val / 128) := by decide +kernel
  have h2 : ∀ a b : Fin 2, IntOp.cmpi .eq (BitVec.ofNat 1 a.val) (BitVec.ofNat 1 b.val) = if a.val = b.val then 1#1 else 0#1 := by decide
  have h3 : ∀ a b : Fin 128, IntOp.cmpi .sgt (BitVec.ofNat 32 a.val) (BitVec.ofNat 32 b.val) = if b.val < a.val then 1#1 else 0#1 := by decide +kernel
  have e : ∀ r : Fin 256, IntOp.andi (BitVec.ofNat 32 r.val) 127#32 = BitVec.ofNat 32 (r.val % 128) := fun r => col_word r
  rw [h1, h1, e, e, h2 ⟨r.val / 128, by omega⟩ ⟨x.val / 128, by omega⟩, h3 ⟨r.val % 128, by omega⟩ ⟨x.val % 128, by omega⟩]
  dsimp only
  have u1 : FloatOps.uitofp (F := Ideal) FTy.f32 (1#1 : BitVec 1) = (1 : EReal) := by
    show (((1#1 : BitVec 1).toNat : ℝ) : EReal) = 1
    simp
  have u0 : FloatOps.uitofp (F := Ideal) FTy.f32 (0#1 : BitVec 1) = (0 : EReal) := by
    show (((0#1 : BitVec 1).toNat : ℝ) : EReal) = 0
    simp
  by_cases g1 : r.val / 128 = x.val / 128 <;> by_cases g2 : x.val % 128 < r.val % 128
  · rw [if_pos g1, if_pos g2, if_pos ⟨g1, g2⟩]; exact u1
  · rw [if_pos g1, if_neg g2, if_neg (fun h => g2 h.2)]; exact u0
  · rw [if_neg g1, if_pos g2, if_neg (fun h => g1 h.1)]; exact u0
  · rw [if_neg g1, if_neg g2, if_neg (fun h => g1 h.1)]; exact u0

/-! The blocks of the inputs. -/

theorem blk0_at (c : Dev nD) (t : Fin N0) (r : Fin 512) (x : Fin 128) : (iblk m c 0 t : Vec Ideal S512x128 .f32) (ix2 r x) = qA m c (rowOf t r) (colOf t x) := by
  have hi := (idx t).1
  unfold iblk
  rw [View.read_apply]
  show V m c main_v0 _ = _
  rw [V_cat]
  refine Eq.trans (congrArg (cat _ _ _) (funext fun a => Fin.ext ?_)) (cat_at _ _ _ (rowOf t r) (colOf t x)).1
  match a with
  | ⟨0, _⟩ => show win0_0.index t 0 * 512 + 1 * r.val = 512 * (t.val % 32) + r.val; rw [hi.1]; omega
  | ⟨1, _⟩ => show win0_0.index t 1 * 128 + 1 * x.val = 128 * (t.val / 32) + x.val; rw [hi.2]; omega

theorem blk1_at (c : Dev nD) (t : Fin N0) (r : Fin 16384) (x : Fin 128) : (iblk m c 1 t : Vec Ideal S16384x128 .f32) (ix2 r x) = kA m c r (colOf t x) := by
  have hi := (idx t).2.1
  unfold iblk
  rw [View.read_apply]
  show V m c main_v0 _ = _
  rw [V_cat]
  refine Eq.trans (congrArg (cat _ _ _) (funext fun a => Fin.ext ?_)) (cat_at _ _ _ r (colOf t x)).2.1
  match a with
  | ⟨0, _⟩ => show win0_1.index t 0 * 16384 + 1 * r.val = r.val; rw [hi.1]; omega
  | ⟨1, _⟩ => show win0_1.index t 1 * 128 + 1 * x.val = 256 + (128 * (t.val / 32) + x.val); rw [hi.2]; omega

theorem blk2_at (c : Dev nD) (t : Fin N0) (r : Fin 16384) (x : Fin 128) : (iblk m c 2 t : Vec Ideal S16384x128 .f32) (ix2 r x) = vA m c r (colOf t x) := by
  have hi := (idx t).2.2.1
  unfold iblk
  rw [View.read_apply]
  show V m c main_v0 _ = _
  rw [V_cat]
  refine Eq.trans (congrArg (cat _ _ _) (funext fun a => Fin.ext ?_)) (cat_at _ _ _ r (colOf t x)).2.2
  match a with
  | ⟨0, _⟩ => show win0_2.index t 0 * 16384 + 1 * r.val = r.val; rw [hi.1]; omega
  | ⟨1, _⟩ => show win0_2.index t 1 * 128 + 1 * x.val = 512 + (128 * (t.val / 32) + x.val); rw [hi.2]; omega

theorem blk3_eq (c : Dev nD) (t : Fin N0) : (iblk m c 3 t : Vec Ideal S384x256 .i32) = keyW := by
  have hi := (idx t).2.2.2.1
  funext y
  obtain ⟨r, x, rfl⟩ : ∃ (r : Fin 384) (x : Fin 256), y = ix2 r x := ⟨y 0, y 1, eq_ix2 y⟩
  unfold iblk
  rw [View.read_apply]
  show V m c main_v8 _ = _
  rw [V_key]
  refine congrArg keyW (funext fun a => Fin.ext ?_)
  match a with
  | ⟨0, _⟩ => show win0_3.index t 0 * 384 + 1 * r.val = r.val; rw [hi.1]; omega
  | ⟨1, _⟩ => show win0_3.index t 1 * 256 + 1 * x.val = x.val; rw [hi.2]; omega

theorem blk4_eq (c : Dev nD) (t : Fin N0) : (iblk m c 4 t : Vec Ideal S384x256 .i32) = relW := by
  have hi := (idx t).2.2.2.2.1
  funext y
  obtain ⟨r, x, rfl⟩ : ∃ (r : Fin 384) (x : Fin 256), y = ix2 r x := ⟨y 0, y 1, eq_ix2 y⟩
  unfold iblk
  rw [View.read_apply]
  show V m c main_v30 _ = _
  rw [V_rel]
  refine congrArg relW (funext fun a => Fin.ext ?_)
  match a with
  | ⟨0, _⟩ => show win0_4.index t 0 * 384 + 1 * r.val = r.val; rw [hi.1]; omega
  | ⟨1, _⟩ => show win0_4.index t 1 * 256 + 1 * x.val = x.val; rw [hi.2]; omega

theorem blk5_eq (c : Dev nD) (t : Fin N0) : (iblk m c 5 t : Vec Ideal S256x256 .bf16) = nearW := by
  have hi := (idx t).2.2.2.2.2.1
  funext y
  obtain ⟨r, x, rfl⟩ : ∃ (r : Fin 256) (x : Fin 256), y = ix2 r x := ⟨y 0, y 1, eq_ix2 y⟩
  unfold iblk
  rw [View.read_apply]
  show V m c main_v32 _ = _
  rw [V_near]
  refine congrArg nearW (funext fun a => Fin.ext ?_)
  match a with
  | ⟨0, _⟩ => show win0_5.index t 0 * 256 + 1 * r.val = r.val; rw [hi.1]; omega
  | ⟨1, _⟩ => show win0_5.index t 1 * 256 + 1 * x.val = x.val; rw [hi.2]; omega

/-- The constant arrays are the ones the tile is read with. -/
theorem consts : Consts keyW relW nearW := by
  have hv : ∀ (β : Fin 3) (t : Fin 128), (rw3 β t).val = 128 * β.val + t.val := fun _ _ => rfl
  have hc : ∀ (h : Fin 2) (k : Fin 128), (cl h k).val = 128 * h.val + k.val := fun _ _ => rfl
  refine ⟨fun β t h k => ?_, fun β t h k => ?_, fun h' h k' k => ?_⟩
  · rw [keyW_at, hv, hc, WordCmp.toInt_ofNat_of_lt (by omega)]; push_cast; omega
  · rw [relW_at, hv, hc, BitVec.toInt_sub, WordCmp.toInt_ofNat_of_lt (by omega), WordCmp.toInt_ofNat_of_lt (by omega), Int.bmod_def]
    push_cast; split_ifs <;> omega
  · rw [nearW_at, hc, hc]
    have h1 : ((128 * h'.val + k'.val) / 128 = (128 * h.val + k.val) / 128 ∧ (128 * h.val + k.val) % 128 < (128 * h'.val + k'.val) % 128) ↔ (h' = h ∧ k.val < k'.val) := by
      rw [Fin.ext_iff]; omega
    simp only [h1]

/-! The block of the output. -/

theorem pay7_at (x : Vec Ideal S128x128 .f32) (t d : Fin 128) : k0_pay7 x (ix2 t d) = x (ix2 t d) * β := by
  unfold k0_pay7 β; pointwise
theorem pay8_at (x : Vec Ideal S128x128 .f32) (t d : Fin 128) : k0_pay8 x (ix2 t d) = x (ix2 t d) * β := by
  unfold k0_pay8 β; pointwise
theorem pay9_at (x : Vec Ideal S128x128 .f32) (t d : Fin 128) : k0_pay9 x (ix2 t d) = x (ix2 t d) * β := by
  unfold k0_pay9 β; pointwise
theorem pay10_at (x : Vec Ideal S128x128 .f32) (t d : Fin 128) : k0_pay10 x (ix2 t d) = x (ix2 t d) * β := by
  unfold k0_pay10 β; pointwise

variable (c : Dev nD) (t : Fin N0)

/-- The environment and the loop's end at a point. -/
abbrev envAt : Env Ideal := env (grid0.coords t) (iblk m c 0 t) (iblk m c 1 t) (iblk m c 2 t) (iblk m c 3 t) (iblk m c 4 t) (iblk m c 5 t)
abbrev endAt : Four Ideal := final (grid0.coords t) (iblk m c 0 t) (iblk m c 1 t) (iblk m c 2 t) (iblk m c 3 t) (iblk m c 4 t) (iblk m c 5 t)

theorem q1_at (r d : Fin 128) : (envAt m c t).q1 (ix2 r d) = qA m c (rowOf t ⟨0 + r.val, by omega⟩) (colOf t d) * β := by
  refine (pay7_at _ r d).trans ?_
  rw [View.ld_unit_apply_of _ _ _ _ _ (ix2 ⟨0 + r.val, by omega⟩ d) (by intro a; match a with | ⟨0, _⟩ => rfl | ⟨1, _⟩ => exact (Nat.zero_add _).symm), blk0_at]
theorem q2_at (r d : Fin 128) : (envAt m c t).q2 (ix2 r d) = qA m c (rowOf t ⟨128 + r.val, by omega⟩) (colOf t d) * β := by
  refine (pay8_at _ r d).trans ?_
  rw [View.ld_unit_apply_of _ _ _ _ _ (ix2 ⟨128 + r.val, by omega⟩ d) (by intro a; match a with | ⟨0, _⟩ => rfl | ⟨1, _⟩ => exact (Nat.zero_add _).symm), blk0_at]
theorem q3_at (r d : Fin 128) : (envAt m c t).q3 (ix2 r d) = qA m c (rowOf t ⟨256 + r.val, by omega⟩) (colOf t d) * β := by
  refine (pay9_at _ r d).trans ?_
  rw [View.ld_unit_apply_of _ _ _ _ _ (ix2 ⟨256 + r.val, by omega⟩ d) (by intro a; match a with | ⟨0, _⟩ => rfl | ⟨1, _⟩ => exact (Nat.zero_add _).symm), blk0_at]
theorem q4_at (r d : Fin 128) : (envAt m c t).q4 (ix2 r d) = qA m c (rowOf t ⟨384 + r.val, by omega⟩) (colOf t d) * β := by
  refine (pay10_at _ r d).trans ?_
  rw [View.ld_unit_apply_of _ _ _ _ _ (ix2 ⟨384 + r.val, by omega⟩ d) (by intro a; match a with | ⟨0, _⟩ => rfl | ⟨1, _⟩ => exact (Nat.zero_add _).symm), blk0_at]

/-- The head of the array that a half of the block's columns is. -/
abbrev headOf (h : Fin 2) : Fin 4 := ⟨2 * (t.val / 32) + h.val, by have := t.2; have := N0_eq; omega⟩

theorem col_head (h : Fin 2) (d : Fin 64) : colOf t (hc h d) = at4 (headOf t h) d :=
  Fin.ext (by show 128 * (t.val / 32) + (64 * h.val + d.val) = 64 * (2 * (t.val / 32) + h.val) + d.val; omega)

theorem row1_at (j : ℕ) (x : Fin 128) : row (iblk m c 1 t) j x = at_ (kA m c) j (colOf t x) := by
  unfold row at_
  by_cases h : j < 16384
  · rw [dif_pos h, dif_pos h, blk1_at]
  · rw [dif_neg h, dif_neg h]
theorem row2_at (j : ℕ) (x : Fin 128) : row (iblk m c 2 t) j x = at_ (vA m c) j (colOf t x) := by
  unfold row at_
  by_cases h : j < 16384
  · rw [dif_pos h, dif_pos h, blk2_at]
  · rw [dif_neg h, dif_neg h]

/-- The block's scores are the array's. -/
theorem z_eq (q : FVec Ideal S128x128 .f32) (r : Fin 128) (T : Fin 16384) (hq : ∀ d, q (ix2 r d) = qA m c T (colOf t d) * β) (h : Fin 2) :
    zOf q (iblk m c 1 t) r h = sc (qA m c) (kA m c) T (headOf t h) := by
  funext j
  unfold zOf sc
  refine Finset.sum_congr rfl fun d _ => ?_
  rw [hq, row1_at, col_head]

/-- A row of the loop's end is the attention's. -/
theorem acc_eq (q : FVec Ideal S128x128 .f32) (b : ℕ) (s : Carry Ideal) (hs : Holds q (iblk m c 1 t) (iblk m c 2 t) b 0 s) (r : Fin 128) (T : Fin 16384) (hT : T.val = 128 * b + r.val)
    (hq : ∀ d, q (ix2 r d) = qA m c T (colOf t d) * β) (x : Fin 128) : s.acc (ix2 r x) = att (qA m c) (kA m c) (vA m c) T (colOf t x) := by
  have hl : ∀ h, lOf q (iblk m c 1 t) r h = lg (qA m c) (kA m c) T (headOf t h) := fun h => by
    funext j; unfold lOf lg; rw [z_eq m c t q r T hq]
  have hh : headOf t (hd x) = hd4 (colOf t x) := Fin.ext (by show 2 * (t.val / 32) + x.val / 64 = (128 * (t.val / 32) + x.val) / 64; omega)
  rw [hs.acc, att, ← hT]
  congr 1
  funext j
  unfold wvOf wOf wt
  rw [z_eq m c t q r T hq, hl, row2_at, hh]

/-- The four stores of a point. -/
theorem pieces_eq : pieces m c t = [⟨Rect.unit ![384, 0] S128x128.size inb_S512x128_S128x128_384_0, (endAt m c t).s4.acc⟩, ⟨Rect.unit ![256, 0] S128x128.size inb_S512x128_S128x128_256_0, (endAt m c t).s3.acc⟩,
    ⟨Rect.unit ![128, 0] S128x128.size inb_S512x128_S128x128_128_0, (endAt m c t).s2.acc⟩, ⟨Rect.unit ![0, 0] S128x128.size inb_S512x128_S128x128_0_0, (endAt m c t).s1.acc⟩] := by
  unfold pieces bodyRun
  dsimp only

/-- The block, by its four parts. -/
theorem out_parts (r x : Fin 128) : outBlk m c t (ix2 ⟨0 + r.val, by omega⟩ x) = (endAt m c t).s1.acc (ix2 r x) ∧ outBlk m c t (ix2 ⟨128 + r.val, by omega⟩ x) = (endAt m c t).s2.acc (ix2 r x)
    ∧ outBlk m c t (ix2 ⟨256 + r.val, by omega⟩ x) = (endAt m c t).s3.acc (ix2 r x) ∧ outBlk m c t (ix2 ⟨384 + r.val, by omega⟩ x) = (endAt m c t).s4.acc (ix2 r x) := by
  unfold outBlk
  rw [pieces_eq]
  refine ⟨?_, ?_, ?_, ?_⟩
  · rw [View.read_writes_cons_rows_of_not_mem _ _ _ _ _ _ rfl rfl (o := 384) (W := 128) (by left; show 0 + r.val < 384; omega), View.read_writes_cons_rows_of_not_mem _ _ _ _ _ _ rfl rfl (o := 256) (W := 128) (by left; show 0 + r.val < 256; omega),
      View.read_writes_cons_rows_of_not_mem _ _ _ _ _ _ rfl rfl (o := 128) (W := 128) (by left; show 0 + r.val < 128; omega)]
    exact View.read_writes_cons_rows_of_mem _ _ _ _ _ _ (ix2 r x) rfl rfl rfl
  · rw [View.read_writes_cons_rows_of_not_mem _ _ _ _ _ _ rfl rfl (o := 384) (W := 128) (by left; show 128 + r.val < 384; omega), View.read_writes_cons_rows_of_not_mem _ _ _ _ _ _ rfl rfl (o := 256) (W := 128) (by left; show 128 + r.val < 256; omega)]
    exact View.read_writes_cons_rows_of_mem _ _ _ _ _ _ (ix2 r x) rfl rfl rfl
  · rw [View.read_writes_cons_rows_of_not_mem _ _ _ _ _ _ rfl rfl (o := 384) (W := 128) (by left; show 256 + r.val < 384; omega)]
    exact View.read_writes_cons_rows_of_mem _ _ _ _ _ _ (ix2 r x) rfl rfl rfl
  · exact View.read_writes_cons_rows_of_mem _ _ _ _ _ _ (ix2 r x) rfl rfl rfl

section
variable (hQ : ∀ T x, ∃ r : ℝ, qA m c T x = r) (hK : ∀ T x, ∃ r : ℝ, kA m c T x = r)
include hQ hK

/-- A point's block is the attention's rows and columns. -/
theorem out_at (r : Fin 512) (x : Fin 128) : outBlk m c t (ix2 r x) = att (qA m c) (kA m c) (vA m c) (rowOf t r) (colOf t x) := by
  have hi : ((grid0.coords t) 1).val = t.val % 32 := (idx t).2.2.2.2.2.2.2
  have hcons : Consts (iblk m c 3 t) (iblk m c 4 t) (iblk m c 5 t) := by rw [blk3_eq, blk4_eq, blk5_eq]; exact consts
  have hl : ∀ j, lOf (envAt m c t).q4 (iblk m c 1 t) 0 0 j ≠ ⊥ := fun j => by
    unfold lOf
    rw [z_eq m c t _ 0 _ (q4_at m c t 0)]
    obtain ⟨z, hz⟩ := sc_real (qA m c) (kA m c) hQ hK (rowOf t ⟨384 + (0 : Fin 128).val, by omega⟩) (headOf t 0) j
    rw [hz, L_coe]; exact EReal.coe_ne_bot _
  obtain ⟨h1, h2, h3, h4⟩ := final_holds (grid0.coords t) (iblk m c 0 t) (iblk m c 1 t) (iblk m c 2 t) (iblk m c 3 t) (iblk m c 4 t) (iblk m c 5 t) hcons hl
  have hr := r.2
  obtain ⟨o1, o2, o3, o4⟩ := out_parts m c t ⟨r.val % 128, by omega⟩ x
  rcases (by omega : r.val / 128 = 0 ∨ r.val / 128 = 1 ∨ r.val / 128 = 2 ∨ r.val / 128 = 3) with h | h | h | h
  · have e : r = ⟨0 + (⟨r.val % 128, by omega⟩ : Fin 128).val, by dsimp only; omega⟩ := Fin.ext (by dsimp only; omega)
    rw [e, o1]; exact acc_eq m c t _ _ _ h1 _ _ (by show 512 * (t.val % 32) + (0 + r.val % 128) = 128 * (4 * _) + r.val % 128; rw [hi]; omega) (q1_at m c t _) x
  · have e : r = ⟨128 + (⟨r.val % 128, by omega⟩ : Fin 128).val, by dsimp only; omega⟩ := Fin.ext (by dsimp only; omega)
    rw [e, o2]; exact acc_eq m c t _ _ _ h2 _ _ (by show 512 * (t.val % 32) + (128 + r.val % 128) = 128 * (4 * _ + 1) + r.val % 128; rw [hi]; omega) (q2_at m c t _) x
  · have e : r = ⟨256 + (⟨r.val % 128, by omega⟩ : Fin 128).val, by dsimp only; omega⟩ := Fin.ext (by dsimp only; omega)
    rw [e, o3]; exact acc_eq m c t _ _ _ h3 _ _ (by show 512 * (t.val % 32) + (256 + r.val % 128) = 128 * (4 * _ + 2) + r.val % 128; rw [hi]; omega) (q3_at m c t _) x
  · have e : r = ⟨384 + (⟨r.val % 128, by omega⟩ : Fin 128).val, by dsimp only; omega⟩ := Fin.ext (by dsimp only; omega)
    rw [e, o4]; exact acc_eq m c t _ _ _ h4 _ _ (by show 512 * (t.val % 32) + (384 + r.val % 128) = 128 * (4 * _ + 3) + r.val % 128; rw [hi]; omega) (q4_at m c t _) x

end

/-- The attention's array. -/
def G : Vec Ideal S16384x256 .f32 := fun i => att (qA m c) (kA m c) (vA m c) (i 0) (i 1)

theorem flushed7 : (dats m 0 c).flushed 7 t = (cfg0.win 7).cut (grid0.coords t) (outBlk m c t) := by
  show (cfg0.win 7).cut (grid0.coords t) ((dats m 0 c).after 7 t) = _
  rw [after_7]

theorem final7 (hQ : ∀ T x, ∃ r : ℝ, qA m c T x = r) (hK : ∀ T x, ∃ r : ℝ, kA m c T x = r) : (dats m 0 c).arrAt 7 N0 = G m c := by
  refine (dats m 0 c).arrAt_eq_of_cover 7 (G m c) (fun t _ => ?_) fun i => ?_
  · rw [flushed7]
    have hi := (idx t).2.2.2.2.2.2.1
    funext j
    rw [View.read_apply]
    refine Eq.trans (?_ : _ = att (qA m c) (kA m c) (vA m c) (rowOf t (j 0)) (colOf t (j 1))) ?_
    · exact (congrArg (outBlk m c t) (eq_ix2 j)).trans (out_at m c t hQ hK (j 0) (j 1))
    refine congrArg (G m c) (a₁ := ix2 (rowOf t (j 0)) (colOf t (j 1))) (funext fun a => Fin.ext ?_)
    match a with
    | ⟨0, _⟩ => show 512 * (t.val % 32) + (j 0).val = win0_7.index t 0 * 512 + 1 * (j 0).val; rw [hi.1]; omega
    | ⟨1, _⟩ => show 128 * (t.val / 32) + (j 1).val = win0_7.index t 1 * 128 + 1 * (j 1).val; rw [hi.2]; omega
  · have h0 : (i 0 : Nat) < 16384 := (i 0).isLt
    have h1 : (i 1 : Nat) < 256 := (i 1).isLt
    have hN := N0_eq
    obtain ⟨t, ht⟩ : ∃ t : Fin N0, t.val = 32 * ((i 1).val / 128) + (i 0).val / 512 := ⟨⟨32 * ((i 1).val / 128) + (i 0).val / 512, by omega⟩, rfl⟩
    have hi := (idx t).2.2.2.2.2.2.1
    refine ⟨t, flush0_7 t, ?_⟩
    show i ∈ ((View.whole main_v35).slice (win0_7.rect t)).set
    rw [View.set_slice_whole, Rect.mem_set_unit]
    intro a
    match a with
    | ⟨0, _⟩ =>
      show win0_7.index t 0 * 512 ≤ (i 0 : Nat) ∧ (i 0 : Nat) < win0_7.index t 0 * 512 + 512
      rw [hi.1]; omega
    | ⟨1, _⟩ =>
      show win0_7.index t 1 * 128 ≤ (i 1 : Nat) ∧ (i 1 : Nat) < win0_7.index t 1 * 128 + 128
      rw [hi.2]; omega

/-- Every run ends with the attention in the output's array and the arguments as they were. -/
theorem run_value (ρ : Dev nD → PrngReg) (hQ : ∀ c T x, ∃ r : ℝ, qA m c T x = r) (hK : ∀ c T x, ∃ r : ℝ, kA m c T x = r) :
    θ_run defs (onTc (τ := τ) (main (F := Ideal))) ⟨m, fun _ => 0, ρ⟩ fun r => ∀ c : Dev nD,
      r.2.mem ((c.tc : Thread nD τ).loc main_v35) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h.1 c).1 7).trans (final7 m c (hQ c) (hK c)),
     ((h.1 c).2 main_arg0 (Pipeline.mem_restRefs_of main_arg0 (by decide) (show ∀ w : Fin 8, (spec0 w).arr.view.ref ≠ main_arg0 by decide))).trans (V_main_arg0 m c),
     ((h.1 c).2 main_arg1 (Pipeline.mem_restRefs_of main_arg1 (by decide) (show ∀ w : Fin 8, (spec0 w).arr.view.ref ≠ main_arg1 by decide))).trans (V_main_arg1 m c),
     ((h.1 c).2 main_arg2 (Pipeline.mem_restRefs_of main_arg2 (by decide) (show ∀ w : Fin 8, (spec0 w).arr.view.ref ≠ main_arg2 by decide))).trans (V_main_arg2 m c)⟩) (run_main m ρ)

end Cert.Proof.Sbf

end
-- ==== Proof.SbfRef.lean ====
module

public import proofs.«01_k».proof.Proof.Gen.SbfReferenceIdeal.Run
public import proofs.«01_k».proof.Proof.SbfForm
public import Idealize.ShloMosaic.Lib.WordCmp
public import Idealize.ShloMosaic.Lib.Pointwise
public import Idealize.ShloMosaic.Lib.Pointwise.Tactic

/-! # What the stick-breaking attention's reference leaves

The reference's arrays, one definition each, and their entries. -/

@[expose] public section

set_option maxRecDepth 16384

noncomputable section

namespace Cert.Proof.SbfRef

open Cert.SbfReferenceIdeal Cert.SbfReferenceIdeal.Gen Idealize.ShloMosaic Idealize.ShloMosaic.TcCoe Idealize.SL.Sem
open Cert.Proof.Sbf (at4 hd4 β sc lg wt att L L_coe U sc_real at_ sum_before sum_between)

abbrev Flat : Type := FVec Ideal S16384x256 .f32
abbrev Heads : Type := FVec Ideal S4x16384x64 .f32
abbrev Pairs : Type := FVec Ideal S4x16384x16384 .f32

def heads (a : Flat) : Heads := transpose S4x16384x64 [1, 0, 2] (shapeCast S16384x4x64 a shapeCasts_S16384x256_S16384x4x64) transposes_S16384x4x64_S4x16384x64_1_0_2
def scaled (a : Heads) : Heads := mulf a (broadcastInDim S4x16384x64 ![] bcast_S_S4x16384x64 (constant S_ .f32 0x3E000000#32))
def dots (a b : Heads) : Pairs := Host.dotGeneral dot_S4x16384x64_S4x16384x64_S4x16384x16384_2_2_1_1_0_0 none a b
def nil : Pairs := broadcastInDim S4x16384x16384 ![] bcast_S_S4x16384x16384 (constant S_ .f32 0x00000000#32)
def soft (x : Pairs) : Pairs := select (cmpf .une (subf x nil) (subf x nil)) (addf x nil) (addf (maximumf x nil) (Host.log1p (Host.exp (Host.negf (Host.absf (subf x nil))))))
def logSig (x : Pairs) : Pairs := Host.negf (soft (Host.negf x))
def before : IVec S4x16384x16384 1 := broadcastInDim S4x16384x16384 ![1, 2] bcast_S16384x16384_S4x16384x16384_1_2 (cmpi .slt (iotaInDim S16384x16384 32 1) (iotaInDim S16384x16384 32 0))
def later : FVec Ideal S16384x16384 .f32 := uitofp .f32 (cmpi .sgt (iotaInDim S16384x16384 32 0) (iotaInDim S16384x16384 32 1))
def masked (x : Pairs) : Pairs := select before x nil
def after (x : Pairs) : Pairs := Host.dotGeneral dot_S4x16384x16384_S16384x16384_S4x16384x16384_2_0_01_1_n_n none x later
def mix (w : Pairs) (v : Heads) : Heads := Host.dotGeneral dot_S4x16384x16384_S4x16384x64_S4x16384x64_2_1_1_2_0_0 none w v
def flat (o : Heads) : Flat := shapeCast S16384x256 (transpose S16384x4x64 [1, 0, 2] o transposes_S4x16384x64_S16384x4x64_1_0_2) shapeCasts_S16384x4x64_S16384x256

def weights (z : Pairs) : Pairs := masked (Host.exp (addf (logSig z) (after (masked (logSig (Host.negf z))))))
def whole (q k v : Flat) : Flat := flat (mix (weights (dots (scaled (heads q)) (heads k))) (heads v))

/-- The reference's result is these definitions. -/
theorem res_eq (m : (ℓ : Loc nD τ sig) → Buf (Elt Ideal) ℓ) (c : Dev nD) :
    Cert.SbfReferenceIdeal.Value.res_main_v24 m c = whole (m ((c.tc : Thread nD τ).loc main_arg0)) (m ((c.tc : Thread nD τ).loc main_arg1)) (m ((c.tc : Thread nD τ).loc main_arg2)) := rfl

/-! ## Their entries -/

theorem heads_at (a : Flat) (h : Fin 4) (T : Fin 16384) (d : Fin 64) : heads a (ix3 h T d) = a (ix2 T (at4 h d)) := by
  unfold heads; pointwise
  exact congrArg a (congrArg (ix2 T) (Fin.ext (by show h.val * 64 + d.val = 64 * h.val + d.val; omega)))
theorem flat_at (o : Heads) (T : Fin 16384) (c : Fin 256) : flat o (ix2 T c) = o (ix3 (hd4 c) T ⟨c.val % 64, by omega⟩) := by
  unfold flat; pointwise
  rfl
theorem scaled_at (a : Heads) (h : Fin 4) (T : Fin 16384) (d : Fin 64) : scaled a (ix3 h T d) = a (ix3 h T d) * β := by
  unfold scaled β; pointwise
theorem dots_at (a b : Heads) (h : Fin 4) (T j : Fin 16384) : dots a b (ix3 h T j) = ∑ d : Fin 64, a (ix3 h T d) * b (ix3 h j d) := by
  unfold dots; pointwise
theorem nil_at (h : Fin 4) (T j : Fin 16384) : nil (ix3 h T j) = 0 := by
  unfold nil; pointwise
theorem soft_at (x : Pairs) (h : Fin 4) (T j : Fin 16384) (r : ℝ) (hx : x (ix3 h T j) = (r : EReal)) : soft x (ix3 h T j) = ((max r 0 + Real.log (1 + Real.exp (-|r|)) : ℝ) : EReal) := by
  unfold soft nil; pointwise
  rw [if_neg (fun h => h rfl), hx]
  have e1 : FloatOps.absf (F := Ideal) (φ := .f32) (r : EReal) = ((|r| : ℝ) : EReal) := by
    show max (r : EReal) (-(r : EReal)) = _
    rw [← EReal.coe_neg]; exact (EReal.coe_strictMono.monotone.map_max).symm
  have e2 : max (r : EReal) 0 = ((max r 0 : ℝ) : EReal) := (EReal.coe_strictMono.monotone.map_max (a := r) (b := 0)).symm
  have e3 : ¬ (1 + Real.exp (-|r|) ≤ 0) := not_le.mpr (by positivity)
  rw [e1, e2, ← EReal.coe_neg, Ideal.exp_coe, Ideal.log1p, show (1 : EReal) = ((1 : ℝ) : EReal) from rfl, ← EReal.coe_add, Ideal.log_coe, if_neg e3, ← EReal.coe_add]
theorem before_at (h : Fin 4) (T j : Fin 16384) : before (ix3 h T j) = if j.val < T.val then 1#1 else 0#1 := by
  unfold before; pointwise
  rw [WordCmp.cmpi_slt_eq, WordCmp.toInt_ofNat_of_lt (by omega), WordCmp.toInt_ofNat_of_lt (by omega)]
  by_cases g : j.val < T.val <;> simp [g]
theorem later_at (j s : Fin 16384) : later (ix2 j s) = if s.val < j.val then 1 else 0 := by
  unfold later; pointwise
  rw [WordCmp.cmpi_sgt_eq, WordCmp.toInt_ofNat_of_lt (by omega), WordCmp.toInt_ofNat_of_lt (by omega)]
  have u1 : FloatOps.uitofp (F := Ideal) FTy.f32 (1#1 : BitVec 1) = (1 : EReal) := by
    show (((1#1 : BitVec 1).toNat : ℝ) : EReal) = 1
    simp
  have u0 : FloatOps.uitofp (F := Ideal) FTy.f32 (0#1 : BitVec 1) = (0 : EReal) := by
    show (((0#1 : BitVec 1).toNat : ℝ) : EReal) = 0
    simp
  by_cases g : s.val < j.val
  · rw [if_pos g, decide_eq_true (by omega)]; exact u1
  · rw [if_neg g, decide_eq_false (by omega)]; exact u0
theorem masked_at (x : Pairs) (h : Fin 4) (T j : Fin 16384) : masked x (ix3 h T j) = if j.val < T.val then x (ix3 h T j) else 0 := by
  unfold masked
  generalize hb : before = b
  pointwise
  rw [← hb, before_at, nil_at, Scalar.select_def]
  by_cases g : j.val < T.val
  · rw [if_pos g, if_pos g, if_pos (by decide)]
  · rw [if_neg g, if_neg g, if_neg (by decide)]
theorem after_at (x : Pairs) (h : Fin 4) (T s : Fin 16384) : after x (ix3 h T s) = ∑ j : Fin 16384, x (ix3 h T j) * later (ix2 j s) := by
  unfold after
  generalize later = b
  pointwise
theorem mix_at (w : Pairs) (v : Heads) (h : Fin 4) (T : Fin 16384) (d : Fin 64) : mix w v (ix3 h T d) = ∑ j : Fin 16384, w (ix3 h T j) * v (ix3 h j d) := by
  unfold mix; pointwise

theorem logSig_at (x : Pairs) (h : Fin 4) (T j : Fin 16384) (r : ℝ) (hx : x (ix3 h T j) = (r : EReal)) : logSig x (ix3 h T j) = ((-(max (-r) 0 + Real.log (1 + Real.exp (-|r|))) : ℝ) : EReal) := by
  have hn : Host.negf x (ix3 h T j) = ((-r : ℝ) : EReal) := by
    show -(x (ix3 h T j)) = _
    rw [hx, EReal.coe_neg]
  have := soft_at (Host.negf x) h T j (-r) hn
  rw [abs_neg] at this
  unfold logSig
  show -(soft (Host.negf x) (ix3 h T j)) = _
  rw [this, ← EReal.coe_neg]

section
variable (q k v : Flat)

abbrev rows (a : Flat) (T : Fin 16384) (x : Fin 256) : EReal := a (ix2 T x)

theorem z_at (h : Fin 4) (T j : Fin 16384) : dots (scaled (heads q)) (heads k) (ix3 h T j) = sc (rows q) (rows k) T h j.val := by
  rw [dots_at, sc]
  refine Finset.sum_congr rfl fun d _ => ?_
  rw [scaled_at, heads_at, heads_at, at_, dif_pos j.2]

variable (hq : ∀ T x, ∃ r : ℝ, rows q T x = r) (hk : ∀ T x, ∃ r : ℝ, rows k T x = r)
include hq hk

/-- The reference's weights. -/
theorem weights_at (h : Fin 4) (T s : Fin 16384) : weights (dots (scaled (heads q)) (heads k)) (ix3 h T s) = if s.val < T.val then wt (rows q) (rows k) T h s.val else 0 := by
  have hz := z_at q k h
  generalize dots (scaled (heads q)) (heads k) = z at hz ⊢
  have hrest : ∀ j : Fin 16384, logSig (Host.negf z) (ix3 h T j) = lg (rows q) (rows k) T h j.val := fun j => by
    obtain ⟨r, hr⟩ := sc_real (rows q) (rows k) hq hk T h j.val
    rw [logSig_at (Host.negf z) h T j (-r) (by show -(z (ix3 h T j)) = _; rw [hz, hr, EReal.coe_neg]), lg, hr, L_coe, neg_neg, abs_neg]
  have hafter : after (masked (logSig (Host.negf z))) (ix3 h T s) = U (lg (rows q) (rows k) T h) T.val (s.val + 1) := by
    rw [after_at, ← sum_between (lg (rows q) (rows k) T h) 16384 T.val s.val (by omega)]
    refine Finset.sum_congr rfl fun j _ => ?_
    rw [masked_at, later_at, hrest]
    by_cases g1 : j.val < T.val <;> by_cases g2 : s.val < j.val <;> simp [g1, g2]
  unfold weights
  rw [masked_at]
  refine if_congr Iff.rfl ?_ rfl
  show Ideal.exp (logSig z (ix3 h T s) + after (masked (logSig (Host.negf z))) (ix3 h T s)) = _
  rw [hafter, wt]
  refine congrArg (fun y => Ideal.exp (y + U (lg (rows q) (rows k) T h) T.val (s.val + 1))) ?_
  obtain ⟨r, hr⟩ := sc_real (rows q) (rows k) hq hk T h s.val
  rw [logSig_at z h T s r ((hz T s).trans hr), lg, hr, L_coe, ← EReal.coe_add]
  refine congrArg (fun y : ℝ => (y : EReal)) ?_
  rcases le_total r 0 with g | g
  · rw [max_eq_left (by linarith), max_eq_right g]; ring
  · rw [max_eq_right (by linarith), max_eq_left g]; ring

/-- The reference's result is the attention. -/
theorem whole_at (T : Fin 16384) (c : Fin 256) : whole q k v (ix2 T c) = att (rows q) (rows k) (rows v) T c := by
  unfold whole
  rw [flat_at, mix_at, att, ← sum_before (fun j => wt (rows q) (rows k) T (hd4 c) j * at_ (rows v) j c) 16384 T.val (by omega)]
  refine Finset.sum_congr rfl fun j _ => ?_
  rw [weights_at q k hq hk, heads_at, at_, dif_pos j.2]
  have e : at4 (hd4 c) ⟨c.val % 64, by omega⟩ = c := Fin.ext (by show 64 * (c.val / 64) + c.val % 64 = c.val; omega)
  rw [e]
  by_cases g : j.val < T.val
  · rw [if_pos g, if_pos g]
  · rw [if_neg g, if_neg g, zero_mul]

end

/-- The reference's run. -/
theorem run_at (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = whole (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (res_eq m c), (h c).2⟩) (Cert.SbfReferenceIdeal.Value.run m ρ)

end Cert.Proof.SbfRef

end
-- ==== Proof.SbfClaim.lean ====
module

public import proofs.«01_k».proof.Proof.SbfValue
public import proofs.«01_k».proof.Proof.SbfRef
public import proofs.«01_k».proof.Proof.FfnClaim

/-! # The stick-breaking attention's forward kernel and its reference agree -/

@[expose] public section

set_option maxRecDepth 16384

noncomputable section

namespace Cert.Proof

open Idealize.ShloMosaic Idealize.ShloMosaic.TcCoe Idealize.SL.Sem
open Cert.FfnKernelIdeal.Value (IsReal)

/-- The precondition's shape relations. -/
theorem pre_sbf_facts : Cert.Pre_finite_sbf.Facts where
  bcast_S_S16384x256 := by decide
  reducesTo_S16384x256_S_d0_1 := by decide
  h_S_ := by decide

instance : Cert.Pre_finite_sbf.Facts := pre_sbf_facts

/-- What the precondition says of the queries and the keys. -/
theorem pre_sbf (q k v : FVec Ideal ⟨2, ![16384, 256]⟩ .f32) (h : Cert.Pre_finite_sbf.fn q k v = fun _ => 1#1) :
    (∀ i, IsReal (q i)) ∧ ∀ i, IsReal (k i) := by
  have h := congrFun h ix0
  dsimp only [Cert.Pre_finite_sbf.fn] at h
  obtain ⟨h0, h1⟩ := IntOp.andi_eq_one.1 h
  exact ⟨fun i => real_of_cmp _ _ i rfl (Host.reduce_andi_all _ _ _ _ _ h0 i), fun i => real_of_cmp _ _ i rfl (Host.reduce_andi_all _ _ _ _ _ h1 i)⟩

/-- Both programs end with the attention, their arguments kept. -/
theorem sbf_algebraic : Cert.algebraic_SbfKernelIdeal_SbfReferenceIdeal_pre_finite_sbf := fun m g m' g' hp he =>
  ⟨fun c => Sbf.G m c,
    Sbf.run_value m g (fun c T x => (pre_sbf _ _ _ (hp c)).1 (ix2 T x)) (fun c T x => (pre_sbf _ _ _ (hp c)).2 (ix2 T x)),
    (θ_run Cert.SbfReferenceIdeal.defs _ _).mono (fun _ h c => by
      obtain ⟨e0, e1, e2⟩ := he c
      obtain ⟨p0, p1⟩ := pre_sbf _ _ _ (hp c)
      refine ⟨(h c).1.trans ?_, (h c).2⟩
      rw [e0, e1, e2]
      funext i
      obtain ⟨T, x, rfl⟩ : ∃ (T : Fin 16384) (x : Fin 256), i = ix2 T x := ⟨i 0, i 1, eq_ix2 i⟩
      exact SbfRef.whole_at _ _ _ (fun T x => p0 (ix2 T x)) (fun T x => p1 (ix2 T x)) T x) (SbfRef.run_at m' g')⟩

end Cert.Proof

end
-- ==== Proof.SbStep.lean ====
module

public import proofs.«01_k».proof.Proof.Gen.SbKernelIdeal.Launch
public import proofs.«01_k».proof.Proof.Gen.SbKernelIdeal.Skeleton
public import proofs.«01_k».proof.Proof.Gen.SbKernelIdeal.Points
public import proofs.«01_k».proof.Proof.SbfBody
public import Idealize.ShloMosaic.Lib.Pipeline.FrameValue
public import Idealize.ShloMosaic.Lib.VecWindow

@[expose] public section

set_option maxRecDepth 16384

noncomputable section

namespace Cert.Proof.Sb

open Cert.SbKernelIdeal Cert.SbKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- What one query block carries through the loop of sums: its walk, and each head's sum of the weights' gradients so far. -/
structure Sum (F : FTy → Type) where
  c : Sbf.Carry F
  t0 : FVec F S128x1 .f32
  t1 : FVec F S128x1 .f32

/-- What one query block carries through the loop of gradients: its walk, the query gradient so far, and the same sums. -/
structure Grad (F : FTy → Type) where
  c : Sbf.Carry F
  dq : FVec F S128x128 .f32
  n0 : FVec F S128x1 .f32
  n1 : FVec F S128x1 .f32

/-- Row sums of the left half, -/
def sumLo (y : FVec F S128x256 .f32) : FVec F S128x1 .f32 :=
  shapeCast S128x1 (multiReduction .add [1] S128 (extractStridedSlice S128x128 ![0, 0] y slices_S128x256_o0_0_S128x128) 0x00000000#32 reduces_S128x128_S128 (.inl rfl) rfl) shapeCasts_S128_S128x1
/-- and of the right half. -/
def sumHi (y : FVec F S128x256 .f32) : FVec F S128x1 .f32 :=
  shapeCast S128x1 (multiReduction .add [1] S128 (extractStridedSlice S128x128 ![0, 128] y slices_S128x256_o0_128_S128x128) 0x00000000#32 reduces_S128x128_S128 (.inl rfl) rfl) shapeCasts_S128_S128x1
/-- A tile's three blocks. -/
def b0 (y : FVec F S384x256 .f32) : FVec F S128x256 .f32 := extractStridedSlice S128x256 ![0, 0] y slices_S384x256_o0_0_S128x256
def b1 (y : FVec F S384x256 .f32) : FVec F S128x256 .f32 := extractStridedSlice S128x256 ![128, 0] y slices_S384x256_o128_0_S128x256
def b2 (y : FVec F S384x256 .f32) : FVec F S128x256 .f32 := extractStridedSlice S128x256 ![256, 0] y slices_S384x256_o256_0_S128x256
/-- A tile's row sums, head 0, -/
def allLo (y : FVec F S384x256 .f32) : FVec F S128x1 .f32 :=
  addf (addf (addf (broadcast S128x1 (Scalar.ofBits .f32 0x00000000#32)) (sumLo (b0 y))) (sumLo (b1 y))) (sumLo (b2 y))
/-- head 1. -/
def allHi (y : FVec F S384x256 .f32) : FVec F S128x1 .f32 :=
  addf (addf (addf (broadcast S128x1 (Scalar.ofBits .f32 0x00000000#32)) (sumHi (b0 y))) (sumHi (b1 y))) (sumHi (b2 y))

section Tile
variable (v2 : IVec S128x128 1) (v5 : IVec S128x256 1) (x6 x7 : Vec F S384x256 .i32) (x8 x9 : Vec F S256x256 .bf16)
  (q : FVec F S128x128 .f32) (d : FVec F S128x128 .bf16) (b : BitVec 32) (kt vt : Vec F S384x128 .f32)

/-- The tile's weights. -/
abbrev wt (s : Sbf.Carry F) : FVec F S384x256 .f32 := Sbf.weights v2 v5 x6 x7 x8 q b kt s
/-- The tile's weights times their gradients. -/
def gr (s : Sbf.Carry F) : FVec F S384x256 .f32 :=
  k0_pay376 v2 d (wt v2 v5 x6 x7 x8 q b kt s) (k0_pay372 vt) (k0_pay373 v2 d vt) (k0_pay374 vt) (k0_pay375 v2 vt)
/-- The sums of the weights' gradients at keys farther than each key. -/
def far (p0 p1 : FVec F S128x1 .f32) (s : Sbf.Carry F) (n0 n1 : FVec F S128x1 .f32) : FVec F S384x256 .f32 :=
  k0_pay390 v5 p0 p1 n0 n1 (gr v2 v5 x6 x7 x8 q d b kt vt s) (sumLo (b1 (gr v2 v5 x6 x7 x8 q d b kt vt s))) (sumHi (b1 (gr v2 v5 x6 x7 x8 q d b kt vt s)))
    (sumLo (b2 (gr v2 v5 x6 x7 x8 q d b kt vt s))) (sumHi (b2 (gr v2 v5 x6 x7 x8 q d b kt vt s))) x9
/-- The gate, -/
def be (s : Sbf.Carry F) : FVec F S384x256 .f32 := k0_pay391 (Sbf.scores v2 x6 x7 q b kt s) (Sbf.rest v2 x6 x7 q b kt s)
/-- and what it leaves. -/
def nb (s : Sbf.Carry F) : FVec F S384x256 .f32 := k0_pay392 (Sbf.scores v2 x6 x7 q b kt s) (Sbf.rest v2 x6 x7 q b kt s)
/-- The tile's query gradients, not yet scaled. -/
def dqTile (p0 p1 : FVec F S128x1 .f32) (s : Sbf.Carry F) (n0 n1 : FVec F S128x1 .f32) : FVec F S128x128 .f32 :=
  k0_pay399 (Cert.SbfKernelIdeal.Gen.k0_pay15 v2 kt) (Cert.SbfKernelIdeal.Gen.k0_pay16 v2 kt) (Cert.SbfKernelIdeal.Gen.k0_pay17 v2 kt) (gr v2 v5 x6 x7 x8 q d b kt vt s)
    (far v2 v5 x6 x7 x8 x9 q d b kt vt p0 p1 s n0 n1) (be v2 x6 x7 q b kt s) (nb v2 x6 x7 q b kt s)
/-- The key gradients' rows, given what they were. -/
def addK (p0 p1 : FVec F S128x1 .f32) (s : Sbf.Carry F) (n0 n1 : FVec F S128x1 .f32) (old : Vec F S384x128 .f32) : Vec F S384x128 .f32 :=
  k0_pay404 (k0_pay395 v2 q (gr v2 v5 x6 x7 x8 q d b kt vt s) (far v2 v5 x6 x7 x8 x9 q d b kt vt p0 p1 s n0 n1) (be v2 x6 x7 q b kt s) (nb v2 x6 x7 q b kt s))
    (k0_pay397 v2 q (gr v2 v5 x6 x7 x8 q d b kt vt s) (far v2 v5 x6 x7 x8 x9 q d b kt vt p0 p1 s n0 n1) (be v2 x6 x7 q b kt s) (nb v2 x6 x7 q b kt s))
    (k0_pay401 v2 q (gr v2 v5 x6 x7 x8 q d b kt vt s) (far v2 v5 x6 x7 x8 x9 q d b kt vt p0 p1 s n0 n1) (be v2 x6 x7 q b kt s) (nb v2 x6 x7 q b kt s)) old
/-- The value gradients' rows, given what they were. -/
def addV (s : Sbf.Carry F) (old : Vec F S384x128 .f32) : Vec F S384x128 .f32 :=
  k0_pay405 v2 (k0_pay396 v2 d (wt v2 v5 x6 x7 x8 q b kt s)) (k0_pay398 v2 d (wt v2 v5 x6 x7 x8 q b kt s)) (k0_pay402 d (wt v2 v5 x6 x7 x8 q b kt s))
    (k0_pay403 d (wt v2 v5 x6 x7 x8 q b kt s)) old
/-- One trip of the loop of sums. -/
def sumOne (s : Sum F) : Sum F :=
  ⟨Sbf.stepOne v2 v5 x6 x7 x8 q b kt vt s.c, addf s.t0 (allLo (gr v2 v5 x6 x7 x8 q d b kt vt s.c)), addf s.t1 (allHi (gr v2 v5 x6 x7 x8 q d b kt vt s.c))⟩
/-- The sums at the first tile. -/
def sumFirst (s : Sbf.Carry F) : Sum F :=
  ⟨Sbf.stepOne v2 v5 x6 x7 x8 q b kt vt s, allLo (gr v2 v5 x6 x7 x8 q d b kt vt s), allHi (gr v2 v5 x6 x7 x8 q d b kt vt s)⟩
/-- One trip of the loop of gradients, without the rows that it adds to. -/
def gradOne (p0 p1 : FVec F S128x1 .f32) (s : Grad F) : Grad F :=
  ⟨Sbf.stepOne v2 v5 x6 x7 x8 q b kt vt s.c,
   addf s.dq (mulf (broadcast S128x128 (Scalar.ofBits .f32 0x3E000000#32)) (dqTile v2 v5 x6 x7 x8 x9 q d b kt vt p0 p1 s.c s.n0 s.n1)),
   addf s.n0 (allLo (gr v2 v5 x6 x7 x8 q d b kt vt s.c)), addf s.n1 (allHi (gr v2 v5 x6 x7 x8 q d b kt vt s.c))⟩
/-- The same at the first tile. -/
def gradFirst (p0 p1 : FVec F S128x1 .f32) (s : Sbf.Carry F) (z : FVec F S128x1 .f32) : Grad F :=
  ⟨Sbf.stepOne v2 v5 x6 x7 x8 q b kt vt s,
   mulf (broadcast S128x128 (Scalar.ofBits .f32 0x3E000000#32)) (dqTile v2 v5 x6 x7 x8 x9 q d b kt vt p0 p1 s z z),
   allLo (gr v2 v5 x6 x7 x8 q d b kt vt s), allHi (gr v2 v5 x6 x7 x8 q d b kt vt s)⟩
end Tile

/-- The walks' offsets are in range. -/
abbrev InB (j : BitVec 32) : Prop := Cert.SbfKernelIdeal.k0_chk1 j

/-- An array with the three blocks of place `j` replaced by a function of themselves. -/
def upd (x : Vec F S16384x128 .f32) (j : BitVec 32) (f : Vec F S384x128 .f32 → Vec F S384x128 .f32) : Vec F S16384x128 .f32 :=
  VecWindow.put x (Cert.SbfKernelIdeal.k0_off1 j) S384x128.size (f (Sbf.tile x j))

/-- What a grid point's loops read. -/
structure Env (F : FTy → Type) where
  i : grid0.Coords
  v2 : IVec S128x128 1
  v5 : IVec S128x256 1
  q1 : FVec F S128x128 .f32
  q2 : FVec F S128x128 .f32
  q3 : FVec F S128x128 .f32
  q4 : FVec F S128x128 .f32
  d1 : FVec F S128x128 .bf16
  d2 : FVec F S128x128 .bf16
  d3 : FVec F S128x128 .bf16
  d4 : FVec F S128x128 .bf16
  x3 : Vec F S16384x128 .f32
  x4 : Vec F S16384x128 .f32
  x6 : Vec F S384x256 .i32
  x7 : Vec F S384x256 .i32
  x8 : Vec F S256x256 .bf16
  x9 : Vec F S256x256 .bf16

/-- What the walks alone read. -/
abbrev Env.walk (e : Env F) : Sbf.Env F := ⟨e.i, e.v2, e.v5, e.q1, e.q2, e.q3, e.q4, e.x3, e.x4, e.x6, e.x7, e.x8⟩

/-- The four blocks' sums. -/
structure Sums (F : FTy → Type) where
  s1 : Sum F
  s2 : Sum F
  s3 : Sum F
  s4 : Sum F
/-- The four blocks' walks. -/
abbrev Sums.four (s : Sums F) : Sbf.Four F := ⟨s.s1.c, s.s2.c, s.s3.c, s.s4.c⟩
/-- The values in the loop's order. -/
abbrev Sums.flat (s : Sums F) : (Λ₀ F).Result 1 :=
  (s.s1.c.jt, s.s1.c.mx, s.s1.c.c0, s.s1.c.c1, s.s1.t0, s.s1.t1, s.s2.c.jt, s.s2.c.mx, s.s2.c.c0, s.s2.c.c1, s.s2.t0, s.s2.t1,
   s.s3.c.jt, s.s3.c.mx, s.s3.c.c0, s.s3.c.c1, s.s3.t0, s.s3.t1, s.s4.c.jt, s.s4.c.mx, s.s4.c.c0, s.s4.c.c1, s.s4.t0, s.s4.t1)

/-- The four blocks' gradients and the two arrays that they add to. -/
structure Grads (F : FTy → Type) where
  s1 : Grad F
  s2 : Grad F
  s3 : Grad F
  s4 : Grad F
  dk : Vec F S16384x128 .f32
  dv : Vec F S16384x128 .f32
abbrev Grads.four (s : Grads F) : Sbf.Four F := ⟨s.s1.c, s.s2.c, s.s3.c, s.s4.c⟩
abbrev Grads.flat (s : Grads F) : (Λ₀ F).Result 2 :=
  (s.s1.c.jt, s.s1.c.mx, s.s1.dq, s.s1.c.c0, s.s1.c.c1, s.s1.n0, s.s1.n1, s.s2.c.jt, s.s2.c.mx, s.s2.dq, s.s2.c.c0, s.s2.c.c1, s.s2.n0, s.s2.n1,
   s.s3.c.jt, s.s3.c.mx, s.s3.dq, s.s3.c.c0, s.s3.c.c1, s.s3.n0, s.s3.n1, s.s4.c.jt, s.s4.c.mx, s.s4.dq, s.s4.c.c0, s.s4.c.c1, s.s4.n0, s.s4.n1)

/-- One trip of the four blocks' sums. -/
def sumStep (e : Env F) (s : Sums F) : Sums F where
  s1 := sumOne e.v2 e.v5 e.x6 e.x7 e.x8 e.q1 e.d1 (Sbf.blk e.i 0#32) (Sbf.tile e.x3 s.s1.c.jt) (Sbf.tile e.x4 s.s1.c.jt) s.s1
  s2 := sumOne e.v2 e.v5 e.x6 e.x7 e.x8 e.q2 e.d2 (Sbf.blk e.i 1#32) (Sbf.tile e.x3 s.s2.c.jt) (Sbf.tile e.x4 s.s2.c.jt) s.s2
  s3 := sumOne e.v2 e.v5 e.x6 e.x7 e.x8 e.q3 e.d3 (Sbf.blk e.i 2#32) (Sbf.tile e.x3 s.s3.c.jt) (Sbf.tile e.x4 s.s3.c.jt) s.s3
  s4 := sumOne e.v2 e.v5 e.x6 e.x7 e.x8 e.q4 e.d4 (Sbf.blk e.i 3#32) (Sbf.tile e.x3 s.s4.c.jt) (Sbf.tile e.x4 s.s4.c.jt) s.s4

/-- The four blocks' totals. -/
structure Tots (F : FTy → Type) where
  p1 : FVec F S128x1 .f32
  r1 : FVec F S128x1 .f32
  p2 : FVec F S128x1 .f32
  r2 : FVec F S128x1 .f32
  p3 : FVec F S128x1 .f32
  r3 : FVec F S128x1 .f32
  p4 : FVec F S128x1 .f32
  r4 : FVec F S128x1 .f32

/-- One trip of the four blocks' gradients. -/
def gradStep (e : Env F) (p : Tots F) (s : Grads F) : Grads F where
  s1 := gradOne e.v2 e.v5 e.x6 e.x7 e.x8 e.x9 e.q1 e.d1 (Sbf.blk e.i 0#32) (Sbf.tile e.x3 s.s1.c.jt) (Sbf.tile e.x4 s.s1.c.jt) p.p1 p.r1 s.s1
  s2 := gradOne e.v2 e.v5 e.x6 e.x7 e.x8 e.x9 e.q2 e.d2 (Sbf.blk e.i 1#32) (Sbf.tile e.x3 s.s2.c.jt) (Sbf.tile e.x4 s.s2.c.jt) p.p2 p.r2 s.s2
  s3 := gradOne e.v2 e.v5 e.x6 e.x7 e.x8 e.x9 e.q3 e.d3 (Sbf.blk e.i 2#32) (Sbf.tile e.x3 s.s3.c.jt) (Sbf.tile e.x4 s.s3.c.jt) p.p3 p.r3 s.s3
  s4 := gradOne e.v2 e.v5 e.x6 e.x7 e.x8 e.x9 e.q4 e.d4 (Sbf.blk e.i 3#32) (Sbf.tile e.x3 s.s4.c.jt) (Sbf.tile e.x4 s.s4.c.jt) p.p4 p.r4 s.s4
  dk := upd (upd (upd (upd s.dk
    s.s1.c.jt (addK e.v2 e.v5 e.x6 e.x7 e.x8 e.x9 e.q1 e.d1 (Sbf.blk e.i 0#32) (Sbf.tile e.x3 s.s1.c.jt) (Sbf.tile e.x4 s.s1.c.jt) p.p1 p.r1 s.s1.c s.s1.n0 s.s1.n1))
    s.s2.c.jt (addK e.v2 e.v5 e.x6 e.x7 e.x8 e.x9 e.q2 e.d2 (Sbf.blk e.i 1#32) (Sbf.tile e.x3 s.s2.c.jt) (Sbf.tile e.x4 s.s2.c.jt) p.p2 p.r2 s.s2.c s.s2.n0 s.s2.n1))
    s.s3.c.jt (addK e.v2 e.v5 e.x6 e.x7 e.x8 e.x9 e.q3 e.d3 (Sbf.blk e.i 2#32) (Sbf.tile e.x3 s.s3.c.jt) (Sbf.tile e.x4 s.s3.c.jt) p.p3 p.r3 s.s3.c s.s3.n0 s.s3.n1))
    s.s4.c.jt (addK e.v2 e.v5 e.x6 e.x7 e.x8 e.x9 e.q4 e.d4 (Sbf.blk e.i 3#32) (Sbf.tile e.x3 s.s4.c.jt) (Sbf.tile e.x4 s.s4.c.jt) p.p4 p.r4 s.s4.c s.s4.n0 s.s4.n1)
  dv := upd (upd (upd (upd s.dv
    s.s1.c.jt (addV e.v2 e.v5 e.x6 e.x7 e.x8 e.q1 e.d1 (Sbf.blk e.i 0#32) (Sbf.tile e.x3 s.s1.c.jt) s.s1.c))
    s.s2.c.jt (addV e.v2 e.v5 e.x6 e.x7 e.x8 e.q2 e.d2 (Sbf.blk e.i 1#32) (Sbf.tile e.x3 s.s2.c.jt) s.s2.c))
    s.s3.c.jt (addV e.v2 e.v5 e.x6 e.x7 e.x8 e.q3 e.d3 (Sbf.blk e.i 2#32) (Sbf.tile e.x3 s.s3.c.jt) s.s3.c))
    s.s4.c.jt (addV e.v2 e.v5 e.x6 e.x7 e.x8 e.q4 e.d4 (Sbf.blk e.i 3#32) (Sbf.tile e.x3 s.s4.c.jt) s.s4.c)

open Classical in
/-- At most `k` trips of the loop of sums, -/
def sumRun (e : Env F) : ℕ → Sums F → Sums F
  | 0, s => s
  | k + 1, s => if Sbf.goOn s.four then sumRun e k (sumStep e s) else s
open Classical in
/-- and of the loop of gradients. -/
def gradRun (e : Env F) (p : Tots F) : ℕ → Grads F → Grads F
  | 0, s => s
  | k + 1, s => if Sbf.goOn s.four then gradRun e p k (gradStep e p s) else s

/-- The walks go on alike, -/
theorem sum_four (e : Env F) (s : Sums F) : (sumStep e s).four = Sbf.stepFour e.walk s.four := rfl
/-- in both loops. -/
theorem grad_four (e : Env F) (p : Tots F) (s : Grads F) : (gradStep e p s).four = Sbf.stepFour e.walk s.four := rfl

end Cert.Proof.Sb

end
-- ==== Proof.SbSum.lean ====
module

public import proofs.«01_k».proof.Proof.Gen.SbKernelIdeal.Launch
public import proofs.«01_k».proof.Proof.Gen.SbKernelIdeal.Skeleton
public import proofs.«01_k».proof.Proof.Gen.SbKernelIdeal.Points
public import proofs.«01_k».proof.Proof.SbStep
public import Idealize.ShloMosaic.Lib.Pipeline.FrameValue
public import Idealize.ShloMosaic.Lib.VecWindow

@[expose] public section

set_option maxRecDepth 16384

noncomputable section

namespace Cert.Proof.Sb

open Cert.SbKernelIdeal Cert.SbKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- The arrays that the loops touch. -/
structure Refs where
  a3 : Memref sig .tc .vmem S16384x128 .f32
  h3 : a3.IsWhole
  a4 : Memref sig .tc .vmem S16384x128 .f32
  h4 : a4.IsWhole
  a6 : Memref sig .tc .vmem S384x256 .i32
  h6 : a6.IsWhole
  a7 : Memref sig .tc .vmem S384x256 .i32
  h7 : a7.IsWhole
  a8 : Memref sig .tc .vmem S256x256 .bf16
  h8 : a8.IsWhole
  a9 : Memref sig .tc .vmem S256x256 .bf16
  h9 : a9.IsWhole
  a13 : Memref sig .tc .vmem S16384x128 .f32
  h13 : a13.IsWhole
  a14 : Memref sig .tc .vmem S16384x128 .f32
  h14 : a14.IsWhole

/-- The loop of sums at given carries. -/
abbrev sumLoop (R : Refs) (e : Env F) (s : Sums F) : Prog (TpuEff nD τ sig (Elt F) (Λ₀ F) .tc) ((Λ₀ F).Result 1) :=
  cc0_while1 e.i R.a3 R.h3 e.v2 R.a7 R.h7 R.a6 R.h6 e.q1 R.a8 R.h8 e.v5 R.a4 R.h4 e.d1 e.q2 e.d2 e.q3 e.d3 e.q4 e.d4 s.s1.c.jt s.s1.c.mx s.s1.c.c0 s.s1.c.c1 s.s1.t0 s.s1.t1 s.s2.c.jt s.s2.c.mx s.s2.c.c0 s.s2.c.c1 s.s2.t0 s.s2.t1 s.s3.c.jt s.s3.c.mx s.s3.c.c0 s.s3.c.c1 s.s3.t0 s.s3.t1 s.s4.c.jt s.s4.c.mx s.s4.c.c0 s.s4.c.c1 s.s4.t0 s.s4.t1
/-- The loop of gradients at given carries. -/
abbrev gradLoop (R : Refs) (e : Env F) (p : Tots F) (s : Grads F) : Prog (TpuEff nD τ sig (Elt F) (Λ₀ F) .tc) ((Λ₀ F).Result 2) :=
  cc0_while2 e.i R.a3 R.h3 e.v2 R.a7 R.h7 R.a6 R.h6 e.q1 R.a8 R.h8 e.v5 R.a4 R.h4 e.d1 p.p1 p.r1 R.a9 R.h9 R.a13 R.h13 R.a14 R.h14 e.q2 e.d2 p.p2 p.r2 e.q3 e.d3 p.p3 p.r3 e.q4 e.d4 p.p4 p.r4 s.s1.c.jt s.s1.c.mx s.s1.dq s.s1.c.c0 s.s1.c.c1 s.s1.n0 s.s1.n1 s.s2.c.jt s.s2.c.mx s.s2.dq s.s2.c.c0 s.s2.c.c1 s.s2.n0 s.s2.n1 s.s3.c.jt s.s3.c.mx s.s3.dq s.s3.c.c0 s.s3.c.c1 s.s3.n0 s.s3.n1 s.s4.c.jt s.s4.c.mx s.s4.dq s.s4.c.c0 s.s4.c.c1 s.s4.n0 s.s4.n1
/-- Their labels' records. -/
def sumRec (R : Refs) (e : Env F) (s : Sums F) : Cc0While1 F := ⟨e.i, R.a3, R.h3, e.v2, R.a7, R.h7, R.a6, R.h6, e.q1, R.a8, R.h8, e.v5, R.a4, R.h4, e.d1, e.q2, e.d2, e.q3, e.d3, e.q4, e.d4, s.s1.c.jt, s.s1.c.mx, s.s1.c.c0, s.s1.c.c1, s.s1.t0, s.s1.t1, s.s2.c.jt, s.s2.c.mx, s.s2.c.c0, s.s2.c.c1, s.s2.t0, s.s2.t1, s.s3.c.jt, s.s3.c.mx, s.s3.c.c0, s.s3.c.c1, s.s3.t0, s.s3.t1, s.s4.c.jt, s.s4.c.mx, s.s4.c.c0, s.s4.c.c1, s.s4.t0, s.s4.t1⟩
def gradRec (R : Refs) (e : Env F) (p : Tots F) (s : Grads F) : Cc0While2 F := ⟨e.i, R.a3, R.h3, e.v2, R.a7, R.h7, R.a6, R.h6, e.q1, R.a8, R.h8, e.v5, R.a4, R.h4, e.d1, p.p1, p.r1, R.a9, R.h9, R.a13, R.h13, R.a14, R.h14, e.q2, e.d2, p.p2, p.r2, e.q3, e.d3, p.p3, p.r3, e.q4, e.d4, p.p4, p.r4, s.s1.c.jt, s.s1.c.mx, s.s1.dq, s.s1.c.c0, s.s1.c.c1, s.s1.n0, s.s1.n1, s.s2.c.jt, s.s2.c.mx, s.s2.dq, s.s2.c.c0, s.s2.c.c1, s.s2.n0, s.s2.n1, s.s3.c.jt, s.s3.c.mx, s.s3.dq, s.s3.c.c0, s.s3.c.c1, s.s3.n0, s.s3.n1, s.s4.c.jt, s.s4.c.mx, s.s4.dq, s.s4.c.c0, s.s4.c.c1, s.s4.n0, s.s4.n1⟩

/-- The arrays that the loop of sums reads, held at their contents. -/
def held (c : Dev nD) (R : Refs) (e : Env F) : sProp 𝕄 :=
  iprop(owns (c : Thread nD τ) R.a3 fullShare e.x3 ∗ owns (c : Thread nD τ) R.a4 fullShare e.x4 ∗ owns (c : Thread nD τ) R.a6 fullShare e.x6 ∗ owns (c : Thread nD τ) R.a7 fullShare e.x7 ∗ owns (c : Thread nD τ) R.a8 fullShare e.x8)
/-- What the loop of gradients reads and adds to. -/
def heldG (c : Dev nD) (R : Refs) (e : Env F) (dk dv : Vec F S16384x128 .f32) : sProp 𝕄 :=
  iprop(owns (c : Thread nD τ) R.a3 fullShare e.x3 ∗ owns (c : Thread nD τ) R.a4 fullShare e.x4 ∗ owns (c : Thread nD τ) R.a6 fullShare e.x6 ∗ owns (c : Thread nD τ) R.a7 fullShare e.x7 ∗ owns (c : Thread nD τ) R.a8 fullShare e.x8
    ∗ owns (c : Thread nD τ) R.a9 fullShare e.x9 ∗ owns (c : Thread nD τ) R.a13 fullShare dk ∗ owns (c : Thread nD τ) R.a14 fullShare dv)

/-- A whole load of an array's own contents is the contents. -/
theorem whole_load {S : Shape} {et : EltTy} (a : Memref sig .tc .vmem S et) (ha : a.IsWhole) (x : Vec F S et)
    {off : Fin S.rank → ℕ} (h0 : off = fun _ => 0) (inb : ∀ k, off k + S.size k ≤ S.size k) :
    View.readAt (Elt F) a.view (Rect.unit off S.size inb).toLoadRect (ha.unread x) = x := by
  rw [View.readAt_eq_ld, ha.read_unread, View.ld_unit_zero h0]

/-- The load of a place's three blocks. -/
theorem read_tile (a : Memref sig .tc .vmem S16384x128 .f32) (ha : a.IsWhole) (x : Vec F S16384x128 .f32) (j : BitVec 32) (h : InB j) (off : Fin 2 → ℕ)
    (ho : off = Cert.SbfKernelIdeal.k0_off1 j) (inb) :
    View.readAt (Elt F) a.view (Rect.unit (s := S16384x128) off S384x128.size inb).toLoadRect (ha.unread x) = Sbf.tile x j := by
  subst ho; rw [View.readAt_eq_ld, ha.read_unread]; exact (Sbf.tile_of x j h).symm

set_option maxHeartbeats 16000000 in
/-- One trip of the loop of sums. -/
theorem sum_trip (c : Dev nD) (R : Refs) (e : Env F) (s : Sums F) (bd : Option Variants.nat.V)
    (i1 : InB s.s1.c.jt) (i2 : InB s.s2.c.jt) (i3 : InB s.s3.c.jt) (i4 : InB s.s4.c.jt)
    (hc : Sbf.goOn s.four) (E : Set ℕ) (K : _ → sProp 𝕄) :
    iprop(held c R e ∗ (∀ a : Cc0While1 F, ⌜a = sumRec R e (sumStep e s)⌝ -∗ held c R e
        -∗ wp frame (wpE (defs₀ (F := F)) Variants.nat (c : Thread nD τ) bd) E (Prog.op (TpuEff.call (Λ := Λ₀ F) 1 a) Prog.ret) K))
    ⊢ wp frame (wpE (defs₀ (F := F)) Variants.nat (c : Thread nD τ) bd) E (sumLoop R e s) K := by
  unfold sumLoop
  simp only [cc0_while1_eq_skeleton]; unfold cc0_while1_skel
  simp only [k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
  obtain ⟨a3, h3, a4, h4, a6, h6, a7, h7, a8, h8, a9, h9, a13, h13, a14, h14⟩ := R
  obtain ⟨i, v2, v5, q1, q2, q3, q4, d1, d2, d3, d4, x3, x4, x6, x7, x8, x9⟩ := e
  obtain ⟨⟨⟨j1, m1, o1, p1, r1⟩, t1, u1⟩, ⟨⟨j2, m2, o2, p2, r2⟩, t2, u2⟩, ⟨⟨j3, m3, o3, p3, r3⟩, t3, u3⟩, ⟨⟨j4, m4, o4, p4, r4⟩, t4, u4⟩⟩ := s
  dsimp only at i1 i2 i3 i4
  have g1 : k0_chk1 j1 := i1
  have g2 : k0_chk2 j2 := i2
  have g3 : k0_chk3 j3 := i3
  have g4 : k0_chk4 j4 := i4
  unfold Sbf.goOn at hc
  dsimp only at hc
  unfold held sumStep
  dsimp only
  unfold owns
  iintro ⟨⟨⟨%f3, %hf3, H3⟩, ⟨%f4, %hf4, H4⟩, ⟨%f6, %hf6, H6⟩, ⟨%f7, %hf7, H7⟩, ⟨%f8, %hf8, H8⟩⟩, Hk⟩
  obtain rfl := h3.eq_unread hf3; obtain rfl := h4.eq_unread hf4; obtain rfl := h6.eq_unread hf6; obtain rfl := h7.eq_unread hf7; obtain rfl := h8.eq_unread hf8
  sl_exec (disch := first | sl_exact hc | sl_exact g1 | sl_exact g2 | sl_exact g3 | sl_exact g4)
  iapply Hk
  · ipureintro
    calc _ = sumRec ⟨a3, h3, a4, h4, a6, h6, a7, h7, a8, h8, a9, h9, a13, h13, a14, h14⟩ ⟨i, v2, v5, q1, q2, q3, q4, d1, d2, d3, d4, x3, x4, x6, x7, x8, x9⟩ ⟨
        sumOne v2 v5 (View.readAt (Elt F) a6.view (Rect.unit ![0, 0] S384x256.size inb_S384x256_S384x256_0_0).toLoadRect (h6.unread x6)) (View.readAt (Elt F) a7.view (Rect.unit ![0, 0] S384x256.size inb_S384x256_S384x256_0_0).toLoadRect (h7.unread x7)) (View.readAt (Elt F) a8.view (Rect.unit ![0, 0] S256x256.size inb_S256x256_S256x256_0_0).toLoadRect (h8.unread x8)) q1 d1 (Sbf.blk i 0#32)
          (View.readAt (Elt F) a3.view (Rect.unit (s := S16384x128) (k0_off2 j1) S384x128.size (k0_off2_inb j1 g1)).toLoadRect (h3.unread x3))
          (View.readAt (Elt F) a4.view (Rect.unit (s := S16384x128) (k0_off2 j1) S384x128.size (k0_off2_inb j1 g1)).toLoadRect (h4.unread x4)) ⟨⟨j1, m1, o1, p1, r1⟩, t1, u1⟩,
        sumOne v2 v5 (View.readAt (Elt F) a6.view (Rect.unit ![0, 0] S384x256.size inb_S384x256_S384x256_0_0).toLoadRect (h6.unread x6)) (View.readAt (Elt F) a7.view (Rect.unit ![0, 0] S384x256.size inb_S384x256_S384x256_0_0).toLoadRect (h7.unread x7)) (View.readAt (Elt F) a8.view (Rect.unit ![0, 0] S256x256.size inb_S256x256_S256x256_0_0).toLoadRect (h8.unread x8)) q2 d2 (Sbf.blk i 1#32)
          (View.readAt (Elt F) a3.view (Rect.unit (s := S16384x128) (k0_off3 j2) S384x128.size (k0_off3_inb j2 g2)).toLoadRect (h3.unread x3))
          (View.readAt (Elt F) a4.view (Rect.unit (s := S16384x128) (k0_off3 j2) S384x128.size (k0_off3_inb j2 g2)).toLoadRect (h4.unread x4)) ⟨⟨j2, m2, o2, p2, r2⟩, t2, u2⟩,
        sumOne v2 v5 (View.readAt (Elt F) a6.view (Rect.unit ![0, 0] S384x256.size inb_S384x256_S384x256_0_0).toLoadRect (h6.unread x6)) (View.readAt (Elt F) a7.view (Rect.unit ![0, 0] S384x256.size inb_S384x256_S384x256_0_0).toLoadRect (h7.unread x7)) (View.readAt (Elt F) a8.view (Rect.unit ![0, 0] S256x256.size inb_S256x256_S256x256_0_0).toLoadRect (h8.unread x8)) q3 d3 (Sbf.blk i 2#32)
          (View.readAt (Elt F) a3.view (Rect.unit (s := S16384x128) (k0_off4 j3) S384x128.size (k0_off4_inb j3 g3)).toLoadRect (h3.unread x3))
          (View.readAt (Elt F) a4.view (Rect.unit (s := S16384x128) (k0_off4 j3) S384x128.size (k0_off4_inb j3 g3)).toLoadRect (h4.unread x4)) ⟨⟨j3, m3, o3, p3, r3⟩, t3, u3⟩,
        sumOne v2 v5 (View.readAt (Elt F) a6.view (Rect.unit ![0, 0] S384x256.size inb_S384x256_S384x256_0_0).toLoadRect (h6.unread x6)) (View.readAt (Elt F) a7.view (Rect.unit ![0, 0] S384x256.size inb_S384x256_S384x256_0_0).toLoadRect (h7.unread x7)) (View.readAt (Elt F) a8.view (Rect.unit ![0, 0] S256x256.size inb_S256x256_S256x256_0_0).toLoadRect (h8.unread x8)) q4 d4 (Sbf.blk i 3#32)
          (View.readAt (Elt F) a3.view (Rect.unit (s := S16384x128) (k0_off5 j4) S384x128.size (k0_off5_inb j4 g4)).toLoadRect (h3.unread x3))
          (View.readAt (Elt F) a4.view (Rect.unit (s := S16384x128) (k0_off5 j4) S384x128.size (k0_off5_inb j4 g4)).toLoadRect (h4.unread x4)) ⟨⟨j4, m4, o4, p4, r4⟩, t4, u4⟩⟩ := by sl_kernel_rfl
      _ = _ := by
        rw [whole_load a6 h6 x6 (by decide) _, whole_load a7 h7 x7 (by decide) _, whole_load a8 h8 x8 (by decide) _]
        rw [read_tile a3 h3 x3 j1 i1 (k0_off2 j1) rfl, read_tile a4 h4 x4 j1 i1 (k0_off2 j1) rfl, read_tile a3 h3 x3 j2 i2 (k0_off3 j2) rfl, read_tile a4 h4 x4 j2 i2 (k0_off3 j2) rfl, read_tile a3 h3 x3 j3 i3 (k0_off4 j3) rfl, read_tile a4 h4 x4 j3 i3 (k0_off4 j3) rfl, read_tile a3 h3 x3 j4 i4 (k0_off5 j4) rfl, read_tile a4 h4 x4 j4 i4 (k0_off5 j4) rfl]
  isplitl [H3]; · (iexists _; isplitr; · (ipureintro; exact hf3)); iexact H3
  isplitl [H4]; · (iexists _; isplitr; · (ipureintro; exact hf4)); iexact H4
  isplitl [H6]; · (iexists _; isplitr; · (ipureintro; exact hf6)); iexact H6
  isplitl [H7]; · (iexists _; isplitr; · (ipureintro; exact hf7)); iexact H7
  iexists _; isplitr; · (ipureintro; exact hf8)
  iexact H8

end Cert.Proof.Sb

end
-- ==== Proof.SbGrad.lean ====
module

public import proofs.«01_k».proof.Proof.Gen.SbKernelIdeal.Launch
public import proofs.«01_k».proof.Proof.Gen.SbKernelIdeal.Skeleton
public import proofs.«01_k».proof.Proof.Gen.SbKernelIdeal.Points
public import proofs.«01_k».proof.Proof.SbSum
public import Idealize.ShloMosaic.Lib.Pipeline.FrameValue
public import Idealize.ShloMosaic.Lib.VecWindow

@[expose] public section

set_option maxRecDepth 16384

noncomputable section

namespace Cert.Proof.Sb

open Cert.SbKernelIdeal Cert.SbKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- The piece of one block's rows, over earlier pieces. -/
def piece (a : Memref sig .tc .vmem S16384x128 .f32) (f : a.view.ty.Contents (Elt F)) (off : Fin 2 → ℕ) (inb : ∀ k, off k + S384x128.size k ≤ S16384x128.size k)
    (g : Vec F S384x128 .f32 → Vec F S384x128 .f32) (L : List (View.Piece (Elt F) S16384x128 .f32)) : View.Piece (Elt F) S16384x128 .f32 :=
  ⟨Rect.unit (s := S16384x128) off S384x128.size inb, g (View.readAt (Elt F) a.view (Rect.unit (s := S16384x128) off S384x128.size inb).toLoadRect (a.view.writes (Elt F) f L))⟩

theorem read_piece (a : Memref sig .tc .vmem S16384x128 .f32) (f : a.view.ty.Contents (Elt F)) (X : Vec F S16384x128 .f32) (j : BitVec 32) (h : InB j) (off : Fin 2 → ℕ)
    (ho : off = Cert.SbfKernelIdeal.k0_off1 j) (inb) (g : Vec F S384x128 .f32 → Vec F S384x128 .f32) (L : List (View.Piece (Elt F) S16384x128 .f32))
    (hX : a.view.read (Elt F) (a.view.writes (Elt F) f L) = X) :
    a.view.read (Elt F) (a.view.writes (Elt F) f (piece a f off inb g L :: L)) = upd X j g := by
  subst ho
  unfold piece upd
  rw [View.read_writes_cons_put a.view f inb _ L rfl, hX, View.readAt_eq_ld, hX]
  exact congrArg (fun y => VecWindow.put X _ _ (g y)) (Sbf.tile_of X j h).symm

/-- The four blocks' pieces, the last first. -/
def four (a : Memref sig .tc .vmem S16384x128 .f32) (f : a.view.ty.Contents (Elt F)) (o1 o2 o3 o4 : Fin 2 → ℕ) (b1 : ∀ k, o1 k + S384x128.size k ≤ S16384x128.size k)
    (b2 : ∀ k, o2 k + S384x128.size k ≤ S16384x128.size k) (b3 : ∀ k, o3 k + S384x128.size k ≤ S16384x128.size k) (b4 : ∀ k, o4 k + S384x128.size k ≤ S16384x128.size k)
    (g1 g2 g3 g4 : Vec F S384x128 .f32 → Vec F S384x128 .f32) : List (View.Piece (Elt F) S16384x128 .f32) :=
  have L1 := [piece a f o1 b1 g1 []]
  have L2 := piece a f o2 b2 g2 L1 :: L1
  have L3 := piece a f o3 b3 g3 L2 :: L2
  piece a f o4 b4 g4 L3 :: L3

theorem read_four (a : Memref sig .tc .vmem S16384x128 .f32) (ha : a.IsWhole) (X : Vec F S16384x128 .f32) {j1 j2 j3 j4 : BitVec 32} (h1 : InB j1) (h2 : InB j2) (h3 : InB j3) (h4 : InB j4)
    (o1 o2 o3 o4 : Fin 2 → ℕ) (e1 : o1 = Cert.SbfKernelIdeal.k0_off1 j1) (e2 : o2 = Cert.SbfKernelIdeal.k0_off1 j2) (e3 : o3 = Cert.SbfKernelIdeal.k0_off1 j3) (e4 : o4 = Cert.SbfKernelIdeal.k0_off1 j4)
    (b1 b2 b3 b4) (g1 g2 g3 g4 : Vec F S384x128 .f32 → Vec F S384x128 .f32) :
    a.view.read (Elt F) (a.view.writes (Elt F) (ha.unread X) (four a (ha.unread X) o1 o2 o3 o4 b1 b2 b3 b4 g1 g2 g3 g4)) = upd (upd (upd (upd X j1 g1) j2 g2) j3 g3) j4 g4 :=
  read_piece a _ _ j4 h4 o4 e4 b4 g4 _ (read_piece a _ _ j3 h3 o3 e3 b3 g3 _ (read_piece a _ _ j2 h2 o2 e2 b2 g2 _ (read_piece a _ _ j1 h1 o1 e1 b1 g1 [] (ha.read_unread X))))

set_option maxHeartbeats 16000000 in
/-- One trip of the loop of gradients. -/
theorem grad_trip (c : Dev nD) (R : Refs) (e : Env F) (p : Tots F) (s : Grads F) (bd : Option Variants.nat.V)
    (i1 : InB s.s1.c.jt) (i2 : InB s.s2.c.jt) (i3 : InB s.s3.c.jt) (i4 : InB s.s4.c.jt)
    (hc : Sbf.goOn s.four) (E : Set ℕ) (K : _ → sProp 𝕄) :
    iprop(heldG c R e s.dk s.dv ∗ (∀ a : Cc0While2 F, ⌜a = gradRec R e p (gradStep e p s)⌝ -∗ heldG c R e (gradStep e p s).dk (gradStep e p s).dv
        -∗ wp frame (wpE (defs₀ (F := F)) Variants.nat (c : Thread nD τ) bd) E (Prog.op (TpuEff.call (Λ := Λ₀ F) 2 a) Prog.ret) K))
    ⊢ wp frame (wpE (defs₀ (F := F)) Variants.nat (c : Thread nD τ) bd) E (gradLoop R e p s) K := by
  unfold gradLoop
  simp only [cc0_while2_eq_skeleton]; unfold cc0_while2_skel
  simp only [k0_part69_eq_skeleton]; unfold k0_part69_skel
  simp only [k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
  obtain ⟨a3, h3, a4, h4, a6, h6, a7, h7, a8, h8, a9, h9, a13, h13, a14, h14⟩ := R
  obtain ⟨i, v2, v5, q1, q2, q3, q4, d1, d2, d3, d4, x3, x4, x6, x7, x8, x9⟩ := e
  obtain ⟨w1, z1, w2, z2, w3, z3, w4, z4⟩ := p
  obtain ⟨⟨⟨j1, m1, o1, p1, r1⟩, y1, t1, u1⟩, ⟨⟨j2, m2, o2, p2, r2⟩, y2, t2, u2⟩, ⟨⟨j3, m3, o3, p3, r3⟩, y3, t3, u3⟩, ⟨⟨j4, m4, o4, p4, r4⟩, y4, t4, u4⟩, dk, dv⟩ := s
  dsimp only at i1 i2 i3 i4
  have g1 : k0_chk5 j1 := i1
  have g2 : k0_chk6 j2 := i2
  have g3 : k0_chk7 j3 := i3
  have g4 : k0_chk8 j4 := i4
  unfold Sbf.goOn at hc
  dsimp only at hc
  unfold heldG gradStep
  dsimp only
  unfold owns
  iintro ⟨⟨⟨%f3, %hf3, H3⟩, ⟨%f4, %hf4, H4⟩, ⟨%f6, %hf6, H6⟩, ⟨%f7, %hf7, H7⟩, ⟨%f8, %hf8, H8⟩, ⟨%f9, %hf9, H9⟩, ⟨%f13, %hf13, H13⟩, ⟨%f14, %hf14, H14⟩⟩, Hk⟩
  obtain rfl := h3.eq_unread hf3; obtain rfl := h4.eq_unread hf4; obtain rfl := h6.eq_unread hf6; obtain rfl := h7.eq_unread hf7; obtain rfl := h8.eq_unread hf8
  obtain rfl := h9.eq_unread hf9; obtain rfl := h13.eq_unread hf13; obtain rfl := h14.eq_unread hf14
  sl_exec (disch := first | sl_exact hc | sl_exact g1 | sl_exact g2 | sl_exact g3 | sl_exact g4)
  iapply Hk
  · ipureintro
    calc _ = gradRec ⟨a3, h3, a4, h4, a6, h6, a7, h7, a8, h8, a9, h9, a13, h13, a14, h14⟩ ⟨i, v2, v5, q1, q2, q3, q4, d1, d2, d3, d4, x3, x4, x6, x7, x8, x9⟩ ⟨w1, z1, w2, z2, w3, z3, w4, z4⟩ ⟨
        gradOne v2 v5 (View.readAt (Elt F) a6.view (Rect.unit ![0, 0] S384x256.size inb_S384x256_S384x256_0_0).toLoadRect (h6.unread x6)) (View.readAt (Elt F) a7.view (Rect.unit ![0, 0] S384x256.size inb_S384x256_S384x256_0_0).toLoadRect (h7.unread x7)) (View.readAt (Elt F) a8.view (Rect.unit ![0, 0] S256x256.size inb_S256x256_S256x256_0_0).toLoadRect (h8.unread x8)) (View.readAt (Elt F) a9.view (Rect.unit ![0, 0] S256x256.size inb_S256x256_S256x256_0_0).toLoadRect (h9.unread x9)) q1 d1 (Sbf.blk i 0#32)
          (View.readAt (Elt F) a3.view (Rect.unit (s := S16384x128) (k0_off6 j1) S384x128.size (k0_off6_inb j1 g1)).toLoadRect (h3.unread x3))
          (View.readAt (Elt F) a4.view (Rect.unit (s := S16384x128) (k0_off6 j1) S384x128.size (k0_off6_inb j1 g1)).toLoadRect (h4.unread x4)) w1 z1 ⟨⟨j1, m1, o1, p1, r1⟩, y1, t1, u1⟩,
        gradOne v2 v5 (View.readAt (Elt F) a6.view (Rect.unit ![0, 0] S384x256.size inb_S384x256_S384x256_0_0).toLoadRect (h6.unread x6)) (View.readAt (Elt F) a7.view (Rect.unit ![0, 0] S384x256.size inb_S384x256_S384x256_0_0).toLoadRect (h7.unread x7)) (View.readAt (Elt F) a8.view (Rect.unit ![0, 0] S256x256.size inb_S256x256_S256x256_0_0).toLoadRect (h8.unread x8)) (View.readAt (Elt F) a9.view (Rect.unit ![0, 0] S256x256.size inb_S256x256_S256x256_0_0).toLoadRect (h9.unread x9)) q2 d2 (Sbf.blk i 1#32)
          (View.readAt (Elt F) a3.view (Rect.unit (s := S16384x128) (k0_off7 j2) S384x128.size (k0_off7_inb j2 g2)).toLoadRect (h3.unread x3))
          (View.readAt (Elt F) a4.view (Rect.unit (s := S16384x128) (k0_off7 j2) S384x128.size (k0_off7_inb j2 g2)).toLoadRect (h4.unread x4)) w2 z2 ⟨⟨j2, m2, o2, p2, r2⟩, y2, t2, u2⟩,
        gradOne v2 v5 (View.readAt (Elt F) a6.view (Rect.unit ![0, 0] S384x256.size inb_S384x256_S384x256_0_0).toLoadRect (h6.unread x6)) (View.readAt (Elt F) a7.view (Rect.unit ![0, 0] S384x256.size inb_S384x256_S384x256_0_0).toLoadRect (h7.unread x7)) (View.readAt (Elt F) a8.view (Rect.unit ![0, 0] S256x256.size inb_S256x256_S256x256_0_0).toLoadRect (h8.unread x8)) (View.readAt (Elt F) a9.view (Rect.unit ![0, 0] S256x256.size inb_S256x256_S256x256_0_0).toLoadRect (h9.unread x9)) q3 d3 (Sbf.blk i 2#32)
          (View.readAt (Elt F) a3.view (Rect.unit (s := S16384x128) (k0_off8 j3) S384x128.size (k0_off8_inb j3 g3)).toLoadRect (h3.unread x3))
          (View.readAt (Elt F) a4.view (Rect.unit (s := S16384x128) (k0_off8 j3) S384x128.size (k0_off8_inb j3 g3)).toLoadRect (h4.unread x4)) w3 z3 ⟨⟨j3, m3, o3, p3, r3⟩, y3, t3, u3⟩,
        gradOne v2 v5 (View.readAt (Elt F) a6.view (Rect.unit ![0, 0] S384x256.size inb_S384x256_S384x256_0_0).toLoadRect (h6.unread x6)) (View.readAt (Elt F) a7.view (Rect.unit ![0, 0] S384x256.size inb_S384x256_S384x256_0_0).toLoadRect (h7.unread x7)) (View.readAt (Elt F) a8.view (Rect.unit ![0, 0] S256x256.size inb_S256x256_S256x256_0_0).toLoadRect (h8.unread x8)) (View.readAt (Elt F) a9.view (Rect.unit ![0, 0] S256x256.size inb_S256x256_S256x256_0_0).toLoadRect (h9.unread x9)) q4 d4 (Sbf.blk i 3#32)
          (View.readAt (Elt F) a3.view (Rect.unit (s := S16384x128) (k0_off9 j4) S384x128.size (k0_off9_inb j4 g4)).toLoadRect (h3.unread x3))
          (View.readAt (Elt F) a4.view (Rect.unit (s := S16384x128) (k0_off9 j4) S384x128.size (k0_off9_inb j4 g4)).toLoadRect (h4.unread x4)) w4 z4 ⟨⟨j4, m4, o4, p4, r4⟩, y4, t4, u4⟩, dk, dv⟩ := by sl_kernel_rfl
      _ = _ := by
        rw [whole_load a6 h6 x6 (by decide) _, whole_load a7 h7 x7 (by decide) _, whole_load a8 h8 x8 (by decide) _, whole_load a9 h9 x9 (by decide) _]
        rw [read_tile a3 h3 x3 j1 i1 (k0_off6 j1) rfl, read_tile a4 h4 x4 j1 i1 (k0_off6 j1) rfl, read_tile a3 h3 x3 j2 i2 (k0_off7 j2) rfl, read_tile a4 h4 x4 j2 i2 (k0_off7 j2) rfl, read_tile a3 h3 x3 j3 i3 (k0_off8 j3) rfl, read_tile a4 h4 x4 j3 i3 (k0_off8 j3) rfl, read_tile a3 h3 x3 j4 i4 (k0_off9 j4) rfl, read_tile a4 h4 x4 j4 i4 (k0_off9 j4) rfl]
        rfl
  isplitl [H3]; · (iexists _; isplitr; · (ipureintro; exact hf3)); iexact H3
  isplitl [H4]; · (iexists _; isplitr; · (ipureintro; exact hf4)); iexact H4
  isplitl [H6]; · (iexists _; isplitr; · (ipureintro; exact hf6)); iexact H6
  isplitl [H7]; · (iexists _; isplitr; · (ipureintro; exact hf7)); iexact H7
  isplitl [H8]; · (iexists _; isplitr; · (ipureintro; exact hf8)); iexact H8
  isplitl [H9]; · (iexists _; isplitr; · (ipureintro; exact hf9)); iexact H9
  isplitl [H13]
  · iexists _; isplitr; swap; · iexact H13
    ipureintro
    refine Eq.trans (b := View.read (Elt F) a13.view (a13.view.writes (Elt F) (h13.unread dk) (four a13 (h13.unread dk) (k0_off6 j1) (k0_off7 j2) (k0_off8 j3) (k0_off9 j4) (k0_off6_inb j1 g1) (k0_off7_inb j2 g2) (k0_off8_inb j3 g3) (k0_off9_inb j4 g4)
      (addK v2 v5 (View.readAt (Elt F) a6.view (Rect.unit ![0, 0] S384x256.size inb_S384x256_S384x256_0_0).toLoadRect (h6.unread x6)) (View.readAt (Elt F) a7.view (Rect.unit ![0, 0] S384x256.size inb_S384x256_S384x256_0_0).toLoadRect (h7.unread x7)) (View.readAt (Elt F) a8.view (Rect.unit ![0, 0] S256x256.size inb_S256x256_S256x256_0_0).toLoadRect (h8.unread x8)) (View.readAt (Elt F) a9.view (Rect.unit ![0, 0] S256x256.size inb_S256x256_S256x256_0_0).toLoadRect (h9.unread x9)) q1 d1 (Sbf.blk i 0#32)
          (View.readAt (Elt F) a3.view (Rect.unit (s := S16384x128) (k0_off6 j1) S384x128.size (k0_off6_inb j1 g1)).toLoadRect (h3.unread x3))
          (View.readAt (Elt F) a4.view (Rect.unit (s := S16384x128) (k0_off6 j1) S384x128.size (k0_off6_inb j1 g1)).toLoadRect (h4.unread x4)) w1 z1 ⟨j1, m1, o1, p1, r1⟩ t1 u1) (addK v2 v5 (View.readAt (Elt F) a6.view (Rect.unit ![0, 0] S384x256.size inb_S384x256_S384x256_0_0).toLoadRect (h6.unread x6)) (View.readAt (Elt F) a7.view (Rect.unit ![0, 0] S384x256.size inb_S384x256_S384x256_0_0).toLoadRect (h7.unread x7)) (View.readAt (Elt F) a8.view (Rect.unit ![0, 0] S256x256.size inb_S256x256_S256x256_0_0).toLoadRect (h8.unread x8)) (View.readAt (Elt F) a9.view (Rect.unit ![0, 0] S256x256.size inb_S256x256_S256x256_0_0).toLoadRect (h9.unread x9)) q2 d2 (Sbf.blk i 1#32)
          (View.readAt (Elt F) a3.view (Rect.unit (s := S16384x128) (k0_off7 j2) S384x128.size (k0_off7_inb j2 g2)).toLoadRect (h3.unread x3))
          (View.readAt (Elt F) a4.view (Rect.unit (s := S16384x128) (k0_off7 j2) S384x128.size (k0_off7_inb j2 g2)).toLoadRect (h4.unread x4)) w2 z2 ⟨j2, m2, o2, p2, r2⟩ t2 u2) (addK v2 v5 (View.readAt (Elt F) a6.view (Rect.unit ![0, 0] S384x256.size inb_S384x256_S384x256_0_0).toLoadRect (h6.unread x6)) (View.readAt (Elt F) a7.view (Rect.unit ![0, 0] S384x256.size inb_S384x256_S384x256_0_0).toLoadRect (h7.unread x7)) (View.readAt (Elt F) a8.view (Rect.unit ![0, 0] S256x256.size inb_S256x256_S256x256_0_0).toLoadRect (h8.unread x8)) (View.readAt (Elt F) a9.view (Rect.unit ![0, 0] S256x256.size inb_S256x256_S256x256_0_0).toLoadRect (h9.unread x9)) q3 d3 (Sbf.blk i 2#32)
          (View.readAt (Elt F) a3.view (Rect.unit (s := S16384x128) (k0_off8 j3) S384x128.size (k0_off8_inb j3 g3)).toLoadRect (h3.unread x3))
          (View.readAt (Elt F) a4.view (Rect.unit (s := S16384x128) (k0_off8 j3) S384x128.size (k0_off8_inb j3 g3)).toLoadRect (h4.unread x4)) w3 z3 ⟨j3, m3, o3, p3, r3⟩ t3 u3) (addK v2 v5 (View.readAt (Elt F) a6.view (Rect.unit ![0, 0] S384x256.size inb_S384x256_S384x256_0_0).toLoadRect (h6.unread x6)) (View.readAt (Elt F) a7.view (Rect.unit ![0, 0] S384x256.size inb_S384x256_S384x256_0_0).toLoadRect (h7.unread x7)) (View.readAt (Elt F) a8.view (Rect.unit ![0, 0] S256x256.size inb_S256x256_S256x256_0_0).toLoadRect (h8.unread x8)) (View.readAt (Elt F) a9.view (Rect.unit ![0, 0] S256x256.size inb_S256x256_S256x256_0_0).toLoadRect (h9.unread x9)) q4 d4 (Sbf.blk i 3#32)
          (View.readAt (Elt F) a3.view (Rect.unit (s := S16384x128) (k0_off9 j4) S384x128.size (k0_off9_inb j4 g4)).toLoadRect (h3.unread x3))
          (View.readAt (Elt F) a4.view (Rect.unit (s := S16384x128) (k0_off9 j4) S384x128.size (k0_off9_inb j4 g4)).toLoadRect (h4.unread x4)) w4 z4 ⟨j4, m4, o4, p4, r4⟩ t4 u4)))) (by sl_kernel_rfl) ((read_four a13 h13 dk i1 i2 i3 i4 _ _ _ _ rfl rfl rfl rfl _ _ _ _ _ _ _ _).trans ?_)
    rw [whole_load a6 h6 x6 (by decide) _, whole_load a7 h7 x7 (by decide) _, whole_load a8 h8 x8 (by decide) _, whole_load a9 h9 x9 (by decide) _]
    rw [read_tile a3 h3 x3 j1 i1 (k0_off6 j1) rfl, read_tile a4 h4 x4 j1 i1 (k0_off6 j1) rfl, read_tile a3 h3 x3 j2 i2 (k0_off7 j2) rfl, read_tile a4 h4 x4 j2 i2 (k0_off7 j2) rfl, read_tile a3 h3 x3 j3 i3 (k0_off8 j3) rfl, read_tile a4 h4 x4 j3 i3 (k0_off8 j3) rfl, read_tile a3 h3 x3 j4 i4 (k0_off9 j4) rfl, read_tile a4 h4 x4 j4 i4 (k0_off9 j4) rfl]
  · iexists _; isplitr; swap; · iexact H14
    ipureintro
    refine Eq.trans (b := View.read (Elt F) a14.view (a14.view.writes (Elt F) (h14.unread dv) (four a14 (h14.unread dv) (k0_off6 j1) (k0_off7 j2) (k0_off8 j3) (k0_off9 j4) (k0_off6_inb j1 g1) (k0_off7_inb j2 g2) (k0_off8_inb j3 g3) (k0_off9_inb j4 g4)
      (addV v2 v5 (View.readAt (Elt F) a6.view (Rect.unit ![0, 0] S384x256.size inb_S384x256_S384x256_0_0).toLoadRect (h6.unread x6)) (View.readAt (Elt F) a7.view (Rect.unit ![0, 0] S384x256.size inb_S384x256_S384x256_0_0).toLoadRect (h7.unread x7)) (View.readAt (Elt F) a8.view (Rect.unit ![0, 0] S256x256.size inb_S256x256_S256x256_0_0).toLoadRect (h8.unread x8)) q1 d1 (Sbf.blk i 0#32)
          (View.readAt (Elt F) a3.view (Rect.unit (s := S16384x128) (k0_off6 j1) S384x128.size (k0_off6_inb j1 g1)).toLoadRect (h3.unread x3))
          ⟨j1, m1, o1, p1, r1⟩) (addV v2 v5 (View.readAt (Elt F) a6.view (Rect.unit ![0, 0] S384x256.size inb_S384x256_S384x256_0_0).toLoadRect (h6.unread x6)) (View.readAt (Elt F) a7.view (Rect.unit ![0, 0] S384x256.size inb_S384x256_S384x256_0_0).toLoadRect (h7.unread x7)) (View.readAt (Elt F) a8.view (Rect.unit ![0, 0] S256x256.size inb_S256x256_S256x256_0_0).toLoadRect (h8.unread x8)) q2 d2 (Sbf.blk i 1#32)
          (View.readAt (Elt F) a3.view (Rect.unit (s := S16384x128) (k0_off7 j2) S384x128.size (k0_off7_inb j2 g2)).toLoadRect (h3.unread x3))
          ⟨j2, m2, o2, p2, r2⟩) (addV v2 v5 (View.readAt (Elt F) a6.view (Rect.unit ![0, 0] S384x256.size inb_S384x256_S384x256_0_0).toLoadRect (h6.unread x6)) (View.readAt (Elt F) a7.view (Rect.unit ![0, 0] S384x256.size inb_S384x256_S384x256_0_0).toLoadRect (h7.unread x7)) (View.readAt (Elt F) a8.view (Rect.unit ![0, 0] S256x256.size inb_S256x256_S256x256_0_0).toLoadRect (h8.unread x8)) q3 d3 (Sbf.blk i 2#32)
          (View.readAt (Elt F) a3.view (Rect.unit (s := S16384x128) (k0_off8 j3) S384x128.size (k0_off8_inb j3 g3)).toLoadRect (h3.unread x3))
          ⟨j3, m3, o3, p3, r3⟩) (addV v2 v5 (View.readAt (Elt F) a6.view (Rect.unit ![0, 0] S384x256.size inb_S384x256_S384x256_0_0).toLoadRect (h6.unread x6)) (View.readAt (Elt F) a7.view (Rect.unit ![0, 0] S384x256.size inb_S384x256_S384x256_0_0).toLoadRect (h7.unread x7)) (View.readAt (Elt F) a8.view (Rect.unit ![0, 0] S256x256.size inb_S256x256_S256x256_0_0).toLoadRect (h8.unread x8)) q4 d4 (Sbf.blk i 3#32)
          (View.readAt (Elt F) a3.view (Rect.unit (s := S16384x128) (k0_off9 j4) S384x128.size (k0_off9_inb j4 g4)).toLoadRect (h3.unread x3))
          ⟨j4, m4, o4, p4, r4⟩)))) (by sl_kernel_rfl) ((read_four a14 h14 dv i1 i2 i3 i4 _ _ _ _ rfl rfl rfl rfl _ _ _ _ _ _ _ _).trans ?_)
    rw [whole_load a6 h6 x6 (by decide) _, whole_load a7 h7 x7 (by decide) _, whole_load a8 h8 x8 (by decide) _]
    rw [read_tile a3 h3 x3 j1 i1 (k0_off6 j1) rfl, read_tile a3 h3 x3 j2 i2 (k0_off7 j2) rfl, read_tile a3 h3 x3 j3 i3 (k0_off8 j3) rfl, read_tile a3 h3 x3 j4 i4 (k0_off9 j4) rfl]

end Cert.Proof.Sb

end
-- ==== Proof.SbLoop.lean ====
module

public import proofs.«01_k».proof.Proof.Gen.SbKernelIdeal.Launch
public import proofs.«01_k».proof.Proof.Gen.SbKernelIdeal.Skeleton
public import proofs.«01_k».proof.Proof.Gen.SbKernelIdeal.Points
public import proofs.«01_k».proof.Proof.SbGrad
public import Idealize.ShloMosaic.Lib.Pipeline.FrameValue
public import Idealize.ShloMosaic.Lib.VecWindow
public import proofs.«01_k».proof.Proof.SbfLoop

@[expose] public section

set_option maxRecDepth 16384

noncomputable section

namespace Cert.Proof.Sb

open Cert.SbKernelIdeal Cert.SbKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- Where some place in range is not negative a trip's loads are in bounds, and one trip fewer is left. -/
theorem inb_of (k : ℕ) (s : Sbf.Four F) (hf : Sbf.Fits (k + 1) s) (hg : Sbf.goOn s) : InB s.s1.jt ∧ InB s.s2.jt ∧ InB s.s3.jt ∧ InB s.s4.jt := by
  obtain ⟨n, h0, h1, h2, e1, e2, e3, e4⟩ := hf
  rw [e1, e2, e3, e4]
  exact ⟨Sbf.chk_of _ (by omega) (by omega), Sbf.chk_of _ (by omega) (by omega), Sbf.chk_of _ (by omega) (by omega), Sbf.chk_of _ (by omega) (by omega)⟩

theorem not_goOn (s : Sbf.Four F) (hf : Sbf.Fits 0 s) : ¬ Sbf.goOn s := fun hg => by
  obtain ⟨n, h0, h1, h2, e1, e2, e3, e4⟩ := hf
  have := Sbf.nonneg_of_goOn s n h0 h1 e1 e2 e3 e4 hg
  push_cast at h2; omega

/-- What the loop of sums does: it reads its arrays and returns `k` trips' carries. -/
def sumSpec (c : Dev nD) (R : Refs) (e : Env F) (k : ℕ) (s : Sums F) : sWPT 𝕄 ((Λ₀ F).Result 1) := do
  sWPT.consume (held c R e)
  sWPT.produce (held c R e)
  pure (sumRun e k s).flat

theorem sumSpec_apply (c : Dev nD) (R : Refs) (e : Env F) (k : ℕ) (s : Sums F) (K : (Λ₀ F).Result 1 → sProp 𝕄) :
    sumSpec c R e k s K = iprop(held c R e ∗ (held c R e -∗ K (sumRun e k s).flat)) := rfl

theorem sum_exit (c : Dev nD) (R : Refs) (e : Env F) (s : Sums F) (bd : Option Variants.nat.V) (E : Set ℕ) (K : (Λ₀ F).Result 1 → sProp 𝕄) (hg : ¬ Sbf.goOn s.four) :
    iprop(held c R e ∗ (held c R e -∗ K s.flat)) ⊢ wp frame (wpE (defs₀ (F := F)) Variants.nat (c : Thread nD τ) bd) E (sumLoop R e s) K := by
  unfold sumLoop cc0_while1
  have hc : ¬ (Scalar.ori (Scalar.ori (Scalar.ori (Scalar.andi (Scalar.cmpi .sge s.s1.c.jt 0#32) (Scalar.cmpf .ogt s.s1.c.mx (Named.named κ "open" 0xC2D00000#32))) (Scalar.andi (Scalar.cmpi .sge s.s2.c.jt 0#32) (Scalar.cmpf .ogt s.s2.c.mx (Named.named κ "open" 0xC2D00000#32)))) (Scalar.andi (Scalar.cmpi .sge s.s3.c.jt 0#32) (Scalar.cmpf .ogt s.s3.c.mx (Named.named κ "open" 0xC2D00000#32)))) (Scalar.andi (Scalar.cmpi .sge s.s4.c.jt 0#32) (Scalar.cmpf .ogt s.s4.c.mx (Named.named κ "open" 0xC2D00000#32))) = 1#1) := hg
  simp only [hc, ↓reduceIte, Prog.pure_eq_ret]
  iintro ⟨Hh, Hk⟩
  rw [wp_ret]
  imodintro
  iapply Hk; iexact Hh

/-- The loop of sums meets its specification wherever `k` trips are enough. -/
theorem sum_le (c : Dev nD) (R : Refs) (e : Env F) (E : Set ℕ) (K : (Λ₀ F).Result 1 → sProp 𝕄) : ∀ (k : ℕ) (s : Sums F), Sbf.Fits k s.four →
    sumSpec c R e k s K ⊢ wp frame (wpE (defs₀ (F := F)) Variants.nat (c : Thread nD τ) (some k)) E (defs₀ (F := F) .tc 1 (sumRec R e s)) K := by
  intro k
  induction k generalizing K with
  | zero =>
    intro s hf
    rw [sumSpec_apply]
    show _ ⊢ wp frame (wpE (defs₀ (F := F)) Variants.nat (c : Thread nD τ) (some 0)) E (sumLoop R e s) K
    exact sum_exit c R e s _ E K (not_goOn _ hf)
  | succ k ih =>
    intro s hf
    rw [sumSpec_apply]
    show _ ⊢ wp frame (wpE (defs₀ (F := F)) Variants.nat (c : Thread nD τ) (some (k + 1))) E (sumLoop R e s) K
    by_cases hg : Sbf.goOn s.four
    · have hr : sumRun e (k + 1) s = sumRun e k (sumStep e s) := if_pos hg
      have hf' : Sbf.Fits k (sumStep e s).four := Sbf.fits_step e.walk k s.four hf hg
      obtain ⟨i1, i2, i3, i4⟩ := inb_of k s.four hf hg
      rw [hr]
      iintro ⟨Hh, Hk⟩
      iapply (sum_trip c R e s (some (k + 1)) i1 i2 i3 i4 hg E K)
      isplitl [Hh]; · iexact Hh
      iintro %a %ha Hh
      subst ha
      iapply (wp_call_spec Variants.nat (c : Thread nD τ) (some (k + 1)) E (sumSpec c R e k (sumStep e s)) k
        (fun u hu => by cases hu; exact Nat.lt_succ_self k) (fun K' => ih K' (sumStep e s) hf'))
      rw [sumSpec_apply]
      isplitl [Hh]; · iexact Hh
      iintro Hh
      rw [wp_ret]
      imodintro
      iapply Hk; iexact Hh
    · have hr : sumRun e (k + 1) s = s := if_neg hg
      rw [hr]
      exact sum_exit c R e s _ E K hg

/-- The call of the loop of sums. -/
theorem sum_call (c : Dev nD) (R : Refs) (e : Env F) (s : Sums F) (hf : Sbf.Fits 43 s.four) (a : Cc0While1 F) (ha : a = sumRec R e s)
    {α : Type} (E : Set ℕ) (k : (Λ₀ F).Result 1 → Prog (TpuEff nD τ sig (Elt F) (Λ₀ F) .tc) α) (K : α → sProp 𝕄) :
    iprop(held c R e ∗ (held c R e -∗ wp frame (wpE (defs₀ (F := F)) Variants.nat (c : Thread nD τ) none) E (k (sumRun e 43 s).flat) K))
    ⊢ wp frame (wpE (defs₀ (F := F)) Variants.nat (c : Thread nD τ) none) E (Prog.op (TpuEff.call (Λ := Λ₀ F) 1 a) k) K := by
  subst ha
  exact (wp_call_spec Variants.nat (c : Thread nD τ) none E (sumSpec c R e 43 s) 43 (fun u hu => nomatch hu) (fun K' => sum_le c R e E K' 43 s hf))

/-- What the loop of gradients does: it reads its arrays, adds to two, and returns `k` trips' carries. -/
def gradSpec (c : Dev nD) (R : Refs) (e : Env F) (p : Tots F) (k : ℕ) (s : Grads F) : sWPT 𝕄 ((Λ₀ F).Result 2) := do
  sWPT.consume (heldG c R e s.dk s.dv)
  sWPT.produce (heldG c R e (gradRun e p k s).dk (gradRun e p k s).dv)
  pure (gradRun e p k s).flat

theorem gradSpec_apply (c : Dev nD) (R : Refs) (e : Env F) (p : Tots F) (k : ℕ) (s : Grads F) (K : (Λ₀ F).Result 2 → sProp 𝕄) :
    gradSpec c R e p k s K = iprop(heldG c R e s.dk s.dv ∗ (heldG c R e (gradRun e p k s).dk (gradRun e p k s).dv -∗ K (gradRun e p k s).flat)) := rfl

theorem grad_exit (c : Dev nD) (R : Refs) (e : Env F) (p : Tots F) (s : Grads F) (bd : Option Variants.nat.V) (E : Set ℕ) (K : (Λ₀ F).Result 2 → sProp 𝕄) (hg : ¬ Sbf.goOn s.four) :
    iprop(heldG c R e s.dk s.dv ∗ (heldG c R e s.dk s.dv -∗ K s.flat)) ⊢ wp frame (wpE (defs₀ (F := F)) Variants.nat (c : Thread nD τ) bd) E (gradLoop R e p s) K := by
  unfold gradLoop cc0_while2
  have hc : ¬ (Scalar.ori (Scalar.ori (Scalar.ori (Scalar.andi (Scalar.cmpi .sge s.s1.c.jt 0#32) (Scalar.cmpf .ogt s.s1.c.mx (Named.named κ "open" 0xC2D00000#32))) (Scalar.andi (Scalar.cmpi .sge s.s2.c.jt 0#32) (Scalar.cmpf .ogt s.s2.c.mx (Named.named κ "open" 0xC2D00000#32)))) (Scalar.andi (Scalar.cmpi .sge s.s3.c.jt 0#32) (Scalar.cmpf .ogt s.s3.c.mx (Named.named κ "open" 0xC2D00000#32)))) (Scalar.andi (Scalar.cmpi .sge s.s4.c.jt 0#32) (Scalar.cmpf .ogt s.s4.c.mx (Named.named κ "open" 0xC2D00000#32))) = 1#1) := hg
  simp only [hc, ↓reduceIte, Prog.pure_eq_ret]
  iintro ⟨Hh, Hk⟩
  rw [wp_ret]
  imodintro
  iapply Hk; iexact Hh

/-- The loop of gradients meets its specification wherever `k` trips are enough. -/
theorem grad_le (c : Dev nD) (R : Refs) (e : Env F) (p : Tots F) (E : Set ℕ) (K : (Λ₀ F).Result 2 → sProp 𝕄) : ∀ (k : ℕ) (s : Grads F), Sbf.Fits k s.four →
    gradSpec c R e p k s K ⊢ wp frame (wpE (defs₀ (F := F)) Variants.nat (c : Thread nD τ) (some k)) E (defs₀ (F := F) .tc 2 (gradRec R e p s)) K := by
  intro k
  induction k generalizing K with
  | zero =>
    intro s hf
    rw [gradSpec_apply]
    show _ ⊢ wp frame (wpE (defs₀ (F := F)) Variants.nat (c : Thread nD τ) (some 0)) E (gradLoop R e p s) K
    exact grad_exit c R e p s _ E K (not_goOn _ hf)
  | succ k ih =>
    intro s hf
    rw [gradSpec_apply]
    show _ ⊢ wp frame (wpE (defs₀ (F := F)) Variants.nat (c : Thread nD τ) (some (k + 1))) E (gradLoop R e p s) K
    by_cases hg : Sbf.goOn s.four
    · have hr : gradRun e p (k + 1) s = gradRun e p k (gradStep e p s) := if_pos hg
      have hf' : Sbf.Fits k (gradStep e p s).four := Sbf.fits_step e.walk k s.four hf hg
      obtain ⟨i1, i2, i3, i4⟩ := inb_of k s.four hf hg
      rw [hr]
      iintro ⟨Hh, Hk⟩
      iapply (grad_trip c R e p s (some (k + 1)) i1 i2 i3 i4 hg E K)
      isplitl [Hh]; · iexact Hh
      iintro %a %ha Hh
      subst ha
      iapply (wp_call_spec Variants.nat (c : Thread nD τ) (some (k + 1)) E (gradSpec c R e p k (gradStep e p s)) k
        (fun u hu => by cases hu; exact Nat.lt_succ_self k) (fun K' => ih K' (gradStep e p s) hf'))
      rw [gradSpec_apply]
      isplitl [Hh]; · iexact Hh
      iintro Hh
      rw [wp_ret]
      imodintro
      iapply Hk; iexact Hh
    · have hr : gradRun e p (k + 1) s = s := if_neg hg
      rw [hr]
      exact grad_exit c R e p s _ E K hg

/-- The call of the loop of gradients. -/
theorem grad_call (c : Dev nD) (R : Refs) (e : Env F) (p : Tots F) (s : Grads F) (hf : Sbf.Fits 43 s.four) (a : Cc0While2 F) (ha : a = gradRec R e p s)
    {α : Type} (E : Set ℕ) (k : (Λ₀ F).Result 2 → Prog (TpuEff nD τ sig (Elt F) (Λ₀ F) .tc) α) (K : α → sProp 𝕄) :
    iprop(heldG c R e s.dk s.dv ∗ (heldG c R e (gradRun e p 43 s).dk (gradRun e p 43 s).dv -∗ wp frame (wpE (defs₀ (F := F)) Variants.nat (c : Thread nD τ) none) E (k (gradRun e p 43 s).flat) K))
    ⊢ wp frame (wpE (defs₀ (F := F)) Variants.nat (c : Thread nD τ) none) E (Prog.op (TpuEff.call (Λ := Λ₀ F) 2 a) k) K := by
  subst ha
  exact (wp_call_spec Variants.nat (c : Thread nD τ) none E (gradSpec c R e p 43 s) 43 (fun u hu => nomatch hu) (fun K' => grad_le c R e p E K' 43 s hf))

end Cert.Proof.Sb

end
-- ==== Proof.SbBody.lean ====
module

public import proofs.«01_k».proof.Proof.Gen.SbKernelIdeal.Launch
public import proofs.«01_k».proof.Proof.Gen.SbKernelIdeal.Skeleton
public import proofs.«01_k».proof.Proof.Gen.SbKernelIdeal.Points
public import proofs.«01_k».proof.Proof.SbLoop
public import Idealize.ShloMosaic.Lib.Pipeline.FrameValue
public import Idealize.ShloMosaic.Lib.VecWindow
public import proofs.«01_k».proof.Proof.SbfBody

@[expose] public section

set_option maxRecDepth 16384

noncomputable section

namespace Cert.Proof.Sb

open Cert.SbKernelIdeal Cert.SbKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- What a grid point's loops read: the masks, the four scaled query blocks, their cotangents, and the arrays. -/
def env (i : grid0.Coords) (x2 : Vec F S512x128 .f32) (x3 x4 : Vec F S16384x128 .f32) (x5 : Vec F S512x128 .f32) (x6 x7 : Vec F S384x256 .i32) (x8 x9 : Vec F S256x256 .bf16) : Env F :=
  ⟨i, k0_pay8, k0_pay9, k0_pay12 (View.ld x2 (Rect.unit (s := S512x128) ![0, 0] S128x128.size inb_S512x128_S128x128_0_0)), k0_pay13 (View.ld x2 (Rect.unit (s := S512x128) ![128, 0] S128x128.size inb_S512x128_S128x128_128_0)), k0_pay14 (View.ld x2 (Rect.unit (s := S512x128) ![256, 0] S128x128.size inb_S512x128_S128x128_256_0)), k0_pay15 (View.ld x2 (Rect.unit (s := S512x128) ![384, 0] S128x128.size inb_S512x128_S128x128_384_0)),
   k0_pay16 (View.ld x5 (Rect.unit (s := S512x128) ![0, 0] S128x128.size inb_S512x128_S128x128_0_0)), k0_pay17 (View.ld x5 (Rect.unit (s := S512x128) ![128, 0] S128x128.size inb_S512x128_S128x128_128_0)), k0_pay18 (View.ld x5 (Rect.unit (s := S512x128) ![256, 0] S128x128.size inb_S512x128_S128x128_256_0)), k0_pay19 (View.ld x5 (Rect.unit (s := S512x128) ![384, 0] S128x128.size inb_S512x128_S128x128_384_0)), x3, x4, x6, x7, x8, x9⟩

/-- The sums after the first tiles. -/
def sums0 (e : Env F) : Sums F where
  s1 := sumFirst e.v2 e.v5 e.x6 e.x7 e.x8 e.q1 e.d1 (Sbf.blk e.i 0#32) (Sbf.tile e.x3 (Sbf.blk e.i 0#32)) (Sbf.tile e.x4 (Sbf.blk e.i 0#32)) (Sbf.fresh e.i 0#32)
  s2 := sumFirst e.v2 e.v5 e.x6 e.x7 e.x8 e.q2 e.d2 (Sbf.blk e.i 1#32) (Sbf.tile e.x3 (Sbf.blk e.i 1#32)) (Sbf.tile e.x4 (Sbf.blk e.i 1#32)) (Sbf.fresh e.i 1#32)
  s3 := sumFirst e.v2 e.v5 e.x6 e.x7 e.x8 e.q3 e.d3 (Sbf.blk e.i 2#32) (Sbf.tile e.x3 (Sbf.blk e.i 2#32)) (Sbf.tile e.x4 (Sbf.blk e.i 2#32)) (Sbf.fresh e.i 2#32)
  s4 := sumFirst e.v2 e.v5 e.x6 e.x7 e.x8 e.q4 e.d4 (Sbf.blk e.i 3#32) (Sbf.tile e.x3 (Sbf.blk e.i 3#32)) (Sbf.tile e.x4 (Sbf.blk e.i 3#32)) (Sbf.fresh e.i 3#32)

/-- The sums at the loop's end. -/
@[irreducible] def sumEnd (e : Env F) : Sums F := sumRun e 43 (sums0 e)

/-- The totals. -/
def tots (e : Env F) : Tots F := ⟨(sumEnd e).s1.t0, (sumEnd e).s1.t1, (sumEnd e).s2.t0, (sumEnd e).s2.t1, (sumEnd e).s3.t0, (sumEnd e).s3.t1, (sumEnd e).s4.t0, (sumEnd e).s4.t1⟩

/-- The gradients after the first tiles. -/
def grads0 (e : Env F) (p : Tots F) (dk dv : Vec F S16384x128 .f32) : Grads F where
  s1 := gradFirst e.v2 e.v5 e.x6 e.x7 e.x8 e.x9 e.q1 e.d1 (Sbf.blk e.i 0#32) (Sbf.tile e.x3 (Sbf.blk e.i 0#32)) (Sbf.tile e.x4 (Sbf.blk e.i 0#32)) p.p1 p.r1 (Sbf.fresh e.i 0#32) k0_pay20
  s2 := gradFirst e.v2 e.v5 e.x6 e.x7 e.x8 e.x9 e.q2 e.d2 (Sbf.blk e.i 1#32) (Sbf.tile e.x3 (Sbf.blk e.i 1#32)) (Sbf.tile e.x4 (Sbf.blk e.i 1#32)) p.p2 p.r2 (Sbf.fresh e.i 1#32) k0_pay20
  s3 := gradFirst e.v2 e.v5 e.x6 e.x7 e.x8 e.x9 e.q3 e.d3 (Sbf.blk e.i 2#32) (Sbf.tile e.x3 (Sbf.blk e.i 2#32)) (Sbf.tile e.x4 (Sbf.blk e.i 2#32)) p.p3 p.r3 (Sbf.fresh e.i 2#32) k0_pay20
  s4 := gradFirst e.v2 e.v5 e.x6 e.x7 e.x8 e.x9 e.q4 e.d4 (Sbf.blk e.i 3#32) (Sbf.tile e.x3 (Sbf.blk e.i 3#32)) (Sbf.tile e.x4 (Sbf.blk e.i 3#32)) p.p4 p.r4 (Sbf.fresh e.i 3#32) k0_pay20
  dk := upd (upd (upd (upd dk
    (Sbf.blk e.i 0#32) (addK e.v2 e.v5 e.x6 e.x7 e.x8 e.x9 e.q1 e.d1 (Sbf.blk e.i 0#32) (Sbf.tile e.x3 (Sbf.blk e.i 0#32)) (Sbf.tile e.x4 (Sbf.blk e.i 0#32)) p.p1 p.r1 (Sbf.fresh e.i 0#32) k0_pay20 k0_pay20))
    (Sbf.blk e.i 1#32) (addK e.v2 e.v5 e.x6 e.x7 e.x8 e.x9 e.q2 e.d2 (Sbf.blk e.i 1#32) (Sbf.tile e.x3 (Sbf.blk e.i 1#32)) (Sbf.tile e.x4 (Sbf.blk e.i 1#32)) p.p2 p.r2 (Sbf.fresh e.i 1#32) k0_pay20 k0_pay20))
    (Sbf.blk e.i 2#32) (addK e.v2 e.v5 e.x6 e.x7 e.x8 e.x9 e.q3 e.d3 (Sbf.blk e.i 2#32) (Sbf.tile e.x3 (Sbf.blk e.i 2#32)) (Sbf.tile e.x4 (Sbf.blk e.i 2#32)) p.p3 p.r3 (Sbf.fresh e.i 2#32) k0_pay20 k0_pay20))
    (Sbf.blk e.i 3#32) (addK e.v2 e.v5 e.x6 e.x7 e.x8 e.x9 e.q4 e.d4 (Sbf.blk e.i 3#32) (Sbf.tile e.x3 (Sbf.blk e.i 3#32)) (Sbf.tile e.x4 (Sbf.blk e.i 3#32)) p.p4 p.r4 (Sbf.fresh e.i 3#32) k0_pay20 k0_pay20)
  dv := upd (upd (upd (upd dv
    (Sbf.blk e.i 0#32) (addV e.v2 e.v5 e.x6 e.x7 e.x8 e.q1 e.d1 (Sbf.blk e.i 0#32) (Sbf.tile e.x3 (Sbf.blk e.i 0#32)) (Sbf.fresh e.i 0#32)))
    (Sbf.blk e.i 1#32) (addV e.v2 e.v5 e.x6 e.x7 e.x8 e.q2 e.d2 (Sbf.blk e.i 1#32) (Sbf.tile e.x3 (Sbf.blk e.i 1#32)) (Sbf.fresh e.i 1#32)))
    (Sbf.blk e.i 2#32) (addV e.v2 e.v5 e.x6 e.x7 e.x8 e.q3 e.d3 (Sbf.blk e.i 2#32) (Sbf.tile e.x3 (Sbf.blk e.i 2#32)) (Sbf.fresh e.i 2#32)))
    (Sbf.blk e.i 3#32) (addV e.v2 e.v5 e.x6 e.x7 e.x8 e.q4 e.d4 (Sbf.blk e.i 3#32) (Sbf.tile e.x3 (Sbf.blk e.i 3#32)) (Sbf.fresh e.i 3#32))

/-- The gradients at the loop's end. -/
@[irreducible] def gradEnd (e : Env F) (dk dv : Vec F S16384x128 .f32) : Grads F := gradRun e (tots e) 43 (grads0 e (tots e) dk dv)

/-- The four blocks' places, as numbers. -/
theorem blk_of (i : grid0.Coords) : Sbf.blk i 0#32 = BitVec.ofInt 32 (4 * ((i 1).val : ℤ)) ∧ Sbf.blk i 1#32 = BitVec.ofInt 32 (4 * ((i 1).val : ℤ) + 1)
    ∧ Sbf.blk i 2#32 = BitVec.ofInt 32 (4 * ((i 1).val : ℤ) + 2) ∧ Sbf.blk i 3#32 = BitVec.ofInt 32 (4 * ((i 1).val : ℤ) + 3) := by
  have hi : (i 1).val < 32 := (i 1).isLt
  have h : ∀ n : Fin 32, (Scalar.addi (Scalar.muli (BitVec.ofNat 32 n.val) 4#32) 0#32 = BitVec.ofInt 32 (4 * (n.val : ℤ)))
      ∧ (Scalar.addi (Scalar.muli (BitVec.ofNat 32 n.val) 4#32) 1#32 = BitVec.ofInt 32 (4 * (n.val : ℤ) + 1))
      ∧ (Scalar.addi (Scalar.muli (BitVec.ofNat 32 n.val) 4#32) 2#32 = BitVec.ofInt 32 (4 * (n.val : ℤ) + 2))
      ∧ (Scalar.addi (Scalar.muli (BitVec.ofNat 32 n.val) 4#32) 3#32 = BitVec.ofInt 32 (4 * (n.val : ℤ) + 3)) := by decide
  exact h ⟨(i 1).val, hi⟩

theorem blk_inb (i : grid0.Coords) : InB (Sbf.blk i 0#32) ∧ InB (Sbf.blk i 1#32) ∧ InB (Sbf.blk i 2#32) ∧ InB (Sbf.blk i 3#32) := by
  have hi : (i 1).val < 32 := (i 1).isLt
  obtain ⟨h0, h1, h2, h3⟩ := blk_of i
  rw [h0, h1, h2, h3]
  exact ⟨Sbf.chk_of _ (by omega) (by omega), Sbf.chk_of _ (by omega) (by omega), Sbf.chk_of _ (by omega) (by omega), Sbf.chk_of _ (by omega) (by omega)⟩

/-- After the first tiles 43 trips are enough. -/
theorem fits_first (i : grid0.Coords) (s : Sbf.Four F) (h1 : s.s1.jt = Scalar.subi (Sbf.blk i 0#32) 3#32) (h2 : s.s2.jt = Scalar.subi (Sbf.blk i 1#32) 3#32)
    (h3 : s.s3.jt = Scalar.subi (Sbf.blk i 2#32) 3#32) (h4 : s.s4.jt = Scalar.subi (Sbf.blk i 3#32) 3#32) : Sbf.Fits 43 s := by
  have hi : (i 1).val < 32 := (i 1).isLt
  obtain ⟨e0, e1, e2, e3⟩ := blk_of i
  refine ⟨4 * ((i 1).val : ℤ) - 3, by omega, by omega, by push_cast; omega, ?_, ?_, ?_, ?_⟩
  · rw [h1, e0]; exact Sbf.sub_three _ (by omega) (by omega)
  · rw [h2, e1, Sbf.sub_three _ (by omega) (by omega)]; congr 1; omega
  · rw [h3, e2, Sbf.sub_three _ (by omega) (by omega)]; congr 1; omega
  · rw [h4, e3, Sbf.sub_three _ (by omega) (by omega)]; congr 1; omega

theorem fits_sums (e : Env F) : Sbf.Fits 43 (sums0 e).four := fits_first e.i _ rfl rfl rfl rfl
theorem fits_grads (e : Env F) (p : Tots F) (dk dv : Vec F S16384x128 .f32) : Sbf.Fits 43 (grads0 e p dk dv).four := fits_first e.i _ rfl rfl rfl rfl

/-- The test of a pair's first grid point, -/
abbrev isFirst (i : grid0.Coords) : Prop := Scalar.cmpi .ne (Scalar.extui (Scalar.cmpi .eq (BitVec.ofNat 32 (i 1).val) 0#32) : BitVec 32) 0#32 = 1#1
open Classical in
/-- at which the two arrays are started anew. -/
def start0 (i : grid0.Coords) (z x : Vec F S16384x128 .f32) : Vec F S16384x128 .f32 := if isFirst i then z else x

/-- Block 0's first tile begins at this row. -/
theorem off1_0 (i : grid0.Coords) : k0_off1 i 0#32 = ![128 * (4 * (i 1).val + 0 - 2), 0] := by
  have h : ∀ n : Fin 32, (Scalar.muli (Scalar.maxsi (Scalar.subi (Scalar.addi (Scalar.muli (BitVec.ofNat 32 n.val) 4#32) 0#32) 2#32) 0#32) 128#32).toNat = 128 * (4 * n.val + 0 - 2) := by decide
  exact congrArg (fun a => ![a, 0]) (h ⟨(i 1).val, (i 1).isLt⟩)
instance closed1_0 (i : grid0.Coords) : ClosedOff (k0_off1 i 0#32) := ⟨![128 * (4 * (i 1).val + 0 - 2), 0], off1_0 i⟩

/-- Block 1's first tile begins at this row. -/
theorem off1_1 (i : grid0.Coords) : k0_off1 i 1#32 = ![128 * (4 * (i 1).val + 1 - 2), 0] := by
  have h : ∀ n : Fin 32, (Scalar.muli (Scalar.maxsi (Scalar.subi (Scalar.addi (Scalar.muli (BitVec.ofNat 32 n.val) 4#32) 1#32) 2#32) 0#32) 128#32).toNat = 128 * (4 * n.val + 1 - 2) := by decide
  exact congrArg (fun a => ![a, 0]) (h ⟨(i 1).val, (i 1).isLt⟩)
instance closed1_1 (i : grid0.Coords) : ClosedOff (k0_off1 i 1#32) := ⟨![128 * (4 * (i 1).val + 1 - 2), 0], off1_1 i⟩

/-- Block 2's first tile begins at this row. -/
theorem off1_2 (i : grid0.Coords) : k0_off1 i 2#32 = ![128 * (4 * (i 1).val + 2 - 2), 0] := by
  have h : ∀ n : Fin 32, (Scalar.muli (Scalar.maxsi (Scalar.subi (Scalar.addi (Scalar.muli (BitVec.ofNat 32 n.val) 4#32) 2#32) 2#32) 0#32) 128#32).toNat = 128 * (4 * n.val + 2 - 2) := by decide
  exact congrArg (fun a => ![a, 0]) (h ⟨(i 1).val, (i 1).isLt⟩)
instance closed1_2 (i : grid0.Coords) : ClosedOff (k0_off1 i 2#32) := ⟨![128 * (4 * (i 1).val + 2 - 2), 0], off1_2 i⟩

/-- Block 3's first tile begins at this row. -/
theorem off1_3 (i : grid0.Coords) : k0_off1 i 3#32 = ![128 * (4 * (i 1).val + 3 - 2), 0] := by
  have h : ∀ n : Fin 32, (Scalar.muli (Scalar.maxsi (Scalar.subi (Scalar.addi (Scalar.muli (BitVec.ofNat 32 n.val) 4#32) 3#32) 2#32) 0#32) 128#32).toNat = 128 * (4 * n.val + 3 - 2) := by decide
  exact congrArg (fun a => ![a, 0]) (h ⟨(i 1).val, (i 1).isLt⟩)
instance closed1_3 (i : grid0.Coords) : ClosedOff (k0_off1 i 3#32) := ⟨![128 * (4 * (i 1).val + 3 - 2), 0], off1_3 i⟩

set_option maxHeartbeats 4000000 in
/-- The start of a grid point: the two arrays are started anew at a pair's first, and the query blocks are read. -/
theorem part1_ok (c : Dev nD) (i : grid0.Coords) (arg2 : Memref sig .tc .vmem S512x128 .f32) (harg2 : arg2.IsWhole) (arg3 : Memref sig .tc .vmem S16384x128 .f32) (harg3 : arg3.IsWhole) (arg4 : Memref sig .tc .vmem S16384x128 .f32) (harg4 : arg4.IsWhole) (arg5 : Memref sig .tc .vmem S512x128 .f32) (harg5 : arg5.IsWhole)
    (arg6 : Memref sig .tc .vmem S384x256 .i32) (harg6 : arg6.IsWhole) (arg7 : Memref sig .tc .vmem S384x256 .i32) (harg7 : arg7.IsWhole) (arg8 : Memref sig .tc .vmem S256x256 .bf16) (harg8 : arg8.IsWhole) (arg9 : Memref sig .tc .vmem S256x256 .bf16) (harg9 : arg9.IsWhole)
    (arg10 : Memref sig .tc .vmem S512x128 .f32) (harg10 : arg10.IsWhole) (arg11 : Memref sig .tc .hbm S16384x256 .f32) (harg11 : arg11.IsWhole) (arg12 : Memref sig .tc .hbm S16384x256 .f32) (harg12 : arg12.IsWhole) (arg13 : Memref sig .tc .vmem S16384x128 .f32) (harg13 : arg13.IsWhole) (arg14 : Memref sig .tc .vmem S16384x128 .f32) (harg14 : arg14.IsWhole)
    (x2 : Vec F S512x128 .f32) (dk dv : Vec F S16384x128 .f32) (E : Set ℕ) (K : _ → sProp 𝕄) :
    iprop(owns (c : Thread nD τ) arg2 fullShare x2 ∗ owns (c : Thread nD τ) arg13 fullShare dk ∗ owns (c : Thread nD τ) arg14 fullShare dv
        ∗ (∀ r, ⌜r = ⟨BitVec.ofNat 32 (i 0).val, BitVec.ofNat 32 (i 1).val, k0_pay8, k0_pay9, Sbf.blk i 0#32, Sbf.blk i 1#32, Sbf.blk i 2#32, Sbf.blk i 3#32,
              k0_pay12 (View.ld x2 (Rect.unit (s := S512x128) ![0, 0] S128x128.size inb_S512x128_S128x128_0_0)), k0_pay13 (View.ld x2 (Rect.unit (s := S512x128) ![128, 0] S128x128.size inb_S512x128_S128x128_128_0)), k0_pay14 (View.ld x2 (Rect.unit (s := S512x128) ![256, 0] S128x128.size inb_S512x128_S128x128_256_0)), k0_pay15 (View.ld x2 (Rect.unit (s := S512x128) ![384, 0] S128x128.size inb_S512x128_S128x128_384_0))⟩⌝ -∗ owns (c : Thread nD τ) arg2 fullShare x2 -∗ owns (c : Thread nD τ) arg13 fullShare (start0 i k0_pay10 dk) -∗ owns (c : Thread nD τ) arg14 fullShare (start0 i k0_pay11 dv)
          -∗ K r))
    ⊢ wp frame (wpE (defs₀ (F := F)) Variants.nat (c : Thread nD τ) none) E (k0_part1 i arg2 harg2 arg3 harg3 arg4 harg4 arg5 harg5 arg6 harg6 arg7 harg7 arg8 harg8 arg9 harg9 arg10 harg10 arg11 harg11 arg12 harg12 arg13 harg13 arg14 harg14 cc0_scratch2) K := by
  simp only [k0_part1_eq_skeleton]; unfold k0_part1_skel
  unfold owns
  iintro ⟨⟨%f2, %hf2, H2⟩, ⟨%f13, %hf13, H13⟩, ⟨%f14, %hf14, H14⟩, Hk⟩
  obtain rfl := harg2.eq_unread hf2; obtain rfl := harg13.eq_unread hf13; obtain rfl := harg14.eq_unread hf14
  by_cases hc : isFirst i
  · sl_exec (disch := sl_exact hc)
    sl_step
    iapply Hk $$ %_ %?_ [H2] [H13] [H14]
    · simp only [View.readAt_eq_ld, harg2.read_unread]; rfl
    · iexists _; isplitr; · (ipureintro; exact harg2.read_unread _)
      iexact H2
    · iexists _; isplitr; swap; · iexact H13
      ipureintro
      rw [start0, if_pos hc]; exact View.read_writes_full _ _ _ _ _
    · iexists _; isplitr; swap; · iexact H14
      ipureintro
      rw [start0, if_pos hc]; exact View.read_writes_full _ _ _ _ _
  · sl_exec (disch := sl_exact hc)
    sl_step
    iapply Hk $$ %_ %?_ [H2] [H13] [H14]
    · simp only [View.readAt_eq_ld, harg2.read_unread]; rfl
    · iexists _; isplitr; · (ipureintro; exact harg2.read_unread _)
      iexact H2
    · iexists _; isplitr; swap; · iexact H13
      ipureintro
      rw [start0, if_neg hc]; assumption
    · iexists _; isplitr; swap; · iexact H14
      ipureintro
      rw [start0, if_neg hc]; assumption

/-- The part of a result that a grid point copies out, written over what the result held, at a pair's last point. -/
def copied (i : grid0.Coords) (x : Vec F S16384x128 .f32) (f : Vec F S16384x256 .f32) : Vec F S16384x256 .f32 :=
  if h : k0_cond2 i = 1#1 then VecWindow.put f (k0_off10 i) S16384x128.size x else f

/-- The query gradients' blocks. -/
def dqPieces (e : Env F) (dk dv : Vec F S16384x128 .f32) : List (View.Piece (Elt F) S512x128 .f32) :=
  [⟨Rect.unit (s := S512x128) ![384, 0] S128x128.size inb_S512x128_S128x128_384_0, (gradEnd e dk dv).s4.dq⟩,
   ⟨Rect.unit (s := S512x128) ![256, 0] S128x128.size inb_S512x128_S128x128_256_0, (gradEnd e dk dv).s3.dq⟩,
   ⟨Rect.unit (s := S512x128) ![128, 0] S128x128.size inb_S512x128_S128x128_128_0, (gradEnd e dk dv).s2.dq⟩,
   ⟨Rect.unit (s := S512x128) ![0, 0] S128x128.size inb_S512x128_S128x128_0_0, (gradEnd e dk dv).s1.dq⟩]
/-- An array after a copy into one of its columns. -/
theorem copy_read (i : grid0.Coords) (h : k0_cond2 i = 1#1) (arg11 : Memref sig .tc .hbm S16384x256 .f32) (hp : _) (arg13 : Memref sig .tc .vmem S16384x128 .f32) (f : arg11.view.ty.Contents (Elt F)) (e : arg13.view.ty.Contents (Elt F)) :
    View.read (Elt F) arg11.view ((arg11.slice (Rect.unit (s := S16384x256) (k0_off10 i) S16384x128.size (k0_off10_inb i h)) hp).view.write (Elt F) f (ReadAs.same.apply (View.read (Elt F) arg13.view e)) Finset.univ)
      = VecWindow.put (View.read (Elt F) arg11.view f) (k0_off10 i) S16384x128.size (View.read (Elt F) arg13.view e) :=
  View.read_writes_cons_put arg11.view f (k0_off10_inb i h) _ [] rfl

-- A copy's amount is not computed below: that it is positive is all that is needed.
attribute [local irreducible] RefSig.tileCredit

set_option maxHeartbeats 16000000 in
/-- One grid point's body. -/
theorem body_ok (c : Dev nD) (i : grid0.Coords) (arg2 : Memref sig .tc .vmem S512x128 .f32) (harg2 : arg2.IsWhole) (arg3 : Memref sig .tc .vmem S16384x128 .f32) (harg3 : arg3.IsWhole) (arg4 : Memref sig .tc .vmem S16384x128 .f32) (harg4 : arg4.IsWhole) (arg5 : Memref sig .tc .vmem S512x128 .f32) (harg5 : arg5.IsWhole)
    (arg6 : Memref sig .tc .vmem S384x256 .i32) (harg6 : arg6.IsWhole) (arg7 : Memref sig .tc .vmem S384x256 .i32) (harg7 : arg7.IsWhole) (arg8 : Memref sig .tc .vmem S256x256 .bf16) (harg8 : arg8.IsWhole) (arg9 : Memref sig .tc .vmem S256x256 .bf16) (harg9 : arg9.IsWhole)
    (arg10 : Memref sig .tc .vmem S512x128 .f32) (harg10 : arg10.IsWhole) (arg11 : Memref sig .tc .hbm S16384x256 .f32) (harg11 : arg11.IsWhole) (arg12 : Memref sig .tc .hbm S16384x256 .f32) (harg12 : arg12.IsWhole) (arg13 : Memref sig .tc .vmem S16384x128 .f32) (harg13 : arg13.IsWhole) (arg14 : Memref sig .tc .vmem S16384x128 .f32) (harg14 : arg14.IsWhole)
    (x2 : Vec F S512x128 .f32) (x3 x4 : Vec F S16384x128 .f32) (x5 : Vec F S512x128 .f32) (x6 x7 : Vec F S384x256 .i32) (x8 x9 : Vec F S256x256 .bf16)
    (dk dv : Vec F S16384x128 .f32) (g1 g2 : Vec F S16384x256 .f32) (W : Waits sig Unit) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
        ∗ (∃ d, owns (c : Thread nD τ) arg10 fullShare d) ∗ owns (c : Thread nD τ) arg13 fullShare dk ∗ owns (c : Thread nD τ) arg14 fullShare dv
        ∗ owns (c : Thread nD τ) arg11 fullShare g1 ∗ owns (c : Thread nD τ) arg12 fullShare g2
        ∗ semVal ((c : Thread nD τ), SemLoc.dma 14) 0 ∗ semVal ((c : Thread nD τ), SemLoc.dma 15) 0 ∗ owes (c : Thread nD τ) 0 W
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ (∃ f, arg10.view.loc (c : Thread nD τ) ↦[arg10.view.set]{fullShare} arg10.view.writes (Elt F) f
                (dqPieces (env i x2 x3 x4 x5 x6 x7 x8 x9) (start0 i k0_pay10 dk) (start0 i k0_pay11 dv)))
            ∗ owns (c : Thread nD τ) arg13 fullShare (gradEnd (env i x2 x3 x4 x5 x6 x7 x8 x9) (start0 i k0_pay10 dk) (start0 i k0_pay11 dv)).dk
            ∗ owns (c : Thread nD τ) arg14 fullShare (gradEnd (env i x2 x3 x4 x5 x6 x7 x8 x9) (start0 i k0_pay10 dk) (start0 i k0_pay11 dv)).dv
            ∗ owns (c : Thread nD τ) arg11 fullShare (copied i (gradEnd (env i x2 x3 x4 x5 x6 x7 x8 x9) (start0 i k0_pay10 dk) (start0 i k0_pay11 dv)).dk g1)
            ∗ owns (c : Thread nD τ) arg12 fullShare (copied i (gradEnd (env i x2 x3 x4 x5 x6 x7 x8 x9) (start0 i k0_pay10 dk) (start0 i k0_pay11 dv)).dv g2)
            ∗ semVal ((c : Thread nD τ), SemLoc.dma 14) 0 ∗ semVal ((c : Thread nD τ), SemLoc.dma 15) 0 ∗ (∃ W', owes (c : Thread nD τ) 0 W')) -∗ K ⟨⟩))
    ⊢ wp frame (wpE (defs₀ (F := F)) Variants.nat (c : Thread nD τ) none) Set.univ (cc0_sb_bwd i arg2 harg2 arg3 harg3 arg4 harg4 arg5 harg5 arg6 harg6 arg7 harg7 arg8 harg8 arg9 harg9 arg10 harg10 arg11 harg11 arg12 harg12 arg13 harg13 arg14 harg14 cc0_scratch2) K := by
  simp only [cc0_sb_bwd_eq_skeleton]; unfold cc0_sb_bwd_skel
  rw [wp_bind]
  iintro ⟨H2, H3, H4, H5, H6, H7, H8, H9, ⟨%d10, H10⟩, H13, H14, H11, H12, Hs0, Hs1, Ho, Hk⟩
  iapply part1_ok c i arg2 harg2 arg3 harg3 arg4 harg4 arg5 harg5 arg6 harg6 arg7 harg7 arg8 harg8 arg9 harg9 arg10 harg10 arg11 harg11 arg12 harg12 arg13 harg13 arg14 harg14 x2 dk dv
  isplitl [H2]; · iexact H2
  isplitl [H13]; · iexact H13
  isplitl [H14]; · iexact H14
  iintro %r %hr H2 H13 H14
  subst hr
  obtain ⟨j1, j2, j3, j4⟩ := blk_inb i
  generalize start0 i k0_pay10 dk = dk
  generalize start0 i k0_pay11 dv = dv
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold owns
  icases H3 with ⟨%f3, %hf3, H3⟩; icases H4 with ⟨%f4, %hf4, H4⟩; icases H5 with ⟨%f5, %hf5, H5⟩; icases H6 with ⟨%f6, %hf6, H6⟩; icases H7 with ⟨%f7, %hf7, H7⟩
  icases H8 with ⟨%f8, %hf8, H8⟩; icases H9 with ⟨%f9, %hf9, H9⟩; icases H10 with ⟨%f10, -, H10⟩; icases H13 with ⟨%f13, %hf13, H13⟩; icases H14 with ⟨%f14, %hf14, H14⟩
  obtain rfl := harg3.eq_unread hf3; obtain rfl := harg4.eq_unread hf4; obtain rfl := harg5.eq_unread hf5; obtain rfl := harg6.eq_unread hf6; obtain rfl := harg7.eq_unread hf7
  obtain rfl := harg8.eq_unread hf8; obtain rfl := harg9.eq_unread hf9; obtain rfl := harg13.eq_unread hf13; obtain rfl := harg14.eq_unread hf14
  sl_exec
  iapply sum_call c ⟨arg3, harg3, arg4, harg4, arg6, harg6, arg7, harg7, arg8, harg8, arg9, harg9, arg13, harg13, arg14, harg14⟩ (env i x2 x3 x4 x5 x6 x7 x8 x9) (sums0 (env i x2 x3 x4 x5 x6 x7 x8 x9)) (fits_sums _) _ ?ha
  case ha =>
    calc _ = sumRec ⟨arg3, harg3, arg4, harg4, arg6, harg6, arg7, harg7, arg8, harg8, arg9, harg9, arg13, harg13, arg14, harg14⟩ ⟨i, k0_pay8, k0_pay9, k0_pay12 (View.ld x2 (Rect.unit (s := S512x128) ![0, 0] S128x128.size inb_S512x128_S128x128_0_0)), k0_pay13 (View.ld x2 (Rect.unit (s := S512x128) ![128, 0] S128x128.size inb_S512x128_S128x128_128_0)), k0_pay14 (View.ld x2 (Rect.unit (s := S512x128) ![256, 0] S128x128.size inb_S512x128_S128x128_256_0)), k0_pay15 (View.ld x2 (Rect.unit (s := S512x128) ![384, 0] S128x128.size inb_S512x128_S128x128_384_0)), k0_pay16 (View.readAt (Elt F) arg5.view (Rect.unit (s := S512x128) ![0, 0] S128x128.size inb_S512x128_S128x128_0_0).toLoadRect (harg5.unread x5)), k0_pay17 (View.readAt (Elt F) arg5.view (Rect.unit (s := S512x128) ![128, 0] S128x128.size inb_S512x128_S128x128_128_0).toLoadRect (harg5.unread x5)), k0_pay18 (View.readAt (Elt F) arg5.view (Rect.unit (s := S512x128) ![256, 0] S128x128.size inb_S512x128_S128x128_256_0).toLoadRect (harg5.unread x5)), k0_pay19 (View.readAt (Elt F) arg5.view (Rect.unit (s := S512x128) ![384, 0] S128x128.size inb_S512x128_S128x128_384_0).toLoadRect (harg5.unread x5)), x3, x4, x6, x7, x8, x9⟩ ⟨
        sumFirst k0_pay8 k0_pay9 (View.readAt (Elt F) arg6.view (Rect.unit (s := S384x256) ![0, 0] S384x256.size inb_S384x256_S384x256_0_0).toLoadRect (harg6.unread x6)) (View.readAt (Elt F) arg7.view (Rect.unit (s := S384x256) ![0, 0] S384x256.size inb_S384x256_S384x256_0_0).toLoadRect (harg7.unread x7)) (View.readAt (Elt F) arg8.view (Rect.unit (s := S256x256) ![0, 0] S256x256.size inb_S256x256_S256x256_0_0).toLoadRect (harg8.unread x8)) (k0_pay12 (View.ld x2 (Rect.unit (s := S512x128) ![0, 0] S128x128.size inb_S512x128_S128x128_0_0))) (k0_pay16 (View.readAt (Elt F) arg5.view (Rect.unit (s := S512x128) ![0, 0] S128x128.size inb_S512x128_S128x128_0_0).toLoadRect (harg5.unread x5))) (Sbf.blk i 0#32)
          (View.readAt (Elt F) arg3.view (Rect.unit (s := S16384x128) (k0_off1 i 0#32) S384x128.size (k0_off1_inb i 0)).toLoadRect (harg3.unread x3)) (View.readAt (Elt F) arg4.view (Rect.unit (s := S16384x128) (k0_off1 i 0#32) S384x128.size (k0_off1_inb i 0)).toLoadRect (harg4.unread x4)) (Sbf.fresh i 0#32),
        sumFirst k0_pay8 k0_pay9 (View.readAt (Elt F) arg6.view (Rect.unit (s := S384x256) ![0, 0] S384x256.size inb_S384x256_S384x256_0_0).toLoadRect (harg6.unread x6)) (View.readAt (Elt F) arg7.view (Rect.unit (s := S384x256) ![0, 0] S384x256.size inb_S384x256_S384x256_0_0).toLoadRect (harg7.unread x7)) (View.readAt (Elt F) arg8.view (Rect.unit (s := S256x256) ![0, 0] S256x256.size inb_S256x256_S256x256_0_0).toLoadRect (harg8.unread x8)) (k0_pay13 (View.ld x2 (Rect.unit (s := S512x128) ![128, 0] S128x128.size inb_S512x128_S128x128_128_0))) (k0_pay17 (View.readAt (Elt F) arg5.view (Rect.unit (s := S512x128) ![128, 0] S128x128.size inb_S512x128_S128x128_128_0).toLoadRect (harg5.unread x5))) (Sbf.blk i 1#32)
          (View.readAt (Elt F) arg3.view (Rect.unit (s := S16384x128) (k0_off1 i 1#32) S384x128.size (k0_off1_inb i 1)).toLoadRect (harg3.unread x3)) (View.readAt (Elt F) arg4.view (Rect.unit (s := S16384x128) (k0_off1 i 1#32) S384x128.size (k0_off1_inb i 1)).toLoadRect (harg4.unread x4)) (Sbf.fresh i 1#32),
        sumFirst k0_pay8 k0_pay9 (View.readAt (Elt F) arg6.view (Rect.unit (s := S384x256) ![0, 0] S384x256.size inb_S384x256_S384x256_0_0).toLoadRect (harg6.unread x6)) (View.readAt (Elt F) arg7.view (Rect.unit (s := S384x256) ![0, 0] S384x256.size inb_S384x256_S384x256_0_0).toLoadRect (harg7.unread x7)) (View.readAt (Elt F) arg8.view (Rect.unit (s := S256x256) ![0, 0] S256x256.size inb_S256x256_S256x256_0_0).toLoadRect (harg8.unread x8)) (k0_pay14 (View.ld x2 (Rect.unit (s := S512x128) ![256, 0] S128x128.size inb_S512x128_S128x128_256_0))) (k0_pay18 (View.readAt (Elt F) arg5.view (Rect.unit (s := S512x128) ![256, 0] S128x128.size inb_S512x128_S128x128_256_0).toLoadRect (harg5.unread x5))) (Sbf.blk i 2#32)
          (View.readAt (Elt F) arg3.view (Rect.unit (s := S16384x128) (k0_off1 i 2#32) S384x128.size (k0_off1_inb i 2)).toLoadRect (harg3.unread x3)) (View.readAt (Elt F) arg4.view (Rect.unit (s := S16384x128) (k0_off1 i 2#32) S384x128.size (k0_off1_inb i 2)).toLoadRect (harg4.unread x4)) (Sbf.fresh i 2#32),
        sumFirst k0_pay8 k0_pay9 (View.readAt (Elt F) arg6.view (Rect.unit (s := S384x256) ![0, 0] S384x256.size inb_S384x256_S384x256_0_0).toLoadRect (harg6.unread x6)) (View.readAt (Elt F) arg7.view (Rect.unit (s := S384x256) ![0, 0] S384x256.size inb_S384x256_S384x256_0_0).toLoadRect (harg7.unread x7)) (View.readAt (Elt F) arg8.view (Rect.unit (s := S256x256) ![0, 0] S256x256.size inb_S256x256_S256x256_0_0).toLoadRect (harg8.unread x8)) (k0_pay15 (View.ld x2 (Rect.unit (s := S512x128) ![384, 0] S128x128.size inb_S512x128_S128x128_384_0))) (k0_pay19 (View.readAt (Elt F) arg5.view (Rect.unit (s := S512x128) ![384, 0] S128x128.size inb_S512x128_S128x128_384_0).toLoadRect (harg5.unread x5))) (Sbf.blk i 3#32)
          (View.readAt (Elt F) arg3.view (Rect.unit (s := S16384x128) (k0_off1 i 3#32) S384x128.size (k0_off1_inb i 3)).toLoadRect (harg3.unread x3)) (View.readAt (Elt F) arg4.view (Rect.unit (s := S16384x128) (k0_off1 i 3#32) S384x128.size (k0_off1_inb i 3)).toLoadRect (harg4.unread x4)) (Sbf.fresh i 3#32)⟩ := by sl_kernel_rfl
      _ = _ := by
        rw [whole_load arg6 harg6 x6 (by decide) _, whole_load arg7 harg7 x7 (by decide) _, whole_load arg8 harg8 x8 (by decide) _]
        rw [read_tile arg3 harg3 x3 (Sbf.blk i 0#32) j1 (k0_off1 i 0#32) rfl, read_tile arg4 harg4 x4 (Sbf.blk i 0#32) j1 (k0_off1 i 0#32) rfl, read_tile arg3 harg3 x3 (Sbf.blk i 1#32) j2 (k0_off1 i 1#32) rfl, read_tile arg4 harg4 x4 (Sbf.blk i 1#32) j2 (k0_off1 i 1#32) rfl, read_tile arg3 harg3 x3 (Sbf.blk i 2#32) j3 (k0_off1 i 2#32) rfl, read_tile arg4 harg4 x4 (Sbf.blk i 2#32) j3 (k0_off1 i 2#32) rfl, read_tile arg3 harg3 x3 (Sbf.blk i 3#32) j4 (k0_off1 i 3#32) rfl, read_tile arg4 harg4 x4 (Sbf.blk i 3#32) j4 (k0_off1 i 3#32) rfl]
        simp only [View.readAt_eq_ld, harg5.read_unread]; rfl
  unfold held owns
  isplitl [H3 H4 H6 H7 H8]
  · try dsimp only [env]
    isplitl [H3]; · (iexists _; isplitr; · (ipureintro; exact hf3)); iexact H3
    isplitl [H4]; · (iexists _; isplitr; · (ipureintro; exact hf4)); iexact H4
    isplitl [H6]; · (iexists _; isplitr; · (ipureintro; exact hf6)); iexact H6
    isplitl [H7]; · (iexists _; isplitr; · (ipureintro; exact hf7)); iexact H7
    iexists _; isplitr; · (ipureintro; exact hf8)
    iexact H8
  rw [show sumRun (env i x2 x3 x4 x5 x6 x7 x8 x9) 43 (sums0 (env i x2 x3 x4 x5 x6 x7 x8 x9)) = sumEnd (env i x2 x3 x4 x5 x6 x7 x8 x9) from by unfold sumEnd; rfl]

  iintro ⟨⟨%g3, %hg3, H3⟩, ⟨%g4, %hg4, H4⟩, ⟨%g6, %hg6, H6⟩, ⟨%g7, %hg7, H7⟩, ⟨%g8, %hg8, H8⟩⟩
  obtain rfl := harg3.eq_unread (show _ = x3 from hg3); obtain rfl := harg4.eq_unread (show _ = x4 from hg4); obtain rfl := harg6.eq_unread (show _ = x6 from hg6); obtain rfl := harg7.eq_unread (show _ = x7 from hg7); obtain rfl := harg8.eq_unread (show _ = x8 from hg8)
  dsimp only [Sums.flat]
  sl_exec
  iapply grad_call c ⟨arg3, harg3, arg4, harg4, arg6, harg6, arg7, harg7, arg8, harg8, arg9, harg9, arg13, harg13, arg14, harg14⟩ (env i x2 x3 x4 x5 x6 x7 x8 x9) (tots (env i x2 x3 x4 x5 x6 x7 x8 x9)) (grads0 (env i x2 x3 x4 x5 x6 x7 x8 x9) (tots (env i x2 x3 x4 x5 x6 x7 x8 x9)) dk dv) (fits_grads _ _ _ _) _ ?hb
  case hb =>
    calc _ = gradRec ⟨arg3, harg3, arg4, harg4, arg6, harg6, arg7, harg7, arg8, harg8, arg9, harg9, arg13, harg13, arg14, harg14⟩ ⟨i, k0_pay8, k0_pay9, k0_pay12 (View.ld x2 (Rect.unit (s := S512x128) ![0, 0] S128x128.size inb_S512x128_S128x128_0_0)), k0_pay13 (View.ld x2 (Rect.unit (s := S512x128) ![128, 0] S128x128.size inb_S512x128_S128x128_128_0)), k0_pay14 (View.ld x2 (Rect.unit (s := S512x128) ![256, 0] S128x128.size inb_S512x128_S128x128_256_0)), k0_pay15 (View.ld x2 (Rect.unit (s := S512x128) ![384, 0] S128x128.size inb_S512x128_S128x128_384_0)), k0_pay16 (View.readAt (Elt F) arg5.view (Rect.unit (s := S512x128) ![0, 0] S128x128.size inb_S512x128_S128x128_0_0).toLoadRect (harg5.unread x5)), k0_pay17 (View.readAt (Elt F) arg5.view (Rect.unit (s := S512x128) ![128, 0] S128x128.size inb_S512x128_S128x128_128_0).toLoadRect (harg5.unread x5)), k0_pay18 (View.readAt (Elt F) arg5.view (Rect.unit (s := S512x128) ![256, 0] S128x128.size inb_S512x128_S128x128_256_0).toLoadRect (harg5.unread x5)), k0_pay19 (View.readAt (Elt F) arg5.view (Rect.unit (s := S512x128) ![384, 0] S128x128.size inb_S512x128_S128x128_384_0).toLoadRect (harg5.unread x5)), x3, x4, x6, x7, x8, x9⟩ (tots (env i x2 x3 x4 x5 x6 x7 x8 x9)) ⟨
        gradFirst k0_pay8 k0_pay9 (View.readAt (Elt F) arg6.view (Rect.unit (s := S384x256) ![0, 0] S384x256.size inb_S384x256_S384x256_0_0).toLoadRect (harg6.unread x6)) (View.readAt (Elt F) arg7.view (Rect.unit (s := S384x256) ![0, 0] S384x256.size inb_S384x256_S384x256_0_0).toLoadRect (harg7.unread x7)) (View.readAt (Elt F) arg8.view (Rect.unit (s := S256x256) ![0, 0] S256x256.size inb_S256x256_S256x256_0_0).toLoadRect (harg8.unread x8)) (View.readAt (Elt F) arg9.view (Rect.unit (s := S256x256) ![0, 0] S256x256.size inb_S256x256_S256x256_0_0).toLoadRect (harg9.unread x9)) (k0_pay12 (View.ld x2 (Rect.unit (s := S512x128) ![0, 0] S128x128.size inb_S512x128_S128x128_0_0))) (k0_pay16 (View.readAt (Elt F) arg5.view (Rect.unit (s := S512x128) ![0, 0] S128x128.size inb_S512x128_S128x128_0_0).toLoadRect (harg5.unread x5))) (Sbf.blk i 0#32)
          (View.readAt (Elt F) arg3.view (Rect.unit (s := S16384x128) (k0_off1 i 0#32) S384x128.size (k0_off1_inb i 0)).toLoadRect (harg3.unread x3)) (View.readAt (Elt F) arg4.view (Rect.unit (s := S16384x128) (k0_off1 i 0#32) S384x128.size (k0_off1_inb i 0)).toLoadRect (harg4.unread x4)) (sumEnd (env i x2 x3 x4 x5 x6 x7 x8 x9)).s1.t0 (sumEnd (env i x2 x3 x4 x5 x6 x7 x8 x9)).s1.t1 (Sbf.fresh i 0#32) k0_pay20,
        gradFirst k0_pay8 k0_pay9 (View.readAt (Elt F) arg6.view (Rect.unit (s := S384x256) ![0, 0] S384x256.size inb_S384x256_S384x256_0_0).toLoadRect (harg6.unread x6)) (View.readAt (Elt F) arg7.view (Rect.unit (s := S384x256) ![0, 0] S384x256.size inb_S384x256_S384x256_0_0).toLoadRect (harg7.unread x7)) (View.readAt (Elt F) arg8.view (Rect.unit (s := S256x256) ![0, 0] S256x256.size inb_S256x256_S256x256_0_0).toLoadRect (harg8.unread x8)) (View.readAt (Elt F) arg9.view (Rect.unit (s := S256x256) ![0, 0] S256x256.size inb_S256x256_S256x256_0_0).toLoadRect (harg9.unread x9)) (k0_pay13 (View.ld x2 (Rect.unit (s := S512x128) ![128, 0] S128x128.size inb_S512x128_S128x128_128_0))) (k0_pay17 (View.readAt (Elt F) arg5.view (Rect.unit (s := S512x128) ![128, 0] S128x128.size inb_S512x128_S128x128_128_0).toLoadRect (harg5.unread x5))) (Sbf.blk i 1#32)
          (View.readAt (Elt F) arg3.view (Rect.unit (s := S16384x128) (k0_off1 i 1#32) S384x128.size (k0_off1_inb i 1)).toLoadRect (harg3.unread x3)) (View.readAt (Elt F) arg4.view (Rect.unit (s := S16384x128) (k0_off1 i 1#32) S384x128.size (k0_off1_inb i 1)).toLoadRect (harg4.unread x4)) (sumEnd (env i x2 x3 x4 x5 x6 x7 x8 x9)).s2.t0 (sumEnd (env i x2 x3 x4 x5 x6 x7 x8 x9)).s2.t1 (Sbf.fresh i 1#32) k0_pay20,
        gradFirst k0_pay8 k0_pay9 (View.readAt (Elt F) arg6.view (Rect.unit (s := S384x256) ![0, 0] S384x256.size inb_S384x256_S384x256_0_0).toLoadRect (harg6.unread x6)) (View.readAt (Elt F) arg7.view (Rect.unit (s := S384x256) ![0, 0] S384x256.size inb_S384x256_S384x256_0_0).toLoadRect (harg7.unread x7)) (View.readAt (Elt F) arg8.view (Rect.unit (s := S256x256) ![0, 0] S256x256.size inb_S256x256_S256x256_0_0).toLoadRect (harg8.unread x8)) (View.readAt (Elt F) arg9.view (Rect.unit (s := S256x256) ![0, 0] S256x256.size inb_S256x256_S256x256_0_0).toLoadRect (harg9.unread x9)) (k0_pay14 (View.ld x2 (Rect.unit (s := S512x128) ![256, 0] S128x128.size inb_S512x128_S128x128_256_0))) (k0_pay18 (View.readAt (Elt F) arg5.view (Rect.unit (s := S512x128) ![256, 0] S128x128.size inb_S512x128_S128x128_256_0).toLoadRect (harg5.unread x5))) (Sbf.blk i 2#32)
          (View.readAt (Elt F) arg3.view (Rect.unit (s := S16384x128) (k0_off1 i 2#32) S384x128.size (k0_off1_inb i 2)).toLoadRect (harg3.unread x3)) (View.readAt (Elt F) arg4.view (Rect.unit (s := S16384x128) (k0_off1 i 2#32) S384x128.size (k0_off1_inb i 2)).toLoadRect (harg4.unread x4)) (sumEnd (env i x2 x3 x4 x5 x6 x7 x8 x9)).s3.t0 (sumEnd (env i x2 x3 x4 x5 x6 x7 x8 x9)).s3.t1 (Sbf.fresh i 2#32) k0_pay20,
        gradFirst k0_pay8 k0_pay9 (View.readAt (Elt F) arg6.view (Rect.unit (s := S384x256) ![0, 0] S384x256.size inb_S384x256_S384x256_0_0).toLoadRect (harg6.unread x6)) (View.readAt (Elt F) arg7.view (Rect.unit (s := S384x256) ![0, 0] S384x256.size inb_S384x256_S384x256_0_0).toLoadRect (harg7.unread x7)) (View.readAt (Elt F) arg8.view (Rect.unit (s := S256x256) ![0, 0] S256x256.size inb_S256x256_S256x256_0_0).toLoadRect (harg8.unread x8)) (View.readAt (Elt F) arg9.view (Rect.unit (s := S256x256) ![0, 0] S256x256.size inb_S256x256_S256x256_0_0).toLoadRect (harg9.unread x9)) (k0_pay15 (View.ld x2 (Rect.unit (s := S512x128) ![384, 0] S128x128.size inb_S512x128_S128x128_384_0))) (k0_pay19 (View.readAt (Elt F) arg5.view (Rect.unit (s := S512x128) ![384, 0] S128x128.size inb_S512x128_S128x128_384_0).toLoadRect (harg5.unread x5))) (Sbf.blk i 3#32)
          (View.readAt (Elt F) arg3.view (Rect.unit (s := S16384x128) (k0_off1 i 3#32) S384x128.size (k0_off1_inb i 3)).toLoadRect (harg3.unread x3)) (View.readAt (Elt F) arg4.view (Rect.unit (s := S16384x128) (k0_off1 i 3#32) S384x128.size (k0_off1_inb i 3)).toLoadRect (harg4.unread x4)) (sumEnd (env i x2 x3 x4 x5 x6 x7 x8 x9)).s4.t0 (sumEnd (env i x2 x3 x4 x5 x6 x7 x8 x9)).s4.t1 (Sbf.fresh i 3#32) k0_pay20, dk, dv⟩ := by sl_kernel_rfl
      _ = _ := by
        rw [whole_load arg6 harg6 x6 (by decide) _, whole_load arg7 harg7 x7 (by decide) _, whole_load arg8 harg8 x8 (by decide) _, whole_load arg9 harg9 x9 (by decide) _]
        rw [read_tile arg3 harg3 x3 (Sbf.blk i 0#32) j1 (k0_off1 i 0#32) rfl, read_tile arg4 harg4 x4 (Sbf.blk i 0#32) j1 (k0_off1 i 0#32) rfl, read_tile arg3 harg3 x3 (Sbf.blk i 1#32) j2 (k0_off1 i 1#32) rfl, read_tile arg4 harg4 x4 (Sbf.blk i 1#32) j2 (k0_off1 i 1#32) rfl, read_tile arg3 harg3 x3 (Sbf.blk i 2#32) j3 (k0_off1 i 2#32) rfl, read_tile arg4 harg4 x4 (Sbf.blk i 2#32) j3 (k0_off1 i 2#32) rfl, read_tile arg3 harg3 x3 (Sbf.blk i 3#32) j4 (k0_off1 i 3#32) rfl, read_tile arg4 harg4 x4 (Sbf.blk i 3#32) j4 (k0_off1 i 3#32) rfl]
        simp only [View.readAt_eq_ld, harg5.read_unread]; rfl
  unfold heldG owns
  isplitl [H3 H4 H6 H7 H8 H9 H13 H14]
  · try dsimp only [env]
    isplitl [H3]; · (iexists _; isplitr; · (ipureintro; exact harg3.read_unread _)); iexact H3
    isplitl [H4]; · (iexists _; isplitr; · (ipureintro; exact harg4.read_unread _)); iexact H4
    isplitl [H6]; · (iexists _; isplitr; · (ipureintro; exact harg6.read_unread _)); iexact H6
    isplitl [H7]; · (iexists _; isplitr; · (ipureintro; exact harg7.read_unread _)); iexact H7
    isplitl [H8]; · (iexists _; isplitr; · (ipureintro; exact harg8.read_unread _)); iexact H8
    isplitl [H9]; · (iexists _; isplitr; · (ipureintro; exact harg9.read_unread _)); iexact H9
    isplitl [H13]
    · iexists _; isplitr; swap; · iexact H13
      ipureintro
      refine Eq.trans (b := View.read (Elt F) arg13.view (arg13.view.writes (Elt F) (harg13.unread dk) (four arg13 (harg13.unread dk) (k0_off1 i 0#32) (k0_off1 i 1#32) (k0_off1 i 2#32) (k0_off1 i 3#32) (k0_off1_inb i 0) (k0_off1_inb i 1) (k0_off1_inb i 2) (k0_off1_inb i 3)
          (addK k0_pay8 k0_pay9 (View.readAt (Elt F) arg6.view (Rect.unit (s := S384x256) ![0, 0] S384x256.size inb_S384x256_S384x256_0_0).toLoadRect (harg6.unread x6)) (View.readAt (Elt F) arg7.view (Rect.unit (s := S384x256) ![0, 0] S384x256.size inb_S384x256_S384x256_0_0).toLoadRect (harg7.unread x7)) (View.readAt (Elt F) arg8.view (Rect.unit (s := S256x256) ![0, 0] S256x256.size inb_S256x256_S256x256_0_0).toLoadRect (harg8.unread x8)) (View.readAt (Elt F) arg9.view (Rect.unit (s := S256x256) ![0, 0] S256x256.size inb_S256x256_S256x256_0_0).toLoadRect (harg9.unread x9)) (k0_pay12 (View.ld x2 (Rect.unit (s := S512x128) ![0, 0] S128x128.size inb_S512x128_S128x128_0_0))) (k0_pay16 (View.readAt (Elt F) arg5.view (Rect.unit (s := S512x128) ![0, 0] S128x128.size inb_S512x128_S128x128_0_0).toLoadRect (harg5.unread x5))) (Sbf.blk i 0#32) (View.readAt (Elt F) arg3.view (Rect.unit (s := S16384x128) (k0_off1 i 0#32) S384x128.size (k0_off1_inb i 0)).toLoadRect (harg3.unread x3)) (View.readAt (Elt F) arg4.view (Rect.unit (s := S16384x128) (k0_off1 i 0#32) S384x128.size (k0_off1_inb i 0)).toLoadRect (harg4.unread x4)) (sumEnd (env i x2 x3 x4 x5 x6 x7 x8 x9)).s1.t0 (sumEnd (env i x2 x3 x4 x5 x6 x7 x8 x9)).s1.t1 (Sbf.fresh i 0#32) k0_pay20 k0_pay20)
          (addK k0_pay8 k0_pay9 (View.readAt (Elt F) arg6.view (Rect.unit (s := S384x256) ![0, 0] S384x256.size inb_S384x256_S384x256_0_0).toLoadRect (harg6.unread x6)) (View.readAt (Elt F) arg7.view (Rect.unit (s := S384x256) ![0, 0] S384x256.size inb_S384x256_S384x256_0_0).toLoadRect (harg7.unread x7)) (View.readAt (Elt F) arg8.view (Rect.unit (s := S256x256) ![0, 0] S256x256.size inb_S256x256_S256x256_0_0).toLoadRect (harg8.unread x8)) (View.readAt (Elt F) arg9.view (Rect.unit (s := S256x256) ![0, 0] S256x256.size inb_S256x256_S256x256_0_0).toLoadRect (harg9.unread x9)) (k0_pay13 (View.ld x2 (Rect.unit (s := S512x128) ![128, 0] S128x128.size inb_S512x128_S128x128_128_0))) (k0_pay17 (View.readAt (Elt F) arg5.view (Rect.unit (s := S512x128) ![128, 0] S128x128.size inb_S512x128_S128x128_128_0).toLoadRect (harg5.unread x5))) (Sbf.blk i 1#32) (View.readAt (Elt F) arg3.view (Rect.unit (s := S16384x128) (k0_off1 i 1#32) S384x128.size (k0_off1_inb i 1)).toLoadRect (harg3.unread x3)) (View.readAt (Elt F) arg4.view (Rect.unit (s := S16384x128) (k0_off1 i 1#32) S384x128.size (k0_off1_inb i 1)).toLoadRect (harg4.unread x4)) (sumEnd (env i x2 x3 x4 x5 x6 x7 x8 x9)).s2.t0 (sumEnd (env i x2 x3 x4 x5 x6 x7 x8 x9)).s2.t1 (Sbf.fresh i 1#32) k0_pay20 k0_pay20)
          (addK k0_pay8 k0_pay9 (View.readAt (Elt F) arg6.view (Rect.unit (s := S384x256) ![0, 0] S384x256.size inb_S384x256_S384x256_0_0).toLoadRect (harg6.unread x6)) (View.readAt (Elt F) arg7.view (Rect.unit (s := S384x256) ![0, 0] S384x256.size inb_S384x256_S384x256_0_0).toLoadRect (harg7.unread x7)) (View.readAt (Elt F) arg8.view (Rect.unit (s := S256x256) ![0, 0] S256x256.size inb_S256x256_S256x256_0_0).toLoadRect (harg8.unread x8)) (View.readAt (Elt F) arg9.view (Rect.unit (s := S256x256) ![0, 0] S256x256.size inb_S256x256_S256x256_0_0).toLoadRect (harg9.unread x9)) (k0_pay14 (View.ld x2 (Rect.unit (s := S512x128) ![256, 0] S128x128.size inb_S512x128_S128x128_256_0))) (k0_pay18 (View.readAt (Elt F) arg5.view (Rect.unit (s := S512x128) ![256, 0] S128x128.size inb_S512x128_S128x128_256_0).toLoadRect (harg5.unread x5))) (Sbf.blk i 2#32) (View.readAt (Elt F) arg3.view (Rect.unit (s := S16384x128) (k0_off1 i 2#32) S384x128.size (k0_off1_inb i 2)).toLoadRect (harg3.unread x3)) (View.readAt (Elt F) arg4.view (Rect.unit (s := S16384x128) (k0_off1 i 2#32) S384x128.size (k0_off1_inb i 2)).toLoadRect (harg4.unread x4)) (sumEnd (env i x2 x3 x4 x5 x6 x7 x8 x9)).s3.t0 (sumEnd (env i x2 x3 x4 x5 x6 x7 x8 x9)).s3.t1 (Sbf.fresh i 2#32) k0_pay20 k0_pay20)
          (addK k0_pay8 k0_pay9 (View.readAt (Elt F) arg6.view (Rect.unit (s := S384x256) ![0, 0] S384x256.size inb_S384x256_S384x256_0_0).toLoadRect (harg6.unread x6)) (View.readAt (Elt F) arg7.view (Rect.unit (s := S384x256) ![0, 0] S384x256.size inb_S384x256_S384x256_0_0).toLoadRect (harg7.unread x7)) (View.readAt (Elt F) arg8.view (Rect.unit (s := S256x256) ![0, 0] S256x256.size inb_S256x256_S256x256_0_0).toLoadRect (harg8.unread x8)) (View.readAt (Elt F) arg9.view (Rect.unit (s := S256x256) ![0, 0] S256x256.size inb_S256x256_S256x256_0_0).toLoadRect (harg9.unread x9)) (k0_pay15 (View.ld x2 (Rect.unit (s := S512x128) ![384, 0] S128x128.size inb_S512x128_S128x128_384_0))) (k0_pay19 (View.readAt (Elt F) arg5.view (Rect.unit (s := S512x128) ![384, 0] S128x128.size inb_S512x128_S128x128_384_0).toLoadRect (harg5.unread x5))) (Sbf.blk i 3#32) (View.readAt (Elt F) arg3.view (Rect.unit (s := S16384x128) (k0_off1 i 3#32) S384x128.size (k0_off1_inb i 3)).toLoadRect (harg3.unread x3)) (View.readAt (Elt F) arg4.view (Rect.unit (s := S16384x128) (k0_off1 i 3#32) S384x128.size (k0_off1_inb i 3)).toLoadRect (harg4.unread x4)) (sumEnd (env i x2 x3 x4 x5 x6 x7 x8 x9)).s4.t0 (sumEnd (env i x2 x3 x4 x5 x6 x7 x8 x9)).s4.t1 (Sbf.fresh i 3#32) k0_pay20 k0_pay20)))) (by sl_kernel_rfl) ((read_four arg13 harg13 dk j1 j2 j3 j4 _ _ _ _ rfl rfl rfl rfl _ _ _ _ _ _ _ _).trans ?_)
      rw [whole_load arg6 harg6 x6 (by decide) _, whole_load arg7 harg7 x7 (by decide) _, whole_load arg8 harg8 x8 (by decide) _, whole_load arg9 harg9 x9 (by decide) _]
      rw [read_tile arg3 harg3 x3 (Sbf.blk i 0#32) j1 (k0_off1 i 0#32) rfl, read_tile arg4 harg4 x4 (Sbf.blk i 0#32) j1 (k0_off1 i 0#32) rfl, read_tile arg3 harg3 x3 (Sbf.blk i 1#32) j2 (k0_off1 i 1#32) rfl, read_tile arg4 harg4 x4 (Sbf.blk i 1#32) j2 (k0_off1 i 1#32) rfl, read_tile arg3 harg3 x3 (Sbf.blk i 2#32) j3 (k0_off1 i 2#32) rfl, read_tile arg4 harg4 x4 (Sbf.blk i 2#32) j3 (k0_off1 i 2#32) rfl, read_tile arg3 harg3 x3 (Sbf.blk i 3#32) j4 (k0_off1 i 3#32) rfl, read_tile arg4 harg4 x4 (Sbf.blk i 3#32) j4 (k0_off1 i 3#32) rfl]
      simp only [View.readAt_eq_ld, harg5.read_unread]; rfl
    · iexists _; isplitr; swap; · iexact H14
      ipureintro
      refine Eq.trans (b := View.read (Elt F) arg14.view (arg14.view.writes (Elt F) (harg14.unread dv) (four arg14 (harg14.unread dv) (k0_off1 i 0#32) (k0_off1 i 1#32) (k0_off1 i 2#32) (k0_off1 i 3#32) (k0_off1_inb i 0) (k0_off1_inb i 1) (k0_off1_inb i 2) (k0_off1_inb i 3)
          (addV k0_pay8 k0_pay9 (View.readAt (Elt F) arg6.view (Rect.unit (s := S384x256) ![0, 0] S384x256.size inb_S384x256_S384x256_0_0).toLoadRect (harg6.unread x6)) (View.readAt (Elt F) arg7.view (Rect.unit (s := S384x256) ![0, 0] S384x256.size inb_S384x256_S384x256_0_0).toLoadRect (harg7.unread x7)) (View.readAt (Elt F) arg8.view (Rect.unit (s := S256x256) ![0, 0] S256x256.size inb_S256x256_S256x256_0_0).toLoadRect (harg8.unread x8)) (k0_pay12 (View.ld x2 (Rect.unit (s := S512x128) ![0, 0] S128x128.size inb_S512x128_S128x128_0_0))) (k0_pay16 (View.readAt (Elt F) arg5.view (Rect.unit (s := S512x128) ![0, 0] S128x128.size inb_S512x128_S128x128_0_0).toLoadRect (harg5.unread x5))) (Sbf.blk i 0#32) (View.readAt (Elt F) arg3.view (Rect.unit (s := S16384x128) (k0_off1 i 0#32) S384x128.size (k0_off1_inb i 0)).toLoadRect (harg3.unread x3)) (Sbf.fresh i 0#32))
          (addV k0_pay8 k0_pay9 (View.readAt (Elt F) arg6.view (Rect.unit (s := S384x256) ![0, 0] S384x256.size inb_S384x256_S384x256_0_0).toLoadRect (harg6.unread x6)) (View.readAt (Elt F) arg7.view (Rect.unit (s := S384x256) ![0, 0] S384x256.size inb_S384x256_S384x256_0_0).toLoadRect (harg7.unread x7)) (View.readAt (Elt F) arg8.view (Rect.unit (s := S256x256) ![0, 0] S256x256.size inb_S256x256_S256x256_0_0).toLoadRect (harg8.unread x8)) (k0_pay13 (View.ld x2 (Rect.unit (s := S512x128) ![128, 0] S128x128.size inb_S512x128_S128x128_128_0))) (k0_pay17 (View.readAt (Elt F) arg5.view (Rect.unit (s := S512x128) ![128, 0] S128x128.size inb_S512x128_S128x128_128_0).toLoadRect (harg5.unread x5))) (Sbf.blk i 1#32) (View.readAt (Elt F) arg3.view (Rect.unit (s := S16384x128) (k0_off1 i 1#32) S384x128.size (k0_off1_inb i 1)).toLoadRect (harg3.unread x3)) (Sbf.fresh i 1#32))
          (addV k0_pay8 k0_pay9 (View.readAt (Elt F) arg6.view (Rect.unit (s := S384x256) ![0, 0] S384x256.size inb_S384x256_S384x256_0_0).toLoadRect (harg6.unread x6)) (View.readAt (Elt F) arg7.view (Rect.unit (s := S384x256) ![0, 0] S384x256.size inb_S384x256_S384x256_0_0).toLoadRect (harg7.unread x7)) (View.readAt (Elt F) arg8.view (Rect.unit (s := S256x256) ![0, 0] S256x256.size inb_S256x256_S256x256_0_0).toLoadRect (harg8.unread x8)) (k0_pay14 (View.ld x2 (Rect.unit (s := S512x128) ![256, 0] S128x128.size inb_S512x128_S128x128_256_0))) (k0_pay18 (View.readAt (Elt F) arg5.view (Rect.unit (s := S512x128) ![256, 0] S128x128.size inb_S512x128_S128x128_256_0).toLoadRect (harg5.unread x5))) (Sbf.blk i 2#32) (View.readAt (Elt F) arg3.view (Rect.unit (s := S16384x128) (k0_off1 i 2#32) S384x128.size (k0_off1_inb i 2)).toLoadRect (harg3.unread x3)) (Sbf.fresh i 2#32))
          (addV k0_pay8 k0_pay9 (View.readAt (Elt F) arg6.view (Rect.unit (s := S384x256) ![0, 0] S384x256.size inb_S384x256_S384x256_0_0).toLoadRect (harg6.unread x6)) (View.readAt (Elt F) arg7.view (Rect.unit (s := S384x256) ![0, 0] S384x256.size inb_S384x256_S384x256_0_0).toLoadRect (harg7.unread x7)) (View.readAt (Elt F) arg8.view (Rect.unit (s := S256x256) ![0, 0] S256x256.size inb_S256x256_S256x256_0_0).toLoadRect (harg8.unread x8)) (k0_pay15 (View.ld x2 (Rect.unit (s := S512x128) ![384, 0] S128x128.size inb_S512x128_S128x128_384_0))) (k0_pay19 (View.readAt (Elt F) arg5.view (Rect.unit (s := S512x128) ![384, 0] S128x128.size inb_S512x128_S128x128_384_0).toLoadRect (harg5.unread x5))) (Sbf.blk i 3#32) (View.readAt (Elt F) arg3.view (Rect.unit (s := S16384x128) (k0_off1 i 3#32) S384x128.size (k0_off1_inb i 3)).toLoadRect (harg3.unread x3)) (Sbf.fresh i 3#32))))) (by sl_kernel_rfl) ((read_four arg14 harg14 dv j1 j2 j3 j4 _ _ _ _ rfl rfl rfl rfl _ _ _ _ _ _ _ _).trans ?_)
      rw [whole_load arg6 harg6 x6 (by decide) _, whole_load arg7 harg7 x7 (by decide) _, whole_load arg8 harg8 x8 (by decide) _]
      rw [read_tile arg3 harg3 x3 (Sbf.blk i 0#32) j1 (k0_off1 i 0#32) rfl, read_tile arg3 harg3 x3 (Sbf.blk i 1#32) j2 (k0_off1 i 1#32) rfl, read_tile arg3 harg3 x3 (Sbf.blk i 2#32) j3 (k0_off1 i 2#32) rfl, read_tile arg3 harg3 x3 (Sbf.blk i 3#32) j4 (k0_off1 i 3#32) rfl]
      simp only [View.readAt_eq_ld, harg5.read_unread]; rfl
  rw [show gradRun (env i x2 x3 x4 x5 x6 x7 x8 x9) (tots (env i x2 x3 x4 x5 x6 x7 x8 x9)) 43 (grads0 (env i x2 x3 x4 x5 x6 x7 x8 x9) (tots (env i x2 x3 x4 x5 x6 x7 x8 x9)) dk dv) = gradEnd (env i x2 x3 x4 x5 x6 x7 x8 x9) dk dv from by unfold gradEnd; rfl]

  iintro ⟨⟨%e3, %he3, H3⟩, ⟨%e4, %he4, H4⟩, ⟨%e6, %he6, H6⟩, ⟨%e7, %he7, H7⟩, ⟨%e8, %he8, H8⟩, ⟨%e9, %he9, H9⟩, ⟨%e13, %he13, H13⟩, ⟨%e14, %he14, H14⟩⟩
  dsimp only [Grads.flat]
  icases H11 with ⟨%f11, %hf11, H11⟩; icases H12 with ⟨%f12, %hf12, H12⟩
  by_cases h2 : k0_cond2 i = 1#1
  · have hp11 : 0 < (arg11.slice (Rect.unit (s := S16384x256) (k0_off10 i) S16384x128.size (k0_off10_inb i h2)) (fun _ => rfl)).view.dmaCredit := View.dmaCredit_pos _ (show 0 < S16384x128.numel by decide)
    have hp12 : 0 < (arg12.slice (Rect.unit (s := S16384x256) (k0_off10 i) S16384x128.size (k0_off10_inb i h2)) (fun _ => rfl)).view.dmaCredit := View.dmaCredit_pos _ (show 0 < S16384x128.numel by decide)
    sl_exec (disch := sl_exact h2)
    sl_step
    iapply Hk
    isplitl [H2]; · iexact H2
    isplitl [H3]; · (iexists _; isplitr; · (ipureintro; exact he3)); iexact H3
    isplitl [H4]; · (iexists _; isplitr; · (ipureintro; exact he4)); iexact H4
    isplitl [H5]; · (iexists _; isplitr; · (ipureintro; exact harg5.read_unread _)); iexact H5
    isplitl [H6]; · (iexists _; isplitr; · (ipureintro; exact he6)); iexact H6
    isplitl [H7]; · (iexists _; isplitr; · (ipureintro; exact he7)); iexact H7
    isplitl [H8]; · (iexists _; isplitr; · (ipureintro; exact he8)); iexact H8
    isplitl [H9]; · (iexists _; isplitr; · (ipureintro; exact he9)); iexact H9
    isplitl [H10]; · (iexists f10; iexact H10)
    isplitl [H13]; · (iexists _; isplitr; · (ipureintro; exact he13)); iexact H13
    isplitl [H14]; · (iexists _; isplitr; · (ipureintro; exact he14)); iexact H14
    isplitl [H11]
    · iexists _; isplitr; swap; · iexact H11
      ipureintro
      unfold copied; rw [dif_pos h2]
      unfold body_ok.sl.H11_w0
      refine (copy_read i h2 arg11 _ arg13 f11 e13).trans ?_
      rw [hf11, show View.read (Elt F) arg13.view e13 = _ from he13]
    isplitl [H12]
    · iexists _; isplitr; swap; · iexact H12
      ipureintro
      unfold copied; rw [dif_pos h2]
      unfold body_ok.sl.H12_w1
      refine (copy_read i h2 arg12 _ arg14 f12 e14).trans ?_
      rw [hf12, show View.read (Elt F) arg14.view e14 = _ from he14]
    isplitl [Hs0]; · iexact Hs0
    isplitl [Hs1]; · iexact Hs1
    iexists _; iexact Ho
  · sl_exec (disch := sl_exact h2)
    sl_step
    iapply Hk
    isplitl [H2]; · iexact H2
    isplitl [H3]; · (iexists _; isplitr; · (ipureintro; exact he3)); iexact H3
    isplitl [H4]; · (iexists _; isplitr; · (ipureintro; exact he4)); iexact H4
    isplitl [H5]; · (iexists _; isplitr; · (ipureintro; exact harg5.read_unread _)); iexact H5
    isplitl [H6]; · (iexists _; isplitr; · (ipureintro; exact he6)); iexact H6
    isplitl [H7]; · (iexists _; isplitr; · (ipureintro; exact he7)); iexact H7
    isplitl [H8]; · (iexists _; isplitr; · (ipureintro; exact he8)); iexact H8
    isplitl [H9]; · (iexists _; isplitr; · (ipureintro; exact he9)); iexact H9
    isplitl [H10]; · (iexists f10; iexact H10)
    isplitl [H13]; · (iexists _; isplitr; · (ipureintro; exact he13)); iexact H13
    isplitl [H14]; · (iexists _; isplitr; · (ipureintro; exact he14)); iexact H14
    isplitl [H11]; · (iexists _; isplitr; · (ipureintro; unfold copied; rw [dif_neg h2]; exact hf11)); iexact H11
    isplitl [H12]; · (iexists _; isplitr; · (ipureintro; unfold copied; rw [dif_neg h2]; exact hf12)); iexact H12
    isplitl [Hs0]; · iexact Hs0
    isplitl [Hs1]; · iexact Hs1
    iexists _; iexact Ho

end Cert.Proof.Sb

end
-- ==== Proof.SbRun.lean ====
module

public import proofs.«01_k».proof.Proof.Gen.SbKernelIdeal.Launch
public import proofs.«01_k».proof.Proof.Gen.SbKernelIdeal.Skeleton
public import proofs.«01_k».proof.Proof.Gen.SbKernelIdeal.Points
public import proofs.«01_k».proof.Proof.SbBody
public import Idealize.ShloMosaic.Lib.Pipeline.FrameValue
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp
public import Idealize.ShloMosaic.Lib.Claim

@[expose] public section

set_option maxRecDepth 16384

noncomputable section

namespace Cert.Proof.Sb

open Cert.SbKernelIdeal Cert.SbKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- The query gradients do not depend on what the two arrays held. -/
theorem gradRun_alike (e : Env F) (p : Tots F) : ∀ (k : ℕ) (s1 s2 s3 s4 : Grad F) (dk dv dk' dv' : Vec F S16384x128 .f32),
    (gradRun e p k ⟨s1, s2, s3, s4, dk, dv⟩).s1 = (gradRun e p k ⟨s1, s2, s3, s4, dk', dv'⟩).s1
    ∧ (gradRun e p k ⟨s1, s2, s3, s4, dk, dv⟩).s2 = (gradRun e p k ⟨s1, s2, s3, s4, dk', dv'⟩).s2
    ∧ (gradRun e p k ⟨s1, s2, s3, s4, dk, dv⟩).s3 = (gradRun e p k ⟨s1, s2, s3, s4, dk', dv'⟩).s3
    ∧ (gradRun e p k ⟨s1, s2, s3, s4, dk, dv⟩).s4 = (gradRun e p k ⟨s1, s2, s3, s4, dk', dv'⟩).s4
  | 0, s1, s2, s3, s4, dk, dv, dk', dv' => ⟨rfl, rfl, rfl, rfl⟩
  | k + 1, s1, s2, s3, s4, dk, dv, dk', dv' => by
    unfold gradRun
    by_cases h : Sbf.goOn (Grads.four ⟨s1, s2, s3, s4, dk, dv⟩)
    · rw [if_pos h, if_pos (show Sbf.goOn (Grads.four ⟨s1, s2, s3, s4, dk', dv'⟩) from h)]
      exact gradRun_alike e p k _ _ _ _ _ _ _ _
    · rw [if_neg h, if_neg (show ¬ Sbf.goOn (Grads.four ⟨s1, s2, s3, s4, dk', dv'⟩) from h)]
      exact ⟨rfl, rfl, rfl, rfl⟩

theorem gradRun_agree (e : Env F) (p : Tots F) (k : ℕ) (s s' : Grads F) (h1 : s.s1 = s'.s1) (h2 : s.s2 = s'.s2) (h3 : s.s3 = s'.s3) (h4 : s.s4 = s'.s4) :
    (gradRun e p k s).s1 = (gradRun e p k s').s1 ∧ (gradRun e p k s).s2 = (gradRun e p k s').s2
    ∧ (gradRun e p k s).s3 = (gradRun e p k s').s3 ∧ (gradRun e p k s).s4 = (gradRun e p k s').s4 := by
  cases s; cases s'
  dsimp only at h1 h2 h3 h4
  subst h1 h2 h3 h4
  exact gradRun_alike e p k _ _ _ _ _ _ _ _

/-- Nor do the stores of a point. -/
theorem dqPieces_alike (e : Env F) (dk dv dk' dv' : Vec F S16384x128 .f32) : dqPieces e dk dv = dqPieces e dk' dv' := by
  obtain ⟨h1, h2, h3, h4⟩ := gradRun_agree e (tots e) 43 (grads0 e (tots e) dk dv) (grads0 e (tots e) dk' dv') rfl rfl rfl rfl
  unfold dqPieces gradEnd
  rw [h1, h2, h3, h4]

variable (m : (ℓ : Loc nD τ sig) → Buf (Elt F) ℓ) (ρ : Dev nD → PrngReg)

/-- The buffers as the kernel finds them: after the host lines. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 1600000 in
/-- The host lines, then the kernel. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! No host line writes an argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- A window's block at a point, read off its array. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-! The staging memrefs at a point. -/
abbrev ms0 (t : Fin (cfg0 (F := F)).N) : Memref sig .tc .vmem S512x128 .f32 := win0_0.stage ((cfg0 (F := F)).slots t 0)
abbrev hs0 (t : Fin (cfg0 (F := F)).N) : (ms0 t).IsWhole := hstage0_0 (((cfg0 (F := F)).slots t 0).cast nbuf0_0)
abbrev ms1 (t : Fin (cfg0 (F := F)).N) : Memref sig .tc .vmem S16384x128 .f32 := win0_1.stage ((cfg0 (F := F)).slots t 1)
abbrev hs1 (t : Fin (cfg0 (F := F)).N) : (ms1 t).IsWhole := hstage0_1 (((cfg0 (F := F)).slots t 1).cast nbuf0_1)
abbrev ms2 (t : Fin (cfg0 (F := F)).N) : Memref sig .tc .vmem S16384x128 .f32 := win0_2.stage ((cfg0 (F := F)).slots t 2)
abbrev hs2 (t : Fin (cfg0 (F := F)).N) : (ms2 t).IsWhole := hstage0_2 (((cfg0 (F := F)).slots t 2).cast nbuf0_2)
abbrev ms3 (t : Fin (cfg0 (F := F)).N) : Memref sig .tc .vmem S512x128 .f32 := win0_3.stage ((cfg0 (F := F)).slots t 3)
abbrev hs3 (t : Fin (cfg0 (F := F)).N) : (ms3 t).IsWhole := hstage0_3 (((cfg0 (F := F)).slots t 3).cast nbuf0_3)
abbrev ms4 (t : Fin (cfg0 (F := F)).N) : Memref sig .tc .vmem S384x256 .i32 := win0_4.stage ((cfg0 (F := F)).slots t 4)
abbrev hs4 (t : Fin (cfg0 (F := F)).N) : (ms4 t).IsWhole := hstage0_4 (((cfg0 (F := F)).slots t 4).cast nbuf0_4)
abbrev ms5 (t : Fin (cfg0 (F := F)).N) : Memref sig .tc .vmem S384x256 .i32 := win0_5.stage ((cfg0 (F := F)).slots t 5)
abbrev hs5 (t : Fin (cfg0 (F := F)).N) : (ms5 t).IsWhole := hstage0_5 (((cfg0 (F := F)).slots t 5).cast nbuf0_5)
abbrev ms6 (t : Fin (cfg0 (F := F)).N) : Memref sig .tc .vmem S256x256 .bf16 := win0_6.stage ((cfg0 (F := F)).slots t 6)
abbrev hs6 (t : Fin (cfg0 (F := F)).N) : (ms6 t).IsWhole := hstage0_6 (((cfg0 (F := F)).slots t 6).cast nbuf0_6)
abbrev ms7 (t : Fin (cfg0 (F := F)).N) : Memref sig .tc .vmem S256x256 .bf16 := win0_7.stage ((cfg0 (F := F)).slots t 7)
abbrev hs7 (t : Fin (cfg0 (F := F)).N) : (ms7 t).IsWhole := hstage0_7 (((cfg0 (F := F)).slots t 7).cast nbuf0_7)
abbrev ms8 (t : Fin (cfg0 (F := F)).N) : Memref sig .tc .vmem S512x128 .f32 := win0_8.stage ((cfg0 (F := F)).slots t 8)
abbrev hs8 (t : Fin (cfg0 (F := F)).N) : (ms8 t).IsWhole := hstage0_8 (((cfg0 (F := F)).slots t 8).cast nbuf0_8)

/-! The two arrays that the points add to, and the two results that the body writes itself. -/
abbrev sc0 : Memref sig .tc .vmem S16384x128 .f32 := Memref.whole cc0_scratch0
abbrev sc1 : Memref sig .tc .vmem S16384x128 .f32 := Memref.whole cc0_scratch1
abbrev hb1 : Memref sig .tc .hbm S16384x256 .f32 := Memref.whole main_v35_1
abbrev hb2 : Memref sig .tc .hbm S16384x256 .f32 := Memref.whole main_v35_2

/-- The body's two counters. -/
abbrev osem0 : Fin 2 → SemLoc sig := fun j => (![SemLoc.dma 14, SemLoc.dma 15] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 14) 0 ∗ semVal ((c : Thread nD τ), SemLoc.dma 15) 0) := by
  rw [Pipeline.ownSems0_eq_of_list c osem0 [0, 1] (by decide) (by decide)]; rfl
/-- The results that the body writes. -/
def R0 : Finset (Ref sig .tc) := {main_v35_1, main_v35_2}
theorem R0_sub : R0 ⊆ Pipeline.restRefs sig spec0 \ ∅ := by decide

/-- What a point reads. -/
def envAt (c : Dev nD) (t : Fin (cfg0 (F := F)).N) : Env F := env (grid0.coords t) (iblk m c 0 t) (iblk m c 1 t) (iblk m c 2 t) (iblk m c 3 t) (iblk m c 4 t) (iblk m c 5 t) (iblk m c 6 t) (iblk m c 7 t)

/-- What the two arrays and the two results hold between points. -/
structure Kept (F : FTy → Type) where
  dk : Vec F S16384x128 .f32
  dv : Vec F S16384x128 .f32
  g1 : Vec F S16384x256 .f32
  g2 : Vec F S16384x256 .f32

/-- One point. -/
def next (c : Dev nD) (t : Fin (cfg0 (F := F)).N) (s : Kept F) : Kept F where
  dk := (gradEnd (envAt m c t) (start0 (grid0.coords t) k0_pay10 s.dk) (start0 (grid0.coords t) k0_pay11 s.dv)).dk
  dv := (gradEnd (envAt m c t) (start0 (grid0.coords t) k0_pay10 s.dk) (start0 (grid0.coords t) k0_pay11 s.dv)).dv
  g1 := copied (grid0.coords t) (gradEnd (envAt m c t) (start0 (grid0.coords t) k0_pay10 s.dk) (start0 (grid0.coords t) k0_pay11 s.dv)).dk s.g1
  g2 := copied (grid0.coords t) (gradEnd (envAt m c t) (start0 (grid0.coords t) k0_pay10 s.dk) (start0 (grid0.coords t) k0_pay11 s.dv)).dv s.g2

/-- The first `n` points, from any contents of the two arrays. -/
def keptAt (c : Dev nD) (x y : Vec F S16384x128 .f32) : ℕ → Kept F
  | 0 => ⟨x, y, V m c main_v35_1, V m c main_v35_2⟩
  | n + 1 => if h : n < (cfg0 (F := F)).N then next m c ⟨n, h⟩ (keptAt c x y n) else keptAt c x y n

theorem keptAt_succ (c : Dev nD) (x y : Vec F S16384x128 .f32) (t : Fin (cfg0 (F := F)).N) : keptAt m c x y (t.val + 1) = next m c t (keptAt m c x y t.val) := by
  rw [keptAt, dif_pos t.isLt]

/-- The first point starts the arrays anew. -/
theorem first_isFirst (h : 0 < grid0.N) : isFirst (grid0.coords ⟨0, h⟩) := by unfold isFirst; decide +revert

/-- So what they held before does not matter. -/
theorem keptAt_any (c : Dev nD) (x y : Vec F S16384x128 .f32) : ∀ n, keptAt m c x y (n + 1) = keptAt m c k0_pay10 k0_pay11 (n + 1)
  | 0 => by
    have h0 : 0 < (cfg0 (F := F)).N := by rw [show (cfg0 (F := F)).N = 64 from N_0]; decide
    simp only [keptAt, dif_pos h0, next, start0, if_pos (first_isFirst h0)]
  | n + 1 => by rw [keptAt, keptAt_any c x y n]; conv_rhs => rw [keptAt]

/-- A buffer through which the output block is stated. -/
abbrev VO : View sig .tc .vmem S512x128 .f32 := (Memref.whole cc0_stg8_0 : Memref sig .tc .vmem S512x128 .f32).view

/-- The stores of a point. -/
abbrev pieces (c : Dev nD) (t : Fin (cfg0 (F := F)).N) : List (View.Piece (Elt F) S512x128 .f32) := dqPieces (envAt m c t) k0_pay10 k0_pay11

/-- They cover the block. -/
theorem cover (c : Dev nD) (t : Fin (cfg0 (F := F)).N) (y : S512x128.Idx) : ∃ pc ∈ pieces m c t, y ∈ pc.1.set :=
  View.cover_of_tiledL (pieces m c t) S128x128.size (by sl_kernel_rfl) y

/-- What a point leaves in the output block. -/
def outBlk (c : Dev nD) (t : Fin (cfg0 (F := F)).N) : Vec F S512x128 .f32 := VO.read (Elt F) (VO.writes (Elt F) VO.junk (pieces m c t))

/-- What holds between points: the arrays and results at their contents, the counters at zero. -/
def phi (c : Dev nD) (n : ℕ) : sProp 𝕄 :=
  iprop(∃ x y, owns (c : Thread nD τ) sc0 fullShare (keptAt m c x y n).dk ∗ owns (c : Thread nD τ) sc1 fullShare (keptAt m c x y n).dv
    ∗ (∃ r, prngReg c r) ∗ semVal ((c : Thread nD τ), SemLoc.dma 14) 0 ∗ semVal ((c : Thread nD τ), SemLoc.dma 15) 0
    ∗ owns (c : Thread nD τ) hb1 fullShare (keptAt m c x y n).g1 ∗ owns (c : Thread nD τ) hb2 fullShare (keptAt m c x y n).g2)

/-- The proof data: inputs keep their blocks, the output takes the point's. -/
def dats (_ : Fin 1) (c : Dev nD) : Dat τ (Elt F) Unit ℕ (Pipeline.UD sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlk m c t
  Φ t := phi m c t.val
  q w := Pipeline.shareOf spec0 w
  owed _ := 0

theorem Φ_eq (c : Dev nD) (t : Fin ((cfg0 (F := F)).N + 1)) : (dats m 0 c).Φ t = phi m c t.val := by
  dsimp only [dats]
theorem A_eq (c : Dev nD) (w : Fin (cfg0 (F := F)).W) : (dats m 0 c).A w = V m c (Pipeline.arrRef spec0 w) := by
  dsimp only [dats]

theorem after_0 (c : Dev nD) (t : Fin (cfg0 (F := F)).N) : (dats m 0 c).after 0 t = iblk m c 0 t := by dsimp only [dats]; rfl
theorem after_1 (c : Dev nD) (t : Fin (cfg0 (F := F)).N) : (dats m 0 c).after 1 t = iblk m c 1 t := by dsimp only [dats]; rfl
theorem after_2 (c : Dev nD) (t : Fin (cfg0 (F := F)).N) : (dats m 0 c).after 2 t = iblk m c 2 t := by dsimp only [dats]; rfl
theorem after_3 (c : Dev nD) (t : Fin (cfg0 (F := F)).N) : (dats m 0 c).after 3 t = iblk m c 3 t := by dsimp only [dats]; rfl
theorem after_4 (c : Dev nD) (t : Fin (cfg0 (F := F)).N) : (dats m 0 c).after 4 t = iblk m c 4 t := by dsimp only [dats]; rfl
theorem after_5 (c : Dev nD) (t : Fin (cfg0 (F := F)).N) : (dats m 0 c).after 5 t = iblk m c 5 t := by dsimp only [dats]; rfl
theorem after_6 (c : Dev nD) (t : Fin (cfg0 (F := F)).N) : (dats m 0 c).after 6 t = iblk m c 6 t := by dsimp only [dats]; rfl
theorem after_7 (c : Dev nD) (t : Fin (cfg0 (F := F)).N) : (dats m 0 c).after 7 t = iblk m c 7 t := by dsimp only [dats]; rfl
theorem after_8 (c : Dev nD) (t : Fin (cfg0 (F := F)).N) : (dats m 0 c).after 8 t = outBlk m c t := by dsimp only [dats]; rfl

theorem before_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfg0 (F := F)).N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin (cfg0 (F := F)).N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin (cfg0 (F := F)).N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin (cfg0 (F := F)).N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)

/-- What the body is called with at a point, -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

set_option maxHeartbeats 1600000 in
/-- The body at a point, by its run. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before_0, before_1, before_2, before_3, before_4, before_5, before_6, before_7]
  rw [Φ_eq, Φ_eq, Fin.val_succ, Fin.val_castSucc,
    after_0, after_1, after_2, after_3, after_4, after_5, after_6, after_7, after_8]
  unfold Dat.owesAt Pipeline.owesWithin
  rw [show (dats m 0 c).owed t.castSucc = 0 from rfl, show (dats m 0 c).owed t.succ = 0 from rfl]
  unfold phi outBlk
  simp only [keptAt_succ]
  iintro ⟨⟨%x, %y, HS0, HS1, Hg, Hq0, Hq1, Hh1, Hh2⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply body_ok c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) hb1 (Memref.isWhole_whole _) hb2 (Memref.isWhole_whole _) sc0 (Memref.isWhole_whole _) sc1 (Memref.isWhole_whole _)
    (iblk m c 0 t) (iblk m c 1 t) (iblk m c 2 t) (iblk m c 3 t) (iblk m c 4 t) (iblk m c 5 t) (iblk m c 6 t) (iblk m c 7 t) (keptAt m c x y t.val).dk (keptAt m c x y t.val).dv (keptAt m c x y t.val).g1 (keptAt m c x y t.val).g2 W
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [Hh1]; · iexact Hh1
  isplitl [Hh2]; · iexact Hh2
  isplitl [Hq0]; · iexact Hq0
  isplitl [Hq1]; · iexact Hq1
  isplitl [HW]; · iexact HW
  iintro ⟨H0, H1, H2, H3, H4, H5, H6, H7, ⟨%e8, H8⟩, HS0, HS1, Hh1, Hh2, Hq0, Hq1, ⟨%W', HW'⟩⟩
  isplitl [HS0 HS1 Hg Hq0 Hq1 Hh1 Hh2]
  · iexists x, y
    isplitl [HS0]; · iexact HS0
    isplitl [HS1]; · iexact HS1
    isplitl [Hg]; · iexact Hg
    isplitl [Hq0]; · iexact Hq0
    isplitl [Hq1]; · iexact Hq1
    isplitl [Hh1]; · iexact Hh1
    iexact Hh2
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro
  rw [dqPieces_alike _ _ _ k0_pay10 k0_pay11]
  exact View.read_writes_of_cover _ _ _ _ _ (cover m c t)

theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

/-- The body obligation at every point. -/
theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

/-- What the two results hold at the end. -/
abbrev lastKept (c : Dev nD) : Kept F := keptAt m c k0_pay10 k0_pay11 64

/-- The same for every buffer that the body writes itself. -/
def G (c : Dev nD) : (b : Ref sig .tc) → Buf (Elt F) ((c : Thread nD τ).loc b) :=
  Function.update (Function.update (V m c) main_v35_1 (lastKept m c).g1) main_v35_2 (lastKept m c).g2

/-- The two results, one by one. -/
theorem routed_eq (c : Dev nD) (W : (b : Ref sig .tc) → Buf (Elt F) ((c : Thread nD τ).loc b)) :
    (Pipeline.routed R0 c W : sProp 𝕄) = iprop((((c : Thread nD τ).loc main_v35_1) ↦{fullShare} W main_v35_1) ∗ (((c : Thread nD τ).loc main_v35_2) ↦{fullShare} W main_v35_2)) := by
  unfold Pipeline.routed; rw [BI.bigSep_eq_bigSepL_of_eq [main_v35_1, main_v35_2] (by decide) (by decide)]; rfl

theorem G_1 (c : Dev nD) : G m c main_v35_1 = (lastKept m c).g1 := by
  unfold G; rw [Function.update_of_ne (show main_v35_1 ≠ main_v35_2 by decide), Function.update_self]
theorem G_2 (c : Dev nD) : G m c main_v35_2 = (lastKept m c).g2 := by
  unfold G; rw [Function.update_self]

/-- The launch's buffers are what holds before the first point, -/
theorem phi_in (c : Dev nD) : (Pipeline.ΦDRG osem0 spec0 ∅ R0 (V m) (V m) c : sProp 𝕄) ⊢ (dats m 0 c).Φ 0 := by
  rw [Φ_eq, Fin.val_zero, Pipeline.ΦDRG_eq, scopedRest0_eq, ownSems00_eq, routed_eq]
  unfold phi
  simp only [owns_whole]
  iintro ⟨⟨⟨%x, HS0⟩, ⟨%y, HS1⟩⟩, Hg, ⟨Hq0, Hq1⟩, -, Hh1, Hh2⟩
  iexists x, y
  isplitl [HS0]; · iexact HS0
  isplitl [HS1]; · iexact HS1
  isplitl [Hg]; · iexact Hg
  isplitl [Hq0]; · iexact Hq0
  isplitl [Hq1]; · iexact Hq1
  isplitl [Hh1]; · iexact Hh1
  iexact Hh2

/-- and after the last they go back. -/
theorem phi_out (c : Dev nD) : (dats m 0 c).Φ (Fin.last (cfg0 (F := F)).N) ⊢ (Pipeline.ΦDRG osem0 spec0 ∅ R0 (V m) (G m) c : sProp 𝕄) := by
  rw [Φ_eq, show (Fin.last (cfg0 (F := F)).N).val = 63 + 1 from N_0, Pipeline.ΦDRG_eq, scopedRest0_eq, ownSems00_eq, routed_eq, G_1, G_2]
  unfold phi
  simp only [owns_whole, keptAt_any]
  iintro ⟨%x, %y, HS0, HS1, Hg, Hq0, Hq1, Hh1, Hh2⟩
  isplitl [HS0 HS1]
  · isplitl [HS0]; · iexists _; iexact HS0
    iexists _; iexact HS1
  isplitl [Hg]; · iexact Hg
  isplitl [Hq0 Hq1]
  · isplitl [Hq0]; · iexact Hq0
    iexact Hq1
  isplitr
  · rw [BI.bigSep_empty]; iempintro
  isplitl [Hh1]; · iexact Hh1
  iexact Hh2

set_option backward.isDefEq.respectTransparency.types false in
/-- The launch: every array at what the proof data say, the two results at what the points leave, every other buffer as the kernel found it, every
    counter at zero. -/
theorem run_main : θ_run defs (onTc (τ := τ) (main (F := F))) (s₀ m ρ) (fun r => (Pipeline.FramePostRG cfgs (dats m) 0 R0 (V m) (G m)) r ∧ r.2.sem = fun _ => 0) :=
  Pipeline.θ_run_frame_dmaRG_shared (Q' := _) cfgs (dats m) (0 : Fin 1) launch₀0 osem0 defs₀ Variants.nat ownSemFacts0 ∅ R0 (Finset.empty_subset _) R0_sub m ρ main
    (hbody := fun c => (body_obligation m c).loose) (hq := fun _ _ _ => rfl)
    (howed := fun _ _ => rfl) (V := V m) (hmain := hmain m Variants.nat) (hA := A_eq m) (G := G m) (hin := phi_in m) (hout := phi_out m)

/-- The frame: every run ends, the arguments stay, every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1.toR c).2 main_arg0 (Finset.mem_sdiff.mpr ⟨Pipeline.mem_restRefs_of main_arg0 (by decide) (show ∀ w : Fin 9, (spec0 w).arr.view.ref ≠ main_arg0 by decide), by decide⟩)).trans (V_main_arg0 m c),
     ((h.1.toR c).2 main_arg1 (Finset.mem_sdiff.mpr ⟨Pipeline.mem_restRefs_of main_arg1 (by decide) (show ∀ w : Fin 9, (spec0 w).arr.view.ref ≠ main_arg1 by decide), by decide⟩)).trans (V_main_arg1 m c),
     ((h.1.toR c).2 main_arg2 (Finset.mem_sdiff.mpr ⟨Pipeline.mem_restRefs_of main_arg2 (by decide) (show ∀ w : Fin 9, (spec0 w).arr.view.ref ≠ main_arg2 by decide), by decide⟩)).trans (V_main_arg2 m c),
     (((h.1.toR c).1 3).trans ((dats m 0 c).arrAt_in 3 rfl _)).trans ((A_eq m c 3).trans (V_main_arg3 m c))⟩, h.2⟩) (run_main m ρ)

end Cert.Proof.Sb

end
-- ==== Proof.SbBitsStep.lean ====
module

public import proofs.«01_k».proof.Proof.Gen.SbKernel.Launch
public import proofs.«01_k».proof.Proof.Gen.SbKernel.Skeleton
public import proofs.«01_k».proof.Proof.Gen.SbKernel.Points
public import proofs.«01_k».proof.Proof.SbfBitsBody
public import Idealize.ShloMosaic.Lib.Pipeline.FrameValue
public import Idealize.ShloMosaic.Lib.VecWindow

@[expose] public section

set_option maxRecDepth 16384

noncomputable section

namespace Cert.Proof.SbBits

open Cert.SbKernel Cert.SbKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- What one query block carries through the loop of sums: its walk, and each head's sum of the weights' gradients so far. -/
structure Sum (F : FTy → Type) where
  c : SbfBits.Carry F
  t0 : FVec F S128x1 .f32
  t1 : FVec F S128x1 .f32

/-- What one query block carries through the loop of gradients: its walk, the query gradient so far, and the same sums. -/
structure Grad (F : FTy → Type) where
  c : SbfBits.Carry F
  dq : FVec F S128x128 .f32
  n0 : FVec F S128x1 .f32
  n1 : FVec F S128x1 .f32

/-- Row sums of the left half, -/
def sumLo (y : FVec F S128x256 .f32) : FVec F S128x1 .f32 :=
  shapeCast S128x1 (multiReduction .add [1] S128 (extractStridedSlice S128x128 ![0, 0] y slices_S128x256_o0_0_S128x128) 0x00000000#32 reduces_S128x128_S128 (.inl rfl) rfl) shapeCasts_S128_S128x1
/-- and of the right half. -/
def sumHi (y : FVec F S128x256 .f32) : FVec F S128x1 .f32 :=
  shapeCast S128x1 (multiReduction .add [1] S128 (extractStridedSlice S128x128 ![0, 128] y slices_S128x256_o0_128_S128x128) 0x00000000#32 reduces_S128x128_S128 (.inl rfl) rfl) shapeCasts_S128_S128x1
/-- A tile's three blocks. -/
def b0 (y : FVec F S384x256 .f32) : FVec F S128x256 .f32 := extractStridedSlice S128x256 ![0, 0] y slices_S384x256_o0_0_S128x256
def b1 (y : FVec F S384x256 .f32) : FVec F S128x256 .f32 := extractStridedSlice S128x256 ![128, 0] y slices_S384x256_o128_0_S128x256
def b2 (y : FVec F S384x256 .f32) : FVec F S128x256 .f32 := extractStridedSlice S128x256 ![256, 0] y slices_S384x256_o256_0_S128x256
/-- A tile's row sums, head 0, -/
def allLo (y : FVec F S384x256 .f32) : FVec F S128x1 .f32 :=
  addf (addf (addf (broadcast S128x1 (Scalar.ofBits .f32 0x00000000#32)) (sumLo (b0 y))) (sumLo (b1 y))) (sumLo (b2 y))
/-- head 1. -/
def allHi (y : FVec F S384x256 .f32) : FVec F S128x1 .f32 :=
  addf (addf (addf (broadcast S128x1 (Scalar.ofBits .f32 0x00000000#32)) (sumHi (b0 y))) (sumHi (b1 y))) (sumHi (b2 y))

section Tile
variable (v2 : IVec S128x128 1) (v5 : IVec S128x256 1) (x6 x7 : Vec F S384x256 .i32) (x8 x9 : Vec F S256x256 .bf16)
  (q : FVec F S128x128 .f32) (d : FVec F S128x128 .bf16) (b : BitVec 32) (kt vt : Vec F S384x128 .f32)

/-- The tile's weights. -/
abbrev wt (s : SbfBits.Carry F) : FVec F S384x256 .f32 := SbfBits.weights v2 v5 x6 x7 x8 q b kt s
/-- The tile's weights times their gradients. -/
def gr (s : SbfBits.Carry F) : FVec F S384x256 .f32 :=
  k0_pay376 v2 d (wt v2 v5 x6 x7 x8 q b kt s) (k0_pay372 vt) (k0_pay373 v2 d vt) (k0_pay374 vt) (k0_pay375 v2 vt)
/-- The sums of the weights' gradients at keys farther than each key. -/
def far (p0 p1 : FVec F S128x1 .f32) (s : SbfBits.Carry F) (n0 n1 : FVec F S128x1 .f32) : FVec F S384x256 .f32 :=
  k0_pay390 v5 p0 p1 n0 n1 (gr v2 v5 x6 x7 x8 q d b kt vt s) (sumLo (b1 (gr v2 v5 x6 x7 x8 q d b kt vt s))) (sumHi (b1 (gr v2 v5 x6 x7 x8 q d b kt vt s)))
    (sumLo (b2 (gr v2 v5 x6 x7 x8 q d b kt vt s))) (sumHi (b2 (gr v2 v5 x6 x7 x8 q d b kt vt s))) x9
/-- The gate, -/
def be (s : SbfBits.Carry F) : FVec F S384x256 .f32 := k0_pay391 (SbfBits.scores v2 x6 x7 q b kt s) (SbfBits.rest v2 x6 x7 q b kt s)
/-- and what it leaves. -/
def nb (s : SbfBits.Carry F) : FVec F S384x256 .f32 := k0_pay392 (SbfBits.scores v2 x6 x7 q b kt s) (SbfBits.rest v2 x6 x7 q b kt s)
/-- The tile's query gradients, not yet scaled. -/
def dqTile (p0 p1 : FVec F S128x1 .f32) (s : SbfBits.Carry F) (n0 n1 : FVec F S128x1 .f32) : FVec F S128x128 .f32 :=
  k0_pay399 (Cert.SbfKernel.Gen.k0_pay15 v2 kt) (Cert.SbfKernel.Gen.k0_pay16 v2 kt) (Cert.SbfKernel.Gen.k0_pay17 v2 kt) (gr v2 v5 x6 x7 x8 q d b kt vt s)
    (far v2 v5 x6 x7 x8 x9 q d b kt vt p0 p1 s n0 n1) (be v2 x6 x7 q b kt s) (nb v2 x6 x7 q b kt s)
/-- The key gradients' rows, given what they were. -/
def addK (p0 p1 : FVec F S128x1 .f32) (s : SbfBits.Carry F) (n0 n1 : FVec F S128x1 .f32) (old : Vec F S384x128 .f32) : Vec F S384x128 .f32 :=
  k0_pay404 (k0_pay395 v2 q (gr v2 v5 x6 x7 x8 q d b kt vt s) (far v2 v5 x6 x7 x8 x9 q d b kt vt p0 p1 s n0 n1) (be v2 x6 x7 q b kt s) (nb v2 x6 x7 q b kt s))
    (k0_pay397 v2 q (gr v2 v5 x6 x7 x8 q d b kt vt s) (far v2 v5 x6 x7 x8 x9 q d b kt vt p0 p1 s n0 n1) (be v2 x6 x7 q b kt s) (nb v2 x6 x7 q b kt s))
    (k0_pay401 v2 q (gr v2 v5 x6 x7 x8 q d b kt vt s) (far v2 v5 x6 x7 x8 x9 q d b kt vt p0 p1 s n0 n1) (be v2 x6 x7 q b kt s) (nb v2 x6 x7 q b kt s)) old
/-- The value gradients' rows, given what they were. -/
def addV (s : SbfBits.Carry F) (old : Vec F S384x128 .f32) : Vec F S384x128 .f32 :=
  k0_pay405 v2 (k0_pay396 v2 d (wt v2 v5 x6 x7 x8 q b kt s)) (k0_pay398 v2 d (wt v2 v5 x6 x7 x8 q b kt s)) (k0_pay402 d (wt v2 v5 x6 x7 x8 q b kt s))
    (k0_pay403 d (wt v2 v5 x6 x7 x8 q b kt s)) old
/-- One trip of the loop of sums. -/
def sumOne (s : Sum F) : Sum F :=
  ⟨SbfBits.stepOne v2 v5 x6 x7 x8 q b kt vt s.c, addf s.t0 (allLo (gr v2 v5 x6 x7 x8 q d b kt vt s.c)), addf s.t1 (allHi (gr v2 v5 x6 x7 x8 q d b kt vt s.c))⟩
/-- The sums at the first tile. -/
def sumFirst (s : SbfBits.Carry F) : Sum F :=
  ⟨SbfBits.stepOne v2 v5 x6 x7 x8 q b kt vt s, allLo (gr v2 v5 x6 x7 x8 q d b kt vt s), allHi (gr v2 v5 x6 x7 x8 q d b kt vt s)⟩
/-- One trip of the loop of gradients, without the rows that it adds to. -/
def gradOne (p0 p1 : FVec F S128x1 .f32) (s : Grad F) : Grad F :=
  ⟨SbfBits.stepOne v2 v5 x6 x7 x8 q b kt vt s.c,
   addf s.dq (mulf (broadcast S128x128 (Scalar.ofBits .f32 0x3E000000#32)) (dqTile v2 v5 x6 x7 x8 x9 q d b kt vt p0 p1 s.c s.n0 s.n1)),
   addf s.n0 (allLo (gr v2 v5 x6 x7 x8 q d b kt vt s.c)), addf s.n1 (allHi (gr v2 v5 x6 x7 x8 q d b kt vt s.c))⟩
/-- The same at the first tile. -/
def gradFirst (p0 p1 : FVec F S128x1 .f32) (s : SbfBits.Carry F) (z : FVec F S128x1 .f32) : Grad F :=
  ⟨SbfBits.stepOne v2 v5 x6 x7 x8 q b kt vt s,
   mulf (broadcast S128x128 (Scalar.ofBits .f32 0x3E000000#32)) (dqTile v2 v5 x6 x7 x8 x9 q d b kt vt p0 p1 s z z),
   allLo (gr v2 v5 x6 x7 x8 q d b kt vt s), allHi (gr v2 v5 x6 x7 x8 q d b kt vt s)⟩
end Tile

/-- The walks' offsets are in range. -/
abbrev InB (j : BitVec 32) : Prop := Cert.SbfKernel.k0_chk1 j

/-- An array with the three blocks of place `j` replaced by a function of themselves. -/
def upd (x : Vec F S16384x128 .f32) (j : BitVec 32) (f : Vec F S384x128 .f32 → Vec F S384x128 .f32) : Vec F S16384x128 .f32 :=
  VecWindow.put x (Cert.SbfKernel.k0_off1 j) S384x128.size (f (SbfBits.tile x j))

/-- What a grid point's loops read. -/
structure Env (F : FTy → Type) where
  i : grid0.Coords
  v2 : IVec S128x128 1
  v5 : IVec S128x256 1
  q1 : FVec F S128x128 .f32
  q2 : FVec F S128x128 .f32
  q3 : FVec F S128x128 .f32
  q4 : FVec F S128x128 .f32
  d1 : FVec F S128x128 .bf16
  d2 : FVec F S128x128 .bf16
  d3 : FVec F S128x128 .bf16
  d4 : FVec F S128x128 .bf16
  x3 : Vec F S16384x128 .f32
  x4 : Vec F S16384x128 .f32
  x6 : Vec F S384x256 .i32
  x7 : Vec F S384x256 .i32
  x8 : Vec F S256x256 .bf16
  x9 : Vec F S256x256 .bf16

/-- What the walks alone read. -/
abbrev Env.walk (e : Env F) : SbfBits.Env F := ⟨e.i, e.v2, e.v5, e.q1, e.q2, e.q3, e.q4, e.x3, e.x4, e.x6, e.x7, e.x8⟩

/-- The four blocks' sums. -/
structure Sums (F : FTy → Type) where
  s1 : Sum F
  s2 : Sum F
  s3 : Sum F
  s4 : Sum F
/-- The four blocks' walks. -/
abbrev Sums.four (s : Sums F) : SbfBits.Four F := ⟨s.s1.c, s.s2.c, s.s3.c, s.s4.c⟩
/-- The values in the loop's order. -/
abbrev Sums.flat (s : Sums F) : (Λ₀ F).Result 1 :=
  (s.s1.c.jt, s.s1.c.mx, s.s1.c.c0, s.s1.c.c1, s.s1.t0, s.s1.t1, s.s2.c.jt, s.s2.c.mx, s.s2.c.c0, s.s2.c.c1, s.s2.t0, s.s2.t1,
   s.s3.c.jt, s.s3.c.mx, s.s3.c.c0, s.s3.c.c1, s.s3.t0, s.s3.t1, s.s4.c.jt, s.s4.c.mx, s.s4.c.c0, s.s4.c.c1, s.s4.t0, s.s4.t1)

/-- The four blocks' gradients and the two arrays that they add to. -/
structure Grads (F : FTy → Type) where
  s1 : Grad F
  s2 : Grad F
  s3 : Grad F
  s4 : Grad F
  dk : Vec F S16384x128 .f32
  dv : Vec F S16384x128 .f32
abbrev Grads.four (s : Grads F) : SbfBits.Four F := ⟨s.s1.c, s.s2.c, s.s3.c, s.s4.c⟩
abbrev Grads.flat (s : Grads F) : (Λ₀ F).Result 2 :=
  (s.s1.c.jt, s.s1.c.mx, s.s1.dq, s.s1.c.c0, s.s1.c.c1, s.s1.n0, s.s1.n1, s.s2.c.jt, s.s2.c.mx, s.s2.dq, s.s2.c.c0, s.s2.c.c1, s.s2.n0, s.s2.n1,
   s.s3.c.jt, s.s3.c.mx, s.s3.dq, s.s3.c.c0, s.s3.c.c1, s.s3.n0, s.s3.n1, s.s4.c.jt, s.s4.c.mx, s.s4.dq, s.s4.c.c0, s.s4.c.c1, s.s4.n0, s.s4.n1)

/-- One trip of the four blocks' sums. -/
def sumStep (e : Env F) (s : Sums F) : Sums F where
  s1 := sumOne e.v2 e.v5 e.x6 e.x7 e.x8 e.q1 e.d1 (SbfBits.blk e.i 0#32) (SbfBits.tile e.x3 s.s1.c.jt) (SbfBits.tile e.x4 s.s1.c.jt) s.s1
  s2 := sumOne e.v2 e.v5 e.x6 e.x7 e.x8 e.q2 e.d2 (SbfBits.blk e.i 1#32) (SbfBits.tile e.x3 s.s2.c.jt) (SbfBits.tile e.x4 s.s2.c.jt) s.s2
  s3 := sumOne e.v2 e.v5 e.x6 e.x7 e.x8 e.q3 e.d3 (SbfBits.blk e.i 2#32) (SbfBits.tile e.x3 s.s3.c.jt) (SbfBits.tile e.x4 s.s3.c.jt) s.s3
  s4 := sumOne e.v2 e.v5 e.x6 e.x7 e.x8 e.q4 e.d4 (SbfBits.blk e.i 3#32) (SbfBits.tile e.x3 s.s4.c.jt) (SbfBits.tile e.x4 s.s4.c.jt) s.s4

/-- The four blocks' totals. -/
structure Tots (F : FTy → Type) where
  p1 : FVec F S128x1 .f32
  r1 : FVec F S128x1 .f32
  p2 : FVec F S128x1 .f32
  r2 : FVec F S128x1 .f32
  p3 : FVec F S128x1 .f32
  r3 : FVec F S128x1 .f32
  p4 : FVec F S128x1 .f32
  r4 : FVec F S128x1 .f32

/-- One trip of the four blocks' gradients. -/
def gradStep (e : Env F) (p : Tots F) (s : Grads F) : Grads F where
  s1 := gradOne e.v2 e.v5 e.x6 e.x7 e.x8 e.x9 e.q1 e.d1 (SbfBits.blk e.i 0#32) (SbfBits.tile e.x3 s.s1.c.jt) (SbfBits.tile e.x4 s.s1.c.jt) p.p1 p.r1 s.s1
  s2 := gradOne e.v2 e.v5 e.x6 e.x7 e.x8 e.x9 e.q2 e.d2 (SbfBits.blk e.i 1#32) (SbfBits.tile e.x3 s.s2.c.jt) (SbfBits.tile e.x4 s.s2.c.jt) p.p2 p.r2 s.s2
  s3 := gradOne e.v2 e.v5 e.x6 e.x7 e.x8 e.x9 e.q3 e.d3 (SbfBits.blk e.i 2#32) (SbfBits.tile e.x3 s.s3.c.jt) (SbfBits.tile e.x4 s.s3.c.jt) p.p3 p.r3 s.s3
  s4 := gradOne e.v2 e.v5 e.x6 e.x7 e.x8 e.x9 e.q4 e.d4 (SbfBits.blk e.i 3#32) (SbfBits.tile e.x3 s.s4.c.jt) (SbfBits.tile e.x4 s.s4.c.jt) p.p4 p.r4 s.s4
  dk := upd (upd (upd (upd s.dk
    s.s1.c.jt (addK e.v2 e.v5 e.x6 e.x7 e.x8 e.x9 e.q1 e.d1 (SbfBits.blk e.i 0#32) (SbfBits.tile e.x3 s.s1.c.jt) (SbfBits.tile e.x4 s.s1.c.jt) p.p1 p.r1 s.s1.c s.s1.n0 s.s1.n1))
    s.s2.c.jt (addK e.v2 e.v5 e.x6 e.x7 e.x8 e.x9 e.q2 e.d2 (SbfBits.blk e.i 1#32) (SbfBits.tile e.x3 s.s2.c.jt) (SbfBits.tile e.x4 s.s2.c.jt) p.p2 p.r2 s.s2.c s.s2.n0 s.s2.n1))
    s.s3.c.jt (addK e.v2 e.v5 e.x6 e.x7 e.x8 e.x9 e.q3 e.d3 (SbfBits.blk e.i 2#32) (SbfBits.tile e.x3 s.s3.c.jt) (SbfBits.tile e.x4 s.s3.c.jt) p.p3 p.r3 s.s3.c s.s3.n0 s.s3.n1))
    s.s4.c.jt (addK e.v2 e.v5 e.x6 e.x7 e.x8 e.x9 e.q4 e.d4 (SbfBits.blk e.i 3#32) (SbfBits.tile e.x3 s.s4.c.jt) (SbfBits.tile e.x4 s.s4.c.jt) p.p4 p.r4 s.s4.c s.s4.n0 s.s4.n1)
  dv := upd (upd (upd (upd s.dv
    s.s1.c.jt (addV e.v2 e.v5 e.x6 e.x7 e.x8 e.q1 e.d1 (SbfBits.blk e.i 0#32) (SbfBits.tile e.x3 s.s1.c.jt) s.s1.c))
    s.s2.c.jt (addV e.v2 e.v5 e.x6 e.x7 e.x8 e.q2 e.d2 (SbfBits.blk e.i 1#32) (SbfBits.tile e.x3 s.s2.c.jt) s.s2.c))
    s.s3.c.jt (addV e.v2 e.v5 e.x6 e.x7 e.x8 e.q3 e.d3 (SbfBits.blk e.i 2#32) (SbfBits.tile e.x3 s.s3.c.jt) s.s3.c))
    s.s4.c.jt (addV e.v2 e.v5 e.x6 e.x7 e.x8 e.q4 e.d4 (SbfBits.blk e.i 3#32) (SbfBits.tile e.x3 s.s4.c.jt) s.s4.c)

open Classical in
/-- At most `k` trips of the loop of sums, -/
def sumRun (e : Env F) : ℕ → Sums F → Sums F
  | 0, s => s
  | k + 1, s => if SbfBits.goOn s.four then sumRun e k (sumStep e s) else s
open Classical in
/-- and of the loop of gradients. -/
def gradRun (e : Env F) (p : Tots F) : ℕ → Grads F → Grads F
  | 0, s => s
  | k + 1, s => if SbfBits.goOn s.four then gradRun e p k (gradStep e p s) else s

/-- The walks go on alike, -/
theorem sum_four (e : Env F) (s : Sums F) : (sumStep e s).four = SbfBits.stepFour e.walk s.four := rfl
/-- in both loops. -/
theorem grad_four (e : Env F) (p : Tots F) (s : Grads F) : (gradStep e p s).four = SbfBits.stepFour e.walk s.four := rfl

end Cert.Proof.SbBits

end
-- ==== Proof.SbBitsSum.lean ====
module

public import proofs.«01_k».proof.Proof.Gen.SbKernel.Launch
public import proofs.«01_k».proof.Proof.Gen.SbKernel.Skeleton
public import proofs.«01_k».proof.Proof.Gen.SbKernel.Points
public import proofs.«01_k».proof.Proof.SbBitsStep
public import Idealize.ShloMosaic.Lib.Pipeline.FrameValue
public import Idealize.ShloMosaic.Lib.VecWindow

@[expose] public section

set_option maxRecDepth 16384

noncomputable section

namespace Cert.Proof.SbBits

open Cert.SbKernel Cert.SbKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The arrays that the loops touch. -/
structure Refs where
  a3 : Memref sig .tc .vmem S16384x128 .f32
  h3 : a3.IsWhole
  a4 : Memref sig .tc .vmem S16384x128 .f32
  h4 : a4.IsWhole
  a6 : Memref sig .tc .vmem S384x256 .i32
  h6 : a6.IsWhole
  a7 : Memref sig .tc .vmem S384x256 .i32
  h7 : a7.IsWhole
  a8 : Memref sig .tc .vmem S256x256 .bf16
  h8 : a8.IsWhole
  a9 : Memref sig .tc .vmem S256x256 .bf16
  h9 : a9.IsWhole
  a13 : Memref sig .tc .vmem S16384x128 .f32
  h13 : a13.IsWhole
  a14 : Memref sig .tc .vmem S16384x128 .f32
  h14 : a14.IsWhole

/-- The loop of sums at given carries. -/
abbrev sumLoop (R : Refs) (e : Env F) (s : Sums F) : Prog (TpuEff nD τ sig (Elt F) (Λ₀ F) .tc) ((Λ₀ F).Result 1) :=
  cc0_while1 e.i R.a3 R.h3 e.v2 R.a7 R.h7 R.a6 R.h6 e.q1 R.a8 R.h8 e.v5 R.a4 R.h4 e.d1 e.q2 e.d2 e.q3 e.d3 e.q4 e.d4 s.s1.c.jt s.s1.c.mx s.s1.c.c0 s.s1.c.c1 s.s1.t0 s.s1.t1 s.s2.c.jt s.s2.c.mx s.s2.c.c0 s.s2.c.c1 s.s2.t0 s.s2.t1 s.s3.c.jt s.s3.c.mx s.s3.c.c0 s.s3.c.c1 s.s3.t0 s.s3.t1 s.s4.c.jt s.s4.c.mx s.s4.c.c0 s.s4.c.c1 s.s4.t0 s.s4.t1
/-- The loop of gradients at given carries. -/
abbrev gradLoop (R : Refs) (e : Env F) (p : Tots F) (s : Grads F) : Prog (TpuEff nD τ sig (Elt F) (Λ₀ F) .tc) ((Λ₀ F).Result 2) :=
  cc0_while2 e.i R.a3 R.h3 e.v2 R.a7 R.h7 R.a6 R.h6 e.q1 R.a8 R.h8 e.v5 R.a4 R.h4 e.d1 p.p1 p.r1 R.a9 R.h9 R.a13 R.h13 R.a14 R.h14 e.q2 e.d2 p.p2 p.r2 e.q3 e.d3 p.p3 p.r3 e.q4 e.d4 p.p4 p.r4 s.s1.c.jt s.s1.c.mx s.s1.dq s.s1.c.c0 s.s1.c.c1 s.s1.n0 s.s1.n1 s.s2.c.jt s.s2.c.mx s.s2.dq s.s2.c.c0 s.s2.c.c1 s.s2.n0 s.s2.n1 s.s3.c.jt s.s3.c.mx s.s3.dq s.s3.c.c0 s.s3.c.c1 s.s3.n0 s.s3.n1 s.s4.c.jt s.s4.c.mx s.s4.dq s.s4.c.c0 s.s4.c.c1 s.s4.n0 s.s4.n1
/-- Their labels' records. -/
def sumRec (R : Refs) (e : Env F) (s : Sums F) : Cc0While1 F := ⟨e.i, R.a3, R.h3, e.v2, R.a7, R.h7, R.a6, R.h6, e.q1, R.a8, R.h8, e.v5, R.a4, R.h4, e.d1, e.q2, e.d2, e.q3, e.d3, e.q4, e.d4, s.s1.c.jt, s.s1.c.mx, s.s1.c.c0, s.s1.c.c1, s.s1.t0, s.s1.t1, s.s2.c.jt, s.s2.c.mx, s.s2.c.c0, s.s2.c.c1, s.s2.t0, s.s2.t1, s.s3.c.jt, s.s3.c.mx, s.s3.c.c0, s.s3.c.c1, s.s3.t0, s.s3.t1, s.s4.c.jt, s.s4.c.mx, s.s4.c.c0, s.s4.c.c1, s.s4.t0, s.s4.t1⟩
def gradRec (R : Refs) (e : Env F) (p : Tots F) (s : Grads F) : Cc0While2 F := ⟨e.i, R.a3, R.h3, e.v2, R.a7, R.h7, R.a6, R.h6, e.q1, R.a8, R.h8, e.v5, R.a4, R.h4, e.d1, p.p1, p.r1, R.a9, R.h9, R.a13, R.h13, R.a14, R.h14, e.q2, e.d2, p.p2, p.r2, e.q3, e.d3, p.p3, p.r3, e.q4, e.d4, p.p4, p.r4, s.s1.c.jt, s.s1.c.mx, s.s1.dq, s.s1.c.c0, s.s1.c.c1, s.s1.n0, s.s1.n1, s.s2.c.jt, s.s2.c.mx, s.s2.dq, s.s2.c.c0, s.s2.c.c1, s.s2.n0, s.s2.n1, s.s3.c.jt, s.s3.c.mx, s.s3.dq, s.s3.c.c0, s.s3.c.c1, s.s3.n0, s.s3.n1, s.s4.c.jt, s.s4.c.mx, s.s4.dq, s.s4.c.c0, s.s4.c.c1, s.s4.n0, s.s4.n1⟩

/-- The arrays that the loop of sums reads, held at their contents. -/
def held (c : Dev nD) (R : Refs) (e : Env F) : sProp 𝕄 :=
  iprop(owns (c : Thread nD τ) R.a3 fullShare e.x3 ∗ owns (c : Thread nD τ) R.a4 fullShare e.x4 ∗ owns (c : Thread nD τ) R.a6 fullShare e.x6 ∗ owns (c : Thread nD τ) R.a7 fullShare e.x7 ∗ owns (c : Thread nD τ) R.a8 fullShare e.x8)
/-- What the loop of gradients reads and adds to. -/
def heldG (c : Dev nD) (R : Refs) (e : Env F) (dk dv : Vec F S16384x128 .f32) : sProp 𝕄 :=
  iprop(owns (c : Thread nD τ) R.a3 fullShare e.x3 ∗ owns (c : Thread nD τ) R.a4 fullShare e.x4 ∗ owns (c : Thread nD τ) R.a6 fullShare e.x6 ∗ owns (c : Thread nD τ) R.a7 fullShare e.x7 ∗ owns (c : Thread nD τ) R.a8 fullShare e.x8
    ∗ owns (c : Thread nD τ) R.a9 fullShare e.x9 ∗ owns (c : Thread nD τ) R.a13 fullShare dk ∗ owns (c : Thread nD τ) R.a14 fullShare dv)

/-- A whole load of an array's own contents is the contents. -/
theorem whole_load {S : Shape} {et : EltTy} (a : Memref sig .tc .vmem S et) (ha : a.IsWhole) (x : Vec F S et)
    {off : Fin S.rank → ℕ} (h0 : off = fun _ => 0) (inb : ∀ k, off k + S.size k ≤ S.size k) :
    View.readAt (Elt F) a.view (Rect.unit off S.size inb).toLoadRect (ha.unread x) = x := by
  rw [View.readAt_eq_ld, ha.read_unread, View.ld_unit_zero h0]

/-- The load of a place's three blocks. -/
theorem read_tile (a : Memref sig .tc .vmem S16384x128 .f32) (ha : a.IsWhole) (x : Vec F S16384x128 .f32) (j : BitVec 32) (h : InB j) (off : Fin 2 → ℕ)
    (ho : off = Cert.SbfKernel.k0_off1 j) (inb) :
    View.readAt (Elt F) a.view (Rect.unit (s := S16384x128) off S384x128.size inb).toLoadRect (ha.unread x) = SbfBits.tile x j := by
  subst ho; rw [View.readAt_eq_ld, ha.read_unread]; exact (SbfBits.tile_of x j h).symm

set_option maxHeartbeats 16000000 in
/-- One trip of the loop of sums. -/
theorem sum_trip (c : Dev nD) (R : Refs) (e : Env F) (s : Sums F) (bd : Option Variants.nat.V)
    (i1 : InB s.s1.c.jt) (i2 : InB s.s2.c.jt) (i3 : InB s.s3.c.jt) (i4 : InB s.s4.c.jt)
    (hc : SbfBits.goOn s.four) (E : Set ℕ) (K : _ → sProp 𝕄) :
    iprop(held c R e ∗ (∀ a : Cc0While1 F, ⌜a = sumRec R e (sumStep e s)⌝ -∗ held c R e
        -∗ wp frame (wpE (defs₀ (F := F)) Variants.nat (c : Thread nD τ) bd) E (Prog.op (TpuEff.call (Λ := Λ₀ F) 1 a) Prog.ret) K))
    ⊢ wp frame (wpE (defs₀ (F := F)) Variants.nat (c : Thread nD τ) bd) E (sumLoop R e s) K := by
  unfold sumLoop
  simp only [cc0_while1_eq_skeleton]; unfold cc0_while1_skel
  simp only [k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
  obtain ⟨a3, h3, a4, h4, a6, h6, a7, h7, a8, h8, a9, h9, a13, h13, a14, h14⟩ := R
  obtain ⟨i, v2, v5, q1, q2, q3, q4, d1, d2, d3, d4, x3, x4, x6, x7, x8, x9⟩ := e
  obtain ⟨⟨⟨j1, m1, o1, p1, r1⟩, t1, u1⟩, ⟨⟨j2, m2, o2, p2, r2⟩, t2, u2⟩, ⟨⟨j3, m3, o3, p3, r3⟩, t3, u3⟩, ⟨⟨j4, m4, o4, p4, r4⟩, t4, u4⟩⟩ := s
  dsimp only at i1 i2 i3 i4
  have g1 : k0_chk1 j1 := i1
  have g2 : k0_chk2 j2 := i2
  have g3 : k0_chk3 j3 := i3
  have g4 : k0_chk4 j4 := i4
  unfold SbfBits.goOn at hc
  dsimp only at hc
  unfold held sumStep
  dsimp only
  unfold owns
  iintro ⟨⟨⟨%f3, %hf3, H3⟩, ⟨%f4, %hf4, H4⟩, ⟨%f6, %hf6, H6⟩, ⟨%f7, %hf7, H7⟩, ⟨%f8, %hf8, H8⟩⟩, Hk⟩
  obtain rfl := h3.eq_unread hf3; obtain rfl := h4.eq_unread hf4; obtain rfl := h6.eq_unread hf6; obtain rfl := h7.eq_unread hf7; obtain rfl := h8.eq_unread hf8
  sl_exec (disch := first | sl_exact hc | sl_exact g1 | sl_exact g2 | sl_exact g3 | sl_exact g4)
  iapply Hk
  · ipureintro
    calc _ = sumRec ⟨a3, h3, a4, h4, a6, h6, a7, h7, a8, h8, a9, h9, a13, h13, a14, h14⟩ ⟨i, v2, v5, q1, q2, q3, q4, d1, d2, d3, d4, x3, x4, x6, x7, x8, x9⟩ ⟨
        sumOne v2 v5 (View.readAt (Elt F) a6.view (Rect.unit ![0, 0] S384x256.size inb_S384x256_S384x256_0_0).toLoadRect (h6.unread x6)) (View.readAt (Elt F) a7.view (Rect.unit ![0, 0] S384x256.size inb_S384x256_S384x256_0_0).toLoadRect (h7.unread x7)) (View.readAt (Elt F) a8.view (Rect.unit ![0, 0] S256x256.size inb_S256x256_S256x256_0_0).toLoadRect (h8.unread x8)) q1 d1 (SbfBits.blk i 0#32)
          (View.readAt (Elt F) a3.view (Rect.unit (s := S16384x128) (k0_off2 j1) S384x128.size (k0_off2_inb j1 g1)).toLoadRect (h3.unread x3))
          (View.readAt (Elt F) a4.view (Rect.unit (s := S16384x128) (k0_off2 j1) S384x128.size (k0_off2_inb j1 g1)).toLoadRect (h4.unread x4)) ⟨⟨j1, m1, o1, p1, r1⟩, t1, u1⟩,
        sumOne v2 v5 (View.readAt (Elt F) a6.view (Rect.unit ![0, 0] S384x256.size inb_S384x256_S384x256_0_0).toLoadRect (h6.unread x6)) (View.readAt (Elt F) a7.view (Rect.unit ![0, 0] S384x256.size inb_S384x256_S384x256_0_0).toLoadRect (h7.unread x7)) (View.readAt (Elt F) a8.view (Rect.unit ![0, 0] S256x256.size inb_S256x256_S256x256_0_0).toLoadRect (h8.unread x8)) q2 d2 (SbfBits.blk i 1#32)
          (View.readAt (Elt F) a3.view (Rect.unit (s := S16384x128) (k0_off3 j2) S384x128.size (k0_off3_inb j2 g2)).toLoadRect (h3.unread x3))
          (View.readAt (Elt F) a4.view (Rect.unit (s := S16384x128) (k0_off3 j2) S384x128.size (k0_off3_inb j2 g2)).toLoadRect (h4.unread x4)) ⟨⟨j2, m2, o2, p2, r2⟩, t2, u2⟩,
        sumOne v2 v5 (View.readAt (Elt F) a6.view (Rect.unit ![0, 0] S384x256.size inb_S384x256_S384x256_0_0).toLoadRect (h6.unread x6)) (View.readAt (Elt F) a7.view (Rect.unit ![0, 0] S384x256.size inb_S384x256_S384x256_0_0).toLoadRect (h7.unread x7)) (View.readAt (Elt F) a8.view (Rect.unit ![0, 0] S256x256.size inb_S256x256_S256x256_0_0).toLoadRect (h8.unread x8)) q3 d3 (SbfBits.blk i 2#32)
          (View.readAt (Elt F) a3.view (Rect.unit (s := S16384x128) (k0_off4 j3) S384x128.size (k0_off4_inb j3 g3)).toLoadRect (h3.unread x3))
          (View.readAt (Elt F) a4.view (Rect.unit (s := S16384x128) (k0_off4 j3) S384x128.size (k0_off4_inb j3 g3)).toLoadRect (h4.unread x4)) ⟨⟨j3, m3, o3, p3, r3⟩, t3, u3⟩,
        sumOne v2 v5 (View.readAt (Elt F) a6.view (Rect.unit ![0, 0] S384x256.size inb_S384x256_S384x256_0_0).toLoadRect (h6.unread x6)) (View.readAt (Elt F) a7.view (Rect.unit ![0, 0] S384x256.size inb_S384x256_S384x256_0_0).toLoadRect (h7.unread x7)) (View.readAt (Elt F) a8.view (Rect.unit ![0, 0] S256x256.size inb_S256x256_S256x256_0_0).toLoadRect (h8.unread x8)) q4 d4 (SbfBits.blk i 3#32)
          (View.readAt (Elt F) a3.view (Rect.unit (s := S16384x128) (k0_off5 j4) S384x128.size (k0_off5_inb j4 g4)).toLoadRect (h3.unread x3))
          (View.readAt (Elt F) a4.view (Rect.unit (s := S16384x128) (k0_off5 j4) S384x128.size (k0_off5_inb j4 g4)).toLoadRect (h4.unread x4)) ⟨⟨j4, m4, o4, p4, r4⟩, t4, u4⟩⟩ := by sl_kernel_rfl
      _ = _ := by
        rw [whole_load a6 h6 x6 (by decide) _, whole_load a7 h7 x7 (by decide) _, whole_load a8 h8 x8 (by decide) _]
        rw [read_tile a3 h3 x3 j1 i1 (k0_off2 j1) rfl, read_tile a4 h4 x4 j1 i1 (k0_off2 j1) rfl, read_tile a3 h3 x3 j2 i2 (k0_off3 j2) rfl, read_tile a4 h4 x4 j2 i2 (k0_off3 j2) rfl, read_tile a3 h3 x3 j3 i3 (k0_off4 j3) rfl, read_tile a4 h4 x4 j3 i3 (k0_off4 j3) rfl, read_tile a3 h3 x3 j4 i4 (k0_off5 j4) rfl, read_tile a4 h4 x4 j4 i4 (k0_off5 j4) rfl]
  isplitl [H3]; · (iexists _; isplitr; · (ipureintro; exact hf3)); iexact H3
  isplitl [H4]; · (iexists _; isplitr; · (ipureintro; exact hf4)); iexact H4
  isplitl [H6]; · (iexists _; isplitr; · (ipureintro; exact hf6)); iexact H6
  isplitl [H7]; · (iexists _; isplitr; · (ipureintro; exact hf7)); iexact H7
  iexists _; isplitr; · (ipureintro; exact hf8)
  iexact H8

end Cert.Proof.SbBits

end
-- ==== Proof.SbBitsGrad.lean ====
module

public import proofs.«01_k».proof.Proof.Gen.SbKernel.Launch
public import proofs.«01_k».proof.Proof.Gen.SbKernel.Skeleton
public import proofs.«01_k».proof.Proof.Gen.SbKernel.Points
public import proofs.«01_k».proof.Proof.SbBitsSum
public import Idealize.ShloMosaic.Lib.Pipeline.FrameValue
public import Idealize.ShloMosaic.Lib.VecWindow

@[expose] public section

set_option maxRecDepth 16384

noncomputable section

namespace Cert.Proof.SbBits

open Cert.SbKernel Cert.SbKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The piece of one block's rows, over earlier pieces. -/
def piece (a : Memref sig .tc .vmem S16384x128 .f32) (f : a.view.ty.Contents (Elt F)) (off : Fin 2 → ℕ) (inb : ∀ k, off k + S384x128.size k ≤ S16384x128.size k)
    (g : Vec F S384x128 .f32 → Vec F S384x128 .f32) (L : List (View.Piece (Elt F) S16384x128 .f32)) : View.Piece (Elt F) S16384x128 .f32 :=
  ⟨Rect.unit (s := S16384x128) off S384x128.size inb, g (View.readAt (Elt F) a.view (Rect.unit (s := S16384x128) off S384x128.size inb).toLoadRect (a.view.writes (Elt F) f L))⟩

theorem read_piece (a : Memref sig .tc .vmem S16384x128 .f32) (f : a.view.ty.Contents (Elt F)) (X : Vec F S16384x128 .f32) (j : BitVec 32) (h : InB j) (off : Fin 2 → ℕ)
    (ho : off = Cert.SbfKernel.k0_off1 j) (inb) (g : Vec F S384x128 .f32 → Vec F S384x128 .f32) (L : List (View.Piece (Elt F) S16384x128 .f32))
    (hX : a.view.read (Elt F) (a.view.writes (Elt F) f L) = X) :
    a.view.read (Elt F) (a.view.writes (Elt F) f (piece a f off inb g L :: L)) = upd X j g := by
  subst ho
  unfold piece upd
  rw [View.read_writes_cons_put a.view f inb _ L rfl, hX, View.readAt_eq_ld, hX]
  exact congrArg (fun y => VecWindow.put X _ _ (g y)) (SbfBits.tile_of X j h).symm

/-- The four blocks' pieces, the last first. -/
def four (a : Memref sig .tc .vmem S16384x128 .f32) (f : a.view.ty.Contents (Elt F)) (o1 o2 o3 o4 : Fin 2 → ℕ) (b1 : ∀ k, o1 k + S384x128.size k ≤ S16384x128.size k)
    (b2 : ∀ k, o2 k + S384x128.size k ≤ S16384x128.size k) (b3 : ∀ k, o3 k + S384x128.size k ≤ S16384x128.size k) (b4 : ∀ k, o4 k + S384x128.size k ≤ S16384x128.size k)
    (g1 g2 g3 g4 : Vec F S384x128 .f32 → Vec F S384x128 .f32) : List (View.Piece (Elt F) S16384x128 .f32) :=
  have L1 := [piece a f o1 b1 g1 []]
  have L2 := piece a f o2 b2 g2 L1 :: L1
  have L3 := piece a f o3 b3 g3 L2 :: L2
  piece a f o4 b4 g4 L3 :: L3

theorem read_four (a : Memref sig .tc .vmem S16384x128 .f32) (ha : a.IsWhole) (X : Vec F S16384x128 .f32) {j1 j2 j3 j4 : BitVec 32} (h1 : InB j1) (h2 : InB j2) (h3 : InB j3) (h4 : InB j4)
    (o1 o2 o3 o4 : Fin 2 → ℕ) (e1 : o1 = Cert.SbfKernel.k0_off1 j1) (e2 : o2 = Cert.SbfKernel.k0_off1 j2) (e3 : o3 = Cert.SbfKernel.k0_off1 j3) (e4 : o4 = Cert.SbfKernel.k0_off1 j4)
    (b1 b2 b3 b4) (g1 g2 g3 g4 : Vec F S384x128 .f32 → Vec F S384x128 .f32) :
    a.view.read (Elt F) (a.view.writes (Elt F) (ha.unread X) (four a (ha.unread X) o1 o2 o3 o4 b1 b2 b3 b4 g1 g2 g3 g4)) = upd (upd (upd (upd X j1 g1) j2 g2) j3 g3) j4 g4 :=
  read_piece a _ _ j4 h4 o4 e4 b4 g4 _ (read_piece a _ _ j3 h3 o3 e3 b3 g3 _ (read_piece a _ _ j2 h2 o2 e2 b2 g2 _ (read_piece a _ _ j1 h1 o1 e1 b1 g1 [] (ha.read_unread X))))

set_option maxHeartbeats 16000000 in
/-- One trip of the loop of gradients. -/
theorem grad_trip (c : Dev nD) (R : Refs) (e : Env F) (p : Tots F) (s : Grads F) (bd : Option Variants.nat.V)
    (i1 : InB s.s1.c.jt) (i2 : InB s.s2.c.jt) (i3 : InB s.s3.c.jt) (i4 : InB s.s4.c.jt)
    (hc : SbfBits.goOn s.four) (E : Set ℕ) (K : _ → sProp 𝕄) :
    iprop(heldG c R e s.dk s.dv ∗ (∀ a : Cc0While2 F, ⌜a = gradRec R e p (gradStep e p s)⌝ -∗ heldG c R e (gradStep e p s).dk (gradStep e p s).dv
        -∗ wp frame (wpE (defs₀ (F := F)) Variants.nat (c : Thread nD τ) bd) E (Prog.op (TpuEff.call (Λ := Λ₀ F) 2 a) Prog.ret) K))
    ⊢ wp frame (wpE (defs₀ (F := F)) Variants.nat (c : Thread nD τ) bd) E (gradLoop R e p s) K := by
  unfold gradLoop
  simp only [cc0_while2_eq_skeleton]; unfold cc0_while2_skel
  simp only [k0_part69_eq_skeleton]; unfold k0_part69_skel
  simp only [k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
  obtain ⟨a3, h3, a4, h4, a6, h6, a7, h7, a8, h8, a9, h9, a13, h13, a14, h14⟩ := R
  obtain ⟨i, v2, v5, q1, q2, q3, q4, d1, d2, d3, d4, x3, x4, x6, x7, x8, x9⟩ := e
  obtain ⟨w1, z1, w2, z2, w3, z3, w4, z4⟩ := p
  obtain ⟨⟨⟨j1, m1, o1, p1, r1⟩, y1, t1, u1⟩, ⟨⟨j2, m2, o2, p2, r2⟩, y2, t2, u2⟩, ⟨⟨j3, m3, o3, p3, r3⟩, y3, t3, u3⟩, ⟨⟨j4, m4, o4, p4, r4⟩, y4, t4, u4⟩, dk, dv⟩ := s
  dsimp only at i1 i2 i3 i4
  have g1 : k0_chk5 j1 := i1
  have g2 : k0_chk6 j2 := i2
  have g3 : k0_chk7 j3 := i3
  have g4 : k0_chk8 j4 := i4
  unfold SbfBits.goOn at hc
  dsimp only at hc
  unfold heldG gradStep
  dsimp only
  unfold owns
  iintro ⟨⟨⟨%f3, %hf3, H3⟩, ⟨%f4, %hf4, H4⟩, ⟨%f6, %hf6, H6⟩, ⟨%f7, %hf7, H7⟩, ⟨%f8, %hf8, H8⟩, ⟨%f9, %hf9, H9⟩, ⟨%f13, %hf13, H13⟩, ⟨%f14, %hf14, H14⟩⟩, Hk⟩
  obtain rfl := h3.eq_unread hf3; obtain rfl := h4.eq_unread hf4; obtain rfl := h6.eq_unread hf6; obtain rfl := h7.eq_unread hf7; obtain rfl := h8.eq_unread hf8
  obtain rfl := h9.eq_unread hf9; obtain rfl := h13.eq_unread hf13; obtain rfl := h14.eq_unread hf14
  sl_exec (disch := first | sl_exact hc | sl_exact g1 | sl_exact g2 | sl_exact g3 | sl_exact g4)
  iapply Hk
  · ipureintro
    calc _ = gradRec ⟨a3, h3, a4, h4, a6, h6, a7, h7, a8, h8, a9, h9, a13, h13, a14, h14⟩ ⟨i, v2, v5, q1, q2, q3, q4, d1, d2, d3, d4, x3, x4, x6, x7, x8, x9⟩ ⟨w1, z1, w2, z2, w3, z3, w4, z4⟩ ⟨
        gradOne v2 v5 (View.readAt (Elt F) a6.view (Rect.unit ![0, 0] S384x256.size inb_S384x256_S384x256_0_0).toLoadRect (h6.unread x6)) (View.readAt (Elt F) a7.view (Rect.unit ![0, 0] S384x256.size inb_S384x256_S384x256_0_0).toLoadRect (h7.unread x7)) (View.readAt (Elt F) a8.view (Rect.unit ![0, 0] S256x256.size inb_S256x256_S256x256_0_0).toLoadRect (h8.unread x8)) (View.readAt (Elt F) a9.view (Rect.unit ![0, 0] S256x256.size inb_S256x256_S256x256_0_0).toLoadRect (h9.unread x9)) q1 d1 (SbfBits.blk i 0#32)
          (View.readAt (Elt F) a3.view (Rect.unit (s := S16384x128) (k0_off6 j1) S384x128.size (k0_off6_inb j1 g1)).toLoadRect (h3.unread x3))
          (View.readAt (Elt F) a4.view (Rect.unit (s := S16384x128) (k0_off6 j1) S384x128.size (k0_off6_inb j1 g1)).toLoadRect (h4.unread x4)) w1 z1 ⟨⟨j1, m1, o1, p1, r1⟩, y1, t1, u1⟩,
        gradOne v2 v5 (View.readAt (Elt F) a6.view (Rect.unit ![0, 0] S384x256.size inb_S384x256_S384x256_0_0).toLoadRect (h6.unread x6)) (View.readAt (Elt F) a7.view (Rect.unit ![0, 0] S384x256.size inb_S384x256_S384x256_0_0).toLoadRect (h7.unread x7)) (View.readAt (Elt F) a8.view (Rect.unit ![0, 0] S256x256.size inb_S256x256_S256x256_0_0).toLoadRect (h8.unread x8)) (View.readAt (Elt F) a9.view (Rect.unit ![0, 0] S256x256.size inb_S256x256_S256x256_0_0).toLoadRect (h9.unread x9)) q2 d2 (SbfBits.blk i 1#32)
          (View.readAt (Elt F) a3.view (Rect.unit (s := S16384x128) (k0_off7 j2) S384x128.size (k0_off7_inb j2 g2)).toLoadRect (h3.unread x3))
          (View.readAt (Elt F) a4.view (Rect.unit (s := S16384x128) (k0_off7 j2) S384x128.size (k0_off7_inb j2 g2)).toLoadRect (h4.unread x4)) w2 z2 ⟨⟨j2, m2, o2, p2, r2⟩, y2, t2, u2⟩,
        gradOne v2 v5 (View.readAt (Elt F) a6.view (Rect.unit ![0, 0] S384x256.size inb_S384x256_S384x256_0_0).toLoadRect (h6.unread x6)) (View.readAt (Elt F) a7.view (Rect.unit ![0, 0] S384x256.size inb_S384x256_S384x256_0_0).toLoadRect (h7.unread x7)) (View.readAt (Elt F) a8.view (Rect.unit ![0, 0] S256x256.size inb_S256x256_S256x256_0_0).toLoadRect (h8.unread x8)) (View.readAt (Elt F) a9.view (Rect.unit ![0, 0] S256x256.size inb_S256x256_S256x256_0_0).toLoadRect (h9.unread x9)) q3 d3 (SbfBits.blk i 2#32)
          (View.readAt (Elt F) a3.view (Rect.unit (s := S16384x128) (k0_off8 j3) S384x128.size (k0_off8_inb j3 g3)).toLoadRect (h3.unread x3))
          (View.readAt (Elt F) a4.view (Rect.unit (s := S16384x128) (k0_off8 j3) S384x128.size (k0_off8_inb j3 g3)).toLoadRect (h4.unread x4)) w3 z3 ⟨⟨j3, m3, o3, p3, r3⟩, y3, t3, u3⟩,
        gradOne v2 v5 (View.readAt (Elt F) a6.view (Rect.unit ![0, 0] S384x256.size inb_S384x256_S384x256_0_0).toLoadRect (h6.unread x6)) (View.readAt (Elt F) a7.view (Rect.unit ![0, 0] S384x256.size inb_S384x256_S384x256_0_0).toLoadRect (h7.unread x7)) (View.readAt (Elt F) a8.view (Rect.unit ![0, 0] S256x256.size inb_S256x256_S256x256_0_0).toLoadRect (h8.unread x8)) (View.readAt (Elt F) a9.view (Rect.unit ![0, 0] S256x256.size inb_S256x256_S256x256_0_0).toLoadRect (h9.unread x9)) q4 d4 (SbfBits.blk i 3#32)
          (View.readAt (Elt F) a3.view (Rect.unit (s := S16384x128) (k0_off9 j4) S384x128.size (k0_off9_inb j4 g4)).toLoadRect (h3.unread x3))
          (View.readAt (Elt F) a4.view (Rect.unit (s := S16384x128) (k0_off9 j4) S384x128.size (k0_off9_inb j4 g4)).toLoadRect (h4.unread x4)) w4 z4 ⟨⟨j4, m4, o4, p4, r4⟩, y4, t4, u4⟩, dk, dv⟩ := by sl_kernel_rfl
      _ = _ := by
        rw [whole_load a6 h6 x6 (by decide) _, whole_load a7 h7 x7 (by decide) _, whole_load a8 h8 x8 (by decide) _, whole_load a9 h9 x9 (by decide) _]
        rw [read_tile a3 h3 x3 j1 i1 (k0_off6 j1) rfl, read_tile a4 h4 x4 j1 i1 (k0_off6 j1) rfl, read_tile a3 h3 x3 j2 i2 (k0_off7 j2) rfl, read_tile a4 h4 x4 j2 i2 (k0_off7 j2) rfl, read_tile a3 h3 x3 j3 i3 (k0_off8 j3) rfl, read_tile a4 h4 x4 j3 i3 (k0_off8 j3) rfl, read_tile a3 h3 x3 j4 i4 (k0_off9 j4) rfl, read_tile a4 h4 x4 j4 i4 (k0_off9 j4) rfl]
        rfl
  isplitl [H3]; · (iexists _; isplitr; · (ipureintro; exact hf3)); iexact H3
  isplitl [H4]; · (iexists _; isplitr; · (ipureintro; exact hf4)); iexact H4
  isplitl [H6]; · (iexists _; isplitr; · (ipureintro; exact hf6)); iexact H6
  isplitl [H7]; · (iexists _; isplitr; · (ipureintro; exact hf7)); iexact H7
  isplitl [H8]; · (iexists _; isplitr; · (ipureintro; exact hf8)); iexact H8
  isplitl [H9]; · (iexists _; isplitr; · (ipureintro; exact hf9)); iexact H9
  isplitl [H13]
  · iexists _; isplitr; swap; · iexact H13
    ipureintro
    refine Eq.trans (b := View.read (Elt F) a13.view (a13.view.writes (Elt F) (h13.unread dk) (four a13 (h13.unread dk) (k0_off6 j1) (k0_off7 j2) (k0_off8 j3) (k0_off9 j4) (k0_off6_inb j1 g1) (k0_off7_inb j2 g2) (k0_off8_inb j3 g3) (k0_off9_inb j4 g4)
      (addK v2 v5 (View.readAt (Elt F) a6.view (Rect.unit ![0, 0] S384x256.size inb_S384x256_S384x256_0_0).toLoadRect (h6.unread x6)) (View.readAt (Elt F) a7.view (Rect.unit ![0, 0] S384x256.size inb_S384x256_S384x256_0_0).toLoadRect (h7.unread x7)) (View.readAt (Elt F) a8.view (Rect.unit ![0, 0] S256x256.size inb_S256x256_S256x256_0_0).toLoadRect (h8.unread x8)) (View.readAt (Elt F) a9.view (Rect.unit ![0, 0] S256x256.size inb_S256x256_S256x256_0_0).toLoadRect (h9.unread x9)) q1 d1 (SbfBits.blk i 0#32)
          (View.readAt (Elt F) a3.view (Rect.unit (s := S16384x128) (k0_off6 j1) S384x128.size (k0_off6_inb j1 g1)).toLoadRect (h3.unread x3))
          (View.readAt (Elt F) a4.view (Rect.unit (s := S16384x128) (k0_off6 j1) S384x128.size (k0_off6_inb j1 g1)).toLoadRect (h4.unread x4)) w1 z1 ⟨j1, m1, o1, p1, r1⟩ t1 u1) (addK v2 v5 (View.readAt (Elt F) a6.view (Rect.unit ![0, 0] S384x256.size inb_S384x256_S384x256_0_0).toLoadRect (h6.unread x6)) (View.readAt (Elt F) a7.view (Rect.unit ![0, 0] S384x256.size inb_S384x256_S384x256_0_0).toLoadRect (h7.unread x7)) (View.readAt (Elt F) a8.view (Rect.unit ![0, 0] S256x256.size inb_S256x256_S256x256_0_0).toLoadRect (h8.unread x8)) (View.readAt (Elt F) a9.view (Rect.unit ![0, 0] S256x256.size inb_S256x256_S256x256_0_0).toLoadRect (h9.unread x9)) q2 d2 (SbfBits.blk i 1#32)
          (View.readAt (Elt F) a3.view (Rect.unit (s := S16384x128) (k0_off7 j2) S384x128.size (k0_off7_inb j2 g2)).toLoadRect (h3.unread x3))
          (View.readAt (Elt F) a4.view (Rect.unit (s := S16384x128) (k0_off7 j2) S384x128.size (k0_off7_inb j2 g2)).toLoadRect (h4.unread x4)) w2 z2 ⟨j2, m2, o2, p2, r2⟩ t2 u2) (addK v2 v5 (View.readAt (Elt F) a6.view (Rect.unit ![0, 0] S384x256.size inb_S384x256_S384x256_0_0).toLoadRect (h6.unread x6)) (View.readAt (Elt F) a7.view (Rect.unit ![0, 0] S384x256.size inb_S384x256_S384x256_0_0).toLoadRect (h7.unread x7)) (View.readAt (Elt F) a8.view (Rect.unit ![0, 0] S256x256.size inb_S256x256_S256x256_0_0).toLoadRect (h8.unread x8)) (View.readAt (Elt F) a9.view (Rect.unit ![0, 0] S256x256.size inb_S256x256_S256x256_0_0).toLoadRect (h9.unread x9)) q3 d3 (SbfBits.blk i 2#32)
          (View.readAt (Elt F) a3.view (Rect.unit (s := S16384x128) (k0_off8 j3) S384x128.size (k0_off8_inb j3 g3)).toLoadRect (h3.unread x3))
          (View.readAt (Elt F) a4.view (Rect.unit (s := S16384x128) (k0_off8 j3) S384x128.size (k0_off8_inb j3 g3)).toLoadRect (h4.unread x4)) w3 z3 ⟨j3, m3, o3, p3, r3⟩ t3 u3) (addK v2 v5 (View.readAt (Elt F) a6.view (Rect.unit ![0, 0] S384x256.size inb_S384x256_S384x256_0_0).toLoadRect (h6.unread x6)) (View.readAt (Elt F) a7.view (Rect.unit ![0, 0] S384x256.size inb_S384x256_S384x256_0_0).toLoadRect (h7.unread x7)) (View.readAt (Elt F) a8.view (Rect.unit ![0, 0] S256x256.size inb_S256x256_S256x256_0_0).toLoadRect (h8.unread x8)) (View.readAt (Elt F) a9.view (Rect.unit ![0, 0] S256x256.size inb_S256x256_S256x256_0_0).toLoadRect (h9.unread x9)) q4 d4 (SbfBits.blk i 3#32)
          (View.readAt (Elt F) a3.view (Rect.unit (s := S16384x128) (k0_off9 j4) S384x128.size (k0_off9_inb j4 g4)).toLoadRect (h3.unread x3))
          (View.readAt (Elt F) a4.view (Rect.unit (s := S16384x128) (k0_off9 j4) S384x128.size (k0_off9_inb j4 g4)).toLoadRect (h4.unread x4)) w4 z4 ⟨j4, m4, o4, p4, r4⟩ t4 u4)))) (by sl_kernel_rfl) ((read_four a13 h13 dk i1 i2 i3 i4 _ _ _ _ rfl rfl rfl rfl _ _ _ _ _ _ _ _).trans ?_)
    rw [whole_load a6 h6 x6 (by decide) _, whole_load a7 h7 x7 (by decide) _, whole_load a8 h8 x8 (by decide) _, whole_load a9 h9 x9 (by decide) _]
    rw [read_tile a3 h3 x3 j1 i1 (k0_off6 j1) rfl, read_tile a4 h4 x4 j1 i1 (k0_off6 j1) rfl, read_tile a3 h3 x3 j2 i2 (k0_off7 j2) rfl, read_tile a4 h4 x4 j2 i2 (k0_off7 j2) rfl, read_tile a3 h3 x3 j3 i3 (k0_off8 j3) rfl, read_tile a4 h4 x4 j3 i3 (k0_off8 j3) rfl, read_tile a3 h3 x3 j4 i4 (k0_off9 j4) rfl, read_tile a4 h4 x4 j4 i4 (k0_off9 j4) rfl]
  · iexists _; isplitr; swap; · iexact H14
    ipureintro
    refine Eq.trans (b := View.read (Elt F) a14.view (a14.view.writes (Elt F) (h14.unread dv) (four a14 (h14.unread dv) (k0_off6 j1) (k0_off7 j2) (k0_off8 j3) (k0_off9 j4) (k0_off6_inb j1 g1) (k0_off7_inb j2 g2) (k0_off8_inb j3 g3) (k0_off9_inb j4 g4)
      (addV v2 v5 (View.readAt (Elt F) a6.view (Rect.unit ![0, 0] S384x256.size inb_S384x256_S384x256_0_0).toLoadRect (h6.unread x6)) (View.readAt (Elt F) a7.view (Rect.unit ![0, 0] S384x256.size inb_S384x256_S384x256_0_0).toLoadRect (h7.unread x7)) (View.readAt (Elt F) a8.view (Rect.unit ![0, 0] S256x256.size inb_S256x256_S256x256_0_0).toLoadRect (h8.unread x8)) q1 d1 (SbfBits.blk i 0#32)
          (View.readAt (Elt F) a3.view (Rect.unit (s := S16384x128) (k0_off6 j1) S384x128.size (k0_off6_inb j1 g1)).toLoadRect (h3.unread x3))
          ⟨j1, m1, o1, p1, r1⟩) (addV v2 v5 (View.readAt (Elt F) a6.view (Rect.unit ![0, 0] S384x256.size inb_S384x256_S384x256_0_0).toLoadRect (h6.unread x6)) (View.readAt (Elt F) a7.view (Rect.unit ![0, 0] S384x256.size inb_S384x256_S384x256_0_0).toLoadRect (h7.unread x7)) (View.readAt (Elt F) a8.view (Rect.unit ![0, 0] S256x256.size inb_S256x256_S256x256_0_0).toLoadRect (h8.unread x8)) q2 d2 (SbfBits.blk i 1#32)
          (View.readAt (Elt F) a3.view (Rect.unit (s := S16384x128) (k0_off7 j2) S384x128.size (k0_off7_inb j2 g2)).toLoadRect (h3.unread x3))
          ⟨j2, m2, o2, p2, r2⟩) (addV v2 v5 (View.readAt (Elt F) a6.view (Rect.unit ![0, 0] S384x256.size inb_S384x256_S384x256_0_0).toLoadRect (h6.unread x6)) (View.readAt (Elt F) a7.view (Rect.unit ![0, 0] S384x256.size inb_S384x256_S384x256_0_0).toLoadRect (h7.unread x7)) (View.readAt (Elt F) a8.view (Rect.unit ![0, 0] S256x256.size inb_S256x256_S256x256_0_0).toLoadRect (h8.unread x8)) q3 d3 (SbfBits.blk i 2#32)
          (View.readAt (Elt F) a3.view (Rect.unit (s := S16384x128) (k0_off8 j3) S384x128.size (k0_off8_inb j3 g3)).toLoadRect (h3.unread x3))
          ⟨j3, m3, o3, p3, r3⟩) (addV v2 v5 (View.readAt (Elt F) a6.view (Rect.unit ![0, 0] S384x256.size inb_S384x256_S384x256_0_0).toLoadRect (h6.unread x6)) (View.readAt (Elt F) a7.view (Rect.unit ![0, 0] S384x256.size inb_S384x256_S384x256_0_0).toLoadRect (h7.unread x7)) (View.readAt (Elt F) a8.view (Rect.unit ![0, 0] S256x256.size inb_S256x256_S256x256_0_0).toLoadRect (h8.unread x8)) q4 d4 (SbfBits.blk i 3#32)
          (View.readAt (Elt F) a3.view (Rect.unit (s := S16384x128) (k0_off9 j4) S384x128.size (k0_off9_inb j4 g4)).toLoadRect (h3.unread x3))
          ⟨j4, m4, o4, p4, r4⟩)))) (by sl_kernel_rfl) ((read_four a14 h14 dv i1 i2 i3 i4 _ _ _ _ rfl rfl rfl rfl _ _ _ _ _ _ _ _).trans ?_)
    rw [whole_load a6 h6 x6 (by decide) _, whole_load a7 h7 x7 (by decide) _, whole_load a8 h8 x8 (by decide) _]
    rw [read_tile a3 h3 x3 j1 i1 (k0_off6 j1) rfl, read_tile a3 h3 x3 j2 i2 (k0_off7 j2) rfl, read_tile a3 h3 x3 j3 i3 (k0_off8 j3) rfl, read_tile a3 h3 x3 j4 i4 (k0_off9 j4) rfl]

end Cert.Proof.SbBits

end
-- ==== Proof.SbBitsLoop.lean ====
module

public import proofs.«01_k».proof.Proof.Gen.SbKernel.Launch
public import proofs.«01_k».proof.Proof.Gen.SbKernel.Skeleton
public import proofs.«01_k».proof.Proof.Gen.SbKernel.Points
public import proofs.«01_k».proof.Proof.SbBitsGrad
public import Idealize.ShloMosaic.Lib.Pipeline.FrameValue
public import Idealize.ShloMosaic.Lib.VecWindow
public import proofs.«01_k».proof.Proof.SbfBitsLoop

@[expose] public section

set_option maxRecDepth 16384

noncomputable section

namespace Cert.Proof.SbBits

open Cert.SbKernel Cert.SbKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Where some place in range is not negative a trip's loads are in bounds, and one trip fewer is left. -/
theorem inb_of (k : ℕ) (s : SbfBits.Four F) (hf : SbfBits.Fits (k + 1) s) (hg : SbfBits.goOn s) : InB s.s1.jt ∧ InB s.s2.jt ∧ InB s.s3.jt ∧ InB s.s4.jt := by
  obtain ⟨n, h0, h1, h2, e1, e2, e3, e4⟩ := hf
  rw [e1, e2, e3, e4]
  exact ⟨SbfBits.chk_of _ (by omega) (by omega), SbfBits.chk_of _ (by omega) (by omega), SbfBits.chk_of _ (by omega) (by omega), SbfBits.chk_of _ (by omega) (by omega)⟩

theorem not_goOn (s : SbfBits.Four F) (hf : SbfBits.Fits 0 s) : ¬ SbfBits.goOn s := fun hg => by
  obtain ⟨n, h0, h1, h2, e1, e2, e3, e4⟩ := hf
  have := SbfBits.nonneg_of_goOn s n h0 h1 e1 e2 e3 e4 hg
  push_cast at h2; omega

/-- What the loop of sums does: it reads its arrays and returns `k` trips' carries. -/
def sumSpec (c : Dev nD) (R : Refs) (e : Env F) (k : ℕ) (s : Sums F) : sWPT 𝕄 ((Λ₀ F).Result 1) := do
  sWPT.consume (held c R e)
  sWPT.produce (held c R e)
  pure (sumRun e k s).flat

theorem sumSpec_apply (c : Dev nD) (R : Refs) (e : Env F) (k : ℕ) (s : Sums F) (K : (Λ₀ F).Result 1 → sProp 𝕄) :
    sumSpec c R e k s K = iprop(held c R e ∗ (held c R e -∗ K (sumRun e k s).flat)) := rfl

theorem sum_exit (c : Dev nD) (R : Refs) (e : Env F) (s : Sums F) (bd : Option Variants.nat.V) (E : Set ℕ) (K : (Λ₀ F).Result 1 → sProp 𝕄) (hg : ¬ SbfBits.goOn s.four) :
    iprop(held c R e ∗ (held c R e -∗ K s.flat)) ⊢ wp frame (wpE (defs₀ (F := F)) Variants.nat (c : Thread nD τ) bd) E (sumLoop R e s) K := by
  unfold sumLoop cc0_while1
  have hc : ¬ (Scalar.ori (Scalar.ori (Scalar.ori (Scalar.andi (Scalar.cmpi .sge s.s1.c.jt 0#32) (Scalar.cmpf .ogt s.s1.c.mx (Scalar.ofBits .f32 0xC2D00000#32))) (Scalar.andi (Scalar.cmpi .sge s.s2.c.jt 0#32) (Scalar.cmpf .ogt s.s2.c.mx (Scalar.ofBits .f32 0xC2D00000#32)))) (Scalar.andi (Scalar.cmpi .sge s.s3.c.jt 0#32) (Scalar.cmpf .ogt s.s3.c.mx (Scalar.ofBits .f32 0xC2D00000#32)))) (Scalar.andi (Scalar.cmpi .sge s.s4.c.jt 0#32) (Scalar.cmpf .ogt s.s4.c.mx (Scalar.ofBits .f32 0xC2D00000#32))) = 1#1) := hg
  simp only [hc, ↓reduceIte, Prog.pure_eq_ret]
  iintro ⟨Hh, Hk⟩
  rw [wp_ret]
  imodintro
  iapply Hk; iexact Hh

/-- The loop of sums meets its specification wherever `k` trips are enough. -/
theorem sum_le (c : Dev nD) (R : Refs) (e : Env F) (E : Set ℕ) (K : (Λ₀ F).Result 1 → sProp 𝕄) : ∀ (k : ℕ) (s : Sums F), SbfBits.Fits k s.four →
    sumSpec c R e k s K ⊢ wp frame (wpE (defs₀ (F := F)) Variants.nat (c : Thread nD τ) (some k)) E (defs₀ (F := F) .tc 1 (sumRec R e s)) K := by
  intro k
  induction k generalizing K with
  | zero =>
    intro s hf
    rw [sumSpec_apply]
    show _ ⊢ wp frame (wpE (defs₀ (F := F)) Variants.nat (c : Thread nD τ) (some 0)) E (sumLoop R e s) K
    exact sum_exit c R e s _ E K (not_goOn _ hf)
  | succ k ih =>
    intro s hf
    rw [sumSpec_apply]
    show _ ⊢ wp frame (wpE (defs₀ (F := F)) Variants.nat (c : Thread nD τ) (some (k + 1))) E (sumLoop R e s) K
    by_cases hg : SbfBits.goOn s.four
    · have hr : sumRun e (k + 1) s = sumRun e k (sumStep e s) := if_pos hg
      have hf' : SbfBits.Fits k (sumStep e s).four := SbfBits.fits_step e.walk k s.four hf hg
      obtain ⟨i1, i2, i3, i4⟩ := inb_of k s.four hf hg
      rw [hr]
      iintro ⟨Hh, Hk⟩
      iapply (sum_trip c R e s (some (k + 1)) i1 i2 i3 i4 hg E K)
      isplitl [Hh]; · iexact Hh
      iintro %a %ha Hh
      subst ha
      iapply (wp_call_spec Variants.nat (c : Thread nD τ) (some (k + 1)) E (sumSpec c R e k (sumStep e s)) k
        (fun u hu => by cases hu; exact Nat.lt_succ_self k) (fun K' => ih K' (sumStep e s) hf'))
      rw [sumSpec_apply]
      isplitl [Hh]; · iexact Hh
      iintro Hh
      rw [wp_ret]
      imodintro
      iapply Hk; iexact Hh
    · have hr : sumRun e (k + 1) s = s := if_neg hg
      rw [hr]
      exact sum_exit c R e s _ E K hg

/-- The call of the loop of sums. -/
theorem sum_call (c : Dev nD) (R : Refs) (e : Env F) (s : Sums F) (hf : SbfBits.Fits 43 s.four) (a : Cc0While1 F) (ha : a = sumRec R e s)
    {α : Type} (E : Set ℕ) (k : (Λ₀ F).Result 1 → Prog (TpuEff nD τ sig (Elt F) (Λ₀ F) .tc) α) (K : α → sProp 𝕄) :
    iprop(held c R e ∗ (held c R e -∗ wp frame (wpE (defs₀ (F := F)) Variants.nat (c : Thread nD τ) none) E (k (sumRun e 43 s).flat) K))
    ⊢ wp frame (wpE (defs₀ (F := F)) Variants.nat (c : Thread nD τ) none) E (Prog.op (TpuEff.call (Λ := Λ₀ F) 1 a) k) K := by
  subst ha
  exact (wp_call_spec Variants.nat (c : Thread nD τ) none E (sumSpec c R e 43 s) 43 (fun u hu => nomatch hu) (fun K' => sum_le c R e E K' 43 s hf))

/-- What the loop of gradients does: it reads its arrays, adds to two, and returns `k` trips' carries. -/
def gradSpec (c : Dev nD) (R : Refs) (e : Env F) (p : Tots F) (k : ℕ) (s : Grads F) : sWPT 𝕄 ((Λ₀ F).Result 2) := do
  sWPT.consume (heldG c R e s.dk s.dv)
  sWPT.produce (heldG c R e (gradRun e p k s).dk (gradRun e p k s).dv)
  pure (gradRun e p k s).flat

theorem gradSpec_apply (c : Dev nD) (R : Refs) (e : Env F) (p : Tots F) (k : ℕ) (s : Grads F) (K : (Λ₀ F).Result 2 → sProp 𝕄) :
    gradSpec c R e p k s K = iprop(heldG c R e s.dk s.dv ∗ (heldG c R e (gradRun e p k s).dk (gradRun e p k s).dv -∗ K (gradRun e p k s).flat)) := rfl

theorem grad_exit (c : Dev nD) (R : Refs) (e : Env F) (p : Tots F) (s : Grads F) (bd : Option Variants.nat.V) (E : Set ℕ) (K : (Λ₀ F).Result 2 → sProp 𝕄) (hg : ¬ SbfBits.goOn s.four) :
    iprop(heldG c R e s.dk s.dv ∗ (heldG c R e s.dk s.dv -∗ K s.flat)) ⊢ wp frame (wpE (defs₀ (F := F)) Variants.nat (c : Thread nD τ) bd) E (gradLoop R e p s) K := by
  unfold gradLoop cc0_while2
  have hc : ¬ (Scalar.ori (Scalar.ori (Scalar.ori (Scalar.andi (Scalar.cmpi .sge s.s1.c.jt 0#32) (Scalar.cmpf .ogt s.s1.c.mx (Scalar.ofBits .f32 0xC2D00000#32))) (Scalar.andi (Scalar.cmpi .sge s.s2.c.jt 0#32) (Scalar.cmpf .ogt s.s2.c.mx (Scalar.ofBits .f32 0xC2D00000#32)))) (Scalar.andi (Scalar.cmpi .sge s.s3.c.jt 0#32) (Scalar.cmpf .ogt s.s3.c.mx (Scalar.ofBits .f32 0xC2D00000#32)))) (Scalar.andi (Scalar.cmpi .sge s.s4.c.jt 0#32) (Scalar.cmpf .ogt s.s4.c.mx (Scalar.ofBits .f32 0xC2D00000#32))) = 1#1) := hg
  simp only [hc, ↓reduceIte, Prog.pure_eq_ret]
  iintro ⟨Hh, Hk⟩
  rw [wp_ret]
  imodintro
  iapply Hk; iexact Hh

/-- The loop of gradients meets its specification wherever `k` trips are enough. -/
theorem grad_le (c : Dev nD) (R : Refs) (e : Env F) (p : Tots F) (E : Set ℕ) (K : (Λ₀ F).Result 2 → sProp 𝕄) : ∀ (k : ℕ) (s : Grads F), SbfBits.Fits k s.four →
    gradSpec c R e p k s K ⊢ wp frame (wpE (defs₀ (F := F)) Variants.nat (c : Thread nD τ) (some k)) E (defs₀ (F := F) .tc 2 (gradRec R e p s)) K := by
  intro k
  induction k generalizing K with
  | zero =>
    intro s hf
    rw [gradSpec_apply]
    show _ ⊢ wp frame (wpE (defs₀ (F := F)) Variants.nat (c : Thread nD τ) (some 0)) E (gradLoop R e p s) K
    exact grad_exit c R e p s _ E K (not_goOn _ hf)
  | succ k ih =>
    intro s hf
    rw [gradSpec_apply]
    show _ ⊢ wp frame (wpE (defs₀ (F := F)) Variants.nat (c : Thread nD τ) (some (k + 1))) E (gradLoop R e p s) K
    by_cases hg : SbfBits.goOn s.four
    · have hr : gradRun e p (k + 1) s = gradRun e p k (gradStep e p s) := if_pos hg
      have hf' : SbfBits.Fits k (gradStep e p s).four := SbfBits.fits_step e.walk k s.four hf hg
      obtain ⟨i1, i2, i3, i4⟩ := inb_of k s.four hf hg
      rw [hr]
      iintro ⟨Hh, Hk⟩
      iapply (grad_trip c R e p s (some (k + 1)) i1 i2 i3 i4 hg E K)
      isplitl [Hh]; · iexact Hh
      iintro %a %ha Hh
      subst ha
      iapply (wp_call_spec Variants.nat (c : Thread nD τ) (some (k + 1)) E (gradSpec c R e p k (gradStep e p s)) k
        (fun u hu => by cases hu; exact Nat.lt_succ_self k) (fun K' => ih K' (gradStep e p s) hf'))
      rw [gradSpec_apply]
      isplitl [Hh]; · iexact Hh
      iintro Hh
      rw [wp_ret]
      imodintro
      iapply Hk; iexact Hh
    · have hr : gradRun e p (k + 1) s = s := if_neg hg
      rw [hr]
      exact grad_exit c R e p s _ E K hg

/-- The call of the loop of gradients. -/
theorem grad_call (c : Dev nD) (R : Refs) (e : Env F) (p : Tots F) (s : Grads F) (hf : SbfBits.Fits 43 s.four) (a : Cc0While2 F) (ha : a = gradRec R e p s)
    {α : Type} (E : Set ℕ) (k : (Λ₀ F).Result 2 → Prog (TpuEff nD τ sig (Elt F) (Λ₀ F) .tc) α) (K : α → sProp 𝕄) :
    iprop(heldG c R e s.dk s.dv ∗ (heldG c R e (gradRun e p 43 s).dk (gradRun e p 43 s).dv -∗ wp frame (wpE (defs₀ (F := F)) Variants.nat (c : Thread nD τ) none) E (k (gradRun e p 43 s).flat) K))
    ⊢ wp frame (wpE (defs₀ (F := F)) Variants.nat (c : Thread nD τ) none) E (Prog.op (TpuEff.call (Λ := Λ₀ F) 2 a) k) K := by
  subst ha
  exact (wp_call_spec Variants.nat (c : Thread nD τ) none E (gradSpec c R e p 43 s) 43 (fun u hu => nomatch hu) (fun K' => grad_le c R e p E K' 43 s hf))

end Cert.Proof.SbBits

end
-- ==== Proof.SbBitsBody.lean ====
module

public import proofs.«01_k».proof.Proof.Gen.SbKernel.Launch
public import proofs.«01_k».proof.Proof.Gen.SbKernel.Skeleton
public import proofs.«01_k».proof.Proof.Gen.SbKernel.Points
public import proofs.«01_k».proof.Proof.SbBitsLoop
public import Idealize.ShloMosaic.Lib.Pipeline.FrameValue
public import Idealize.ShloMosaic.Lib.VecWindow
public import proofs.«01_k».proof.Proof.SbfBitsBody

@[expose] public section

set_option maxRecDepth 16384

noncomputable section

namespace Cert.Proof.SbBits

open Cert.SbKernel Cert.SbKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- What a grid point's loops read: the masks, the four scaled query blocks, their cotangents, and the arrays. -/
def env (i : grid0.Coords) (x2 : Vec F S512x128 .f32) (x3 x4 : Vec F S16384x128 .f32) (x5 : Vec F S512x128 .f32) (x6 x7 : Vec F S384x256 .i32) (x8 x9 : Vec F S256x256 .bf16) : Env F :=
  ⟨i, k0_pay8, k0_pay9, k0_pay12 (View.ld x2 (Rect.unit (s := S512x128) ![0, 0] S128x128.size inb_S512x128_S128x128_0_0)), k0_pay13 (View.ld x2 (Rect.unit (s := S512x128) ![128, 0] S128x128.size inb_S512x128_S128x128_128_0)), k0_pay14 (View.ld x2 (Rect.unit (s := S512x128) ![256, 0] S128x128.size inb_S512x128_S128x128_256_0)), k0_pay15 (View.ld x2 (Rect.unit (s := S512x128) ![384, 0] S128x128.size inb_S512x128_S128x128_384_0)),
   k0_pay16 (View.ld x5 (Rect.unit (s := S512x128) ![0, 0] S128x128.size inb_S512x128_S128x128_0_0)), k0_pay17 (View.ld x5 (Rect.unit (s := S512x128) ![128, 0] S128x128.size inb_S512x128_S128x128_128_0)), k0_pay18 (View.ld x5 (Rect.unit (s := S512x128) ![256, 0] S128x128.size inb_S512x128_S128x128_256_0)), k0_pay19 (View.ld x5 (Rect.unit (s := S512x128) ![384, 0] S128x128.size inb_S512x128_S128x128_384_0)), x3, x4, x6, x7, x8, x9⟩

/-- The sums after the first tiles. -/
def sums0 (e : Env F) : Sums F where
  s1 := sumFirst e.v2 e.v5 e.x6 e.x7 e.x8 e.q1 e.d1 (SbfBits.blk e.i 0#32) (SbfBits.tile e.x3 (SbfBits.blk e.i 0#32)) (SbfBits.tile e.x4 (SbfBits.blk e.i 0#32)) (SbfBits.fresh e.i 0#32)
  s2 := sumFirst e.v2 e.v5 e.x6 e.x7 e.x8 e.q2 e.d2 (SbfBits.blk e.i 1#32) (SbfBits.tile e.x3 (SbfBits.blk e.i 1#32)) (SbfBits.tile e.x4 (SbfBits.blk e.i 1#32)) (SbfBits.fresh e.i 1#32)
  s3 := sumFirst e.v2 e.v5 e.x6 e.x7 e.x8 e.q3 e.d3 (SbfBits.blk e.i 2#32) (SbfBits.tile e.x3 (SbfBits.blk e.i 2#32)) (SbfBits.tile e.x4 (SbfBits.blk e.i 2#32)) (SbfBits.fresh e.i 2#32)
  s4 := sumFirst e.v2 e.v5 e.x6 e.x7 e.x8 e.q4 e.d4 (SbfBits.blk e.i 3#32) (SbfBits.tile e.x3 (SbfBits.blk e.i 3#32)) (SbfBits.tile e.x4 (SbfBits.blk e.i 3#32)) (SbfBits.fresh e.i 3#32)

/-- The sums at the loop's end. -/
@[irreducible] def sumEnd (e : Env F) : Sums F := sumRun e 43 (sums0 e)

/-- The totals. -/
def tots (e : Env F) : Tots F := ⟨(sumEnd e).s1.t0, (sumEnd e).s1.t1, (sumEnd e).s2.t0, (sumEnd e).s2.t1, (sumEnd e).s3.t0, (sumEnd e).s3.t1, (sumEnd e).s4.t0, (sumEnd e).s4.t1⟩

/-- The gradients after the first tiles. -/
def grads0 (e : Env F) (p : Tots F) (dk dv : Vec F S16384x128 .f32) : Grads F where
  s1 := gradFirst e.v2 e.v5 e.x6 e.x7 e.x8 e.x9 e.q1 e.d1 (SbfBits.blk e.i 0#32) (SbfBits.tile e.x3 (SbfBits.blk e.i 0#32)) (SbfBits.tile e.x4 (SbfBits.blk e.i 0#32)) p.p1 p.r1 (SbfBits.fresh e.i 0#32) k0_pay20
  s2 := gradFirst e.v2 e.v5 e.x6 e.x7 e.x8 e.x9 e.q2 e.d2 (SbfBits.blk e.i 1#32) (SbfBits.tile e.x3 (SbfBits.blk e.i 1#32)) (SbfBits.tile e.x4 (SbfBits.blk e.i 1#32)) p.p2 p.r2 (SbfBits.fresh e.i 1#32) k0_pay20
  s3 := gradFirst e.v2 e.v5 e.x6 e.x7 e.x8 e.x9 e.q3 e.d3 (SbfBits.blk e.i 2#32) (SbfBits.tile e.x3 (SbfBits.blk e.i 2#32)) (SbfBits.tile e.x4 (SbfBits.blk e.i 2#32)) p.p3 p.r3 (SbfBits.fresh e.i 2#32) k0_pay20
  s4 := gradFirst e.v2 e.v5 e.x6 e.x7 e.x8 e.x9 e.q4 e.d4 (SbfBits.blk e.i 3#32) (SbfBits.tile e.x3 (SbfBits.blk e.i 3#32)) (SbfBits.tile e.x4 (SbfBits.blk e.i 3#32)) p.p4 p.r4 (SbfBits.fresh e.i 3#32) k0_pay20
  dk := upd (upd (upd (upd dk
    (SbfBits.blk e.i 0#32) (addK e.v2 e.v5 e.x6 e.x7 e.x8 e.x9 e.q1 e.d1 (SbfBits.blk e.i 0#32) (SbfBits.tile e.x3 (SbfBits.blk e.i 0#32)) (SbfBits.tile e.x4 (SbfBits.blk e.i 0#32)) p.p1 p.r1 (SbfBits.fresh e.i 0#32) k0_pay20 k0_pay20))
    (SbfBits.blk e.i 1#32) (addK e.v2 e.v5 e.x6 e.x7 e.x8 e.x9 e.q2 e.d2 (SbfBits.blk e.i 1#32) (SbfBits.tile e.x3 (SbfBits.blk e.i 1#32)) (SbfBits.tile e.x4 (SbfBits.blk e.i 1#32)) p.p2 p.r2 (SbfBits.fresh e.i 1#32) k0_pay20 k0_pay20))
    (SbfBits.blk e.i 2#32) (addK e.v2 e.v5 e.x6 e.x7 e.x8 e.x9 e.q3 e.d3 (SbfBits.blk e.i 2#32) (SbfBits.tile e.x3 (SbfBits.blk e.i 2#32)) (SbfBits.tile e.x4 (SbfBits.blk e.i 2#32)) p.p3 p.r3 (SbfBits.fresh e.i 2#32) k0_pay20 k0_pay20))
    (SbfBits.blk e.i 3#32) (addK e.v2 e.v5 e.x6 e.x7 e.x8 e.x9 e.q4 e.d4 (SbfBits.blk e.i 3#32) (SbfBits.tile e.x3 (SbfBits.blk e.i 3#32)) (SbfBits.tile e.x4 (SbfBits.blk e.i 3#32)) p.p4 p.r4 (SbfBits.fresh e.i 3#32) k0_pay20 k0_pay20)
  dv := upd (upd (upd (upd dv
    (SbfBits.blk e.i 0#32) (addV e.v2 e.v5 e.x6 e.x7 e.x8 e.q1 e.d1 (SbfBits.blk e.i 0#32) (SbfBits.tile e.x3 (SbfBits.blk e.i 0#32)) (SbfBits.fresh e.i 0#32)))
    (SbfBits.blk e.i 1#32) (addV e.v2 e.v5 e.x6 e.x7 e.x8 e.q2 e.d2 (SbfBits.blk e.i 1#32) (SbfBits.tile e.x3 (SbfBits.blk e.i 1#32)) (SbfBits.fresh e.i 1#32)))
    (SbfBits.blk e.i 2#32) (addV e.v2 e.v5 e.x6 e.x7 e.x8 e.q3 e.d3 (SbfBits.blk e.i 2#32) (SbfBits.tile e.x3 (SbfBits.blk e.i 2#32)) (SbfBits.fresh e.i 2#32)))
    (SbfBits.blk e.i 3#32) (addV e.v2 e.v5 e.x6 e.x7 e.x8 e.q4 e.d4 (SbfBits.blk e.i 3#32) (SbfBits.tile e.x3 (SbfBits.blk e.i 3#32)) (SbfBits.fresh e.i 3#32))

/-- The gradients at the loop's end. -/
@[irreducible] def gradEnd (e : Env F) (dk dv : Vec F S16384x128 .f32) : Grads F := gradRun e (tots e) 43 (grads0 e (tots e) dk dv)

/-- The four blocks' places, as numbers. -/
theorem blk_of (i : grid0.Coords) : SbfBits.blk i 0#32 = BitVec.ofInt 32 (4 * ((i 1).val : ℤ)) ∧ SbfBits.blk i 1#32 = BitVec.ofInt 32 (4 * ((i 1).val : ℤ) + 1)
    ∧ SbfBits.blk i 2#32 = BitVec.ofInt 32 (4 * ((i 1).val : ℤ) + 2) ∧ SbfBits.blk i 3#32 = BitVec.ofInt 32 (4 * ((i 1).val : ℤ) + 3) := by
  have hi : (i 1).val < 32 := (i 1).isLt
  have h : ∀ n : Fin 32, (Scalar.addi (Scalar.muli (BitVec.ofNat 32 n.val) 4#32) 0#32 = BitVec.ofInt 32 (4 * (n.val : ℤ)))
      ∧ (Scalar.addi (Scalar.muli (BitVec.ofNat 32 n.val) 4#32) 1#32 = BitVec.ofInt 32 (4 * (n.val : ℤ) + 1))
      ∧ (Scalar.addi (Scalar.muli (BitVec.ofNat 32 n.val) 4#32) 2#32 = BitVec.ofInt 32 (4 * (n.val : ℤ) + 2))
      ∧ (Scalar.addi (Scalar.muli (BitVec.ofNat 32 n.val) 4#32) 3#32 = BitVec.ofInt 32 (4 * (n.val : ℤ) + 3)) := by decide
  exact h ⟨(i 1).val, hi⟩

theorem blk_inb (i : grid0.Coords) : InB (SbfBits.blk i 0#32) ∧ InB (SbfBits.blk i 1#32) ∧ InB (SbfBits.blk i 2#32) ∧ InB (SbfBits.blk i 3#32) := by
  have hi : (i 1).val < 32 := (i 1).isLt
  obtain ⟨h0, h1, h2, h3⟩ := blk_of i
  rw [h0, h1, h2, h3]
  exact ⟨SbfBits.chk_of _ (by omega) (by omega), SbfBits.chk_of _ (by omega) (by omega), SbfBits.chk_of _ (by omega) (by omega), SbfBits.chk_of _ (by omega) (by omega)⟩

/-- After the first tiles 43 trips are enough. -/
theorem fits_first (i : grid0.Coords) (s : SbfBits.Four F) (h1 : s.s1.jt = Scalar.subi (SbfBits.blk i 0#32) 3#32) (h2 : s.s2.jt = Scalar.subi (SbfBits.blk i 1#32) 3#32)
    (h3 : s.s3.jt = Scalar.subi (SbfBits.blk i 2#32) 3#32) (h4 : s.s4.jt = Scalar.subi (SbfBits.blk i 3#32) 3#32) : SbfBits.Fits 43 s := by
  have hi : (i 1).val < 32 := (i 1).isLt
  obtain ⟨e0, e1, e2, e3⟩ := blk_of i
  refine ⟨4 * ((i 1).val : ℤ) - 3, by omega, by omega, by push_cast; omega, ?_, ?_, ?_, ?_⟩
  · rw [h1, e0]; exact SbfBits.sub_three _ (by omega) (by omega)
  · rw [h2, e1, SbfBits.sub_three _ (by omega) (by omega)]; congr 1; omega
  · rw [h3, e2, SbfBits.sub_three _ (by omega) (by omega)]; congr 1; omega
  · rw [h4, e3, SbfBits.sub_three _ (by omega) (by omega)]; congr 1; omega

theorem fits_sums (e : Env F) : SbfBits.Fits 43 (sums0 e).four := fits_first e.i _ rfl rfl rfl rfl
theorem fits_grads (e : Env F) (p : Tots F) (dk dv : Vec F S16384x128 .f32) : SbfBits.Fits 43 (grads0 e p dk dv).four := fits_first e.i _ rfl rfl rfl rfl

/-- The test of a pair's first grid point, -/
abbrev isFirst (i : grid0.Coords) : Prop := Scalar.cmpi .ne (Scalar.extui (Scalar.cmpi .eq (BitVec.ofNat 32 (i 1).val) 0#32) : BitVec 32) 0#32 = 1#1
open Classical in
/-- at which the two arrays are started anew. -/
def start0 (i : grid0.Coords) (z x : Vec F S16384x128 .f32) : Vec F S16384x128 .f32 := if isFirst i then z else x

/-- Block 0's first tile begins at this row. -/
theorem off1_0 (i : grid0.Coords) : k0_off1 i 0#32 = ![128 * (4 * (i 1).val + 0 - 2), 0] := by
  have h : ∀ n : Fin 32, (Scalar.muli (Scalar.maxsi (Scalar.subi (Scalar.addi (Scalar.muli (BitVec.ofNat 32 n.val) 4#32) 0#32) 2#32) 0#32) 128#32).toNat = 128 * (4 * n.val + 0 - 2) := by decide
  exact congrArg (fun a => ![a, 0]) (h ⟨(i 1).val, (i 1).isLt⟩)
instance closed1_0 (i : grid0.Coords) : ClosedOff (k0_off1 i 0#32) := ⟨![128 * (4 * (i 1).val + 0 - 2), 0], off1_0 i⟩

/-- Block 1's first tile begins at this row. -/
theorem off1_1 (i : grid0.Coords) : k0_off1 i 1#32 = ![128 * (4 * (i 1).val + 1 - 2), 0] := by
  have h : ∀ n : Fin 32, (Scalar.muli (Scalar.maxsi (Scalar.subi (Scalar.addi (Scalar.muli (BitVec.ofNat 32 n.val) 4#32) 1#32) 2#32) 0#32) 128#32).toNat = 128 * (4 * n.val + 1 - 2) := by decide
  exact congrArg (fun a => ![a, 0]) (h ⟨(i 1).val, (i 1).isLt⟩)
instance closed1_1 (i : grid0.Coords) : ClosedOff (k0_off1 i 1#32) := ⟨![128 * (4 * (i 1).val + 1 - 2), 0], off1_1 i⟩

/-- Block 2's first tile begins at this row. -/
theorem off1_2 (i : grid0.Coords) : k0_off1 i 2#32 = ![128 * (4 * (i 1).val + 2 - 2), 0] := by
  have h : ∀ n : Fin 32, (Scalar.muli (Scalar.maxsi (Scalar.subi (Scalar.addi (Scalar.muli (BitVec.ofNat 32 n.val) 4#32) 2#32) 2#32) 0#32) 128#32).toNat = 128 * (4 * n.val + 2 - 2) := by decide
  exact congrArg (fun a => ![a, 0]) (h ⟨(i 1).val, (i 1).isLt⟩)
instance closed1_2 (i : grid0.Coords) : ClosedOff (k0_off1 i 2#32) := ⟨![128 * (4 * (i 1).val + 2 - 2), 0], off1_2 i⟩

/-- Block 3's first tile begins at this row. -/
theorem off1_3 (i : grid0.Coords) : k0_off1 i 3#32 = ![128 * (4 * (i 1).val + 3 - 2), 0] := by
  have h : ∀ n : Fin 32, (Scalar.muli (Scalar.maxsi (Scalar.subi (Scalar.addi (Scalar.muli (BitVec.ofNat 32 n.val) 4#32) 3#32) 2#32) 0#32) 128#32).toNat = 128 * (4 * n.val + 3 - 2) := by decide
  exact congrArg (fun a => ![a, 0]) (h ⟨(i 1).val, (i 1).isLt⟩)
instance closed1_3 (i : grid0.Coords) : ClosedOff (k0_off1 i 3#32) := ⟨![128 * (4 * (i 1).val + 3 - 2), 0], off1_3 i⟩

set_option maxHeartbeats 4000000 in
/-- The start of a grid point: the two arrays are started anew at a pair's first, and the query blocks are read. -/
theorem part1_ok (c : Dev nD) (i : grid0.Coords) (arg2 : Memref sig .tc .vmem S512x128 .f32) (harg2 : arg2.IsWhole) (arg3 : Memref sig .tc .vmem S16384x128 .f32) (harg3 : arg3.IsWhole) (arg4 : Memref sig .tc .vmem S16384x128 .f32) (harg4 : arg4.IsWhole) (arg5 : Memref sig .tc .vmem S512x128 .f32) (harg5 : arg5.IsWhole)
    (arg6 : Memref sig .tc .vmem S384x256 .i32) (harg6 : arg6.IsWhole) (arg7 : Memref sig .tc .vmem S384x256 .i32) (harg7 : arg7.IsWhole) (arg8 : Memref sig .tc .vmem S256x256 .bf16) (harg8 : arg8.IsWhole) (arg9 : Memref sig .tc .vmem S256x256 .bf16) (harg9 : arg9.IsWhole)
    (arg10 : Memref sig .tc .vmem S512x128 .f32) (harg10 : arg10.IsWhole) (arg11 : Memref sig .tc .hbm S16384x256 .f32) (harg11 : arg11.IsWhole) (arg12 : Memref sig .tc .hbm S16384x256 .f32) (harg12 : arg12.IsWhole) (arg13 : Memref sig .tc .vmem S16384x128 .f32) (harg13 : arg13.IsWhole) (arg14 : Memref sig .tc .vmem S16384x128 .f32) (harg14 : arg14.IsWhole)
    (x2 : Vec F S512x128 .f32) (dk dv : Vec F S16384x128 .f32) (E : Set ℕ) (K : _ → sProp 𝕄) :
    iprop(owns (c : Thread nD τ) arg2 fullShare x2 ∗ owns (c : Thread nD τ) arg13 fullShare dk ∗ owns (c : Thread nD τ) arg14 fullShare dv
        ∗ (∀ r, ⌜r = ⟨BitVec.ofNat 32 (i 0).val, BitVec.ofNat 32 (i 1).val, k0_pay8, k0_pay9, SbfBits.blk i 0#32, SbfBits.blk i 1#32, SbfBits.blk i 2#32, SbfBits.blk i 3#32,
              k0_pay12 (View.ld x2 (Rect.unit (s := S512x128) ![0, 0] S128x128.size inb_S512x128_S128x128_0_0)), k0_pay13 (View.ld x2 (Rect.unit (s := S512x128) ![128, 0] S128x128.size inb_S512x128_S128x128_128_0)), k0_pay14 (View.ld x2 (Rect.unit (s := S512x128) ![256, 0] S128x128.size inb_S512x128_S128x128_256_0)), k0_pay15 (View.ld x2 (Rect.unit (s := S512x128) ![384, 0] S128x128.size inb_S512x128_S128x128_384_0))⟩⌝ -∗ owns (c : Thread nD τ) arg2 fullShare x2 -∗ owns (c : Thread nD τ) arg13 fullShare (start0 i k0_pay10 dk) -∗ owns (c : Thread nD τ) arg14 fullShare (start0 i k0_pay11 dv)
          -∗ K r))
    ⊢ wp frame (wpE (defs₀ (F := F)) Variants.nat (c : Thread nD τ) none) E (k0_part1 i arg2 harg2 arg3 harg3 arg4 harg4 arg5 harg5 arg6 harg6 arg7 harg7 arg8 harg8 arg9 harg9 arg10 harg10 arg11 harg11 arg12 harg12 arg13 harg13 arg14 harg14 cc0_scratch2) K := by
  simp only [k0_part1_eq_skeleton]; unfold k0_part1_skel
  unfold owns
  iintro ⟨⟨%f2, %hf2, H2⟩, ⟨%f13, %hf13, H13⟩, ⟨%f14, %hf14, H14⟩, Hk⟩
  obtain rfl := harg2.eq_unread hf2; obtain rfl := harg13.eq_unread hf13; obtain rfl := harg14.eq_unread hf14
  by_cases hc : isFirst i
  · sl_exec (disch := sl_exact hc)
    sl_step
    iapply Hk $$ %_ %?_ [H2] [H13] [H14]
    · simp only [View.readAt_eq_ld, harg2.read_unread]; rfl
    · iexists _; isplitr; · (ipureintro; exact harg2.read_unread _)
      iexact H2
    · iexists _; isplitr; swap; · iexact H13
      ipureintro
      rw [start0, if_pos hc]; exact View.read_writes_full _ _ _ _ _
    · iexists _; isplitr; swap; · iexact H14
      ipureintro
      rw [start0, if_pos hc]; exact View.read_writes_full _ _ _ _ _
  · sl_exec (disch := sl_exact hc)
    sl_step
    iapply Hk $$ %_ %?_ [H2] [H13] [H14]
    · simp only [View.readAt_eq_ld, harg2.read_unread]; rfl
    · iexists _; isplitr; · (ipureintro; exact harg2.read_unread _)
      iexact H2
    · iexists _; isplitr; swap; · iexact H13
      ipureintro
      rw [start0, if_neg hc]; assumption
    · iexists _; isplitr; swap; · iexact H14
      ipureintro
      rw [start0, if_neg hc]; assumption

/-- The part of a result that a grid point copies out, written over what the result held, at a pair's last point. -/
def copied (i : grid0.Coords) (x : Vec F S16384x128 .f32) (f : Vec F S16384x256 .f32) : Vec F S16384x256 .f32 :=
  if h : k0_cond2 i = 1#1 then VecWindow.put f (k0_off10 i) S16384x128.size x else f

/-- The query gradients' blocks. -/
def dqPieces (e : Env F) (dk dv : Vec F S16384x128 .f32) : List (View.Piece (Elt F) S512x128 .f32) :=
  [⟨Rect.unit (s := S512x128) ![384, 0] S128x128.size inb_S512x128_S128x128_384_0, (gradEnd e dk dv).s4.dq⟩,
   ⟨Rect.unit (s := S512x128) ![256, 0] S128x128.size inb_S512x128_S128x128_256_0, (gradEnd e dk dv).s3.dq⟩,
   ⟨Rect.unit (s := S512x128) ![128, 0] S128x128.size inb_S512x128_S128x128_128_0, (gradEnd e dk dv).s2.dq⟩,
   ⟨Rect.unit (s := S512x128) ![0, 0] S128x128.size inb_S512x128_S128x128_0_0, (gradEnd e dk dv).s1.dq⟩]
/-- An array after a copy into one of its columns. -/
theorem copy_read (i : grid0.Coords) (h : k0_cond2 i = 1#1) (arg11 : Memref sig .tc .hbm S16384x256 .f32) (hp : _) (arg13 : Memref sig .tc .vmem S16384x128 .f32) (f : arg11.view.ty.Contents (Elt F)) (e : arg13.view.ty.Contents (Elt F)) :
    View.read (Elt F) arg11.view ((arg11.slice (Rect.unit (s := S16384x256) (k0_off10 i) S16384x128.size (k0_off10_inb i h)) hp).view.write (Elt F) f (ReadAs.same.apply (View.read (Elt F) arg13.view e)) Finset.univ)
      = VecWindow.put (View.read (Elt F) arg11.view f) (k0_off10 i) S16384x128.size (View.read (Elt F) arg13.view e) :=
  View.read_writes_cons_put arg11.view f (k0_off10_inb i h) _ [] rfl

-- A copy's amount is not computed below: that it is positive is all that is needed.
attribute [local irreducible] RefSig.tileCredit

set_option maxHeartbeats 16000000 in
/-- One grid point's body. -/
theorem body_ok (c : Dev nD) (i : grid0.Coords) (arg2 : Memref sig .tc .vmem S512x128 .f32) (harg2 : arg2.IsWhole) (arg3 : Memref sig .tc .vmem S16384x128 .f32) (harg3 : arg3.IsWhole) (arg4 : Memref sig .tc .vmem S16384x128 .f32) (harg4 : arg4.IsWhole) (arg5 : Memref sig .tc .vmem S512x128 .f32) (harg5 : arg5.IsWhole)
    (arg6 : Memref sig .tc .vmem S384x256 .i32) (harg6 : arg6.IsWhole) (arg7 : Memref sig .tc .vmem S384x256 .i32) (harg7 : arg7.IsWhole) (arg8 : Memref sig .tc .vmem S256x256 .bf16) (harg8 : arg8.IsWhole) (arg9 : Memref sig .tc .vmem S256x256 .bf16) (harg9 : arg9.IsWhole)
    (arg10 : Memref sig .tc .vmem S512x128 .f32) (harg10 : arg10.IsWhole) (arg11 : Memref sig .tc .hbm S16384x256 .f32) (harg11 : arg11.IsWhole) (arg12 : Memref sig .tc .hbm S16384x256 .f32) (harg12 : arg12.IsWhole) (arg13 : Memref sig .tc .vmem S16384x128 .f32) (harg13 : arg13.IsWhole) (arg14 : Memref sig .tc .vmem S16384x128 .f32) (harg14 : arg14.IsWhole)
    (x2 : Vec F S512x128 .f32) (x3 x4 : Vec F S16384x128 .f32) (x5 : Vec F S512x128 .f32) (x6 x7 : Vec F S384x256 .i32) (x8 x9 : Vec F S256x256 .bf16)
    (dk dv : Vec F S16384x128 .f32) (g1 g2 : Vec F S16384x256 .f32) (W : Waits sig Unit) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
        ∗ (∃ d, owns (c : Thread nD τ) arg10 fullShare d) ∗ owns (c : Thread nD τ) arg13 fullShare dk ∗ owns (c : Thread nD τ) arg14 fullShare dv
        ∗ owns (c : Thread nD τ) arg11 fullShare g1 ∗ owns (c : Thread nD τ) arg12 fullShare g2
        ∗ semVal ((c : Thread nD τ), SemLoc.dma 14) 0 ∗ semVal ((c : Thread nD τ), SemLoc.dma 15) 0 ∗ owes (c : Thread nD τ) 0 W
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ (∃ f, arg10.view.loc (c : Thread nD τ) ↦[arg10.view.set]{fullShare} arg10.view.writes (Elt F) f
                (dqPieces (env i x2 x3 x4 x5 x6 x7 x8 x9) (start0 i k0_pay10 dk) (start0 i k0_pay11 dv)))
            ∗ owns (c : Thread nD τ) arg13 fullShare (gradEnd (env i x2 x3 x4 x5 x6 x7 x8 x9) (start0 i k0_pay10 dk) (start0 i k0_pay11 dv)).dk
            ∗ owns (c : Thread nD τ) arg14 fullShare (gradEnd (env i x2 x3 x4 x5 x6 x7 x8 x9) (start0 i k0_pay10 dk) (start0 i k0_pay11 dv)).dv
            ∗ owns (c : Thread nD τ) arg11 fullShare (copied i (gradEnd (env i x2 x3 x4 x5 x6 x7 x8 x9) (start0 i k0_pay10 dk) (start0 i k0_pay11 dv)).dk g1)
            ∗ owns (c : Thread nD τ) arg12 fullShare (copied i (gradEnd (env i x2 x3 x4 x5 x6 x7 x8 x9) (start0 i k0_pay10 dk) (start0 i k0_pay11 dv)).dv g2)
            ∗ semVal ((c : Thread nD τ), SemLoc.dma 14) 0 ∗ semVal ((c : Thread nD τ), SemLoc.dma 15) 0 ∗ (∃ W', owes (c : Thread nD τ) 0 W')) -∗ K ⟨⟩))
    ⊢ wp frame (wpE (defs₀ (F := F)) Variants.nat (c : Thread nD τ) none) Set.univ (cc0_sb_bwd i arg2 harg2 arg3 harg3 arg4 harg4 arg5 harg5 arg6 harg6 arg7 harg7 arg8 harg8 arg9 harg9 arg10 harg10 arg11 harg11 arg12 harg12 arg13 harg13 arg14 harg14 cc0_scratch2) K := by
  simp only [cc0_sb_bwd_eq_skeleton]; unfold cc0_sb_bwd_skel
  rw [wp_bind]
  iintro ⟨H2, H3, H4, H5, H6, H7, H8, H9, ⟨%d10, H10⟩, H13, H14, H11, H12, Hs0, Hs1, Ho, Hk⟩
  iapply part1_ok c i arg2 harg2 arg3 harg3 arg4 harg4 arg5 harg5 arg6 harg6 arg7 harg7 arg8 harg8 arg9 harg9 arg10 harg10 arg11 harg11 arg12 harg12 arg13 harg13 arg14 harg14 x2 dk dv
  isplitl [H2]; · iexact H2
  isplitl [H13]; · iexact H13
  isplitl [H14]; · iexact H14
  iintro %r %hr H2 H13 H14
  subst hr
  obtain ⟨j1, j2, j3, j4⟩ := blk_inb i
  generalize start0 i k0_pay10 dk = dk
  generalize start0 i k0_pay11 dv = dv
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold owns
  icases H3 with ⟨%f3, %hf3, H3⟩; icases H4 with ⟨%f4, %hf4, H4⟩; icases H5 with ⟨%f5, %hf5, H5⟩; icases H6 with ⟨%f6, %hf6, H6⟩; icases H7 with ⟨%f7, %hf7, H7⟩
  icases H8 with ⟨%f8, %hf8, H8⟩; icases H9 with ⟨%f9, %hf9, H9⟩; icases H10 with ⟨%f10, -, H10⟩; icases H13 with ⟨%f13, %hf13, H13⟩; icases H14 with ⟨%f14, %hf14, H14⟩
  obtain rfl := harg3.eq_unread hf3; obtain rfl := harg4.eq_unread hf4; obtain rfl := harg5.eq_unread hf5; obtain rfl := harg6.eq_unread hf6; obtain rfl := harg7.eq_unread hf7
  obtain rfl := harg8.eq_unread hf8; obtain rfl := harg9.eq_unread hf9; obtain rfl := harg13.eq_unread hf13; obtain rfl := harg14.eq_unread hf14
  sl_exec
  iapply sum_call c ⟨arg3, harg3, arg4, harg4, arg6, harg6, arg7, harg7, arg8, harg8, arg9, harg9, arg13, harg13, arg14, harg14⟩ (env i x2 x3 x4 x5 x6 x7 x8 x9) (sums0 (env i x2 x3 x4 x5 x6 x7 x8 x9)) (fits_sums _) _ ?ha
  case ha =>
    calc _ = sumRec ⟨arg3, harg3, arg4, harg4, arg6, harg6, arg7, harg7, arg8, harg8, arg9, harg9, arg13, harg13, arg14, harg14⟩ ⟨i, k0_pay8, k0_pay9, k0_pay12 (View.ld x2 (Rect.unit (s := S512x128) ![0, 0] S128x128.size inb_S512x128_S128x128_0_0)), k0_pay13 (View.ld x2 (Rect.unit (s := S512x128) ![128, 0] S128x128.size inb_S512x128_S128x128_128_0)), k0_pay14 (View.ld x2 (Rect.unit (s := S512x128) ![256, 0] S128x128.size inb_S512x128_S128x128_256_0)), k0_pay15 (View.ld x2 (Rect.unit (s := S512x128) ![384, 0] S128x128.size inb_S512x128_S128x128_384_0)), k0_pay16 (View.readAt (Elt F) arg5.view (Rect.unit (s := S512x128) ![0, 0] S128x128.size inb_S512x128_S128x128_0_0).toLoadRect (harg5.unread x5)), k0_pay17 (View.readAt (Elt F) arg5.view (Rect.unit (s := S512x128) ![128, 0] S128x128.size inb_S512x128_S128x128_128_0).toLoadRect (harg5.unread x5)), k0_pay18 (View.readAt (Elt F) arg5.view (Rect.unit (s := S512x128) ![256, 0] S128x128.size inb_S512x128_S128x128_256_0).toLoadRect (harg5.unread x5)), k0_pay19 (View.readAt (Elt F) arg5.view (Rect.unit (s := S512x128) ![384, 0] S128x128.size inb_S512x128_S128x128_384_0).toLoadRect (harg5.unread x5)), x3, x4, x6, x7, x8, x9⟩ ⟨
        sumFirst k0_pay8 k0_pay9 (View.readAt (Elt F) arg6.view (Rect.unit (s := S384x256) ![0, 0] S384x256.size inb_S384x256_S384x256_0_0).toLoadRect (harg6.unread x6)) (View.readAt (Elt F) arg7.view (Rect.unit (s := S384x256) ![0, 0] S384x256.size inb_S384x256_S384x256_0_0).toLoadRect (harg7.unread x7)) (View.readAt (Elt F) arg8.view (Rect.unit (s := S256x256) ![0, 0] S256x256.size inb_S256x256_S256x256_0_0).toLoadRect (harg8.unread x8)) (k0_pay12 (View.ld x2 (Rect.unit (s := S512x128) ![0, 0] S128x128.size inb_S512x128_S128x128_0_0))) (k0_pay16 (View.readAt (Elt F) arg5.view (Rect.unit (s := S512x128) ![0, 0] S128x128.size inb_S512x128_S128x128_0_0).toLoadRect (harg5.unread x5))) (SbfBits.blk i 0#32)
          (View.readAt (Elt F) arg3.view (Rect.unit (s := S16384x128) (k0_off1 i 0#32) S384x128.size (k0_off1_inb i 0)).toLoadRect (harg3.unread x3)) (View.readAt (Elt F) arg4.view (Rect.unit (s := S16384x128) (k0_off1 i 0#32) S384x128.size (k0_off1_inb i 0)).toLoadRect (harg4.unread x4)) (SbfBits.fresh i 0#32),
        sumFirst k0_pay8 k0_pay9 (View.readAt (Elt F) arg6.view (Rect.unit (s := S384x256) ![0, 0] S384x256.size inb_S384x256_S384x256_0_0).toLoadRect (harg6.unread x6)) (View.readAt (Elt F) arg7.view (Rect.unit (s := S384x256) ![0, 0] S384x256.size inb_S384x256_S384x256_0_0).toLoadRect (harg7.unread x7)) (View.readAt (Elt F) arg8.view (Rect.unit (s := S256x256) ![0, 0] S256x256.size inb_S256x256_S256x256_0_0).toLoadRect (harg8.unread x8)) (k0_pay13 (View.ld x2 (Rect.unit (s := S512x128) ![128, 0] S128x128.size inb_S512x128_S128x128_128_0))) (k0_pay17 (View.readAt (Elt F) arg5.view (Rect.unit (s := S512x128) ![128, 0] S128x128.size inb_S512x128_S128x128_128_0).toLoadRect (harg5.unread x5))) (SbfBits.blk i 1#32)
          (View.readAt (Elt F) arg3.view (Rect.unit (s := S16384x128) (k0_off1 i 1#32) S384x128.size (k0_off1_inb i 1)).toLoadRect (harg3.unread x3)) (View.readAt (Elt F) arg4.view (Rect.unit (s := S16384x128) (k0_off1 i 1#32) S384x128.size (k0_off1_inb i 1)).toLoadRect (harg4.unread x4)) (SbfBits.fresh i 1#32),
        sumFirst k0_pay8 k0_pay9 (View.readAt (Elt F) arg6.view (Rect.unit (s := S384x256) ![0, 0] S384x256.size inb_S384x256_S384x256_0_0).toLoadRect (harg6.unread x6)) (View.readAt (Elt F) arg7.view (Rect.unit (s := S384x256) ![0, 0] S384x256.size inb_S384x256_S384x256_0_0).toLoadRect (harg7.unread x7)) (View.readAt (Elt F) arg8.view (Rect.unit (s := S256x256) ![0, 0] S256x256.size inb_S256x256_S256x256_0_0).toLoadRect (harg8.unread x8)) (k0_pay14 (View.ld x2 (Rect.unit (s := S512x128) ![256, 0] S128x128.size inb_S512x128_S128x128_256_0))) (k0_pay18 (View.readAt (Elt F) arg5.view (Rect.unit (s := S512x128) ![256, 0] S128x128.size inb_S512x128_S128x128_256_0).toLoadRect (harg5.unread x5))) (SbfBits.blk i 2#32)
          (View.readAt (Elt F) arg3.view (Rect.unit (s := S16384x128) (k0_off1 i 2#32) S384x128.size (k0_off1_inb i 2)).toLoadRect (harg3.unread x3)) (View.readAt (Elt F) arg4.view (Rect.unit (s := S16384x128) (k0_off1 i 2#32) S384x128.size (k0_off1_inb i 2)).toLoadRect (harg4.unread x4)) (SbfBits.fresh i 2#32),
        sumFirst k0_pay8 k0_pay9 (View.readAt (Elt F) arg6.view (Rect.unit (s := S384x256) ![0, 0] S384x256.size inb_S384x256_S384x256_0_0).toLoadRect (harg6.unread x6)) (View.readAt (Elt F) arg7.view (Rect.unit (s := S384x256) ![0, 0] S384x256.size inb_S384x256_S384x256_0_0).toLoadRect (harg7.unread x7)) (View.readAt (Elt F) arg8.view (Rect.unit (s := S256x256) ![0, 0] S256x256.size inb_S256x256_S256x256_0_0).toLoadRect (harg8.unread x8)) (k0_pay15 (View.ld x2 (Rect.unit (s := S512x128) ![384, 0] S128x128.size inb_S512x128_S128x128_384_0))) (k0_pay19 (View.readAt (Elt F) arg5.view (Rect.unit (s := S512x128) ![384, 0] S128x128.size inb_S512x128_S128x128_384_0).toLoadRect (harg5.unread x5))) (SbfBits.blk i 3#32)
          (View.readAt (Elt F) arg3.view (Rect.unit (s := S16384x128) (k0_off1 i 3#32) S384x128.size (k0_off1_inb i 3)).toLoadRect (harg3.unread x3)) (View.readAt (Elt F) arg4.view (Rect.unit (s := S16384x128) (k0_off1 i 3#32) S384x128.size (k0_off1_inb i 3)).toLoadRect (harg4.unread x4)) (SbfBits.fresh i 3#32)⟩ := by sl_kernel_rfl
      _ = _ := by
        rw [whole_load arg6 harg6 x6 (by decide) _, whole_load arg7 harg7 x7 (by decide) _, whole_load arg8 harg8 x8 (by decide) _]
        rw [read_tile arg3 harg3 x3 (SbfBits.blk i 0#32) j1 (k0_off1 i 0#32) rfl, read_tile arg4 harg4 x4 (SbfBits.blk i 0#32) j1 (k0_off1 i 0#32) rfl, read_tile arg3 harg3 x3 (SbfBits.blk i 1#32) j2 (k0_off1 i 1#32) rfl, read_tile arg4 harg4 x4 (SbfBits.blk i 1#32) j2 (k0_off1 i 1#32) rfl, read_tile arg3 harg3 x3 (SbfBits.blk i 2#32) j3 (k0_off1 i 2#32) rfl, read_tile arg4 harg4 x4 (SbfBits.blk i 2#32) j3 (k0_off1 i 2#32) rfl, read_tile arg3 harg3 x3 (SbfBits.blk i 3#32) j4 (k0_off1 i 3#32) rfl, read_tile arg4 harg4 x4 (SbfBits.blk i 3#32) j4 (k0_off1 i 3#32) rfl]
        simp only [View.readAt_eq_ld, harg5.read_unread]; rfl
  unfold held owns
  isplitl [H3 H4 H6 H7 H8]
  · try dsimp only [env]
    isplitl [H3]; · (iexists _; isplitr; · (ipureintro; exact hf3)); iexact H3
    isplitl [H4]; · (iexists _; isplitr; · (ipureintro; exact hf4)); iexact H4
    isplitl [H6]; · (iexists _; isplitr; · (ipureintro; exact hf6)); iexact H6
    isplitl [H7]; · (iexists _; isplitr; · (ipureintro; exact hf7)); iexact H7
    iexists _; isplitr; · (ipureintro; exact hf8)
    iexact H8
  rw [show sumRun (env i x2 x3 x4 x5 x6 x7 x8 x9) 43 (sums0 (env i x2 x3 x4 x5 x6 x7 x8 x9)) = sumEnd (env i x2 x3 x4 x5 x6 x7 x8 x9) from by unfold sumEnd; rfl]

  iintro ⟨⟨%g3, %hg3, H3⟩, ⟨%g4, %hg4, H4⟩, ⟨%g6, %hg6, H6⟩, ⟨%g7, %hg7, H7⟩, ⟨%g8, %hg8, H8⟩⟩
  obtain rfl := harg3.eq_unread (show _ = x3 from hg3); obtain rfl := harg4.eq_unread (show _ = x4 from hg4); obtain rfl := harg6.eq_unread (show _ = x6 from hg6); obtain rfl := harg7.eq_unread (show _ = x7 from hg7); obtain rfl := harg8.eq_unread (show _ = x8 from hg8)
  dsimp only [Sums.flat]
  sl_exec
  iapply grad_call c ⟨arg3, harg3, arg4, harg4, arg6, harg6, arg7, harg7, arg8, harg8, arg9, harg9, arg13, harg13, arg14, harg14⟩ (env i x2 x3 x4 x5 x6 x7 x8 x9) (tots (env i x2 x3 x4 x5 x6 x7 x8 x9)) (grads0 (env i x2 x3 x4 x5 x6 x7 x8 x9) (tots (env i x2 x3 x4 x5 x6 x7 x8 x9)) dk dv) (fits_grads _ _ _ _) _ ?hb
  case hb =>
    calc _ = gradRec ⟨arg3, harg3, arg4, harg4, arg6, harg6, arg7, harg7, arg8, harg8, arg9, harg9, arg13, harg13, arg14, harg14⟩ ⟨i, k0_pay8, k0_pay9, k0_pay12 (View.ld x2 (Rect.unit (s := S512x128) ![0, 0] S128x128.size inb_S512x128_S128x128_0_0)), k0_pay13 (View.ld x2 (Rect.unit (s := S512x128) ![128, 0] S128x128.size inb_S512x128_S128x128_128_0)), k0_pay14 (View.ld x2 (Rect.unit (s := S512x128) ![256, 0] S128x128.size inb_S512x128_S128x128_256_0)), k0_pay15 (View.ld x2 (Rect.unit (s := S512x128) ![384, 0] S128x128.size inb_S512x128_S128x128_384_0)), k0_pay16 (View.readAt (Elt F) arg5.view (Rect.unit (s := S512x128) ![0, 0] S128x128.size inb_S512x128_S128x128_0_0).toLoadRect (harg5.unread x5)), k0_pay17 (View.readAt (Elt F) arg5.view (Rect.unit (s := S512x128) ![128, 0] S128x128.size inb_S512x128_S128x128_128_0).toLoadRect (harg5.unread x5)), k0_pay18 (View.readAt (Elt F) arg5.view (Rect.unit (s := S512x128) ![256, 0] S128x128.size inb_S512x128_S128x128_256_0).toLoadRect (harg5.unread x5)), k0_pay19 (View.readAt (Elt F) arg5.view (Rect.unit (s := S512x128) ![384, 0] S128x128.size inb_S512x128_S128x128_384_0).toLoadRect (harg5.unread x5)), x3, x4, x6, x7, x8, x9⟩ (tots (env i x2 x3 x4 x5 x6 x7 x8 x9)) ⟨
        gradFirst k0_pay8 k0_pay9 (View.readAt (Elt F) arg6.view (Rect.unit (s := S384x256) ![0, 0] S384x256.size inb_S384x256_S384x256_0_0).toLoadRect (harg6.unread x6)) (View.readAt (Elt F) arg7.view (Rect.unit (s := S384x256) ![0, 0] S384x256.size inb_S384x256_S384x256_0_0).toLoadRect (harg7.unread x7)) (View.readAt (Elt F) arg8.view (Rect.unit (s := S256x256) ![0, 0] S256x256.size inb_S256x256_S256x256_0_0).toLoadRect (harg8.unread x8)) (View.readAt (Elt F) arg9.view (Rect.unit (s := S256x256) ![0, 0] S256x256.size inb_S256x256_S256x256_0_0).toLoadRect (harg9.unread x9)) (k0_pay12 (View.ld x2 (Rect.unit (s := S512x128) ![0, 0] S128x128.size inb_S512x128_S128x128_0_0))) (k0_pay16 (View.readAt (Elt F) arg5.view (Rect.unit (s := S512x128) ![0, 0] S128x128.size inb_S512x128_S128x128_0_0).toLoadRect (harg5.unread x5))) (SbfBits.blk i 0#32)
          (View.readAt (Elt F) arg3.view (Rect.unit (s := S16384x128) (k0_off1 i 0#32) S384x128.size (k0_off1_inb i 0)).toLoadRect (harg3.unread x3)) (View.readAt (Elt F) arg4.view (Rect.unit (s := S16384x128) (k0_off1 i 0#32) S384x128.size (k0_off1_inb i 0)).toLoadRect (harg4.unread x4)) (sumEnd (env i x2 x3 x4 x5 x6 x7 x8 x9)).s1.t0 (sumEnd (env i x2 x3 x4 x5 x6 x7 x8 x9)).s1.t1 (SbfBits.fresh i 0#32) k0_pay20,
        gradFirst k0_pay8 k0_pay9 (View.readAt (Elt F) arg6.view (Rect.unit (s := S384x256) ![0, 0] S384x256.size inb_S384x256_S384x256_0_0).toLoadRect (harg6.unread x6)) (View.readAt (Elt F) arg7.view (Rect.unit (s := S384x256) ![0, 0] S384x256.size inb_S384x256_S384x256_0_0).toLoadRect (harg7.unread x7)) (View.readAt (Elt F) arg8.view (Rect.unit (s := S256x256) ![0, 0] S256x256.size inb_S256x256_S256x256_0_0).toLoadRect (harg8.unread x8)) (View.readAt (Elt F) arg9.view (Rect.unit (s := S256x256) ![0, 0] S256x256.size inb_S256x256_S256x256_0_0).toLoadRect (harg9.unread x9)) (k0_pay13 (View.ld x2 (Rect.unit (s := S512x128) ![128, 0] S128x128.size inb_S512x128_S128x128_128_0))) (k0_pay17 (View.readAt (Elt F) arg5.view (Rect.unit (s := S512x128) ![128, 0] S128x128.size inb_S512x128_S128x128_128_0).toLoadRect (harg5.unread x5))) (SbfBits.blk i 1#32)
          (View.readAt (Elt F) arg3.view (Rect.unit (s := S16384x128) (k0_off1 i 1#32) S384x128.size (k0_off1_inb i 1)).toLoadRect (harg3.unread x3)) (View.readAt (Elt F) arg4.view (Rect.unit (s := S16384x128) (k0_off1 i 1#32) S384x128.size (k0_off1_inb i 1)).toLoadRect (harg4.unread x4)) (sumEnd (env i x2 x3 x4 x5 x6 x7 x8 x9)).s2.t0 (sumEnd (env i x2 x3 x4 x5 x6 x7 x8 x9)).s2.t1 (SbfBits.fresh i 1#32) k0_pay20,
        gradFirst k0_pay8 k0_pay9 (View.readAt (Elt F) arg6.view (Rect.unit (s := S384x256) ![0, 0] S384x256.size inb_S384x256_S384x256_0_0).toLoadRect (harg6.unread x6)) (View.readAt (Elt F) arg7.view (Rect.unit (s := S384x256) ![0, 0] S384x256.size inb_S384x256_S384x256_0_0).toLoadRect (harg7.unread x7)) (View.readAt (Elt F) arg8.view (Rect.unit (s := S256x256) ![0, 0] S256x256.size inb_S256x256_S256x256_0_0).toLoadRect (harg8.unread x8)) (View.readAt (Elt F) arg9.view (Rect.unit (s := S256x256) ![0, 0] S256x256.size inb_S256x256_S256x256_0_0).toLoadRect (harg9.unread x9)) (k0_pay14 (View.ld x2 (Rect.unit (s := S512x128) ![256, 0] S128x128.size inb_S512x128_S128x128_256_0))) (k0_pay18 (View.readAt (Elt F) arg5.view (Rect.unit (s := S512x128) ![256, 0] S128x128.size inb_S512x128_S128x128_256_0).toLoadRect (harg5.unread x5))) (SbfBits.blk i 2#32)
          (View.readAt (Elt F) arg3.view (Rect.unit (s := S16384x128) (k0_off1 i 2#32) S384x128.size (k0_off1_inb i 2)).toLoadRect (harg3.unread x3)) (View.readAt (Elt F) arg4.view (Rect.unit (s := S16384x128) (k0_off1 i 2#32) S384x128.size (k0_off1_inb i 2)).toLoadRect (harg4.unread x4)) (sumEnd (env i x2 x3 x4 x5 x6 x7 x8 x9)).s3.t0 (sumEnd (env i x2 x3 x4 x5 x6 x7 x8 x9)).s3.t1 (SbfBits.fresh i 2#32) k0_pay20,
        gradFirst k0_pay8 k0_pay9 (View.readAt (Elt F) arg6.view (Rect.unit (s := S384x256) ![0, 0] S384x256.size inb_S384x256_S384x256_0_0).toLoadRect (harg6.unread x6)) (View.readAt (Elt F) arg7.view (Rect.unit (s := S384x256) ![0, 0] S384x256.size inb_S384x256_S384x256_0_0).toLoadRect (harg7.unread x7)) (View.readAt (Elt F) arg8.view (Rect.unit (s := S256x256) ![0, 0] S256x256.size inb_S256x256_S256x256_0_0).toLoadRect (harg8.unread x8)) (View.readAt (Elt F) arg9.view (Rect.unit (s := S256x256) ![0, 0] S256x256.size inb_S256x256_S256x256_0_0).toLoadRect (harg9.unread x9)) (k0_pay15 (View.ld x2 (Rect.unit (s := S512x128) ![384, 0] S128x128.size inb_S512x128_S128x128_384_0))) (k0_pay19 (View.readAt (Elt F) arg5.view (Rect.unit (s := S512x128) ![384, 0] S128x128.size inb_S512x128_S128x128_384_0).toLoadRect (harg5.unread x5))) (SbfBits.blk i 3#32)
          (View.readAt (Elt F) arg3.view (Rect.unit (s := S16384x128) (k0_off1 i 3#32) S384x128.size (k0_off1_inb i 3)).toLoadRect (harg3.unread x3)) (View.readAt (Elt F) arg4.view (Rect.unit (s := S16384x128) (k0_off1 i 3#32) S384x128.size (k0_off1_inb i 3)).toLoadRect (harg4.unread x4)) (sumEnd (env i x2 x3 x4 x5 x6 x7 x8 x9)).s4.t0 (sumEnd (env i x2 x3 x4 x5 x6 x7 x8 x9)).s4.t1 (SbfBits.fresh i 3#32) k0_pay20, dk, dv⟩ := by sl_kernel_rfl
      _ = _ := by
        rw [whole_load arg6 harg6 x6 (by decide) _, whole_load arg7 harg7 x7 (by decide) _, whole_load arg8 harg8 x8 (by decide) _, whole_load arg9 harg9 x9 (by decide) _]
        rw [read_tile arg3 harg3 x3 (SbfBits.blk i 0#32) j1 (k0_off1 i 0#32) rfl, read_tile arg4 harg4 x4 (SbfBits.blk i 0#32) j1 (k0_off1 i 0#32) rfl, read_tile arg3 harg3 x3 (SbfBits.blk i 1#32) j2 (k0_off1 i 1#32) rfl, read_tile arg4 harg4 x4 (SbfBits.blk i 1#32) j2 (k0_off1 i 1#32) rfl, read_tile arg3 harg3 x3 (SbfBits.blk i 2#32) j3 (k0_off1 i 2#32) rfl, read_tile arg4 harg4 x4 (SbfBits.blk i 2#32) j3 (k0_off1 i 2#32) rfl, read_tile arg3 harg3 x3 (SbfBits.blk i 3#32) j4 (k0_off1 i 3#32) rfl, read_tile arg4 harg4 x4 (SbfBits.blk i 3#32) j4 (k0_off1 i 3#32) rfl]
        simp only [View.readAt_eq_ld, harg5.read_unread]; rfl
  unfold heldG owns
  isplitl [H3 H4 H6 H7 H8 H9 H13 H14]
  · try dsimp only [env]
    isplitl [H3]; · (iexists _; isplitr; · (ipureintro; exact harg3.read_unread _)); iexact H3
    isplitl [H4]; · (iexists _; isplitr; · (ipureintro; exact harg4.read_unread _)); iexact H4
    isplitl [H6]; · (iexists _; isplitr; · (ipureintro; exact harg6.read_unread _)); iexact H6
    isplitl [H7]; · (iexists _; isplitr; · (ipureintro; exact harg7.read_unread _)); iexact H7
    isplitl [H8]; · (iexists _; isplitr; · (ipureintro; exact harg8.read_unread _)); iexact H8
    isplitl [H9]; · (iexists _; isplitr; · (ipureintro; exact harg9.read_unread _)); iexact H9
    isplitl [H13]
    · iexists _; isplitr; swap; · iexact H13
      ipureintro
      refine Eq.trans (b := View.read (Elt F) arg13.view (arg13.view.writes (Elt F) (harg13.unread dk) (four arg13 (harg13.unread dk) (k0_off1 i 0#32) (k0_off1 i 1#32) (k0_off1 i 2#32) (k0_off1 i 3#32) (k0_off1_inb i 0) (k0_off1_inb i 1) (k0_off1_inb i 2) (k0_off1_inb i 3)
          (addK k0_pay8 k0_pay9 (View.readAt (Elt F) arg6.view (Rect.unit (s := S384x256) ![0, 0] S384x256.size inb_S384x256_S384x256_0_0).toLoadRect (harg6.unread x6)) (View.readAt (Elt F) arg7.view (Rect.unit (s := S384x256) ![0, 0] S384x256.size inb_S384x256_S384x256_0_0).toLoadRect (harg7.unread x7)) (View.readAt (Elt F) arg8.view (Rect.unit (s := S256x256) ![0, 0] S256x256.size inb_S256x256_S256x256_0_0).toLoadRect (harg8.unread x8)) (View.readAt (Elt F) arg9.view (Rect.unit (s := S256x256) ![0, 0] S256x256.size inb_S256x256_S256x256_0_0).toLoadRect (harg9.unread x9)) (k0_pay12 (View.ld x2 (Rect.unit (s := S512x128) ![0, 0] S128x128.size inb_S512x128_S128x128_0_0))) (k0_pay16 (View.readAt (Elt F) arg5.view (Rect.unit (s := S512x128) ![0, 0] S128x128.size inb_S512x128_S128x128_0_0).toLoadRect (harg5.unread x5))) (SbfBits.blk i 0#32) (View.readAt (Elt F) arg3.view (Rect.unit (s := S16384x128) (k0_off1 i 0#32) S384x128.size (k0_off1_inb i 0)).toLoadRect (harg3.unread x3)) (View.readAt (Elt F) arg4.view (Rect.unit (s := S16384x128) (k0_off1 i 0#32) S384x128.size (k0_off1_inb i 0)).toLoadRect (harg4.unread x4)) (sumEnd (env i x2 x3 x4 x5 x6 x7 x8 x9)).s1.t0 (sumEnd (env i x2 x3 x4 x5 x6 x7 x8 x9)).s1.t1 (SbfBits.fresh i 0#32) k0_pay20 k0_pay20)
          (addK k0_pay8 k0_pay9 (View.readAt (Elt F) arg6.view (Rect.unit (s := S384x256) ![0, 0] S384x256.size inb_S384x256_S384x256_0_0).toLoadRect (harg6.unread x6)) (View.readAt (Elt F) arg7.view (Rect.unit (s := S384x256) ![0, 0] S384x256.size inb_S384x256_S384x256_0_0).toLoadRect (harg7.unread x7)) (View.readAt (Elt F) arg8.view (Rect.unit (s := S256x256) ![0, 0] S256x256.size inb_S256x256_S256x256_0_0).toLoadRect (harg8.unread x8)) (View.readAt (Elt F) arg9.view (Rect.unit (s := S256x256) ![0, 0] S256x256.size inb_S256x256_S256x256_0_0).toLoadRect (harg9.unread x9)) (k0_pay13 (View.ld x2 (Rect.unit (s := S512x128) ![128, 0] S128x128.size inb_S512x128_S128x128_128_0))) (k0_pay17 (View.readAt (Elt F) arg5.view (Rect.unit (s := S512x128) ![128, 0] S128x128.size inb_S512x128_S128x128_128_0).toLoadRect (harg5.unread x5))) (SbfBits.blk i 1#32) (View.readAt (Elt F) arg3.view (Rect.unit (s := S16384x128) (k0_off1 i 1#32) S384x128.size (k0_off1_inb i 1)).toLoadRect (harg3.unread x3)) (View.readAt (Elt F) arg4.view (Rect.unit (s := S16384x128) (k0_off1 i 1#32) S384x128.size (k0_off1_inb i 1)).toLoadRect (harg4.unread x4)) (sumEnd (env i x2 x3 x4 x5 x6 x7 x8 x9)).s2.t0 (sumEnd (env i x2 x3 x4 x5 x6 x7 x8 x9)).s2.t1 (SbfBits.fresh i 1#32) k0_pay20 k0_pay20)
          (addK k0_pay8 k0_pay9 (View.readAt (Elt F) arg6.view (Rect.unit (s := S384x256) ![0, 0] S384x256.size inb_S384x256_S384x256_0_0).toLoadRect (harg6.unread x6)) (View.readAt (Elt F) arg7.view (Rect.unit (s := S384x256) ![0, 0] S384x256.size inb_S384x256_S384x256_0_0).toLoadRect (harg7.unread x7)) (View.readAt (Elt F) arg8.view (Rect.unit (s := S256x256) ![0, 0] S256x256.size inb_S256x256_S256x256_0_0).toLoadRect (harg8.unread x8)) (View.readAt (Elt F) arg9.view (Rect.unit (s := S256x256) ![0, 0] S256x256.size inb_S256x256_S256x256_0_0).toLoadRect (harg9.unread x9)) (k0_pay14 (View.ld x2 (Rect.unit (s := S512x128) ![256, 0] S128x128.size inb_S512x128_S128x128_256_0))) (k0_pay18 (View.readAt (Elt F) arg5.view (Rect.unit (s := S512x128) ![256, 0] S128x128.size inb_S512x128_S128x128_256_0).toLoadRect (harg5.unread x5))) (SbfBits.blk i 2#32) (View.readAt (Elt F) arg3.view (Rect.unit (s := S16384x128) (k0_off1 i 2#32) S384x128.size (k0_off1_inb i 2)).toLoadRect (harg3.unread x3)) (View.readAt (Elt F) arg4.view (Rect.unit (s := S16384x128) (k0_off1 i 2#32) S384x128.size (k0_off1_inb i 2)).toLoadRect (harg4.unread x4)) (sumEnd (env i x2 x3 x4 x5 x6 x7 x8 x9)).s3.t0 (sumEnd (env i x2 x3 x4 x5 x6 x7 x8 x9)).s3.t1 (SbfBits.fresh i 2#32) k0_pay20 k0_pay20)
          (addK k0_pay8 k0_pay9 (View.readAt (Elt F) arg6.view (Rect.unit (s := S384x256) ![0, 0] S384x256.size inb_S384x256_S384x256_0_0).toLoadRect (harg6.unread x6)) (View.readAt (Elt F) arg7.view (Rect.unit (s := S384x256) ![0, 0] S384x256.size inb_S384x256_S384x256_0_0).toLoadRect (harg7.unread x7)) (View.readAt (Elt F) arg8.view (Rect.unit (s := S256x256) ![0, 0] S256x256.size inb_S256x256_S256x256_0_0).toLoadRect (harg8.unread x8)) (View.readAt (Elt F) arg9.view (Rect.unit (s := S256x256) ![0, 0] S256x256.size inb_S256x256_S256x256_0_0).toLoadRect (harg9.unread x9)) (k0_pay15 (View.ld x2 (Rect.unit (s := S512x128) ![384, 0] S128x128.size inb_S512x128_S128x128_384_0))) (k0_pay19 (View.readAt (Elt F) arg5.view (Rect.unit (s := S512x128) ![384, 0] S128x128.size inb_S512x128_S128x128_384_0).toLoadRect (harg5.unread x5))) (SbfBits.blk i 3#32) (View.readAt (Elt F) arg3.view (Rect.unit (s := S16384x128) (k0_off1 i 3#32) S384x128.size (k0_off1_inb i 3)).toLoadRect (harg3.unread x3)) (View.readAt (Elt F) arg4.view (Rect.unit (s := S16384x128) (k0_off1 i 3#32) S384x128.size (k0_off1_inb i 3)).toLoadRect (harg4.unread x4)) (sumEnd (env i x2 x3 x4 x5 x6 x7 x8 x9)).s4.t0 (sumEnd (env i x2 x3 x4 x5 x6 x7 x8 x9)).s4.t1 (SbfBits.fresh i 3#32) k0_pay20 k0_pay20)))) (by sl_kernel_rfl) ((read_four arg13 harg13 dk j1 j2 j3 j4 _ _ _ _ rfl rfl rfl rfl _ _ _ _ _ _ _ _).trans ?_)
      rw [whole_load arg6 harg6 x6 (by decide) _, whole_load arg7 harg7 x7 (by decide) _, whole_load arg8 harg8 x8 (by decide) _, whole_load arg9 harg9 x9 (by decide) _]
      rw [read_tile arg3 harg3 x3 (SbfBits.blk i 0#32) j1 (k0_off1 i 0#32) rfl, read_tile arg4 harg4 x4 (SbfBits.blk i 0#32) j1 (k0_off1 i 0#32) rfl, read_tile arg3 harg3 x3 (SbfBits.blk i 1#32) j2 (k0_off1 i 1#32) rfl, read_tile arg4 harg4 x4 (SbfBits.blk i 1#32) j2 (k0_off1 i 1#32) rfl, read_tile arg3 harg3 x3 (SbfBits.blk i 2#32) j3 (k0_off1 i 2#32) rfl, read_tile arg4 harg4 x4 (SbfBits.blk i 2#32) j3 (k0_off1 i 2#32) rfl, read_tile arg3 harg3 x3 (SbfBits.blk i 3#32) j4 (k0_off1 i 3#32) rfl, read_tile arg4 harg4 x4 (SbfBits.blk i 3#32) j4 (k0_off1 i 3#32) rfl]
      simp only [View.readAt_eq_ld, harg5.read_unread]; rfl
    · iexists _; isplitr; swap; · iexact H14
      ipureintro
      refine Eq.trans (b := View.read (Elt F) arg14.view (arg14.view.writes (Elt F) (harg14.unread dv) (four arg14 (harg14.unread dv) (k0_off1 i 0#32) (k0_off1 i 1#32) (k0_off1 i 2#32) (k0_off1 i 3#32) (k0_off1_inb i 0) (k0_off1_inb i 1) (k0_off1_inb i 2) (k0_off1_inb i 3)
          (addV k0_pay8 k0_pay9 (View.readAt (Elt F) arg6.view (Rect.unit (s := S384x256) ![0, 0] S384x256.size inb_S384x256_S384x256_0_0).toLoadRect (harg6.unread x6)) (View.readAt (Elt F) arg7.view (Rect.unit (s := S384x256) ![0, 0] S384x256.size inb_S384x256_S384x256_0_0).toLoadRect (harg7.unread x7)) (View.readAt (Elt F) arg8.view (Rect.unit (s := S256x256) ![0, 0] S256x256.size inb_S256x256_S256x256_0_0).toLoadRect (harg8.unread x8)) (k0_pay12 (View.ld x2 (Rect.unit (s := S512x128) ![0, 0] S128x128.size inb_S512x128_S128x128_0_0))) (k0_pay16 (View.readAt (Elt F) arg5.view (Rect.unit (s := S512x128) ![0, 0] S128x128.size inb_S512x128_S128x128_0_0).toLoadRect (harg5.unread x5))) (SbfBits.blk i 0#32) (View.readAt (Elt F) arg3.view (Rect.unit (s := S16384x128) (k0_off1 i 0#32) S384x128.size (k0_off1_inb i 0)).toLoadRect (harg3.unread x3)) (SbfBits.fresh i 0#32))
          (addV k0_pay8 k0_pay9 (View.readAt (Elt F) arg6.view (Rect.unit (s := S384x256) ![0, 0] S384x256.size inb_S384x256_S384x256_0_0).toLoadRect (harg6.unread x6)) (View.readAt (Elt F) arg7.view (Rect.unit (s := S384x256) ![0, 0] S384x256.size inb_S384x256_S384x256_0_0).toLoadRect (harg7.unread x7)) (View.readAt (Elt F) arg8.view (Rect.unit (s := S256x256) ![0, 0] S256x256.size inb_S256x256_S256x256_0_0).toLoadRect (harg8.unread x8)) (k0_pay13 (View.ld x2 (Rect.unit (s := S512x128) ![128, 0] S128x128.size inb_S512x128_S128x128_128_0))) (k0_pay17 (View.readAt (Elt F) arg5.view (Rect.unit (s := S512x128) ![128, 0] S128x128.size inb_S512x128_S128x128_128_0).toLoadRect (harg5.unread x5))) (SbfBits.blk i 1#32) (View.readAt (Elt F) arg3.view (Rect.unit (s := S16384x128) (k0_off1 i 1#32) S384x128.size (k0_off1_inb i 1)).toLoadRect (harg3.unread x3)) (SbfBits.fresh i 1#32))
          (addV k0_pay8 k0_pay9 (View.readAt (Elt F) arg6.view (Rect.unit (s := S384x256) ![0, 0] S384x256.size inb_S384x256_S384x256_0_0).toLoadRect (harg6.unread x6)) (View.readAt (Elt F) arg7.view (Rect.unit (s := S384x256) ![0, 0] S384x256.size inb_S384x256_S384x256_0_0).toLoadRect (harg7.unread x7)) (View.readAt (Elt F) arg8.view (Rect.unit (s := S256x256) ![0, 0] S256x256.size inb_S256x256_S256x256_0_0).toLoadRect (harg8.unread x8)) (k0_pay14 (View.ld x2 (Rect.unit (s := S512x128) ![256, 0] S128x128.size inb_S512x128_S128x128_256_0))) (k0_pay18 (View.readAt (Elt F) arg5.view (Rect.unit (s := S512x128) ![256, 0] S128x128.size inb_S512x128_S128x128_256_0).toLoadRect (harg5.unread x5))) (SbfBits.blk i 2#32) (View.readAt (Elt F) arg3.view (Rect.unit (s := S16384x128) (k0_off1 i 2#32) S384x128.size (k0_off1_inb i 2)).toLoadRect (harg3.unread x3)) (SbfBits.fresh i 2#32))
          (addV k0_pay8 k0_pay9 (View.readAt (Elt F) arg6.view (Rect.unit (s := S384x256) ![0, 0] S384x256.size inb_S384x256_S384x256_0_0).toLoadRect (harg6.unread x6)) (View.readAt (Elt F) arg7.view (Rect.unit (s := S384x256) ![0, 0] S384x256.size inb_S384x256_S384x256_0_0).toLoadRect (harg7.unread x7)) (View.readAt (Elt F) arg8.view (Rect.unit (s := S256x256) ![0, 0] S256x256.size inb_S256x256_S256x256_0_0).toLoadRect (harg8.unread x8)) (k0_pay15 (View.ld x2 (Rect.unit (s := S512x128) ![384, 0] S128x128.size inb_S512x128_S128x128_384_0))) (k0_pay19 (View.readAt (Elt F) arg5.view (Rect.unit (s := S512x128) ![384, 0] S128x128.size inb_S512x128_S128x128_384_0).toLoadRect (harg5.unread x5))) (SbfBits.blk i 3#32) (View.readAt (Elt F) arg3.view (Rect.unit (s := S16384x128) (k0_off1 i 3#32) S384x128.size (k0_off1_inb i 3)).toLoadRect (harg3.unread x3)) (SbfBits.fresh i 3#32))))) (by sl_kernel_rfl) ((read_four arg14 harg14 dv j1 j2 j3 j4 _ _ _ _ rfl rfl rfl rfl _ _ _ _ _ _ _ _).trans ?_)
      rw [whole_load arg6 harg6 x6 (by decide) _, whole_load arg7 harg7 x7 (by decide) _, whole_load arg8 harg8 x8 (by decide) _]
      rw [read_tile arg3 harg3 x3 (SbfBits.blk i 0#32) j1 (k0_off1 i 0#32) rfl, read_tile arg3 harg3 x3 (SbfBits.blk i 1#32) j2 (k0_off1 i 1#32) rfl, read_tile arg3 harg3 x3 (SbfBits.blk i 2#32) j3 (k0_off1 i 2#32) rfl, read_tile arg3 harg3 x3 (SbfBits.blk i 3#32) j4 (k0_off1 i 3#32) rfl]
      simp only [View.readAt_eq_ld, harg5.read_unread]; rfl
  rw [show gradRun (env i x2 x3 x4 x5 x6 x7 x8 x9) (tots (env i x2 x3 x4 x5 x6 x7 x8 x9)) 43 (grads0 (env i x2 x3 x4 x5 x6 x7 x8 x9) (tots (env i x2 x3 x4 x5 x6 x7 x8 x9)) dk dv) = gradEnd (env i x2 x3 x4 x5 x6 x7 x8 x9) dk dv from by unfold gradEnd; rfl]

  iintro ⟨⟨%e3, %he3, H3⟩, ⟨%e4, %he4, H4⟩, ⟨%e6, %he6, H6⟩, ⟨%e7, %he7, H7⟩, ⟨%e8, %he8, H8⟩, ⟨%e9, %he9, H9⟩, ⟨%e13, %he13, H13⟩, ⟨%e14, %he14, H14⟩⟩
  dsimp only [Grads.flat]
  icases H11 with ⟨%f11, %hf11, H11⟩; icases H12 with ⟨%f12, %hf12, H12⟩
  by_cases h2 : k0_cond2 i = 1#1
  · have hp11 : 0 < (arg11.slice (Rect.unit (s := S16384x256) (k0_off10 i) S16384x128.size (k0_off10_inb i h2)) (fun _ => rfl)).view.dmaCredit := View.dmaCredit_pos _ (show 0 < S16384x128.numel by decide)
    have hp12 : 0 < (arg12.slice (Rect.unit (s := S16384x256) (k0_off10 i) S16384x128.size (k0_off10_inb i h2)) (fun _ => rfl)).view.dmaCredit := View.dmaCredit_pos _ (show 0 < S16384x128.numel by decide)
    sl_exec (disch := sl_exact h2)
    sl_step
    iapply Hk
    isplitl [H2]; · iexact H2
    isplitl [H3]; · (iexists _; isplitr; · (ipureintro; exact he3)); iexact H3
    isplitl [H4]; · (iexists _; isplitr; · (ipureintro; exact he4)); iexact H4
    isplitl [H5]; · (iexists _; isplitr; · (ipureintro; exact harg5.read_unread _)); iexact H5
    isplitl [H6]; · (iexists _; isplitr; · (ipureintro; exact he6)); iexact H6
    isplitl [H7]; · (iexists _; isplitr; · (ipureintro; exact he7)); iexact H7
    isplitl [H8]; · (iexists _; isplitr; · (ipureintro; exact he8)); iexact H8
    isplitl [H9]; · (iexists _; isplitr; · (ipureintro; exact he9)); iexact H9
    isplitl [H10]; · (iexists f10; iexact H10)
    isplitl [H13]; · (iexists _; isplitr; · (ipureintro; exact he13)); iexact H13
    isplitl [H14]; · (iexists _; isplitr; · (ipureintro; exact he14)); iexact H14
    isplitl [H11]
    · iexists _; isplitr; swap; · iexact H11
      ipureintro
      unfold copied; rw [dif_pos h2]
      unfold body_ok.sl.H11_w0
      refine (copy_read i h2 arg11 _ arg13 f11 e13).trans ?_
      rw [hf11, show View.read (Elt F) arg13.view e13 = _ from he13]
    isplitl [H12]
    · iexists _; isplitr; swap; · iexact H12
      ipureintro
      unfold copied; rw [dif_pos h2]
      unfold body_ok.sl.H12_w1
      refine (copy_read i h2 arg12 _ arg14 f12 e14).trans ?_
      rw [hf12, show View.read (Elt F) arg14.view e14 = _ from he14]
    isplitl [Hs0]; · iexact Hs0
    isplitl [Hs1]; · iexact Hs1
    iexists _; iexact Ho
  · sl_exec (disch := sl_exact h2)
    sl_step
    iapply Hk
    isplitl [H2]; · iexact H2
    isplitl [H3]; · (iexists _; isplitr; · (ipureintro; exact he3)); iexact H3
    isplitl [H4]; · (iexists _; isplitr; · (ipureintro; exact he4)); iexact H4
    isplitl [H5]; · (iexists _; isplitr; · (ipureintro; exact harg5.read_unread _)); iexact H5
    isplitl [H6]; · (iexists _; isplitr; · (ipureintro; exact he6)); iexact H6
    isplitl [H7]; · (iexists _; isplitr; · (ipureintro; exact he7)); iexact H7
    isplitl [H8]; · (iexists _; isplitr; · (ipureintro; exact he8)); iexact H8
    isplitl [H9]; · (iexists _; isplitr; · (ipureintro; exact he9)); iexact H9
    isplitl [H10]; · (iexists f10; iexact H10)
    isplitl [H13]; · (iexists _; isplitr; · (ipureintro; exact he13)); iexact H13
    isplitl [H14]; · (iexists _; isplitr; · (ipureintro; exact he14)); iexact H14
    isplitl [H11]; · (iexists _; isplitr; · (ipureintro; unfold copied; rw [dif_neg h2]; exact hf11)); iexact H11
    isplitl [H12]; · (iexists _; isplitr; · (ipureintro; unfold copied; rw [dif_neg h2]; exact hf12)); iexact H12
    isplitl [Hs0]; · iexact Hs0
    isplitl [Hs1]; · iexact Hs1
    iexists _; iexact Ho

end Cert.Proof.SbBits

end
-- ==== Proof.SbTile.lean ====
module

public import proofs.«01_k».proof.Proof.SbStep
public import proofs.«01_k».proof.Proof.SbfTile

/-! # A tile of the gradients, entry by entry -/

@[expose] public section

set_option maxRecDepth 16384

noncomputable section

namespace Cert.Proof.Sb

open Cert.SbKernelIdeal Cert.SbKernelIdeal.Gen Idealize.ShloMosaic Idealize.ShloMosaic.TcCoe Idealize.SL.Sem
open Cert.Proof.Sbf (rw3 cl hc hd two two_at sum_head lo_at head0_at)

local notation "μ" => Cert.SbfKernelIdeal.Gen.k0_pay5
local notation "ν" => Cert.SbfKernelIdeal.Gen.k0_pay6

theorem sum_cols (f : Fin 256 → EReal) : ∑ l, f l = (∑ k : Fin 128, f (cl 0 k)) + ∑ k : Fin 128, f (cl 1 k) := by
  rw [Fin.sum_univ_two_halves 128 128 rfl]
  congr 1

/-- Products with a block of keys sum over the head's own columns, -/
theorem sum_two (f : Fin 256 → EReal) (kt : Vec Ideal S384x128 .f32) (β : Fin 3) (c : Fin 128) :
    (∑ l, f l * two kt β (ix2 l c)) = ∑ k : Fin 128, f (cl (hd c) k) * kt (ix2 (rw3 β k) c) := by
  rw [sum_cols]; simp only [two_at]
  generalize hd c = h
  match h with
  | 0 => simp
  | 1 => simp

/-- or over its own entries. -/
theorem two_sum (f : Fin 128 → EReal) (kt : Vec Ideal S384x128 .f32) (β : Fin 3) (h : Fin 2) (k : Fin 128) :
    (∑ x, f x * two kt β (ix2 (cl h k) x)) = ∑ d : Fin 64, f (hc h d) * kt (ix2 (rw3 β k) (hc h d)) := by
  rw [← sum_head h (fun x => f x * kt (ix2 (rw3 β k) x))]
  refine Finset.sum_congr rfl fun x _ => ?_
  rw [two_at]; by_cases hx : hd x = h <;> simp [hx]

/-- The cotangents' products with three blocks of values. -/
def dots3 (d : FVec Ideal S128x128 .bf16) (a b c : FVec Ideal S256x128 .f32) : FVec Ideal S384x256 .f32 :=
  concatenate S384x256 0 [⟨S128x256, matmul dot_S128x128_S256x128_S128x256_1_1_0_0_n_n none d (truncf .bf16 a bitsLt_bf16_f32) (constant S128x256 .f32 0x00000000#32)⟩,
    ⟨S128x256, matmul dot_S128x128_S256x128_S128x256_1_1_0_0_n_n none d (truncf .bf16 b bitsLt_bf16_f32) (constant S128x256 .f32 0x00000000#32)⟩,
    ⟨S128x256, matmul dot_S128x128_S256x128_S128x256_1_1_0_0_n_n none d (truncf .bf16 c bitsLt_bf16_f32) (constant S128x256 .f32 0x00000000#32)⟩] concatenates_S128x256_S128x256_S128x256_S384x256_d0

theorem dots3_at (d : FVec Ideal S128x128 .bf16) (k2 : Fin 3 → FVec Ideal S256x128 .f32) (β : Fin 3) (t : Fin 128) (l : Fin 256) :
    dots3 d (k2 0) (k2 1) (k2 2) (ix2 (rw3 β t) l) = ∑ x, d (ix2 t x) * k2 β (ix2 l x) := by
  unfold dots3
  pointwise
  match β with
  | 0 => rw [dif_pos (show (rw3 0 t).val < 128 by simp [rw3])]; simp [rw3]
  | 1 => rw [dif_neg (show ¬ (rw3 1 t).val < 128 by simp [rw3]), dif_pos (show (rw3 1 t).val - 128 < 128 by simp [rw3])]; simp [rw3]
  | 2 => rw [dif_neg (show ¬ (rw3 2 t).val < 128 by simp [rw3]; omega), dif_neg (show ¬ (rw3 2 t).val - 128 < 128 by simp [rw3]; omega)]
         refine Finset.sum_congr rfl fun x _ => ?_
         congr 3; ext; simp [rw3]; omega

section
variable (x6 x7 : Vec Ideal S384x256 .i32) (x8 x9 : Vec Ideal S256x256 .bf16) (q : FVec Ideal S128x128 .f32) (d : FVec Ideal S128x128 .bf16) (b : BitVec 32)
  (kt vt : Vec Ideal S384x128 .f32) (p0 p1 : FVec Ideal S128x1 .f32) (s : Sbf.Carry Ideal) (n0 n1 : FVec Ideal S128x1 .f32)

theorem gr_at (β : Fin 3) (t : Fin 128) (h : Fin 2) (k : Fin 128) :
    gr μ ν x6 x7 x8 q d b kt vt s (ix2 (rw3 β t) (cl h k))
      = (∑ e : Fin 64, d (ix2 t (hc h e)) * vt (ix2 (rw3 β k) (hc h e))) * wt μ ν x6 x7 x8 q b kt s (ix2 (rw3 β t) (cl h k)) := by
  have e : gr μ ν x6 x7 x8 q d b kt vt s = mulf (dots3 d (two vt 0) (two vt 1) (two vt 2)) (wt μ ν x6 x7 x8 q b kt s) := rfl
  rw [e, ← two_sum (fun x => d (ix2 t x)), ← dots3_at d (two vt) β t (cl h k)]
  rfl

theorem be_at (r : Fin 384) (l : Fin 256) : be μ x6 x7 q b kt s (ix2 r l) = Ideal.exp (Sbf.scores μ x6 x7 q b kt s (ix2 r l) + Sbf.rest μ x6 x7 q b kt s (ix2 r l)) := by
  unfold be
  generalize Sbf.scores (F := Ideal) _ _ _ _ _ _ _ = Z
  generalize Sbf.rest (F := Ideal) _ _ _ _ _ _ _ = R
  unfold_payloads
  pointwise

theorem nb_at (r : Fin 384) (l : Fin 256) : nb μ x6 x7 q b kt s (ix2 r l) = 1 - be μ x6 x7 q b kt s (ix2 r l) := by
  unfold nb be k0_pay392
  generalize k0_pay391 (F := Ideal) _ _ = E
  pointwise

end

/-- A head's column of the two. -/
def pick (p0 p1 : FVec Ideal S128x1 .f32) (h : Fin 2) (t : Fin 128) : EReal :=
  match h with
  | 0 => p0 (ix2 t 0)
  | 1 => p1 (ix2 t 0)
/-- What is nearer than a block of the tile: what was before the tile and the tile's later blocks. -/
def carryT (n0 n1 c0 c1 e0 e1 : FVec Ideal S128x1 .f32) (β : Fin 3) (h : Fin 2) (t : Fin 128) : EReal :=
  match β with
  | 0 => pick n0 n1 h t + pick c0 c1 h t + pick e0 e1 h t
  | 1 => pick n0 n1 h t + pick c0 c1 h t
  | 2 => pick n0 n1 h t

/-- What the products with the second triangular matrix need of it. -/
def AtOrNearer (x9 : Vec Ideal S256x256 .bf16) : Prop :=
  ∀ (h' h : Fin 2) (k' k : Fin 128), x9 (ix2 (cl h' k') (cl h k)) = if h' = h ∧ k.val ≤ k'.val then (1 : EReal) else 0

theorem atOrNearer_at (x9 : Vec Ideal S256x256 .bf16) (hx : AtOrNearer x9) (R : FVec Ideal S384x256 .f32) (r : Fin 384) (h : Fin 2) (k : Fin 128) :
    (∑ x, R (ix2 r x) * x9 (ix2 x (cl h k))) = ∑ k' : Fin 128, if k.val ≤ k'.val then R (ix2 r (cl h k')) else 0 := by
  rw [sum_cols]
  simp only [hx _ h _ k]
  match h with
  | 0 => simp
  | 1 => simp

theorem far_at (x9 : Vec Ideal S256x256 .bf16) (hx : AtOrNearer x9) (p0 p1 n0 n1 e0 e1 c0 c1 : FVec Ideal S128x1 .f32) (g : FVec Ideal S384x256 .f32)
    (β : Fin 3) (t : Fin 128) (h : Fin 2) (k : Fin 128) :
    k0_pay390 ν p0 p1 n0 n1 g e0 e1 c0 c1 x9 (ix2 (rw3 β t) (cl h k))
      = pick p0 p1 h t - carryT n0 n1 c0 c1 e0 e1 β h t - ∑ k' : Fin 128, if k.val ≤ k'.val then g (ix2 (rw3 β t) (cl h k')) else 0 := by
  rw [← atOrNearer_at x9 hx]
  have hl := fun r => head0_at r (cl h k)
  generalize ν = v5 at hl ⊢
  unfold_payloads
  pointwise
  simp only [Scalar.select_def, hl]
  congr 1
  have e : ((cl h k).val < 128) ↔ h = 0 := by
    match h with
    | 0 => simp [cl]
    | 1 => simp [cl]
  simp only [e]
  match β with
  | 0 => simp only [dif_pos (show (rw3 0 t).val < 128 by simp [rw3])]; simp only [rw3]; match h with
    | 0 => simp [carryT, pick]
    | 1 => simp [carryT, pick]
  | 1 => simp only [dif_neg (show ¬ (rw3 1 t).val < 128 by simp [rw3]), dif_pos (show (rw3 1 t).val - 128 < 128 by simp [rw3])]; simp only [rw3]; match h with
    | 0 => simp [carryT, pick]
    | 1 => simp [carryT, pick]
  | 2 =>
    have e2 : ∀ hh, (⟨(rw3 2 t).val - 128 - 128, hh⟩ : Fin 128) = t := fun _ => by ext; simp [rw3]; omega
    simp only [dif_neg (show ¬ (rw3 2 t).val < 128 by simp [rw3]; omega), dif_neg (show ¬ (rw3 2 t).val - 128 < 128 by simp [rw3]; omega)]
    simp only [e2]
    match h with
    | 0 => simp [carryT, pick]
    | 1 => simp [carryT, pick]

theorem sumLo_at (y : FVec Ideal S128x256 .f32) (t : Fin 128) : sumLo y (ix2 t 0) = ∑ k : Fin 128, y (ix2 t (cl 0 k)) := by
  unfold sumLo
  pointwise
  simp [cl]
theorem sumHi_at (y : FVec Ideal S128x256 .f32) (t : Fin 128) : sumHi y (ix2 t 0) = ∑ k : Fin 128, y (ix2 t (cl 1 k)) := by
  unfold sumHi
  pointwise
  simp [cl]
theorem b0_at (y : FVec Ideal S384x256 .f32) (t : Fin 128) (l : Fin 256) : b0 y (ix2 t l) = y (ix2 (rw3 0 t) l) := by
  unfold b0
  pointwise
  simp [rw3]
theorem b1_at (y : FVec Ideal S384x256 .f32) (t : Fin 128) (l : Fin 256) : b1 y (ix2 t l) = y (ix2 (rw3 1 t) l) := by
  unfold b1
  pointwise
  simp [rw3]
theorem b2_at (y : FVec Ideal S384x256 .f32) (t : Fin 128) (l : Fin 256) : b2 y (ix2 t l) = y (ix2 (rw3 2 t) l) := by
  unfold b2
  pointwise
  simp [rw3]

/-- The tile's row sums of a head. -/
theorem all_at (y : FVec Ideal S384x256 .f32) (h : Fin 2) (t : Fin 128) : pick (allLo y) (allHi y) h t
    = (∑ k : Fin 128, y (ix2 (rw3 0 t) (cl h k))) + (∑ k : Fin 128, y (ix2 (rw3 1 t) (cl h k))) + ∑ k : Fin 128, y (ix2 (rw3 2 t) (cl h k)) := by
  have z : (Ideal.ofBits .f32 0x00000000#32) = (0 : EReal) := by simp [Ideal.ofBits, Ideal.ieee]
  match h with
  | 0 =>
    show Ideal.ofBits .f32 0x00000000#32 + sumLo (b0 y) (ix2 t 0) + sumLo (b1 y) (ix2 t 0) + sumLo (b2 y) (ix2 t 0) = _
    rw [z, zero_add, sumLo_at, sumLo_at, sumLo_at]; simp only [b0_at, b1_at, b2_at]
  | 1 =>
    show Ideal.ofBits .f32 0x00000000#32 + sumHi (b0 y) (ix2 t 0) + sumHi (b1 y) (ix2 t 0) + sumHi (b2 y) (ix2 t 0) = _
    rw [z, zero_add, sumHi_at, sumHi_at, sumHi_at]; simp only [b0_at, b1_at, b2_at]

theorem pick1_at (y : FVec Ideal S384x256 .f32) (h : Fin 2) (t : Fin 128) : pick (sumLo (b1 y)) (sumHi (b1 y)) h t = ∑ k : Fin 128, y (ix2 (rw3 1 t) (cl h k)) := by
  match h with
  | 0 => exact (sumLo_at _ t).trans (Finset.sum_congr rfl fun k _ => b1_at y t _)
  | 1 => exact (sumHi_at _ t).trans (Finset.sum_congr rfl fun k _ => b1_at y t _)
theorem pick2_at (y : FVec Ideal S384x256 .f32) (h : Fin 2) (t : Fin 128) : pick (sumLo (b2 y)) (sumHi (b2 y)) h t = ∑ k : Fin 128, y (ix2 (rw3 2 t) (cl h k)) := by
  match h with
  | 0 => exact (sumLo_at _ t).trans (Finset.sum_congr rfl fun k _ => b2_at y t _)
  | 1 => exact (sumHi_at _ t).trans (Finset.sum_congr rfl fun k _ => b2_at y t _)

/-- A score's gradient at an entry. -/
theorem dz_at (g f e n : FVec Ideal S384x256 .f32) (r : Fin 384) (l : Fin 256) : k0_pay393 g f e n (ix2 r l) = g (ix2 r l) * n (ix2 r l) - f (ix2 r l) * e (ix2 r l) := by
  unfold_payloads
  pointwise

theorem pay399_at (k2 : Fin 3 → FVec Ideal S256x128 .f32) (g f e n : FVec Ideal S384x256 .f32) (t c : Fin 128) :
    k0_pay399 (k2 0) (k2 1) (k2 2) g f e n (ix2 t c) = (∑ l, k0_pay393 g f e n (ix2 (rw3 0 t) l) * k2 0 (ix2 l c)) + (∑ l, k0_pay393 g f e n (ix2 (rw3 1 t) l) * k2 1 (ix2 l c))
      + ∑ l, k0_pay393 g f e n (ix2 (rw3 2 t) l) * k2 2 (ix2 l c) := by
  unfold k0_pay399
  generalize k0_pay393 (F := Ideal) g f e n = D
  pointwise
  simp [rw3]

/-- A block's products with the queries, of the entry's head. -/
theorem pay395_at (q : FVec Ideal S128x128 .f32) (g f e n : FVec Ideal S384x256 .f32) (k c : Fin 128) :
    k0_pay395 μ q g f e n (ix2 k c) = ∑ t : Fin 128, k0_pay393 g f e n (ix2 (rw3 0 t) (cl (hd c) k)) * q (ix2 t c) := by
  have hl := fun r => lo_at r c
  unfold k0_pay395
  generalize k0_pay393 (F := Ideal) g f e n = D
  generalize μ = v2 at hl ⊢
  pointwise
  simp only [Scalar.select_def, hl]
  by_cases hd0 : c.val < 64
  · have h0 : hd c = 0 := by ext; simp [hd]; omega
    rw [h0]; simp [hd0, rw3, cl]
  · have h1 : hd c = 1 := by ext; simp [hd]; omega
    rw [h1]; simp [hd0, rw3, cl]
theorem pay397_at (q : FVec Ideal S128x128 .f32) (g f e n : FVec Ideal S384x256 .f32) (k c : Fin 128) :
    k0_pay397 μ q g f e n (ix2 k c) = ∑ t : Fin 128, k0_pay393 g f e n (ix2 (rw3 1 t) (cl (hd c) k)) * q (ix2 t c) := by
  have hl := fun r => lo_at r c
  unfold k0_pay397
  generalize k0_pay393 (F := Ideal) g f e n = D
  generalize μ = v2 at hl ⊢
  pointwise
  simp only [Scalar.select_def, hl]
  by_cases hd0 : c.val < 64
  · have h0 : hd c = 0 := by ext; simp [hd]; omega
    rw [h0]; simp [hd0, rw3, cl]
  · have h1 : hd c = 1 := by ext; simp [hd]; omega
    rw [h1]; simp [hd0, rw3, cl]
theorem pay401_at (q : FVec Ideal S128x128 .f32) (g f e n : FVec Ideal S384x256 .f32) (k c : Fin 128) :
    k0_pay401 μ q g f e n (ix2 k c) = ∑ t : Fin 128, k0_pay393 g f e n (ix2 (rw3 2 t) (cl (hd c) k)) * q (ix2 t c) := by
  have hl := fun r => lo_at r c
  unfold k0_pay401
  generalize k0_pay393 (F := Ideal) g f e n = D
  generalize μ = v2 at hl ⊢
  pointwise
  simp only [Scalar.select_def, hl]
  by_cases hd0 : c.val < 64
  · have h0 : hd c = 0 := by ext; simp [hd]; omega
    rw [h0]; simp [hd0, rw3, cl]
  · have h1 : hd c = 1 := by ext; simp [hd]; omega
    rw [h1]; simp [hd0, rw3, cl]
/-- A block's products with the cotangents. -/
theorem pay396_at (d : FVec Ideal S128x128 .bf16) (w : FVec Ideal S384x256 .f32) (k c : Fin 128) :
    k0_pay396 μ d w (ix2 k c) = ∑ t : Fin 128, w (ix2 (rw3 0 t) (cl (hd c) k)) * d (ix2 t c) := by
  have hl := fun r => lo_at r c
  generalize μ = v2 at hl ⊢
  unfold_payloads
  pointwise
  simp only [Scalar.select_def, hl]
  by_cases hd0 : c.val < 64
  · have h0 : hd c = 0 := by ext; simp [hd]; omega
    rw [h0]; simp [hd0, rw3, cl]
  · have h1 : hd c = 1 := by ext; simp [hd]; omega
    rw [h1]; simp [hd0, rw3, cl]
theorem pay398_at (d : FVec Ideal S128x128 .bf16) (w : FVec Ideal S384x256 .f32) (k c : Fin 128) :
    k0_pay398 μ d w (ix2 k c) = ∑ t : Fin 128, w (ix2 (rw3 1 t) (cl (hd c) k)) * d (ix2 t c) := by
  have hl := fun r => lo_at r c
  generalize μ = v2 at hl ⊢
  unfold_payloads
  pointwise
  simp only [Scalar.select_def, hl]
  by_cases hd0 : c.val < 64
  · have h0 : hd c = 0 := by ext; simp [hd]; omega
    rw [h0]; simp [hd0, rw3, cl]
  · have h1 : hd c = 1 := by ext; simp [hd]; omega
    rw [h1]; simp [hd0, rw3, cl]
theorem pay402_at (d : FVec Ideal S128x128 .bf16) (w : FVec Ideal S384x256 .f32) (k c : Fin 128) :
    select μ (k0_pay402 d w) (k0_pay403 d w) (ix2 k c) = ∑ t : Fin 128, w (ix2 (rw3 2 t) (cl (hd c) k)) * d (ix2 t c) := by
  have hl := fun r => lo_at r c
  generalize μ = v2 at hl ⊢
  unfold_payloads
  pointwise
  simp only [Scalar.select_def, hl]
  by_cases hd0 : c.val < 64
  · have h0 : hd c = 0 := by ext; simp [hd]; omega
    rw [h0]; simp [hd0, rw3, cl]
  · have h1 : hd c = 1 := by ext; simp [hd]; omega
    rw [h1]; simp [hd0, rw3, cl]

theorem pay404_at (a : Fin 3 → FVec Ideal S128x128 .f32) (old : Vec Ideal S384x128 .f32) (β : Fin 3) (k c : Fin 128) :
    k0_pay404 (a 0) (a 1) (a 2) old (ix2 (rw3 β k) c) = old (ix2 (rw3 β k) c) + a β (ix2 k c) := by
  unfold_payloads
  pointwise
  congr 1
  match β with
  | 0 => rw [dif_pos (show (rw3 0 k).val < 128 by simp [rw3])]; simp [rw3]
  | 1 => rw [dif_neg (show ¬ (rw3 1 k).val < 128 by simp [rw3]), dif_pos (show (rw3 1 k).val - 128 < 128 by simp [rw3])]; simp [rw3]
  | 2 => rw [dif_neg (show ¬ (rw3 2 k).val < 128 by simp [rw3]; omega), dif_neg (show ¬ (rw3 2 k).val - 128 < 128 by simp [rw3]; omega)]
         congr 2; ext; simp [rw3]; omega

section
variable (x6 x7 : Vec Ideal S384x256 .i32) (x8 x9 : Vec Ideal S256x256 .bf16) (q : FVec Ideal S128x128 .f32) (d : FVec Ideal S128x128 .bf16) (b : BitVec 32)
  (kt vt : Vec Ideal S384x128 .f32) (p0 p1 : FVec Ideal S128x1 .f32) (s : Sbf.Carry Ideal) (n0 n1 : FVec Ideal S128x1 .f32)

/-- The tile's gradients of the scores. -/
def dzT : FVec Ideal S384x256 .bf16 :=
  k0_pay393 (gr μ ν x6 x7 x8 q d b kt vt s) (far μ ν x6 x7 x8 x9 q d b kt vt p0 p1 s n0 n1) (be μ x6 x7 q b kt s) (nb μ x6 x7 q b kt s)

theorem dqTile_at (t c : Fin 128) : dqTile μ ν x6 x7 x8 x9 q d b kt vt p0 p1 s n0 n1 (ix2 t c)
    = (∑ k : Fin 128, dzT x6 x7 x8 x9 q d b kt vt p0 p1 s n0 n1 (ix2 (rw3 0 t) (cl (hd c) k)) * kt (ix2 (rw3 0 k) c))
      + (∑ k : Fin 128, dzT x6 x7 x8 x9 q d b kt vt p0 p1 s n0 n1 (ix2 (rw3 1 t) (cl (hd c) k)) * kt (ix2 (rw3 1 k) c))
      + ∑ k : Fin 128, dzT x6 x7 x8 x9 q d b kt vt p0 p1 s n0 n1 (ix2 (rw3 2 t) (cl (hd c) k)) * kt (ix2 (rw3 2 k) c) := by
  rw [← sum_two (fun l => dzT x6 x7 x8 x9 q d b kt vt p0 p1 s n0 n1 (ix2 (rw3 0 t) l)), ← sum_two (fun l => dzT x6 x7 x8 x9 q d b kt vt p0 p1 s n0 n1 (ix2 (rw3 1 t) l)),
    ← sum_two (fun l => dzT x6 x7 x8 x9 q d b kt vt p0 p1 s n0 n1 (ix2 (rw3 2 t) l))]
  exact pay399_at (two kt) _ _ _ _ t c

theorem addK_at (old : Vec Ideal S384x128 .f32) (β : Fin 3) (k c : Fin 128) : addK μ ν x6 x7 x8 x9 q d b kt vt p0 p1 s n0 n1 old (ix2 (rw3 β k) c)
    = old (ix2 (rw3 β k) c) + ∑ t : Fin 128, dzT x6 x7 x8 x9 q d b kt vt p0 p1 s n0 n1 (ix2 (rw3 β t) (cl (hd c) k)) * q (ix2 t c) := by
  refine (pay404_at ![_, _, _] old β k c).trans (congrArg (old (ix2 (rw3 β k) c) + ·) ?_)
  match β with
  | 0 => exact pay395_at q _ _ _ _ k c
  | 1 => exact pay397_at q _ _ _ _ k c
  | 2 => exact pay401_at q _ _ _ _ k c

theorem addV_at (old : Vec Ideal S384x128 .f32) (β : Fin 3) (k c : Fin 128) : addV μ ν x6 x7 x8 q d b kt s old (ix2 (rw3 β k) c)
    = old (ix2 (rw3 β k) c) + ∑ t : Fin 128, wt μ ν x6 x7 x8 q b kt s (ix2 (rw3 β t) (cl (hd c) k)) * d (ix2 t c) := by
  refine (pay404_at ![k0_pay396 μ d (wt μ ν x6 x7 x8 q b kt s), k0_pay398 μ d (wt μ ν x6 x7 x8 q b kt s), select μ (k0_pay402 d (wt μ ν x6 x7 x8 q b kt s)) (k0_pay403 d (wt μ ν x6 x7 x8 q b kt s))] old β k c).trans
    (congrArg (old (ix2 (rw3 β k) c) + ·) ?_)
  match β with
  | 0 => exact pay396_at d _ k c
  | 1 => exact pay398_at d _ k c
  | 2 => exact pay402_at d _ k c

end

end Cert.Proof.Sb
end
-- ==== Proof.SbForm.lean ====
module

public import proofs.«01_k».proof.Proof.SbfForm

/-! # The gradients of the stick-breaking attention, written once

With `g` a key's weight times its gradient, a score's gradient is `g` times what the key's gate leaves, less the gate
times the sum of `g` over the farther keys. The gradients of the queries, the keys and the values are sums of these. -/

@[expose] public section

set_option maxRecDepth 16384

noncomputable section

namespace Cert.Proof.SbForm

open Idealize.ShloMosaic Finset
open Cert.Proof.Sbf (at4 hd4 β sc lg wt U kept kept_add L L_coe at_ β_real sc_real)

/-- Being a real number. -/
def Num (x : EReal) : Prop := ∃ r : ℝ, x = r

theorem num_zero : Num 0 := ⟨0, rfl⟩
theorem num_one : Num 1 := ⟨1, rfl⟩
theorem Num.add {x y : EReal} (hx : Num x) (hy : Num y) : Num (x + y) := by
  obtain ⟨a, rfl⟩ := hx; obtain ⟨b, rfl⟩ := hy; exact ⟨a + b, (EReal.coe_add a b).symm⟩
theorem Num.mul {x y : EReal} (hx : Num x) (hy : Num y) : Num (x * y) := by
  obtain ⟨a, rfl⟩ := hx; obtain ⟨b, rfl⟩ := hy; exact ⟨a * b, (EReal.coe_mul a b).symm⟩
theorem Num.exp {x : EReal} (hx : Num x) : Num (Ideal.exp x) := by
  obtain ⟨a, rfl⟩ := hx; exact ⟨Real.exp a, Ideal.exp_coe a⟩
theorem num_sum {ι : Type} (s : Finset ι) (f : ι → EReal) (h : ∀ i ∈ s, Num (f i)) : Num (∑ i ∈ s, f i) :=
  Finset.sum_induction _ Num (fun _ _ => Num.add) num_zero h
theorem num_U (f : ℕ → EReal) (h : ∀ j, Num (f j)) (T B : ℕ) : Num (U f T B) := num_sum _ _ fun j _ => h j
theorem num_kept (f : ℕ → EReal) (h : ∀ j, Num (f j)) (T B j : ℕ) : Num (kept f T B j) := by
  unfold kept; split_ifs
  · exact h j
  · exact num_zero

/-- The scores' factor distributes. -/
theorem β_add (x y : EReal) : β * (x + y) = β * x + β * y := by
  have h : β = ((1 / 8 : ℝ) : EReal) := by
    simp [β, Ideal.ofBits, Ideal.ieee]
    exact (EReal.coe_mul _ _).symm.trans (congrArg _ (by norm_num))
  rw [h]
  exact EReal.left_distrib_of_nonneg_of_ne_top (EReal.coe_nonneg.mpr (by norm_num)) (EReal.coe_ne_top _) x y

/-- A window's sum from one of its keys on. -/
theorem window_from (f : ℕ → EReal) (T B a k : ℕ) : ∀ n, k ≤ n →
    (∑ κ : Fin n, if k ≤ κ.val then kept f T B (a + κ.val) else 0) + U f T (min (a + n) B) = U f T (min (a + k) B) := by
  intro n hn
  induction n, hn using Nat.le_induction with
  | base => rw [sum_eq_zero (fun κ _ => if_neg (by have := κ.isLt; omega)), zero_add]
  | succ n hn ih =>
    rw [Fin.sum_univ_castSucc, ← ih, ← kept_add f T B (a + n)]
    simp only [Fin.val_castSucc, Fin.val_last]
    rw [if_pos (by omega), add_assoc]; rfl

/-- The total less what is nearer than a key is the sum over the farther ones. -/
theorem far_of (g : ℕ → EReal) (hg : ∀ j, Num (g j)) (T B a k : ℕ) (hk : k < 128) (hB : a + k < B) (hT : a + k < T) :
    U g T 0 - U g T (min (a + 128) B) - (∑ κ : Fin 128, if k ≤ κ.val then kept g T B (a + κ.val) else 0) = U g (a + k) 0 := by
  have h := window_from g T B a k 128 hk.le
  rw [min_eq_left (by omega : a + k ≤ B)] at h
  have hs : U g T 0 = U g (a + k) 0 + U g T (a + k) := (sum_Ico_consecutive g (Nat.zero_le _) hT.le).symm
  rw [hs, ← h]
  obtain ⟨w, hw⟩ := num_U g hg (a + k) 0
  obtain ⟨u, hu⟩ := num_U g hg T (min (a + 128) B)
  obtain ⟨s, hs⟩ := num_sum univ (fun κ : Fin 128 => if k ≤ κ.val then kept g T B (a + κ.val) else 0) (fun κ _ => by
    split_ifs
    · exact num_kept g hg ..
    · exact num_zero)
  rw [hw, hu, hs, ← EReal.coe_add, ← EReal.coe_add, ← EReal.coe_sub, ← EReal.coe_sub]
  exact congrArg _ (by ring)

/-- What the keys from `B` on have been given. -/
def part (C : ℕ → EReal) (B j : ℕ) : EReal := if B ≤ j then C j else 0

/-- A trip gives the keys from `s0` up to `B` theirs. -/
theorem part_step (C : ℕ → EReal) (B s0 j : ℕ) (h0 : s0 ≤ B) (h1 : B ≤ s0 + 384) :
    part C B j + (if s0 ≤ j ∧ j < s0 + 384 then (if j < B then C j else 0) else 0) = part C s0 j := by
  unfold part
  by_cases a : B ≤ j
  · rw [if_pos a, if_pos (by omega : s0 ≤ j), if_neg (by omega : ¬ j < B), ite_self, add_zero]
  · rw [if_neg a, if_pos (by omega : j < B), zero_add]
    by_cases b : s0 ≤ j
    · rw [if_pos b, if_pos ⟨b, by omega⟩]
    · rw [if_neg b, if_neg (fun h => b h.1)]

/-- Keys at or after every query of the block are given nothing. -/
theorem part_none (C : ℕ → EReal) (B j : ℕ) (h : ∀ j, B ≤ j → C j = 0) : part C B j = 0 := by
  unfold part; split_ifs with a
  · exact h j a
  · rfl

theorem part_all (C : ℕ → EReal) (j : ℕ) : part C 0 j = C j := if_pos (Nat.zero_le j)

/-- The softplus, both ways. -/
theorem soft_eq (x : ℝ) : max x 0 + Real.log (1 + Real.exp (-|x|)) = Real.log (1 + Real.exp x) := by
  rcases le_total 0 x with h | h
  · rw [max_eq_left h, abs_of_nonneg h]
    have : 1 + Real.exp x = Real.exp x * (1 + Real.exp (-x)) := by rw [mul_add, ← Real.exp_add]; simp; ring
    rw [this, Real.log_mul (Real.exp_pos x).ne' (by positivity), Real.log_exp]
  · rw [max_eq_right h, abs_of_nonpos h, zero_add, neg_neg]

/-- What the gate leaves. -/
theorem leave_eq (x : ℝ) : Real.exp (-x - (max (-x) 0 + Real.log (1 + Real.exp (-|(-x)|)))) = 1 - Real.exp (x + -(max x 0 + Real.log (1 + Real.exp (-|x|)))) := by
  rw [soft_eq, soft_eq, Real.exp_sub, ← sub_eq_add_neg, Real.exp_sub, Real.exp_log (by positivity), Real.exp_log (by positivity), Real.exp_neg]
  have := Real.exp_pos x
  field_simp
  ring

section
variable (Q K V D : Fin 16384 → Fin 256 → EReal)

/-- A weight times its gradient, of query `T` and key `j`, -/
def gf (T : Fin 16384) (h : Fin 4) (j : ℕ) : EReal := (∑ d : Fin 64, D T (at4 h d) * at_ V j (at4 h d)) * wt Q K T h j
/-- the gate, -/
def gate (T : Fin 16384) (h : Fin 4) (j : ℕ) : EReal := Ideal.exp (sc Q K T h j + lg Q K T h j)
/-- and the score's gradient. -/
def dzf (T : Fin 16384) (h : Fin 4) (j : ℕ) : EReal :=
  gf Q K V D T h j * (1 - gate Q K T h j) - U (gf Q K V D T h) j 0 * gate Q K T h j
/-- The queries' gradients. -/
def dqf (T : Fin 16384) (c : Fin 256) : EReal := β * U (fun j => dzf Q K V D T (hd4 c) j * at_ K j c) T.val 0
/-- What query `T` gives to a key's gradient and to a value's. -/
def dkt (c : Fin 256) (j T : ℕ) : EReal := if h : T < 16384 then (if j < T then dzf Q K V D ⟨T, h⟩ (hd4 c) j * (Q ⟨T, h⟩ c * β) else 0) else 0
def dvt (c : Fin 256) (j T : ℕ) : EReal := if h : T < 16384 then (if j < T then wt Q K ⟨T, h⟩ (hd4 c) j * D ⟨T, h⟩ c else 0) else 0
/-- The keys' and the values' gradients. -/
def dkf (j : ℕ) (c : Fin 256) : EReal := ∑ T ∈ range 16384, dkt Q K V D c j T
def dvf (j : ℕ) (c : Fin 256) : EReal := ∑ T ∈ range 16384, dvt Q K D c j T

variable (hQ : ∀ T c, ∃ r : ℝ, Q T c = r) (hK : ∀ T c, ∃ r : ℝ, K T c = r) (hV : ∀ T c, ∃ r : ℝ, V T c = r) (hD : ∀ T c, ∃ r : ℝ, D T c = r)

theorem num_at (hK : ∀ T c, ∃ r : ℝ, K T c = r) (j : ℕ) (c : Fin 256) : Num (at_ K j c) := by
  unfold at_; split_ifs
  · exact hK _ _
  · exact num_zero

include hQ hK

theorem num_lg (T : Fin 16384) (h : Fin 4) (j : ℕ) : Num (lg Q K T h j) := by
  obtain ⟨r, hr⟩ := sc_real Q K hQ hK T h j
  rw [lg, hr]; exact ⟨_, L_coe r⟩
theorem num_wt (T : Fin 16384) (h : Fin 4) (j : ℕ) : Num (wt Q K T h j) :=
  Num.exp (((show Num (sc Q K T h j) from sc_real Q K hQ hK T h j).add (num_lg Q K hQ hK T h j)).add (num_U _ (num_lg Q K hQ hK T h) ..))

include hV hD
theorem num_gf (T : Fin 16384) (h : Fin 4) (j : ℕ) : Num (gf Q K V D T h j) :=
  (num_sum _ _ fun d _ => Num.mul (hD _ _) (num_at V hV j _)).mul (num_wt Q K hQ hK T h j)

end

end Cert.Proof.SbForm
end
-- ==== Proof.SbWalk.lean ====
module

public import proofs.«01_k».proof.Proof.SbTile
public import proofs.«01_k».proof.Proof.SbForm
public import proofs.«01_k».proof.Proof.SbfWalk

/-! # The gradients of the keys read so far

What a query block's sums and gradients hold after some trips, and what a trip adds to the keys' and values' rows. -/

@[expose] public section

set_option maxRecDepth 16384

noncomputable section

namespace Cert.Proof.Sb

open Cert.SbKernelIdeal Cert.SbKernelIdeal.Gen Idealize.ShloMosaic Idealize.ShloMosaic.TcCoe Idealize.SL.Sem
open Cert.Proof.Sbf (rw3 cl hc hd row zOf lOf wOf Holds Reads kept U U_empty keep window kept_mul β)
open Cert.Proof.SbForm (Num far_of part part_step part_all part_none β_add)

local notation "μ" => Cert.SbfKernelIdeal.Gen.k0_pay5
local notation "ν" => Cert.SbfKernelIdeal.Gen.k0_pay6

section
variable (q : FVec Ideal S128x128 .f32) (d : FVec Ideal S128x128 .bf16) (X3 X4 : Vec Ideal S16384x128 .f32)

/-- A weight times its gradient, the gate, the score's gradient, and what it gives to the query's. -/
def gOf (t : Fin 128) (h : Fin 2) (T j : ℕ) : EReal := (∑ e : Fin 64, (d (ix2 t (hc h e)) : EReal) * row X4 j (hc h e)) * wOf q X3 t h T j
def eOf (t : Fin 128) (h : Fin 2) (j : ℕ) : EReal := Ideal.exp (zOf q X3 t h j + lOf q X3 t h j)
def dzOf (t : Fin 128) (h : Fin 2) (T j : ℕ) : EReal := gOf q d X3 X4 t h T j * (1 - eOf q X3 t h j) - U (gOf q d X3 X4 t h T) j 0 * eOf q X3 t h j
def dqOf (t c : Fin 128) (T j : ℕ) : EReal := dzOf q d X3 X4 t (hd c) T j * row X3 j c
/-- What a block's queries give to a key's gradient and to a value's. -/
def ckOf (b : ℕ) (c : Fin 128) (j : ℕ) : EReal := ∑ t : Fin 128, if j < 128 * b + t.val then dzOf q d X3 X4 t (hd c) (128 * b + t.val) j * (q (ix2 t c) : EReal) else 0
def cvOf (b : ℕ) (c : Fin 128) (j : ℕ) : EReal := ∑ t : Fin 128, if j < 128 * b + t.val then wOf q X3 t (hd c) (128 * b + t.val) j * (d (ix2 t c) : EReal) else 0

theorem ck_none (b : ℕ) (c : Fin 128) (B j : ℕ) (hB : 128 * b + 128 ≤ B) (h : B ≤ j) : ckOf q d X3 X4 b c j = 0 :=
  Finset.sum_eq_zero fun t _ => if_neg (by have := t.isLt; omega)
theorem cv_none (b : ℕ) (c : Fin 128) (B j : ℕ) (hB : 128 * b + 128 ≤ B) (h : B ≤ j) : cvOf q d X3 b c j = 0 :=
  Finset.sum_eq_zero fun t _ => if_neg (by have := t.isLt; omega)

/-- The sums of block `b` over the keys from `B` on, -/
def Summed (b B : ℕ) (t0 t1 : FVec Ideal S128x1 .f32) : Prop :=
  ∀ (h : Fin 2) (t : Fin 128), pick t0 t1 h t = U (gOf q d X3 X4 t h (128 * b + t.val)) (128 * b + t.val) B
/-- and its query gradients. -/
structure GradAt (b B : ℕ) (s : Grad Ideal) : Prop where
  n : Summed q d X3 X4 b B s.n0 s.n1
  dq : ∀ t c : Fin 128, s.dq (ix2 t c) = β * U (dqOf q d X3 X4 t c (128 * b + t.val)) (128 * b + t.val) B
/-- No weighted gradient is infinite. -/
def Finite (b : ℕ) : Prop := ∀ (t : Fin 128) (h : Fin 2) (j : ℕ), Num (gOf q d X3 X4 t h (128 * b + t.val) j)

/-- Three windows' sums joined to what was summed before. -/
theorem three (f : ℕ → EReal) (T B s0 : ℕ) (h0 : s0 ≤ B) (h1 : B ≤ s0 + 384) :
    U f T B + ((∑ k : Fin 128, kept f T B (s0 + 128 * (0 : Fin 3).val + k.val)) + (∑ k : Fin 128, kept f T B (s0 + 128 * (1 : Fin 3).val + k.val))
      + ∑ k : Fin 128, kept f T B (s0 + 128 * (2 : Fin 3).val + k.val)) = U f T s0 := by
  have w2 := window f T B (s0 + 256) 128
  have w1 := window f T B (s0 + 128) 128
  have w0 := window f T B s0 128
  rw [min_eq_right (by omega : B ≤ s0 + 256 + 128)] at w2
  rw [min_eq_left h0] at w0
  rw [← w0, ← w1, ← w2]
  have e : ∀ a p r u : EReal, a + (p + r + u) = a + u + r + p := fun a p r u => by ac_rfl
  exact e ..

theorem pick_add (a b c d : FVec Ideal S128x1 .f32) (h : Fin 2) (t : Fin 128) : pick (addf a b) (addf c d) h t = pick a c h t + pick b d h t := by
  match h with
  | 0 => rfl
  | 1 => rfl

variable {q d X3 X4} {x6 x7 : Vec Ideal S384x256 .i32} {x8 x9 : Vec Ideal S256x256 .bf16} {bw : BitVec 32} {kt vt : Vec Ideal S384x128 .f32}
  {b B s0 : ℕ} {s : Sbf.Carry Ideal} {p0 p1 n0 n1 : FVec Ideal S128x1 .f32}
variable (hr : Reads X3 X4 x6 x7 x8 bw kt vt b B s0 s) (hs : Holds q X3 X4 b B s)
include hr hs

theorem gr_kept (β : Fin 3) (t : Fin 128) (h : Fin 2) (k : Fin 128) : gr μ ν x6 x7 x8 q d bw kt vt s (ix2 (rw3 β t) (cl h k))
    = kept (gOf q d X3 X4 t h (128 * b + t.val)) (128 * b + t.val) B (s0 + 128 * β.val + k.val) := by
  have hw : wt μ ν x6 x7 x8 q bw kt s (ix2 (rw3 β t) (cl h k)) = _ := Sbf.weights_kept hr hs β t h k
  rw [gr_at, hw]
  simp only [hr.v]
  unfold kept
  split_ifs
  · rfl
  · exact mul_zero _

theorem all_kept (h : Fin 2) (t : Fin 128) : pick (allLo (gr μ ν x6 x7 x8 q d bw kt vt s)) (allHi (gr μ ν x6 x7 x8 q d bw kt vt s)) h t
    = (∑ k : Fin 128, kept (gOf q d X3 X4 t h (128 * b + t.val)) (128 * b + t.val) B (s0 + 128 * (0 : Fin 3).val + k.val))
      + (∑ k : Fin 128, kept (gOf q d X3 X4 t h (128 * b + t.val)) (128 * b + t.val) B (s0 + 128 * (1 : Fin 3).val + k.val))
      + ∑ k : Fin 128, kept (gOf q d X3 X4 t h (128 * b + t.val)) (128 * b + t.val) B (s0 + 128 * (2 : Fin 3).val + k.val) := by
  rw [all_at]; simp only [gr_kept hr hs]

/-- A trip takes the sums from `B` to `s0`. -/
theorem summed_step (hn : Summed q d X3 X4 b B n0 n1) :
    Summed q d X3 X4 b s0 (addf n0 (allLo (gr μ ν x6 x7 x8 q d bw kt vt s))) (addf n1 (allHi (gr μ ν x6 x7 x8 q d bw kt vt s))) := fun h t => by
  rw [pick_add, hn, all_kept hr hs]
  exact three _ _ _ _ hr.ge hr.le
theorem summed_first (hB : 128 * b + 128 ≤ B) : Summed q d X3 X4 b s0 (allLo (gr μ ν x6 x7 x8 q d bw kt vt s)) (allHi (gr μ ν x6 x7 x8 q d bw kt vt s)) := fun h t => by
  have e := three (gOf q d X3 X4 t h (128 * b + t.val)) (128 * b + t.val) B s0 hr.ge hr.le
  rw [U_empty _ _ _ (by have := t.isLt; omega), zero_add] at e
  rw [all_kept hr hs]; exact e

theorem carryT_kept (hn : Summed q d X3 X4 b B n0 n1) (β : Fin 3) (h : Fin 2) (t : Fin 128) :
    carryT n0 n1 (sumLo (b2 (gr μ ν x6 x7 x8 q d bw kt vt s))) (sumHi (b2 (gr μ ν x6 x7 x8 q d bw kt vt s))) (sumLo (b1 (gr μ ν x6 x7 x8 q d bw kt vt s))) (sumHi (b1 (gr μ ν x6 x7 x8 q d bw kt vt s))) β h t
      = U (gOf q d X3 X4 t h (128 * b + t.val)) (128 * b + t.val) (min (s0 + 128 * β.val + 128) B) := by
  have hB : min (s0 + 256 + 128) B = B := min_eq_right (by have := hr.le; omega)
  match β with
  | 2 => show pick n0 n1 h t = _; rw [hn]; exact congrArg _ hB.symm
  | 1 =>
    show pick n0 n1 h t + pick _ _ h t = _
    rw [hn, pick2_at]; simp only [gr_kept hr hs]
    have h1 := window (gOf q d X3 X4 t h (128 * b + t.val)) (128 * b + t.val) B (s0 + 256) 128
    rw [hB] at h1; exact h1
  | 0 =>
    show pick n0 n1 h t + pick _ _ h t + pick _ _ h t = _
    rw [hn, pick2_at, pick1_at]; simp only [gr_kept hr hs]
    have h1 := window (gOf q d X3 X4 t h (128 * b + t.val)) (128 * b + t.val) B (s0 + 256) 128
    rw [hB] at h1
    have h2 := window (gOf q d X3 X4 t h (128 * b + t.val)) (128 * b + t.val) B (s0 + 128) 128
    exact (congrArg (· + _) h1).trans h2

variable (hx : AtOrNearer x9) (hp : Summed q d X3 X4 b 0 p0 p1) (hf : Finite q d X3 X4 b) (hn : Summed q d X3 X4 b B n0 n1)
include hx hp hf hn

theorem far_kept (β : Fin 3) (t : Fin 128) (h : Fin 2) (k : Fin 128) (hB : s0 + 128 * β.val + k.val < B) (hT : s0 + 128 * β.val + k.val < 128 * b + t.val) :
    far μ ν x6 x7 x8 x9 q d bw kt vt p0 p1 s n0 n1 (ix2 (rw3 β t) (cl h k)) = U (gOf q d X3 X4 t h (128 * b + t.val)) (s0 + 128 * β.val + k.val) 0 := by
  unfold far
  rw [far_at x9 hx, hp, carryT_kept hr hs hn]
  simp only [gr_kept hr hs]
  exact far_of _ (hf t h) _ _ _ _ k.isLt hB hT

theorem dz_kept (β : Fin 3) (t : Fin 128) (h : Fin 2) (k : Fin 128) : dzT x6 x7 x8 x9 q d bw kt vt p0 p1 s n0 n1 (ix2 (rw3 β t) (cl h k))
    = kept (dzOf q d X3 X4 t h (128 * b + t.val)) (128 * b + t.val) B (s0 + 128 * β.val + k.val) := by
  unfold dzT
  rw [dz_at, nb_at, gr_kept hr hs, be_at, Sbf.rest_at, kept, kept]
  by_cases hk : keep x6 x7 bw s (rw3 β t) (cl h k)
  · have hk' := (hr.keep ..).1 hk
    rw [if_pos hk', if_pos hk', far_kept hr hs hx hp hf hn β t h k hk'.1 hk'.2, Sbf.scores_keep _ _ _ _ _ _ _ _ _ _ hk]
    simp only [hr.k]
    rfl
  · have hk' := fun h' => hk ((hr.keep ..).2 h')
    rw [if_neg hk', if_neg hk', Sbf.scores_mask _ _ _ _ _ _ _ _ _ _ hk, EReal.bot_add, Ideal.exp_bot, zero_mul, mul_zero, sub_zero]

/-- What a trip gives to the keys' gradients, -/
theorem addK_part (old : Vec Ideal S384x128 .f32) (β : Fin 3) (k c : Fin 128) : addK μ ν x6 x7 x8 x9 q d bw kt vt p0 p1 s n0 n1 old (ix2 (rw3 β k) c)
    = old (ix2 (rw3 β k) c) + if s0 + 128 * β.val + k.val < B then ckOf q d X3 X4 b c (s0 + 128 * β.val + k.val) else 0 := by
  rw [addK_at]
  refine congrArg (old (ix2 (rw3 β k) c) + ·) ?_
  simp only [dz_kept hr hs hx hp hf hn]
  unfold kept ckOf
  by_cases hB : s0 + 128 * β.val + k.val < B
  · rw [if_pos hB]
    refine Finset.sum_congr rfl fun t _ => ?_
    by_cases hT : s0 + 128 * β.val + k.val < 128 * b + t.val
    · rw [if_pos ⟨hB, hT⟩, if_pos hT]
    · rw [if_neg (fun h => hT h.2), if_neg hT]; exact zero_mul _
  · rw [if_neg hB]
    exact Finset.sum_eq_zero fun t _ => by rw [if_neg (fun h => hB h.1)]; exact zero_mul _

omit hx hp hf hn in
/-- and to the values'. -/
theorem addV_part (old : Vec Ideal S384x128 .f32) (β : Fin 3) (k c : Fin 128) : addV μ ν x6 x7 x8 q d bw kt s old (ix2 (rw3 β k) c)
    = old (ix2 (rw3 β k) c) + if s0 + 128 * β.val + k.val < B then cvOf q d X3 b c (s0 + 128 * β.val + k.val) else 0 := by
  rw [addV_at]
  refine congrArg (old (ix2 (rw3 β k) c) + ·) ?_
  have hw : ∀ t : Fin 128, wt μ ν x6 x7 x8 q bw kt s (ix2 (rw3 β t) (cl (hd c) k)) = _ := fun t => Sbf.weights_kept hr hs β t (hd c) k
  simp only [hw]
  unfold kept cvOf
  by_cases hB : s0 + 128 * β.val + k.val < B
  · rw [if_pos hB]
    refine Finset.sum_congr rfl fun t _ => ?_
    by_cases hT : s0 + 128 * β.val + k.val < 128 * b + t.val
    · rw [if_pos ⟨hB, hT⟩, if_pos hT]
    · rw [if_neg (fun h => hT h.2), if_neg hT]; exact zero_mul _
  · rw [if_neg hB]
    exact Finset.sum_eq_zero fun t _ => by rw [if_neg (fun h => hB h.1)]; exact zero_mul _

/-- A tile's query gradients. -/
theorem dqTile_kept (t c : Fin 128) : β * U (dqOf q d X3 X4 t c (128 * b + t.val)) (128 * b + t.val) B + β * dqTile μ ν x6 x7 x8 x9 q d bw kt vt p0 p1 s n0 n1 (ix2 t c)
    = β * U (dqOf q d X3 X4 t c (128 * b + t.val)) (128 * b + t.val) s0 := by
  rw [dqTile_at]
  simp only [dz_kept hr hs hx hp hf hn, hr.k, kept_mul (dzOf q d X3 X4 t (hd c) (128 * b + t.val)) (fun j => row X3 j c)]
  rw [← three (dqOf q d X3 X4 t c (128 * b + t.val)) (128 * b + t.val) B s0 hr.ge hr.le]
  exact (β_add _ _).symm

omit hn in
/-- A trip takes a block's gradients from `B` to `s0`, -/
theorem grad_step (g : Grad Ideal) (hc : g.c = s) (hg : GradAt q d X3 X4 b B g) : GradAt q d X3 X4 b s0 (gradOne μ ν x6 x7 x8 x9 q d bw kt vt p0 p1 g) := by
  subst hc
  refine ⟨summed_step hr hs hg.n, fun t c => ?_⟩
  show g.dq (ix2 t c) + β * dqTile μ ν x6 x7 x8 x9 q d bw kt vt p0 p1 g.c g.n0 g.n1 (ix2 t c) = _
  rw [hg.dq]
  exact dqTile_kept hr hs hx hp hf hg.n t c

omit hn in
/-- and so does the first one. -/
theorem grad_first (hB : 128 * b + 128 ≤ B) (z : FVec Ideal S128x1 .f32) (hz : Summed q d X3 X4 b B z z) :
    GradAt q d X3 X4 b s0 (gradFirst μ ν x6 x7 x8 x9 q d bw kt vt p0 p1 s z) := by
  refine ⟨summed_first hr hs hB, fun t c => ?_⟩
  show β * dqTile μ ν x6 x7 x8 x9 q d bw kt vt p0 p1 s z z (ix2 t c) = _
  rw [← dqTile_kept hr hs hx hp hf hz t c, U_empty _ _ _ (by have := t.isLt; omega), mul_zero, zero_add]

end

end Cert.Proof.Sb
end
-- ==== Proof.SbEnd.lean ====
module

public import proofs.«01_k».proof.Proof.SbWalk
public import proofs.«01_k».proof.Proof.SbfEnd
public import proofs.«01_k».proof.Proof.SbBody

/-! # What the loops of the gradients end with -/

@[expose] public section

set_option maxRecDepth 16384

noncomputable section

namespace Cert.Proof.Sb

open Cert.SbKernelIdeal Cert.SbKernelIdeal.Gen Idealize.ShloMosaic Idealize.ShloMosaic.TcCoe Idealize.SL.Sem
open Cert.Proof.Sbf (rw3 cl hc hd row zOf lOf wOf Holds Reads kept U U_empty β)
open Cert.Proof.SbForm (Num part part_step part_all part_none)

local notation "μ" => Cert.SbfKernelIdeal.Gen.k0_pay5
local notation "ν" => Cert.SbfKernelIdeal.Gen.k0_pay6

/-- A change of three blocks at place `n` that adds to the rows before `B` what `C` says. -/
structure Adds (w : BitVec 32) (f : Vec Ideal S384x128 .f32 → Vec Ideal S384x128 .f32) (n : ℤ) (B s0 : ℕ) (C : Fin 128 → ℕ → EReal) : Prop where
  h0 : -6 ≤ n
  h1 : n ≤ 127
  w : w = BitVec.ofInt 32 n
  s : s0 = 128 * (n - 2).toNat
  b0 : s0 ≤ B
  b1 : B ≤ s0 + 384
  f : ∀ (old : Vec Ideal S384x128 .f32) (β : Fin 3) (k c : Fin 128), f old (ix2 (rw3 β k) c)
    = old (ix2 (rw3 β k) c) + if s0 + 128 * β.val + k.val < B then C c (s0 + 128 * β.val + k.val) else 0

theorem Adds.at {w : BitVec 32} {f : Vec Ideal S384x128 .f32 → Vec Ideal S384x128 .f32} {n : ℤ} {B s0 : ℕ} {C : Fin 128 → ℕ → EReal} (a : Adds w f n B s0 C)
    (x : Vec Ideal S16384x128 .f32) (P : Fin 16384 → Fin 128 → EReal) (hx : ∀ j c, x (ix2 j c) = P j c + part (C c) B j.val) (j : Fin 16384) (c : Fin 128) :
    upd x w f (ix2 j c) = P j c + part (C c) s0 j.val := by
  obtain ⟨h0, h1, hw, hs, b0, b1, hf⟩ := a
  subst hw
  obtain ⟨e0, e1⟩ := Sbf.off_of n h0 h1
  rw [← hs] at e0
  rw [← part_step (C c) B s0 j.val b0 b1, ← add_assoc, ← hx]
  unfold upd VecWindow.put
  by_cases hj : s0 ≤ j.val ∧ j.val < s0 + 384
  · have hin : ∀ a, Cert.SbfKernelIdeal.k0_off1 (BitVec.ofInt 32 n) a ≤ ((ix2 j c : S16384x128.Idx) a).val
        ∧ ((ix2 j c : S16384x128.Idx) a).val < Cert.SbfKernelIdeal.k0_off1 (BitVec.ofInt 32 n) a + S384x128.size a := by
      intro a
      match a with
      | ⟨0, _⟩ =>
        show Cert.SbfKernelIdeal.k0_off1 (BitVec.ofInt 32 n) 0 ≤ j.val ∧ j.val < Cert.SbfKernelIdeal.k0_off1 (BitVec.ofInt 32 n) 0 + 384
        rw [e0]; exact hj
      | ⟨1, _⟩ =>
        show Cert.SbfKernelIdeal.k0_off1 (BitVec.ofInt 32 n) 1 ≤ c.val ∧ c.val < Cert.SbfKernelIdeal.k0_off1 (BitVec.ofInt 32 n) 1 + 128
        rw [e1]; exact ⟨Nat.zero_le _, by have := c.isLt; omega⟩
    refine (dif_pos hin).trans ?_
    have hl : Rect.unitLocal (ix2 j c : S16384x128.Idx) hin = ix2 (rw3 ⟨(j.val - s0) / 128, by omega⟩ ⟨(j.val - s0) % 128, by omega⟩) c := by
      funext a
      refine Fin.ext ?_
      match a with
      | ⟨0, _⟩ =>
        show j.val - Cert.SbfKernelIdeal.k0_off1 (BitVec.ofInt 32 n) 0 = 128 * ((j.val - s0) / 128) + (j.val - s0) % 128
        rw [e0]; omega
      | ⟨1, _⟩ =>
        show c.val - Cert.SbfKernelIdeal.k0_off1 (BitVec.ofInt 32 n) 1 = c.val
        rw [e1]; omega
    have ej : s0 + 128 * ((j.val - s0) / 128) + (j.val - s0) % 128 = j.val := by omega
    have er : Sbf.tile x (BitVec.ofInt 32 n) (ix2 (rw3 ⟨(j.val - s0) / 128, by omega⟩ ⟨(j.val - s0) % 128, by omega⟩) c) = x (ix2 j c) := by
      rw [Sbf.tile_at x n h0 h1, ← hs, row, dif_pos (by show s0 + (128 * ((j.val - s0) / 128) + (j.val - s0) % 128) < 16384; omega)]
      exact congrArg x (congrArg (fun r => ix2 r c) (Fin.ext (by show s0 + (128 * ((j.val - s0) / 128) + (j.val - s0) % 128) = j.val; omega)))
    rw [hl, hf, er, if_pos hj]
    simp only [ej]
  · refine (dif_neg fun hin => hj ?_).trans ?_
    · have := hin 0
      rw [e0] at this; exact this
    · rw [if_neg hj, add_zero]

/-- Four such changes, one after the other. -/
theorem four_adds {w1 w2 w3 w4 : BitVec 32} {f1 f2 f3 f4 : Vec Ideal S384x128 .f32 → Vec Ideal S384x128 .f32} {n1 n2 n3 n4 : ℤ} {B1 B2 B3 B4 s1 s2 s3 s4 : ℕ}
    {C1 C2 C3 C4 : Fin 128 → ℕ → EReal} (a1 : Adds w1 f1 n1 B1 s1 C1) (a2 : Adds w2 f2 n2 B2 s2 C2) (a3 : Adds w3 f3 n3 B3 s3 C3) (a4 : Adds w4 f4 n4 B4 s4 C4)
    (x : Vec Ideal S16384x128 .f32) (K : Fin 16384 → Fin 128 → EReal)
    (hx : ∀ j c, x (ix2 j c) = K j c + (part (C1 c) B1 j.val + part (C2 c) B2 j.val + part (C3 c) B3 j.val + part (C4 c) B4 j.val)) (j : Fin 16384) (c : Fin 128) :
    upd (upd (upd (upd x w1 f1) w2 f2) w3 f3) w4 f4 (ix2 j c)
      = K j c + (part (C1 c) s1 j.val + part (C2 c) s2 j.val + part (C3 c) s3 j.val + part (C4 c) s4 j.val) := by
  have h1 := a1.at x (fun j c => K j c + (part (C2 c) B2 j.val + part (C3 c) B3 j.val + part (C4 c) B4 j.val)) (fun j c => by rw [hx]; ac_rfl)
  have h2 := a2.at (upd x w1 f1) (fun j c => K j c + (part (C1 c) s1 j.val + part (C3 c) B3 j.val + part (C4 c) B4 j.val)) (fun j c => by rw [h1]; ac_rfl)
  have h3 := a3.at (upd (upd x w1 f1) w2 f2) (fun j c => K j c + (part (C1 c) s1 j.val + part (C2 c) s2 j.val + part (C4 c) B4 j.val)) (fun j c => by rw [h2]; ac_rfl)
  have h4 := a4.at (upd (upd (upd x w1 f1) w2 f2) w3 f3) (fun j c => K j c + (part (C1 c) s1 j.val + part (C2 c) s2 j.val + part (C3 c) s3 j.val)) (fun j c => by rw [h3]; ac_rfl)
  rw [h4]; ac_rfl

/-! One block's tile at place `n`. -/
section
variable {q : FVec Ideal S128x128 .f32} {d : FVec Ideal S128x128 .bf16} {X3 X4 : Vec Ideal S16384x128 .f32} {x6 x7 : Vec Ideal S384x256 .i32} {x8 x9 : Vec Ideal S256x256 .bf16} {bw j : BitVec 32}
  {b B s0 : ℕ} {s : Sbf.Carry Ideal} {p0 p1 n0 n1 : FVec Ideal S128x1 .f32}

theorem addK_adds (hr : Reads X3 X4 x6 x7 x8 bw (Sbf.tile X3 j) (Sbf.tile X4 j) b B s0 s) (hs : Holds q X3 X4 b B s) (hx : AtOrNearer x9) (hp : Summed q d X3 X4 b 0 p0 p1)
    (hf : Finite q d X3 X4 b) (hn : Summed q d X3 X4 b B n0 n1) (n : ℤ) (h0 : -6 ≤ n) (h1 : n ≤ 127) (e : j = BitVec.ofInt 32 n) (es : s0 = 128 * (n - 2).toNat) :
    Adds j (addK μ ν x6 x7 x8 x9 q d bw (Sbf.tile X3 j) (Sbf.tile X4 j) p0 p1 s n0 n1) n B s0 (ckOf q d X3 X4 b) :=
  ⟨h0, h1, e, es, hr.ge, hr.le, fun old β k c => addK_part hr hs hx hp hf hn old β k c⟩

theorem addV_adds (hr : Reads X3 X4 x6 x7 x8 bw (Sbf.tile X3 j) (Sbf.tile X4 j) b B s0 s) (hs : Holds q X3 X4 b B s)
    (n : ℤ) (h0 : -6 ≤ n) (h1 : n ≤ 127) (e : j = BitVec.ofInt 32 n) (es : s0 = 128 * (n - 2).toNat) :
    Adds j (addV μ ν x6 x7 x8 q d bw (Sbf.tile X3 j) s) n B s0 (cvOf q d X3 b) :=
  ⟨h0, h1, e, es, hr.ge, hr.le, fun old β k c => addV_part hr hs old β k c⟩
end

variable (e : Env Ideal)

/-- What the loops are given. -/
structure Given (b : ℕ) : Prop where
  v2 : e.v2 = μ
  v5 : e.v5 = ν
  w : Sbf.Given e.walk b
  i : 4 * (e.i 1).val = b
  x9 : AtOrNearer e.x9
  f1 : Finite e.q1 e.d1 e.x3 e.x4 b
  f2 : Finite e.q2 e.d2 e.x3 e.x4 (b + 1)
  f3 : Finite e.q3 e.d3 e.x3 e.x4 (b + 2)
  f4 : Finite e.q4 e.d4 e.x3 e.x4 (b + 3)

/-- The four blocks' reads at the first block's place `n`. -/
structure Four (b : ℕ) (n : ℤ) (s : Sbf.Four Ideal) : Prop where
  h0 : -6 ≤ n
  h1 : n ≤ 124
  inv : Sbf.Inv e.walk b n s
  a1 : Reads e.x3 e.x4 e.x6 e.x7 e.x8 (Sbf.blk e.i 0#32) (Sbf.tile e.x3 s.s1.jt) (Sbf.tile e.x4 s.s1.jt) b (128 * (n + 1).toNat) (128 * (n - 3 + 1).toNat) s.s1
  a2 : Reads e.x3 e.x4 e.x6 e.x7 e.x8 (Sbf.blk e.i 1#32) (Sbf.tile e.x3 s.s2.jt) (Sbf.tile e.x4 s.s2.jt) (b + 1) (128 * (n + 2).toNat) (128 * (n - 3 + 2).toNat) s.s2
  a3 : Reads e.x3 e.x4 e.x6 e.x7 e.x8 (Sbf.blk e.i 2#32) (Sbf.tile e.x3 s.s3.jt) (Sbf.tile e.x4 s.s3.jt) (b + 2) (128 * (n + 3).toNat) (128 * (n - 3 + 3).toNat) s.s3
  a4 : Reads e.x3 e.x4 e.x6 e.x7 e.x8 (Sbf.blk e.i 3#32) (Sbf.tile e.x3 s.s4.jt) (Sbf.tile e.x4 s.s4.jt) (b + 3) (128 * (n + 4).toNat) (128 * (n - 3 + 4).toNat) s.s4

variable {e} {b : ℕ}

theorem four_of (hg : Given e b) (s : Sbf.Four Ideal) (n : ℤ) (h0 : -6 ≤ n) (h1 : n ≤ 124) (hs : Sbf.Inv e.walk b n s) : Four e b n s := by
  have hb : b + 3 < 128 := hg.w.lt
  have b1 : Sbf.blk e.i 0#32 = _ := hg.w.b1
  have b2 : Sbf.blk e.i 1#32 = _ := hg.w.b2
  have b3 : Sbf.blk e.i 2#32 = _ := hg.w.b3
  have b4 : Sbf.blk e.i 3#32 = _ := hg.w.b4
  have a1 := Sbf.reads_of (X3 := e.x3) (X4 := e.x4) hg.w.consts s.s1 b (by omega) n h0 (by omega) hs.j1
  have a2 := Sbf.reads_of (X3 := e.x3) (X4 := e.x4) hg.w.consts s.s2 (b + 1) (by omega) (n + 1) (by omega) (by omega) hs.j2
  have a3 := Sbf.reads_of (X3 := e.x3) (X4 := e.x4) hg.w.consts s.s3 (b + 2) (by omega) (n + 2) (by omega) (by omega) hs.j3
  have a4 := Sbf.reads_of (X3 := e.x3) (X4 := e.x4) hg.w.consts s.s4 (b + 3) (by omega) (n + 3) (by omega) (by omega) hs.j4
  rw [show n + 1 + 1 = n + 2 by omega] at a2
  rw [show n + 2 + 1 = n + 3 by omega] at a3
  rw [show n + 3 + 1 = n + 4 by omega] at a4
  refine ⟨h0, h1, hs, ?_, ?_, ?_, ?_⟩
  · rw [b1, show n - 3 + 1 = n - 2 by omega]; exact a1
  · rw [b2, show n - 3 + 2 = n + 1 - 2 by omega]; exact a2
  · rw [b3, show n - 3 + 3 = n + 2 - 2 by omega]; exact a3
  · rw [b4, show n - 3 + 4 = n + 3 - 2 by omega]; exact a4

/-- The walk's start: the first block is at its own place. -/
theorem four_start (hg : Given e b) : Four e b (b : ℤ) (Sbf.start e.i) := by
  have w : ∀ a : ℕ, BitVec.ofInt 32 (a : ℤ) = BitVec.ofNat 32 a := fun a => BitVec.ofInt_natCast ..
  have hb : b + 3 < 128 := hg.w.lt
  refine four_of hg _ _ (by omega) (by omega) ?_
  constructor
  · exact hg.w.b1.trans (w _).symm
  · exact hg.w.b2.trans (w _).symm
  · exact hg.w.b3.trans (w _).symm
  · exact hg.w.b4.trans (w _).symm
  · show (⊥ : EReal) < Ideal.ofBits .f32 0#32
    rw [show Ideal.ofBits .f32 0#32 = (0 : EReal) from by simp [Ideal.ofBits, Ideal.ieee]]; exact EReal.bot_lt_zero
  all_goals exact Sbf.holds_fresh _ _ _ e.i _ _ _ (by omega)

/-! The loop of sums. -/

variable (e b) in
structure SumInv (n : ℤ) (s : Sums Ideal) : Prop where
  inv : Sbf.Inv e.walk b n s.four
  n1 : Summed e.q1 e.d1 e.x3 e.x4 b (128 * (n + 1).toNat) s.s1.t0 s.s1.t1
  n2 : Summed e.q2 e.d2 e.x3 e.x4 (b + 1) (128 * (n + 2).toNat) s.s2.t0 s.s2.t1
  n3 : Summed e.q3 e.d3 e.x3 e.x4 (b + 2) (128 * (n + 3).toNat) s.s3.t0 s.s3.t1
  n4 : Summed e.q4 e.d4 e.x3 e.x4 (b + 3) (128 * (n + 4).toNat) s.s4.t0 s.s4.t1

theorem sum_first (hg : Given e b) : SumInv e b ((b : ℤ) - 3) (sums0 e) := by
  have a := four_start hg
  have i := a.inv
  refine ⟨Sbf.inv_step hg.w _ _ a.h0 a.h1 i, ?_, ?_, ?_, ?_⟩
  · dsimp only [sums0, sumFirst]; rw [hg.v2, hg.v5]; exact summed_first a.a1 i.h1 (by omega)
  · dsimp only [sums0, sumFirst]; rw [hg.v2, hg.v5]; exact summed_first a.a2 i.h2 (by omega)
  · dsimp only [sums0, sumFirst]; rw [hg.v2, hg.v5]; exact summed_first a.a3 i.h3 (by omega)
  · dsimp only [sums0, sumFirst]; rw [hg.v2, hg.v5]; exact summed_first a.a4 i.h4 (by omega)

theorem sum_step (hg : Given e b) (s : Sums Ideal) (n : ℤ) (h0 : -6 ≤ n) (h1 : n ≤ 124) (hs : SumInv e b n s) : SumInv e b (n - 3) (sumStep e s) := by
  have a := four_of hg s.four n h0 h1 hs.inv
  have i := a.inv
  refine ⟨Sbf.inv_step hg.w _ _ h0 h1 i, ?_, ?_, ?_, ?_⟩
  · dsimp only [sumStep, sumOne]; rw [hg.v2, hg.v5]; exact summed_step a.a1 i.h1 hs.n1
  · dsimp only [sumStep, sumOne]; rw [hg.v2, hg.v5]; exact summed_step a.a2 i.h2 hs.n2
  · dsimp only [sumStep, sumOne]; rw [hg.v2, hg.v5]; exact summed_step a.a3 i.h3 hs.n3
  · dsimp only [sumStep, sumOne]; rw [hg.v2, hg.v5]; exact summed_step a.a4 i.h4 hs.n4

theorem sum_run (hg : Given e b) : ∀ (k : ℕ) (s : Sums Ideal) (n : ℤ), -6 ≤ n → n ≤ 124 → n + 3 < 3 * k → SumInv e b n s →
    ∃ n', n' + 3 < 0 ∧ SumInv e b n' (sumRun e k s)
  | 0, s, n, h0, h1, h2, hs => ⟨n, by simpa using h2, hs⟩
  | k + 1, s, n, h0, h1, h2, hs => by
    unfold sumRun
    by_cases hn : 0 ≤ n + 3
    · rw [if_pos (Sbf.goOn_of s.four n h0 h1 hs.inv hn)]
      exact sum_run hg k _ (n - 3) (by omega) (by omega) (by push_cast at h2; omega) (sum_step hg s n h0 h1 hs)
    · rw [if_neg (fun hgo => hn (Sbf.nonneg_of_goOn s.four n h0 h1 hs.inv.j1 hs.inv.j2 hs.inv.j3 hs.inv.j4 hgo))]
      exact ⟨n, by omega, hs⟩

variable (e b) in
/-- The four totals are over all keys. -/
structure Total (p : Tots Ideal) : Prop where
  p1 : Summed e.q1 e.d1 e.x3 e.x4 b 0 p.p1 p.r1
  p2 : Summed e.q2 e.d2 e.x3 e.x4 (b + 1) 0 p.p2 p.r2
  p3 : Summed e.q3 e.d3 e.x3 e.x4 (b + 2) 0 p.p3 p.r3
  p4 : Summed e.q4 e.d4 e.x3 e.x4 (b + 3) 0 p.p4 p.r4

theorem total (hg : Given e b) : Total e b (tots e) := by
  have hb : b + 3 < 128 := hg.w.lt
  obtain ⟨n, hn, h⟩ := sum_run hg 43 (sums0 e) _ (by omega) (by omega) (by push_cast; omega) (sum_first hg)
  have ee : sumEnd e = sumRun e 43 (sums0 e) := by unfold sumEnd; rfl
  rw [← ee] at h
  refine ⟨?_, ?_, ?_, ?_⟩
  · have := h.n1; rwa [Int.toNat_of_nonpos (by omega)] at this
  · have := h.n2; rwa [Int.toNat_of_nonpos (by omega)] at this
  · have := h.n3; rwa [Int.toNat_of_nonpos (by omega)] at this
  · have := h.n4; rwa [Int.toNat_of_nonpos (by omega)] at this

/-! The loop of gradients. -/

variable (e b) in
structure GradInv (K V : Fin 16384 → Fin 128 → EReal) (n : ℤ) (s : Grads Ideal) : Prop where
  inv : Sbf.Inv e.walk b n s.four
  g1 : GradAt e.q1 e.d1 e.x3 e.x4 b (128 * (n + 1).toNat) s.s1
  g2 : GradAt e.q2 e.d2 e.x3 e.x4 (b + 1) (128 * (n + 2).toNat) s.s2
  g3 : GradAt e.q3 e.d3 e.x3 e.x4 (b + 2) (128 * (n + 3).toNat) s.s3
  g4 : GradAt e.q4 e.d4 e.x3 e.x4 (b + 3) (128 * (n + 4).toNat) s.s4
  dk : ∀ j c, s.dk (ix2 j c) = K j c + (part (ckOf e.q1 e.d1 e.x3 e.x4 b c) (128 * (n + 1).toNat) j.val + part (ckOf e.q2 e.d2 e.x3 e.x4 (b + 1) c) (128 * (n + 2).toNat) j.val
    + part (ckOf e.q3 e.d3 e.x3 e.x4 (b + 2) c) (128 * (n + 3).toNat) j.val + part (ckOf e.q4 e.d4 e.x3 e.x4 (b + 3) c) (128 * (n + 4).toNat) j.val)
  dv : ∀ j c, s.dv (ix2 j c) = V j c + (part (cvOf e.q1 e.d1 e.x3 b c) (128 * (n + 1).toNat) j.val + part (cvOf e.q2 e.d2 e.x3 (b + 1) c) (128 * (n + 2).toNat) j.val
    + part (cvOf e.q3 e.d3 e.x3 (b + 2) c) (128 * (n + 3).toNat) j.val + part (cvOf e.q4 e.d4 e.x3 (b + 3) c) (128 * (n + 4).toNat) j.val)

theorem grad_next (hg : Given e b) {K V : Fin 16384 → Fin 128 → EReal} (p : Tots Ideal) (hp : Total e b p) (s : Grads Ideal) (n : ℤ) (h0 : -6 ≤ n) (h1 : n ≤ 124)
    (hs : GradInv e b K V n s) : GradInv e b K V (n - 3) (gradStep e p s) := by
  have a := four_of hg s.four n h0 h1 hs.inv
  have i := a.inv
  refine ⟨Sbf.inv_step hg.w _ _ h0 h1 i, ?_, ?_, ?_, ?_, ?_, ?_⟩
  · dsimp only [gradStep]; rw [hg.v2, hg.v5]; exact grad_step a.a1 i.h1 hg.x9 hp.p1 hg.f1 s.s1 rfl hs.g1
  · dsimp only [gradStep]; rw [hg.v2, hg.v5]; exact grad_step a.a2 i.h2 hg.x9 hp.p2 hg.f2 s.s2 rfl hs.g2
  · dsimp only [gradStep]; rw [hg.v2, hg.v5]; exact grad_step a.a3 i.h3 hg.x9 hp.p3 hg.f3 s.s3 rfl hs.g3
  · dsimp only [gradStep]; rw [hg.v2, hg.v5]; exact grad_step a.a4 i.h4 hg.x9 hp.p4 hg.f4 s.s4 rfl hs.g4
  · dsimp only [gradStep]; rw [hg.v2, hg.v5]
    exact four_adds (addK_adds a.a1 i.h1 hg.x9 hp.p1 hg.f1 hs.g1.n n (by omega) (by omega) i.j1 (by omega)) (addK_adds a.a2 i.h2 hg.x9 hp.p2 hg.f2 hs.g2.n (n + 1) (by omega) (by omega) i.j2 (by omega))
      (addK_adds a.a3 i.h3 hg.x9 hp.p3 hg.f3 hs.g3.n (n + 2) (by omega) (by omega) i.j3 (by omega)) (addK_adds a.a4 i.h4 hg.x9 hp.p4 hg.f4 hs.g4.n (n + 3) (by omega) (by omega) i.j4 (by omega)) s.dk K hs.dk
  · dsimp only [gradStep]; rw [hg.v2, hg.v5]
    exact four_adds (addV_adds a.a1 i.h1 n (by omega) (by omega) i.j1 (by omega)) (addV_adds a.a2 i.h2 (n + 1) (by omega) (by omega) i.j2 (by omega))
      (addV_adds a.a3 i.h3 (n + 2) (by omega) (by omega) i.j3 (by omega)) (addV_adds a.a4 i.h4 (n + 3) (by omega) (by omega) i.j4 (by omega)) s.dv V hs.dv

theorem pay20_at (t : Fin 128) : k0_pay20 (F := Ideal) (ix2 t 0) = 0 := by
  unfold_payloads
  pointwise
/-- Nothing is summed from beyond the queries. -/
theorem summed_zero (q : FVec Ideal S128x128 .f32) (d : FVec Ideal S128x128 .bf16) (X3 X4 : Vec Ideal S16384x128 .f32) (b B : ℕ) (h : 128 * b + 128 ≤ B) :
    Summed q d X3 X4 b B k0_pay20 k0_pay20 := fun h' t => by
  rw [U_empty _ _ _ (by have := t.isLt; omega)]
  match h' with
  | 0 => exact pay20_at t
  | 1 => exact pay20_at t

theorem grad_begin (hg : Given e b) (p : Tots Ideal) (hp : Total e b p) (dk dv : Vec Ideal S16384x128 .f32) :
    GradInv e b (fun j c => dk (ix2 j c)) (fun j c => dv (ix2 j c)) ((b : ℤ) - 3) (grads0 e p dk dv) := by
  have a := four_start hg
  have i := a.inv
  have h0 := a.h0
  have h1 := a.h1
  have z1 := summed_zero e.q1 e.d1 e.x3 e.x4 b (128 * ((b : ℤ) + 1).toNat) (by omega)
  have z2 := summed_zero e.q2 e.d2 e.x3 e.x4 (b + 1) (128 * ((b : ℤ) + 2).toNat) (by omega)
  have z3 := summed_zero e.q3 e.d3 e.x3 e.x4 (b + 2) (128 * ((b : ℤ) + 3).toNat) (by omega)
  have z4 := summed_zero e.q4 e.d4 e.x3 e.x4 (b + 3) (128 * ((b : ℤ) + 4).toNat) (by omega)
  refine ⟨Sbf.inv_step hg.w _ _ h0 h1 i, ?_, ?_, ?_, ?_, ?_, ?_⟩
  · dsimp only [grads0]; rw [hg.v2, hg.v5]; exact grad_first a.a1 i.h1 hg.x9 hp.p1 hg.f1 (by omega) _ z1
  · dsimp only [grads0]; rw [hg.v2, hg.v5]; exact grad_first a.a2 i.h2 hg.x9 hp.p2 hg.f2 (by omega) _ z2
  · dsimp only [grads0]; rw [hg.v2, hg.v5]; exact grad_first a.a3 i.h3 hg.x9 hp.p3 hg.f3 (by omega) _ z3
  · dsimp only [grads0]; rw [hg.v2, hg.v5]; exact grad_first a.a4 i.h4 hg.x9 hp.p4 hg.f4 (by omega) _ z4
  · dsimp only [grads0]; rw [hg.v2, hg.v5]
    refine four_adds (addK_adds a.a1 i.h1 hg.x9 hp.p1 hg.f1 z1 b (by omega) (by omega) i.j1 (by omega)) (addK_adds a.a2 i.h2 hg.x9 hp.p2 hg.f2 z2 (b + 1) (by omega) (by omega) i.j2 (by omega))
      (addK_adds a.a3 i.h3 hg.x9 hp.p3 hg.f3 z3 (b + 2) (by omega) (by omega) i.j3 (by omega)) (addK_adds a.a4 i.h4 hg.x9 hp.p4 hg.f4 z4 (b + 3) (by omega) (by omega) i.j4 (by omega)) dk _ fun j c => ?_
    rw [part_none _ _ _ fun j hj => ck_none _ _ _ _ _ _ _ j (by omega) hj, part_none _ _ _ fun j hj => ck_none _ _ _ _ _ _ _ j (by omega) hj,
      part_none _ _ _ fun j hj => ck_none _ _ _ _ _ _ _ j (by omega) hj, part_none _ _ _ fun j hj => ck_none _ _ _ _ _ _ _ j (by omega) hj]
    simp only [add_zero]
  · dsimp only [grads0]; rw [hg.v2, hg.v5]
    refine four_adds (addV_adds a.a1 i.h1 b (by omega) (by omega) i.j1 (by omega)) (addV_adds a.a2 i.h2 (b + 1) (by omega) (by omega) i.j2 (by omega))
      (addV_adds a.a3 i.h3 (b + 2) (by omega) (by omega) i.j3 (by omega)) (addV_adds a.a4 i.h4 (b + 3) (by omega) (by omega) i.j4 (by omega)) dv _ fun j c => ?_
    rw [part_none _ _ _ fun j hj => cv_none _ _ _ _ _ _ j (by omega) hj, part_none _ _ _ fun j hj => cv_none _ _ _ _ _ _ j (by omega) hj,
      part_none _ _ _ fun j hj => cv_none _ _ _ _ _ _ j (by omega) hj, part_none _ _ _ fun j hj => cv_none _ _ _ _ _ _ j (by omega) hj]
    simp only [add_zero]

theorem grad_run (hg : Given e b) {K V : Fin 16384 → Fin 128 → EReal} (p : Tots Ideal) (hp : Total e b p) : ∀ (k : ℕ) (s : Grads Ideal) (n : ℤ), -6 ≤ n → n ≤ 124 → n + 3 < 3 * k →
    GradInv e b K V n s → ∃ n', n' + 3 < 0 ∧ GradInv e b K V n' (gradRun e p k s)
  | 0, s, n, h0, h1, h2, hs => ⟨n, by simpa using h2, hs⟩
  | k + 1, s, n, h0, h1, h2, hs => by
    unfold gradRun
    by_cases hn : 0 ≤ n + 3
    · rw [if_pos (Sbf.goOn_of s.four n h0 h1 hs.inv hn)]
      exact grad_run hg p hp k _ (n - 3) (by omega) (by omega) (by push_cast at h2; omega) (grad_next hg p hp s n h0 h1 hs)
    · rw [if_neg (fun hgo => hn (Sbf.nonneg_of_goOn s.four n h0 h1 hs.inv.j1 hs.inv.j2 hs.inv.j3 hs.inv.j4 hgo))]
      exact ⟨n, by omega, hs⟩

variable (e b) in
/-- What a grid point ends with: the query gradients over all keys, and in the two arrays the four blocks' parts. -/
structure Ends (dk dv : Vec Ideal S16384x128 .f32) (s : Grads Ideal) : Prop where
  g1 : GradAt e.q1 e.d1 e.x3 e.x4 b 0 s.s1
  g2 : GradAt e.q2 e.d2 e.x3 e.x4 (b + 1) 0 s.s2
  g3 : GradAt e.q3 e.d3 e.x3 e.x4 (b + 2) 0 s.s3
  g4 : GradAt e.q4 e.d4 e.x3 e.x4 (b + 3) 0 s.s4
  dk : ∀ j c, s.dk (ix2 j c) = dk (ix2 j c) + (ckOf e.q1 e.d1 e.x3 e.x4 b c j.val + ckOf e.q2 e.d2 e.x3 e.x4 (b + 1) c j.val
    + ckOf e.q3 e.d3 e.x3 e.x4 (b + 2) c j.val + ckOf e.q4 e.d4 e.x3 e.x4 (b + 3) c j.val)
  dv : ∀ j c, s.dv (ix2 j c) = dv (ix2 j c) + (cvOf e.q1 e.d1 e.x3 b c j.val + cvOf e.q2 e.d2 e.x3 (b + 1) c j.val
    + cvOf e.q3 e.d3 e.x3 (b + 2) c j.val + cvOf e.q4 e.d4 e.x3 (b + 3) c j.val)

theorem ends (hg : Given e b) (dk dv : Vec Ideal S16384x128 .f32) : Ends e b dk dv (gradEnd e dk dv) := by
  have hb : b + 3 < 128 := hg.w.lt
  obtain ⟨n, hn, h⟩ := grad_run hg (tots e) (total hg) 43 _ _ (by omega) (by omega) (by push_cast; omega) (grad_begin hg (tots e) (total hg) dk dv)
  have ee : gradEnd e dk dv = gradRun e (tots e) 43 (grads0 e (tots e) dk dv) := by unfold gradEnd; rfl
  rw [← ee] at h
  obtain ⟨-, g1, g2, g3, g4, k, v⟩ := h
  rw [Int.toNat_of_nonpos (by omega)] at g1 g2 g3 g4
  simp only [Int.toNat_of_nonpos (show n + 1 ≤ 0 by omega), Int.toNat_of_nonpos (show n + 2 ≤ 0 by omega), Int.toNat_of_nonpos (show n + 3 ≤ 0 by omega), Int.toNat_of_nonpos (show n + 4 ≤ 0 by omega),
    Nat.mul_zero, part_all] at k v
  exact ⟨g1, g2, g3, g4, k, v⟩

end Cert.Proof.Sb
end
-- ==== Proof.SbBlock.lean ====
module

public import proofs.«01_k».proof.Proof.SbRun
public import proofs.«01_k».proof.Proof.SbEnd
public import proofs.«01_k».proof.Proof.SbfValue
public import Idealize.ShloMosaic.Lib.WritesUnit

/-! # What a grid point of the gradients' kernel reads, and what its loops make of it -/

@[expose] public section

set_option maxRecDepth 16384

noncomputable section

namespace Cert.Proof.Sb

open Cert.SbKernelIdeal Cert.SbKernelIdeal.Gen Idealize.ShloMosaic Idealize.ShloMosaic.TcCoe Idealize.SL.Sem
open Cert.Proof.Sbf (rw3 cl hc hd row zOf lOf wOf U β at4 hd4 at_ sc lg L_coe sc_real cat cat_at keyW relW nearW Consts consts)
open Cert.Proof.SbForm (Num gf gate dzf dqf dkt dvt dkf dvf num_gf)

variable (m : (ℓ : Loc nD τ sig) → Buf (Elt Ideal) ℓ)

/-- The arguments by row and column. -/
def qA (c : Dev nD) (T : Fin 16384) (x : Fin 256) : EReal := (m ((c : Thread nD τ).loc main_arg0) : Vec Ideal S16384x256 .f32) (ix2 T x)
def kA (c : Dev nD) (T : Fin 16384) (x : Fin 256) : EReal := (m ((c : Thread nD τ).loc main_arg1) : Vec Ideal S16384x256 .f32) (ix2 T x)
def vA (c : Dev nD) (T : Fin 16384) (x : Fin 256) : EReal := (m ((c : Thread nD τ).loc main_arg2) : Vec Ideal S16384x256 .f32) (ix2 T x)
def oA (c : Dev nD) (T : Fin 16384) (x : Fin 256) : EReal := (m ((c : Thread nD τ).loc main_arg3) : Vec Ideal S16384x256 .f32) (ix2 T x)

abbrev N0 : ℕ := (cfg0 (F := Ideal)).N
theorem N0_eq : N0 = 64 := rfl

/-- The index maps. -/
theorem idx : ∀ t : Fin N0, (win0_0.index t 0 = t.val % 32 ∧ win0_0.index t 1 = t.val / 32) ∧ (win0_1.index t 0 = 0 ∧ win0_1.index t 1 = 2 + t.val / 32)
    ∧ (win0_2.index t 0 = 0 ∧ win0_2.index t 1 = 4 + t.val / 32) ∧ (win0_3.index t 0 = t.val % 32 ∧ win0_3.index t 1 = t.val / 32)
    ∧ (win0_4.index t 0 = 0 ∧ win0_4.index t 1 = 0) ∧ (win0_5.index t 0 = 0 ∧ win0_5.index t 1 = 0) ∧ (win0_6.index t 0 = 0 ∧ win0_6.index t 1 = 0)
    ∧ (win0_7.index t 0 = 0 ∧ win0_7.index t 1 = 0)
    ∧ (win0_8.index t 0 = t.val % 32 ∧ win0_8.index t 1 = t.val / 32) ∧ ((grid0.coords t 1).val = t.val % 32) :=
  (by decide +kernel : ∀ t : Fin grid0.N, (win0_0.index t 0 = t.val % 32 ∧ win0_0.index t 1 = t.val / 32) ∧ (win0_1.index t 0 = 0 ∧ win0_1.index t 1 = 2 + t.val / 32)
    ∧ (win0_2.index t 0 = 0 ∧ win0_2.index t 1 = 4 + t.val / 32) ∧ (win0_3.index t 0 = t.val % 32 ∧ win0_3.index t 1 = t.val / 32)
    ∧ (win0_4.index t 0 = 0 ∧ win0_4.index t 1 = 0) ∧ (win0_5.index t 0 = 0 ∧ win0_5.index t 1 = 0) ∧ (win0_6.index t 0 = 0 ∧ win0_6.index t 1 = 0)
    ∧ (win0_7.index t 0 = 0 ∧ win0_7.index t 1 = 0)
    ∧ (win0_8.index t 0 = t.val % 32 ∧ win0_8.index t 1 = t.val / 32) ∧ ((grid0.coords t 1).val = t.val % 32))

/-- Where the two arrays start anew, and where and to what columns they are copied. -/
theorem pts : ∀ t : Fin N0, (isFirst (grid0.coords t) ↔ t.val % 32 = 0) ∧ (k0_cond2 (grid0.coords t) = 1#1 ↔ t.val % 32 = 31)
    ∧ k0_off10 (grid0.coords t) 0 = 0 ∧ k0_off10 (grid0.coords t) 1 = 128 * (t.val / 32) :=
  (by decide +kernel : ∀ t : Fin grid0.N, (isFirst (grid0.coords t) ↔ t.val % 32 = 0) ∧ (k0_cond2 (grid0.coords t) = 1#1 ↔ t.val % 32 = 31)
    ∧ k0_off10 (grid0.coords t) 0 = 0 ∧ k0_off10 (grid0.coords t) 1 = 128 * (t.val / 32))

/-- A row and a column of a point's output block, in the array. -/
abbrev rowOf (t : Fin N0) (r : Fin 512) : Fin 16384 := ⟨512 * (t.val % 32) + r.val, by omega⟩
abbrev colOf (t : Fin N0) (x : Fin 128) : Fin 256 := ⟨128 * (t.val / 32) + x.val, by have := t.2; have := N0_eq; omega⟩

/-! The arrays the host prepares. -/

theorem V_cat (c : Dev nD) : V m c main_v0 = cat (m ((c : Thread nD τ).loc main_arg0)) (m ((c : Thread nD τ).loc main_arg1)) (m ((c : Thread nD τ).loc main_arg2)) := by
  show StableHlo.after hostOps0 (fun b => m (c, b)) (Proc.devRef .tc main_v0) = _
  after_results
  rfl
theorem V_key (c : Dev nD) : V m c main_v8 = keyW := by
  show StableHlo.after hostOps0 (fun b => m (c, b)) (Proc.devRef .tc main_v8) = _
  after_results
  rfl
theorem V_rel (c : Dev nD) : V m c main_v30 = relW := by
  show StableHlo.after hostOps0 (fun b => m (c, b)) (Proc.devRef .tc main_v30) = _
  after_results
  rfl
theorem V_near (c : Dev nD) : V m c main_v32 = nearW := by
  show StableHlo.after hostOps0 (fun b => m (c, b)) (Proc.devRef .tc main_v32) = _
  after_results
  rfl

/-- Ones where the row's key is not before the column's and both are of one head. -/
def geW : FVec Ideal S256x256 .bf16 :=
  truncf .bf16 (uitofp .f32 (andi (cmpi .eq (cmpi .sge (iotaInDim S256x256 32 0) (broadcastInDim S256x256 ![] Facts₀.bcast_S_S256x256 (constantI S_ 32 128#32))) (cmpi .sge (iotaInDim S256x256 32 1) (broadcastInDim S256x256 ![] Facts₀.bcast_S_S256x256 (constantI S_ 32 128#32))))
    (cmpi .sge (andi (iotaInDim S256x256 32 0) (broadcastInDim S256x256 ![] Facts₀.bcast_S_S256x256 (constantI S_ 32 127#32))) (andi (iotaInDim S256x256 32 1) (broadcastInDim S256x256 ![] Facts₀.bcast_S_S256x256 (constantI S_ 32 127#32)))))) Facts₀.bitsLt_bf16_f32
theorem V_ge (c : Dev nD) : V m c main_v34 = geW := by
  show StableHlo.after hostOps0 (fun b => m (c, b)) (Proc.devRef .tc main_v34) = _
  after_results
  rfl

theorem geW_at (r x : Fin 256) : geW (ix2 r x) = if r.val / 128 = x.val / 128 ∧ x.val % 128 ≤ r.val % 128 then 1 else 0 := by
  unfold geW
  pointwise
  have h1 : ∀ r : Fin 256, IntOp.cmpi .sge (BitVec.ofNat 32 r.val) 128#32 = BitVec.ofNat 1 (r.val / 128) := by decide +kernel
  have h2 : ∀ a b : Fin 2, IntOp.cmpi .eq (BitVec.ofNat 1 a.val) (BitVec.ofNat 1 b.val) = if a.val = b.val then 1#1 else 0#1 := by decide
  have h3 : ∀ a b : Fin 128, IntOp.cmpi .sge (BitVec.ofNat 32 a.val) (BitVec.ofNat 32 b.val) = if b.val ≤ a.val then 1#1 else 0#1 := by decide +kernel
  have e : ∀ r : Fin 256, IntOp.andi (BitVec.ofNat 32 r.val) 127#32 = BitVec.ofNat 32 (r.val % 128) := fun r => Sbf.col_word r
  rw [h1, h1, e, e, h2 ⟨r.val / 128, by omega⟩ ⟨x.val / 128, by omega⟩, h3 ⟨r.val % 128, by omega⟩ ⟨x.val % 128, by omega⟩]
  dsimp only
  have u1 : FloatOps.uitofp (F := Ideal) FTy.f32 (1#1 : BitVec 1) = (1 : EReal) := by
    show (((1#1 : BitVec 1).toNat : ℝ) : EReal) = 1
    simp
  have u0 : FloatOps.uitofp (F := Ideal) FTy.f32 (0#1 : BitVec 1) = (0 : EReal) := by
    show (((0#1 : BitVec 1).toNat : ℝ) : EReal) = 0
    simp
  by_cases g1 : r.val / 128 = x.val / 128 <;> by_cases g2 : x.val % 128 ≤ r.val % 128
  · rw [if_pos g1, if_pos g2, if_pos ⟨g1, g2⟩]; exact u1
  · rw [if_pos g1, if_neg g2, if_neg (fun h => g2 h.2)]; exact u0
  · rw [if_neg g1, if_pos g2, if_neg (fun h => g1 h.1)]; exact u0
  · rw [if_neg g1, if_neg g2, if_neg (fun h => g1 h.1)]; exact u0

theorem geW_near : AtOrNearer geW := fun h' h k' k => by
  have hc : ∀ (h : Fin 2) (k : Fin 128), (cl h k).val = 128 * h.val + k.val := fun _ _ => rfl
  rw [geW_at, hc, hc]
  have h1 : ((128 * h'.val + k'.val) / 128 = (128 * h.val + k.val) / 128 ∧ (128 * h.val + k.val) % 128 ≤ (128 * h'.val + k'.val) % 128) ↔ (h' = h ∧ k.val ≤ k'.val) := by
    rw [Fin.ext_iff]; omega
  simp only [h1]

/-! The blocks of the inputs. -/

theorem blk0_at (c : Dev nD) (t : Fin N0) (r : Fin 512) (x : Fin 128) : (iblk m c 0 t : Vec Ideal S512x128 .f32) (ix2 r x) = qA m c (rowOf t r) (colOf t x) := by
  have hi := (idx t).1
  unfold iblk
  rw [View.read_apply]
  show V m c main_v0 _ = _
  rw [V_cat]
  refine Eq.trans (congrArg (cat _ _ _) (funext fun a => Fin.ext ?_)) (cat_at _ _ _ (rowOf t r) (colOf t x)).1
  match a with
  | ⟨0, _⟩ => show win0_0.index t 0 * 512 + 1 * r.val = 512 * (t.val % 32) + r.val; rw [hi.1]; omega
  | ⟨1, _⟩ => show win0_0.index t 1 * 128 + 1 * x.val = 128 * (t.val / 32) + x.val; rw [hi.2]; omega

theorem blk1_at (c : Dev nD) (t : Fin N0) (r : Fin 16384) (x : Fin 128) : (iblk m c 1 t : Vec Ideal S16384x128 .f32) (ix2 r x) = kA m c r (colOf t x) := by
  have hi := (idx t).2.1
  unfold iblk
  rw [View.read_apply]
  show V m c main_v0 _ = _
  rw [V_cat]
  refine Eq.trans (congrArg (cat _ _ _) (funext fun a => Fin.ext ?_)) (cat_at _ _ _ r (colOf t x)).2.1
  match a with
  | ⟨0, _⟩ => show win0_1.index t 0 * 16384 + 1 * r.val = r.val; rw [hi.1]; omega
  | ⟨1, _⟩ => show win0_1.index t 1 * 128 + 1 * x.val = 256 + (128 * (t.val / 32) + x.val); rw [hi.2]; omega

theorem blk2_at (c : Dev nD) (t : Fin N0) (r : Fin 16384) (x : Fin 128) : (iblk m c 2 t : Vec Ideal S16384x128 .f32) (ix2 r x) = vA m c r (colOf t x) := by
  have hi := (idx t).2.2.1
  unfold iblk
  rw [View.read_apply]
  show V m c main_v0 _ = _
  rw [V_cat]
  refine Eq.trans (congrArg (cat _ _ _) (funext fun a => Fin.ext ?_)) (cat_at _ _ _ r (colOf t x)).2.2
  match a with
  | ⟨0, _⟩ => show win0_2.index t 0 * 16384 + 1 * r.val = r.val; rw [hi.1]; omega
  | ⟨1, _⟩ => show win0_2.index t 1 * 128 + 1 * x.val = 512 + (128 * (t.val / 32) + x.val); rw [hi.2]; omega

theorem blk3_at (c : Dev nD) (t : Fin N0) (r : Fin 512) (x : Fin 128) : (iblk m c 3 t : Vec Ideal S512x128 .f32) (ix2 r x) = oA m c (rowOf t r) (colOf t x) := by
  have hi := (idx t).2.2.2.1
  unfold iblk
  rw [View.read_apply]
  show V m c main_arg3 _ = _
  rw [V_main_arg3]
  unfold oA
  refine congrArg (m ((c : Thread nD τ).loc main_arg3) : Vec Ideal S16384x256 .f32) (funext fun a => Fin.ext ?_)
  match a with
  | ⟨0, _⟩ => show win0_3.index t 0 * 512 + 1 * r.val = 512 * (t.val % 32) + r.val; rw [hi.1]; omega
  | ⟨1, _⟩ => show win0_3.index t 1 * 128 + 1 * x.val = 128 * (t.val / 32) + x.val; rw [hi.2]; omega

theorem blk4_eq (c : Dev nD) (t : Fin N0) : (iblk m c 4 t : Vec Ideal S384x256 .i32) = keyW := by
  have hi := (idx t).2.2.2.2.1
  funext y
  obtain ⟨r, x, rfl⟩ : ∃ (r : Fin 384) (x : Fin 256), y = ix2 r x := ⟨y 0, y 1, eq_ix2 y⟩
  unfold iblk
  rw [View.read_apply]
  show V m c main_v8 _ = _
  rw [V_key]
  refine congrArg keyW (funext fun a => Fin.ext ?_)
  match a with
  | ⟨0, _⟩ => show win0_4.index t 0 * 384 + 1 * r.val = r.val; rw [hi.1]; omega
  | ⟨1, _⟩ => show win0_4.index t 1 * 256 + 1 * x.val = x.val; rw [hi.2]; omega

theorem blk5_eq (c : Dev nD) (t : Fin N0) : (iblk m c 5 t : Vec Ideal S384x256 .i32) = relW := by
  have hi := (idx t).2.2.2.2.2.1
  funext y
  obtain ⟨r, x, rfl⟩ : ∃ (r : Fin 384) (x : Fin 256), y = ix2 r x := ⟨y 0, y 1, eq_ix2 y⟩
  unfold iblk
  rw [View.read_apply]
  show V m c main_v30 _ = _
  rw [V_rel]
  refine congrArg relW (funext fun a => Fin.ext ?_)
  match a with
  | ⟨0, _⟩ => show win0_5.index t 0 * 384 + 1 * r.val = r.val; rw [hi.1]; omega
  | ⟨1, _⟩ => show win0_5.index t 1 * 256 + 1 * x.val = x.val; rw [hi.2]; omega

theorem blk6_eq (c : Dev nD) (t : Fin N0) : (iblk m c 6 t : Vec Ideal S256x256 .bf16) = nearW := by
  have hi := (idx t).2.2.2.2.2.2.1
  funext y
  obtain ⟨r, x, rfl⟩ : ∃ (r : Fin 256) (x : Fin 256), y = ix2 r x := ⟨y 0, y 1, eq_ix2 y⟩
  unfold iblk
  rw [View.read_apply]
  show V m c main_v32 _ = _
  rw [V_near]
  refine congrArg nearW (funext fun a => Fin.ext ?_)
  match a with
  | ⟨0, _⟩ => show win0_6.index t 0 * 256 + 1 * r.val = r.val; rw [hi.1]; omega
  | ⟨1, _⟩ => show win0_6.index t 1 * 256 + 1 * x.val = x.val; rw [hi.2]; omega

theorem blk7_eq (c : Dev nD) (t : Fin N0) : (iblk m c 7 t : Vec Ideal S256x256 .bf16) = geW := by
  have hi := (idx t).2.2.2.2.2.2.2.1
  funext y
  obtain ⟨r, x, rfl⟩ : ∃ (r : Fin 256) (x : Fin 256), y = ix2 r x := ⟨y 0, y 1, eq_ix2 y⟩
  unfold iblk
  rw [View.read_apply]
  show V m c main_v34 _ = _
  rw [V_ge]
  refine congrArg geW (funext fun a => Fin.ext ?_)
  match a with
  | ⟨0, _⟩ => show win0_7.index t 0 * 256 + 1 * r.val = r.val; rw [hi.1]; omega
  | ⟨1, _⟩ => show win0_7.index t 1 * 256 + 1 * x.val = x.val; rw [hi.2]; omega

/-! The four query blocks of a point and their cotangents. -/

theorem pay12_at (x : Vec Ideal S128x128 .f32) (t d : Fin 128) : k0_pay12 x (ix2 t d) = x (ix2 t d) * β := by
  unfold k0_pay12 β; pointwise
theorem pay13_at (x : Vec Ideal S128x128 .f32) (t d : Fin 128) : k0_pay13 x (ix2 t d) = x (ix2 t d) * β := by
  unfold k0_pay13 β; pointwise
theorem pay14_at (x : Vec Ideal S128x128 .f32) (t d : Fin 128) : k0_pay14 x (ix2 t d) = x (ix2 t d) * β := by
  unfold k0_pay14 β; pointwise
theorem pay15_at (x : Vec Ideal S128x128 .f32) (t d : Fin 128) : k0_pay15 x (ix2 t d) = x (ix2 t d) * β := by
  unfold k0_pay15 β; pointwise

theorem pay16_at (x : Vec Ideal S128x128 .f32) (t d : Fin 128) : k0_pay16 x (ix2 t d) = x (ix2 t d) := by
  unfold k0_pay16; rfl
theorem pay17_at (x : Vec Ideal S128x128 .f32) (t d : Fin 128) : k0_pay17 x (ix2 t d) = x (ix2 t d) := by
  unfold k0_pay17; rfl
theorem pay18_at (x : Vec Ideal S128x128 .f32) (t d : Fin 128) : k0_pay18 x (ix2 t d) = x (ix2 t d) := by
  unfold k0_pay18; rfl
theorem pay19_at (x : Vec Ideal S128x128 .f32) (t d : Fin 128) : k0_pay19 x (ix2 t d) = x (ix2 t d) := by
  unfold k0_pay19; rfl

variable (c : Dev nD) (t : Fin N0)

/-- A query block and its cotangent are the array's rows from `128 b` on. -/
structure Block (b : ℕ) (q : FVec Ideal S128x128 .f32) (d : FVec Ideal S128x128 .bf16) : Prop where
  lt : 128 * b + 128 ≤ 16384
  q : ∀ (r x : Fin 128) (h : 128 * b + r.val < 16384), q (ix2 r x) = qA m c ⟨128 * b + r.val, h⟩ (colOf t x) * β
  d : ∀ (r x : Fin 128) (h : 128 * b + r.val < 16384), d (ix2 r x) = oA m c ⟨128 * b + r.val, h⟩ (colOf t x)

/-- The first block of a point. -/
abbrev base : ℕ := 4 * (t.val % 32)

theorem block1 : Block m c t (base t) (envAt m c t).q1 (envAt m c t).d1 := by
  have e : ∀ (r : Fin 128) (h : 128 * (base t) + r.val < 16384), rowOf t ⟨0 + r.val, by omega⟩ = ⟨128 * (base t) + r.val, h⟩ := fun r h => Fin.ext (by show 512 * (t.val % 32) + (0 + r.val) = 128 * (4 * (t.val % 32)) + r.val; omega)
  refine ⟨by unfold base; omega, fun r x h => ?_, fun r x h => ?_⟩
  · refine (pay12_at _ r x).trans ?_
    rw [View.ld_unit_apply_of _ _ _ _ _ (ix2 ⟨0 + r.val, by omega⟩ x) (by intro a; match a with | ⟨0, _⟩ => rfl | ⟨1, _⟩ => exact (Nat.zero_add _).symm), blk0_at, e r h]
  · refine (pay16_at _ r x).trans ?_
    rw [View.ld_unit_apply_of _ _ _ _ _ (ix2 ⟨0 + r.val, by omega⟩ x) (by intro a; match a with | ⟨0, _⟩ => rfl | ⟨1, _⟩ => exact (Nat.zero_add _).symm)]
    exact (blk3_at m c t _ x).trans (by rw [e r h])
theorem block2 : Block m c t (base t + 1) (envAt m c t).q2 (envAt m c t).d2 := by
  have e : ∀ (r : Fin 128) (h : 128 * (base t + 1) + r.val < 16384), rowOf t ⟨128 + r.val, by omega⟩ = ⟨128 * (base t + 1) + r.val, h⟩ := fun r h => Fin.ext (by show 512 * (t.val % 32) + (128 + r.val) = 128 * (4 * (t.val % 32) + 1) + r.val; omega)
  refine ⟨by unfold base; omega, fun r x h => ?_, fun r x h => ?_⟩
  · refine (pay13_at _ r x).trans ?_
    rw [View.ld_unit_apply_of _ _ _ _ _ (ix2 ⟨128 + r.val, by omega⟩ x) (by intro a; match a with | ⟨0, _⟩ => rfl | ⟨1, _⟩ => exact (Nat.zero_add _).symm), blk0_at, e r h]
  · refine (pay17_at _ r x).trans ?_
    rw [View.ld_unit_apply_of _ _ _ _ _ (ix2 ⟨128 + r.val, by omega⟩ x) (by intro a; match a with | ⟨0, _⟩ => rfl | ⟨1, _⟩ => exact (Nat.zero_add _).symm)]
    exact (blk3_at m c t _ x).trans (by rw [e r h])
theorem block3 : Block m c t (base t + 2) (envAt m c t).q3 (envAt m c t).d3 := by
  have e : ∀ (r : Fin 128) (h : 128 * (base t + 2) + r.val < 16384), rowOf t ⟨256 + r.val, by omega⟩ = ⟨128 * (base t + 2) + r.val, h⟩ := fun r h => Fin.ext (by show 512 * (t.val % 32) + (256 + r.val) = 128 * (4 * (t.val % 32) + 2) + r.val; omega)
  refine ⟨by unfold base; omega, fun r x h => ?_, fun r x h => ?_⟩
  · refine (pay14_at _ r x).trans ?_
    rw [View.ld_unit_apply_of _ _ _ _ _ (ix2 ⟨256 + r.val, by omega⟩ x) (by intro a; match a with | ⟨0, _⟩ => rfl | ⟨1, _⟩ => exact (Nat.zero_add _).symm), blk0_at, e r h]
  · refine (pay18_at _ r x).trans ?_
    rw [View.ld_unit_apply_of _ _ _ _ _ (ix2 ⟨256 + r.val, by omega⟩ x) (by intro a; match a with | ⟨0, _⟩ => rfl | ⟨1, _⟩ => exact (Nat.zero_add _).symm)]
    exact (blk3_at m c t _ x).trans (by rw [e r h])
theorem block4 : Block m c t (base t + 3) (envAt m c t).q4 (envAt m c t).d4 := by
  have e : ∀ (r : Fin 128) (h : 128 * (base t + 3) + r.val < 16384), rowOf t ⟨384 + r.val, by omega⟩ = ⟨128 * (base t + 3) + r.val, h⟩ := fun r h => Fin.ext (by show 512 * (t.val % 32) + (384 + r.val) = 128 * (4 * (t.val % 32) + 3) + r.val; omega)
  refine ⟨by unfold base; omega, fun r x h => ?_, fun r x h => ?_⟩
  · refine (pay15_at _ r x).trans ?_
    rw [View.ld_unit_apply_of _ _ _ _ _ (ix2 ⟨384 + r.val, by omega⟩ x) (by intro a; match a with | ⟨0, _⟩ => rfl | ⟨1, _⟩ => exact (Nat.zero_add _).symm), blk0_at, e r h]
  · refine (pay19_at _ r x).trans ?_
    rw [View.ld_unit_apply_of _ _ _ _ _ (ix2 ⟨384 + r.val, by omega⟩ x) (by intro a; match a with | ⟨0, _⟩ => rfl | ⟨1, _⟩ => exact (Nat.zero_add _).symm)]
    exact (blk3_at m c t _ x).trans (by rw [e r h])

/-- The head of the array that a half of the block's columns is. -/
abbrev headOf (h : Fin 2) : Fin 4 := ⟨2 * (t.val / 32) + h.val, by have := t.2; have := N0_eq; omega⟩
theorem col_head (h : Fin 2) (d : Fin 64) : colOf t (hc h d) = at4 (headOf t h) d :=
  Fin.ext (by show 128 * (t.val / 32) + (64 * h.val + d.val) = 64 * (2 * (t.val / 32) + h.val) + d.val; omega)
theorem head_col (x : Fin 128) : headOf t (hd x) = hd4 (colOf t x) := Fin.ext (by show 2 * (t.val / 32) + x.val / 64 = (128 * (t.val / 32) + x.val) / 64; omega)

theorem row1_at (j : ℕ) (x : Fin 128) : row (envAt m c t).x3 j x = at_ (kA m c) j (colOf t x) := by
  show row (iblk m c 1 t) j x = _
  unfold row at_
  by_cases h : j < 16384
  · rw [dif_pos h, dif_pos h, blk1_at]
  · rw [dif_neg h, dif_neg h]
theorem row2_at (j : ℕ) (x : Fin 128) : row (envAt m c t).x4 j x = at_ (vA m c) j (colOf t x) := by
  show row (iblk m c 2 t) j x = _
  unfold row at_
  by_cases h : j < 16384
  · rw [dif_pos h, dif_pos h, blk2_at]
  · rw [dif_neg h, dif_neg h]

section
variable {m c t} {b : ℕ} {q : FVec Ideal S128x128 .f32} {d : FVec Ideal S128x128 .bf16} (hb : Block m c t b q d) (r : Fin 128) (hT : 128 * b + r.val < 16384)
include hb

theorem z_eq (h : Fin 2) : zOf q (envAt m c t).x3 r h = sc (qA m c) (kA m c) ⟨128 * b + r.val, hT⟩ (headOf t h) := by
  funext j
  unfold zOf sc
  refine Finset.sum_congr rfl fun d _ => ?_
  rw [hb.q r _ hT, row1_at, col_head]
theorem l_eq (h : Fin 2) : lOf q (envAt m c t).x3 r h = lg (qA m c) (kA m c) ⟨128 * b + r.val, hT⟩ (headOf t h) := by
  funext j; unfold lOf lg; rw [z_eq hb r hT]
theorem w_eq (h : Fin 2) (j : ℕ) : wOf q (envAt m c t).x3 r h (128 * b + r.val) j = Sbf.wt (qA m c) (kA m c) ⟨128 * b + r.val, hT⟩ (headOf t h) j := by
  unfold wOf Sbf.wt
  rw [z_eq hb r hT, l_eq hb r hT]
theorem g_eq (h : Fin 2) : gOf q d (envAt m c t).x3 (envAt m c t).x4 r h (128 * b + r.val) = gf (qA m c) (kA m c) (vA m c) (oA m c) ⟨128 * b + r.val, hT⟩ (headOf t h) := by
  funext j
  unfold gOf gf
  rw [w_eq hb r hT]
  refine congrArg (· * _) (Finset.sum_congr rfl fun e _ => ?_)
  rw [hb.d r _ hT, row2_at, col_head]
theorem dz_eq (h : Fin 2) (j : ℕ) : dzOf q d (envAt m c t).x3 (envAt m c t).x4 r h (128 * b + r.val) j = dzf (qA m c) (kA m c) (vA m c) (oA m c) ⟨128 * b + r.val, hT⟩ (headOf t h) j := by
  unfold dzOf dzf eOf gate
  rw [g_eq hb r hT, z_eq hb r hT, l_eq hb r hT]

theorem dq_eq (x : Fin 128) : β * U (dqOf q d (envAt m c t).x3 (envAt m c t).x4 r x (128 * b + r.val)) (128 * b + r.val) 0
    = dqf (qA m c) (kA m c) (vA m c) (oA m c) ⟨128 * b + r.val, hT⟩ (colOf t x) := by
  unfold dqf
  refine congrArg (fun f => β * U f (128 * b + r.val) 0) (funext fun j => ?_)
  unfold dqOf
  rw [dz_eq hb r hT, row1_at, head_col]

omit r hT in
/-- A block's part of the keys' gradients, as a sum over the block's queries, -/
theorem ck_eq (x : Fin 128) (j : ℕ) : ckOf q d (envAt m c t).x3 (envAt m c t).x4 b x j = ∑ T ∈ Finset.range 128, dkt (qA m c) (kA m c) (vA m c) (oA m c) (colOf t x) j (128 * b + T) := by
  unfold ckOf
  rw [Finset.sum_range]
  refine Finset.sum_congr rfl fun r _ => ?_
  have hT : 128 * b + r.val < 16384 := by have := hb.lt; have := r.isLt; omega
  rw [dkt, dif_pos hT, dz_eq hb r hT, hb.q r x hT, head_col]
omit r hT in
/-- and of the values'. -/
theorem cv_eq (x : Fin 128) (j : ℕ) : cvOf q d (envAt m c t).x3 b x j = ∑ T ∈ Finset.range 128, dvt (qA m c) (kA m c) (oA m c) (colOf t x) j (128 * b + T) := by
  unfold cvOf
  rw [Finset.sum_range]
  refine Finset.sum_congr rfl fun r _ => ?_
  have hT : 128 * b + r.val < 16384 := by have := hb.lt; have := r.isLt; omega
  rw [dvt, dif_pos hT, w_eq hb r hT, hb.d r x hT, head_col]
end

/-- Four blocks' sums joined to the earlier queries'. -/
theorem four_sums (f : ℕ → EReal) (b : ℕ) : (∑ T ∈ Finset.range (128 * b), f T) + ((∑ T ∈ Finset.range 128, f (128 * b + T)) + (∑ T ∈ Finset.range 128, f (128 * (b + 1) + T))
    + (∑ T ∈ Finset.range 128, f (128 * (b + 2) + T)) + ∑ T ∈ Finset.range 128, f (128 * (b + 3) + T)) = ∑ T ∈ Finset.range (128 * b + 512), f T := by
  have s : ∀ n, ∑ T ∈ Finset.range (128 * (n + 1)), f T = (∑ T ∈ Finset.range (128 * n), f T) + ∑ T ∈ Finset.range 128, f (128 * n + T) := fun n => by
    rw [Nat.mul_add, Nat.mul_one, Finset.sum_range_add]
  rw [show 128 * b + 512 = 128 * (b + 3 + 1) by omega, s (b + 3), s (b + 2), s (b + 1), s b]
  ac_rfl

section
variable (hQ : ∀ T x, ∃ r : ℝ, qA m c T x = r) (hK : ∀ T x, ∃ r : ℝ, kA m c T x = r) (hV : ∀ T x, ∃ r : ℝ, vA m c T x = r) (hO : ∀ T x, ∃ r : ℝ, oA m c T x = r)
include hQ hK hV hO

theorem finite_of {b : ℕ} {q : FVec Ideal S128x128 .f32} {d : FVec Ideal S128x128 .bf16} (hb : Block m c t b q d) : Finite q d (envAt m c t).x3 (envAt m c t).x4 b := fun r h j => by
  have hT : 128 * b + r.val < 16384 := by have := hb.lt; have := r.isLt; omega
  rw [g_eq hb r hT]
  exact num_gf _ _ _ _ hQ hK hV hO _ _ _

theorem given : Given (envAt m c t) (base t) := by
  have hi : ((grid0.coords t) 1).val = t.val % 32 := (idx t).2.2.2.2.2.2.2.2.2
  obtain ⟨w1, w2, w3, w4⟩ := Sbf.blk_words ⟨t.val % 32, by omega⟩
  rw [show (⟨t.val % 32, by omega⟩ : Fin 32).val = ((grid0.coords t) 1).val from hi.symm] at w1 w2 w3 w4
  have hcons : Consts (iblk m c 4 t) (iblk m c 5 t) (iblk m c 6 t) := by rw [blk4_eq, blk5_eq, blk6_eq]; exact consts
  have hl : ∀ j, lOf (envAt m c t).q4 (envAt m c t).x3 0 0 j ≠ ⊥ := fun j => by
    rw [l_eq (block4 m c t) 0 (by have := (block4 m c t).lt; show 128 * (base t + 3) + 0 < 16384; omega), lg]
    obtain ⟨z, hz⟩ := sc_real (qA m c) (kA m c) hQ hK ⟨128 * (base t + 3) + (0 : Fin 128).val, by have := (block4 m c t).lt; show 128 * (base t + 3) + 0 < 16384; omega⟩ (headOf t 0) j
    rw [hz, L_coe]; exact EReal.coe_ne_bot _
  refine ⟨rfl, rfl, ⟨rfl, rfl, hcons, by unfold base; omega, ?_, ?_, ?_, ?_, hl⟩, congrArg (4 * ·) hi, ?_, finite_of m c t hQ hK hV hO (block1 m c t), finite_of m c t hQ hK hV hO (block2 m c t),
    finite_of m c t hQ hK hV hO (block3 m c t), finite_of m c t hQ hK hV hO (block4 m c t)⟩
  · unfold base; rw [← hi]; exact w1
  · unfold base; rw [← hi]; exact w2
  · unfold base; rw [← hi]; exact w3
  · unfold base; rw [← hi]; exact w4
  · show AtOrNearer (iblk m c 7 t)
    rw [blk7_eq]; exact geW_near
end

end Cert.Proof.Sb

end
-- ==== Proof.SbValue.lean ====
module

public import proofs.«01_k».proof.Proof.SbBlock

/-! # What the gradients' kernel leaves

The grid's points one after the other, then the three arrays: the gradients as they are written once. -/

@[expose] public section

set_option maxRecDepth 16384

noncomputable section

namespace Cert.Proof.Sb

open Cert.SbKernelIdeal Cert.SbKernelIdeal.Gen Idealize.ShloMosaic Idealize.ShloMosaic.TcCoe Idealize.SL.Sem
open Cert.Proof.SbForm (dqf dkt dvt dkf dvf)

variable (m : (ℓ : Loc nD τ sig) → Buf (Elt Ideal) ℓ) (c : Dev nD)

theorem pay10_at (j : Fin 16384) (x : Fin 128) : k0_pay10 (F := Ideal) (ix2 j x) = 0 := by
  unfold_payloads
  pointwise
theorem pay11_at (j : Fin 16384) (x : Fin 128) : k0_pay11 (F := Ideal) (ix2 j x) = 0 := by
  unfold_payloads
  pointwise

/-- A copy's entries. -/
theorem copied_at (t : Fin N0) (x : Vec Ideal S16384x128 .f32) (f : Vec Ideal S16384x256 .f32) (j : Fin 16384) (C : Fin 256) :
    copied (grid0.coords t) x f (ix2 j C) = if t.val % 32 = 31 ∧ C.val / 128 = t.val / 32 then x (ix2 j ⟨C.val % 128, by omega⟩) else f (ix2 j C) := by
  obtain ⟨-, h2, o0, o1⟩ := pts t
  unfold copied VecWindow.put
  by_cases h : t.val % 32 = 31
  · rw [dif_pos (h2.2 h)]
    by_cases hC : C.val / 128 = t.val / 32
    · have hin : ∀ a, k0_off10 (grid0.coords t) a ≤ ((ix2 j C : S16384x256.Idx) a).val ∧ ((ix2 j C : S16384x256.Idx) a).val < k0_off10 (grid0.coords t) a + S16384x128.size a := by
        intro a
        match a with
        | ⟨0, _⟩ =>
          show k0_off10 (grid0.coords t) 0 ≤ j.val ∧ j.val < k0_off10 (grid0.coords t) 0 + 16384
          rw [o0]; exact ⟨Nat.zero_le _, by have := j.isLt; omega⟩
        | ⟨1, _⟩ =>
          show k0_off10 (grid0.coords t) 1 ≤ C.val ∧ C.val < k0_off10 (grid0.coords t) 1 + 128
          rw [o1]; omega
      rw [if_pos ⟨h, hC⟩]
      refine (dif_pos hin).trans (congrArg x (funext fun a => Fin.ext ?_))
      match a with
      | ⟨0, _⟩ => show j.val - k0_off10 (grid0.coords t) 0 = j.val; rw [o0]; rfl
      | ⟨1, _⟩ => show C.val - k0_off10 (grid0.coords t) 1 = C.val % 128; rw [o1]; omega
    · rw [if_neg (fun h' => hC h'.2)]
      refine dif_neg fun hin => hC ?_
      have h1 := hin 1
      rw [o1] at h1
      have h3 : 128 * (t.val / 32) ≤ C.val ∧ C.val < 128 * (t.val / 32) + 128 := h1
      omega
  · rw [dif_neg (fun h' => h (h2.1 h')), if_neg (fun h' => h h'.1)]

/-- What the points before `n` leave. -/
abbrev keptN (n : ℕ) : Kept Ideal := keptAt m c (k0_pay10 (F := Ideal)) (k0_pay11 (F := Ideal)) n

section
variable (hQ : ∀ T x, ∃ r : ℝ, qA m c T x = r) (hK : ∀ T x, ∃ r : ℝ, kA m c T x = r) (hV : ∀ T x, ∃ r : ℝ, vA m c T x = r) (hO : ∀ T x, ∃ r : ℝ, oA m c T x = r)
include hQ hK hV hO

/-- One point. -/
theorem kept_step
      (n : ℕ) (t : Fin N0) (ht : t.val = n)
      (hs : (∀ j x, start0 (grid0.coords t) (k0_pay10 (F := Ideal)) (keptN m c t.val).dk (ix2 j x) = ∑ T ∈ Finset.range (128 * base t), dkt (qA m c) (kA m c) (vA m c) (oA m c) (colOf t x) j.val T)
        ∧ ∀ j x, start0 (grid0.coords t) (k0_pay11 (F := Ideal)) (keptN m c t.val).dv (ix2 j x) = ∑ T ∈ Finset.range (128 * base t), dvt (qA m c) (kA m c) (oA m c) (colOf t x) j.val T) :
      (∀ j x, (keptN m c (n + 1)).dk (ix2 j x) = ∑ T ∈ Finset.range (512 * (t.val % 32) + 512), dkt (qA m c) (kA m c) (vA m c) (oA m c) (colOf t x) j.val T)
      ∧ ∀ j x, (keptN m c (n + 1)).dv (ix2 j x) = ∑ T ∈ Finset.range (512 * (t.val % 32) + 512), dvt (qA m c) (kA m c) (oA m c) (colOf t x) j.val T := by
    subst ht
    have he := ends (given m c t hQ hK hV hO) (start0 (grid0.coords t) (k0_pay10 (F := Ideal)) (keptN m c t.val).dk) (start0 (grid0.coords t) (k0_pay11 (F := Ideal)) (keptN m c t.val).dv)
    have hr : 512 * (t.val % 32) + 512 = 128 * base t + 512 := by unfold base; omega
    rw [hr]
    unfold keptN
    rw [keptAt_succ]
    refine ⟨fun j x => (he.dk j x).trans ?_, fun j x => (he.dv j x).trans ?_⟩
    · rw [hs.1, ck_eq (block1 m c t), ck_eq (block2 m c t), ck_eq (block3 m c t), ck_eq (block4 m c t)]
      exact four_sums _ _
    · rw [hs.2, cv_eq (block1 m c t), cv_eq (block2 m c t), cv_eq (block3 m c t), cv_eq (block4 m c t)]
      exact four_sums _ _

/-- After a point the two arrays hold the sums over the queries read so far. -/
theorem kept_sums : ∀ (n : ℕ) (t : Fin N0), t.val = n →
    (∀ j x, (keptN m c (n + 1)).dk (ix2 j x) = ∑ T ∈ Finset.range (512 * (t.val % 32) + 512), dkt (qA m c) (kA m c) (vA m c) (oA m c) (colOf t x) j.val T)
    ∧ ∀ j x, (keptN m c (n + 1)).dv (ix2 j x) = ∑ T ∈ Finset.range (512 * (t.val % 32) + 512), dvt (qA m c) (kA m c) (oA m c) (colOf t x) j.val T := by
  intro n
  induction n with
  | zero =>
    intro t ht
    have hs : (∀ j x, start0 (grid0.coords t) (k0_pay10 (F := Ideal)) (keptN m c t.val).dk (ix2 j x) = ∑ T ∈ Finset.range (128 * base t), dkt (qA m c) (kA m c) (vA m c) (oA m c) (colOf t x) j.val T)
        ∧ ∀ j x, start0 (grid0.coords t) (k0_pay11 (F := Ideal)) (keptN m c t.val).dv (ix2 j x) = ∑ T ∈ Finset.range (128 * base t), dvt (qA m c) (kA m c) (oA m c) (colOf t x) j.val T := by
      have h0 : base t = 0 := by unfold base; omega
      unfold start0
      rw [if_pos ((pts t).1.2 (by omega)), if_pos ((pts t).1.2 (by omega)), h0]
      exact ⟨fun j x => by rw [pay10_at]; rfl, fun j x => by rw [pay11_at]; rfl⟩
    exact kept_step m c hQ hK hV hO 0 t ht hs
  | succ n ih =>
    intro t ht
    refine kept_step m c hQ hK hV hO _ t ht ?_
    by_cases h : t.val % 32 = 0
    · have h0 : base t = 0 := by unfold base; omega
      unfold start0
      rw [if_pos ((pts t).1.2 h), if_pos ((pts t).1.2 h), h0]
      exact ⟨fun j x => by rw [pay10_at]; rfl, fun j x => by rw [pay11_at]; rfl⟩
    · have hN := N0_eq
      have hlt := t.2
      obtain ⟨ik, iv⟩ := ih ⟨n, by omega⟩ rfl
      have hc : ∀ x, colOf ⟨n, by omega⟩ x = colOf t x := fun x => Fin.ext (by show 128 * (n / 32) + x.val = 128 * (t.val / 32) + x.val; omega)
      have hr : 512 * (n % 32) + 512 = 128 * base t := by unfold base; omega
      unfold start0
      rw [if_neg (fun h' => h ((pts t).1.1 h')), if_neg (fun h' => h ((pts t).1.1 h')), ht]
      exact ⟨fun j x => by rw [ik, hc]; dsimp only; rw [hr], fun j x => by rw [iv, hc]; dsimp only; rw [hr]⟩

/-- After a pair's last point its columns of the two results are the gradients. -/
theorem kept_results : ∀ n : ℕ, n ≤ 64 → ∀ (j : Fin 16384) (C : Fin 256), 32 * (C.val / 128) + 32 ≤ n →
    (keptN m c n).g1 (ix2 j C) = dkf (qA m c) (kA m c) (vA m c) (oA m c) j.val C ∧ (keptN m c n).g2 (ix2 j C) = dvf (qA m c) (kA m c) (oA m c) j.val C := by
  intro n
  induction n with
  | zero => intro _ j C h; omega
  | succ n ih =>
    intro hn j C hC
    obtain ⟨t, ht⟩ : ∃ t : Fin N0, t.val = n := ⟨⟨n, by rw [N0_eq]; omega⟩, rfl⟩
    obtain ⟨sk, sv⟩ := kept_sums m c hQ hK hV hO n t ht
    subst ht
    unfold keptN at sk sv ih ⊢
    rw [keptAt_succ] at sk sv ⊢
    unfold next at sk sv ⊢
    dsimp only at sk sv ⊢
    rw [copied_at, copied_at]
    by_cases h : t.val % 32 = 31 ∧ C.val / 128 = t.val / 32
    · rw [if_pos h, if_pos h, sk, sv]
      have hc : colOf t ⟨C.val % 128, by omega⟩ = C := Fin.ext (by show 128 * (t.val / 32) + C.val % 128 = C.val; omega)
      have hr : 512 * (t.val % 32) + 512 = 16384 := by omega
      rw [hc, hr]
      exact ⟨rfl, rfl⟩
    · rw [if_neg h, if_neg h]
      exact ih (by omega) j C (by omega)

/-! The query gradients. -/

/-- A point's four stores. -/
theorem out_parts (t : Fin N0) (r x : Fin 128) :
    outBlk m c t (ix2 ⟨0 + r.val, by omega⟩ x) = (gradEnd (envAt m c t) (k0_pay10 (F := Ideal)) (k0_pay11 (F := Ideal))).s1.dq (ix2 r x) ∧ outBlk m c t (ix2 ⟨128 + r.val, by omega⟩ x) = (gradEnd (envAt m c t) (k0_pay10 (F := Ideal)) (k0_pay11 (F := Ideal))).s2.dq (ix2 r x)
    ∧ outBlk m c t (ix2 ⟨256 + r.val, by omega⟩ x) = (gradEnd (envAt m c t) (k0_pay10 (F := Ideal)) (k0_pay11 (F := Ideal))).s3.dq (ix2 r x) ∧ outBlk m c t (ix2 ⟨384 + r.val, by omega⟩ x) = (gradEnd (envAt m c t) (k0_pay10 (F := Ideal)) (k0_pay11 (F := Ideal))).s4.dq (ix2 r x) := by
  unfold outBlk pieces dqPieces
  refine ⟨?_, ?_, ?_, ?_⟩
  · rw [View.read_writes_cons_rows_of_not_mem _ _ _ _ _ _ rfl rfl (o := 384) (W := 128) (by left; show 0 + r.val < 384; omega), View.read_writes_cons_rows_of_not_mem _ _ _ _ _ _ rfl rfl (o := 256) (W := 128) (by left; show 0 + r.val < 256; omega),
      View.read_writes_cons_rows_of_not_mem _ _ _ _ _ _ rfl rfl (o := 128) (W := 128) (by left; show 0 + r.val < 128; omega)]
    exact View.read_writes_cons_rows_of_mem _ _ _ _ _ _ (ix2 r x) rfl rfl rfl
  · rw [View.read_writes_cons_rows_of_not_mem _ _ _ _ _ _ rfl rfl (o := 384) (W := 128) (by left; show 128 + r.val < 384; omega), View.read_writes_cons_rows_of_not_mem _ _ _ _ _ _ rfl rfl (o := 256) (W := 128) (by left; show 128 + r.val < 256; omega)]
    exact View.read_writes_cons_rows_of_mem _ _ _ _ _ _ (ix2 r x) rfl rfl rfl
  · rw [View.read_writes_cons_rows_of_not_mem _ _ _ _ _ _ rfl rfl (o := 384) (W := 128) (by left; show 256 + r.val < 384; omega)]
    exact View.read_writes_cons_rows_of_mem _ _ _ _ _ _ (ix2 r x) rfl rfl rfl
  · exact View.read_writes_cons_rows_of_mem _ _ _ _ _ _ (ix2 r x) rfl rfl rfl

/-- A block's query gradients are the array's. -/
theorem dq_block (t : Fin N0) {b : ℕ} {q : FVec Ideal S128x128 .f32} {d : FVec Ideal S128x128 .bf16} (hb : Block m c t b q d) (s : Grad Ideal)
    (hg : GradAt q d (envAt m c t).x3 (envAt m c t).x4 b 0 s) (r x : Fin 128) (T : Fin 16384) (hT : T.val = 128 * b + r.val) :
    s.dq (ix2 r x) = dqf (qA m c) (kA m c) (vA m c) (oA m c) T (colOf t x) := by
  have h : 128 * b + r.val < 16384 := by rw [← hT]; exact T.isLt
  rw [hg.dq, dq_eq hb r h, show T = ⟨128 * b + r.val, h⟩ from Fin.ext hT]

theorem out_at (t : Fin N0) (r : Fin 512) (x : Fin 128) : outBlk m c t (ix2 r x) = dqf (qA m c) (kA m c) (vA m c) (oA m c) (rowOf t r) (colOf t x) := by
  have he := ends (given m c t hQ hK hV hO) (k0_pay10 (F := Ideal)) (k0_pay11 (F := Ideal))
  have hr := r.2
  obtain ⟨o1, o2, o3, o4⟩ := out_parts m c hQ hK hV hO t ⟨r.val % 128, by omega⟩ x
  rcases (by omega : r.val / 128 = 0 ∨ r.val / 128 = 1 ∨ r.val / 128 = 2 ∨ r.val / 128 = 3) with h | h | h | h
  · have e : r = ⟨0 + (⟨r.val % 128, by omega⟩ : Fin 128).val, by dsimp only; omega⟩ := Fin.ext (by dsimp only; omega)
    rw [e, o1]; exact dq_block m c hQ hK hV hO t (block1 m c t) _ he.g1 _ x _ (by show 512 * (t.val % 32) + (0 + r.val % 128) = 128 * (4 * (t.val % 32)) + r.val % 128; omega)
  · have e : r = ⟨128 + (⟨r.val % 128, by omega⟩ : Fin 128).val, by dsimp only; omega⟩ := Fin.ext (by dsimp only; omega)
    rw [e, o2]; exact dq_block m c hQ hK hV hO t (block2 m c t) _ he.g2 _ x _ (by show 512 * (t.val % 32) + (128 + r.val % 128) = 128 * (4 * (t.val % 32) + 1) + r.val % 128; omega)
  · have e : r = ⟨256 + (⟨r.val % 128, by omega⟩ : Fin 128).val, by dsimp only; omega⟩ := Fin.ext (by dsimp only; omega)
    rw [e, o3]; exact dq_block m c hQ hK hV hO t (block3 m c t) _ he.g3 _ x _ (by show 512 * (t.val % 32) + (256 + r.val % 128) = 128 * (4 * (t.val % 32) + 2) + r.val % 128; omega)
  · have e : r = ⟨384 + (⟨r.val % 128, by omega⟩ : Fin 128).val, by dsimp only; omega⟩ := Fin.ext (by dsimp only; omega)
    rw [e, o4]; exact dq_block m c hQ hK hV hO t (block4 m c t) _ he.g4 _ x _ (by show 512 * (t.val % 32) + (384 + r.val % 128) = 128 * (4 * (t.val % 32) + 3) + r.val % 128; omega)
end

/-- The three gradients' arrays. -/
def Gq : Vec Ideal S16384x256 .f32 := fun i => dqf (qA m c) (kA m c) (vA m c) (oA m c) (i 0) (i 1)
def Gk : Vec Ideal S16384x256 .f32 := fun i => dkf (qA m c) (kA m c) (vA m c) (oA m c) (i 0 : Fin 16384).val (i 1)
def Gv : Vec Ideal S16384x256 .f32 := fun i => dvf (qA m c) (kA m c) (oA m c) (i 0 : Fin 16384).val (i 1)

theorem flushed8 (t : Fin N0) : (dats m 0 c).flushed 8 t = (cfg0.win 8).cut (grid0.coords t) (outBlk m c t) := by
  show (cfg0.win 8).cut (grid0.coords t) ((dats m 0 c).after 8 t) = _
  rw [after_8]

section
variable (hQ : ∀ T x, ∃ r : ℝ, qA m c T x = r) (hK : ∀ T x, ∃ r : ℝ, kA m c T x = r) (hV : ∀ T x, ∃ r : ℝ, vA m c T x = r) (hO : ∀ T x, ∃ r : ℝ, oA m c T x = r)
include hQ hK hV hO

theorem final8 : (dats m 0 c).arrAt 8 N0 = Gq m c := by
  refine (dats m 0 c).arrAt_eq_of_cover 8 (Gq m c) (fun t _ => ?_) fun i => ?_
  · rw [flushed8]
    have hi := (idx t).2.2.2.2.2.2.2.2.1
    funext j
    rw [View.read_apply]
    refine Eq.trans (?_ : _ = dqf (qA m c) (kA m c) (vA m c) (oA m c) (rowOf t (j 0)) (colOf t (j 1))) ?_
    · exact (congrArg (outBlk m c t) (eq_ix2 j)).trans (out_at m c hQ hK hV hO t (j 0) (j 1))
    refine congrArg (Gq m c) (a₁ := ix2 (rowOf t (j 0)) (colOf t (j 1))) (funext fun a => Fin.ext ?_)
    match a with
    | ⟨0, _⟩ => show 512 * (t.val % 32) + (j 0).val = win0_8.index t 0 * 512 + 1 * (j 0).val; rw [hi.1]; omega
    | ⟨1, _⟩ => show 128 * (t.val / 32) + (j 1).val = win0_8.index t 1 * 128 + 1 * (j 1).val; rw [hi.2]; omega
  · have h0 : (i 0 : Nat) < 16384 := (i 0).isLt
    have h1 : (i 1 : Nat) < 256 := (i 1).isLt
    have hN := N0_eq
    obtain ⟨t, ht⟩ : ∃ t : Fin N0, t.val = 32 * ((i 1).val / 128) + (i 0).val / 512 := ⟨⟨32 * ((i 1).val / 128) + (i 0).val / 512, by omega⟩, rfl⟩
    have hi := (idx t).2.2.2.2.2.2.2.2.1
    refine ⟨t, flush0_8 t, ?_⟩
    show i ∈ ((View.whole main_v35_0).slice (win0_8.rect t)).set
    rw [View.set_slice_whole, Rect.mem_set_unit]
    intro a
    match a with
    | ⟨0, _⟩ =>
      show win0_8.index t 0 * 512 ≤ (i 0 : Nat) ∧ (i 0 : Nat) < win0_8.index t 0 * 512 + 512
      rw [hi.1]; omega
    | ⟨1, _⟩ =>
      show win0_8.index t 1 * 128 ≤ (i 1 : Nat) ∧ (i 1 : Nat) < win0_8.index t 1 * 128 + 128
      rw [hi.2]; omega

theorem finals : (lastKept m c).g1 = Gk m c ∧ (lastKept m c).g2 = Gv m c := by
  constructor <;> funext i <;> obtain ⟨j, C, rfl⟩ : ∃ (j : Fin 16384) (C : Fin 256), i = ix2 j C := ⟨i 0, i 1, eq_ix2 i⟩
  · exact (kept_results m c hQ hK hV hO 64 le_rfl j C (by omega)).1
  · exact (kept_results m c hQ hK hV hO 64 le_rfl j C (by omega)).2
end

/-- Every run ends with the three gradients in the results' arrays and the arguments as they were. -/
theorem run_value (ρ : Dev nD → PrngReg) (hQ : ∀ c T x, ∃ r : ℝ, qA m c T x = r) (hK : ∀ c T x, ∃ r : ℝ, kA m c T x = r) (hV : ∀ c T x, ∃ r : ℝ, vA m c T x = r) (hO : ∀ c T x, ∃ r : ℝ, oA m c T x = r) :
    θ_run defs (onTc (τ := τ) (main (F := Ideal))) ⟨m, fun _ => 0, ρ⟩ fun r => ∀ c : Dev nD,
      r.2.mem ((c.tc : Thread nD τ).loc main_v35_0) = Gq m c
      ∧ r.2.mem ((c.tc : Thread nD τ).loc main_v35_1) = Gk m c
      ∧ r.2.mem ((c.tc : Thread nD τ).loc main_v35_2) = Gv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h.1.toR c).1 8).trans (final8 m c (hQ c) (hK c) (hV c) (hO c)),
     ((h.1.2 c main_v35_1 (by decide)).trans (G_1 m c)).trans (finals m c (hQ c) (hK c) (hV c) (hO c)).1,
     ((h.1.2 c main_v35_2 (by decide)).trans (G_2 m c)).trans (finals m c (hQ c) (hK c) (hV c) (hO c)).2,
     ((h.1.toR c).2 main_arg0 (Finset.mem_sdiff.mpr ⟨Pipeline.mem_restRefs_of main_arg0 (by decide) (show ∀ w : Fin 9, (spec0 w).arr.view.ref ≠ main_arg0 by decide), by decide⟩)).trans (V_main_arg0 m c),
     ((h.1.toR c).2 main_arg1 (Finset.mem_sdiff.mpr ⟨Pipeline.mem_restRefs_of main_arg1 (by decide) (show ∀ w : Fin 9, (spec0 w).arr.view.ref ≠ main_arg1 by decide), by decide⟩)).trans (V_main_arg1 m c),
     ((h.1.toR c).2 main_arg2 (Finset.mem_sdiff.mpr ⟨Pipeline.mem_restRefs_of main_arg2 (by decide) (show ∀ w : Fin 9, (spec0 w).arr.view.ref ≠ main_arg2 by decide), by decide⟩)).trans (V_main_arg2 m c),
     (((h.1.toR c).1 3).trans ((dats m 0 c).arrAt_in 3 rfl _)).trans ((A_eq m c 3).trans (V_main_arg3 m c))⟩) (run_main m ρ)

end Cert.Proof.Sb

end
-- ==== Proof.SbRef.lean ====
module

public import proofs.«01_k».proof.Proof.Gen.SbReferenceIdeal.Run
public import proofs.«01_k».proof.Proof.SbfRef
public import proofs.«01_k».proof.Proof.SbForm

/-! # What the reference of the stick-breaking attention's gradients leaves

Its arrays, one definition each, over the attention's own, and their entries. -/

@[expose] public section

set_option maxRecDepth 16384

noncomputable section

namespace Cert.Proof.SbRef

open Cert.SbReferenceIdeal Cert.SbReferenceIdeal.Gen Idealize.ShloMosaic Idealize.ShloMosaic.TcCoe Idealize.SL.Sem
open Cert.Proof.Sbf (at4 hd4 β sc lg wt L L_coe U sc_real at_ sum_before)
open Cert.Proof.SbfRef (Flat Heads Pairs heads scaled dots nil soft logSig later masked after mix flat weights heads_at flat_at scaled_at dots_at soft_at masked_at later_at mix_at z_at weights_at rows)
open Cert.Proof.SbForm

def inf : Pairs := broadcastInDim S4x16384x16384 ![] bcast_S_S4x16384x16384 (constant S_ .f32 0x7F800000#32)
/-- A value, none where it is +∞. -/
def calm (x : Pairs) : Pairs := select (cmpf .oeq x inf) nil x
/-- The slope of the logarithm of the logistic function. -/
def slope (x : Pairs) : Pairs := Host.exp (subf (calm (Host.negf x)) (calm (soft (Host.negf x))))
def back (e g : Pairs) : Pairs := Host.negf (mulf (Host.negf g) e)
def full (z : Pairs) : Pairs := Host.exp (addf (logSig z) (after (masked (logSig (Host.negf z)))))
def grad (z : Pairs) (o v : Heads) : Pairs := mulf (masked (dots o v)) (full z)
def farther (g : Pairs) : Pairs := Host.dotGeneral dot_S4x16384x16384_S16384x16384_S4x16384x16384_2_1_01_0_n_n none g later
def scoreGrad (z g : Pairs) : Pairs := addf (back (slope z) g) (Host.negf (back (slope (Host.negf z)) (masked (farther g))))
def turned (w : Pairs) (o : Heads) : Heads := Host.dotGeneral dot_S4x16384x16384_S4x16384x64_S4x16384x64_1_1_2_2_0_0 none w o
def given (o : Heads) (w : Pairs) : Heads := transpose S4x16384x64 [0, 2, 1] (Host.dotGeneral dot_S4x16384x64_S4x16384x16384_S4x64x16384_1_1_2_2_0_0 none o w) transposes_S4x64x16384_S4x16384x64_0_2_1

def score (q k : Flat) : Pairs := dots (scaled (heads q)) (heads k)
def dzR (q k v o : Flat) : Pairs := scoreGrad (score q k) (grad (score q k) (heads o) (heads v))
def dqR (q k v o : Flat) : Flat := flat (scaled (mix (dzR q k v o) (heads k)))
def dkR (q k v o : Flat) : Flat := flat (turned (dzR q k v o) (scaled (heads q)))
def dvR (q k o : Flat) : Flat := flat (given (heads o) (weights (score q k)))

/-- The reference's results are these definitions. -/
theorem dq_eq (m : (ℓ : Loc nD τ sig) → Buf (Elt Ideal) ℓ) (c : Dev nD) :
    Cert.SbReferenceIdeal.Value.res_main_v47 m c = dqR (m ((c.tc : Thread nD τ).loc main_arg0)) (m ((c.tc : Thread nD τ).loc main_arg1)) (m ((c.tc : Thread nD τ).loc main_arg2)) (m ((c.tc : Thread nD τ).loc main_arg3)) := rfl
theorem dk_eq (m : (ℓ : Loc nD τ sig) → Buf (Elt Ideal) ℓ) (c : Dev nD) :
    Cert.SbReferenceIdeal.Value.res_main_v43 m c = dkR (m ((c.tc : Thread nD τ).loc main_arg0)) (m ((c.tc : Thread nD τ).loc main_arg1)) (m ((c.tc : Thread nD τ).loc main_arg2)) (m ((c.tc : Thread nD τ).loc main_arg3)) := rfl
theorem dv_eq (m : (ℓ : Loc nD τ sig) → Buf (Elt Ideal) ℓ) (c : Dev nD) :
    Cert.SbReferenceIdeal.Value.res_main_v41 m c = dvR (m ((c.tc : Thread nD τ).loc main_arg0)) (m ((c.tc : Thread nD τ).loc main_arg1)) (m ((c.tc : Thread nD τ).loc main_arg3)) := rfl

/-! ## Their entries -/

theorem calm_at (x : Pairs) (h : Fin 4) (T j : Fin 16384) (r : ℝ) (hx : x (ix3 h T j) = (r : EReal)) : calm x (ix3 h T j) = (r : EReal) := by
  have ht : (Ideal.ofBits .f32 0x7F800000#32 : EReal) = ⊤ := by simp [Ideal.ofBits, Ideal.ieee]
  have hc : cmpf .oeq x inf (ix3 h T j) = 0#1 := by
    show FloatOps.cmpf (F := Ideal) .oeq (x (ix3 h T j)) (Ideal.ofBits .f32 0x7F800000#32) = 0#1
    rw [hx, ht]
    show (if (r : EReal) = ⊤ then (1#1 : BitVec 1) else 0#1) = 0#1
    rw [if_neg (EReal.coe_ne_top r)]
  show Scalar.select (cmpf .oeq x inf (ix3 h T j)) (nil (ix3 h T j)) (x (ix3 h T j)) = _
  rw [hc, Scalar.select_def, if_neg (by decide), hx]

theorem slope_at (x : Pairs) (h : Fin 4) (T j : Fin 16384) (r : ℝ) (hx : x (ix3 h T j) = (r : EReal)) :
    slope x (ix3 h T j) = ((Real.exp (-r - (max (-r) 0 + Real.log (1 + Real.exp (-|(-r)|)))) : ℝ) : EReal) := by
  have hn : Host.negf x (ix3 h T j) = ((-r : ℝ) : EReal) := by
    show -(x (ix3 h T j)) = _
    rw [hx, EReal.coe_neg]
  unfold slope
  show Ideal.exp (calm (Host.negf x) (ix3 h T j) - calm (soft (Host.negf x)) (ix3 h T j)) = _
  rw [calm_at _ h T j _ hn, calm_at _ h T j _ (soft_at _ h T j _ hn), ← EReal.coe_sub, Ideal.exp_coe]

theorem back_at (e g : Pairs) (h : Fin 4) (T j : Fin 16384) : back e g (ix3 h T j) = g (ix3 h T j) * e (ix3 h T j) := by
  show -(-(g (ix3 h T j)) * e (ix3 h T j)) = _
  rw [EReal.neg_mul, neg_neg]

theorem farther_at (g : Pairs) (h : Fin 4) (T j : Fin 16384) : farther g (ix3 h T j) = ∑ s : Fin 16384, g (ix3 h T s) * later (ix2 j s) := by
  unfold farther
  generalize later = b
  pointwise
theorem turned_at (w : Pairs) (o : Heads) (h : Fin 4) (j : Fin 16384) (d : Fin 64) : turned w o (ix3 h j d) = ∑ T : Fin 16384, w (ix3 h T j) * o (ix3 h T d) := by
  unfold turned; pointwise
theorem given_at (o : Heads) (w : Pairs) (h : Fin 4) (j : Fin 16384) (d : Fin 64) : given o w (ix3 h j d) = ∑ T : Fin 16384, o (ix3 h T d) * w (ix3 h T j) := by
  unfold given; pointwise

section
variable (q k v o : Flat)
variable (hq : ∀ T x, ∃ r : ℝ, rows q T x = r) (hk : ∀ T x, ∃ r : ℝ, rows k T x = r)
include hq hk

theorem grad_at (h : Fin 4) (T j : Fin 16384) : grad (score q k) (heads o) (heads v) (ix3 h T j)
    = if j.val < T.val then gf (rows q) (rows k) (rows v) (rows o) T h j.val else 0 := by
  have hw := weights_at q k hq hk h T j
  unfold weights at hw
  rw [masked_at] at hw
  show masked (dots (heads o) (heads v)) (ix3 h T j) * full (score q k) (ix3 h T j) = _
  rw [masked_at]
  by_cases g : j.val < T.val
  · rw [if_pos g, if_pos g] at hw
    rw [if_pos g, if_pos g, gf, show full (score q k) (ix3 h T j) = _ from hw, dots_at]
    refine congrArg (· * _) (Finset.sum_congr rfl fun d _ => ?_)
    rw [heads_at, heads_at, at_, dif_pos j.2]
  · rw [if_neg g, if_neg g, zero_mul]

theorem dzR_at (h : Fin 4) (T j : Fin 16384) : dzR q k v o (ix3 h T j)
    = if j.val < T.val then dzf (rows q) (rows k) (rows v) (rows o) T h j.val else 0 := by
  have hz : score q k (ix3 h T j) = _ := z_at q k h T j
  obtain ⟨r, hr⟩ := sc_real (rows q) (rows k) hq hk T h j.val
  have hg := grad_at q k v o hq hk h T
  unfold dzR
  generalize grad (score q k) (heads o) (heads v) = G at hg ⊢
  generalize score q k = z at hz ⊢
  rw [hr] at hz
  have hn : Host.negf z (ix3 h T j) = ((-r : ℝ) : EReal) := by
    show -(z (ix3 h T j)) = _
    rw [hz, EReal.coe_neg]
  have hgate : gate (rows q) (rows k) T h j.val = ((Real.exp (r + -(max r 0 + Real.log (1 + Real.exp (-|r|)))) : ℝ) : EReal) := by
    rw [gate, lg, hr, L_coe, ← EReal.coe_add, Ideal.exp_coe]
  show back (slope z) G (ix3 h T j) + -(back (slope (Host.negf z)) (masked (farther G)) (ix3 h T j)) = _
  rw [back_at, back_at, slope_at z h T j r hz, slope_at _ h T j (-r) hn, leave_eq, masked_at, farther_at, hg j]
  by_cases g : j.val < T.val
  · have hf : (∑ s : Fin 16384, G (ix3 h T s) * later (ix2 j s)) = U (gf (rows q) (rows k) (rows v) (rows o) T h) j.val 0 := by
      rw [← sum_before (gf (rows q) (rows k) (rows v) (rows o) T h) 16384 j.val (by omega)]
      refine Finset.sum_congr rfl fun s _ => ?_
      rw [hg, later_at]
      by_cases g2 : s.val < j.val
      · rw [if_pos g2, if_pos g2, if_pos (by omega), mul_one]
      · rw [if_neg g2, if_neg g2, mul_zero]
    rw [if_pos g, if_pos g, if_pos g, hf, dzf, hgate, sub_eq_add_neg (_ * _), neg_neg, ← sub_eq_add_neg r, EReal.coe_sub, EReal.coe_one]
  · rw [if_neg g, if_neg g, if_neg g, zero_mul, zero_mul, neg_zero, zero_add]

/-- The queries' gradients, -/
theorem dqR_at (T : Fin 16384) (c : Fin 256) : dqR q k v o (ix2 T c) = dqf (rows q) (rows k) (rows v) (rows o) T c := by
  unfold dqR
  rw [flat_at, scaled_at, mix_at, dqf, mul_comm, ← sum_before (fun j => dzf (rows q) (rows k) (rows v) (rows o) T (hd4 c) j * at_ (rows k) j c) 16384 T.val (by omega)]
  refine congrArg (β * ·) (Finset.sum_congr rfl fun j _ => ?_)
  have e : at4 (hd4 c) ⟨c.val % 64, by omega⟩ = c := Fin.ext (by show 64 * (c.val / 64) + c.val % 64 = c.val; omega)
  rw [dzR_at q k v o hq hk, heads_at, at_, dif_pos j.2, e]
  by_cases g : j.val < T.val
  · rw [if_pos g, if_pos g]
  · rw [if_neg g, if_neg g, zero_mul]

/-- the keys', -/
theorem dkR_at (j : Fin 16384) (c : Fin 256) : dkR q k v o (ix2 j c) = dkf (rows q) (rows k) (rows v) (rows o) j.val c := by
  unfold dkR
  rw [flat_at, turned_at, dkf, Finset.sum_range]
  refine Finset.sum_congr rfl fun T _ => ?_
  have e : at4 (hd4 c) ⟨c.val % 64, by omega⟩ = c := Fin.ext (by show 64 * (c.val / 64) + c.val % 64 = c.val; omega)
  rw [dzR_at q k v o hq hk, scaled_at, heads_at, e, dkt, dif_pos T.2]
  by_cases g : j.val < T.val
  · rw [if_pos g, if_pos g]
  · rw [if_neg g, if_neg g, zero_mul]

/-- and the values'. -/
theorem dvR_at (j : Fin 16384) (c : Fin 256) : dvR q k o (ix2 j c) = dvf (rows q) (rows k) (rows o) j.val c := by
  unfold dvR
  rw [flat_at, given_at, dvf, Finset.sum_range]
  refine Finset.sum_congr rfl fun T _ => ?_
  have e : at4 (hd4 c) ⟨c.val % 64, by omega⟩ = c := Fin.ext (by show 64 * (c.val / 64) + c.val % 64 = c.val; omega)
  rw [show weights (score q k) _ = _ from weights_at q k hq hk (hd4 c) T j, heads_at, e, dvt, dif_pos T.2, mul_comm]
  by_cases g : j.val < T.val
  · rw [if_pos g, if_pos g]
  · rw [if_neg g, if_neg g, zero_mul]

end

/-- The reference's run. -/
theorem run_at (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v47) = dqR (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v43) = dkR (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v41) = dvR (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (dq_eq m c), (h c).2.1.trans (dk_eq m c), (h c).2.2.1.trans (dv_eq m c), (h c).2.2.2⟩) (Cert.SbReferenceIdeal.Value.run m ρ)

end Cert.Proof.SbRef

end
-- ==== Proof.SbClaim.lean ====
module

public import proofs.«01_k».proof.Proof.SbValue
public import proofs.«01_k».proof.Proof.SbRef
public import proofs.«01_k».proof.Proof.FfnClaim

/-! # The stick-breaking attention's gradients: the kernel and its reference agree -/

@[expose] public section

set_option maxRecDepth 16384

noncomputable section

namespace Cert.Proof

open Idealize.ShloMosaic Idealize.ShloMosaic.TcCoe Idealize.SL.Sem
open Cert.FfnKernelIdeal.Value (IsReal)

/-- The precondition's shape relations. -/
theorem pre_sb_facts : Cert.Pre_finite_sb.Facts where
  bcast_S_S16384x256 := by decide
  reducesTo_S16384x256_S_d0_1 := by decide
  h_S_ := by decide

instance pre_sb_inst : Cert.Pre_finite_sb.Facts := pre_sb_facts

/-- What the precondition says of the queries, the keys, the values and the cotangent. -/
theorem pre_sb (q k v o : FVec Ideal ⟨2, ![16384, 256]⟩ .f32) (h : Cert.Pre_finite_sb.fn q k v o = fun _ => 1#1) :
    (∀ i, IsReal (q i)) ∧ (∀ i, IsReal (k i)) ∧ (∀ i, IsReal (v i)) ∧ ∀ i, IsReal (o i) := by
  have h := congrFun h ix0
  dsimp only [Cert.Pre_finite_sb.fn, Cert.Pre_finite_sb.fn_part1] at h
  obtain ⟨h, h3⟩ := IntOp.andi_eq_one.1 h
  obtain ⟨h, h2⟩ := IntOp.andi_eq_one.1 h
  obtain ⟨h0, h1⟩ := IntOp.andi_eq_one.1 h
  exact ⟨fun i => real_of_cmp _ _ i rfl (Host.reduce_andi_all _ _ _ _ _ h0 i), fun i => real_of_cmp _ _ i rfl (Host.reduce_andi_all _ _ _ _ _ h1 i),
    fun i => real_of_cmp _ _ i rfl (Host.reduce_andi_all _ _ _ _ _ h2 i), fun i => real_of_cmp _ _ i rfl (Host.reduce_andi_all _ _ _ _ _ h3 i)⟩

/-- Both programs end with the three gradients, their arguments kept. -/
theorem sb_algebraic : Cert.algebraic_SbKernelIdeal_SbReferenceIdeal_pre_finite_sb := fun m g m' g' hp he =>
  ⟨fun c => Sb.Gq m c, fun c => Sb.Gk m c, fun c => Sb.Gv m c,
    Sb.run_value m g (fun c T x => (pre_sb _ _ _ _ (hp c)).1 (ix2 T x)) (fun c T x => (pre_sb _ _ _ _ (hp c)).2.1 (ix2 T x))
      (fun c T x => (pre_sb _ _ _ _ (hp c)).2.2.1 (ix2 T x)) (fun c T x => (pre_sb _ _ _ _ (hp c)).2.2.2 (ix2 T x)),
    (θ_run Cert.SbReferenceIdeal.defs _ _).mono (fun _ h c => by
      obtain ⟨e0, e1, e2, e3⟩ := he c
      obtain ⟨p0, p1, -, -⟩ := pre_sb _ _ _ _ (hp c)
      refine ⟨(h c).1.trans ?_, (h c).2.1.trans ?_, (h c).2.2.1.trans ?_, (h c).2.2.2⟩
      · rw [e0, e1, e2, e3]
        funext i
        obtain ⟨T, x, rfl⟩ : ∃ (T : Fin 16384) (x : Fin 256), i = ix2 T x := ⟨i 0, i 1, eq_ix2 i⟩
        exact SbRef.dqR_at _ _ _ _ (fun T x => p0 (ix2 T x)) (fun T x => p1 (ix2 T x)) T x
      · rw [e0, e1, e2, e3]
        funext i
        obtain ⟨T, x, rfl⟩ : ∃ (T : Fin 16384) (x : Fin 256), i = ix2 T x := ⟨i 0, i 1, eq_ix2 i⟩
        exact SbRef.dkR_at _ _ _ _ (fun T x => p0 (ix2 T x)) (fun T x => p1 (ix2 T x)) T x
      · rw [e0, e1, e3]
        funext i
        obtain ⟨T, x, rfl⟩ : ∃ (T : Fin 16384) (x : Fin 256), i = ix2 T x := ⟨i 0, i 1, eq_ix2 i⟩
        exact SbRef.dvR_at _ _ _ (fun T x => p0 (ix2 T x)) (fun T x => p1 (ix2 T x)) T x) (SbRef.run_at m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnKernelIdeal.Value
public import proofs.«01_k».proof.Proof.Gen.FfnReferenceIdeal
public import proofs.«01_k».proof.Proof.Gen.FfnReferenceIdeal.Run
public import proofs.«01_k».proof.Proof.Gen.SbfKernel
public import proofs.«01_k».proof.Proof.Gen.SbfKernel.Skeleton
public import proofs.«01_k».proof.Proof.Gen.SbfKernel.Launch
public import proofs.«01_k».proof.Proof.Gen.SbfKernel.Points
public import proofs.«01_k».proof.Proof.Gen.SbfKernelIdeal
public import proofs.«01_k».proof.Proof.Gen.SbfKernelIdeal.Skeleton
public import proofs.«01_k».proof.Proof.Gen.SbfKernelIdeal.Launch
public import proofs.«01_k».proof.Proof.Gen.SbfKernelIdeal.Points
public import proofs.«01_k».proof.Proof.Gen.SbfReferenceIdeal
public import proofs.«01_k».proof.Proof.Gen.SbfReferenceIdeal.Run
public import proofs.«01_k».proof.Proof.Gen.SbKernel
public import proofs.«01_k».proof.Proof.Gen.SbKernel.Skeleton
public import proofs.«01_k».proof.Proof.Gen.SbKernel.Launch
public import proofs.«01_k».proof.Proof.Gen.SbKernel.Points
public import proofs.«01_k».proof.Proof.Gen.SbKernelIdeal
public import proofs.«01_k».proof.Proof.Gen.SbKernelIdeal.Skeleton
public import proofs.«01_k».proof.Proof.Gen.SbKernelIdeal.Launch
public import proofs.«01_k».proof.Proof.Gen.SbKernelIdeal.Points
public import proofs.«01_k».proof.Proof.Gen.SbReferenceIdeal
public import proofs.«01_k».proof.Proof.Gen.SbReferenceIdeal.Run
public import proofs.«01_k».proof.Proof.OutClaim
public import proofs.«01_k».proof.Proof.FfnClaim
public import proofs.«01_k».proof.Proof.SbfRun
public import proofs.«01_k».proof.Proof.SbfBitsRun
public import proofs.«01_k».proof.Proof.SbfClaim
public import proofs.«01_k».proof.Proof.SbRun
public import proofs.«01_k».proof.Proof.SbBitsRun
public import proofs.«01_k».proof.Proof.SbClaim
public import Idealize.ShloMosaic.Adequacy
public import Idealize.ShloMosaic.Init

@[expose] public section

noncomputable section

/-! # The claim -/

namespace Cert.Proof

open Idealize.ShloMosaic Idealize.SL.Sem Cert.Kernel

/-- The frame of the gate's reference, from its run. -/
theorem ffn_ref_frame : Cert.quiescent_FfnReferenceIdeal := fun m ρ _ =>
  (θ_run Cert.FfnReferenceIdeal.defs _ _).mono (fun r h => ⟨fun c => (h c).2.2.2.2, sem_eq_zero_of_no_sems (by decide) r.2⟩) (Cert.FfnReferenceIdeal.Value.run m ρ)

/-- The stick-breaking attention's reference runs and leaves its arguments. -/
theorem sbf_ref_frame : Cert.quiescent_SbfReferenceIdeal := fun m ρ _ =>
  (θ_run Cert.SbfReferenceIdeal.defs _ _).mono (fun r h => ⟨fun c => (h c).2, sem_eq_zero_of_no_sems (by decide) r.2⟩) (Cert.SbfReferenceIdeal.Value.run m ρ)

/-- The two constants that the stick-breaking attention's idealization names. -/
theorem sbf_preserves : Cert.preserves_SbfKernel_SbfKernelIdeal :=
  ⟨IdealRules.named_const.statement Cert.SbfKernelIdeal.κ "open" .f32 0xC2D00000#32 ⊥ rfl,
   IdealRules.named_const.statement Cert.SbfKernelIdeal.κ "mask" .f32 0xF149F2CA#32 ⊥ rfl⟩

/-- The reference of its gradient runs and leaves its arguments. -/
theorem sb_ref_frame : Cert.quiescent_SbReferenceIdeal := fun m ρ _ =>
  (θ_run Cert.SbReferenceIdeal.defs _ _).mono (fun r h => ⟨fun c => (h c).2.2.2, sem_eq_zero_of_no_sems (by decide) r.2⟩) (Cert.SbReferenceIdeal.Value.run m ρ)

/-- The two constants that the gradient's idealization names. -/
theorem sb_preserves : Cert.preserves_SbKernel_SbKernelIdeal :=
  ⟨IdealRules.named_const.statement Cert.SbKernelIdeal.κ "mask" .f32 0xF149F2CA#32 ⊥ rfl,
   IdealRules.named_const.statement Cert.SbKernelIdeal.κ "open" .f32 0xC2D00000#32 ⊥ rfl⟩

/-- Every frame, idealization and value claimed. -/
theorem claim : Cert.Claim := ⟨Cert.Kernel.Gen.facts, Cert.KernelIdeal.Gen.facts, Cert.ReferenceIdeal.Gen.facts, Cert.FfnKernel.Gen.facts, Cert.FfnKernelIdeal.Gen.facts, Cert.FfnReferenceIdeal.Gen.facts, Cert.SbfKernel.Gen.facts, Cert.SbfKernelIdeal.Gen.facts, Cert.SbfReferenceIdeal.Gen.facts, Cert.SbKernel.Gen.facts, Cert.SbKernelIdeal.Gen.facts, Cert.SbReferenceIdeal.Gen.facts, pre_ffn_facts, pre_sbf_facts, pre_sb_facts,
  fun m ρ _ => Cert.Kernel.Gen.frame m ρ, fun m ρ _ => Cert.KernelIdeal.Gen.frame m ρ, fun m ρ _ => (θ_run Cert.ReferenceIdeal.defs _ _).mono (fun r h => ⟨fun c => (h c).2.2, sem_eq_zero_of_no_sems (by decide) r.2⟩) (Cert.ReferenceIdeal.Value.run m ρ),
  fun m ρ _ => Cert.FfnKernel.Gen.frame m ρ, fun m ρ _ => Cert.FfnKernelIdeal.Gen.frame m ρ, fun m ρ _ => Cert.FfnKernelIdeal.Gen.frame m ρ, ffn_ref_frame, fun m ρ _ => ffn_ref_frame m ρ trivial,
  fun m ρ _ => SbfBits.frame m ρ, fun m ρ _ => Sbf.frame m ρ, fun m ρ _ => Sbf.frame m ρ, sbf_ref_frame, fun m ρ _ => sbf_ref_frame m ρ trivial,
  fun m ρ _ => SbBits.frame m ρ, fun m ρ _ => Sb.frame m ρ, fun m ρ _ => Sb.frame m ρ, sb_ref_frame, fun m ρ _ => sb_ref_frame m ρ trivial,
  trivial, out_algebraic, trivial, ffn_algebraic, sbf_preserves, sbf_algebraic, sb_preserves, sb_algebraic⟩

end Cert.Proof

end
